-- ==== Defs.lean ====
def Pre_NormK (m : (ℓ : Loc Cert.NormK.nD Cert.NormK.τ Cert.NormK.sig) → Buf (Elt Bits) ℓ) : Prop :=
  True

def Pre_NormKIdeal (m : (ℓ : Loc Cert.NormKIdeal.nD Cert.NormKIdeal.τ Cert.NormKIdeal.sig) → Buf (Elt Ideal) ℓ) : Prop :=
  True

def Pre_NormKIdeal_finite_norm [hPre_finite_norm : Cert.Pre_finite_norm.Facts] (m : (ℓ : Loc Cert.NormKIdeal.nD Cert.NormKIdeal.τ Cert.NormKIdeal.sig) → Buf (Elt Ideal) ℓ) : Prop :=
  ∀ c : Dev Cert.NormKIdeal.nD,
    (Cert.Pre_finite_norm.fn (F := Ideal) (m ((c.tc : Thread Cert.NormKIdeal.nD Cert.NormKIdeal.τ).loc Cert.NormKIdeal.main_arg0)) (m ((c.tc : Thread Cert.NormKIdeal.nD Cert.NormKIdeal.τ).loc Cert.NormKIdeal.main_arg1)) (m ((c.tc : Thread Cert.NormKIdeal.nD Cert.NormKIdeal.τ).loc Cert.NormKIdeal.main_arg2))).1 = (fun _ => 1#1)
    ∧ (Cert.Pre_finite_norm.fn (F := Ideal) (m ((c.tc : Thread Cert.NormKIdeal.nD Cert.NormKIdeal.τ).loc Cert.NormKIdeal.main_arg0)) (m ((c.tc : Thread Cert.NormKIdeal.nD Cert.NormKIdeal.τ).loc Cert.NormKIdeal.main_arg1)) (m ((c.tc : Thread Cert.NormKIdeal.nD Cert.NormKIdeal.τ).loc Cert.NormKIdeal.main_arg2))).2.1 = (fun _ => 1#1)
    ∧ (Cert.Pre_finite_norm.fn (F := Ideal) (m ((c.tc : Thread Cert.NormKIdeal.nD Cert.NormKIdeal.τ).loc Cert.NormKIdeal.main_arg0)) (m ((c.tc : Thread Cert.NormKIdeal.nD Cert.NormKIdeal.τ).loc Cert.NormKIdeal.main_arg1)) (m ((c.tc : Thread Cert.NormKIdeal.nD Cert.NormKIdeal.τ).loc Cert.NormKIdeal.main_arg2))).2.2 = (fun _ => 1#1)

def Pre_NormRIdeal (m : (ℓ : Loc Cert.NormRIdeal.nD Cert.NormRIdeal.τ Cert.NormRIdeal.sig) → Buf (Elt Ideal) ℓ) : Prop :=
  True

def Pre_NormRIdeal_finite_norm [hPre_finite_norm : Cert.Pre_finite_norm.Facts] (m : (ℓ : Loc Cert.NormRIdeal.nD Cert.NormRIdeal.τ Cert.NormRIdeal.sig) → Buf (Elt Ideal) ℓ) : Prop :=
  ∀ c : Dev Cert.NormRIdeal.nD,
    (Cert.Pre_finite_norm.fn (F := Ideal) (m ((c.tc : Thread Cert.NormRIdeal.nD Cert.NormRIdeal.τ).loc Cert.NormRIdeal.main_arg0)) (m ((c.tc : Thread Cert.NormRIdeal.nD Cert.NormRIdeal.τ).loc Cert.NormRIdeal.main_arg1)) (m ((c.tc : Thread Cert.NormRIdeal.nD Cert.NormRIdeal.τ).loc Cert.NormRIdeal.main_arg2))).1 = (fun _ => 1#1)
    ∧ (Cert.Pre_finite_norm.fn (F := Ideal) (m ((c.tc : Thread Cert.NormRIdeal.nD Cert.NormRIdeal.τ).loc Cert.NormRIdeal.main_arg0)) (m ((c.tc : Thread Cert.NormRIdeal.nD Cert.NormRIdeal.τ).loc Cert.NormRIdeal.main_arg1)) (m ((c.tc : Thread Cert.NormRIdeal.nD Cert.NormRIdeal.τ).loc Cert.NormRIdeal.main_arg2))).2.1 = (fun _ => 1#1)
    ∧ (Cert.Pre_finite_norm.fn (F := Ideal) (m ((c.tc : Thread Cert.NormRIdeal.nD Cert.NormRIdeal.τ).loc Cert.NormRIdeal.main_arg0)) (m ((c.tc : Thread Cert.NormRIdeal.nD Cert.NormRIdeal.τ).loc Cert.NormRIdeal.main_arg1)) (m ((c.tc : Thread Cert.NormRIdeal.nD Cert.NormRIdeal.τ).loc Cert.NormRIdeal.main_arg2))).2.2 = (fun _ => 1#1)

def Pre_AttnK (m : (ℓ : Loc Cert.AttnK.nD Cert.AttnK.τ Cert.AttnK.sig) → Buf (Elt Bits) ℓ) : Prop :=
  True

def Pre_AttnKIdeal (m : (ℓ : Loc Cert.AttnKIdeal.nD Cert.AttnKIdeal.τ Cert.AttnKIdeal.sig) → Buf (Elt Ideal) ℓ) : Prop :=
  True

def Pre_AttnKIdeal_finite_attn [hPre_finite_attn : Cert.Pre_finite_attn.Facts] (m : (ℓ : Loc Cert.AttnKIdeal.nD Cert.AttnKIdeal.τ Cert.AttnKIdeal.sig) → Buf (Elt Ideal) ℓ) : Prop :=
  ∀ c : Dev Cert.AttnKIdeal.nD,
    (Cert.Pre_finite_attn.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2))).1 = (fun _ => 1#1)
    ∧ (Cert.Pre_finite_attn.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2))).2.1 = (fun _ => 1#1)
    ∧ (Cert.Pre_finite_attn.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2))).2.2 = (fun _ => 1#1)

def Pre_AttnRIdeal (m : (ℓ : Loc Cert.AttnRIdeal.nD Cert.AttnRIdeal.τ Cert.AttnRIdeal.sig) → Buf (Elt Ideal) ℓ) : Prop :=
  True

def Pre_AttnRIdeal_finite_attn [hPre_finite_attn : Cert.Pre_finite_attn.Facts] (m : (ℓ : Loc Cert.AttnRIdeal.nD Cert.AttnRIdeal.τ Cert.AttnRIdeal.sig) → Buf (Elt Ideal) ℓ) : Prop :=
  ∀ c : Dev Cert.AttnRIdeal.nD,
    (Cert.Pre_finite_attn.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2))).1 = (fun _ => 1#1)
    ∧ (Cert.Pre_finite_attn.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2))).2.1 = (fun _ => 1#1)
    ∧ (Cert.Pre_finite_attn.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2))).2.2 = (fun _ => 1#1)

def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvKIdeal_finite_conv [hPre_finite_conv : Cert.Pre_finite_conv.Facts] (m : (ℓ : Loc Cert.ConvKIdeal.nD Cert.ConvKIdeal.τ Cert.ConvKIdeal.sig) → Buf (Elt Ideal) ℓ) : Prop :=
  ∀ c : Dev Cert.ConvKIdeal.nD,
    (Cert.Pre_finite_conv.fn (F := Ideal) (m ((c.tc : Thread Cert.ConvKIdeal.nD Cert.ConvKIdeal.τ).loc Cert.ConvKIdeal.main_arg0)) (m ((c.tc : Thread Cert.ConvKIdeal.nD Cert.ConvKIdeal.τ).loc Cert.ConvKIdeal.main_arg1)) (m ((c.tc : Thread Cert.ConvKIdeal.nD Cert.ConvKIdeal.τ).loc Cert.ConvKIdeal.main_arg2)) (m ((c.tc : Thread Cert.ConvKIdeal.nD Cert.ConvKIdeal.τ).loc Cert.ConvKIdeal.main_arg3)) (m ((c.tc : Thread Cert.ConvKIdeal.nD Cert.ConvKIdeal.τ).loc Cert.ConvKIdeal.main_arg4)) (m ((c.tc : Thread Cert.ConvKIdeal.nD Cert.ConvKIdeal.τ).loc Cert.ConvKIdeal.main_arg5))).1 = (fun _ => 1#1)
    ∧ (Cert.Pre_finite_conv.fn (F := Ideal) (m ((c.tc : Thread Cert.ConvKIdeal.nD Cert.ConvKIdeal.τ).loc Cert.ConvKIdeal.main_arg0)) (m ((c.tc : Thread Cert.ConvKIdeal.nD Cert.ConvKIdeal.τ).loc Cert.ConvKIdeal.main_arg1)) (m ((c.tc : Thread Cert.ConvKIdeal.nD Cert.ConvKIdeal.τ).loc Cert.ConvKIdeal.main_arg2)) (m ((c.tc : Thread Cert.ConvKIdeal.nD Cert.ConvKIdeal.τ).loc Cert.ConvKIdeal.main_arg3)) (m ((c.tc : Thread Cert.ConvKIdeal.nD Cert.ConvKIdeal.τ).loc Cert.ConvKIdeal.main_arg4)) (m ((c.tc : Thread Cert.ConvKIdeal.nD Cert.ConvKIdeal.τ).loc Cert.ConvKIdeal.main_arg5))).2.1 = (fun _ => 1#1)
    ∧ (Cert.Pre_finite_conv.fn (F := Ideal) (m ((c.tc : Thread Cert.ConvKIdeal.nD Cert.ConvKIdeal.τ).loc Cert.ConvKIdeal.main_arg0)) (m ((c.tc : Thread Cert.ConvKIdeal.nD Cert.ConvKIdeal.τ).loc Cert.ConvKIdeal.main_arg1)) (m ((c.tc : Thread Cert.ConvKIdeal.nD Cert.ConvKIdeal.τ).loc Cert.ConvKIdeal.main_arg2)) (m ((c.tc : Thread Cert.ConvKIdeal.nD Cert.ConvKIdeal.τ).loc Cert.ConvKIdeal.main_arg3)) (m ((c.tc : Thread Cert.ConvKIdeal.nD Cert.ConvKIdeal.τ).loc Cert.ConvKIdeal.main_arg4)) (m ((c.tc : Thread Cert.ConvKIdeal.nD Cert.ConvKIdeal.τ).loc Cert.ConvKIdeal.main_arg5))).2.2.1 = (fun _ => 1#1)
    ∧ (Cert.Pre_finite_conv.fn (F := Ideal) (m ((c.tc : Thread Cert.ConvKIdeal.nD Cert.ConvKIdeal.τ).loc Cert.ConvKIdeal.main_arg0)) (m ((c.tc : Thread Cert.ConvKIdeal.nD Cert.ConvKIdeal.τ).loc Cert.ConvKIdeal.main_arg1)) (m ((c.tc : Thread Cert.ConvKIdeal.nD Cert.ConvKIdeal.τ).loc Cert.ConvKIdeal.main_arg2)) (m ((c.tc : Thread Cert.ConvKIdeal.nD Cert.ConvKIdeal.τ).loc Cert.ConvKIdeal.main_arg3)) (m ((c.tc : Thread Cert.ConvKIdeal.nD Cert.ConvKIdeal.τ).loc Cert.ConvKIdeal.main_arg4)) (m ((c.tc : Thread Cert.ConvKIdeal.nD Cert.ConvKIdeal.τ).loc Cert.ConvKIdeal.main_arg5))).2.2.2.1 = (fun _ => 1#1)
    ∧ (Cert.Pre_finite_conv.fn (F := Ideal) (m ((c.tc : Thread Cert.ConvKIdeal.nD Cert.ConvKIdeal.τ).loc Cert.ConvKIdeal.main_arg0)) (m ((c.tc : Thread Cert.ConvKIdeal.nD Cert.ConvKIdeal.τ).loc Cert.ConvKIdeal.main_arg1)) (m ((c.tc : Thread Cert.ConvKIdeal.nD Cert.ConvKIdeal.τ).loc Cert.ConvKIdeal.main_arg2)) (m ((c.tc : Thread Cert.ConvKIdeal.nD Cert.ConvKIdeal.τ).loc Cert.ConvKIdeal.main_arg3)) (m ((c.tc : Thread Cert.ConvKIdeal.nD Cert.ConvKIdeal.τ).loc Cert.ConvKIdeal.main_arg4)) (m ((c.tc : Thread Cert.ConvKIdeal.nD Cert.ConvKIdeal.τ).loc Cert.ConvKIdeal.main_arg5))).2.2.2.2.1 = (fun _ => 1#1)
    ∧ (Cert.Pre_finite_conv.fn (F := Ideal) (m ((c.tc : Thread Cert.ConvKIdeal.nD Cert.ConvKIdeal.τ).loc Cert.ConvKIdeal.main_arg0)) (m ((c.tc : Thread Cert.ConvKIdeal.nD Cert.ConvKIdeal.τ).loc Cert.ConvKIdeal.main_arg1)) (m ((c.tc : Thread Cert.ConvKIdeal.nD Cert.ConvKIdeal.τ).loc Cert.ConvKIdeal.main_arg2)) (m ((c.tc : Thread Cert.ConvKIdeal.nD Cert.ConvKIdeal.τ).loc Cert.ConvKIdeal.main_arg3)) (m ((c.tc : Thread Cert.ConvKIdeal.nD Cert.ConvKIdeal.τ).loc Cert.ConvKIdeal.main_arg4)) (m ((c.tc : Thread Cert.ConvKIdeal.nD Cert.ConvKIdeal.τ).loc Cert.ConvKIdeal.main_arg5))).2.2.2.2.2 = (fun _ => 1#1)

def Pre_ConvRIdeal (m : (ℓ : Loc Cert.ConvRIdeal.nD Cert.ConvRIdeal.τ Cert.ConvRIdeal.sig) → Buf (Elt Ideal) ℓ) : Prop :=
  True

def Pre_ConvRIdeal_finite_conv [hPre_finite_conv : Cert.Pre_finite_conv.Facts] (m : (ℓ : Loc Cert.ConvRIdeal.nD Cert.ConvRIdeal.τ Cert.ConvRIdeal.sig) → Buf (Elt Ideal) ℓ) : Prop :=
  ∀ c : Dev Cert.ConvRIdeal.nD,
    (Cert.Pre_finite_conv.fn (F := Ideal) (m ((c.tc : Thread Cert.ConvRIdeal.nD Cert.ConvRIdeal.τ).loc Cert.ConvRIdeal.main_arg0)) (m ((c.tc : Thread Cert.ConvRIdeal.nD Cert.ConvRIdeal.τ).loc Cert.ConvRIdeal.main_arg1)) (m ((c.tc : Thread Cert.ConvRIdeal.nD Cert.ConvRIdeal.τ).loc Cert.ConvRIdeal.main_arg2)) (m ((c.tc : Thread Cert.ConvRIdeal.nD Cert.ConvRIdeal.τ).loc Cert.ConvRIdeal.main_arg3)) (m ((c.tc : Thread Cert.ConvRIdeal.nD Cert.ConvRIdeal.τ).loc Cert.ConvRIdeal.main_arg4)) (m ((c.tc : Thread Cert.ConvRIdeal.nD Cert.ConvRIdeal.τ).loc Cert.ConvRIdeal.main_arg5))).1 = (fun _ => 1#1)
    ∧ (Cert.Pre_finite_conv.fn (F := Ideal) (m ((c.tc : Thread Cert.ConvRIdeal.nD Cert.ConvRIdeal.τ).loc Cert.ConvRIdeal.main_arg0)) (m ((c.tc : Thread Cert.ConvRIdeal.nD Cert.ConvRIdeal.τ).loc Cert.ConvRIdeal.main_arg1)) (m ((c.tc : Thread Cert.ConvRIdeal.nD Cert.ConvRIdeal.τ).loc Cert.ConvRIdeal.main_arg2)) (m ((c.tc : Thread Cert.ConvRIdeal.nD Cert.ConvRIdeal.τ).loc Cert.ConvRIdeal.main_arg3)) (m ((c.tc : Thread Cert.ConvRIdeal.nD Cert.ConvRIdeal.τ).loc Cert.ConvRIdeal.main_arg4)) (m ((c.tc : Thread Cert.ConvRIdeal.nD Cert.ConvRIdeal.τ).loc Cert.ConvRIdeal.main_arg5))).2.1 = (fun _ => 1#1)
    ∧ (Cert.Pre_finite_conv.fn (F := Ideal) (m ((c.tc : Thread Cert.ConvRIdeal.nD Cert.ConvRIdeal.τ).loc Cert.ConvRIdeal.main_arg0)) (m ((c.tc : Thread Cert.ConvRIdeal.nD Cert.ConvRIdeal.τ).loc Cert.ConvRIdeal.main_arg1)) (m ((c.tc : Thread Cert.ConvRIdeal.nD Cert.ConvRIdeal.τ).loc Cert.ConvRIdeal.main_arg2)) (m ((c.tc : Thread Cert.ConvRIdeal.nD Cert.ConvRIdeal.τ).loc Cert.ConvRIdeal.main_arg3)) (m ((c.tc : Thread Cert.ConvRIdeal.nD Cert.ConvRIdeal.τ).loc Cert.ConvRIdeal.main_arg4)) (m ((c.tc : Thread Cert.ConvRIdeal.nD Cert.ConvRIdeal.τ).loc Cert.ConvRIdeal.main_arg5))).2.2.1 = (fun _ => 1#1)
    ∧ (Cert.Pre_finite_conv.fn (F := Ideal) (m ((c.tc : Thread Cert.ConvRIdeal.nD Cert.ConvRIdeal.τ).loc Cert.ConvRIdeal.main_arg0)) (m ((c.tc : Thread Cert.ConvRIdeal.nD Cert.ConvRIdeal.τ).loc Cert.ConvRIdeal.main_arg1)) (m ((c.tc : Thread Cert.ConvRIdeal.nD Cert.ConvRIdeal.τ).loc Cert.ConvRIdeal.main_arg2)) (m ((c.tc : Thread Cert.ConvRIdeal.nD Cert.ConvRIdeal.τ).loc Cert.ConvRIdeal.main_arg3)) (m ((c.tc : Thread Cert.ConvRIdeal.nD Cert.ConvRIdeal.τ).loc Cert.ConvRIdeal.main_arg4)) (m ((c.tc : Thread Cert.ConvRIdeal.nD Cert.ConvRIdeal.τ).loc Cert.ConvRIdeal.main_arg5))).2.2.2.1 = (fun _ => 1#1)
    ∧ (Cert.Pre_finite_conv.fn (F := Ideal) (m ((c.tc : Thread Cert.ConvRIdeal.nD Cert.ConvRIdeal.τ).loc Cert.ConvRIdeal.main_arg0)) (m ((c.tc : Thread Cert.ConvRIdeal.nD Cert.ConvRIdeal.τ).loc Cert.ConvRIdeal.main_arg1)) (m ((c.tc : Thread Cert.ConvRIdeal.nD Cert.ConvRIdeal.τ).loc Cert.ConvRIdeal.main_arg2)) (m ((c.tc : Thread Cert.ConvRIdeal.nD Cert.ConvRIdeal.τ).loc Cert.ConvRIdeal.main_arg3)) (m ((c.tc : Thread Cert.ConvRIdeal.nD Cert.ConvRIdeal.τ).loc Cert.ConvRIdeal.main_arg4)) (m ((c.tc : Thread Cert.ConvRIdeal.nD Cert.ConvRIdeal.τ).loc Cert.ConvRIdeal.main_arg5))).2.2.2.2.1 = (fun _ => 1#1)
    ∧ (Cert.Pre_finite_conv.fn (F := Ideal) (m ((c.tc : Thread Cert.ConvRIdeal.nD Cert.ConvRIdeal.τ).loc Cert.ConvRIdeal.main_arg0)) (m ((c.tc : Thread Cert.ConvRIdeal.nD Cert.ConvRIdeal.τ).loc Cert.ConvRIdeal.main_arg1)) (m ((c.tc : Thread Cert.ConvRIdeal.nD Cert.ConvRIdeal.τ).loc Cert.ConvRIdeal.main_arg2)) (m ((c.tc : Thread Cert.ConvRIdeal.nD Cert.ConvRIdeal.τ).loc Cert.ConvRIdeal.main_arg3)) (m ((c.tc : Thread Cert.ConvRIdeal.nD Cert.ConvRIdeal.τ).loc Cert.ConvRIdeal.main_arg4)) (m ((c.tc : Thread Cert.ConvRIdeal.nD Cert.ConvRIdeal.τ).loc Cert.ConvRIdeal.main_arg5))).2.2.2.2.2 = (fun _ => 1#1)

def Pre_GmlpK (m : (ℓ : Loc Cert.GmlpK.nD Cert.GmlpK.τ Cert.GmlpK.sig) → Buf (Elt Bits) ℓ) : Prop :=
  True

def Pre_GmlpKIdeal (m : (ℓ : Loc Cert.GmlpKIdeal.nD Cert.GmlpKIdeal.τ Cert.GmlpKIdeal.sig) → Buf (Elt Ideal) ℓ) : Prop :=
  True

def Pre_GmlpKIdeal_finite_gmlp [hPre_finite_gmlp : Cert.Pre_finite_gmlp.Facts] (m : (ℓ : Loc Cert.GmlpKIdeal.nD Cert.GmlpKIdeal.τ Cert.GmlpKIdeal.sig) → Buf (Elt Ideal) ℓ) : Prop :=
  ∀ c : Dev Cert.GmlpKIdeal.nD,
    (Cert.Pre_finite_gmlp.fn (F := Ideal) (m ((c.tc : Thread Cert.GmlpKIdeal.nD Cert.GmlpKIdeal.τ).loc Cert.GmlpKIdeal.main_arg0)) (m ((c.tc : Thread Cert.GmlpKIdeal.nD Cert.GmlpKIdeal.τ).loc Cert.GmlpKIdeal.main_arg1)) (m ((c.tc : Thread Cert.GmlpKIdeal.nD Cert.GmlpKIdeal.τ).loc Cert.GmlpKIdeal.main_arg2)) (m ((c.tc : Thread Cert.GmlpKIdeal.nD Cert.GmlpKIdeal.τ).loc Cert.GmlpKIdeal.main_arg3)) (m ((c.tc : Thread Cert.GmlpKIdeal.nD Cert.GmlpKIdeal.τ).loc Cert.GmlpKIdeal.main_arg4)) (m ((c.tc : Thread Cert.GmlpKIdeal.nD Cert.GmlpKIdeal.τ).loc Cert.GmlpKIdeal.main_arg5))).1 = (fun _ => 1#1)
    ∧ (Cert.Pre_finite_gmlp.fn (F := Ideal) (m ((c.tc : Thread Cert.GmlpKIdeal.nD Cert.GmlpKIdeal.τ).loc Cert.GmlpKIdeal.main_arg0)) (m ((c.tc : Thread Cert.GmlpKIdeal.nD Cert.GmlpKIdeal.τ).loc Cert.GmlpKIdeal.main_arg1)) (m ((c.tc : Thread Cert.GmlpKIdeal.nD Cert.GmlpKIdeal.τ).loc Cert.GmlpKIdeal.main_arg2)) (m ((c.tc : Thread Cert.GmlpKIdeal.nD Cert.GmlpKIdeal.τ).loc Cert.GmlpKIdeal.main_arg3)) (m ((c.tc : Thread Cert.GmlpKIdeal.nD Cert.GmlpKIdeal.τ).loc Cert.GmlpKIdeal.main_arg4)) (m ((c.tc : Thread Cert.GmlpKIdeal.nD Cert.GmlpKIdeal.τ).loc Cert.GmlpKIdeal.main_arg5))).2.1 = (fun _ => 1#1)
    ∧ (Cert.Pre_finite_gmlp.fn (F := Ideal) (m ((c.tc : Thread Cert.GmlpKIdeal.nD Cert.GmlpKIdeal.τ).loc Cert.GmlpKIdeal.main_arg0)) (m ((c.tc : Thread Cert.GmlpKIdeal.nD Cert.GmlpKIdeal.τ).loc Cert.GmlpKIdeal.main_arg1)) (m ((c.tc : Thread Cert.GmlpKIdeal.nD Cert.GmlpKIdeal.τ).loc Cert.GmlpKIdeal.main_arg2)) (m ((c.tc : Thread Cert.GmlpKIdeal.nD Cert.GmlpKIdeal.τ).loc Cert.GmlpKIdeal.main_arg3)) (m ((c.tc : Thread Cert.GmlpKIdeal.nD Cert.GmlpKIdeal.τ).loc Cert.GmlpKIdeal.main_arg4)) (m ((c.tc : Thread Cert.GmlpKIdeal.nD Cert.GmlpKIdeal.τ).loc Cert.GmlpKIdeal.main_arg5))).2.2.1 = (fun _ => 1#1)
    ∧ (Cert.Pre_finite_gmlp.fn (F := Ideal) (m ((c.tc : Thread Cert.GmlpKIdeal.nD Cert.GmlpKIdeal.τ).loc Cert.GmlpKIdeal.main_arg0)) (m ((c.tc : Thread Cert.GmlpKIdeal.nD Cert.GmlpKIdeal.τ).loc Cert.GmlpKIdeal.main_arg1)) (m ((c.tc : Thread Cert.GmlpKIdeal.nD Cert.GmlpKIdeal.τ).loc Cert.GmlpKIdeal.main_arg2)) (m ((c.tc : Thread Cert.GmlpKIdeal.nD Cert.GmlpKIdeal.τ).loc Cert.GmlpKIdeal.main_arg3)) (m ((c.tc : Thread Cert.GmlpKIdeal.nD Cert.GmlpKIdeal.τ).loc Cert.GmlpKIdeal.main_arg4)) (m ((c.tc : Thread Cert.GmlpKIdeal.nD Cert.GmlpKIdeal.τ).loc Cert.GmlpKIdeal.main_arg5))).2.2.2.1 = (fun _ => 1#1)
    ∧ (Cert.Pre_finite_gmlp.fn (F := Ideal) (m ((c.tc : Thread Cert.GmlpKIdeal.nD Cert.GmlpKIdeal.τ).loc Cert.GmlpKIdeal.main_arg0)) (m ((c.tc : Thread Cert.GmlpKIdeal.nD Cert.GmlpKIdeal.τ).loc Cert.GmlpKIdeal.main_arg1)) (m ((c.tc : Thread Cert.GmlpKIdeal.nD Cert.GmlpKIdeal.τ).loc Cert.GmlpKIdeal.main_arg2)) (m ((c.tc : Thread Cert.GmlpKIdeal.nD Cert.GmlpKIdeal.τ).loc Cert.GmlpKIdeal.main_arg3)) (m ((c.tc : Thread Cert.GmlpKIdeal.nD Cert.GmlpKIdeal.τ).loc Cert.GmlpKIdeal.main_arg4)) (m ((c.tc : Thread Cert.GmlpKIdeal.nD Cert.GmlpKIdeal.τ).loc Cert.GmlpKIdeal.main_arg5))).2.2.2.2.1 = (fun _ => 1#1)
    ∧ (Cert.Pre_finite_gmlp.fn (F := Ideal) (m ((c.tc : Thread Cert.GmlpKIdeal.nD Cert.GmlpKIdeal.τ).loc Cert.GmlpKIdeal.main_arg0)) (m ((c.tc : Thread Cert.GmlpKIdeal.nD Cert.GmlpKIdeal.τ).loc Cert.GmlpKIdeal.main_arg1)) (m ((c.tc : Thread Cert.GmlpKIdeal.nD Cert.GmlpKIdeal.τ).loc Cert.GmlpKIdeal.main_arg2)) (m ((c.tc : Thread Cert.GmlpKIdeal.nD Cert.GmlpKIdeal.τ).loc Cert.GmlpKIdeal.main_arg3)) (m ((c.tc : Thread Cert.GmlpKIdeal.nD Cert.GmlpKIdeal.τ).loc Cert.GmlpKIdeal.main_arg4)) (m ((c.tc : Thread Cert.GmlpKIdeal.nD Cert.GmlpKIdeal.τ).loc Cert.GmlpKIdeal.main_arg5))).2.2.2.2.2 = (fun _ => 1#1)

def Pre_GmlpRIdeal (m : (ℓ : Loc Cert.GmlpRIdeal.nD Cert.GmlpRIdeal.τ Cert.GmlpRIdeal.sig) → Buf (Elt Ideal) ℓ) : Prop :=
  True

def Pre_GmlpRIdeal_finite_gmlp [hPre_finite_gmlp : Cert.Pre_finite_gmlp.Facts] (m : (ℓ : Loc Cert.GmlpRIdeal.nD Cert.GmlpRIdeal.τ Cert.GmlpRIdeal.sig) → Buf (Elt Ideal) ℓ) : Prop :=
  ∀ c : Dev Cert.GmlpRIdeal.nD,
    (Cert.Pre_finite_gmlp.fn (F := Ideal) (m ((c.tc : Thread Cert.GmlpRIdeal.nD Cert.GmlpRIdeal.τ).loc Cert.GmlpRIdeal.main_arg0)) (m ((c.tc : Thread Cert.GmlpRIdeal.nD Cert.GmlpRIdeal.τ).loc Cert.GmlpRIdeal.main_arg1)) (m ((c.tc : Thread Cert.GmlpRIdeal.nD Cert.GmlpRIdeal.τ).loc Cert.GmlpRIdeal.main_arg2)) (m ((c.tc : Thread Cert.GmlpRIdeal.nD Cert.GmlpRIdeal.τ).loc Cert.GmlpRIdeal.main_arg3)) (m ((c.tc : Thread Cert.GmlpRIdeal.nD Cert.GmlpRIdeal.τ).loc Cert.GmlpRIdeal.main_arg4)) (m ((c.tc : Thread Cert.GmlpRIdeal.nD Cert.GmlpRIdeal.τ).loc Cert.GmlpRIdeal.main_arg5))).1 = (fun _ => 1#1)
    ∧ (Cert.Pre_finite_gmlp.fn (F := Ideal) (m ((c.tc : Thread Cert.GmlpRIdeal.nD Cert.GmlpRIdeal.τ).loc Cert.GmlpRIdeal.main_arg0)) (m ((c.tc : Thread Cert.GmlpRIdeal.nD Cert.GmlpRIdeal.τ).loc Cert.GmlpRIdeal.main_arg1)) (m ((c.tc : Thread Cert.GmlpRIdeal.nD Cert.GmlpRIdeal.τ).loc Cert.GmlpRIdeal.main_arg2)) (m ((c.tc : Thread Cert.GmlpRIdeal.nD Cert.GmlpRIdeal.τ).loc Cert.GmlpRIdeal.main_arg3)) (m ((c.tc : Thread Cert.GmlpRIdeal.nD Cert.GmlpRIdeal.τ).loc Cert.GmlpRIdeal.main_arg4)) (m ((c.tc : Thread Cert.GmlpRIdeal.nD Cert.GmlpRIdeal.τ).loc Cert.GmlpRIdeal.main_arg5))).2.1 = (fun _ => 1#1)
    ∧ (Cert.Pre_finite_gmlp.fn (F := Ideal) (m ((c.tc : Thread Cert.GmlpRIdeal.nD Cert.GmlpRIdeal.τ).loc Cert.GmlpRIdeal.main_arg0)) (m ((c.tc : Thread Cert.GmlpRIdeal.nD Cert.GmlpRIdeal.τ).loc Cert.GmlpRIdeal.main_arg1)) (m ((c.tc : Thread Cert.GmlpRIdeal.nD Cert.GmlpRIdeal.τ).loc Cert.GmlpRIdeal.main_arg2)) (m ((c.tc : Thread Cert.GmlpRIdeal.nD Cert.GmlpRIdeal.τ).loc Cert.GmlpRIdeal.main_arg3)) (m ((c.tc : Thread Cert.GmlpRIdeal.nD Cert.GmlpRIdeal.τ).loc Cert.GmlpRIdeal.main_arg4)) (m ((c.tc : Thread Cert.GmlpRIdeal.nD Cert.GmlpRIdeal.τ).loc Cert.GmlpRIdeal.main_arg5))).2.2.1 = (fun _ => 1#1)
    ∧ (Cert.Pre_finite_gmlp.fn (F := Ideal) (m ((c.tc : Thread Cert.GmlpRIdeal.nD Cert.GmlpRIdeal.τ).loc Cert.GmlpRIdeal.main_arg0)) (m ((c.tc : Thread Cert.GmlpRIdeal.nD Cert.GmlpRIdeal.τ).loc Cert.GmlpRIdeal.main_arg1)) (m ((c.tc : Thread Cert.GmlpRIdeal.nD Cert.GmlpRIdeal.τ).loc Cert.GmlpRIdeal.main_arg2)) (m ((c.tc : Thread Cert.GmlpRIdeal.nD Cert.GmlpRIdeal.τ).loc Cert.GmlpRIdeal.main_arg3)) (m ((c.tc : Thread Cert.GmlpRIdeal.nD Cert.GmlpRIdeal.τ).loc Cert.GmlpRIdeal.main_arg4)) (m ((c.tc : Thread Cert.GmlpRIdeal.nD Cert.GmlpRIdeal.τ).loc Cert.GmlpRIdeal.main_arg5))).2.2.2.1 = (fun _ => 1#1)
    ∧ (Cert.Pre_finite_gmlp.fn (F := Ideal) (m ((c.tc : Thread Cert.GmlpRIdeal.nD Cert.GmlpRIdeal.τ).loc Cert.GmlpRIdeal.main_arg0)) (m ((c.tc : Thread Cert.GmlpRIdeal.nD Cert.GmlpRIdeal.τ).loc Cert.GmlpRIdeal.main_arg1)) (m ((c.tc : Thread Cert.GmlpRIdeal.nD Cert.GmlpRIdeal.τ).loc Cert.GmlpRIdeal.main_arg2)) (m ((c.tc : Thread Cert.GmlpRIdeal.nD Cert.GmlpRIdeal.τ).loc Cert.GmlpRIdeal.main_arg3)) (m ((c.tc : Thread Cert.GmlpRIdeal.nD Cert.GmlpRIdeal.τ).loc Cert.GmlpRIdeal.main_arg4)) (m ((c.tc : Thread Cert.GmlpRIdeal.nD Cert.GmlpRIdeal.τ).loc Cert.GmlpRIdeal.main_arg5))).2.2.2.2.1 = (fun _ => 1#1)
    ∧ (Cert.Pre_finite_gmlp.fn (F := Ideal) (m ((c.tc : Thread Cert.GmlpRIdeal.nD Cert.GmlpRIdeal.τ).loc Cert.GmlpRIdeal.main_arg0)) (m ((c.tc : Thread Cert.GmlpRIdeal.nD Cert.GmlpRIdeal.τ).loc Cert.GmlpRIdeal.main_arg1)) (m ((c.tc : Thread Cert.GmlpRIdeal.nD Cert.GmlpRIdeal.τ).loc Cert.GmlpRIdeal.main_arg2)) (m ((c.tc : Thread Cert.GmlpRIdeal.nD Cert.GmlpRIdeal.τ).loc Cert.GmlpRIdeal.main_arg3)) (m ((c.tc : Thread Cert.GmlpRIdeal.nD Cert.GmlpRIdeal.τ).loc Cert.GmlpRIdeal.main_arg4)) (m ((c.tc : Thread Cert.GmlpRIdeal.nD Cert.GmlpRIdeal.τ).loc Cert.GmlpRIdeal.main_arg5))).2.2.2.2.2 = (fun _ => 1#1)

def Pre_MergeK (m : (ℓ : Loc Cert.MergeK.nD Cert.MergeK.τ Cert.MergeK.sig) → Buf (Elt Bits) ℓ) : Prop :=
  True

def Pre_MergeKIdeal (m : (ℓ : Loc Cert.MergeKIdeal.nD Cert.MergeKIdeal.τ Cert.MergeKIdeal.sig) → Buf (Elt Ideal) ℓ) : Prop :=
  True

def Pre_MergeKIdeal_finite_merge [hPre_finite_merge : Cert.Pre_finite_merge.Facts] (m : (ℓ : Loc Cert.MergeKIdeal.nD Cert.MergeKIdeal.τ Cert.MergeKIdeal.sig) → Buf (Elt Ideal) ℓ) : Prop :=
  ∀ c : Dev Cert.MergeKIdeal.nD,
    (Cert.Pre_finite_merge.fn (F := Ideal) (m ((c.tc : Thread Cert.MergeKIdeal.nD Cert.MergeKIdeal.τ).loc Cert.MergeKIdeal.main_arg0)) (m ((c.tc : Thread Cert.MergeKIdeal.nD Cert.MergeKIdeal.τ).loc Cert.MergeKIdeal.main_arg1)) (m ((c.tc : Thread Cert.MergeKIdeal.nD Cert.MergeKIdeal.τ).loc Cert.MergeKIdeal.main_arg2)) (m ((c.tc : Thread Cert.MergeKIdeal.nD Cert.MergeKIdeal.τ).loc Cert.MergeKIdeal.main_arg3)) (m ((c.tc : Thread Cert.MergeKIdeal.nD Cert.MergeKIdeal.τ).loc Cert.MergeKIdeal.main_arg4)) (m ((c.tc : Thread Cert.MergeKIdeal.nD Cert.MergeKIdeal.τ).loc Cert.MergeKIdeal.main_arg5)) (m ((c.tc : Thread Cert.MergeKIdeal.nD Cert.MergeKIdeal.τ).loc Cert.MergeKIdeal.main_arg6))).1 = (fun _ => 1#1)
    ∧ (Cert.Pre_finite_merge.fn (F := Ideal) (m ((c.tc : Thread Cert.MergeKIdeal.nD Cert.MergeKIdeal.τ).loc Cert.MergeKIdeal.main_arg0)) (m ((c.tc : Thread Cert.MergeKIdeal.nD Cert.MergeKIdeal.τ).loc Cert.MergeKIdeal.main_arg1)) (m ((c.tc : Thread Cert.MergeKIdeal.nD Cert.MergeKIdeal.τ).loc Cert.MergeKIdeal.main_arg2)) (m ((c.tc : Thread Cert.MergeKIdeal.nD Cert.MergeKIdeal.τ).loc Cert.MergeKIdeal.main_arg3)) (m ((c.tc : Thread Cert.MergeKIdeal.nD Cert.MergeKIdeal.τ).loc Cert.MergeKIdeal.main_arg4)) (m ((c.tc : Thread Cert.MergeKIdeal.nD Cert.MergeKIdeal.τ).loc Cert.MergeKIdeal.main_arg5)) (m ((c.tc : Thread Cert.MergeKIdeal.nD Cert.MergeKIdeal.τ).loc Cert.MergeKIdeal.main_arg6))).2.1 = (fun _ => 1#1)
    ∧ (Cert.Pre_finite_merge.fn (F := Ideal) (m ((c.tc : Thread Cert.MergeKIdeal.nD Cert.MergeKIdeal.τ).loc Cert.MergeKIdeal.main_arg0)) (m ((c.tc : Thread Cert.MergeKIdeal.nD Cert.MergeKIdeal.τ).loc Cert.MergeKIdeal.main_arg1)) (m ((c.tc : Thread Cert.MergeKIdeal.nD Cert.MergeKIdeal.τ).loc Cert.MergeKIdeal.main_arg2)) (m ((c.tc : Thread Cert.MergeKIdeal.nD Cert.MergeKIdeal.τ).loc Cert.MergeKIdeal.main_arg3)) (m ((c.tc : Thread Cert.MergeKIdeal.nD Cert.MergeKIdeal.τ).loc Cert.MergeKIdeal.main_arg4)) (m ((c.tc : Thread Cert.MergeKIdeal.nD Cert.MergeKIdeal.τ).loc Cert.MergeKIdeal.main_arg5)) (m ((c.tc : Thread Cert.MergeKIdeal.nD Cert.MergeKIdeal.τ).loc Cert.MergeKIdeal.main_arg6))).2.2.1 = (fun _ => 1#1)
    ∧ (Cert.Pre_finite_merge.fn (F := Ideal) (m ((c.tc : Thread Cert.MergeKIdeal.nD Cert.MergeKIdeal.τ).loc Cert.MergeKIdeal.main_arg0)) (m ((c.tc : Thread Cert.MergeKIdeal.nD Cert.MergeKIdeal.τ).loc Cert.MergeKIdeal.main_arg1)) (m ((c.tc : Thread Cert.MergeKIdeal.nD Cert.MergeKIdeal.τ).loc Cert.MergeKIdeal.main_arg2)) (m ((c.tc : Thread Cert.MergeKIdeal.nD Cert.MergeKIdeal.τ).loc Cert.MergeKIdeal.main_arg3)) (m ((c.tc : Thread Cert.MergeKIdeal.nD Cert.MergeKIdeal.τ).loc Cert.MergeKIdeal.main_arg4)) (m ((c.tc : Thread Cert.MergeKIdeal.nD Cert.MergeKIdeal.τ).loc Cert.MergeKIdeal.main_arg5)) (m ((c.tc : Thread Cert.MergeKIdeal.nD Cert.MergeKIdeal.τ).loc Cert.MergeKIdeal.main_arg6))).2.2.2.1 = (fun _ => 1#1)
    ∧ (Cert.Pre_finite_merge.fn (F := Ideal) (m ((c.tc : Thread Cert.MergeKIdeal.nD Cert.MergeKIdeal.τ).loc Cert.MergeKIdeal.main_arg0)) (m ((c.tc : Thread Cert.MergeKIdeal.nD Cert.MergeKIdeal.τ).loc Cert.MergeKIdeal.main_arg1)) (m ((c.tc : Thread Cert.MergeKIdeal.nD Cert.MergeKIdeal.τ).loc Cert.MergeKIdeal.main_arg2)) (m ((c.tc : Thread Cert.MergeKIdeal.nD Cert.MergeKIdeal.τ).loc Cert.MergeKIdeal.main_arg3)) (m ((c.tc : Thread Cert.MergeKIdeal.nD Cert.MergeKIdeal.τ).loc Cert.MergeKIdeal.main_arg4)) (m ((c.tc : Thread Cert.MergeKIdeal.nD Cert.MergeKIdeal.τ).loc Cert.MergeKIdeal.main_arg5)) (m ((c.tc : Thread Cert.MergeKIdeal.nD Cert.MergeKIdeal.τ).loc Cert.MergeKIdeal.main_arg6))).2.2.2.2.1 = (fun _ => 1#1)
    ∧ (Cert.Pre_finite_merge.fn (F := Ideal) (m ((c.tc : Thread Cert.MergeKIdeal.nD Cert.MergeKIdeal.τ).loc Cert.MergeKIdeal.main_arg0)) (m ((c.tc : Thread Cert.MergeKIdeal.nD Cert.MergeKIdeal.τ).loc Cert.MergeKIdeal.main_arg1)) (m ((c.tc : Thread Cert.MergeKIdeal.nD Cert.MergeKIdeal.τ).loc Cert.MergeKIdeal.main_arg2)) (m ((c.tc : Thread Cert.MergeKIdeal.nD Cert.MergeKIdeal.τ).loc Cert.MergeKIdeal.main_arg3)) (m ((c.tc : Thread Cert.MergeKIdeal.nD Cert.MergeKIdeal.τ).loc Cert.MergeKIdeal.main_arg4)) (m ((c.tc : Thread Cert.MergeKIdeal.nD Cert.MergeKIdeal.τ).loc Cert.MergeKIdeal.main_arg5)) (m ((c.tc : Thread Cert.MergeKIdeal.nD Cert.MergeKIdeal.τ).loc Cert.MergeKIdeal.main_arg6))).2.2.2.2.2.1 = (fun _ => 1#1)
    ∧ (Cert.Pre_finite_merge.fn (F := Ideal) (m ((c.tc : Thread Cert.MergeKIdeal.nD Cert.MergeKIdeal.τ).loc Cert.MergeKIdeal.main_arg0)) (m ((c.tc : Thread Cert.MergeKIdeal.nD Cert.MergeKIdeal.τ).loc Cert.MergeKIdeal.main_arg1)) (m ((c.tc : Thread Cert.MergeKIdeal.nD Cert.MergeKIdeal.τ).loc Cert.MergeKIdeal.main_arg2)) (m ((c.tc : Thread Cert.MergeKIdeal.nD Cert.MergeKIdeal.τ).loc Cert.MergeKIdeal.main_arg3)) (m ((c.tc : Thread Cert.MergeKIdeal.nD Cert.MergeKIdeal.τ).loc Cert.MergeKIdeal.main_arg4)) (m ((c.tc : Thread Cert.MergeKIdeal.nD Cert.MergeKIdeal.τ).loc Cert.MergeKIdeal.main_arg5)) (m ((c.tc : Thread Cert.MergeKIdeal.nD Cert.MergeKIdeal.τ).loc Cert.MergeKIdeal.main_arg6))).2.2.2.2.2.2 = (fun _ => 1#1)

def Pre_MergeRIdeal (m : (ℓ : Loc Cert.MergeRIdeal.nD Cert.MergeRIdeal.τ Cert.MergeRIdeal.sig) → Buf (Elt Ideal) ℓ) : Prop :=
  True

def Pre_MergeRIdeal_finite_merge [hPre_finite_merge : Cert.Pre_finite_merge.Facts] (m : (ℓ : Loc Cert.MergeRIdeal.nD Cert.MergeRIdeal.τ Cert.MergeRIdeal.sig) → Buf (Elt Ideal) ℓ) : Prop :=
  ∀ c : Dev Cert.MergeRIdeal.nD,
    (Cert.Pre_finite_merge.fn (F := Ideal) (m ((c.tc : Thread Cert.MergeRIdeal.nD Cert.MergeRIdeal.τ).loc Cert.MergeRIdeal.main_arg0)) (m ((c.tc : Thread Cert.MergeRIdeal.nD Cert.MergeRIdeal.τ).loc Cert.MergeRIdeal.main_arg1)) (m ((c.tc : Thread Cert.MergeRIdeal.nD Cert.MergeRIdeal.τ).loc Cert.MergeRIdeal.main_arg2)) (m ((c.tc : Thread Cert.MergeRIdeal.nD Cert.MergeRIdeal.τ).loc Cert.MergeRIdeal.main_arg3)) (m ((c.tc : Thread Cert.MergeRIdeal.nD Cert.MergeRIdeal.τ).loc Cert.MergeRIdeal.main_arg4)) (m ((c.tc : Thread Cert.MergeRIdeal.nD Cert.MergeRIdeal.τ).loc Cert.MergeRIdeal.main_arg5)) (m ((c.tc : Thread Cert.MergeRIdeal.nD Cert.MergeRIdeal.τ).loc Cert.MergeRIdeal.main_arg6))).1 = (fun _ => 1#1)
    ∧ (Cert.Pre_finite_merge.fn (F := Ideal) (m ((c.tc : Thread Cert.MergeRIdeal.nD Cert.MergeRIdeal.τ).loc Cert.MergeRIdeal.main_arg0)) (m ((c.tc : Thread Cert.MergeRIdeal.nD Cert.MergeRIdeal.τ).loc Cert.MergeRIdeal.main_arg1)) (m ((c.tc : Thread Cert.MergeRIdeal.nD Cert.MergeRIdeal.τ).loc Cert.MergeRIdeal.main_arg2)) (m ((c.tc : Thread Cert.MergeRIdeal.nD Cert.MergeRIdeal.τ).loc Cert.MergeRIdeal.main_arg3)) (m ((c.tc : Thread Cert.MergeRIdeal.nD Cert.MergeRIdeal.τ).loc Cert.MergeRIdeal.main_arg4)) (m ((c.tc : Thread Cert.MergeRIdeal.nD Cert.MergeRIdeal.τ).loc Cert.MergeRIdeal.main_arg5)) (m ((c.tc : Thread Cert.MergeRIdeal.nD Cert.MergeRIdeal.τ).loc Cert.MergeRIdeal.main_arg6))).2.1 = (fun _ => 1#1)
    ∧ (Cert.Pre_finite_merge.fn (F := Ideal) (m ((c.tc : Thread Cert.MergeRIdeal.nD Cert.MergeRIdeal.τ).loc Cert.MergeRIdeal.main_arg0)) (m ((c.tc : Thread Cert.MergeRIdeal.nD Cert.MergeRIdeal.τ).loc Cert.MergeRIdeal.main_arg1)) (m ((c.tc : Thread Cert.MergeRIdeal.nD Cert.MergeRIdeal.τ).loc Cert.MergeRIdeal.main_arg2)) (m ((c.tc : Thread Cert.MergeRIdeal.nD Cert.MergeRIdeal.τ).loc Cert.MergeRIdeal.main_arg3)) (m ((c.tc : Thread Cert.MergeRIdeal.nD Cert.MergeRIdeal.τ).loc Cert.MergeRIdeal.main_arg4)) (m ((c.tc : Thread Cert.MergeRIdeal.nD Cert.MergeRIdeal.τ).loc Cert.MergeRIdeal.main_arg5)) (m ((c.tc : Thread Cert.MergeRIdeal.nD Cert.MergeRIdeal.τ).loc Cert.MergeRIdeal.main_arg6))).2.2.1 = (fun _ => 1#1)
    ∧ (Cert.Pre_finite_merge.fn (F := Ideal) (m ((c.tc : Thread Cert.MergeRIdeal.nD Cert.MergeRIdeal.τ).loc Cert.MergeRIdeal.main_arg0)) (m ((c.tc : Thread Cert.MergeRIdeal.nD Cert.MergeRIdeal.τ).loc Cert.MergeRIdeal.main_arg1)) (m ((c.tc : Thread Cert.MergeRIdeal.nD Cert.MergeRIdeal.τ).loc Cert.MergeRIdeal.main_arg2)) (m ((c.tc : Thread Cert.MergeRIdeal.nD Cert.MergeRIdeal.τ).loc Cert.MergeRIdeal.main_arg3)) (m ((c.tc : Thread Cert.MergeRIdeal.nD Cert.MergeRIdeal.τ).loc Cert.MergeRIdeal.main_arg4)) (m ((c.tc : Thread Cert.MergeRIdeal.nD Cert.MergeRIdeal.τ).loc Cert.MergeRIdeal.main_arg5)) (m ((c.tc : Thread Cert.MergeRIdeal.nD Cert.MergeRIdeal.τ).loc Cert.MergeRIdeal.main_arg6))).2.2.2.1 = (fun _ => 1#1)
    ∧ (Cert.Pre_finite_merge.fn (F := Ideal) (m ((c.tc : Thread Cert.MergeRIdeal.nD Cert.MergeRIdeal.τ).loc Cert.MergeRIdeal.main_arg0)) (m ((c.tc : Thread Cert.MergeRIdeal.nD Cert.MergeRIdeal.τ).loc Cert.MergeRIdeal.main_arg1)) (m ((c.tc : Thread Cert.MergeRIdeal.nD Cert.MergeRIdeal.τ).loc Cert.MergeRIdeal.main_arg2)) (m ((c.tc : Thread Cert.MergeRIdeal.nD Cert.MergeRIdeal.τ).loc Cert.MergeRIdeal.main_arg3)) (m ((c.tc : Thread Cert.MergeRIdeal.nD Cert.MergeRIdeal.τ).loc Cert.MergeRIdeal.main_arg4)) (m ((c.tc : Thread Cert.MergeRIdeal.nD Cert.MergeRIdeal.τ).loc Cert.MergeRIdeal.main_arg5)) (m ((c.tc : Thread Cert.MergeRIdeal.nD Cert.MergeRIdeal.τ).loc Cert.MergeRIdeal.main_arg6))).2.2.2.2.1 = (fun _ => 1#1)
    ∧ (Cert.Pre_finite_merge.fn (F := Ideal) (m ((c.tc : Thread Cert.MergeRIdeal.nD Cert.MergeRIdeal.τ).loc Cert.MergeRIdeal.main_arg0)) (m ((c.tc : Thread Cert.MergeRIdeal.nD Cert.MergeRIdeal.τ).loc Cert.MergeRIdeal.main_arg1)) (m ((c.tc : Thread Cert.MergeRIdeal.nD Cert.MergeRIdeal.τ).loc Cert.MergeRIdeal.main_arg2)) (m ((c.tc : Thread Cert.MergeRIdeal.nD Cert.MergeRIdeal.τ).loc Cert.MergeRIdeal.main_arg3)) (m ((c.tc : Thread Cert.MergeRIdeal.nD Cert.MergeRIdeal.τ).loc Cert.MergeRIdeal.main_arg4)) (m ((c.tc : Thread Cert.MergeRIdeal.nD Cert.MergeRIdeal.τ).loc Cert.MergeRIdeal.main_arg5)) (m ((c.tc : Thread Cert.MergeRIdeal.nD Cert.MergeRIdeal.τ).loc Cert.MergeRIdeal.main_arg6))).2.2.2.2.2.1 = (fun _ => 1#1)
    ∧ (Cert.Pre_finite_merge.fn (F := Ideal) (m ((c.tc : Thread Cert.MergeRIdeal.nD Cert.MergeRIdeal.τ).loc Cert.MergeRIdeal.main_arg0)) (m ((c.tc : Thread Cert.MergeRIdeal.nD Cert.MergeRIdeal.τ).loc Cert.MergeRIdeal.main_arg1)) (m ((c.tc : Thread Cert.MergeRIdeal.nD Cert.MergeRIdeal.τ).loc Cert.MergeRIdeal.main_arg2)) (m ((c.tc : Thread Cert.MergeRIdeal.nD Cert.MergeRIdeal.τ).loc Cert.MergeRIdeal.main_arg3)) (m ((c.tc : Thread Cert.MergeRIdeal.nD Cert.MergeRIdeal.τ).loc Cert.MergeRIdeal.main_arg4)) (m ((c.tc : Thread Cert.MergeRIdeal.nD Cert.MergeRIdeal.τ).loc Cert.MergeRIdeal.main_arg5)) (m ((c.tc : Thread Cert.MergeRIdeal.nD Cert.MergeRIdeal.τ).loc Cert.MergeRIdeal.main_arg6))).2.2.2.2.2.2 = (fun _ => 1#1)

def Pre_LossK (m : (ℓ : Loc Cert.LossK.nD Cert.LossK.τ Cert.LossK.sig) → Buf (Elt Bits) ℓ) : Prop :=
  True

def Pre_LossKIdeal (m : (ℓ : Loc Cert.LossKIdeal.nD Cert.LossKIdeal.τ Cert.LossKIdeal.sig) → Buf (Elt Ideal) ℓ) : Prop :=
  True

def Pre_LossKIdeal_finite_loss [hPre_finite_loss : Cert.Pre_finite_loss.Facts] (m : (ℓ : Loc Cert.LossKIdeal.nD Cert.LossKIdeal.τ Cert.LossKIdeal.sig) → Buf (Elt Ideal) ℓ) : Prop :=
  ∀ c : Dev Cert.LossKIdeal.nD,
    (Cert.Pre_finite_loss.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4))).1 = (fun _ => 1#1)
    ∧ (Cert.Pre_finite_loss.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4))).2.1 = (fun _ => 1#1)
    ∧ (Cert.Pre_finite_loss.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4))).2.2.1 = (fun _ => 1#1)
    ∧ (Cert.Pre_finite_loss.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4))).2.2.2.1 = (fun _ => 1#1)
    ∧ (Cert.Pre_finite_loss.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4))).2.2.2.2 = (fun _ => 1#1)

def Pre_LossRIdeal (m : (ℓ : Loc Cert.LossRIdeal.nD Cert.LossRIdeal.τ Cert.LossRIdeal.sig) → Buf (Elt Ideal) ℓ) : Prop :=
  True

def Pre_LossRIdeal_finite_loss [hPre_finite_loss : Cert.Pre_finite_loss.Facts] (m : (ℓ : Loc Cert.LossRIdeal.nD Cert.LossRIdeal.τ Cert.LossRIdeal.sig) → Buf (Elt Ideal) ℓ) : Prop :=
  ∀ c : Dev Cert.LossRIdeal.nD,
    (Cert.Pre_finite_loss.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4))).1 = (fun _ => 1#1)
    ∧ (Cert.Pre_finite_loss.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4))).2.1 = (fun _ => 1#1)
    ∧ (Cert.Pre_finite_loss.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4))).2.2.1 = (fun _ => 1#1)
    ∧ (Cert.Pre_finite_loss.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4))).2.2.2.1 = (fun _ => 1#1)
    ∧ (Cert.Pre_finite_loss.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4))).2.2.2.2 = (fun _ => 1#1)

def Pre_UpK (m : (ℓ : Loc Cert.UpK.nD Cert.UpK.τ Cert.UpK.sig) → Buf (Elt Bits) ℓ) : Prop :=
  True

def Pre_UpKIdeal (m : (ℓ : Loc Cert.UpKIdeal.nD Cert.UpKIdeal.τ Cert.UpKIdeal.sig) → Buf (Elt Ideal) ℓ) : Prop :=
  True

def Pre_UpKIdeal_finite_up [hPre_finite_up : Cert.Pre_finite_up.Facts] (m : (ℓ : Loc Cert.UpKIdeal.nD Cert.UpKIdeal.τ Cert.UpKIdeal.sig) → Buf (Elt Ideal) ℓ) : Prop :=
  ∀ c : Dev Cert.UpKIdeal.nD,
    (Cert.Pre_finite_up.fn (F := Ideal) (m ((c.tc : Thread Cert.UpKIdeal.nD Cert.UpKIdeal.τ).loc Cert.UpKIdeal.main_arg0)) (m ((c.tc : Thread Cert.UpKIdeal.nD Cert.UpKIdeal.τ).loc Cert.UpKIdeal.main_arg1)) (m ((c.tc : Thread Cert.UpKIdeal.nD Cert.UpKIdeal.τ).loc Cert.UpKIdeal.main_arg2)) (m ((c.tc : Thread Cert.UpKIdeal.nD Cert.UpKIdeal.τ).loc Cert.UpKIdeal.main_arg3)) (m ((c.tc : Thread Cert.UpKIdeal.nD Cert.UpKIdeal.τ).loc Cert.UpKIdeal.main_arg4)) (m ((c.tc : Thread Cert.UpKIdeal.nD Cert.UpKIdeal.τ).loc Cert.UpKIdeal.main_arg5))).1 = (fun _ => 1#1)
    ∧ (Cert.Pre_finite_up.fn (F := Ideal) (m ((c.tc : Thread Cert.UpKIdeal.nD Cert.UpKIdeal.τ).loc Cert.UpKIdeal.main_arg0)) (m ((c.tc : Thread Cert.UpKIdeal.nD Cert.UpKIdeal.τ).loc Cert.UpKIdeal.main_arg1)) (m ((c.tc : Thread Cert.UpKIdeal.nD Cert.UpKIdeal.τ).loc Cert.UpKIdeal.main_arg2)) (m ((c.tc : Thread Cert.UpKIdeal.nD Cert.UpKIdeal.τ).loc Cert.UpKIdeal.main_arg3)) (m ((c.tc : Thread Cert.UpKIdeal.nD Cert.UpKIdeal.τ).loc Cert.UpKIdeal.main_arg4)) (m ((c.tc : Thread Cert.UpKIdeal.nD Cert.UpKIdeal.τ).loc Cert.UpKIdeal.main_arg5))).2.1 = (fun _ => 1#1)
    ∧ (Cert.Pre_finite_up.fn (F := Ideal) (m ((c.tc : Thread Cert.UpKIdeal.nD Cert.UpKIdeal.τ).loc Cert.UpKIdeal.main_arg0)) (m ((c.tc : Thread Cert.UpKIdeal.nD Cert.UpKIdeal.τ).loc Cert.UpKIdeal.main_arg1)) (m ((c.tc : Thread Cert.UpKIdeal.nD Cert.UpKIdeal.τ).loc Cert.UpKIdeal.main_arg2)) (m ((c.tc : Thread Cert.UpKIdeal.nD Cert.UpKIdeal.τ).loc Cert.UpKIdeal.main_arg3)) (m ((c.tc : Thread Cert.UpKIdeal.nD Cert.UpKIdeal.τ).loc Cert.UpKIdeal.main_arg4)) (m ((c.tc : Thread Cert.UpKIdeal.nD Cert.UpKIdeal.τ).loc Cert.UpKIdeal.main_arg5))).2.2.1 = (fun _ => 1#1)
    ∧ (Cert.Pre_finite_up.fn (F := Ideal) (m ((c.tc : Thread Cert.UpKIdeal.nD Cert.UpKIdeal.τ).loc Cert.UpKIdeal.main_arg0)) (m ((c.tc : Thread Cert.UpKIdeal.nD Cert.UpKIdeal.τ).loc Cert.UpKIdeal.main_arg1)) (m ((c.tc : Thread Cert.UpKIdeal.nD Cert.UpKIdeal.τ).loc Cert.UpKIdeal.main_arg2)) (m ((c.tc : Thread Cert.UpKIdeal.nD Cert.UpKIdeal.τ).loc Cert.UpKIdeal.main_arg3)) (m ((c.tc : Thread Cert.UpKIdeal.nD Cert.UpKIdeal.τ).loc Cert.UpKIdeal.main_arg4)) (m ((c.tc : Thread Cert.UpKIdeal.nD Cert.UpKIdeal.τ).loc Cert.UpKIdeal.main_arg5))).2.2.2.1 = (fun _ => 1#1)
    ∧ (Cert.Pre_finite_up.fn (F := Ideal) (m ((c.tc : Thread Cert.UpKIdeal.nD Cert.UpKIdeal.τ).loc Cert.UpKIdeal.main_arg0)) (m ((c.tc : Thread Cert.UpKIdeal.nD Cert.UpKIdeal.τ).loc Cert.UpKIdeal.main_arg1)) (m ((c.tc : Thread Cert.UpKIdeal.nD Cert.UpKIdeal.τ).loc Cert.UpKIdeal.main_arg2)) (m ((c.tc : Thread Cert.UpKIdeal.nD Cert.UpKIdeal.τ).loc Cert.UpKIdeal.main_arg3)) (m ((c.tc : Thread Cert.UpKIdeal.nD Cert.UpKIdeal.τ).loc Cert.UpKIdeal.main_arg4)) (m ((c.tc : Thread Cert.UpKIdeal.nD Cert.UpKIdeal.τ).loc Cert.UpKIdeal.main_arg5))).2.2.2.2.1 = (fun _ => 1#1)
    ∧ (Cert.Pre_finite_up.fn (F := Ideal) (m ((c.tc : Thread Cert.UpKIdeal.nD Cert.UpKIdeal.τ).loc Cert.UpKIdeal.main_arg0)) (m ((c.tc : Thread Cert.UpKIdeal.nD Cert.UpKIdeal.τ).loc Cert.UpKIdeal.main_arg1)) (m ((c.tc : Thread Cert.UpKIdeal.nD Cert.UpKIdeal.τ).loc Cert.UpKIdeal.main_arg2)) (m ((c.tc : Thread Cert.UpKIdeal.nD Cert.UpKIdeal.τ).loc Cert.UpKIdeal.main_arg3)) (m ((c.tc : Thread Cert.UpKIdeal.nD Cert.UpKIdeal.τ).loc Cert.UpKIdeal.main_arg4)) (m ((c.tc : Thread Cert.UpKIdeal.nD Cert.UpKIdeal.τ).loc Cert.UpKIdeal.main_arg5))).2.2.2.2.2 = (fun _ => 1#1)

def Pre_UpRIdeal (m : (ℓ : Loc Cert.UpRIdeal.nD Cert.UpRIdeal.τ Cert.UpRIdeal.sig) → Buf (Elt Ideal) ℓ) : Prop :=
  True

def Pre_UpRIdeal_finite_up [hPre_finite_up : Cert.Pre_finite_up.Facts] (m : (ℓ : Loc Cert.UpRIdeal.nD Cert.UpRIdeal.τ Cert.UpRIdeal.sig) → Buf (Elt Ideal) ℓ) : Prop :=
  ∀ c : Dev Cert.UpRIdeal.nD,
    (Cert.Pre_finite_up.fn (F := Ideal) (m ((c.tc : Thread Cert.UpRIdeal.nD Cert.UpRIdeal.τ).loc Cert.UpRIdeal.main_arg0)) (m ((c.tc : Thread Cert.UpRIdeal.nD Cert.UpRIdeal.τ).loc Cert.UpRIdeal.main_arg1)) (m ((c.tc : Thread Cert.UpRIdeal.nD Cert.UpRIdeal.τ).loc Cert.UpRIdeal.main_arg2)) (m ((c.tc : Thread Cert.UpRIdeal.nD Cert.UpRIdeal.τ).loc Cert.UpRIdeal.main_arg3)) (m ((c.tc : Thread Cert.UpRIdeal.nD Cert.UpRIdeal.τ).loc Cert.UpRIdeal.main_arg4)) (m ((c.tc : Thread Cert.UpRIdeal.nD Cert.UpRIdeal.τ).loc Cert.UpRIdeal.main_arg5))).1 = (fun _ => 1#1)
    ∧ (Cert.Pre_finite_up.fn (F := Ideal) (m ((c.tc : Thread Cert.UpRIdeal.nD Cert.UpRIdeal.τ).loc Cert.UpRIdeal.main_arg0)) (m ((c.tc : Thread Cert.UpRIdeal.nD Cert.UpRIdeal.τ).loc Cert.UpRIdeal.main_arg1)) (m ((c.tc : Thread Cert.UpRIdeal.nD Cert.UpRIdeal.τ).loc Cert.UpRIdeal.main_arg2)) (m ((c.tc : Thread Cert.UpRIdeal.nD Cert.UpRIdeal.τ).loc Cert.UpRIdeal.main_arg3)) (m ((c.tc : Thread Cert.UpRIdeal.nD Cert.UpRIdeal.τ).loc Cert.UpRIdeal.main_arg4)) (m ((c.tc : Thread Cert.UpRIdeal.nD Cert.UpRIdeal.τ).loc Cert.UpRIdeal.main_arg5))).2.1 = (fun _ => 1#1)
    ∧ (Cert.Pre_finite_up.fn (F := Ideal) (m ((c.tc : Thread Cert.UpRIdeal.nD Cert.UpRIdeal.τ).loc Cert.UpRIdeal.main_arg0)) (m ((c.tc : Thread Cert.UpRIdeal.nD Cert.UpRIdeal.τ).loc Cert.UpRIdeal.main_arg1)) (m ((c.tc : Thread Cert.UpRIdeal.nD Cert.UpRIdeal.τ).loc Cert.UpRIdeal.main_arg2)) (m ((c.tc : Thread Cert.UpRIdeal.nD Cert.UpRIdeal.τ).loc Cert.UpRIdeal.main_arg3)) (m ((c.tc : Thread Cert.UpRIdeal.nD Cert.UpRIdeal.τ).loc Cert.UpRIdeal.main_arg4)) (m ((c.tc : Thread Cert.UpRIdeal.nD Cert.UpRIdeal.τ).loc Cert.UpRIdeal.main_arg5))).2.2.1 = (fun _ => 1#1)
    ∧ (Cert.Pre_finite_up.fn (F := Ideal) (m ((c.tc : Thread Cert.UpRIdeal.nD Cert.UpRIdeal.τ).loc Cert.UpRIdeal.main_arg0)) (m ((c.tc : Thread Cert.UpRIdeal.nD Cert.UpRIdeal.τ).loc Cert.UpRIdeal.main_arg1)) (m ((c.tc : Thread Cert.UpRIdeal.nD Cert.UpRIdeal.τ).loc Cert.UpRIdeal.main_arg2)) (m ((c.tc : Thread Cert.UpRIdeal.nD Cert.UpRIdeal.τ).loc Cert.UpRIdeal.main_arg3)) (m ((c.tc : Thread Cert.UpRIdeal.nD Cert.UpRIdeal.τ).loc Cert.UpRIdeal.main_arg4)) (m ((c.tc : Thread Cert.UpRIdeal.nD Cert.UpRIdeal.τ).loc Cert.UpRIdeal.main_arg5))).2.2.2.1 = (fun _ => 1#1)
    ∧ (Cert.Pre_finite_up.fn (F := Ideal) (m ((c.tc : Thread Cert.UpRIdeal.nD Cert.UpRIdeal.τ).loc Cert.UpRIdeal.main_arg0)) (m ((c.tc : Thread Cert.UpRIdeal.nD Cert.UpRIdeal.τ).loc Cert.UpRIdeal.main_arg1)) (m ((c.tc : Thread Cert.UpRIdeal.nD Cert.UpRIdeal.τ).loc Cert.UpRIdeal.main_arg2)) (m ((c.tc : Thread Cert.UpRIdeal.nD Cert.UpRIdeal.τ).loc Cert.UpRIdeal.main_arg3)) (m ((c.tc : Thread Cert.UpRIdeal.nD Cert.UpRIdeal.τ).loc Cert.UpRIdeal.main_arg4)) (m ((c.tc : Thread Cert.UpRIdeal.nD Cert.UpRIdeal.τ).loc Cert.UpRIdeal.main_arg5))).2.2.2.2.1 = (fun _ => 1#1)
    ∧ (Cert.Pre_finite_up.fn (F := Ideal) (m ((c.tc : Thread Cert.UpRIdeal.nD Cert.UpRIdeal.τ).loc Cert.UpRIdeal.main_arg0)) (m ((c.tc : Thread Cert.UpRIdeal.nD Cert.UpRIdeal.τ).loc Cert.UpRIdeal.main_arg1)) (m ((c.tc : Thread Cert.UpRIdeal.nD Cert.UpRIdeal.τ).loc Cert.UpRIdeal.main_arg2)) (m ((c.tc : Thread Cert.UpRIdeal.nD Cert.UpRIdeal.τ).loc Cert.UpRIdeal.main_arg3)) (m ((c.tc : Thread Cert.UpRIdeal.nD Cert.UpRIdeal.τ).loc Cert.UpRIdeal.main_arg4)) (m ((c.tc : Thread Cert.UpRIdeal.nD Cert.UpRIdeal.τ).loc Cert.UpRIdeal.main_arg5))).2.2.2.2.2 = (fun _ => 1#1)

def Pre_PrK (m : (ℓ : Loc Cert.PrK.nD Cert.PrK.τ Cert.PrK.sig) → Buf (Elt Bits) ℓ) : Prop :=
  True

def Pre_PrKIdeal (m : (ℓ : Loc Cert.PrKIdeal.nD Cert.PrKIdeal.τ Cert.PrKIdeal.sig) → Buf (Elt Ideal) ℓ) : Prop :=
  True

def Pre_PrKIdeal_finite_pr [hPre_finite_pr : Cert.Pre_finite_pr.Facts] (m : (ℓ : Loc Cert.PrKIdeal.nD Cert.PrKIdeal.τ Cert.PrKIdeal.sig) → Buf (Elt Ideal) ℓ) : Prop :=
  ∀ c : Dev Cert.PrKIdeal.nD,
    (Cert.Pre_finite_pr.fn (F := Ideal) (m ((c.tc : Thread Cert.PrKIdeal.nD Cert.PrKIdeal.τ).loc Cert.PrKIdeal.main_arg0)) (m ((c.tc : Thread Cert.PrKIdeal.nD Cert.PrKIdeal.τ).loc Cert.PrKIdeal.main_arg1)) (m ((c.tc : Thread Cert.PrKIdeal.nD Cert.PrKIdeal.τ).loc Cert.PrKIdeal.main_arg2)) (m ((c.tc : Thread Cert.PrKIdeal.nD Cert.PrKIdeal.τ).loc Cert.PrKIdeal.main_arg3)) (m ((c.tc : Thread Cert.PrKIdeal.nD Cert.PrKIdeal.τ).loc Cert.PrKIdeal.main_arg4))).1 = (fun _ => 1#1)
    ∧ (Cert.Pre_finite_pr.fn (F := Ideal) (m ((c.tc : Thread Cert.PrKIdeal.nD Cert.PrKIdeal.τ).loc Cert.PrKIdeal.main_arg0)) (m ((c.tc : Thread Cert.PrKIdeal.nD Cert.PrKIdeal.τ).loc Cert.PrKIdeal.main_arg1)) (m ((c.tc : Thread Cert.PrKIdeal.nD Cert.PrKIdeal.τ).loc Cert.PrKIdeal.main_arg2)) (m ((c.tc : Thread Cert.PrKIdeal.nD Cert.PrKIdeal.τ).loc Cert.PrKIdeal.main_arg3)) (m ((c.tc : Thread Cert.PrKIdeal.nD Cert.PrKIdeal.τ).loc Cert.PrKIdeal.main_arg4))).2.1 = (fun _ => 1#1)
    ∧ (Cert.Pre_finite_pr.fn (F := Ideal) (m ((c.tc : Thread Cert.PrKIdeal.nD Cert.PrKIdeal.τ).loc Cert.PrKIdeal.main_arg0)) (m ((c.tc : Thread Cert.PrKIdeal.nD Cert.PrKIdeal.τ).loc Cert.PrKIdeal.main_arg1)) (m ((c.tc : Thread Cert.PrKIdeal.nD Cert.PrKIdeal.τ).loc Cert.PrKIdeal.main_arg2)) (m ((c.tc : Thread Cert.PrKIdeal.nD Cert.PrKIdeal.τ).loc Cert.PrKIdeal.main_arg3)) (m ((c.tc : Thread Cert.PrKIdeal.nD Cert.PrKIdeal.τ).loc Cert.PrKIdeal.main_arg4))).2.2.1 = (fun _ => 1#1)
    ∧ (Cert.Pre_finite_pr.fn (F := Ideal) (m ((c.tc : Thread Cert.PrKIdeal.nD Cert.PrKIdeal.τ).loc Cert.PrKIdeal.main_arg0)) (m ((c.tc : Thread Cert.PrKIdeal.nD Cert.PrKIdeal.τ).loc Cert.PrKIdeal.main_arg1)) (m ((c.tc : Thread Cert.PrKIdeal.nD Cert.PrKIdeal.τ).loc Cert.PrKIdeal.main_arg2)) (m ((c.tc : Thread Cert.PrKIdeal.nD Cert.PrKIdeal.τ).loc Cert.PrKIdeal.main_arg3)) (m ((c.tc : Thread Cert.PrKIdeal.nD Cert.PrKIdeal.τ).loc Cert.PrKIdeal.main_arg4))).2.2.2.1 = (fun _ => 1#1)
    ∧ (Cert.Pre_finite_pr.fn (F := Ideal) (m ((c.tc : Thread Cert.PrKIdeal.nD Cert.PrKIdeal.τ).loc Cert.PrKIdeal.main_arg0)) (m ((c.tc : Thread Cert.PrKIdeal.nD Cert.PrKIdeal.τ).loc Cert.PrKIdeal.main_arg1)) (m ((c.tc : Thread Cert.PrKIdeal.nD Cert.PrKIdeal.τ).loc Cert.PrKIdeal.main_arg2)) (m ((c.tc : Thread Cert.PrKIdeal.nD Cert.PrKIdeal.τ).loc Cert.PrKIdeal.main_arg3)) (m ((c.tc : Thread Cert.PrKIdeal.nD Cert.PrKIdeal.τ).loc Cert.PrKIdeal.main_arg4))).2.2.2.2 = (fun _ => 1#1)

def Pre_PrRIdeal (m : (ℓ : Loc Cert.PrRIdeal.nD Cert.PrRIdeal.τ Cert.PrRIdeal.sig) → Buf (Elt Ideal) ℓ) : Prop :=
  True

def Pre_PrRIdeal_finite_pr [hPre_finite_pr : Cert.Pre_finite_pr.Facts] (m : (ℓ : Loc Cert.PrRIdeal.nD Cert.PrRIdeal.τ Cert.PrRIdeal.sig) → Buf (Elt Ideal) ℓ) : Prop :=
  ∀ c : Dev Cert.PrRIdeal.nD,
    (Cert.Pre_finite_pr.fn (F := Ideal) (m ((c.tc : Thread Cert.PrRIdeal.nD Cert.PrRIdeal.τ).loc Cert.PrRIdeal.main_arg0)) (m ((c.tc : Thread Cert.PrRIdeal.nD Cert.PrRIdeal.τ).loc Cert.PrRIdeal.main_arg1)) (m ((c.tc : Thread Cert.PrRIdeal.nD Cert.PrRIdeal.τ).loc Cert.PrRIdeal.main_arg2)) (m ((c.tc : Thread Cert.PrRIdeal.nD Cert.PrRIdeal.τ).loc Cert.PrRIdeal.main_arg3)) (m ((c.tc : Thread Cert.PrRIdeal.nD Cert.PrRIdeal.τ).loc Cert.PrRIdeal.main_arg4))).1 = (fun _ => 1#1)
    ∧ (Cert.Pre_finite_pr.fn (F := Ideal) (m ((c.tc : Thread Cert.PrRIdeal.nD Cert.PrRIdeal.τ).loc Cert.PrRIdeal.main_arg0)) (m ((c.tc : Thread Cert.PrRIdeal.nD Cert.PrRIdeal.τ).loc Cert.PrRIdeal.main_arg1)) (m ((c.tc : Thread Cert.PrRIdeal.nD Cert.PrRIdeal.τ).loc Cert.PrRIdeal.main_arg2)) (m ((c.tc : Thread Cert.PrRIdeal.nD Cert.PrRIdeal.τ).loc Cert.PrRIdeal.main_arg3)) (m ((c.tc : Thread Cert.PrRIdeal.nD Cert.PrRIdeal.τ).loc Cert.PrRIdeal.main_arg4))).2.1 = (fun _ => 1#1)
    ∧ (Cert.Pre_finite_pr.fn (F := Ideal) (m ((c.tc : Thread Cert.PrRIdeal.nD Cert.PrRIdeal.τ).loc Cert.PrRIdeal.main_arg0)) (m ((c.tc : Thread Cert.PrRIdeal.nD Cert.PrRIdeal.τ).loc Cert.PrRIdeal.main_arg1)) (m ((c.tc : Thread Cert.PrRIdeal.nD Cert.PrRIdeal.τ).loc Cert.PrRIdeal.main_arg2)) (m ((c.tc : Thread Cert.PrRIdeal.nD Cert.PrRIdeal.τ).loc Cert.PrRIdeal.main_arg3)) (m ((c.tc : Thread Cert.PrRIdeal.nD Cert.PrRIdeal.τ).loc Cert.PrRIdeal.main_arg4))).2.2.1 = (fun _ => 1#1)
    ∧ (Cert.Pre_finite_pr.fn (F := Ideal) (m ((c.tc : Thread Cert.PrRIdeal.nD Cert.PrRIdeal.τ).loc Cert.PrRIdeal.main_arg0)) (m ((c.tc : Thread Cert.PrRIdeal.nD Cert.PrRIdeal.τ).loc Cert.PrRIdeal.main_arg1)) (m ((c.tc : Thread Cert.PrRIdeal.nD Cert.PrRIdeal.τ).loc Cert.PrRIdeal.main_arg2)) (m ((c.tc : Thread Cert.PrRIdeal.nD Cert.PrRIdeal.τ).loc Cert.PrRIdeal.main_arg3)) (m ((c.tc : Thread Cert.PrRIdeal.nD Cert.PrRIdeal.τ).loc Cert.PrRIdeal.main_arg4))).2.2.2.1 = (fun _ => 1#1)
    ∧ (Cert.Pre_finite_pr.fn (F := Ideal) (m ((c.tc : Thread Cert.PrRIdeal.nD Cert.PrRIdeal.τ).loc Cert.PrRIdeal.main_arg0)) (m ((c.tc : Thread Cert.PrRIdeal.nD Cert.PrRIdeal.τ).loc Cert.PrRIdeal.main_arg1)) (m ((c.tc : Thread Cert.PrRIdeal.nD Cert.PrRIdeal.τ).loc Cert.PrRIdeal.main_arg2)) (m ((c.tc : Thread Cert.PrRIdeal.nD Cert.PrRIdeal.τ).loc Cert.PrRIdeal.main_arg3)) (m ((c.tc : Thread Cert.PrRIdeal.nD Cert.PrRIdeal.τ).loc Cert.PrRIdeal.main_arg4))).2.2.2.2 = (fun _ => 1#1)

def Pre_HgrnK (m : (ℓ : Loc Cert.HgrnK.nD Cert.HgrnK.τ Cert.HgrnK.sig) → Buf (Elt Bits) ℓ) : Prop :=
  True

def Pre_HgrnKIdeal (m : (ℓ : Loc Cert.HgrnKIdeal.nD Cert.HgrnKIdeal.τ Cert.HgrnKIdeal.sig) → Buf (Elt Ideal) ℓ) : Prop :=
  True

def Pre_AttnFK (m : (ℓ : Loc Cert.AttnFK.nD Cert.AttnFK.τ Cert.AttnFK.sig) → Buf (Elt Bits) ℓ) : Prop :=
  True

def Pre_AttnFKIdeal (m : (ℓ : Loc Cert.AttnFKIdeal.nD Cert.AttnFKIdeal.τ Cert.AttnFKIdeal.sig) → Buf (Elt Ideal) ℓ) : Prop :=
  True

def Pre_AttnFRIdeal (m : (ℓ : Loc Cert.AttnFRIdeal.nD Cert.AttnFRIdeal.τ Cert.AttnFRIdeal.sig) → Buf (Elt Ideal) ℓ) : Prop :=
  True

def Pre_NormFK (m : (ℓ : Loc Cert.NormFK.nD Cert.NormFK.τ Cert.NormFK.sig) → Buf (Elt Bits) ℓ) : Prop :=
  True

def Pre_NormFKIdeal (m : (ℓ : Loc Cert.NormFKIdeal.nD Cert.NormFKIdeal.τ Cert.NormFKIdeal.sig) → Buf (Elt Ideal) ℓ) : Prop :=
  True

def Pre_NormFRIdeal (m : (ℓ : Loc Cert.NormFRIdeal.nD Cert.NormFRIdeal.τ Cert.NormFRIdeal.sig) → Buf (Elt Ideal) ℓ) : Prop :=
  True

def Pre_GmlpFK (m : (ℓ : Loc Cert.GmlpFK.nD Cert.GmlpFK.τ Cert.GmlpFK.sig) → Buf (Elt Bits) ℓ) : Prop :=
  True

def Pre_GmlpFKIdeal (m : (ℓ : Loc Cert.GmlpFKIdeal.nD Cert.GmlpFKIdeal.τ Cert.GmlpFKIdeal.sig) → Buf (Elt Ideal) ℓ) : Prop :=
  True

def Pre_GmlpFRIdeal (m : (ℓ : Loc Cert.GmlpFRIdeal.nD Cert.GmlpFRIdeal.τ Cert.GmlpFRIdeal.sig) → Buf (Elt Ideal) ℓ) : Prop :=
  True

def Pre_MergeFK (m : (ℓ : Loc Cert.MergeFK.nD Cert.MergeFK.τ Cert.MergeFK.sig) → Buf (Elt Bits) ℓ) : Prop :=
  True

def Pre_MergeFKIdeal (m : (ℓ : Loc Cert.MergeFKIdeal.nD Cert.MergeFKIdeal.τ Cert.MergeFKIdeal.sig) → Buf (Elt Ideal) ℓ) : Prop :=
  True

def Pre_MergeFRIdeal (m : (ℓ : Loc Cert.MergeFRIdeal.nD Cert.MergeFRIdeal.τ Cert.MergeFRIdeal.sig) → Buf (Elt Ideal) ℓ) : Prop :=
  True

def Pre_ConvFK (m : (ℓ : Loc Cert.ConvFK.nD Cert.ConvFK.τ Cert.ConvFK.sig) → Buf (Elt Bits) ℓ) : Prop :=
  True

def Pre_ConvFKIdeal (m : (ℓ : Loc Cert.ConvFKIdeal.nD Cert.ConvFKIdeal.τ Cert.ConvFKIdeal.sig) → Buf (Elt Ideal) ℓ) : Prop :=
  True

def Pre_ConvFRIdeal (m : (ℓ : Loc Cert.ConvFRIdeal.nD Cert.ConvFRIdeal.τ Cert.ConvFRIdeal.sig) → Buf (Elt Ideal) ℓ) : Prop :=
  True

def Pre_ProjFK (m : (ℓ : Loc Cert.ProjFK.nD Cert.ProjFK.τ Cert.ProjFK.sig) → Buf (Elt Bits) ℓ) : Prop :=
  True

def Pre_ProjFKIdeal (m : (ℓ : Loc Cert.ProjFKIdeal.nD Cert.ProjFKIdeal.τ Cert.ProjFKIdeal.sig) → Buf (Elt Ideal) ℓ) : Prop :=
  True

def Pre_ProjFRIdeal (m : (ℓ : Loc Cert.ProjFRIdeal.nD Cert.ProjFRIdeal.τ Cert.ProjFRIdeal.sig) → Buf (Elt Ideal) ℓ) : Prop :=
  True

def Pre_HgrnFK (m : (ℓ : Loc Cert.HgrnFK.nD Cert.HgrnFK.τ Cert.HgrnFK.sig) → Buf (Elt Bits) ℓ) : Prop :=
  True

def Pre_HgrnFKIdeal (m : (ℓ : Loc Cert.HgrnFKIdeal.nD Cert.HgrnFKIdeal.τ Cert.HgrnFKIdeal.sig) → Buf (Elt Ideal) ℓ) : Prop :=
  True

def Pre_DwK (m : (ℓ : Loc Cert.DwK.nD Cert.DwK.τ Cert.DwK.sig) → Buf (Elt Bits) ℓ) : Prop :=
  True

def Pre_DwKIdeal (m : (ℓ : Loc Cert.DwKIdeal.nD Cert.DwKIdeal.τ Cert.DwKIdeal.sig) → Buf (Elt Ideal) ℓ) : Prop :=
  True

def Pre_DwRIdeal (m : (ℓ : Loc Cert.DwRIdeal.nD Cert.DwRIdeal.τ Cert.DwRIdeal.sig) → Buf (Elt Ideal) ℓ) : Prop :=
  True

def Pre_AdamK (m : (ℓ : Loc Cert.AdamK.nD Cert.AdamK.τ Cert.AdamK.sig) → Buf (Elt Bits) ℓ) : Prop :=
  True

def Pre_AdamKIdeal (m : (ℓ : Loc Cert.AdamKIdeal.nD Cert.AdamKIdeal.τ Cert.AdamKIdeal.sig) → Buf (Elt Ideal) ℓ) : Prop :=
  True

def Pre_AdamRIdeal (m : (ℓ : Loc Cert.AdamRIdeal.nD Cert.AdamRIdeal.τ Cert.AdamRIdeal.sig) → Buf (Elt Ideal) ℓ) : Prop :=
  True

def quiescent_NormK [hNormK : Cert.NormK.Facts] : Prop :=
  ∀ (m : (ℓ : Loc Cert.NormK.nD Cert.NormK.τ Cert.NormK.sig) → Buf (Elt Bits) ℓ) (g : Dev Cert.NormK.nD → PrngReg), Pre_NormK m →
    θ_run (Cert.NormK.defs (F := Bits)) (onTc (τ := Cert.NormK.τ) (Cert.NormK.main (F := Bits))) ⟨m, fun _ => 0, g⟩ (fun r => (∀ c : Dev Cert.NormK.nD,
      r.2.mem ((c.tc : Thread Cert.NormK.nD Cert.NormK.τ).loc Cert.NormK.main_arg0) = m ((c.tc : Thread Cert.NormK.nD Cert.NormK.τ).loc Cert.NormK.main_arg0)
      ∧ r.2.mem ((c.tc : Thread Cert.NormK.nD Cert.NormK.τ).loc Cert.NormK.main_arg1) = m ((c.tc : Thread Cert.NormK.nD Cert.NormK.τ).loc Cert.NormK.main_arg1)
      ∧ r.2.mem ((c.tc : Thread Cert.NormK.nD Cert.NormK.τ).loc Cert.NormK.main_arg2) = m ((c.tc : Thread Cert.NormK.nD Cert.NormK.τ).loc Cert.NormK.main_arg2))
      ∧ r.2.sem = fun _ => 0)

def quiescent_NormKIdeal [hNormKIdeal : Cert.NormKIdeal.Facts] : Prop :=
  ∀ (m : (ℓ : Loc Cert.NormKIdeal.nD Cert.NormKIdeal.τ Cert.NormKIdeal.sig) → Buf (Elt Ideal) ℓ) (g : Dev Cert.NormKIdeal.nD → PrngReg), Pre_NormKIdeal m →
    θ_run (Cert.NormKIdeal.defs (F := Ideal)) (onTc (τ := Cert.NormKIdeal.τ) (Cert.NormKIdeal.main (F := Ideal))) ⟨m, fun _ => 0, g⟩ (fun r => (∀ c : Dev Cert.NormKIdeal.nD,
      r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
      ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
      ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2))
      ∧ r.2.sem = fun _ => 0)

def quiescent_NormKIdeal_pre_finite_norm [hNormKIdeal : Cert.NormKIdeal.Facts] [hPre_finite_norm : Cert.Pre_finite_norm.Facts] : Prop :=
  ∀ (m : (ℓ : Loc Cert.NormKIdeal.nD Cert.NormKIdeal.τ Cert.NormKIdeal.sig) → Buf (Elt Ideal) ℓ) (g : Dev Cert.NormKIdeal.nD → PrngReg), Pre_NormKIdeal_finite_norm m →
    θ_run (Cert.NormKIdeal.defs (F := Ideal)) (onTc (τ := Cert.NormKIdeal.τ) (Cert.NormKIdeal.main (F := Ideal))) ⟨m, fun _ => 0, g⟩ (fun r => (∀ c : Dev Cert.NormKIdeal.nD,
      r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
      ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
      ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2))
      ∧ r.2.sem = fun _ => 0)

def quiescent_NormRIdeal [hNormRIdeal : Cert.NormRIdeal.Facts] : Prop :=
  ∀ (m : (ℓ : Loc Cert.NormRIdeal.nD Cert.NormRIdeal.τ Cert.NormRIdeal.sig) → Buf (Elt Ideal) ℓ) (g : Dev Cert.NormRIdeal.nD → PrngReg), Pre_NormRIdeal m →
    θ_run (Cert.NormRIdeal.defs (F := Ideal)) (onTc (τ := Cert.NormRIdeal.τ) (Cert.NormRIdeal.main (F := Ideal))) ⟨m, fun _ => 0, g⟩ (fun r => (∀ c : Dev Cert.NormRIdeal.nD,
      r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
      ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1)
      ∧ r.2.mem ((c.tc : Thread Cert.NormRIdeal.nD Cert.NormRIdeal.τ).loc Cert.NormRIdeal.main_arg2) = m ((c.tc : Thread Cert.NormRIdeal.nD Cert.NormRIdeal.τ).loc Cert.NormRIdeal.main_arg2))
      ∧ r.2.sem = fun _ => 0)

def quiescent_NormRIdeal_pre_finite_norm [hNormRIdeal : Cert.NormRIdeal.Facts] [hPre_finite_norm : Cert.Pre_finite_norm.Facts] : Prop :=
  ∀ (m : (ℓ : Loc Cert.NormRIdeal.nD Cert.NormRIdeal.τ Cert.NormRIdeal.sig) → Buf (Elt Ideal) ℓ) (g : Dev Cert.NormRIdeal.nD → PrngReg), Pre_NormRIdeal_finite_norm m →
    θ_run (Cert.NormRIdeal.defs (F := Ideal)) (onTc (τ := Cert.NormRIdeal.τ) (Cert.NormRIdeal.main (F := Ideal))) ⟨m, fun _ => 0, g⟩ (fun r => (∀ c : Dev Cert.NormRIdeal.nD,
      r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
      ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1)
      ∧ r.2.mem ((c.tc : Thread Cert.NormRIdeal.nD Cert.NormRIdeal.τ).loc Cert.NormRIdeal.main_arg2) = m ((c.tc : Thread Cert.NormRIdeal.nD Cert.NormRIdeal.τ).loc Cert.NormRIdeal.main_arg2))
      ∧ r.2.sem = fun _ => 0)

def quiescent_AttnK [hAttnK : Cert.AttnK.Facts] : Prop :=
  ∀ (m : (ℓ : Loc Cert.AttnK.nD Cert.AttnK.τ Cert.AttnK.sig) → Buf (Elt Bits) ℓ) (g : Dev Cert.AttnK.nD → PrngReg), Pre_AttnK m →
    θ_run (Cert.AttnK.defs (F := Bits)) (onTc (τ := Cert.AttnK.τ) (Cert.AttnK.main (F := Bits))) ⟨m, fun _ => 0, g⟩ (fun r => (∀ c : Dev Cert.AttnK.nD,
      r.2.mem ((c.tc : Thread Cert.AttnK.nD Cert.AttnK.τ).loc Cert.AttnK.main_arg0) = m ((c.tc : Thread Cert.AttnK.nD Cert.AttnK.τ).loc Cert.AttnK.main_arg0)
      ∧ r.2.mem ((c.tc : Thread Cert.AttnK.nD Cert.AttnK.τ).loc Cert.AttnK.main_arg1) = m ((c.tc : Thread Cert.AttnK.nD Cert.AttnK.τ).loc Cert.AttnK.main_arg1)
      ∧ r.2.mem ((c.tc : Thread Cert.AttnK.nD Cert.AttnK.τ).loc Cert.AttnK.main_arg2) = m ((c.tc : Thread Cert.AttnK.nD Cert.AttnK.τ).loc Cert.AttnK.main_arg2))
      ∧ r.2.sem = fun _ => 0)

def quiescent_AttnKIdeal [hAttnKIdeal : Cert.AttnKIdeal.Facts] : Prop :=
  ∀ (m : (ℓ : Loc Cert.AttnKIdeal.nD Cert.AttnKIdeal.τ Cert.AttnKIdeal.sig) → Buf (Elt Ideal) ℓ) (g : Dev Cert.AttnKIdeal.nD → PrngReg), Pre_AttnKIdeal m →
    θ_run (Cert.AttnKIdeal.defs (F := Ideal)) (onTc (τ := Cert.AttnKIdeal.τ) (Cert.AttnKIdeal.main (F := Ideal))) ⟨m, fun _ => 0, g⟩ (fun r => (∀ c : Dev Cert.AttnKIdeal.nD,
      r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
      ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
      ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2))
      ∧ r.2.sem = fun _ => 0)

def quiescent_AttnKIdeal_pre_finite_attn [hAttnKIdeal : Cert.AttnKIdeal.Facts] [hPre_finite_attn : Cert.Pre_finite_attn.Facts] : Prop :=
  ∀ (m : (ℓ : Loc Cert.AttnKIdeal.nD Cert.AttnKIdeal.τ Cert.AttnKIdeal.sig) → Buf (Elt Ideal) ℓ) (g : Dev Cert.AttnKIdeal.nD → PrngReg), Pre_AttnKIdeal_finite_attn m →
    θ_run (Cert.AttnKIdeal.defs (F := Ideal)) (onTc (τ := Cert.AttnKIdeal.τ) (Cert.AttnKIdeal.main (F := Ideal))) ⟨m, fun _ => 0, g⟩ (fun r => (∀ c : Dev Cert.AttnKIdeal.nD,
      r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
      ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
      ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2))
      ∧ r.2.sem = fun _ => 0)

def quiescent_AttnRIdeal [hAttnRIdeal : Cert.AttnRIdeal.Facts] : Prop :=
  ∀ (m : (ℓ : Loc Cert.AttnRIdeal.nD Cert.AttnRIdeal.τ Cert.AttnRIdeal.sig) → Buf (Elt Ideal) ℓ) (g : Dev Cert.AttnRIdeal.nD → PrngReg), Pre_AttnRIdeal m →
    θ_run (Cert.AttnRIdeal.defs (F := Ideal)) (onTc (τ := Cert.AttnRIdeal.τ) (Cert.AttnRIdeal.main (F := Ideal))) ⟨m, fun _ => 0, g⟩ (fun r => (∀ c : Dev Cert.AttnRIdeal.nD,
      r.2.mem ((c.tc : Thread Cert.AttnRIdeal.nD Cert.AttnRIdeal.τ).loc Cert.AttnRIdeal.main_arg0) = m ((c.tc : Thread Cert.AttnRIdeal.nD Cert.AttnRIdeal.τ).loc Cert.AttnRIdeal.main_arg0)
      ∧ r.2.mem ((c.tc : Thread Cert.AttnRIdeal.nD Cert.AttnRIdeal.τ).loc Cert.AttnRIdeal.main_arg1) = m ((c.tc : Thread Cert.AttnRIdeal.nD Cert.AttnRIdeal.τ).loc Cert.AttnRIdeal.main_arg1)
      ∧ r.2.mem ((c.tc : Thread Cert.AttnRIdeal.nD Cert.AttnRIdeal.τ).loc Cert.AttnRIdeal.main_arg2) = m ((c.tc : Thread Cert.AttnRIdeal.nD Cert.AttnRIdeal.τ).loc Cert.AttnRIdeal.main_arg2))
      ∧ r.2.sem = fun _ => 0)

def quiescent_AttnRIdeal_pre_finite_attn [hAttnRIdeal : Cert.AttnRIdeal.Facts] [hPre_finite_attn : Cert.Pre_finite_attn.Facts] : Prop :=
  ∀ (m : (ℓ : Loc Cert.AttnRIdeal.nD Cert.AttnRIdeal.τ Cert.AttnRIdeal.sig) → Buf (Elt Ideal) ℓ) (g : Dev Cert.AttnRIdeal.nD → PrngReg), Pre_AttnRIdeal_finite_attn m →
    θ_run (Cert.AttnRIdeal.defs (F := Ideal)) (onTc (τ := Cert.AttnRIdeal.τ) (Cert.AttnRIdeal.main (F := Ideal))) ⟨m, fun _ => 0, g⟩ (fun r => (∀ c : Dev Cert.AttnRIdeal.nD,
      r.2.mem ((c.tc : Thread Cert.AttnRIdeal.nD Cert.AttnRIdeal.τ).loc Cert.AttnRIdeal.main_arg0) = m ((c.tc : Thread Cert.AttnRIdeal.nD Cert.AttnRIdeal.τ).loc Cert.AttnRIdeal.main_arg0)
      ∧ r.2.mem ((c.tc : Thread Cert.AttnRIdeal.nD Cert.AttnRIdeal.τ).loc Cert.AttnRIdeal.main_arg1) = m ((c.tc : Thread Cert.AttnRIdeal.nD Cert.AttnRIdeal.τ).loc Cert.AttnRIdeal.main_arg1)
      ∧ r.2.mem ((c.tc : Thread Cert.AttnRIdeal.nD Cert.AttnRIdeal.τ).loc Cert.AttnRIdeal.main_arg2) = m ((c.tc : Thread Cert.AttnRIdeal.nD Cert.AttnRIdeal.τ).loc Cert.AttnRIdeal.main_arg2))
      ∧ r.2.sem = fun _ => 0)

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1)
      ∧ r.2.mem ((c.tc : Thread Cert.ConvK.nD Cert.ConvK.τ).loc Cert.ConvK.main_arg2) = m ((c.tc : Thread Cert.ConvK.nD Cert.ConvK.τ).loc Cert.ConvK.main_arg2)
      ∧ r.2.mem ((c.tc : Thread Cert.ConvK.nD Cert.ConvK.τ).loc Cert.ConvK.main_arg3) = m ((c.tc : Thread Cert.ConvK.nD Cert.ConvK.τ).loc Cert.ConvK.main_arg3)
      ∧ r.2.mem ((c.tc : Thread Cert.ConvK.nD Cert.ConvK.τ).loc Cert.ConvK.main_arg4) = m ((c.tc : Thread Cert.ConvK.nD Cert.ConvK.τ).loc Cert.ConvK.main_arg4)
      ∧ r.2.mem ((c.tc : Thread Cert.ConvK.nD Cert.ConvK.τ).loc Cert.ConvK.main_arg5) = m ((c.tc : Thread Cert.ConvK.nD Cert.ConvK.τ).loc Cert.ConvK.main_arg5))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
      ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3)
      ∧ r.2.mem ((c.tc : Thread Cert.ConvKIdeal.nD Cert.ConvKIdeal.τ).loc Cert.ConvKIdeal.main_arg4) = m ((c.tc : Thread Cert.ConvKIdeal.nD Cert.ConvKIdeal.τ).loc Cert.ConvKIdeal.main_arg4)
      ∧ r.2.mem ((c.tc : Thread Cert.ConvKIdeal.nD Cert.ConvKIdeal.τ).loc Cert.ConvKIdeal.main_arg5) = m ((c.tc : Thread Cert.ConvKIdeal.nD Cert.ConvKIdeal.τ).loc Cert.ConvKIdeal.main_arg5))
      ∧ r.2.sem = fun _ => 0)

def quiescent_ConvKIdeal_pre_finite_conv [hConvKIdeal : Cert.ConvKIdeal.Facts] [hPre_finite_conv : Cert.Pre_finite_conv.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal_finite_conv m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
      ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3)
      ∧ r.2.mem ((c.tc : Thread Cert.ConvKIdeal.nD Cert.ConvKIdeal.τ).loc Cert.ConvKIdeal.main_arg4) = m ((c.tc : Thread Cert.ConvKIdeal.nD Cert.ConvKIdeal.τ).loc Cert.ConvKIdeal.main_arg4)
      ∧ r.2.mem ((c.tc : Thread Cert.ConvKIdeal.nD Cert.ConvKIdeal.τ).loc Cert.ConvKIdeal.main_arg5) = m ((c.tc : Thread Cert.ConvKIdeal.nD Cert.ConvKIdeal.τ).loc Cert.ConvKIdeal.main_arg5))
      ∧ r.2.sem = fun _ => 0)

def quiescent_ConvRIdeal [hConvRIdeal : Cert.ConvRIdeal.Facts] : Prop :=
  ∀ (m : (ℓ : Loc Cert.ConvRIdeal.nD Cert.ConvRIdeal.τ Cert.ConvRIdeal.sig) → Buf (Elt Ideal) ℓ) (g : Dev Cert.ConvRIdeal.nD → PrngReg), Pre_ConvRIdeal m →
    θ_run (Cert.ConvRIdeal.defs (F := Ideal)) (onTc (τ := Cert.ConvRIdeal.τ) (Cert.ConvRIdeal.main (F := Ideal))) ⟨m, fun _ => 0, g⟩ (fun r => (∀ c : Dev Cert.ConvRIdeal.nD,
      r.2.mem ((c.tc : Thread Cert.ConvRIdeal.nD Cert.ConvRIdeal.τ).loc Cert.ConvRIdeal.main_arg0) = m ((c.tc : Thread Cert.ConvRIdeal.nD Cert.ConvRIdeal.τ).loc Cert.ConvRIdeal.main_arg0)
      ∧ r.2.mem ((c.tc : Thread Cert.ConvRIdeal.nD Cert.ConvRIdeal.τ).loc Cert.ConvRIdeal.main_arg1) = m ((c.tc : Thread Cert.ConvRIdeal.nD Cert.ConvRIdeal.τ).loc Cert.ConvRIdeal.main_arg1)
      ∧ r.2.mem ((c.tc : Thread Cert.ConvRIdeal.nD Cert.ConvRIdeal.τ).loc Cert.ConvRIdeal.main_arg2) = m ((c.tc : Thread Cert.ConvRIdeal.nD Cert.ConvRIdeal.τ).loc Cert.ConvRIdeal.main_arg2)
      ∧ r.2.mem ((c.tc : Thread Cert.ConvRIdeal.nD Cert.ConvRIdeal.τ).loc Cert.ConvRIdeal.main_arg3) = m ((c.tc : Thread Cert.ConvRIdeal.nD Cert.ConvRIdeal.τ).loc Cert.ConvRIdeal.main_arg3)
      ∧ r.2.mem ((c.tc : Thread Cert.ConvRIdeal.nD Cert.ConvRIdeal.τ).loc Cert.ConvRIdeal.main_arg4) = m ((c.tc : Thread Cert.ConvRIdeal.nD Cert.ConvRIdeal.τ).loc Cert.ConvRIdeal.main_arg4)
      ∧ r.2.mem ((c.tc : Thread Cert.ConvRIdeal.nD Cert.ConvRIdeal.τ).loc Cert.ConvRIdeal.main_arg5) = m ((c.tc : Thread Cert.ConvRIdeal.nD Cert.ConvRIdeal.τ).loc Cert.ConvRIdeal.main_arg5))
      ∧ r.2.sem = fun _ => 0)

def quiescent_ConvRIdeal_pre_finite_conv [hConvRIdeal : Cert.ConvRIdeal.Facts] [hPre_finite_conv : Cert.Pre_finite_conv.Facts] : Prop :=
  ∀ (m : (ℓ : Loc Cert.ConvRIdeal.nD Cert.ConvRIdeal.τ Cert.ConvRIdeal.sig) → Buf (Elt Ideal) ℓ) (g : Dev Cert.ConvRIdeal.nD → PrngReg), Pre_ConvRIdeal_finite_conv m →
    θ_run (Cert.ConvRIdeal.defs (F := Ideal)) (onTc (τ := Cert.ConvRIdeal.τ) (Cert.ConvRIdeal.main (F := Ideal))) ⟨m, fun _ => 0, g⟩ (fun r => (∀ c : Dev Cert.ConvRIdeal.nD,
      r.2.mem ((c.tc : Thread Cert.ConvRIdeal.nD Cert.ConvRIdeal.τ).loc Cert.ConvRIdeal.main_arg0) = m ((c.tc : Thread Cert.ConvRIdeal.nD Cert.ConvRIdeal.τ).loc Cert.ConvRIdeal.main_arg0)
      ∧ r.2.mem ((c.tc : Thread Cert.ConvRIdeal.nD Cert.ConvRIdeal.τ).loc Cert.ConvRIdeal.main_arg1) = m ((c.tc : Thread Cert.ConvRIdeal.nD Cert.ConvRIdeal.τ).loc Cert.ConvRIdeal.main_arg1)
      ∧ r.2.mem ((c.tc : Thread Cert.ConvRIdeal.nD Cert.ConvRIdeal.τ).loc Cert.ConvRIdeal.main_arg2) = m ((c.tc : Thread Cert.ConvRIdeal.nD Cert.ConvRIdeal.τ).loc Cert.ConvRIdeal.main_arg2)
      ∧ r.2.mem ((c.tc : Thread Cert.ConvRIdeal.nD Cert.ConvRIdeal.τ).loc Cert.ConvRIdeal.main_arg3) = m ((c.tc : Thread Cert.ConvRIdeal.nD Cert.ConvRIdeal.τ).loc Cert.ConvRIdeal.main_arg3)
      ∧ r.2.mem ((c.tc : Thread Cert.ConvRIdeal.nD Cert.ConvRIdeal.τ).loc Cert.ConvRIdeal.main_arg4) = m ((c.tc : Thread Cert.ConvRIdeal.nD Cert.ConvRIdeal.τ).loc Cert.ConvRIdeal.main_arg4)
      ∧ r.2.mem ((c.tc : Thread Cert.ConvRIdeal.nD Cert.ConvRIdeal.τ).loc Cert.ConvRIdeal.main_arg5) = m ((c.tc : Thread Cert.ConvRIdeal.nD Cert.ConvRIdeal.τ).loc Cert.ConvRIdeal.main_arg5))
      ∧ r.2.sem = fun _ => 0)

def quiescent_GmlpK [hGmlpK : Cert.GmlpK.Facts] : Prop :=
  ∀ (m : (ℓ : Loc Cert.GmlpK.nD Cert.GmlpK.τ Cert.GmlpK.sig) → Buf (Elt Bits) ℓ) (g : Dev Cert.GmlpK.nD → PrngReg), Pre_GmlpK m →
    θ_run (Cert.GmlpK.defs (F := Bits)) (onTc (τ := Cert.GmlpK.τ) (Cert.GmlpK.main (F := Bits))) ⟨m, fun _ => 0, g⟩ (fun r => (∀ c : Dev Cert.GmlpK.nD,
      r.2.mem ((c.tc : Thread Cert.GmlpK.nD Cert.GmlpK.τ).loc Cert.GmlpK.main_arg0) = m ((c.tc : Thread Cert.GmlpK.nD Cert.GmlpK.τ).loc Cert.GmlpK.main_arg0)
      ∧ r.2.mem ((c.tc : Thread Cert.GmlpK.nD Cert.GmlpK.τ).loc Cert.GmlpK.main_arg1) = m ((c.tc : Thread Cert.GmlpK.nD Cert.GmlpK.τ).loc Cert.GmlpK.main_arg1)
      ∧ r.2.mem ((c.tc : Thread Cert.GmlpK.nD Cert.GmlpK.τ).loc Cert.GmlpK.main_arg2) = m ((c.tc : Thread Cert.GmlpK.nD Cert.GmlpK.τ).loc Cert.GmlpK.main_arg2)
      ∧ r.2.mem ((c.tc : Thread Cert.GmlpK.nD Cert.GmlpK.τ).loc Cert.GmlpK.main_arg3) = m ((c.tc : Thread Cert.GmlpK.nD Cert.GmlpK.τ).loc Cert.GmlpK.main_arg3)
      ∧ r.2.mem ((c.tc : Thread Cert.GmlpK.nD Cert.GmlpK.τ).loc Cert.GmlpK.main_arg4) = m ((c.tc : Thread Cert.GmlpK.nD Cert.GmlpK.τ).loc Cert.GmlpK.main_arg4)
      ∧ r.2.mem ((c.tc : Thread Cert.GmlpK.nD Cert.GmlpK.τ).loc Cert.GmlpK.main_arg5) = m ((c.tc : Thread Cert.GmlpK.nD Cert.GmlpK.τ).loc Cert.GmlpK.main_arg5))
      ∧ r.2.sem = fun _ => 0)

def quiescent_GmlpKIdeal [hGmlpKIdeal : Cert.GmlpKIdeal.Facts] : Prop :=
  ∀ (m : (ℓ : Loc Cert.GmlpKIdeal.nD Cert.GmlpKIdeal.τ Cert.GmlpKIdeal.sig) → Buf (Elt Ideal) ℓ) (g : Dev Cert.GmlpKIdeal.nD → PrngReg), Pre_GmlpKIdeal m →
    θ_run (Cert.GmlpKIdeal.defs (F := Ideal)) (onTc (τ := Cert.GmlpKIdeal.τ) (Cert.GmlpKIdeal.main (F := Ideal))) ⟨m, fun _ => 0, g⟩ (fun r => (∀ c : Dev Cert.GmlpKIdeal.nD,
      r.2.mem ((c.tc : Thread Cert.GmlpKIdeal.nD Cert.GmlpKIdeal.τ).loc Cert.GmlpKIdeal.main_arg0) = m ((c.tc : Thread Cert.GmlpKIdeal.nD Cert.GmlpKIdeal.τ).loc Cert.GmlpKIdeal.main_arg0)
      ∧ r.2.mem ((c.tc : Thread Cert.GmlpKIdeal.nD Cert.GmlpKIdeal.τ).loc Cert.GmlpKIdeal.main_arg1) = m ((c.tc : Thread Cert.GmlpKIdeal.nD Cert.GmlpKIdeal.τ).loc Cert.GmlpKIdeal.main_arg1)
      ∧ r.2.mem ((c.tc : Thread Cert.GmlpKIdeal.nD Cert.GmlpKIdeal.τ).loc Cert.GmlpKIdeal.main_arg2) = m ((c.tc : Thread Cert.GmlpKIdeal.nD Cert.GmlpKIdeal.τ).loc Cert.GmlpKIdeal.main_arg2)
      ∧ r.2.mem ((c.tc : Thread Cert.GmlpKIdeal.nD Cert.GmlpKIdeal.τ).loc Cert.GmlpKIdeal.main_arg3) = m ((c.tc : Thread Cert.GmlpKIdeal.nD Cert.GmlpKIdeal.τ).loc Cert.GmlpKIdeal.main_arg3)
      ∧ r.2.mem ((c.tc : Thread Cert.GmlpKIdeal.nD Cert.GmlpKIdeal.τ).loc Cert.GmlpKIdeal.main_arg4) = m ((c.tc : Thread Cert.GmlpKIdeal.nD Cert.GmlpKIdeal.τ).loc Cert.GmlpKIdeal.main_arg4)
      ∧ r.2.mem ((c.tc : Thread Cert.GmlpKIdeal.nD Cert.GmlpKIdeal.τ).loc Cert.GmlpKIdeal.main_arg5) = m ((c.tc : Thread Cert.GmlpKIdeal.nD Cert.GmlpKIdeal.τ).loc Cert.GmlpKIdeal.main_arg5))
      ∧ r.2.sem = fun _ => 0)

def quiescent_GmlpKIdeal_pre_finite_gmlp [hGmlpKIdeal : Cert.GmlpKIdeal.Facts] [hPre_finite_gmlp : Cert.Pre_finite_gmlp.Facts] : Prop :=
  ∀ (m : (ℓ : Loc Cert.GmlpKIdeal.nD Cert.GmlpKIdeal.τ Cert.GmlpKIdeal.sig) → Buf (Elt Ideal) ℓ) (g : Dev Cert.GmlpKIdeal.nD → PrngReg), Pre_GmlpKIdeal_finite_gmlp m →
    θ_run (Cert.GmlpKIdeal.defs (F := Ideal)) (onTc (τ := Cert.GmlpKIdeal.τ) (Cert.GmlpKIdeal.main (F := Ideal))) ⟨m, fun _ => 0, g⟩ (fun r => (∀ c : Dev Cert.GmlpKIdeal.nD,
      r.2.mem ((c.tc : Thread Cert.GmlpKIdeal.nD Cert.GmlpKIdeal.τ).loc Cert.GmlpKIdeal.main_arg0) = m ((c.tc : Thread Cert.GmlpKIdeal.nD Cert.GmlpKIdeal.τ).loc Cert.GmlpKIdeal.main_arg0)
      ∧ r.2.mem ((c.tc : Thread Cert.GmlpKIdeal.nD Cert.GmlpKIdeal.τ).loc Cert.GmlpKIdeal.main_arg1) = m ((c.tc : Thread Cert.GmlpKIdeal.nD Cert.GmlpKIdeal.τ).loc Cert.GmlpKIdeal.main_arg1)
      ∧ r.2.mem ((c.tc : Thread Cert.GmlpKIdeal.nD Cert.GmlpKIdeal.τ).loc Cert.GmlpKIdeal.main_arg2) = m ((c.tc : Thread Cert.GmlpKIdeal.nD Cert.GmlpKIdeal.τ).loc Cert.GmlpKIdeal.main_arg2)
      ∧ r.2.mem ((c.tc : Thread Cert.GmlpKIdeal.nD Cert.GmlpKIdeal.τ).loc Cert.GmlpKIdeal.main_arg3) = m ((c.tc : Thread Cert.GmlpKIdeal.nD Cert.GmlpKIdeal.τ).loc Cert.GmlpKIdeal.main_arg3)
      ∧ r.2.mem ((c.tc : Thread Cert.GmlpKIdeal.nD Cert.GmlpKIdeal.τ).loc Cert.GmlpKIdeal.main_arg4) = m ((c.tc : Thread Cert.GmlpKIdeal.nD Cert.GmlpKIdeal.τ).loc Cert.GmlpKIdeal.main_arg4)
      ∧ r.2.mem ((c.tc : Thread Cert.GmlpKIdeal.nD Cert.GmlpKIdeal.τ).loc Cert.GmlpKIdeal.main_arg5) = m ((c.tc : Thread Cert.GmlpKIdeal.nD Cert.GmlpKIdeal.τ).loc Cert.GmlpKIdeal.main_arg5))
      ∧ r.2.sem = fun _ => 0)

def quiescent_GmlpRIdeal [hGmlpRIdeal : Cert.GmlpRIdeal.Facts] : Prop :=
  ∀ (m : (ℓ : Loc Cert.GmlpRIdeal.nD Cert.GmlpRIdeal.τ Cert.GmlpRIdeal.sig) → Buf (Elt Ideal) ℓ) (g : Dev Cert.GmlpRIdeal.nD → PrngReg), Pre_GmlpRIdeal m →
    θ_run (Cert.GmlpRIdeal.defs (F := Ideal)) (onTc (τ := Cert.GmlpRIdeal.τ) (Cert.GmlpRIdeal.main (F := Ideal))) ⟨m, fun _ => 0, g⟩ (fun r => (∀ c : Dev Cert.GmlpRIdeal.nD,
      r.2.mem ((c.tc : Thread Cert.GmlpRIdeal.nD Cert.GmlpRIdeal.τ).loc Cert.GmlpRIdeal.main_arg0) = m ((c.tc : Thread Cert.GmlpRIdeal.nD Cert.GmlpRIdeal.τ).loc Cert.GmlpRIdeal.main_arg0)
      ∧ r.2.mem ((c.tc : Thread Cert.GmlpRIdeal.nD Cert.GmlpRIdeal.τ).loc Cert.GmlpRIdeal.main_arg1) = m ((c.tc : Thread Cert.GmlpRIdeal.nD Cert.GmlpRIdeal.τ).loc Cert.GmlpRIdeal.main_arg1)
      ∧ r.2.mem ((c.tc : Thread Cert.GmlpRIdeal.nD Cert.GmlpRIdeal.τ).loc Cert.GmlpRIdeal.main_arg2) = m ((c.tc : Thread Cert.GmlpRIdeal.nD Cert.GmlpRIdeal.τ).loc Cert.GmlpRIdeal.main_arg2)
      ∧ r.2.mem ((c.tc : Thread Cert.GmlpRIdeal.nD Cert.GmlpRIdeal.τ).loc Cert.GmlpRIdeal.main_arg3) = m ((c.tc : Thread Cert.GmlpRIdeal.nD Cert.GmlpRIdeal.τ).loc Cert.GmlpRIdeal.main_arg3)
      ∧ r.2.mem ((c.tc : Thread Cert.GmlpRIdeal.nD Cert.GmlpRIdeal.τ).loc Cert.GmlpRIdeal.main_arg4) = m ((c.tc : Thread Cert.GmlpRIdeal.nD Cert.GmlpRIdeal.τ).loc Cert.GmlpRIdeal.main_arg4)
      ∧ r.2.mem ((c.tc : Thread Cert.GmlpRIdeal.nD Cert.GmlpRIdeal.τ).loc Cert.GmlpRIdeal.main_arg5) = m ((c.tc : Thread Cert.GmlpRIdeal.nD Cert.GmlpRIdeal.τ).loc Cert.GmlpRIdeal.main_arg5))
      ∧ r.2.sem = fun _ => 0)

def quiescent_GmlpRIdeal_pre_finite_gmlp [hGmlpRIdeal : Cert.GmlpRIdeal.Facts] [hPre_finite_gmlp : Cert.Pre_finite_gmlp.Facts] : Prop :=
  ∀ (m : (ℓ : Loc Cert.GmlpRIdeal.nD Cert.GmlpRIdeal.τ Cert.GmlpRIdeal.sig) → Buf (Elt Ideal) ℓ) (g : Dev Cert.GmlpRIdeal.nD → PrngReg), Pre_GmlpRIdeal_finite_gmlp m →
    θ_run (Cert.GmlpRIdeal.defs (F := Ideal)) (onTc (τ := Cert.GmlpRIdeal.τ) (Cert.GmlpRIdeal.main (F := Ideal))) ⟨m, fun _ => 0, g⟩ (fun r => (∀ c : Dev Cert.GmlpRIdeal.nD,
      r.2.mem ((c.tc : Thread Cert.GmlpRIdeal.nD Cert.GmlpRIdeal.τ).loc Cert.GmlpRIdeal.main_arg0) = m ((c.tc : Thread Cert.GmlpRIdeal.nD Cert.GmlpRIdeal.τ).loc Cert.GmlpRIdeal.main_arg0)
      ∧ r.2.mem ((c.tc : Thread Cert.GmlpRIdeal.nD Cert.GmlpRIdeal.τ).loc Cert.GmlpRIdeal.main_arg1) = m ((c.tc : Thread Cert.GmlpRIdeal.nD Cert.GmlpRIdeal.τ).loc Cert.GmlpRIdeal.main_arg1)
      ∧ r.2.mem ((c.tc : Thread Cert.GmlpRIdeal.nD Cert.GmlpRIdeal.τ).loc Cert.GmlpRIdeal.main_arg2) = m ((c.tc : Thread Cert.GmlpRIdeal.nD Cert.GmlpRIdeal.τ).loc Cert.GmlpRIdeal.main_arg2)
      ∧ r.2.mem ((c.tc : Thread Cert.GmlpRIdeal.nD Cert.GmlpRIdeal.τ).loc Cert.GmlpRIdeal.main_arg3) = m ((c.tc : Thread Cert.GmlpRIdeal.nD Cert.GmlpRIdeal.τ).loc Cert.GmlpRIdeal.main_arg3)
      ∧ r.2.mem ((c.tc : Thread Cert.GmlpRIdeal.nD Cert.GmlpRIdeal.τ).loc Cert.GmlpRIdeal.main_arg4) = m ((c.tc : Thread Cert.GmlpRIdeal.nD Cert.GmlpRIdeal.τ).loc Cert.GmlpRIdeal.main_arg4)
      ∧ r.2.mem ((c.tc : Thread Cert.GmlpRIdeal.nD Cert.GmlpRIdeal.τ).loc Cert.GmlpRIdeal.main_arg5) = m ((c.tc : Thread Cert.GmlpRIdeal.nD Cert.GmlpRIdeal.τ).loc Cert.GmlpRIdeal.main_arg5))
      ∧ r.2.sem = fun _ => 0)

def quiescent_MergeK [hMergeK : Cert.MergeK.Facts] : Prop :=
  ∀ (m : (ℓ : Loc Cert.MergeK.nD Cert.MergeK.τ Cert.MergeK.sig) → Buf (Elt Bits) ℓ) (g : Dev Cert.MergeK.nD → PrngReg), Pre_MergeK m →
    θ_run (Cert.MergeK.defs (F := Bits)) (onTc (τ := Cert.MergeK.τ) (Cert.MergeK.main (F := Bits))) ⟨m, fun _ => 0, g⟩ (fun r => (∀ c : Dev Cert.MergeK.nD,
      r.2.mem ((c.tc : Thread Cert.MergeK.nD Cert.MergeK.τ).loc Cert.MergeK.main_arg0) = m ((c.tc : Thread Cert.MergeK.nD Cert.MergeK.τ).loc Cert.MergeK.main_arg0)
      ∧ r.2.mem ((c.tc : Thread Cert.MergeK.nD Cert.MergeK.τ).loc Cert.MergeK.main_arg1) = m ((c.tc : Thread Cert.MergeK.nD Cert.MergeK.τ).loc Cert.MergeK.main_arg1)
      ∧ r.2.mem ((c.tc : Thread Cert.MergeK.nD Cert.MergeK.τ).loc Cert.MergeK.main_arg2) = m ((c.tc : Thread Cert.MergeK.nD Cert.MergeK.τ).loc Cert.MergeK.main_arg2)
      ∧ r.2.mem ((c.tc : Thread Cert.MergeK.nD Cert.MergeK.τ).loc Cert.MergeK.main_arg3) = m ((c.tc : Thread Cert.MergeK.nD Cert.MergeK.τ).loc Cert.MergeK.main_arg3)
      ∧ r.2.mem ((c.tc : Thread Cert.MergeK.nD Cert.MergeK.τ).loc Cert.MergeK.main_arg4) = m ((c.tc : Thread Cert.MergeK.nD Cert.MergeK.τ).loc Cert.MergeK.main_arg4)
      ∧ r.2.mem ((c.tc : Thread Cert.MergeK.nD Cert.MergeK.τ).loc Cert.MergeK.main_arg5) = m ((c.tc : Thread Cert.MergeK.nD Cert.MergeK.τ).loc Cert.MergeK.main_arg5)
      ∧ r.2.mem ((c.tc : Thread Cert.MergeK.nD Cert.MergeK.τ).loc Cert.MergeK.main_arg6) = m ((c.tc : Thread Cert.MergeK.nD Cert.MergeK.τ).loc Cert.MergeK.main_arg6))
      ∧ r.2.sem = fun _ => 0)

def quiescent_MergeKIdeal [hMergeKIdeal : Cert.MergeKIdeal.Facts] : Prop :=
  ∀ (m : (ℓ : Loc Cert.MergeKIdeal.nD Cert.MergeKIdeal.τ Cert.MergeKIdeal.sig) → Buf (Elt Ideal) ℓ) (g : Dev Cert.MergeKIdeal.nD → PrngReg), Pre_MergeKIdeal m →
    θ_run (Cert.MergeKIdeal.defs (F := Ideal)) (onTc (τ := Cert.MergeKIdeal.τ) (Cert.MergeKIdeal.main (F := Ideal))) ⟨m, fun _ => 0, g⟩ (fun r => (∀ c : Dev Cert.MergeKIdeal.nD,
      r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
      ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
      ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
      ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3)
      ∧ r.2.mem ((c.tc : Thread Cert.MergeKIdeal.nD Cert.MergeKIdeal.τ).loc Cert.MergeKIdeal.main_arg4) = m ((c.tc : Thread Cert.MergeKIdeal.nD Cert.MergeKIdeal.τ).loc Cert.MergeKIdeal.main_arg4)
      ∧ r.2.mem ((c.tc : Thread Cert.MergeKIdeal.nD Cert.MergeKIdeal.τ).loc Cert.MergeKIdeal.main_arg5) = m ((c.tc : Thread Cert.MergeKIdeal.nD Cert.MergeKIdeal.τ).loc Cert.MergeKIdeal.main_arg5)
      ∧ r.2.mem ((c.tc : Thread Cert.MergeKIdeal.nD Cert.MergeKIdeal.τ).loc Cert.MergeKIdeal.main_arg6) = m ((c.tc : Thread Cert.MergeKIdeal.nD Cert.MergeKIdeal.τ).loc Cert.MergeKIdeal.main_arg6))
      ∧ r.2.sem = fun _ => 0)

def quiescent_MergeKIdeal_pre_finite_merge [hMergeKIdeal : Cert.MergeKIdeal.Facts] [hPre_finite_merge : Cert.Pre_finite_merge.Facts] : Prop :=
  ∀ (m : (ℓ : Loc Cert.MergeKIdeal.nD Cert.MergeKIdeal.τ Cert.MergeKIdeal.sig) → Buf (Elt Ideal) ℓ) (g : Dev Cert.MergeKIdeal.nD → PrngReg), Pre_MergeKIdeal_finite_merge m →
    θ_run (Cert.MergeKIdeal.defs (F := Ideal)) (onTc (τ := Cert.MergeKIdeal.τ) (Cert.MergeKIdeal.main (F := Ideal))) ⟨m, fun _ => 0, g⟩ (fun r => (∀ c : Dev Cert.MergeKIdeal.nD,
      r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
      ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
      ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
      ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3)
      ∧ r.2.mem ((c.tc : Thread Cert.MergeKIdeal.nD Cert.MergeKIdeal.τ).loc Cert.MergeKIdeal.main_arg4) = m ((c.tc : Thread Cert.MergeKIdeal.nD Cert.MergeKIdeal.τ).loc Cert.MergeKIdeal.main_arg4)
      ∧ r.2.mem ((c.tc : Thread Cert.MergeKIdeal.nD Cert.MergeKIdeal.τ).loc Cert.MergeKIdeal.main_arg5) = m ((c.tc : Thread Cert.MergeKIdeal.nD Cert.MergeKIdeal.τ).loc Cert.MergeKIdeal.main_arg5)
      ∧ r.2.mem ((c.tc : Thread Cert.MergeKIdeal.nD Cert.MergeKIdeal.τ).loc Cert.MergeKIdeal.main_arg6) = m ((c.tc : Thread Cert.MergeKIdeal.nD Cert.MergeKIdeal.τ).loc Cert.MergeKIdeal.main_arg6))
      ∧ r.2.sem = fun _ => 0)

def quiescent_MergeRIdeal [hMergeRIdeal : Cert.MergeRIdeal.Facts] : Prop :=
  ∀ (m : (ℓ : Loc Cert.MergeRIdeal.nD Cert.MergeRIdeal.τ Cert.MergeRIdeal.sig) → Buf (Elt Ideal) ℓ) (g : Dev Cert.MergeRIdeal.nD → PrngReg), Pre_MergeRIdeal m →
    θ_run (Cert.MergeRIdeal.defs (F := Ideal)) (onTc (τ := Cert.MergeRIdeal.τ) (Cert.MergeRIdeal.main (F := Ideal))) ⟨m, fun _ => 0, g⟩ (fun r => (∀ c : Dev Cert.MergeRIdeal.nD,
      r.2.mem ((c.tc : Thread Cert.MergeRIdeal.nD Cert.MergeRIdeal.τ).loc Cert.MergeRIdeal.main_arg0) = m ((c.tc : Thread Cert.MergeRIdeal.nD Cert.MergeRIdeal.τ).loc Cert.MergeRIdeal.main_arg0)
      ∧ r.2.mem ((c.tc : Thread Cert.MergeRIdeal.nD Cert.MergeRIdeal.τ).loc Cert.MergeRIdeal.main_arg1) = m ((c.tc : Thread Cert.MergeRIdeal.nD Cert.MergeRIdeal.τ).loc Cert.MergeRIdeal.main_arg1)
      ∧ r.2.mem ((c.tc : Thread Cert.MergeRIdeal.nD Cert.MergeRIdeal.τ).loc Cert.MergeRIdeal.main_arg2) = m ((c.tc : Thread Cert.MergeRIdeal.nD Cert.MergeRIdeal.τ).loc Cert.MergeRIdeal.main_arg2)
      ∧ r.2.mem ((c.tc : Thread Cert.MergeRIdeal.nD Cert.MergeRIdeal.τ).loc Cert.MergeRIdeal.main_arg3) = m ((c.tc : Thread Cert.MergeRIdeal.nD Cert.MergeRIdeal.τ).loc Cert.MergeRIdeal.main_arg3)
      ∧ r.2.mem ((c.tc : Thread Cert.MergeRIdeal.nD Cert.MergeRIdeal.τ).loc Cert.MergeRIdeal.main_arg4) = m ((c.tc : Thread Cert.MergeRIdeal.nD Cert.MergeRIdeal.τ).loc Cert.MergeRIdeal.main_arg4)
      ∧ r.2.mem ((c.tc : Thread Cert.MergeRIdeal.nD Cert.MergeRIdeal.τ).loc Cert.MergeRIdeal.main_arg5) = m ((c.tc : Thread Cert.MergeRIdeal.nD Cert.MergeRIdeal.τ).loc Cert.MergeRIdeal.main_arg5)
      ∧ r.2.mem ((c.tc : Thread Cert.MergeRIdeal.nD Cert.MergeRIdeal.τ).loc Cert.MergeRIdeal.main_arg6) = m ((c.tc : Thread Cert.MergeRIdeal.nD Cert.MergeRIdeal.τ).loc Cert.MergeRIdeal.main_arg6))
      ∧ r.2.sem = fun _ => 0)

def quiescent_MergeRIdeal_pre_finite_merge [hMergeRIdeal : Cert.MergeRIdeal.Facts] [hPre_finite_merge : Cert.Pre_finite_merge.Facts] : Prop :=
  ∀ (m : (ℓ : Loc Cert.MergeRIdeal.nD Cert.MergeRIdeal.τ Cert.MergeRIdeal.sig) → Buf (Elt Ideal) ℓ) (g : Dev Cert.MergeRIdeal.nD → PrngReg), Pre_MergeRIdeal_finite_merge m →
    θ_run (Cert.MergeRIdeal.defs (F := Ideal)) (onTc (τ := Cert.MergeRIdeal.τ) (Cert.MergeRIdeal.main (F := Ideal))) ⟨m, fun _ => 0, g⟩ (fun r => (∀ c : Dev Cert.MergeRIdeal.nD,
      r.2.mem ((c.tc : Thread Cert.MergeRIdeal.nD Cert.MergeRIdeal.τ).loc Cert.MergeRIdeal.main_arg0) = m ((c.tc : Thread Cert.MergeRIdeal.nD Cert.MergeRIdeal.τ).loc Cert.MergeRIdeal.main_arg0)
      ∧ r.2.mem ((c.tc : Thread Cert.MergeRIdeal.nD Cert.MergeRIdeal.τ).loc Cert.MergeRIdeal.main_arg1) = m ((c.tc : Thread Cert.MergeRIdeal.nD Cert.MergeRIdeal.τ).loc Cert.MergeRIdeal.main_arg1)
      ∧ r.2.mem ((c.tc : Thread Cert.MergeRIdeal.nD Cert.MergeRIdeal.τ).loc Cert.MergeRIdeal.main_arg2) = m ((c.tc : Thread Cert.MergeRIdeal.nD Cert.MergeRIdeal.τ).loc Cert.MergeRIdeal.main_arg2)
      ∧ r.2.mem ((c.tc : Thread Cert.MergeRIdeal.nD Cert.MergeRIdeal.τ).loc Cert.MergeRIdeal.main_arg3) = m ((c.tc : Thread Cert.MergeRIdeal.nD Cert.MergeRIdeal.τ).loc Cert.MergeRIdeal.main_arg3)
      ∧ r.2.mem ((c.tc : Thread Cert.MergeRIdeal.nD Cert.MergeRIdeal.τ).loc Cert.MergeRIdeal.main_arg4) = m ((c.tc : Thread Cert.MergeRIdeal.nD Cert.MergeRIdeal.τ).loc Cert.MergeRIdeal.main_arg4)
      ∧ r.2.mem ((c.tc : Thread Cert.MergeRIdeal.nD Cert.MergeRIdeal.τ).loc Cert.MergeRIdeal.main_arg5) = m ((c.tc : Thread Cert.MergeRIdeal.nD Cert.MergeRIdeal.τ).loc Cert.MergeRIdeal.main_arg5)
      ∧ r.2.mem ((c.tc : Thread Cert.MergeRIdeal.nD Cert.MergeRIdeal.τ).loc Cert.MergeRIdeal.main_arg6) = m ((c.tc : Thread Cert.MergeRIdeal.nD Cert.MergeRIdeal.τ).loc Cert.MergeRIdeal.main_arg6))
      ∧ r.2.sem = fun _ => 0)

def quiescent_LossK [hLossK : Cert.LossK.Facts] : Prop :=
  ∀ (m : (ℓ : Loc Cert.LossK.nD Cert.LossK.τ Cert.LossK.sig) → Buf (Elt Bits) ℓ) (g : Dev Cert.LossK.nD → PrngReg), Pre_LossK m →
    θ_run (Cert.LossK.defs (F := Bits)) (onTc (τ := Cert.LossK.τ) (Cert.LossK.main (F := Bits))) ⟨m, fun _ => 0, g⟩ (fun r => (∀ c : Dev Cert.LossK.nD,
      r.2.mem ((c.tc : Thread Cert.LossK.nD Cert.LossK.τ).loc Cert.LossK.main_arg0) = m ((c.tc : Thread Cert.LossK.nD Cert.LossK.τ).loc Cert.LossK.main_arg0)
      ∧ r.2.mem ((c.tc : Thread Cert.LossK.nD Cert.LossK.τ).loc Cert.LossK.main_arg1) = m ((c.tc : Thread Cert.LossK.nD Cert.LossK.τ).loc Cert.LossK.main_arg1)
      ∧ r.2.mem ((c.tc : Thread Cert.LossK.nD Cert.LossK.τ).loc Cert.LossK.main_arg2) = m ((c.tc : Thread Cert.LossK.nD Cert.LossK.τ).loc Cert.LossK.main_arg2)
      ∧ r.2.mem ((c.tc : Thread Cert.LossK.nD Cert.LossK.τ).loc Cert.LossK.main_arg3) = m ((c.tc : Thread Cert.LossK.nD Cert.LossK.τ).loc Cert.LossK.main_arg3)
      ∧ r.2.mem ((c.tc : Thread Cert.LossK.nD Cert.LossK.τ).loc Cert.LossK.main_arg4) = m ((c.tc : Thread Cert.LossK.nD Cert.LossK.τ).loc Cert.LossK.main_arg4))
      ∧ r.2.sem = fun _ => 0)

def quiescent_LossKIdeal [hLossKIdeal : Cert.LossKIdeal.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
      ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
      ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4))
      ∧ r.2.sem = fun _ => 0)

def quiescent_LossKIdeal_pre_finite_loss [hLossKIdeal : Cert.LossKIdeal.Facts] [hPre_finite_loss : Cert.Pre_finite_loss.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal_finite_loss m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
      ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
      ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2)
      ∧ r.2.mem ((c.tc : Thread Cert.LossRIdeal.nD Cert.LossRIdeal.τ).loc Cert.LossRIdeal.main_arg3) = m ((c.tc : Thread Cert.LossRIdeal.nD Cert.LossRIdeal.τ).loc Cert.LossRIdeal.main_arg3)
      ∧ r.2.mem ((c.tc : Thread Cert.LossRIdeal.nD Cert.LossRIdeal.τ).loc Cert.LossRIdeal.main_arg4) = m ((c.tc : Thread Cert.LossRIdeal.nD Cert.LossRIdeal.τ).loc Cert.LossRIdeal.main_arg4))
      ∧ r.2.sem = fun _ => 0)

def quiescent_LossRIdeal_pre_finite_loss [hLossRIdeal : Cert.LossRIdeal.Facts] [hPre_finite_loss : Cert.Pre_finite_loss.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal_finite_loss m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2)
      ∧ r.2.mem ((c.tc : Thread Cert.LossRIdeal.nD Cert.LossRIdeal.τ).loc Cert.LossRIdeal.main_arg3) = m ((c.tc : Thread Cert.LossRIdeal.nD Cert.LossRIdeal.τ).loc Cert.LossRIdeal.main_arg3)
      ∧ r.2.mem ((c.tc : Thread Cert.LossRIdeal.nD Cert.LossRIdeal.τ).loc Cert.LossRIdeal.main_arg4) = m ((c.tc : Thread Cert.LossRIdeal.nD Cert.LossRIdeal.τ).loc Cert.LossRIdeal.main_arg4))
      ∧ r.2.sem = fun _ => 0)

def quiescent_UpK [hUpK : Cert.UpK.Facts] : Prop :=
  ∀ (m : (ℓ : Loc Cert.UpK.nD Cert.UpK.τ Cert.UpK.sig) → Buf (Elt Bits) ℓ) (g : Dev Cert.UpK.nD → PrngReg), Pre_UpK m →
    θ_run (Cert.UpK.defs (F := Bits)) (onTc (τ := Cert.UpK.τ) (Cert.UpK.main (F := Bits))) ⟨m, fun _ => 0, g⟩ (fun r => (∀ c : Dev Cert.UpK.nD,
      r.2.mem ((c.tc : Thread Cert.UpK.nD Cert.UpK.τ).loc Cert.UpK.main_arg0) = m ((c.tc : Thread Cert.UpK.nD Cert.UpK.τ).loc Cert.UpK.main_arg0)
      ∧ r.2.mem ((c.tc : Thread Cert.UpK.nD Cert.UpK.τ).loc Cert.UpK.main_arg1) = m ((c.tc : Thread Cert.UpK.nD Cert.UpK.τ).loc Cert.UpK.main_arg1)
      ∧ r.2.mem ((c.tc : Thread Cert.UpK.nD Cert.UpK.τ).loc Cert.UpK.main_arg2) = m ((c.tc : Thread Cert.UpK.nD Cert.UpK.τ).loc Cert.UpK.main_arg2)
      ∧ r.2.mem ((c.tc : Thread Cert.UpK.nD Cert.UpK.τ).loc Cert.UpK.main_arg3) = m ((c.tc : Thread Cert.UpK.nD Cert.UpK.τ).loc Cert.UpK.main_arg3)
      ∧ r.2.mem ((c.tc : Thread Cert.UpK.nD Cert.UpK.τ).loc Cert.UpK.main_arg4) = m ((c.tc : Thread Cert.UpK.nD Cert.UpK.τ).loc Cert.UpK.main_arg4)
      ∧ r.2.mem ((c.tc : Thread Cert.UpK.nD Cert.UpK.τ).loc Cert.UpK.main_arg5) = m ((c.tc : Thread Cert.UpK.nD Cert.UpK.τ).loc Cert.UpK.main_arg5))
      ∧ r.2.sem = fun _ => 0)

def quiescent_UpKIdeal [hUpKIdeal : Cert.UpKIdeal.Facts] : Prop :=
  ∀ (m : (ℓ : Loc Cert.UpKIdeal.nD Cert.UpKIdeal.τ Cert.UpKIdeal.sig) → Buf (Elt Ideal) ℓ) (g : Dev Cert.UpKIdeal.nD → PrngReg), Pre_UpKIdeal m →
    θ_run (Cert.UpKIdeal.defs (F := Ideal)) (onTc (τ := Cert.UpKIdeal.τ) (Cert.UpKIdeal.main (F := Ideal))) ⟨m, fun _ => 0, g⟩ (fun r => (∀ c : Dev Cert.UpKIdeal.nD,
      r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
      ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1)
      ∧ r.2.mem ((c.tc : Thread Cert.UpKIdeal.nD Cert.UpKIdeal.τ).loc Cert.UpKIdeal.main_arg2) = m ((c.tc : Thread Cert.UpKIdeal.nD Cert.UpKIdeal.τ).loc Cert.UpKIdeal.main_arg2)
      ∧ r.2.mem ((c.tc : Thread Cert.UpKIdeal.nD Cert.UpKIdeal.τ).loc Cert.UpKIdeal.main_arg3) = m ((c.tc : Thread Cert.UpKIdeal.nD Cert.UpKIdeal.τ).loc Cert.UpKIdeal.main_arg3)
      ∧ r.2.mem ((c.tc : Thread Cert.UpKIdeal.nD Cert.UpKIdeal.τ).loc Cert.UpKIdeal.main_arg4) = m ((c.tc : Thread Cert.UpKIdeal.nD Cert.UpKIdeal.τ).loc Cert.UpKIdeal.main_arg4)
      ∧ r.2.mem ((c.tc : Thread Cert.UpKIdeal.nD Cert.UpKIdeal.τ).loc Cert.UpKIdeal.main_arg5) = m ((c.tc : Thread Cert.UpKIdeal.nD Cert.UpKIdeal.τ).loc Cert.UpKIdeal.main_arg5))
      ∧ r.2.sem = fun _ => 0)

def quiescent_UpKIdeal_pre_finite_up [hUpKIdeal : Cert.UpKIdeal.Facts] [hPre_finite_up : Cert.Pre_finite_up.Facts] : Prop :=
  ∀ (m : (ℓ : Loc Cert.UpKIdeal.nD Cert.UpKIdeal.τ Cert.UpKIdeal.sig) → Buf (Elt Ideal) ℓ) (g : Dev Cert.UpKIdeal.nD → PrngReg), Pre_UpKIdeal_finite_up m →
    θ_run (Cert.UpKIdeal.defs (F := Ideal)) (onTc (τ := Cert.UpKIdeal.τ) (Cert.UpKIdeal.main (F := Ideal))) ⟨m, fun _ => 0, g⟩ (fun r => (∀ c : Dev Cert.UpKIdeal.nD,
      r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
      ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1)
      ∧ r.2.mem ((c.tc : Thread Cert.UpKIdeal.nD Cert.UpKIdeal.τ).loc Cert.UpKIdeal.main_arg2) = m ((c.tc : Thread Cert.UpKIdeal.nD Cert.UpKIdeal.τ).loc Cert.UpKIdeal.main_arg2)
      ∧ r.2.mem ((c.tc : Thread Cert.UpKIdeal.nD Cert.UpKIdeal.τ).loc Cert.UpKIdeal.main_arg3) = m ((c.tc : Thread Cert.UpKIdeal.nD Cert.UpKIdeal.τ).loc Cert.UpKIdeal.main_arg3)
      ∧ r.2.mem ((c.tc : Thread Cert.UpKIdeal.nD Cert.UpKIdeal.τ).loc Cert.UpKIdeal.main_arg4) = m ((c.tc : Thread Cert.UpKIdeal.nD Cert.UpKIdeal.τ).loc Cert.UpKIdeal.main_arg4)
      ∧ r.2.mem ((c.tc : Thread Cert.UpKIdeal.nD Cert.UpKIdeal.τ).loc Cert.UpKIdeal.main_arg5) = m ((c.tc : Thread Cert.UpKIdeal.nD Cert.UpKIdeal.τ).loc Cert.UpKIdeal.main_arg5))
      ∧ r.2.sem = fun _ => 0)

def quiescent_UpRIdeal [hUpRIdeal : Cert.UpRIdeal.Facts] : Prop :=
  ∀ (m : (ℓ : Loc Cert.UpRIdeal.nD Cert.UpRIdeal.τ Cert.UpRIdeal.sig) → Buf (Elt Ideal) ℓ) (g : Dev Cert.UpRIdeal.nD → PrngReg), Pre_UpRIdeal m →
    θ_run (Cert.UpRIdeal.defs (F := Ideal)) (onTc (τ := Cert.UpRIdeal.τ) (Cert.UpRIdeal.main (F := Ideal))) ⟨m, fun _ => 0, g⟩ (fun r => (∀ c : Dev Cert.UpRIdeal.nD,
      r.2.mem ((c.tc : Thread Cert.UpRIdeal.nD Cert.UpRIdeal.τ).loc Cert.UpRIdeal.main_arg0) = m ((c.tc : Thread Cert.UpRIdeal.nD Cert.UpRIdeal.τ).loc Cert.UpRIdeal.main_arg0)
      ∧ r.2.mem ((c.tc : Thread Cert.UpRIdeal.nD Cert.UpRIdeal.τ).loc Cert.UpRIdeal.main_arg1) = m ((c.tc : Thread Cert.UpRIdeal.nD Cert.UpRIdeal.τ).loc Cert.UpRIdeal.main_arg1)
      ∧ r.2.mem ((c.tc : Thread Cert.UpRIdeal.nD Cert.UpRIdeal.τ).loc Cert.UpRIdeal.main_arg2) = m ((c.tc : Thread Cert.UpRIdeal.nD Cert.UpRIdeal.τ).loc Cert.UpRIdeal.main_arg2)
      ∧ r.2.mem ((c.tc : Thread Cert.UpRIdeal.nD Cert.UpRIdeal.τ).loc Cert.UpRIdeal.main_arg3) = m ((c.tc : Thread Cert.UpRIdeal.nD Cert.UpRIdeal.τ).loc Cert.UpRIdeal.main_arg3)
      ∧ r.2.mem ((c.tc : Thread Cert.UpRIdeal.nD Cert.UpRIdeal.τ).loc Cert.UpRIdeal.main_arg4) = m ((c.tc : Thread Cert.UpRIdeal.nD Cert.UpRIdeal.τ).loc Cert.UpRIdeal.main_arg4)
      ∧ r.2.mem ((c.tc : Thread Cert.UpRIdeal.nD Cert.UpRIdeal.τ).loc Cert.UpRIdeal.main_arg5) = m ((c.tc : Thread Cert.UpRIdeal.nD Cert.UpRIdeal.τ).loc Cert.UpRIdeal.main_arg5))
      ∧ r.2.sem = fun _ => 0)

def quiescent_UpRIdeal_pre_finite_up [hUpRIdeal : Cert.UpRIdeal.Facts] [hPre_finite_up : Cert.Pre_finite_up.Facts] : Prop :=
  ∀ (m : (ℓ : Loc Cert.UpRIdeal.nD Cert.UpRIdeal.τ Cert.UpRIdeal.sig) → Buf (Elt Ideal) ℓ) (g : Dev Cert.UpRIdeal.nD → PrngReg), Pre_UpRIdeal_finite_up m →
    θ_run (Cert.UpRIdeal.defs (F := Ideal)) (onTc (τ := Cert.UpRIdeal.τ) (Cert.UpRIdeal.main (F := Ideal))) ⟨m, fun _ => 0, g⟩ (fun r => (∀ c : Dev Cert.UpRIdeal.nD,
      r.2.mem ((c.tc : Thread Cert.UpRIdeal.nD Cert.UpRIdeal.τ).loc Cert.UpRIdeal.main_arg0) = m ((c.tc : Thread Cert.UpRIdeal.nD Cert.UpRIdeal.τ).loc Cert.UpRIdeal.main_arg0)
      ∧ r.2.mem ((c.tc : Thread Cert.UpRIdeal.nD Cert.UpRIdeal.τ).loc Cert.UpRIdeal.main_arg1) = m ((c.tc : Thread Cert.UpRIdeal.nD Cert.UpRIdeal.τ).loc Cert.UpRIdeal.main_arg1)
      ∧ r.2.mem ((c.tc : Thread Cert.UpRIdeal.nD Cert.UpRIdeal.τ).loc Cert.UpRIdeal.main_arg2) = m ((c.tc : Thread Cert.UpRIdeal.nD Cert.UpRIdeal.τ).loc Cert.UpRIdeal.main_arg2)
      ∧ r.2.mem ((c.tc : Thread Cert.UpRIdeal.nD Cert.UpRIdeal.τ).loc Cert.UpRIdeal.main_arg3) = m ((c.tc : Thread Cert.UpRIdeal.nD Cert.UpRIdeal.τ).loc Cert.UpRIdeal.main_arg3)
      ∧ r.2.mem ((c.tc : Thread Cert.UpRIdeal.nD Cert.UpRIdeal.τ).loc Cert.UpRIdeal.main_arg4) = m ((c.tc : Thread Cert.UpRIdeal.nD Cert.UpRIdeal.τ).loc Cert.UpRIdeal.main_arg4)
      ∧ r.2.mem ((c.tc : Thread Cert.UpRIdeal.nD Cert.UpRIdeal.τ).loc Cert.UpRIdeal.main_arg5) = m ((c.tc : Thread Cert.UpRIdeal.nD Cert.UpRIdeal.τ).loc Cert.UpRIdeal.main_arg5))
      ∧ r.2.sem = fun _ => 0)

def quiescent_PrK [hPrK : Cert.PrK.Facts] : Prop :=
  ∀ (m : (ℓ : Loc Cert.PrK.nD Cert.PrK.τ Cert.PrK.sig) → Buf (Elt Bits) ℓ) (g : Dev Cert.PrK.nD → PrngReg), Pre_PrK m →
    θ_run (Cert.PrK.defs (F := Bits)) (onTc (τ := Cert.PrK.τ) (Cert.PrK.main (F := Bits))) ⟨m, fun _ => 0, g⟩ (fun r => (∀ c : Dev Cert.PrK.nD,
      r.2.mem ((c.tc : Thread Cert.PrK.nD Cert.PrK.τ).loc Cert.PrK.main_arg0) = m ((c.tc : Thread Cert.PrK.nD Cert.PrK.τ).loc Cert.PrK.main_arg0)
      ∧ r.2.mem ((c.tc : Thread Cert.PrK.nD Cert.PrK.τ).loc Cert.PrK.main_arg1) = m ((c.tc : Thread Cert.PrK.nD Cert.PrK.τ).loc Cert.PrK.main_arg1)
      ∧ r.2.mem ((c.tc : Thread Cert.PrK.nD Cert.PrK.τ).loc Cert.PrK.main_arg2) = m ((c.tc : Thread Cert.PrK.nD Cert.PrK.τ).loc Cert.PrK.main_arg2)
      ∧ r.2.mem ((c.tc : Thread Cert.PrK.nD Cert.PrK.τ).loc Cert.PrK.main_arg3) = m ((c.tc : Thread Cert.PrK.nD Cert.PrK.τ).loc Cert.PrK.main_arg3)
      ∧ r.2.mem ((c.tc : Thread Cert.PrK.nD Cert.PrK.τ).loc Cert.PrK.main_arg4) = m ((c.tc : Thread Cert.PrK.nD Cert.PrK.τ).loc Cert.PrK.main_arg4))
      ∧ r.2.sem = fun _ => 0)

def quiescent_PrKIdeal [hPrKIdeal : Cert.PrKIdeal.Facts] : Prop :=
  ∀ (m : (ℓ : Loc Cert.PrKIdeal.nD Cert.PrKIdeal.τ Cert.PrKIdeal.sig) → Buf (Elt Ideal) ℓ) (g : Dev Cert.PrKIdeal.nD → PrngReg), Pre_PrKIdeal m →
    θ_run (Cert.PrKIdeal.defs (F := Ideal)) (onTc (τ := Cert.PrKIdeal.τ) (Cert.PrKIdeal.main (F := Ideal))) ⟨m, fun _ => 0, g⟩ (fun r => (∀ c : Dev Cert.PrKIdeal.nD,
      r.2.mem ((c.tc : Thread Cert.PrKIdeal.nD Cert.PrKIdeal.τ).loc Cert.PrKIdeal.main_arg0) = m ((c.tc : Thread Cert.PrKIdeal.nD Cert.PrKIdeal.τ).loc Cert.PrKIdeal.main_arg0)
      ∧ r.2.mem ((c.tc : Thread Cert.PrKIdeal.nD Cert.PrKIdeal.τ).loc Cert.PrKIdeal.main_arg1) = m ((c.tc : Thread Cert.PrKIdeal.nD Cert.PrKIdeal.τ).loc Cert.PrKIdeal.main_arg1)
      ∧ r.2.mem ((c.tc : Thread Cert.PrKIdeal.nD Cert.PrKIdeal.τ).loc Cert.PrKIdeal.main_arg2) = m ((c.tc : Thread Cert.PrKIdeal.nD Cert.PrKIdeal.τ).loc Cert.PrKIdeal.main_arg2)
      ∧ r.2.mem ((c.tc : Thread Cert.PrKIdeal.nD Cert.PrKIdeal.τ).loc Cert.PrKIdeal.main_arg3) = m ((c.tc : Thread Cert.PrKIdeal.nD Cert.PrKIdeal.τ).loc Cert.PrKIdeal.main_arg3)
      ∧ r.2.mem ((c.tc : Thread Cert.PrKIdeal.nD Cert.PrKIdeal.τ).loc Cert.PrKIdeal.main_arg4) = m ((c.tc : Thread Cert.PrKIdeal.nD Cert.PrKIdeal.τ).loc Cert.PrKIdeal.main_arg4))
      ∧ r.2.sem = fun _ => 0)

def quiescent_PrKIdeal_pre_finite_pr [hPrKIdeal : Cert.PrKIdeal.Facts] [hPre_finite_pr : Cert.Pre_finite_pr.Facts] : Prop :=
  ∀ (m : (ℓ : Loc Cert.PrKIdeal.nD Cert.PrKIdeal.τ Cert.PrKIdeal.sig) → Buf (Elt Ideal) ℓ) (g : Dev Cert.PrKIdeal.nD → PrngReg), Pre_PrKIdeal_finite_pr m →
    θ_run (Cert.PrKIdeal.defs (F := Ideal)) (onTc (τ := Cert.PrKIdeal.τ) (Cert.PrKIdeal.main (F := Ideal))) ⟨m, fun _ => 0, g⟩ (fun r => (∀ c : Dev Cert.PrKIdeal.nD,
      r.2.mem ((c.tc : Thread Cert.PrKIdeal.nD Cert.PrKIdeal.τ).loc Cert.PrKIdeal.main_arg0) = m ((c.tc : Thread Cert.PrKIdeal.nD Cert.PrKIdeal.τ).loc Cert.PrKIdeal.main_arg0)
      ∧ r.2.mem ((c.tc : Thread Cert.PrKIdeal.nD Cert.PrKIdeal.τ).loc Cert.PrKIdeal.main_arg1) = m ((c.tc : Thread Cert.PrKIdeal.nD Cert.PrKIdeal.τ).loc Cert.PrKIdeal.main_arg1)
      ∧ r.2.mem ((c.tc : Thread Cert.PrKIdeal.nD Cert.PrKIdeal.τ).loc Cert.PrKIdeal.main_arg2) = m ((c.tc : Thread Cert.PrKIdeal.nD Cert.PrKIdeal.τ).loc Cert.PrKIdeal.main_arg2)
      ∧ r.2.mem ((c.tc : Thread Cert.PrKIdeal.nD Cert.PrKIdeal.τ).loc Cert.PrKIdeal.main_arg3) = m ((c.tc : Thread Cert.PrKIdeal.nD Cert.PrKIdeal.τ).loc Cert.PrKIdeal.main_arg3)
      ∧ r.2.mem ((c.tc : Thread Cert.PrKIdeal.nD Cert.PrKIdeal.τ).loc Cert.PrKIdeal.main_arg4) = m ((c.tc : Thread Cert.PrKIdeal.nD Cert.PrKIdeal.τ).loc Cert.PrKIdeal.main_arg4))
      ∧ r.2.sem = fun _ => 0)

def quiescent_PrRIdeal [hPrRIdeal : Cert.PrRIdeal.Facts] : Prop :=
  ∀ (m : (ℓ : Loc Cert.PrRIdeal.nD Cert.PrRIdeal.τ Cert.PrRIdeal.sig) → Buf (Elt Ideal) ℓ) (g : Dev Cert.PrRIdeal.nD → PrngReg), Pre_PrRIdeal m →
    θ_run (Cert.PrRIdeal.defs (F := Ideal)) (onTc (τ := Cert.PrRIdeal.τ) (Cert.PrRIdeal.main (F := Ideal))) ⟨m, fun _ => 0, g⟩ (fun r => (∀ c : Dev Cert.PrRIdeal.nD,
      r.2.mem ((c.tc : Thread Cert.PrRIdeal.nD Cert.PrRIdeal.τ).loc Cert.PrRIdeal.main_arg0) = m ((c.tc : Thread Cert.PrRIdeal.nD Cert.PrRIdeal.τ).loc Cert.PrRIdeal.main_arg0)
      ∧ r.2.mem ((c.tc : Thread Cert.PrRIdeal.nD Cert.PrRIdeal.τ).loc Cert.PrRIdeal.main_arg1) = m ((c.tc : Thread Cert.PrRIdeal.nD Cert.PrRIdeal.τ).loc Cert.PrRIdeal.main_arg1)
      ∧ r.2.mem ((c.tc : Thread Cert.PrRIdeal.nD Cert.PrRIdeal.τ).loc Cert.PrRIdeal.main_arg2) = m ((c.tc : Thread Cert.PrRIdeal.nD Cert.PrRIdeal.τ).loc Cert.PrRIdeal.main_arg2)
      ∧ r.2.mem ((c.tc : Thread Cert.PrRIdeal.nD Cert.PrRIdeal.τ).loc Cert.PrRIdeal.main_arg3) = m ((c.tc : Thread Cert.PrRIdeal.nD Cert.PrRIdeal.τ).loc Cert.PrRIdeal.main_arg3)
      ∧ r.2.mem ((c.tc : Thread Cert.PrRIdeal.nD Cert.PrRIdeal.τ).loc Cert.PrRIdeal.main_arg4) = m ((c.tc : Thread Cert.PrRIdeal.nD Cert.PrRIdeal.τ).loc Cert.PrRIdeal.main_arg4))
      ∧ r.2.sem = fun _ => 0)

def quiescent_PrRIdeal_pre_finite_pr [hPrRIdeal : Cert.PrRIdeal.Facts] [hPre_finite_pr : Cert.Pre_finite_pr.Facts] : Prop :=
  ∀ (m : (ℓ : Loc Cert.PrRIdeal.nD Cert.PrRIdeal.τ Cert.PrRIdeal.sig) → Buf (Elt Ideal) ℓ) (g : Dev Cert.PrRIdeal.nD → PrngReg), Pre_PrRIdeal_finite_pr m →
    θ_run (Cert.PrRIdeal.defs (F := Ideal)) (onTc (τ := Cert.PrRIdeal.τ) (Cert.PrRIdeal.main (F := Ideal))) ⟨m, fun _ => 0, g⟩ (fun r => (∀ c : Dev Cert.PrRIdeal.nD,
      r.2.mem ((c.tc : Thread Cert.PrRIdeal.nD Cert.PrRIdeal.τ).loc Cert.PrRIdeal.main_arg0) = m ((c.tc : Thread Cert.PrRIdeal.nD Cert.PrRIdeal.τ).loc Cert.PrRIdeal.main_arg0)
      ∧ r.2.mem ((c.tc : Thread Cert.PrRIdeal.nD Cert.PrRIdeal.τ).loc Cert.PrRIdeal.main_arg1) = m ((c.tc : Thread Cert.PrRIdeal.nD Cert.PrRIdeal.τ).loc Cert.PrRIdeal.main_arg1)
      ∧ r.2.mem ((c.tc : Thread Cert.PrRIdeal.nD Cert.PrRIdeal.τ).loc Cert.PrRIdeal.main_arg2) = m ((c.tc : Thread Cert.PrRIdeal.nD Cert.PrRIdeal.τ).loc Cert.PrRIdeal.main_arg2)
      ∧ r.2.mem ((c.tc : Thread Cert.PrRIdeal.nD Cert.PrRIdeal.τ).loc Cert.PrRIdeal.main_arg3) = m ((c.tc : Thread Cert.PrRIdeal.nD Cert.PrRIdeal.τ).loc Cert.PrRIdeal.main_arg3)
      ∧ r.2.mem ((c.tc : Thread Cert.PrRIdeal.nD Cert.PrRIdeal.τ).loc Cert.PrRIdeal.main_arg4) = m ((c.tc : Thread Cert.PrRIdeal.nD Cert.PrRIdeal.τ).loc Cert.PrRIdeal.main_arg4))
      ∧ r.2.sem = fun _ => 0)

def quiescent_HgrnK [hHgrnK : Cert.HgrnK.Facts] : Prop :=
  ∀ (m : (ℓ : Loc Cert.HgrnK.nD Cert.HgrnK.τ Cert.HgrnK.sig) → Buf (Elt Bits) ℓ) (g : Dev Cert.HgrnK.nD → PrngReg), Pre_HgrnK m →
    θ_run (Cert.HgrnK.defs (F := Bits)) (onTc (τ := Cert.HgrnK.τ) (Cert.HgrnK.main (F := Bits))) ⟨m, fun _ => 0, g⟩ (fun r => (∀ c : Dev Cert.HgrnK.nD,
      r.2.mem ((c.tc : Thread Cert.HgrnK.nD Cert.HgrnK.τ).loc Cert.HgrnK.main_arg0) = m ((c.tc : Thread Cert.HgrnK.nD Cert.HgrnK.τ).loc Cert.HgrnK.main_arg0)
      ∧ r.2.mem ((c.tc : Thread Cert.HgrnK.nD Cert.HgrnK.τ).loc Cert.HgrnK.main_arg1) = m ((c.tc : Thread Cert.HgrnK.nD Cert.HgrnK.τ).loc Cert.HgrnK.main_arg1)
      ∧ r.2.mem ((c.tc : Thread Cert.HgrnK.nD Cert.HgrnK.τ).loc Cert.HgrnK.main_arg2) = m ((c.tc : Thread Cert.HgrnK.nD Cert.HgrnK.τ).loc Cert.HgrnK.main_arg2)
      ∧ r.2.mem ((c.tc : Thread Cert.HgrnK.nD Cert.HgrnK.τ).loc Cert.HgrnK.main_arg3) = m ((c.tc : Thread Cert.HgrnK.nD Cert.HgrnK.τ).loc Cert.HgrnK.main_arg3)
      ∧ r.2.mem ((c.tc : Thread Cert.HgrnK.nD Cert.HgrnK.τ).loc Cert.HgrnK.main_arg4) = m ((c.tc : Thread Cert.HgrnK.nD Cert.HgrnK.τ).loc Cert.HgrnK.main_arg4)
      ∧ r.2.mem ((c.tc : Thread Cert.HgrnK.nD Cert.HgrnK.τ).loc Cert.HgrnK.main_arg5) = m ((c.tc : Thread Cert.HgrnK.nD Cert.HgrnK.τ).loc Cert.HgrnK.main_arg5)
      ∧ r.2.mem ((c.tc : Thread Cert.HgrnK.nD Cert.HgrnK.τ).loc Cert.HgrnK.main_arg6) = m ((c.tc : Thread Cert.HgrnK.nD Cert.HgrnK.τ).loc Cert.HgrnK.main_arg6))
      ∧ r.2.sem = fun _ => 0)

def quiescent_HgrnKIdeal [hHgrnKIdeal : Cert.HgrnKIdeal.Facts] : Prop :=
  ∀ (m : (ℓ : Loc Cert.HgrnKIdeal.nD Cert.HgrnKIdeal.τ Cert.HgrnKIdeal.sig) → Buf (Elt Ideal) ℓ) (g : Dev Cert.HgrnKIdeal.nD → PrngReg), Pre_HgrnKIdeal m →
    θ_run (Cert.HgrnKIdeal.defs (F := Ideal)) (onTc (τ := Cert.HgrnKIdeal.τ) (Cert.HgrnKIdeal.main (F := Ideal))) ⟨m, fun _ => 0, g⟩ (fun r => (∀ c : Dev Cert.HgrnKIdeal.nD,
      r.2.mem ((c.tc : Thread Cert.HgrnKIdeal.nD Cert.HgrnKIdeal.τ).loc Cert.HgrnKIdeal.main_arg0) = m ((c.tc : Thread Cert.HgrnKIdeal.nD Cert.HgrnKIdeal.τ).loc Cert.HgrnKIdeal.main_arg0)
      ∧ r.2.mem ((c.tc : Thread Cert.HgrnKIdeal.nD Cert.HgrnKIdeal.τ).loc Cert.HgrnKIdeal.main_arg1) = m ((c.tc : Thread Cert.HgrnKIdeal.nD Cert.HgrnKIdeal.τ).loc Cert.HgrnKIdeal.main_arg1)
      ∧ r.2.mem ((c.tc : Thread Cert.HgrnKIdeal.nD Cert.HgrnKIdeal.τ).loc Cert.HgrnKIdeal.main_arg2) = m ((c.tc : Thread Cert.HgrnKIdeal.nD Cert.HgrnKIdeal.τ).loc Cert.HgrnKIdeal.main_arg2)
      ∧ r.2.mem ((c.tc : Thread Cert.HgrnKIdeal.nD Cert.HgrnKIdeal.τ).loc Cert.HgrnKIdeal.main_arg3) = m ((c.tc : Thread Cert.HgrnKIdeal.nD Cert.HgrnKIdeal.τ).loc Cert.HgrnKIdeal.main_arg3)
      ∧ r.2.mem ((c.tc : Thread Cert.HgrnKIdeal.nD Cert.HgrnKIdeal.τ).loc Cert.HgrnKIdeal.main_arg4) = m ((c.tc : Thread Cert.HgrnKIdeal.nD Cert.HgrnKIdeal.τ).loc Cert.HgrnKIdeal.main_arg4)
      ∧ r.2.mem ((c.tc : Thread Cert.HgrnKIdeal.nD Cert.HgrnKIdeal.τ).loc Cert.HgrnKIdeal.main_arg5) = m ((c.tc : Thread Cert.HgrnKIdeal.nD Cert.HgrnKIdeal.τ).loc Cert.HgrnKIdeal.main_arg5)
      ∧ r.2.mem ((c.tc : Thread Cert.HgrnKIdeal.nD Cert.HgrnKIdeal.τ).loc Cert.HgrnKIdeal.main_arg6) = m ((c.tc : Thread Cert.HgrnKIdeal.nD Cert.HgrnKIdeal.τ).loc Cert.HgrnKIdeal.main_arg6))
      ∧ r.2.sem = fun _ => 0)

def quiescent_AttnFK [hAttnFK : Cert.AttnFK.Facts] : Prop :=
  ∀ (m : (ℓ : Loc Cert.AttnFK.nD Cert.AttnFK.τ Cert.AttnFK.sig) → Buf (Elt Bits) ℓ) (g : Dev Cert.AttnFK.nD → PrngReg), Pre_AttnFK m →
    θ_run (Cert.AttnFK.defs (F := Bits)) (onTc (τ := Cert.AttnFK.τ) (Cert.AttnFK.main (F := Bits))) ⟨m, fun _ => 0, g⟩ (fun r => (∀ c : Dev Cert.AttnFK.nD,
      r.2.mem ((c.tc : Thread Cert.AttnFK.nD Cert.AttnFK.τ).loc Cert.AttnFK.main_arg0) = m ((c.tc : Thread Cert.AttnFK.nD Cert.AttnFK.τ).loc Cert.AttnFK.main_arg0)
      ∧ r.2.mem ((c.tc : Thread Cert.AttnFK.nD Cert.AttnFK.τ).loc Cert.AttnFK.main_arg1) = m ((c.tc : Thread Cert.AttnFK.nD Cert.AttnFK.τ).loc Cert.AttnFK.main_arg1))
      ∧ r.2.sem = fun _ => 0)

def quiescent_AttnFKIdeal [hAttnFKIdeal : Cert.AttnFKIdeal.Facts] : Prop :=
  ∀ (m : (ℓ : Loc Cert.AttnFKIdeal.nD Cert.AttnFKIdeal.τ Cert.AttnFKIdeal.sig) → Buf (Elt Ideal) ℓ) (g : Dev Cert.AttnFKIdeal.nD → PrngReg), Pre_AttnFKIdeal m →
    θ_run (Cert.AttnFKIdeal.defs (F := Ideal)) (onTc (τ := Cert.AttnFKIdeal.τ) (Cert.AttnFKIdeal.main (F := Ideal))) ⟨m, fun _ => 0, g⟩ (fun r => (∀ c : Dev Cert.AttnFKIdeal.nD,
      r.2.mem ((c.tc : Thread Cert.AttnFKIdeal.nD Cert.AttnFKIdeal.τ).loc Cert.AttnFKIdeal.main_arg0) = m ((c.tc : Thread Cert.AttnFKIdeal.nD Cert.AttnFKIdeal.τ).loc Cert.AttnFKIdeal.main_arg0)
      ∧ r.2.mem ((c.tc : Thread Cert.AttnFKIdeal.nD Cert.AttnFKIdeal.τ).loc Cert.AttnFKIdeal.main_arg1) = m ((c.tc : Thread Cert.AttnFKIdeal.nD Cert.AttnFKIdeal.τ).loc Cert.AttnFKIdeal.main_arg1))
      ∧ r.2.sem = fun _ => 0)

def quiescent_AttnFRIdeal [hAttnFRIdeal : Cert.AttnFRIdeal.Facts] : Prop :=
  ∀ (m : (ℓ : Loc Cert.AttnFRIdeal.nD Cert.AttnFRIdeal.τ Cert.AttnFRIdeal.sig) → Buf (Elt Ideal) ℓ) (g : Dev Cert.AttnFRIdeal.nD → PrngReg), Pre_AttnFRIdeal m →
    θ_run (Cert.AttnFRIdeal.defs (F := Ideal)) (onTc (τ := Cert.AttnFRIdeal.τ) (Cert.AttnFRIdeal.main (F := Ideal))) ⟨m, fun _ => 0, g⟩ (fun r => (∀ c : Dev Cert.AttnFRIdeal.nD,
      r.2.mem ((c.tc : Thread Cert.AttnFRIdeal.nD Cert.AttnFRIdeal.τ).loc Cert.AttnFRIdeal.main_arg0) = m ((c.tc : Thread Cert.AttnFRIdeal.nD Cert.AttnFRIdeal.τ).loc Cert.AttnFRIdeal.main_arg0)
      ∧ r.2.mem ((c.tc : Thread Cert.AttnFRIdeal.nD Cert.AttnFRIdeal.τ).loc Cert.AttnFRIdeal.main_arg1) = m ((c.tc : Thread Cert.AttnFRIdeal.nD Cert.AttnFRIdeal.τ).loc Cert.AttnFRIdeal.main_arg1))
      ∧ r.2.sem = fun _ => 0)

def quiescent_NormFK [hNormFK : Cert.NormFK.Facts] : Prop :=
  ∀ (m : (ℓ : Loc Cert.NormFK.nD Cert.NormFK.τ Cert.NormFK.sig) → Buf (Elt Bits) ℓ) (g : Dev Cert.NormFK.nD → PrngReg), Pre_NormFK m →
    θ_run (Cert.NormFK.defs (F := Bits)) (onTc (τ := Cert.NormFK.τ) (Cert.NormFK.main (F := Bits))) ⟨m, fun _ => 0, g⟩ (fun r => (∀ c : Dev Cert.NormFK.nD,
      r.2.mem ((c.tc : Thread Cert.NormFK.nD Cert.NormFK.τ).loc Cert.NormFK.main_arg0) = m ((c.tc : Thread Cert.NormFK.nD Cert.NormFK.τ).loc Cert.NormFK.main_arg0)
      ∧ r.2.mem ((c.tc : Thread Cert.NormFK.nD Cert.NormFK.τ).loc Cert.NormFK.main_arg1) = m ((c.tc : Thread Cert.NormFK.nD Cert.NormFK.τ).loc Cert.NormFK.main_arg1))
      ∧ r.2.sem = fun _ => 0)

def quiescent_NormFKIdeal [hNormFKIdeal : Cert.NormFKIdeal.Facts] : Prop :=
  ∀ (m : (ℓ : Loc Cert.NormFKIdeal.nD Cert.NormFKIdeal.τ Cert.NormFKIdeal.sig) → Buf (Elt Ideal) ℓ) (g : Dev Cert.NormFKIdeal.nD → PrngReg), Pre_NormFKIdeal m →
    θ_run (Cert.NormFKIdeal.defs (F := Ideal)) (onTc (τ := Cert.NormFKIdeal.τ) (Cert.NormFKIdeal.main (F := Ideal))) ⟨m, fun _ => 0, g⟩ (fun r => (∀ c : Dev Cert.NormFKIdeal.nD,
      r.2.mem ((c.tc : Thread Cert.NormFKIdeal.nD Cert.NormFKIdeal.τ).loc Cert.NormFKIdeal.main_arg0) = m ((c.tc : Thread Cert.NormFKIdeal.nD Cert.NormFKIdeal.τ).loc Cert.NormFKIdeal.main_arg0)
      ∧ r.2.mem ((c.tc : Thread Cert.NormFKIdeal.nD Cert.NormFKIdeal.τ).loc Cert.NormFKIdeal.main_arg1) = m ((c.tc : Thread Cert.NormFKIdeal.nD Cert.NormFKIdeal.τ).loc Cert.NormFKIdeal.main_arg1))
      ∧ r.2.sem = fun _ => 0)

def quiescent_NormFRIdeal [hNormFRIdeal : Cert.NormFRIdeal.Facts] : Prop :=
  ∀ (m : (ℓ : Loc Cert.NormFRIdeal.nD Cert.NormFRIdeal.τ Cert.NormFRIdeal.sig) → Buf (Elt Ideal) ℓ) (g : Dev Cert.NormFRIdeal.nD → PrngReg), Pre_NormFRIdeal m →
    θ_run (Cert.NormFRIdeal.defs (F := Ideal)) (onTc (τ := Cert.NormFRIdeal.τ) (Cert.NormFRIdeal.main (F := Ideal))) ⟨m, fun _ => 0, g⟩ (fun r => (∀ c : Dev Cert.NormFRIdeal.nD,
      r.2.mem ((c.tc : Thread Cert.NormFRIdeal.nD Cert.NormFRIdeal.τ).loc Cert.NormFRIdeal.main_arg0) = m ((c.tc : Thread Cert.NormFRIdeal.nD Cert.NormFRIdeal.τ).loc Cert.NormFRIdeal.main_arg0)
      ∧ r.2.mem ((c.tc : Thread Cert.NormFRIdeal.nD Cert.NormFRIdeal.τ).loc Cert.NormFRIdeal.main_arg1) = m ((c.tc : Thread Cert.NormFRIdeal.nD Cert.NormFRIdeal.τ).loc Cert.NormFRIdeal.main_arg1))
      ∧ r.2.sem = fun _ => 0)

def quiescent_GmlpFK [hGmlpFK : Cert.GmlpFK.Facts] : Prop :=
  ∀ (m : (ℓ : Loc Cert.GmlpFK.nD Cert.GmlpFK.τ Cert.GmlpFK.sig) → Buf (Elt Bits) ℓ) (g : Dev Cert.GmlpFK.nD → PrngReg), Pre_GmlpFK m →
    θ_run (Cert.GmlpFK.defs (F := Bits)) (onTc (τ := Cert.GmlpFK.τ) (Cert.GmlpFK.main (F := Bits))) ⟨m, fun _ => 0, g⟩ (fun r => (∀ c : Dev Cert.GmlpFK.nD,
      r.2.mem ((c.tc : Thread Cert.GmlpFK.nD Cert.GmlpFK.τ).loc Cert.GmlpFK.main_arg0) = m ((c.tc : Thread Cert.GmlpFK.nD Cert.GmlpFK.τ).loc Cert.GmlpFK.main_arg0)
      ∧ r.2.mem ((c.tc : Thread Cert.GmlpFK.nD Cert.GmlpFK.τ).loc Cert.GmlpFK.main_arg1) = m ((c.tc : Thread Cert.GmlpFK.nD Cert.GmlpFK.τ).loc Cert.GmlpFK.main_arg1)
      ∧ r.2.mem ((c.tc : Thread Cert.GmlpFK.nD Cert.GmlpFK.τ).loc Cert.GmlpFK.main_arg2) = m ((c.tc : Thread Cert.GmlpFK.nD Cert.GmlpFK.τ).loc Cert.GmlpFK.main_arg2)
      ∧ r.2.mem ((c.tc : Thread Cert.GmlpFK.nD Cert.GmlpFK.τ).loc Cert.GmlpFK.main_arg3) = m ((c.tc : Thread Cert.GmlpFK.nD Cert.GmlpFK.τ).loc Cert.GmlpFK.main_arg3)
      ∧ r.2.mem ((c.tc : Thread Cert.GmlpFK.nD Cert.GmlpFK.τ).loc Cert.GmlpFK.main_arg4) = m ((c.tc : Thread Cert.GmlpFK.nD Cert.GmlpFK.τ).loc Cert.GmlpFK.main_arg4))
      ∧ r.2.sem = fun _ => 0)

def quiescent_GmlpFKIdeal [hGmlpFKIdeal : Cert.GmlpFKIdeal.Facts] : Prop :=
  ∀ (m : (ℓ : Loc Cert.GmlpFKIdeal.nD Cert.GmlpFKIdeal.τ Cert.GmlpFKIdeal.sig) → Buf (Elt Ideal) ℓ) (g : Dev Cert.GmlpFKIdeal.nD → PrngReg), Pre_GmlpFKIdeal m →
    θ_run (Cert.GmlpFKIdeal.defs (F := Ideal)) (onTc (τ := Cert.GmlpFKIdeal.τ) (Cert.GmlpFKIdeal.main (F := Ideal))) ⟨m, fun _ => 0, g⟩ (fun r => (∀ c : Dev Cert.GmlpFKIdeal.nD,
      r.2.mem ((c.tc : Thread Cert.GmlpFKIdeal.nD Cert.GmlpFKIdeal.τ).loc Cert.GmlpFKIdeal.main_arg0) = m ((c.tc : Thread Cert.GmlpFKIdeal.nD Cert.GmlpFKIdeal.τ).loc Cert.GmlpFKIdeal.main_arg0)
      ∧ r.2.mem ((c.tc : Thread Cert.GmlpFKIdeal.nD Cert.GmlpFKIdeal.τ).loc Cert.GmlpFKIdeal.main_arg1) = m ((c.tc : Thread Cert.GmlpFKIdeal.nD Cert.GmlpFKIdeal.τ).loc Cert.GmlpFKIdeal.main_arg1)
      ∧ r.2.mem ((c.tc : Thread Cert.GmlpFKIdeal.nD Cert.GmlpFKIdeal.τ).loc Cert.GmlpFKIdeal.main_arg2) = m ((c.tc : Thread Cert.GmlpFKIdeal.nD Cert.GmlpFKIdeal.τ).loc Cert.GmlpFKIdeal.main_arg2)
      ∧ r.2.mem ((c.tc : Thread Cert.GmlpFKIdeal.nD Cert.GmlpFKIdeal.τ).loc Cert.GmlpFKIdeal.main_arg3) = m ((c.tc : Thread Cert.GmlpFKIdeal.nD Cert.GmlpFKIdeal.τ).loc Cert.GmlpFKIdeal.main_arg3)
      ∧ r.2.mem ((c.tc : Thread Cert.GmlpFKIdeal.nD Cert.GmlpFKIdeal.τ).loc Cert.GmlpFKIdeal.main_arg4) = m ((c.tc : Thread Cert.GmlpFKIdeal.nD Cert.GmlpFKIdeal.τ).loc Cert.GmlpFKIdeal.main_arg4))
      ∧ r.2.sem = fun _ => 0)

def quiescent_GmlpFRIdeal [hGmlpFRIdeal : Cert.GmlpFRIdeal.Facts] : Prop :=
  ∀ (m : (ℓ : Loc Cert.GmlpFRIdeal.nD Cert.GmlpFRIdeal.τ Cert.GmlpFRIdeal.sig) → Buf (Elt Ideal) ℓ) (g : Dev Cert.GmlpFRIdeal.nD → PrngReg), Pre_GmlpFRIdeal m →
    θ_run (Cert.GmlpFRIdeal.defs (F := Ideal)) (onTc (τ := Cert.GmlpFRIdeal.τ) (Cert.GmlpFRIdeal.main (F := Ideal))) ⟨m, fun _ => 0, g⟩ (fun r => (∀ c : Dev Cert.GmlpFRIdeal.nD,
      r.2.mem ((c.tc : Thread Cert.GmlpFRIdeal.nD Cert.GmlpFRIdeal.τ).loc Cert.GmlpFRIdeal.main_arg0) = m ((c.tc : Thread Cert.GmlpFRIdeal.nD Cert.GmlpFRIdeal.τ).loc Cert.GmlpFRIdeal.main_arg0)
      ∧ r.2.mem ((c.tc : Thread Cert.GmlpFRIdeal.nD Cert.GmlpFRIdeal.τ).loc Cert.GmlpFRIdeal.main_arg1) = m ((c.tc : Thread Cert.GmlpFRIdeal.nD Cert.GmlpFRIdeal.τ).loc Cert.GmlpFRIdeal.main_arg1)
      ∧ r.2.mem ((c.tc : Thread Cert.GmlpFRIdeal.nD Cert.GmlpFRIdeal.τ).loc Cert.GmlpFRIdeal.main_arg2) = m ((c.tc : Thread Cert.GmlpFRIdeal.nD Cert.GmlpFRIdeal.τ).loc Cert.GmlpFRIdeal.main_arg2)
      ∧ r.2.mem ((c.tc : Thread Cert.GmlpFRIdeal.nD Cert.GmlpFRIdeal.τ).loc Cert.GmlpFRIdeal.main_arg3) = m ((c.tc : Thread Cert.GmlpFRIdeal.nD Cert.GmlpFRIdeal.τ).loc Cert.GmlpFRIdeal.main_arg3)
      ∧ r.2.mem ((c.tc : Thread Cert.GmlpFRIdeal.nD Cert.GmlpFRIdeal.τ).loc Cert.GmlpFRIdeal.main_arg4) = m ((c.tc : Thread Cert.GmlpFRIdeal.nD Cert.GmlpFRIdeal.τ).loc Cert.GmlpFRIdeal.main_arg4))
      ∧ r.2.sem = fun _ => 0)

def quiescent_MergeFK [hMergeFK : Cert.MergeFK.Facts] : Prop :=
  ∀ (m : (ℓ : Loc Cert.MergeFK.nD Cert.MergeFK.τ Cert.MergeFK.sig) → Buf (Elt Bits) ℓ) (g : Dev Cert.MergeFK.nD → PrngReg), Pre_MergeFK m →
    θ_run (Cert.MergeFK.defs (F := Bits)) (onTc (τ := Cert.MergeFK.τ) (Cert.MergeFK.main (F := Bits))) ⟨m, fun _ => 0, g⟩ (fun r => (∀ c : Dev Cert.MergeFK.nD,
      r.2.mem ((c.tc : Thread Cert.MergeFK.nD Cert.MergeFK.τ).loc Cert.MergeFK.main_arg0) = m ((c.tc : Thread Cert.MergeFK.nD Cert.MergeFK.τ).loc Cert.MergeFK.main_arg0)
      ∧ r.2.mem ((c.tc : Thread Cert.MergeFK.nD Cert.MergeFK.τ).loc Cert.MergeFK.main_arg1) = m ((c.tc : Thread Cert.MergeFK.nD Cert.MergeFK.τ).loc Cert.MergeFK.main_arg1)
      ∧ r.2.mem ((c.tc : Thread Cert.MergeFK.nD Cert.MergeFK.τ).loc Cert.MergeFK.main_arg2) = m ((c.tc : Thread Cert.MergeFK.nD Cert.MergeFK.τ).loc Cert.MergeFK.main_arg2)
      ∧ r.2.mem ((c.tc : Thread Cert.MergeFK.nD Cert.MergeFK.τ).loc Cert.MergeFK.main_arg3) = m ((c.tc : Thread Cert.MergeFK.nD Cert.MergeFK.τ).loc Cert.MergeFK.main_arg3)
      ∧ r.2.mem ((c.tc : Thread Cert.MergeFK.nD Cert.MergeFK.τ).loc Cert.MergeFK.main_arg4) = m ((c.tc : Thread Cert.MergeFK.nD Cert.MergeFK.τ).loc Cert.MergeFK.main_arg4)
      ∧ r.2.mem ((c.tc : Thread Cert.MergeFK.nD Cert.MergeFK.τ).loc Cert.MergeFK.main_arg5) = m ((c.tc : Thread Cert.MergeFK.nD Cert.MergeFK.τ).loc Cert.MergeFK.main_arg5)
      ∧ r.2.mem ((c.tc : Thread Cert.MergeFK.nD Cert.MergeFK.τ).loc Cert.MergeFK.main_arg6) = m ((c.tc : Thread Cert.MergeFK.nD Cert.MergeFK.τ).loc Cert.MergeFK.main_arg6)
      ∧ r.2.mem ((c.tc : Thread Cert.MergeFK.nD Cert.MergeFK.τ).loc Cert.MergeFK.main_arg7) = m ((c.tc : Thread Cert.MergeFK.nD Cert.MergeFK.τ).loc Cert.MergeFK.main_arg7))
      ∧ r.2.sem = fun _ => 0)

def quiescent_MergeFKIdeal [hMergeFKIdeal : Cert.MergeFKIdeal.Facts] : Prop :=
  ∀ (m : (ℓ : Loc Cert.MergeFKIdeal.nD Cert.MergeFKIdeal.τ Cert.MergeFKIdeal.sig) → Buf (Elt Ideal) ℓ) (g : Dev Cert.MergeFKIdeal.nD → PrngReg), Pre_MergeFKIdeal m →
    θ_run (Cert.MergeFKIdeal.defs (F := Ideal)) (onTc (τ := Cert.MergeFKIdeal.τ) (Cert.MergeFKIdeal.main (F := Ideal))) ⟨m, fun _ => 0, g⟩ (fun r => (∀ c : Dev Cert.MergeFKIdeal.nD,
      r.2.mem ((c.tc : Thread Cert.MergeFKIdeal.nD Cert.MergeFKIdeal.τ).loc Cert.MergeFKIdeal.main_arg0) = m ((c.tc : Thread Cert.MergeFKIdeal.nD Cert.MergeFKIdeal.τ).loc Cert.MergeFKIdeal.main_arg0)
      ∧ r.2.mem ((c.tc : Thread Cert.MergeFKIdeal.nD Cert.MergeFKIdeal.τ).loc Cert.MergeFKIdeal.main_arg1) = m ((c.tc : Thread Cert.MergeFKIdeal.nD Cert.MergeFKIdeal.τ).loc Cert.MergeFKIdeal.main_arg1)
      ∧ r.2.mem ((c.tc : Thread Cert.MergeFKIdeal.nD Cert.MergeFKIdeal.τ).loc Cert.MergeFKIdeal.main_arg2) = m ((c.tc : Thread Cert.MergeFKIdeal.nD Cert.MergeFKIdeal.τ).loc Cert.MergeFKIdeal.main_arg2)
      ∧ r.2.mem ((c.tc : Thread Cert.MergeFKIdeal.nD Cert.MergeFKIdeal.τ).loc Cert.MergeFKIdeal.main_arg3) = m ((c.tc : Thread Cert.MergeFKIdeal.nD Cert.MergeFKIdeal.τ).loc Cert.MergeFKIdeal.main_arg3)
      ∧ r.2.mem ((c.tc : Thread Cert.MergeFKIdeal.nD Cert.MergeFKIdeal.τ).loc Cert.MergeFKIdeal.main_arg4) = m ((c.tc : Thread Cert.MergeFKIdeal.nD Cert.MergeFKIdeal.τ).loc Cert.MergeFKIdeal.main_arg4)
      ∧ r.2.mem ((c.tc : Thread Cert.MergeFKIdeal.nD Cert.MergeFKIdeal.τ).loc Cert.MergeFKIdeal.main_arg5) = m ((c.tc : Thread Cert.MergeFKIdeal.nD Cert.MergeFKIdeal.τ).loc Cert.MergeFKIdeal.main_arg5)
      ∧ r.2.mem ((c.tc : Thread Cert.MergeFKIdeal.nD Cert.MergeFKIdeal.τ).loc Cert.MergeFKIdeal.main_arg6) = m ((c.tc : Thread Cert.MergeFKIdeal.nD Cert.MergeFKIdeal.τ).loc Cert.MergeFKIdeal.main_arg6)
      ∧ r.2.mem ((c.tc : Thread Cert.MergeFKIdeal.nD Cert.MergeFKIdeal.τ).loc Cert.MergeFKIdeal.main_arg7) = m ((c.tc : Thread Cert.MergeFKIdeal.nD Cert.MergeFKIdeal.τ).loc Cert.MergeFKIdeal.main_arg7))
      ∧ r.2.sem = fun _ => 0)

def quiescent_MergeFRIdeal [hMergeFRIdeal : Cert.MergeFRIdeal.Facts] : Prop :=
  ∀ (m : (ℓ : Loc Cert.MergeFRIdeal.nD Cert.MergeFRIdeal.τ Cert.MergeFRIdeal.sig) → Buf (Elt Ideal) ℓ) (g : Dev Cert.MergeFRIdeal.nD → PrngReg), Pre_MergeFRIdeal m →
    θ_run (Cert.MergeFRIdeal.defs (F := Ideal)) (onTc (τ := Cert.MergeFRIdeal.τ) (Cert.MergeFRIdeal.main (F := Ideal))) ⟨m, fun _ => 0, g⟩ (fun r => (∀ c : Dev Cert.MergeFRIdeal.nD,
      r.2.mem ((c.tc : Thread Cert.MergeFRIdeal.nD Cert.MergeFRIdeal.τ).loc Cert.MergeFRIdeal.main_arg0) = m ((c.tc : Thread Cert.MergeFRIdeal.nD Cert.MergeFRIdeal.τ).loc Cert.MergeFRIdeal.main_arg0)
      ∧ r.2.mem ((c.tc : Thread Cert.MergeFRIdeal.nD Cert.MergeFRIdeal.τ).loc Cert.MergeFRIdeal.main_arg1) = m ((c.tc : Thread Cert.MergeFRIdeal.nD Cert.MergeFRIdeal.τ).loc Cert.MergeFRIdeal.main_arg1)
      ∧ r.2.mem ((c.tc : Thread Cert.MergeFRIdeal.nD Cert.MergeFRIdeal.τ).loc Cert.MergeFRIdeal.main_arg2) = m ((c.tc : Thread Cert.MergeFRIdeal.nD Cert.MergeFRIdeal.τ).loc Cert.MergeFRIdeal.main_arg2)
      ∧ r.2.mem ((c.tc : Thread Cert.MergeFRIdeal.nD Cert.MergeFRIdeal.τ).loc Cert.MergeFRIdeal.main_arg3) = m ((c.tc : Thread Cert.MergeFRIdeal.nD Cert.MergeFRIdeal.τ).loc Cert.MergeFRIdeal.main_arg3)
      ∧ r.2.mem ((c.tc : Thread Cert.MergeFRIdeal.nD Cert.MergeFRIdeal.τ).loc Cert.MergeFRIdeal.main_arg4) = m ((c.tc : Thread Cert.MergeFRIdeal.nD Cert.MergeFRIdeal.τ).loc Cert.MergeFRIdeal.main_arg4)
      ∧ r.2.mem ((c.tc : Thread Cert.MergeFRIdeal.nD Cert.MergeFRIdeal.τ).loc Cert.MergeFRIdeal.main_arg5) = m ((c.tc : Thread Cert.MergeFRIdeal.nD Cert.MergeFRIdeal.τ).loc Cert.MergeFRIdeal.main_arg5)
      ∧ r.2.mem ((c.tc : Thread Cert.MergeFRIdeal.nD Cert.MergeFRIdeal.τ).loc Cert.MergeFRIdeal.main_arg6) = m ((c.tc : Thread Cert.MergeFRIdeal.nD Cert.MergeFRIdeal.τ).loc Cert.MergeFRIdeal.main_arg6)
      ∧ r.2.mem ((c.tc : Thread Cert.MergeFRIdeal.nD Cert.MergeFRIdeal.τ).loc Cert.MergeFRIdeal.main_arg7) = m ((c.tc : Thread Cert.MergeFRIdeal.nD Cert.MergeFRIdeal.τ).loc Cert.MergeFRIdeal.main_arg7))
      ∧ r.2.sem = fun _ => 0)

def quiescent_ConvFK [hConvFK : Cert.ConvFK.Facts] : Prop :=
  ∀ (m : (ℓ : Loc Cert.ConvFK.nD Cert.ConvFK.τ Cert.ConvFK.sig) → Buf (Elt Bits) ℓ) (g : Dev Cert.ConvFK.nD → PrngReg), Pre_ConvFK m →
    θ_run (Cert.ConvFK.defs (F := Bits)) (onTc (τ := Cert.ConvFK.τ) (Cert.ConvFK.main (F := Bits))) ⟨m, fun _ => 0, g⟩ (fun r => (∀ c : Dev Cert.ConvFK.nD,
      r.2.mem ((c.tc : Thread Cert.ConvFK.nD Cert.ConvFK.τ).loc Cert.ConvFK.main_arg0) = m ((c.tc : Thread Cert.ConvFK.nD Cert.ConvFK.τ).loc Cert.ConvFK.main_arg0)
      ∧ r.2.mem ((c.tc : Thread Cert.ConvFK.nD Cert.ConvFK.τ).loc Cert.ConvFK.main_arg1) = m ((c.tc : Thread Cert.ConvFK.nD Cert.ConvFK.τ).loc Cert.ConvFK.main_arg1)
      ∧ r.2.mem ((c.tc : Thread Cert.ConvFK.nD Cert.ConvFK.τ).loc Cert.ConvFK.main_arg2) = m ((c.tc : Thread Cert.ConvFK.nD Cert.ConvFK.τ).loc Cert.ConvFK.main_arg2)
      ∧ r.2.mem ((c.tc : Thread Cert.ConvFK.nD Cert.ConvFK.τ).loc Cert.ConvFK.main_arg3) = m ((c.tc : Thread Cert.ConvFK.nD Cert.ConvFK.τ).loc Cert.ConvFK.main_arg3))
      ∧ r.2.sem = fun _ => 0)

def quiescent_ConvFKIdeal [hConvFKIdeal : Cert.ConvFKIdeal.Facts] : Prop :=
  ∀ (m : (ℓ : Loc Cert.ConvFKIdeal.nD Cert.ConvFKIdeal.τ Cert.ConvFKIdeal.sig) → Buf (Elt Ideal) ℓ) (g : Dev Cert.ConvFKIdeal.nD → PrngReg), Pre_ConvFKIdeal m →
    θ_run (Cert.ConvFKIdeal.defs (F := Ideal)) (onTc (τ := Cert.ConvFKIdeal.τ) (Cert.ConvFKIdeal.main (F := Ideal))) ⟨m, fun _ => 0, g⟩ (fun r => (∀ c : Dev Cert.ConvFKIdeal.nD,
      r.2.mem ((c.tc : Thread Cert.ConvFKIdeal.nD Cert.ConvFKIdeal.τ).loc Cert.ConvFKIdeal.main_arg0) = m ((c.tc : Thread Cert.ConvFKIdeal.nD Cert.ConvFKIdeal.τ).loc Cert.ConvFKIdeal.main_arg0)
      ∧ r.2.mem ((c.tc : Thread Cert.ConvFKIdeal.nD Cert.ConvFKIdeal.τ).loc Cert.ConvFKIdeal.main_arg1) = m ((c.tc : Thread Cert.ConvFKIdeal.nD Cert.ConvFKIdeal.τ).loc Cert.ConvFKIdeal.main_arg1)
      ∧ r.2.mem ((c.tc : Thread Cert.ConvFKIdeal.nD Cert.ConvFKIdeal.τ).loc Cert.ConvFKIdeal.main_arg2) = m ((c.tc : Thread Cert.ConvFKIdeal.nD Cert.ConvFKIdeal.τ).loc Cert.ConvFKIdeal.main_arg2)
      ∧ r.2.mem ((c.tc : Thread Cert.ConvFKIdeal.nD Cert.ConvFKIdeal.τ).loc Cert.ConvFKIdeal.main_arg3) = m ((c.tc : Thread Cert.ConvFKIdeal.nD Cert.ConvFKIdeal.τ).loc Cert.ConvFKIdeal.main_arg3))
      ∧ r.2.sem = fun _ => 0)

def quiescent_ConvFRIdeal [hConvFRIdeal : Cert.ConvFRIdeal.Facts] : Prop :=
  ∀ (m : (ℓ : Loc Cert.ConvFRIdeal.nD Cert.ConvFRIdeal.τ Cert.ConvFRIdeal.sig) → Buf (Elt Ideal) ℓ) (g : Dev Cert.ConvFRIdeal.nD → PrngReg), Pre_ConvFRIdeal m →
    θ_run (Cert.ConvFRIdeal.defs (F := Ideal)) (onTc (τ := Cert.ConvFRIdeal.τ) (Cert.ConvFRIdeal.main (F := Ideal))) ⟨m, fun _ => 0, g⟩ (fun r => (∀ c : Dev Cert.ConvFRIdeal.nD,
      r.2.mem ((c.tc : Thread Cert.ConvFRIdeal.nD Cert.ConvFRIdeal.τ).loc Cert.ConvFRIdeal.main_arg0) = m ((c.tc : Thread Cert.ConvFRIdeal.nD Cert.ConvFRIdeal.τ).loc Cert.ConvFRIdeal.main_arg0)
      ∧ r.2.mem ((c.tc : Thread Cert.ConvFRIdeal.nD Cert.ConvFRIdeal.τ).loc Cert.ConvFRIdeal.main_arg1) = m ((c.tc : Thread Cert.ConvFRIdeal.nD Cert.ConvFRIdeal.τ).loc Cert.ConvFRIdeal.main_arg1)
      ∧ r.2.mem ((c.tc : Thread Cert.ConvFRIdeal.nD Cert.ConvFRIdeal.τ).loc Cert.ConvFRIdeal.main_arg2) = m ((c.tc : Thread Cert.ConvFRIdeal.nD Cert.ConvFRIdeal.τ).loc Cert.ConvFRIdeal.main_arg2)
      ∧ r.2.mem ((c.tc : Thread Cert.ConvFRIdeal.nD Cert.ConvFRIdeal.τ).loc Cert.ConvFRIdeal.main_arg3) = m ((c.tc : Thread Cert.ConvFRIdeal.nD Cert.ConvFRIdeal.τ).loc Cert.ConvFRIdeal.main_arg3))
      ∧ r.2.sem = fun _ => 0)

def quiescent_ProjFK [hProjFK : Cert.ProjFK.Facts] : Prop :=
  ∀ (m : (ℓ : Loc Cert.ProjFK.nD Cert.ProjFK.τ Cert.ProjFK.sig) → Buf (Elt Bits) ℓ) (g : Dev Cert.ProjFK.nD → PrngReg), Pre_ProjFK m →
    θ_run (Cert.ProjFK.defs (F := Bits)) (onTc (τ := Cert.ProjFK.τ) (Cert.ProjFK.main (F := Bits))) ⟨m, fun _ => 0, g⟩ (fun r => (∀ c : Dev Cert.ProjFK.nD,
      r.2.mem ((c.tc : Thread Cert.ProjFK.nD Cert.ProjFK.τ).loc Cert.ProjFK.main_arg0) = m ((c.tc : Thread Cert.ProjFK.nD Cert.ProjFK.τ).loc Cert.ProjFK.main_arg0)
      ∧ r.2.mem ((c.tc : Thread Cert.ProjFK.nD Cert.ProjFK.τ).loc Cert.ProjFK.main_arg1) = m ((c.tc : Thread Cert.ProjFK.nD Cert.ProjFK.τ).loc Cert.ProjFK.main_arg1)
      ∧ r.2.mem ((c.tc : Thread Cert.ProjFK.nD Cert.ProjFK.τ).loc Cert.ProjFK.main_arg2) = m ((c.tc : Thread Cert.ProjFK.nD Cert.ProjFK.τ).loc Cert.ProjFK.main_arg2))
      ∧ r.2.sem = fun _ => 0)

def quiescent_ProjFKIdeal [hProjFKIdeal : Cert.ProjFKIdeal.Facts] : Prop :=
  ∀ (m : (ℓ : Loc Cert.ProjFKIdeal.nD Cert.ProjFKIdeal.τ Cert.ProjFKIdeal.sig) → Buf (Elt Ideal) ℓ) (g : Dev Cert.ProjFKIdeal.nD → PrngReg), Pre_ProjFKIdeal m →
    θ_run (Cert.ProjFKIdeal.defs (F := Ideal)) (onTc (τ := Cert.ProjFKIdeal.τ) (Cert.ProjFKIdeal.main (F := Ideal))) ⟨m, fun _ => 0, g⟩ (fun r => (∀ c : Dev Cert.ProjFKIdeal.nD,
      r.2.mem ((c.tc : Thread Cert.ProjFKIdeal.nD Cert.ProjFKIdeal.τ).loc Cert.ProjFKIdeal.main_arg0) = m ((c.tc : Thread Cert.ProjFKIdeal.nD Cert.ProjFKIdeal.τ).loc Cert.ProjFKIdeal.main_arg0)
      ∧ r.2.mem ((c.tc : Thread Cert.ProjFKIdeal.nD Cert.ProjFKIdeal.τ).loc Cert.ProjFKIdeal.main_arg1) = m ((c.tc : Thread Cert.ProjFKIdeal.nD Cert.ProjFKIdeal.τ).loc Cert.ProjFKIdeal.main_arg1)
      ∧ r.2.mem ((c.tc : Thread Cert.ProjFKIdeal.nD Cert.ProjFKIdeal.τ).loc Cert.ProjFKIdeal.main_arg2) = m ((c.tc : Thread Cert.ProjFKIdeal.nD Cert.ProjFKIdeal.τ).loc Cert.ProjFKIdeal.main_arg2))
      ∧ r.2.sem = fun _ => 0)

def quiescent_ProjFRIdeal [hProjFRIdeal : Cert.ProjFRIdeal.Facts] : Prop :=
  ∀ (m : (ℓ : Loc Cert.ProjFRIdeal.nD Cert.ProjFRIdeal.τ Cert.ProjFRIdeal.sig) → Buf (Elt Ideal) ℓ) (g : Dev Cert.ProjFRIdeal.nD → PrngReg), Pre_ProjFRIdeal m →
    θ_run (Cert.ProjFRIdeal.defs (F := Ideal)) (onTc (τ := Cert.ProjFRIdeal.τ) (Cert.ProjFRIdeal.main (F := Ideal))) ⟨m, fun _ => 0, g⟩ (fun r => (∀ c : Dev Cert.ProjFRIdeal.nD,
      r.2.mem ((c.tc : Thread Cert.ProjFRIdeal.nD Cert.ProjFRIdeal.τ).loc Cert.ProjFRIdeal.main_arg0) = m ((c.tc : Thread Cert.ProjFRIdeal.nD Cert.ProjFRIdeal.τ).loc Cert.ProjFRIdeal.main_arg0)
      ∧ r.2.mem ((c.tc : Thread Cert.ProjFRIdeal.nD Cert.ProjFRIdeal.τ).loc Cert.ProjFRIdeal.main_arg1) = m ((c.tc : Thread Cert.ProjFRIdeal.nD Cert.ProjFRIdeal.τ).loc Cert.ProjFRIdeal.main_arg1)
      ∧ r.2.mem ((c.tc : Thread Cert.ProjFRIdeal.nD Cert.ProjFRIdeal.τ).loc Cert.ProjFRIdeal.main_arg2) = m ((c.tc : Thread Cert.ProjFRIdeal.nD Cert.ProjFRIdeal.τ).loc Cert.ProjFRIdeal.main_arg2))
      ∧ r.2.sem = fun _ => 0)

def quiescent_HgrnFK [hHgrnFK : Cert.HgrnFK.Facts] : Prop :=
  ∀ (m : (ℓ : Loc Cert.HgrnFK.nD Cert.HgrnFK.τ Cert.HgrnFK.sig) → Buf (Elt Bits) ℓ) (g : Dev Cert.HgrnFK.nD → PrngReg), Pre_HgrnFK m →
    θ_run (Cert.HgrnFK.defs (F := Bits)) (onTc (τ := Cert.HgrnFK.τ) (Cert.HgrnFK.main (F := Bits))) ⟨m, fun _ => 0, g⟩ (fun r => (∀ c : Dev Cert.HgrnFK.nD,
      r.2.mem ((c.tc : Thread Cert.HgrnFK.nD Cert.HgrnFK.τ).loc Cert.HgrnFK.main_arg0) = m ((c.tc : Thread Cert.HgrnFK.nD Cert.HgrnFK.τ).loc Cert.HgrnFK.main_arg0)
      ∧ r.2.mem ((c.tc : Thread Cert.HgrnFK.nD Cert.HgrnFK.τ).loc Cert.HgrnFK.main_arg1) = m ((c.tc : Thread Cert.HgrnFK.nD Cert.HgrnFK.τ).loc Cert.HgrnFK.main_arg1)
      ∧ r.2.mem ((c.tc : Thread Cert.HgrnFK.nD Cert.HgrnFK.τ).loc Cert.HgrnFK.main_arg2) = m ((c.tc : Thread Cert.HgrnFK.nD Cert.HgrnFK.τ).loc Cert.HgrnFK.main_arg2))
      ∧ r.2.sem = fun _ => 0)

def quiescent_HgrnFKIdeal [hHgrnFKIdeal : Cert.HgrnFKIdeal.Facts] : Prop :=
  ∀ (m : (ℓ : Loc Cert.HgrnFKIdeal.nD Cert.HgrnFKIdeal.τ Cert.HgrnFKIdeal.sig) → Buf (Elt Ideal) ℓ) (g : Dev Cert.HgrnFKIdeal.nD → PrngReg), Pre_HgrnFKIdeal m →
    θ_run (Cert.HgrnFKIdeal.defs (F := Ideal)) (onTc (τ := Cert.HgrnFKIdeal.τ) (Cert.HgrnFKIdeal.main (F := Ideal))) ⟨m, fun _ => 0, g⟩ (fun r => (∀ c : Dev Cert.HgrnFKIdeal.nD,
      r.2.mem ((c.tc : Thread Cert.HgrnFKIdeal.nD Cert.HgrnFKIdeal.τ).loc Cert.HgrnFKIdeal.main_arg0) = m ((c.tc : Thread Cert.HgrnFKIdeal.nD Cert.HgrnFKIdeal.τ).loc Cert.HgrnFKIdeal.main_arg0)
      ∧ r.2.mem ((c.tc : Thread Cert.HgrnFKIdeal.nD Cert.HgrnFKIdeal.τ).loc Cert.HgrnFKIdeal.main_arg1) = m ((c.tc : Thread Cert.HgrnFKIdeal.nD Cert.HgrnFKIdeal.τ).loc Cert.HgrnFKIdeal.main_arg1)
      ∧ r.2.mem ((c.tc : Thread Cert.HgrnFKIdeal.nD Cert.HgrnFKIdeal.τ).loc Cert.HgrnFKIdeal.main_arg2) = m ((c.tc : Thread Cert.HgrnFKIdeal.nD Cert.HgrnFKIdeal.τ).loc Cert.HgrnFKIdeal.main_arg2))
      ∧ r.2.sem = fun _ => 0)

def quiescent_DwK [hDwK : Cert.DwK.Facts] : Prop :=
  ∀ (m : (ℓ : Loc Cert.DwK.nD Cert.DwK.τ Cert.DwK.sig) → Buf (Elt Bits) ℓ) (g : Dev Cert.DwK.nD → PrngReg), Pre_DwK m →
    θ_run (Cert.DwK.defs (F := Bits)) (onTc (τ := Cert.DwK.τ) (Cert.DwK.main (F := Bits))) ⟨m, fun _ => 0, g⟩ (fun r => (∀ c : Dev Cert.DwK.nD,
      r.2.mem ((c.tc : Thread Cert.DwK.nD Cert.DwK.τ).loc Cert.DwK.main_arg0) = m ((c.tc : Thread Cert.DwK.nD Cert.DwK.τ).loc Cert.DwK.main_arg0)
      ∧ r.2.mem ((c.tc : Thread Cert.DwK.nD Cert.DwK.τ).loc Cert.DwK.main_arg1) = m ((c.tc : Thread Cert.DwK.nD Cert.DwK.τ).loc Cert.DwK.main_arg1))
      ∧ r.2.sem = fun _ => 0)

def quiescent_DwKIdeal [hDwKIdeal : Cert.DwKIdeal.Facts] : Prop :=
  ∀ (m : (ℓ : Loc Cert.DwKIdeal.nD Cert.DwKIdeal.τ Cert.DwKIdeal.sig) → Buf (Elt Ideal) ℓ) (g : Dev Cert.DwKIdeal.nD → PrngReg), Pre_DwKIdeal m →
    θ_run (Cert.DwKIdeal.defs (F := Ideal)) (onTc (τ := Cert.DwKIdeal.τ) (Cert.DwKIdeal.main (F := Ideal))) ⟨m, fun _ => 0, g⟩ (fun r => (∀ c : Dev Cert.DwKIdeal.nD,
      r.2.mem ((c.tc : Thread Cert.DwKIdeal.nD Cert.DwKIdeal.τ).loc Cert.DwKIdeal.main_arg0) = m ((c.tc : Thread Cert.DwKIdeal.nD Cert.DwKIdeal.τ).loc Cert.DwKIdeal.main_arg0)
      ∧ r.2.mem ((c.tc : Thread Cert.DwKIdeal.nD Cert.DwKIdeal.τ).loc Cert.DwKIdeal.main_arg1) = m ((c.tc : Thread Cert.DwKIdeal.nD Cert.DwKIdeal.τ).loc Cert.DwKIdeal.main_arg1))
      ∧ r.2.sem = fun _ => 0)

def quiescent_DwRIdeal [hDwRIdeal : Cert.DwRIdeal.Facts] : Prop :=
  ∀ (m : (ℓ : Loc Cert.DwRIdeal.nD Cert.DwRIdeal.τ Cert.DwRIdeal.sig) → Buf (Elt Ideal) ℓ) (g : Dev Cert.DwRIdeal.nD → PrngReg), Pre_DwRIdeal m →
    θ_run (Cert.DwRIdeal.defs (F := Ideal)) (onTc (τ := Cert.DwRIdeal.τ) (Cert.DwRIdeal.main (F := Ideal))) ⟨m, fun _ => 0, g⟩ (fun r => (∀ c : Dev Cert.DwRIdeal.nD,
      r.2.mem ((c.tc : Thread Cert.DwRIdeal.nD Cert.DwRIdeal.τ).loc Cert.DwRIdeal.main_arg0) = m ((c.tc : Thread Cert.DwRIdeal.nD Cert.DwRIdeal.τ).loc Cert.DwRIdeal.main_arg0)
      ∧ r.2.mem ((c.tc : Thread Cert.DwRIdeal.nD Cert.DwRIdeal.τ).loc Cert.DwRIdeal.main_arg1) = m ((c.tc : Thread Cert.DwRIdeal.nD Cert.DwRIdeal.τ).loc Cert.DwRIdeal.main_arg1))
      ∧ r.2.sem = fun _ => 0)

def quiescent_AdamK [hAdamK : Cert.AdamK.Facts] : Prop :=
  ∀ (m : (ℓ : Loc Cert.AdamK.nD Cert.AdamK.τ Cert.AdamK.sig) → Buf (Elt Bits) ℓ) (g : Dev Cert.AdamK.nD → PrngReg), Pre_AdamK m →
    θ_run (Cert.AdamK.defs (F := Bits)) (onTc (τ := Cert.AdamK.τ) (Cert.AdamK.main (F := Bits))) ⟨m, fun _ => 0, g⟩ (fun r => (∀ c : Dev Cert.AdamK.nD,
      r.2.mem ((c.tc : Thread Cert.AdamK.nD Cert.AdamK.τ).loc Cert.AdamK.main_arg0) = m ((c.tc : Thread Cert.AdamK.nD Cert.AdamK.τ).loc Cert.AdamK.main_arg0)
      ∧ r.2.mem ((c.tc : Thread Cert.AdamK.nD Cert.AdamK.τ).loc Cert.AdamK.main_arg1) = m ((c.tc : Thread Cert.AdamK.nD Cert.AdamK.τ).loc Cert.AdamK.main_arg1)
      ∧ r.2.mem ((c.tc : Thread Cert.AdamK.nD Cert.AdamK.τ).loc Cert.AdamK.main_arg2) = m ((c.tc : Thread Cert.AdamK.nD Cert.AdamK.τ).loc Cert.AdamK.main_arg2)
      ∧ r.2.mem ((c.tc : Thread Cert.AdamK.nD Cert.AdamK.τ).loc Cert.AdamK.main_arg3) = m ((c.tc : Thread Cert.AdamK.nD Cert.AdamK.τ).loc Cert.AdamK.main_arg3)
      ∧ r.2.mem ((c.tc : Thread Cert.AdamK.nD Cert.AdamK.τ).loc Cert.AdamK.main_arg4) = m ((c.tc : Thread Cert.AdamK.nD Cert.AdamK.τ).loc Cert.AdamK.main_arg4))
      ∧ r.2.sem = fun _ => 0)

def quiescent_AdamKIdeal [hAdamKIdeal : Cert.AdamKIdeal.Facts] : Prop :=
  ∀ (m : (ℓ : Loc Cert.AdamKIdeal.nD Cert.AdamKIdeal.τ Cert.AdamKIdeal.sig) → Buf (Elt Ideal) ℓ) (g : Dev Cert.AdamKIdeal.nD → PrngReg), Pre_AdamKIdeal m →
    θ_run (Cert.AdamKIdeal.defs (F := Ideal)) (onTc (τ := Cert.AdamKIdeal.τ) (Cert.AdamKIdeal.main (F := Ideal))) ⟨m, fun _ => 0, g⟩ (fun r => (∀ c : Dev Cert.AdamKIdeal.nD,
      r.2.mem ((c.tc : Thread Cert.AdamKIdeal.nD Cert.AdamKIdeal.τ).loc Cert.AdamKIdeal.main_arg0) = m ((c.tc : Thread Cert.AdamKIdeal.nD Cert.AdamKIdeal.τ).loc Cert.AdamKIdeal.main_arg0)
      ∧ r.2.mem ((c.tc : Thread Cert.AdamKIdeal.nD Cert.AdamKIdeal.τ).loc Cert.AdamKIdeal.main_arg1) = m ((c.tc : Thread Cert.AdamKIdeal.nD Cert.AdamKIdeal.τ).loc Cert.AdamKIdeal.main_arg1)
      ∧ r.2.mem ((c.tc : Thread Cert.AdamKIdeal.nD Cert.AdamKIdeal.τ).loc Cert.AdamKIdeal.main_arg2) = m ((c.tc : Thread Cert.AdamKIdeal.nD Cert.AdamKIdeal.τ).loc Cert.AdamKIdeal.main_arg2)
      ∧ r.2.mem ((c.tc : Thread Cert.AdamKIdeal.nD Cert.AdamKIdeal.τ).loc Cert.AdamKIdeal.main_arg3) = m ((c.tc : Thread Cert.AdamKIdeal.nD Cert.AdamKIdeal.τ).loc Cert.AdamKIdeal.main_arg3)
      ∧ r.2.mem ((c.tc : Thread Cert.AdamKIdeal.nD Cert.AdamKIdeal.τ).loc Cert.AdamKIdeal.main_arg4) = m ((c.tc : Thread Cert.AdamKIdeal.nD Cert.AdamKIdeal.τ).loc Cert.AdamKIdeal.main_arg4))
      ∧ r.2.sem = fun _ => 0)

def quiescent_AdamRIdeal [hAdamRIdeal : Cert.AdamRIdeal.Facts] : Prop :=
  ∀ (m : (ℓ : Loc Cert.AdamRIdeal.nD Cert.AdamRIdeal.τ Cert.AdamRIdeal.sig) → Buf (Elt Ideal) ℓ) (g : Dev Cert.AdamRIdeal.nD → PrngReg), Pre_AdamRIdeal m →
    θ_run (Cert.AdamRIdeal.defs (F := Ideal)) (onTc (τ := Cert.AdamRIdeal.τ) (Cert.AdamRIdeal.main (F := Ideal))) ⟨m, fun _ => 0, g⟩ (fun r => (∀ c : Dev Cert.AdamRIdeal.nD,
      r.2.mem ((c.tc : Thread Cert.AdamRIdeal.nD Cert.AdamRIdeal.τ).loc Cert.AdamRIdeal.main_arg0) = m ((c.tc : Thread Cert.AdamRIdeal.nD Cert.AdamRIdeal.τ).loc Cert.AdamRIdeal.main_arg0)
      ∧ r.2.mem ((c.tc : Thread Cert.AdamRIdeal.nD Cert.AdamRIdeal.τ).loc Cert.AdamRIdeal.main_arg1) = m ((c.tc : Thread Cert.AdamRIdeal.nD Cert.AdamRIdeal.τ).loc Cert.AdamRIdeal.main_arg1)
      ∧ r.2.mem ((c.tc : Thread Cert.AdamRIdeal.nD Cert.AdamRIdeal.τ).loc Cert.AdamRIdeal.main_arg2) = m ((c.tc : Thread Cert.AdamRIdeal.nD Cert.AdamRIdeal.τ).loc Cert.AdamRIdeal.main_arg2)
      ∧ r.2.mem ((c.tc : Thread Cert.AdamRIdeal.nD Cert.AdamRIdeal.τ).loc Cert.AdamRIdeal.main_arg3) = m ((c.tc : Thread Cert.AdamRIdeal.nD Cert.AdamRIdeal.τ).loc Cert.AdamRIdeal.main_arg3)
      ∧ r.2.mem ((c.tc : Thread Cert.AdamRIdeal.nD Cert.AdamRIdeal.τ).loc Cert.AdamRIdeal.main_arg4) = m ((c.tc : Thread Cert.AdamRIdeal.nD Cert.AdamRIdeal.τ).loc Cert.AdamRIdeal.main_arg4))
      ∧ r.2.sem = fun _ => 0)

def preserves_NormK_NormKIdeal : Prop :=
  True

def algebraic_NormKIdeal_NormRIdeal_pre_finite_norm [hNormKIdeal : Cert.NormKIdeal.Facts] [hNormRIdeal : Cert.NormRIdeal.Facts] [hPre_finite_norm : Cert.Pre_finite_norm.Facts] : Prop :=
  ∀ (m : (ℓ : Loc Cert.NormKIdeal.nD Cert.NormKIdeal.τ Cert.NormKIdeal.sig) → Buf (Elt Ideal) ℓ) (g : Dev Cert.NormKIdeal.nD → PrngReg)
    (m' : (ℓ : Loc Cert.NormRIdeal.nD Cert.NormRIdeal.τ Cert.NormRIdeal.sig) → Buf (Elt Ideal) ℓ) (g' : Dev Cert.NormRIdeal.nD → PrngReg), Pre_NormKIdeal_finite_norm m →
    (∀ c : Dev Cert.NormKIdeal.nD,
      m' ((c.tc : Thread Cert.NormRIdeal.nD Cert.NormRIdeal.τ).loc Cert.NormRIdeal.main_arg0) = m ((c.tc : Thread Cert.NormKIdeal.nD Cert.NormKIdeal.τ).loc Cert.NormKIdeal.main_arg0)
      ∧ m' ((c.tc : Thread Cert.NormRIdeal.nD Cert.NormRIdeal.τ).loc Cert.NormRIdeal.main_arg1) = m ((c.tc : Thread Cert.NormKIdeal.nD Cert.NormKIdeal.τ).loc Cert.NormKIdeal.main_arg1)
      ∧ m' ((c.tc : Thread Cert.NormRIdeal.nD Cert.NormRIdeal.τ).loc Cert.NormRIdeal.main_arg2) = m ((c.tc : Thread Cert.NormKIdeal.nD Cert.NormKIdeal.τ).loc Cert.NormKIdeal.main_arg2)) →
    ∃ (v0 : (c : Dev Cert.NormKIdeal.nD) → Buf (Elt Ideal) ((c.tc : Thread Cert.NormKIdeal.nD Cert.NormKIdeal.τ).loc Cert.NormKIdeal.main_v0_0)) (v1 : (c : Dev Cert.NormKIdeal.nD) → Buf (Elt Ideal) ((c.tc : Thread Cert.NormKIdeal.nD Cert.NormKIdeal.τ).loc Cert.NormKIdeal.main_v0_1)),
      θ_run (Cert.NormKIdeal.defs (F := Ideal)) (onTc (τ := Cert.NormKIdeal.τ) (Cert.NormKIdeal.main (F := Ideal))) ⟨m, fun _ => 0, g⟩ (fun r => ∀ c : Dev Cert.NormKIdeal.nD,
          r.2.mem ((c.tc : Thread Cert.NormKIdeal.nD Cert.NormKIdeal.τ).loc Cert.NormKIdeal.main_v0_0) = v0 c
          ∧ r.2.mem ((c.tc : Thread Cert.NormKIdeal.nD Cert.NormKIdeal.τ).loc Cert.NormKIdeal.main_v0_1) = v1 c
          ∧ r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
          ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
          ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2))
      ∧ θ_run (Cert.NormRIdeal.defs (F := Ideal)) (onTc (τ := Cert.NormRIdeal.τ) (Cert.NormRIdeal.main (F := Ideal))) ⟨m', fun _ => 0, g'⟩ (fun r => ∀ c : Dev Cert.NormRIdeal.nD,
          r.2.mem ((c.tc : Thread Cert.NormRIdeal.nD Cert.NormRIdeal.τ).loc Cert.NormRIdeal.main_v33) = v0 c
          ∧ r.2.mem ((c.tc : Thread Cert.NormRIdeal.nD Cert.NormRIdeal.τ).loc Cert.NormRIdeal.main_v17) = v1 c
          ∧ r.2.mem ((c.tc : Thread Cert.NormRIdeal.nD Cert.NormRIdeal.τ).loc Cert.NormRIdeal.main_arg0) = m' ((c.tc : Thread Cert.NormRIdeal.nD Cert.NormRIdeal.τ).loc Cert.NormRIdeal.main_arg0)
          ∧ r.2.mem ((c.tc : Thread Cert.NormRIdeal.nD Cert.NormRIdeal.τ).loc Cert.NormRIdeal.main_arg1) = m' ((c.tc : Thread Cert.NormRIdeal.nD Cert.NormRIdeal.τ).loc Cert.NormRIdeal.main_arg1)
          ∧ r.2.mem ((c.tc : Thread Cert.NormRIdeal.nD Cert.NormRIdeal.τ).loc Cert.NormRIdeal.main_arg2) = m' ((c.tc : Thread Cert.NormRIdeal.nD Cert.NormRIdeal.τ).loc Cert.NormRIdeal.main_arg2))

def preserves_AttnK_AttnKIdeal : Prop :=
  True

def algebraic_AttnKIdeal_AttnRIdeal_pre_finite_attn [hAttnKIdeal : Cert.AttnKIdeal.Facts] [hAttnRIdeal : Cert.AttnRIdeal.Facts] [hPre_finite_attn : Cert.Pre_finite_attn.Facts] : Prop :=
  ∀ (m : (ℓ : Loc Cert.AttnKIdeal.nD Cert.AttnKIdeal.τ Cert.AttnKIdeal.sig) → Buf (Elt Ideal) ℓ) (g : Dev Cert.AttnKIdeal.nD → PrngReg)
    (m' : (ℓ : Loc Cert.AttnRIdeal.nD Cert.AttnRIdeal.τ Cert.AttnRIdeal.sig) → Buf (Elt Ideal) ℓ) (g' : Dev Cert.AttnRIdeal.nD → PrngReg), Pre_AttnKIdeal_finite_attn m →
    (∀ c : Dev Cert.AttnKIdeal.nD,
      m' ((c.tc : Thread Cert.AttnRIdeal.nD Cert.AttnRIdeal.τ).loc Cert.AttnRIdeal.main_arg0) = m ((c.tc : Thread Cert.AttnKIdeal.nD Cert.AttnKIdeal.τ).loc Cert.AttnKIdeal.main_arg0)
      ∧ m' ((c.tc : Thread Cert.AttnRIdeal.nD Cert.AttnRIdeal.τ).loc Cert.AttnRIdeal.main_arg1) = m ((c.tc : Thread Cert.AttnKIdeal.nD Cert.AttnKIdeal.τ).loc Cert.AttnKIdeal.main_arg1)
      ∧ m' ((c.tc : Thread Cert.AttnRIdeal.nD Cert.AttnRIdeal.τ).loc Cert.AttnRIdeal.main_arg2) = m ((c.tc : Thread Cert.AttnKIdeal.nD Cert.AttnKIdeal.τ).loc Cert.AttnKIdeal.main_arg2)) →
    ∃ (v0 : (c : Dev Cert.AttnKIdeal.nD) → Buf (Elt Ideal) ((c.tc : Thread Cert.AttnKIdeal.nD Cert.AttnKIdeal.τ).loc Cert.AttnKIdeal.main_v0_0)) (v1 : (c : Dev Cert.AttnKIdeal.nD) → Buf (Elt Ideal) ((c.tc : Thread Cert.AttnKIdeal.nD Cert.AttnKIdeal.τ).loc Cert.AttnKIdeal.main_v0_1)),
      θ_run (Cert.AttnKIdeal.defs (F := Ideal)) (onTc (τ := Cert.AttnKIdeal.τ) (Cert.AttnKIdeal.main (F := Ideal))) ⟨m, fun _ => 0, g⟩ (fun r => ∀ c : Dev Cert.AttnKIdeal.nD,
          r.2.mem ((c.tc : Thread Cert.AttnKIdeal.nD Cert.AttnKIdeal.τ).loc Cert.AttnKIdeal.main_v0_0) = v0 c
          ∧ r.2.mem ((c.tc : Thread Cert.AttnKIdeal.nD Cert.AttnKIdeal.τ).loc Cert.AttnKIdeal.main_v0_1) = v1 c
          ∧ r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
          ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
          ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2))
      ∧ θ_run (Cert.AttnRIdeal.defs (F := Ideal)) (onTc (τ := Cert.AttnRIdeal.τ) (Cert.AttnRIdeal.main (F := Ideal))) ⟨m', fun _ => 0, g'⟩ (fun r => ∀ c : Dev Cert.AttnRIdeal.nD,
          r.2.mem ((c.tc : Thread Cert.AttnRIdeal.nD Cert.AttnRIdeal.τ).loc Cert.AttnRIdeal.main_v72) = v0 c
          ∧ r.2.mem ((c.tc : Thread Cert.AttnRIdeal.nD Cert.AttnRIdeal.τ).loc Cert.AttnRIdeal.main_v70) = v1 c
          ∧ r.2.mem ((c.tc : Thread Cert.AttnRIdeal.nD Cert.AttnRIdeal.τ).loc Cert.AttnRIdeal.main_arg0) = m' ((c.tc : Thread Cert.AttnRIdeal.nD Cert.AttnRIdeal.τ).loc Cert.AttnRIdeal.main_arg0)
          ∧ r.2.mem ((c.tc : Thread Cert.AttnRIdeal.nD Cert.AttnRIdeal.τ).loc Cert.AttnRIdeal.main_arg1) = m' ((c.tc : Thread Cert.AttnRIdeal.nD Cert.AttnRIdeal.τ).loc Cert.AttnRIdeal.main_arg1)
          ∧ r.2.mem ((c.tc : Thread Cert.AttnRIdeal.nD Cert.AttnRIdeal.τ).loc Cert.AttnRIdeal.main_arg2) = m' ((c.tc : Thread Cert.AttnRIdeal.nD Cert.AttnRIdeal.τ).loc Cert.AttnRIdeal.main_arg2))

def preserves_ConvK_ConvKIdeal : Prop :=
  True

def algebraic_ConvKIdeal_ConvRIdeal_pre_finite_conv [hConvKIdeal : Cert.ConvKIdeal.Facts] [hConvRIdeal : Cert.ConvRIdeal.Facts] [hPre_finite_conv : Cert.Pre_finite_conv.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvRIdeal.nD Cert.ConvRIdeal.τ Cert.ConvRIdeal.sig) → Buf (Elt Ideal) ℓ) (g' : Dev Cert.ConvRIdeal.nD → PrngReg), Pre_ConvKIdeal_finite_conv m →
    (∀ c : Dev Cert.ConvKIdeal.nD,
      m' ((c.tc : Thread Cert.ConvRIdeal.nD Cert.ConvRIdeal.τ).loc Cert.ConvRIdeal.main_arg0) = m ((c.tc : Thread Cert.ConvKIdeal.nD Cert.ConvKIdeal.τ).loc Cert.ConvKIdeal.main_arg0)
      ∧ m' ((c.tc : Thread Cert.ConvRIdeal.nD Cert.ConvRIdeal.τ).loc Cert.ConvRIdeal.main_arg1) = m ((c.tc : Thread Cert.ConvKIdeal.nD Cert.ConvKIdeal.τ).loc Cert.ConvKIdeal.main_arg1)
      ∧ m' ((c.tc : Thread Cert.ConvRIdeal.nD Cert.ConvRIdeal.τ).loc Cert.ConvRIdeal.main_arg2) = m ((c.tc : Thread Cert.ConvKIdeal.nD Cert.ConvKIdeal.τ).loc Cert.ConvKIdeal.main_arg2)
      ∧ m' ((c.tc : Thread Cert.ConvRIdeal.nD Cert.ConvRIdeal.τ).loc Cert.ConvRIdeal.main_arg3) = m ((c.tc : Thread Cert.ConvKIdeal.nD Cert.ConvKIdeal.τ).loc Cert.ConvKIdeal.main_arg3)
      ∧ m' ((c.tc : Thread Cert.ConvRIdeal.nD Cert.ConvRIdeal.τ).loc Cert.ConvRIdeal.main_arg4) = m ((c.tc : Thread Cert.ConvKIdeal.nD Cert.ConvKIdeal.τ).loc Cert.ConvKIdeal.main_arg4)
      ∧ m' ((c.tc : Thread Cert.ConvRIdeal.nD Cert.ConvRIdeal.τ).loc Cert.ConvRIdeal.main_arg5) = m ((c.tc : Thread Cert.ConvKIdeal.nD Cert.ConvKIdeal.τ).loc Cert.ConvKIdeal.main_arg5)) →
    ∃ (v0 : (c : Dev Cert.ConvKIdeal.nD) → Buf (Elt Ideal) ((c.tc : Thread Cert.ConvKIdeal.nD Cert.ConvKIdeal.τ).loc Cert.ConvKIdeal.main_v0_0)) (v1 : (c : Dev Cert.ConvKIdeal.nD) → Buf (Elt Ideal) ((c.tc : Thread Cert.ConvKIdeal.nD Cert.ConvKIdeal.τ).loc Cert.ConvKIdeal.main_v0_1)) (v2 : (c : Dev Cert.ConvKIdeal.nD) → Buf (Elt Ideal) ((c.tc : Thread Cert.ConvKIdeal.nD Cert.ConvKIdeal.τ).loc Cert.ConvKIdeal.main_v0_2)) (v3 : (c : Dev Cert.ConvKIdeal.nD) → Buf (Elt Ideal) ((c.tc : Thread Cert.ConvKIdeal.nD Cert.ConvKIdeal.τ).loc Cert.ConvKIdeal.main_v0_3)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v0_0) = v0 c
          ∧ r.2.mem ((c.tc : Thread Cert.ConvKIdeal.nD Cert.ConvKIdeal.τ).loc Cert.ConvKIdeal.main_v0_1) = v1 c
          ∧ r.2.mem ((c.tc : Thread Cert.ConvKIdeal.nD Cert.ConvKIdeal.τ).loc Cert.ConvKIdeal.main_v0_2) = v2 c
          ∧ r.2.mem ((c.tc : Thread Cert.ConvKIdeal.nD Cert.ConvKIdeal.τ).loc Cert.ConvKIdeal.main_v0_3) = v3 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
          ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
          ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3)
          ∧ r.2.mem ((c.tc : Thread Cert.ConvKIdeal.nD Cert.ConvKIdeal.τ).loc Cert.ConvKIdeal.main_arg4) = m ((c.tc : Thread Cert.ConvKIdeal.nD Cert.ConvKIdeal.τ).loc Cert.ConvKIdeal.main_arg4)
          ∧ r.2.mem ((c.tc : Thread Cert.ConvKIdeal.nD Cert.ConvKIdeal.τ).loc Cert.ConvKIdeal.main_arg5) = m ((c.tc : Thread Cert.ConvKIdeal.nD Cert.ConvKIdeal.τ).loc Cert.ConvKIdeal.main_arg5))
      ∧ θ_run (Cert.ConvRIdeal.defs (F := Ideal)) (onTc (τ := Cert.ConvRIdeal.τ) (Cert.ConvRIdeal.main (F := Ideal))) ⟨m', fun _ => 0, g'⟩ (fun r => ∀ c : Dev Cert.ConvRIdeal.nD,
          r.2.mem ((c.tc : Thread Cert.ConvRIdeal.nD Cert.ConvRIdeal.τ).loc Cert.ConvRIdeal.main_v79) = v0 c
          ∧ r.2.mem ((c.tc : Thread Cert.ConvRIdeal.nD Cert.ConvRIdeal.τ).loc Cert.ConvRIdeal.main_v80) = v1 c
          ∧ r.2.mem ((c.tc : Thread Cert.ConvRIdeal.nD Cert.ConvRIdeal.τ).loc Cert.ConvRIdeal.main_v76) = v2 c
          ∧ r.2.mem ((c.tc : Thread Cert.ConvRIdeal.nD Cert.ConvRIdeal.τ).loc Cert.ConvRIdeal.main_v64) = v3 c
          ∧ r.2.mem ((c.tc : Thread Cert.ConvRIdeal.nD Cert.ConvRIdeal.τ).loc Cert.ConvRIdeal.main_arg0) = m' ((c.tc : Thread Cert.ConvRIdeal.nD Cert.ConvRIdeal.τ).loc Cert.ConvRIdeal.main_arg0)
          ∧ r.2.mem ((c.tc : Thread Cert.ConvRIdeal.nD Cert.ConvRIdeal.τ).loc Cert.ConvRIdeal.main_arg1) = m' ((c.tc : Thread Cert.ConvRIdeal.nD Cert.ConvRIdeal.τ).loc Cert.ConvRIdeal.main_arg1)
          ∧ r.2.mem ((c.tc : Thread Cert.ConvRIdeal.nD Cert.ConvRIdeal.τ).loc Cert.ConvRIdeal.main_arg2) = m' ((c.tc : Thread Cert.ConvRIdeal.nD Cert.ConvRIdeal.τ).loc Cert.ConvRIdeal.main_arg2)
          ∧ r.2.mem ((c.tc : Thread Cert.ConvRIdeal.nD Cert.ConvRIdeal.τ).loc Cert.ConvRIdeal.main_arg3) = m' ((c.tc : Thread Cert.ConvRIdeal.nD Cert.ConvRIdeal.τ).loc Cert.ConvRIdeal.main_arg3)
          ∧ r.2.mem ((c.tc : Thread Cert.ConvRIdeal.nD Cert.ConvRIdeal.τ).loc Cert.ConvRIdeal.main_arg4) = m' ((c.tc : Thread Cert.ConvRIdeal.nD Cert.ConvRIdeal.τ).loc Cert.ConvRIdeal.main_arg4)
          ∧ r.2.mem ((c.tc : Thread Cert.ConvRIdeal.nD Cert.ConvRIdeal.τ).loc Cert.ConvRIdeal.main_arg5) = m' ((c.tc : Thread Cert.ConvRIdeal.nD Cert.ConvRIdeal.τ).loc Cert.ConvRIdeal.main_arg5))

def preserves_GmlpK_GmlpKIdeal : Prop :=
  True

def algebraic_GmlpKIdeal_GmlpRIdeal_pre_finite_gmlp [hGmlpKIdeal : Cert.GmlpKIdeal.Facts] [hGmlpRIdeal : Cert.GmlpRIdeal.Facts] [hPre_finite_gmlp : Cert.Pre_finite_gmlp.Facts] : Prop :=
  ∀ (m : (ℓ : Loc Cert.GmlpKIdeal.nD Cert.GmlpKIdeal.τ Cert.GmlpKIdeal.sig) → Buf (Elt Ideal) ℓ) (g : Dev Cert.GmlpKIdeal.nD → PrngReg)
    (m' : (ℓ : Loc Cert.GmlpRIdeal.nD Cert.GmlpRIdeal.τ Cert.GmlpRIdeal.sig) → Buf (Elt Ideal) ℓ) (g' : Dev Cert.GmlpRIdeal.nD → PrngReg), Pre_GmlpKIdeal_finite_gmlp m →
    (∀ c : Dev Cert.GmlpKIdeal.nD,
      m' ((c.tc : Thread Cert.GmlpRIdeal.nD Cert.GmlpRIdeal.τ).loc Cert.GmlpRIdeal.main_arg0) = m ((c.tc : Thread Cert.GmlpKIdeal.nD Cert.GmlpKIdeal.τ).loc Cert.GmlpKIdeal.main_arg0)
      ∧ m' ((c.tc : Thread Cert.GmlpRIdeal.nD Cert.GmlpRIdeal.τ).loc Cert.GmlpRIdeal.main_arg1) = m ((c.tc : Thread Cert.GmlpKIdeal.nD Cert.GmlpKIdeal.τ).loc Cert.GmlpKIdeal.main_arg1)
      ∧ m' ((c.tc : Thread Cert.GmlpRIdeal.nD Cert.GmlpRIdeal.τ).loc Cert.GmlpRIdeal.main_arg2) = m ((c.tc : Thread Cert.GmlpKIdeal.nD Cert.GmlpKIdeal.τ).loc Cert.GmlpKIdeal.main_arg2)
      ∧ m' ((c.tc : Thread Cert.GmlpRIdeal.nD Cert.GmlpRIdeal.τ).loc Cert.GmlpRIdeal.main_arg3) = m ((c.tc : Thread Cert.GmlpKIdeal.nD Cert.GmlpKIdeal.τ).loc Cert.GmlpKIdeal.main_arg3)
      ∧ m' ((c.tc : Thread Cert.GmlpRIdeal.nD Cert.GmlpRIdeal.τ).loc Cert.GmlpRIdeal.main_arg4) = m ((c.tc : Thread Cert.GmlpKIdeal.nD Cert.GmlpKIdeal.τ).loc Cert.GmlpKIdeal.main_arg4)
      ∧ m' ((c.tc : Thread Cert.GmlpRIdeal.nD Cert.GmlpRIdeal.τ).loc Cert.GmlpRIdeal.main_arg5) = m ((c.tc : Thread Cert.GmlpKIdeal.nD Cert.GmlpKIdeal.τ).loc Cert.GmlpKIdeal.main_arg5)) →
    ∃ (v0 : (c : Dev Cert.GmlpKIdeal.nD) → Buf (Elt Ideal) ((c.tc : Thread Cert.GmlpKIdeal.nD Cert.GmlpKIdeal.τ).loc Cert.GmlpKIdeal.main_v2_0)) (v1 : (c : Dev Cert.GmlpKIdeal.nD) → Buf (Elt Ideal) ((c.tc : Thread Cert.GmlpKIdeal.nD Cert.GmlpKIdeal.τ).loc Cert.GmlpKIdeal.main_v2_1)) (v2 : (c : Dev Cert.GmlpKIdeal.nD) → Buf (Elt Ideal) ((c.tc : Thread Cert.GmlpKIdeal.nD Cert.GmlpKIdeal.τ).loc Cert.GmlpKIdeal.main_v2_2)) (v3 : (c : Dev Cert.GmlpKIdeal.nD) → Buf (Elt Ideal) ((c.tc : Thread Cert.GmlpKIdeal.nD Cert.GmlpKIdeal.τ).loc Cert.GmlpKIdeal.main_v2_3)) (v4 : (c : Dev Cert.GmlpKIdeal.nD) → Buf (Elt Ideal) ((c.tc : Thread Cert.GmlpKIdeal.nD Cert.GmlpKIdeal.τ).loc Cert.GmlpKIdeal.main_v2_4)),
      θ_run (Cert.GmlpKIdeal.defs (F := Ideal)) (onTc (τ := Cert.GmlpKIdeal.τ) (Cert.GmlpKIdeal.main (F := Ideal))) ⟨m, fun _ => 0, g⟩ (fun r => ∀ c : Dev Cert.GmlpKIdeal.nD,
          r.2.mem ((c.tc : Thread Cert.GmlpKIdeal.nD Cert.GmlpKIdeal.τ).loc Cert.GmlpKIdeal.main_v2_0) = v0 c
          ∧ r.2.mem ((c.tc : Thread Cert.GmlpKIdeal.nD Cert.GmlpKIdeal.τ).loc Cert.GmlpKIdeal.main_v2_1) = v1 c
          ∧ r.2.mem ((c.tc : Thread Cert.GmlpKIdeal.nD Cert.GmlpKIdeal.τ).loc Cert.GmlpKIdeal.main_v2_2) = v2 c
          ∧ r.2.mem ((c.tc : Thread Cert.GmlpKIdeal.nD Cert.GmlpKIdeal.τ).loc Cert.GmlpKIdeal.main_v2_3) = v3 c
          ∧ r.2.mem ((c.tc : Thread Cert.GmlpKIdeal.nD Cert.GmlpKIdeal.τ).loc Cert.GmlpKIdeal.main_v2_4) = v4 c
          ∧ r.2.mem ((c.tc : Thread Cert.GmlpKIdeal.nD Cert.GmlpKIdeal.τ).loc Cert.GmlpKIdeal.main_arg0) = m ((c.tc : Thread Cert.GmlpKIdeal.nD Cert.GmlpKIdeal.τ).loc Cert.GmlpKIdeal.main_arg0)
          ∧ r.2.mem ((c.tc : Thread Cert.GmlpKIdeal.nD Cert.GmlpKIdeal.τ).loc Cert.GmlpKIdeal.main_arg1) = m ((c.tc : Thread Cert.GmlpKIdeal.nD Cert.GmlpKIdeal.τ).loc Cert.GmlpKIdeal.main_arg1)
          ∧ r.2.mem ((c.tc : Thread Cert.GmlpKIdeal.nD Cert.GmlpKIdeal.τ).loc Cert.GmlpKIdeal.main_arg2) = m ((c.tc : Thread Cert.GmlpKIdeal.nD Cert.GmlpKIdeal.τ).loc Cert.GmlpKIdeal.main_arg2)
          ∧ r.2.mem ((c.tc : Thread Cert.GmlpKIdeal.nD Cert.GmlpKIdeal.τ).loc Cert.GmlpKIdeal.main_arg3) = m ((c.tc : Thread Cert.GmlpKIdeal.nD Cert.GmlpKIdeal.τ).loc Cert.GmlpKIdeal.main_arg3)
          ∧ r.2.mem ((c.tc : Thread Cert.GmlpKIdeal.nD Cert.GmlpKIdeal.τ).loc Cert.GmlpKIdeal.main_arg4) = m ((c.tc : Thread Cert.GmlpKIdeal.nD Cert.GmlpKIdeal.τ).loc Cert.GmlpKIdeal.main_arg4)
          ∧ r.2.mem ((c.tc : Thread Cert.GmlpKIdeal.nD Cert.GmlpKIdeal.τ).loc Cert.GmlpKIdeal.main_arg5) = m ((c.tc : Thread Cert.GmlpKIdeal.nD Cert.GmlpKIdeal.τ).loc Cert.GmlpKIdeal.main_arg5))
      ∧ θ_run (Cert.GmlpRIdeal.defs (F := Ideal)) (onTc (τ := Cert.GmlpRIdeal.τ) (Cert.GmlpRIdeal.main (F := Ideal))) ⟨m', fun _ => 0, g'⟩ (fun r => ∀ c : Dev Cert.GmlpRIdeal.nD,
          r.2.mem ((c.tc : Thread Cert.GmlpRIdeal.nD Cert.GmlpRIdeal.τ).loc Cert.GmlpRIdeal.main_v156) = v0 c
          ∧ r.2.mem ((c.tc : Thread Cert.GmlpRIdeal.nD Cert.GmlpRIdeal.τ).loc Cert.GmlpRIdeal.main_v104) = v1 c
          ∧ r.2.mem ((c.tc : Thread Cert.GmlpRIdeal.nD Cert.GmlpRIdeal.τ).loc Cert.GmlpRIdeal.main_v101) = v2 c
          ∧ r.2.mem ((c.tc : Thread Cert.GmlpRIdeal.nD Cert.GmlpRIdeal.τ).loc Cert.GmlpRIdeal.main_v98) = v3 c
          ∧ r.2.mem ((c.tc : Thread Cert.GmlpRIdeal.nD Cert.GmlpRIdeal.τ).loc Cert.GmlpRIdeal.main_v157) = v4 c
          ∧ r.2.mem ((c.tc : Thread Cert.GmlpRIdeal.nD Cert.GmlpRIdeal.τ).loc Cert.GmlpRIdeal.main_arg0) = m' ((c.tc : Thread Cert.GmlpRIdeal.nD Cert.GmlpRIdeal.τ).loc Cert.GmlpRIdeal.main_arg0)
          ∧ r.2.mem ((c.tc : Thread Cert.GmlpRIdeal.nD Cert.GmlpRIdeal.τ).loc Cert.GmlpRIdeal.main_arg1) = m' ((c.tc : Thread Cert.GmlpRIdeal.nD Cert.GmlpRIdeal.τ).loc Cert.GmlpRIdeal.main_arg1)
          ∧ r.2.mem ((c.tc : Thread Cert.GmlpRIdeal.nD Cert.GmlpRIdeal.τ).loc Cert.GmlpRIdeal.main_arg2) = m' ((c.tc : Thread Cert.GmlpRIdeal.nD Cert.GmlpRIdeal.τ).loc Cert.GmlpRIdeal.main_arg2)
          ∧ r.2.mem ((c.tc : Thread Cert.GmlpRIdeal.nD Cert.GmlpRIdeal.τ).loc Cert.GmlpRIdeal.main_arg3) = m' ((c.tc : Thread Cert.GmlpRIdeal.nD Cert.GmlpRIdeal.τ).loc Cert.GmlpRIdeal.main_arg3)
          ∧ r.2.mem ((c.tc : Thread Cert.GmlpRIdeal.nD Cert.GmlpRIdeal.τ).loc Cert.GmlpRIdeal.main_arg4) = m' ((c.tc : Thread Cert.GmlpRIdeal.nD Cert.GmlpRIdeal.τ).loc Cert.GmlpRIdeal.main_arg4)
          ∧ r.2.mem ((c.tc : Thread Cert.GmlpRIdeal.nD Cert.GmlpRIdeal.τ).loc Cert.GmlpRIdeal.main_arg5) = m' ((c.tc : Thread Cert.GmlpRIdeal.nD Cert.GmlpRIdeal.τ).loc Cert.GmlpRIdeal.main_arg5))

def preserves_MergeK_MergeKIdeal : Prop :=
  True

def algebraic_MergeKIdeal_MergeRIdeal_pre_finite_merge [hMergeKIdeal : Cert.MergeKIdeal.Facts] [hMergeRIdeal : Cert.MergeRIdeal.Facts] [hPre_finite_merge : Cert.Pre_finite_merge.Facts] : Prop :=
  ∀ (m : (ℓ : Loc Cert.MergeKIdeal.nD Cert.MergeKIdeal.τ Cert.MergeKIdeal.sig) → Buf (Elt Ideal) ℓ) (g : Dev Cert.MergeKIdeal.nD → PrngReg)
    (m' : (ℓ : Loc Cert.MergeRIdeal.nD Cert.MergeRIdeal.τ Cert.MergeRIdeal.sig) → Buf (Elt Ideal) ℓ) (g' : Dev Cert.MergeRIdeal.nD → PrngReg), Pre_MergeKIdeal_finite_merge m →
    (∀ c : Dev Cert.MergeKIdeal.nD,
      m' ((c.tc : Thread Cert.MergeRIdeal.nD Cert.MergeRIdeal.τ).loc Cert.MergeRIdeal.main_arg0) = m ((c.tc : Thread Cert.MergeKIdeal.nD Cert.MergeKIdeal.τ).loc Cert.MergeKIdeal.main_arg0)
      ∧ m' ((c.tc : Thread Cert.MergeRIdeal.nD Cert.MergeRIdeal.τ).loc Cert.MergeRIdeal.main_arg1) = m ((c.tc : Thread Cert.MergeKIdeal.nD Cert.MergeKIdeal.τ).loc Cert.MergeKIdeal.main_arg1)
      ∧ m' ((c.tc : Thread Cert.MergeRIdeal.nD Cert.MergeRIdeal.τ).loc Cert.MergeRIdeal.main_arg2) = m ((c.tc : Thread Cert.MergeKIdeal.nD Cert.MergeKIdeal.τ).loc Cert.MergeKIdeal.main_arg2)
      ∧ m' ((c.tc : Thread Cert.MergeRIdeal.nD Cert.MergeRIdeal.τ).loc Cert.MergeRIdeal.main_arg3) = m ((c.tc : Thread Cert.MergeKIdeal.nD Cert.MergeKIdeal.τ).loc Cert.MergeKIdeal.main_arg3)
      ∧ m' ((c.tc : Thread Cert.MergeRIdeal.nD Cert.MergeRIdeal.τ).loc Cert.MergeRIdeal.main_arg4) = m ((c.tc : Thread Cert.MergeKIdeal.nD Cert.MergeKIdeal.τ).loc Cert.MergeKIdeal.main_arg4)
      ∧ m' ((c.tc : Thread Cert.MergeRIdeal.nD Cert.MergeRIdeal.τ).loc Cert.MergeRIdeal.main_arg5) = m ((c.tc : Thread Cert.MergeKIdeal.nD Cert.MergeKIdeal.τ).loc Cert.MergeKIdeal.main_arg5)
      ∧ m' ((c.tc : Thread Cert.MergeRIdeal.nD Cert.MergeRIdeal.τ).loc Cert.MergeRIdeal.main_arg6) = m ((c.tc : Thread Cert.MergeKIdeal.nD Cert.MergeKIdeal.τ).loc Cert.MergeKIdeal.main_arg6)) →
    ∃ (v0 : (c : Dev Cert.MergeKIdeal.nD) → Buf (Elt Ideal) ((c.tc : Thread Cert.MergeKIdeal.nD Cert.MergeKIdeal.τ).loc Cert.MergeKIdeal.main_v45_0)) (v1 : (c : Dev Cert.MergeKIdeal.nD) → Buf (Elt Ideal) ((c.tc : Thread Cert.MergeKIdeal.nD Cert.MergeKIdeal.τ).loc Cert.MergeKIdeal.main_v45_1)) (v2 : (c : Dev Cert.MergeKIdeal.nD) → Buf (Elt Ideal) ((c.tc : Thread Cert.MergeKIdeal.nD Cert.MergeKIdeal.τ).loc Cert.MergeKIdeal.main_v45_2)) (v3 : (c : Dev Cert.MergeKIdeal.nD) → Buf (Elt Ideal) ((c.tc : Thread Cert.MergeKIdeal.nD Cert.MergeKIdeal.τ).loc Cert.MergeKIdeal.main_v45_3)) (v4 : (c : Dev Cert.MergeKIdeal.nD) → Buf (Elt Ideal) ((c.tc : Thread Cert.MergeKIdeal.nD Cert.MergeKIdeal.τ).loc Cert.MergeKIdeal.main_v45_4)) (v5 : (c : Dev Cert.MergeKIdeal.nD) → Buf (Elt Ideal) ((c.tc : Thread Cert.MergeKIdeal.nD Cert.MergeKIdeal.τ).loc Cert.MergeKIdeal.main_v45_5)),
      θ_run (Cert.MergeKIdeal.defs (F := Ideal)) (onTc (τ := Cert.MergeKIdeal.τ) (Cert.MergeKIdeal.main (F := Ideal))) ⟨m, fun _ => 0, g⟩ (fun r => ∀ c : Dev Cert.MergeKIdeal.nD,
          r.2.mem ((c.tc : Thread Cert.MergeKIdeal.nD Cert.MergeKIdeal.τ).loc Cert.MergeKIdeal.main_v45_0) = v0 c
          ∧ r.2.mem ((c.tc : Thread Cert.MergeKIdeal.nD Cert.MergeKIdeal.τ).loc Cert.MergeKIdeal.main_v45_1) = v1 c
          ∧ r.2.mem ((c.tc : Thread Cert.MergeKIdeal.nD Cert.MergeKIdeal.τ).loc Cert.MergeKIdeal.main_v45_2) = v2 c
          ∧ r.2.mem ((c.tc : Thread Cert.MergeKIdeal.nD Cert.MergeKIdeal.τ).loc Cert.MergeKIdeal.main_v45_3) = v3 c
          ∧ r.2.mem ((c.tc : Thread Cert.MergeKIdeal.nD Cert.MergeKIdeal.τ).loc Cert.MergeKIdeal.main_v45_4) = v4 c
          ∧ r.2.mem ((c.tc : Thread Cert.MergeKIdeal.nD Cert.MergeKIdeal.τ).loc Cert.MergeKIdeal.main_v45_5) = v5 c
          ∧ r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
          ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
          ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
          ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3)
          ∧ r.2.mem ((c.tc : Thread Cert.MergeKIdeal.nD Cert.MergeKIdeal.τ).loc Cert.MergeKIdeal.main_arg4) = m ((c.tc : Thread Cert.MergeKIdeal.nD Cert.MergeKIdeal.τ).loc Cert.MergeKIdeal.main_arg4)
          ∧ r.2.mem ((c.tc : Thread Cert.MergeKIdeal.nD Cert.MergeKIdeal.τ).loc Cert.MergeKIdeal.main_arg5) = m ((c.tc : Thread Cert.MergeKIdeal.nD Cert.MergeKIdeal.τ).loc Cert.MergeKIdeal.main_arg5)
          ∧ r.2.mem ((c.tc : Thread Cert.MergeKIdeal.nD Cert.MergeKIdeal.τ).loc Cert.MergeKIdeal.main_arg6) = m ((c.tc : Thread Cert.MergeKIdeal.nD Cert.MergeKIdeal.τ).loc Cert.MergeKIdeal.main_arg6))
      ∧ θ_run (Cert.MergeRIdeal.defs (F := Ideal)) (onTc (τ := Cert.MergeRIdeal.τ) (Cert.MergeRIdeal.main (F := Ideal))) ⟨m', fun _ => 0, g'⟩ (fun r => ∀ c : Dev Cert.MergeRIdeal.nD,
          r.2.mem ((c.tc : Thread Cert.MergeRIdeal.nD Cert.MergeRIdeal.τ).loc Cert.MergeRIdeal.main_v44) = v0 c
          ∧ r.2.mem ((c.tc : Thread Cert.MergeRIdeal.nD Cert.MergeRIdeal.τ).loc Cert.MergeRIdeal.main_v45) = v1 c
          ∧ r.2.mem ((c.tc : Thread Cert.MergeRIdeal.nD Cert.MergeRIdeal.τ).loc Cert.MergeRIdeal.main_v46) = v2 c
          ∧ r.2.mem ((c.tc : Thread Cert.MergeRIdeal.nD Cert.MergeRIdeal.τ).loc Cert.MergeRIdeal.main_v47) = v3 c
          ∧ r.2.mem ((c.tc : Thread Cert.MergeRIdeal.nD Cert.MergeRIdeal.τ).loc Cert.MergeRIdeal.main_v34) = v4 c
          ∧ r.2.mem ((c.tc : Thread Cert.MergeRIdeal.nD Cert.MergeRIdeal.τ).loc Cert.MergeRIdeal.main_v25) = v5 c
          ∧ r.2.mem ((c.tc : Thread Cert.MergeRIdeal.nD Cert.MergeRIdeal.τ).loc Cert.MergeRIdeal.main_arg0) = m' ((c.tc : Thread Cert.MergeRIdeal.nD Cert.MergeRIdeal.τ).loc Cert.MergeRIdeal.main_arg0)
          ∧ r.2.mem ((c.tc : Thread Cert.MergeRIdeal.nD Cert.MergeRIdeal.τ).loc Cert.MergeRIdeal.main_arg1) = m' ((c.tc : Thread Cert.MergeRIdeal.nD Cert.MergeRIdeal.τ).loc Cert.MergeRIdeal.main_arg1)
          ∧ r.2.mem ((c.tc : Thread Cert.MergeRIdeal.nD Cert.MergeRIdeal.τ).loc Cert.MergeRIdeal.main_arg2) = m' ((c.tc : Thread Cert.MergeRIdeal.nD Cert.MergeRIdeal.τ).loc Cert.MergeRIdeal.main_arg2)
          ∧ r.2.mem ((c.tc : Thread Cert.MergeRIdeal.nD Cert.MergeRIdeal.τ).loc Cert.MergeRIdeal.main_arg3) = m' ((c.tc : Thread Cert.MergeRIdeal.nD Cert.MergeRIdeal.τ).loc Cert.MergeRIdeal.main_arg3)
          ∧ r.2.mem ((c.tc : Thread Cert.MergeRIdeal.nD Cert.MergeRIdeal.τ).loc Cert.MergeRIdeal.main_arg4) = m' ((c.tc : Thread Cert.MergeRIdeal.nD Cert.MergeRIdeal.τ).loc Cert.MergeRIdeal.main_arg4)
          ∧ r.2.mem ((c.tc : Thread Cert.MergeRIdeal.nD Cert.MergeRIdeal.τ).loc Cert.MergeRIdeal.main_arg5) = m' ((c.tc : Thread Cert.MergeRIdeal.nD Cert.MergeRIdeal.τ).loc Cert.MergeRIdeal.main_arg5)
          ∧ r.2.mem ((c.tc : Thread Cert.MergeRIdeal.nD Cert.MergeRIdeal.τ).loc Cert.MergeRIdeal.main_arg6) = m' ((c.tc : Thread Cert.MergeRIdeal.nD Cert.MergeRIdeal.τ).loc Cert.MergeRIdeal.main_arg6))

def preserves_LossK_LossKIdeal : Prop :=
  True

def algebraic_LossKIdeal_LossRIdeal_pre_finite_loss [hLossKIdeal : Cert.LossKIdeal.Facts] [hLossRIdeal : Cert.LossRIdeal.Facts] [hPre_finite_loss : Cert.Pre_finite_loss.Facts] : Prop :=
  ∀ (m : (ℓ : Loc Cert.LossKIdeal.nD Cert.LossKIdeal.τ Cert.LossKIdeal.sig) → Buf (Elt Ideal) ℓ) (g : Dev Cert.LossKIdeal.nD → PrngReg)
    (m' : (ℓ : Loc Cert.LossRIdeal.nD Cert.LossRIdeal.τ Cert.LossRIdeal.sig) → Buf (Elt Ideal) ℓ) (g' : Dev Cert.LossRIdeal.nD → PrngReg), Pre_LossKIdeal_finite_loss m →
    (∀ c : Dev Cert.LossKIdeal.nD,
      m' ((c.tc : Thread Cert.LossRIdeal.nD Cert.LossRIdeal.τ).loc Cert.LossRIdeal.main_arg0) = m ((c.tc : Thread Cert.LossKIdeal.nD Cert.LossKIdeal.τ).loc Cert.LossKIdeal.main_arg0)
      ∧ m' ((c.tc : Thread Cert.LossRIdeal.nD Cert.LossRIdeal.τ).loc Cert.LossRIdeal.main_arg1) = m ((c.tc : Thread Cert.LossKIdeal.nD Cert.LossKIdeal.τ).loc Cert.LossKIdeal.main_arg1)
      ∧ m' ((c.tc : Thread Cert.LossRIdeal.nD Cert.LossRIdeal.τ).loc Cert.LossRIdeal.main_arg2) = m ((c.tc : Thread Cert.LossKIdeal.nD Cert.LossKIdeal.τ).loc Cert.LossKIdeal.main_arg2)
      ∧ m' ((c.tc : Thread Cert.LossRIdeal.nD Cert.LossRIdeal.τ).loc Cert.LossRIdeal.main_arg3) = m ((c.tc : Thread Cert.LossKIdeal.nD Cert.LossKIdeal.τ).loc Cert.LossKIdeal.main_arg3)
      ∧ m' ((c.tc : Thread Cert.LossRIdeal.nD Cert.LossRIdeal.τ).loc Cert.LossRIdeal.main_arg4) = m ((c.tc : Thread Cert.LossKIdeal.nD Cert.LossKIdeal.τ).loc Cert.LossKIdeal.main_arg4)) →
    ∃ (v0 : (c : Dev Cert.LossKIdeal.nD) → Buf (Elt Ideal) ((c.tc : Thread Cert.LossKIdeal.nD Cert.LossKIdeal.τ).loc Cert.LossKIdeal.main_v1_0)) (v1 : (c : Dev Cert.LossKIdeal.nD) → Buf (Elt Ideal) ((c.tc : Thread Cert.LossKIdeal.nD Cert.LossKIdeal.τ).loc Cert.LossKIdeal.main_v1_1)) (v2 : (c : Dev Cert.LossKIdeal.nD) → Buf (Elt Ideal) ((c.tc : Thread Cert.LossKIdeal.nD Cert.LossKIdeal.τ).loc Cert.LossKIdeal.main_v1_2)) (v3 : (c : Dev Cert.LossKIdeal.nD) → Buf (Elt Ideal) ((c.tc : Thread Cert.LossKIdeal.nD Cert.LossKIdeal.τ).loc Cert.LossKIdeal.main_v1_3)),
      θ_run (Cert.LossKIdeal.defs (F := Ideal)) (onTc (τ := Cert.LossKIdeal.τ) (Cert.LossKIdeal.main (F := Ideal))) ⟨m, fun _ => 0, g⟩ (fun r => ∀ c : Dev Cert.LossKIdeal.nD,
          r.2.mem ((c.tc : Thread Cert.LossKIdeal.nD Cert.LossKIdeal.τ).loc Cert.LossKIdeal.main_v1_0) = v0 c
          ∧ r.2.mem ((c.tc : Thread Cert.LossKIdeal.nD Cert.LossKIdeal.τ).loc Cert.LossKIdeal.main_v1_1) = v1 c
          ∧ r.2.mem ((c.tc : Thread Cert.LossKIdeal.nD Cert.LossKIdeal.τ).loc Cert.LossKIdeal.main_v1_2) = v2 c
          ∧ r.2.mem ((c.tc : Thread Cert.LossKIdeal.nD Cert.LossKIdeal.τ).loc Cert.LossKIdeal.main_v1_3) = v3 c
          ∧ r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
          ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
          ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
          ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
          ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v52) = v0 c
          ∧ r.2.mem ((c.tc : Thread Cert.LossRIdeal.nD Cert.LossRIdeal.τ).loc Cert.LossRIdeal.main_v51) = v1 c
          ∧ r.2.mem ((c.tc : Thread Cert.LossRIdeal.nD Cert.LossRIdeal.τ).loc Cert.LossRIdeal.main_v53) = v2 c
          ∧ r.2.mem ((c.tc : Thread Cert.LossRIdeal.nD Cert.LossRIdeal.τ).loc Cert.LossRIdeal.main_v35) = v3 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2)
          ∧ r.2.mem ((c.tc : Thread Cert.LossRIdeal.nD Cert.LossRIdeal.τ).loc Cert.LossRIdeal.main_arg3) = m' ((c.tc : Thread Cert.LossRIdeal.nD Cert.LossRIdeal.τ).loc Cert.LossRIdeal.main_arg3)
          ∧ r.2.mem ((c.tc : Thread Cert.LossRIdeal.nD Cert.LossRIdeal.τ).loc Cert.LossRIdeal.main_arg4) = m' ((c.tc : Thread Cert.LossRIdeal.nD Cert.LossRIdeal.τ).loc Cert.LossRIdeal.main_arg4))

def preserves_UpK_UpKIdeal : Prop :=
  True

def algebraic_UpKIdeal_UpRIdeal_pre_finite_up [hUpKIdeal : Cert.UpKIdeal.Facts] [hUpRIdeal : Cert.UpRIdeal.Facts] [hPre_finite_up : Cert.Pre_finite_up.Facts] : Prop :=
  ∀ (m : (ℓ : Loc Cert.UpKIdeal.nD Cert.UpKIdeal.τ Cert.UpKIdeal.sig) → Buf (Elt Ideal) ℓ) (g : Dev Cert.UpKIdeal.nD → PrngReg)
    (m' : (ℓ : Loc Cert.UpRIdeal.nD Cert.UpRIdeal.τ Cert.UpRIdeal.sig) → Buf (Elt Ideal) ℓ) (g' : Dev Cert.UpRIdeal.nD → PrngReg), Pre_UpKIdeal_finite_up m →
    (∀ c : Dev Cert.UpKIdeal.nD,
      m' ((c.tc : Thread Cert.UpRIdeal.nD Cert.UpRIdeal.τ).loc Cert.UpRIdeal.main_arg0) = m ((c.tc : Thread Cert.UpKIdeal.nD Cert.UpKIdeal.τ).loc Cert.UpKIdeal.main_arg0)
      ∧ m' ((c.tc : Thread Cert.UpRIdeal.nD Cert.UpRIdeal.τ).loc Cert.UpRIdeal.main_arg1) = m ((c.tc : Thread Cert.UpKIdeal.nD Cert.UpKIdeal.τ).loc Cert.UpKIdeal.main_arg1)
      ∧ m' ((c.tc : Thread Cert.UpRIdeal.nD Cert.UpRIdeal.τ).loc Cert.UpRIdeal.main_arg2) = m ((c.tc : Thread Cert.UpKIdeal.nD Cert.UpKIdeal.τ).loc Cert.UpKIdeal.main_arg2)
      ∧ m' ((c.tc : Thread Cert.UpRIdeal.nD Cert.UpRIdeal.τ).loc Cert.UpRIdeal.main_arg3) = m ((c.tc : Thread Cert.UpKIdeal.nD Cert.UpKIdeal.τ).loc Cert.UpKIdeal.main_arg3)
      ∧ m' ((c.tc : Thread Cert.UpRIdeal.nD Cert.UpRIdeal.τ).loc Cert.UpRIdeal.main_arg4) = m ((c.tc : Thread Cert.UpKIdeal.nD Cert.UpKIdeal.τ).loc Cert.UpKIdeal.main_arg4)
      ∧ m' ((c.tc : Thread Cert.UpRIdeal.nD Cert.UpRIdeal.τ).loc Cert.UpRIdeal.main_arg5) = m ((c.tc : Thread Cert.UpKIdeal.nD Cert.UpKIdeal.τ).loc Cert.UpKIdeal.main_arg5)) →
    ∃ (v0 : (c : Dev Cert.UpKIdeal.nD) → Buf (Elt Ideal) ((c.tc : Thread Cert.UpKIdeal.nD Cert.UpKIdeal.τ).loc Cert.UpKIdeal.main_v2_0)) (v1 : (c : Dev Cert.UpKIdeal.nD) → Buf (Elt Ideal) ((c.tc : Thread Cert.UpKIdeal.nD Cert.UpKIdeal.τ).loc Cert.UpKIdeal.main_v2_1)),
      θ_run (Cert.UpKIdeal.defs (F := Ideal)) (onTc (τ := Cert.UpKIdeal.τ) (Cert.UpKIdeal.main (F := Ideal))) ⟨m, fun _ => 0, g⟩ (fun r => ∀ c : Dev Cert.UpKIdeal.nD,
          r.2.mem ((c.tc : Thread Cert.UpKIdeal.nD Cert.UpKIdeal.τ).loc Cert.UpKIdeal.main_v2_0) = v0 c
          ∧ r.2.mem ((c.tc : Thread Cert.UpKIdeal.nD Cert.UpKIdeal.τ).loc Cert.UpKIdeal.main_v2_1) = v1 c
          ∧ r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
          ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1)
          ∧ r.2.mem ((c.tc : Thread Cert.UpKIdeal.nD Cert.UpKIdeal.τ).loc Cert.UpKIdeal.main_arg2) = m ((c.tc : Thread Cert.UpKIdeal.nD Cert.UpKIdeal.τ).loc Cert.UpKIdeal.main_arg2)
          ∧ r.2.mem ((c.tc : Thread Cert.UpKIdeal.nD Cert.UpKIdeal.τ).loc Cert.UpKIdeal.main_arg3) = m ((c.tc : Thread Cert.UpKIdeal.nD Cert.UpKIdeal.τ).loc Cert.UpKIdeal.main_arg3)
          ∧ r.2.mem ((c.tc : Thread Cert.UpKIdeal.nD Cert.UpKIdeal.τ).loc Cert.UpKIdeal.main_arg4) = m ((c.tc : Thread Cert.UpKIdeal.nD Cert.UpKIdeal.τ).loc Cert.UpKIdeal.main_arg4)
          ∧ r.2.mem ((c.tc : Thread Cert.UpKIdeal.nD Cert.UpKIdeal.τ).loc Cert.UpKIdeal.main_arg5) = m ((c.tc : Thread Cert.UpKIdeal.nD Cert.UpKIdeal.τ).loc Cert.UpKIdeal.main_arg5))
      ∧ θ_run (Cert.UpRIdeal.defs (F := Ideal)) (onTc (τ := Cert.UpRIdeal.τ) (Cert.UpRIdeal.main (F := Ideal))) ⟨m', fun _ => 0, g'⟩ (fun r => ∀ c : Dev Cert.UpRIdeal.nD,
          r.2.mem ((c.tc : Thread Cert.UpRIdeal.nD Cert.UpRIdeal.τ).loc Cert.UpRIdeal.main_v41) = v0 c
          ∧ r.2.mem ((c.tc : Thread Cert.UpRIdeal.nD Cert.UpRIdeal.τ).loc Cert.UpRIdeal.main_v24) = v1 c
          ∧ r.2.mem ((c.tc : Thread Cert.UpRIdeal.nD Cert.UpRIdeal.τ).loc Cert.UpRIdeal.main_arg0) = m' ((c.tc : Thread Cert.UpRIdeal.nD Cert.UpRIdeal.τ).loc Cert.UpRIdeal.main_arg0)
          ∧ r.2.mem ((c.tc : Thread Cert.UpRIdeal.nD Cert.UpRIdeal.τ).loc Cert.UpRIdeal.main_arg1) = m' ((c.tc : Thread Cert.UpRIdeal.nD Cert.UpRIdeal.τ).loc Cert.UpRIdeal.main_arg1)
          ∧ r.2.mem ((c.tc : Thread Cert.UpRIdeal.nD Cert.UpRIdeal.τ).loc Cert.UpRIdeal.main_arg2) = m' ((c.tc : Thread Cert.UpRIdeal.nD Cert.UpRIdeal.τ).loc Cert.UpRIdeal.main_arg2)
          ∧ r.2.mem ((c.tc : Thread Cert.UpRIdeal.nD Cert.UpRIdeal.τ).loc Cert.UpRIdeal.main_arg3) = m' ((c.tc : Thread Cert.UpRIdeal.nD Cert.UpRIdeal.τ).loc Cert.UpRIdeal.main_arg3)
          ∧ r.2.mem ((c.tc : Thread Cert.UpRIdeal.nD Cert.UpRIdeal.τ).loc Cert.UpRIdeal.main_arg4) = m' ((c.tc : Thread Cert.UpRIdeal.nD Cert.UpRIdeal.τ).loc Cert.UpRIdeal.main_arg4)
          ∧ r.2.mem ((c.tc : Thread Cert.UpRIdeal.nD Cert.UpRIdeal.τ).loc Cert.UpRIdeal.main_arg5) = m' ((c.tc : Thread Cert.UpRIdeal.nD Cert.UpRIdeal.τ).loc Cert.UpRIdeal.main_arg5))

def preserves_PrK_PrKIdeal : Prop :=
  True

def algebraic_PrKIdeal_PrRIdeal_pre_finite_pr [hPrKIdeal : Cert.PrKIdeal.Facts] [hPrRIdeal : Cert.PrRIdeal.Facts] [hPre_finite_pr : Cert.Pre_finite_pr.Facts] : Prop :=
  ∀ (m : (ℓ : Loc Cert.PrKIdeal.nD Cert.PrKIdeal.τ Cert.PrKIdeal.sig) → Buf (Elt Ideal) ℓ) (g : Dev Cert.PrKIdeal.nD → PrngReg)
    (m' : (ℓ : Loc Cert.PrRIdeal.nD Cert.PrRIdeal.τ Cert.PrRIdeal.sig) → Buf (Elt Ideal) ℓ) (g' : Dev Cert.PrRIdeal.nD → PrngReg), Pre_PrKIdeal_finite_pr m →
    (∀ c : Dev Cert.PrKIdeal.nD,
      m' ((c.tc : Thread Cert.PrRIdeal.nD Cert.PrRIdeal.τ).loc Cert.PrRIdeal.main_arg0) = m ((c.tc : Thread Cert.PrKIdeal.nD Cert.PrKIdeal.τ).loc Cert.PrKIdeal.main_arg0)
      ∧ m' ((c.tc : Thread Cert.PrRIdeal.nD Cert.PrRIdeal.τ).loc Cert.PrRIdeal.main_arg1) = m ((c.tc : Thread Cert.PrKIdeal.nD Cert.PrKIdeal.τ).loc Cert.PrKIdeal.main_arg1)
      ∧ m' ((c.tc : Thread Cert.PrRIdeal.nD Cert.PrRIdeal.τ).loc Cert.PrRIdeal.main_arg2) = m ((c.tc : Thread Cert.PrKIdeal.nD Cert.PrKIdeal.τ).loc Cert.PrKIdeal.main_arg2)
      ∧ m' ((c.tc : Thread Cert.PrRIdeal.nD Cert.PrRIdeal.τ).loc Cert.PrRIdeal.main_arg3) = m ((c.tc : Thread Cert.PrKIdeal.nD Cert.PrKIdeal.τ).loc Cert.PrKIdeal.main_arg3)
      ∧ m' ((c.tc : Thread Cert.PrRIdeal.nD Cert.PrRIdeal.τ).loc Cert.PrRIdeal.main_arg4) = m ((c.tc : Thread Cert.PrKIdeal.nD Cert.PrKIdeal.τ).loc Cert.PrKIdeal.main_arg4)) →
    ∃ (v0 : (c : Dev Cert.PrKIdeal.nD) → Buf (Elt Ideal) ((c.tc : Thread Cert.PrKIdeal.nD Cert.PrKIdeal.τ).loc Cert.PrKIdeal.main_v2_0)) (v1 : (c : Dev Cert.PrKIdeal.nD) → Buf (Elt Ideal) ((c.tc : Thread Cert.PrKIdeal.nD Cert.PrKIdeal.τ).loc Cert.PrKIdeal.main_v2_1)),
      θ_run (Cert.PrKIdeal.defs (F := Ideal)) (onTc (τ := Cert.PrKIdeal.τ) (Cert.PrKIdeal.main (F := Ideal))) ⟨m, fun _ => 0, g⟩ (fun r => ∀ c : Dev Cert.PrKIdeal.nD,
          r.2.mem ((c.tc : Thread Cert.PrKIdeal.nD Cert.PrKIdeal.τ).loc Cert.PrKIdeal.main_v2_0) = v0 c
          ∧ r.2.mem ((c.tc : Thread Cert.PrKIdeal.nD Cert.PrKIdeal.τ).loc Cert.PrKIdeal.main_v2_1) = v1 c
          ∧ r.2.mem ((c.tc : Thread Cert.PrKIdeal.nD Cert.PrKIdeal.τ).loc Cert.PrKIdeal.main_arg0) = m ((c.tc : Thread Cert.PrKIdeal.nD Cert.PrKIdeal.τ).loc Cert.PrKIdeal.main_arg0)
          ∧ r.2.mem ((c.tc : Thread Cert.PrKIdeal.nD Cert.PrKIdeal.τ).loc Cert.PrKIdeal.main_arg1) = m ((c.tc : Thread Cert.PrKIdeal.nD Cert.PrKIdeal.τ).loc Cert.PrKIdeal.main_arg1)
          ∧ r.2.mem ((c.tc : Thread Cert.PrKIdeal.nD Cert.PrKIdeal.τ).loc Cert.PrKIdeal.main_arg2) = m ((c.tc : Thread Cert.PrKIdeal.nD Cert.PrKIdeal.τ).loc Cert.PrKIdeal.main_arg2)
          ∧ r.2.mem ((c.tc : Thread Cert.PrKIdeal.nD Cert.PrKIdeal.τ).loc Cert.PrKIdeal.main_arg3) = m ((c.tc : Thread Cert.PrKIdeal.nD Cert.PrKIdeal.τ).loc Cert.PrKIdeal.main_arg3)
          ∧ r.2.mem ((c.tc : Thread Cert.PrKIdeal.nD Cert.PrKIdeal.τ).loc Cert.PrKIdeal.main_arg4) = m ((c.tc : Thread Cert.PrKIdeal.nD Cert.PrKIdeal.τ).loc Cert.PrKIdeal.main_arg4))
      ∧ θ_run (Cert.PrRIdeal.defs (F := Ideal)) (onTc (τ := Cert.PrRIdeal.τ) (Cert.PrRIdeal.main (F := Ideal))) ⟨m', fun _ => 0, g'⟩ (fun r => ∀ c : Dev Cert.PrRIdeal.nD,
          r.2.mem ((c.tc : Thread Cert.PrRIdeal.nD Cert.PrRIdeal.τ).loc Cert.PrRIdeal.main_v37) = v0 c
          ∧ r.2.mem ((c.tc : Thread Cert.PrRIdeal.nD Cert.PrRIdeal.τ).loc Cert.PrRIdeal.main_v20) = v1 c
          ∧ r.2.mem ((c.tc : Thread Cert.PrRIdeal.nD Cert.PrRIdeal.τ).loc Cert.PrRIdeal.main_arg0) = m' ((c.tc : Thread Cert.PrRIdeal.nD Cert.PrRIdeal.τ).loc Cert.PrRIdeal.main_arg0)
          ∧ r.2.mem ((c.tc : Thread Cert.PrRIdeal.nD Cert.PrRIdeal.τ).loc Cert.PrRIdeal.main_arg1) = m' ((c.tc : Thread Cert.PrRIdeal.nD Cert.PrRIdeal.τ).loc Cert.PrRIdeal.main_arg1)
          ∧ r.2.mem ((c.tc : Thread Cert.PrRIdeal.nD Cert.PrRIdeal.τ).loc Cert.PrRIdeal.main_arg2) = m' ((c.tc : Thread Cert.PrRIdeal.nD Cert.PrRIdeal.τ).loc Cert.PrRIdeal.main_arg2)
          ∧ r.2.mem ((c.tc : Thread Cert.PrRIdeal.nD Cert.PrRIdeal.τ).loc Cert.PrRIdeal.main_arg3) = m' ((c.tc : Thread Cert.PrRIdeal.nD Cert.PrRIdeal.τ).loc Cert.PrRIdeal.main_arg3)
          ∧ r.2.mem ((c.tc : Thread Cert.PrRIdeal.nD Cert.PrRIdeal.τ).loc Cert.PrRIdeal.main_arg4) = m' ((c.tc : Thread Cert.PrRIdeal.nD Cert.PrRIdeal.τ).loc Cert.PrRIdeal.main_arg4))

def preserves_HgrnK_HgrnKIdeal : Prop :=
  True

def preserves_AttnFK_AttnFKIdeal : Prop :=
  True

def algebraic_AttnFKIdeal_AttnFRIdeal [hAttnFKIdeal : Cert.AttnFKIdeal.Facts] [hAttnFRIdeal : Cert.AttnFRIdeal.Facts] : Prop :=
  ∀ (m : (ℓ : Loc Cert.AttnFKIdeal.nD Cert.AttnFKIdeal.τ Cert.AttnFKIdeal.sig) → Buf (Elt Ideal) ℓ) (g : Dev Cert.AttnFKIdeal.nD → PrngReg)
    (m' : (ℓ : Loc Cert.AttnFRIdeal.nD Cert.AttnFRIdeal.τ Cert.AttnFRIdeal.sig) → Buf (Elt Ideal) ℓ) (g' : Dev Cert.AttnFRIdeal.nD → PrngReg), Pre_AttnFKIdeal m →
    (∀ c : Dev Cert.AttnFKIdeal.nD,
      m' ((c.tc : Thread Cert.AttnFRIdeal.nD Cert.AttnFRIdeal.τ).loc Cert.AttnFRIdeal.main_arg0) = m ((c.tc : Thread Cert.AttnFKIdeal.nD Cert.AttnFKIdeal.τ).loc Cert.AttnFKIdeal.main_arg0)
      ∧ m' ((c.tc : Thread Cert.AttnFRIdeal.nD Cert.AttnFRIdeal.τ).loc Cert.AttnFRIdeal.main_arg1) = m ((c.tc : Thread Cert.AttnFKIdeal.nD Cert.AttnFKIdeal.τ).loc Cert.AttnFKIdeal.main_arg1)) →
    ∃ (v0 : (c : Dev Cert.AttnFKIdeal.nD) → Buf (Elt Ideal) ((c.tc : Thread Cert.AttnFKIdeal.nD Cert.AttnFKIdeal.τ).loc Cert.AttnFKIdeal.main_v0)),
      θ_run (Cert.AttnFKIdeal.defs (F := Ideal)) (onTc (τ := Cert.AttnFKIdeal.τ) (Cert.AttnFKIdeal.main (F := Ideal))) ⟨m, fun _ => 0, g⟩ (fun r => ∀ c : Dev Cert.AttnFKIdeal.nD,
          r.2.mem ((c.tc : Thread Cert.AttnFKIdeal.nD Cert.AttnFKIdeal.τ).loc Cert.AttnFKIdeal.main_v0) = v0 c
          ∧ r.2.mem ((c.tc : Thread Cert.AttnFKIdeal.nD Cert.AttnFKIdeal.τ).loc Cert.AttnFKIdeal.main_arg0) = m ((c.tc : Thread Cert.AttnFKIdeal.nD Cert.AttnFKIdeal.τ).loc Cert.AttnFKIdeal.main_arg0)
          ∧ r.2.mem ((c.tc : Thread Cert.AttnFKIdeal.nD Cert.AttnFKIdeal.τ).loc Cert.AttnFKIdeal.main_arg1) = m ((c.tc : Thread Cert.AttnFKIdeal.nD Cert.AttnFKIdeal.τ).loc Cert.AttnFKIdeal.main_arg1))
      ∧ θ_run (Cert.AttnFRIdeal.defs (F := Ideal)) (onTc (τ := Cert.AttnFRIdeal.τ) (Cert.AttnFRIdeal.main (F := Ideal))) ⟨m', fun _ => 0, g'⟩ (fun r => ∀ c : Dev Cert.AttnFRIdeal.nD,
          r.2.mem ((c.tc : Thread Cert.AttnFRIdeal.nD Cert.AttnFRIdeal.τ).loc Cert.AttnFRIdeal.main_v26) = v0 c
          ∧ r.2.mem ((c.tc : Thread Cert.AttnFRIdeal.nD Cert.AttnFRIdeal.τ).loc Cert.AttnFRIdeal.main_arg0) = m' ((c.tc : Thread Cert.AttnFRIdeal.nD Cert.AttnFRIdeal.τ).loc Cert.AttnFRIdeal.main_arg0)
          ∧ r.2.mem ((c.tc : Thread Cert.AttnFRIdeal.nD Cert.AttnFRIdeal.τ).loc Cert.AttnFRIdeal.main_arg1) = m' ((c.tc : Thread Cert.AttnFRIdeal.nD Cert.AttnFRIdeal.τ).loc Cert.AttnFRIdeal.main_arg1))

def preserves_NormFK_NormFKIdeal : Prop :=
  True

def algebraic_NormFKIdeal_NormFRIdeal [hNormFKIdeal : Cert.NormFKIdeal.Facts] [hNormFRIdeal : Cert.NormFRIdeal.Facts] : Prop :=
  ∀ (m : (ℓ : Loc Cert.NormFKIdeal.nD Cert.NormFKIdeal.τ Cert.NormFKIdeal.sig) → Buf (Elt Ideal) ℓ) (g : Dev Cert.NormFKIdeal.nD → PrngReg)
    (m' : (ℓ : Loc Cert.NormFRIdeal.nD Cert.NormFRIdeal.τ Cert.NormFRIdeal.sig) → Buf (Elt Ideal) ℓ) (g' : Dev Cert.NormFRIdeal.nD → PrngReg), Pre_NormFKIdeal m →
    (∀ c : Dev Cert.NormFKIdeal.nD,
      m' ((c.tc : Thread Cert.NormFRIdeal.nD Cert.NormFRIdeal.τ).loc Cert.NormFRIdeal.main_arg0) = m ((c.tc : Thread Cert.NormFKIdeal.nD Cert.NormFKIdeal.τ).loc Cert.NormFKIdeal.main_arg0)
      ∧ m' ((c.tc : Thread Cert.NormFRIdeal.nD Cert.NormFRIdeal.τ).loc Cert.NormFRIdeal.main_arg1) = m ((c.tc : Thread Cert.NormFKIdeal.nD Cert.NormFKIdeal.τ).loc Cert.NormFKIdeal.main_arg1)) →
    ∃ (v0 : (c : Dev Cert.NormFKIdeal.nD) → Buf (Elt Ideal) ((c.tc : Thread Cert.NormFKIdeal.nD Cert.NormFKIdeal.τ).loc Cert.NormFKIdeal.main_v0)),
      θ_run (Cert.NormFKIdeal.defs (F := Ideal)) (onTc (τ := Cert.NormFKIdeal.τ) (Cert.NormFKIdeal.main (F := Ideal))) ⟨m, fun _ => 0, g⟩ (fun r => ∀ c : Dev Cert.NormFKIdeal.nD,
          r.2.mem ((c.tc : Thread Cert.NormFKIdeal.nD Cert.NormFKIdeal.τ).loc Cert.NormFKIdeal.main_v0) = v0 c
          ∧ r.2.mem ((c.tc : Thread Cert.NormFKIdeal.nD Cert.NormFKIdeal.τ).loc Cert.NormFKIdeal.main_arg0) = m ((c.tc : Thread Cert.NormFKIdeal.nD Cert.NormFKIdeal.τ).loc Cert.NormFKIdeal.main_arg0)
          ∧ r.2.mem ((c.tc : Thread Cert.NormFKIdeal.nD Cert.NormFKIdeal.τ).loc Cert.NormFKIdeal.main_arg1) = m ((c.tc : Thread Cert.NormFKIdeal.nD Cert.NormFKIdeal.τ).loc Cert.NormFKIdeal.main_arg1))
      ∧ θ_run (Cert.NormFRIdeal.defs (F := Ideal)) (onTc (τ := Cert.NormFRIdeal.τ) (Cert.NormFRIdeal.main (F := Ideal))) ⟨m', fun _ => 0, g'⟩ (fun r => ∀ c : Dev Cert.NormFRIdeal.nD,
          r.2.mem ((c.tc : Thread Cert.NormFRIdeal.nD Cert.NormFRIdeal.τ).loc Cert.NormFRIdeal.main_v12) = v0 c
          ∧ r.2.mem ((c.tc : Thread Cert.NormFRIdeal.nD Cert.NormFRIdeal.τ).loc Cert.NormFRIdeal.main_arg0) = m' ((c.tc : Thread Cert.NormFRIdeal.nD Cert.NormFRIdeal.τ).loc Cert.NormFRIdeal.main_arg0)
          ∧ r.2.mem ((c.tc : Thread Cert.NormFRIdeal.nD Cert.NormFRIdeal.τ).loc Cert.NormFRIdeal.main_arg1) = m' ((c.tc : Thread Cert.NormFRIdeal.nD Cert.NormFRIdeal.τ).loc Cert.NormFRIdeal.main_arg1))

def preserves_GmlpFK_GmlpFKIdeal : Prop :=
  True

def algebraic_GmlpFKIdeal_GmlpFRIdeal [hGmlpFKIdeal : Cert.GmlpFKIdeal.Facts] [hGmlpFRIdeal : Cert.GmlpFRIdeal.Facts] : Prop :=
  ∀ (m : (ℓ : Loc Cert.GmlpFKIdeal.nD Cert.GmlpFKIdeal.τ Cert.GmlpFKIdeal.sig) → Buf (Elt Ideal) ℓ) (g : Dev Cert.GmlpFKIdeal.nD → PrngReg)
    (m' : (ℓ : Loc Cert.GmlpFRIdeal.nD Cert.GmlpFRIdeal.τ Cert.GmlpFRIdeal.sig) → Buf (Elt Ideal) ℓ) (g' : Dev Cert.GmlpFRIdeal.nD → PrngReg), Pre_GmlpFKIdeal m →
    (∀ c : Dev Cert.GmlpFKIdeal.nD,
      m' ((c.tc : Thread Cert.GmlpFRIdeal.nD Cert.GmlpFRIdeal.τ).loc Cert.GmlpFRIdeal.main_arg0) = m ((c.tc : Thread Cert.GmlpFKIdeal.nD Cert.GmlpFKIdeal.τ).loc Cert.GmlpFKIdeal.main_arg0)
      ∧ m' ((c.tc : Thread Cert.GmlpFRIdeal.nD Cert.GmlpFRIdeal.τ).loc Cert.GmlpFRIdeal.main_arg1) = m ((c.tc : Thread Cert.GmlpFKIdeal.nD Cert.GmlpFKIdeal.τ).loc Cert.GmlpFKIdeal.main_arg1)
      ∧ m' ((c.tc : Thread Cert.GmlpFRIdeal.nD Cert.GmlpFRIdeal.τ).loc Cert.GmlpFRIdeal.main_arg2) = m ((c.tc : Thread Cert.GmlpFKIdeal.nD Cert.GmlpFKIdeal.τ).loc Cert.GmlpFKIdeal.main_arg2)
      ∧ m' ((c.tc : Thread Cert.GmlpFRIdeal.nD Cert.GmlpFRIdeal.τ).loc Cert.GmlpFRIdeal.main_arg3) = m ((c.tc : Thread Cert.GmlpFKIdeal.nD Cert.GmlpFKIdeal.τ).loc Cert.GmlpFKIdeal.main_arg3)
      ∧ m' ((c.tc : Thread Cert.GmlpFRIdeal.nD Cert.GmlpFRIdeal.τ).loc Cert.GmlpFRIdeal.main_arg4) = m ((c.tc : Thread Cert.GmlpFKIdeal.nD Cert.GmlpFKIdeal.τ).loc Cert.GmlpFKIdeal.main_arg4)) →
    ∃ (v0 : (c : Dev Cert.GmlpFKIdeal.nD) → Buf (Elt Ideal) ((c.tc : Thread Cert.GmlpFKIdeal.nD Cert.GmlpFKIdeal.τ).loc Cert.GmlpFKIdeal.main_v2)),
      θ_run (Cert.GmlpFKIdeal.defs (F := Ideal)) (onTc (τ := Cert.GmlpFKIdeal.τ) (Cert.GmlpFKIdeal.main (F := Ideal))) ⟨m, fun _ => 0, g⟩ (fun r => ∀ c : Dev Cert.GmlpFKIdeal.nD,
          r.2.mem ((c.tc : Thread Cert.GmlpFKIdeal.nD Cert.GmlpFKIdeal.τ).loc Cert.GmlpFKIdeal.main_v2) = v0 c
          ∧ r.2.mem ((c.tc : Thread Cert.GmlpFKIdeal.nD Cert.GmlpFKIdeal.τ).loc Cert.GmlpFKIdeal.main_arg0) = m ((c.tc : Thread Cert.GmlpFKIdeal.nD Cert.GmlpFKIdeal.τ).loc Cert.GmlpFKIdeal.main_arg0)
          ∧ r.2.mem ((c.tc : Thread Cert.GmlpFKIdeal.nD Cert.GmlpFKIdeal.τ).loc Cert.GmlpFKIdeal.main_arg1) = m ((c.tc : Thread Cert.GmlpFKIdeal.nD Cert.GmlpFKIdeal.τ).loc Cert.GmlpFKIdeal.main_arg1)
          ∧ r.2.mem ((c.tc : Thread Cert.GmlpFKIdeal.nD Cert.GmlpFKIdeal.τ).loc Cert.GmlpFKIdeal.main_arg2) = m ((c.tc : Thread Cert.GmlpFKIdeal.nD Cert.GmlpFKIdeal.τ).loc Cert.GmlpFKIdeal.main_arg2)
          ∧ r.2.mem ((c.tc : Thread Cert.GmlpFKIdeal.nD Cert.GmlpFKIdeal.τ).loc Cert.GmlpFKIdeal.main_arg3) = m ((c.tc : Thread Cert.GmlpFKIdeal.nD Cert.GmlpFKIdeal.τ).loc Cert.GmlpFKIdeal.main_arg3)
          ∧ r.2.mem ((c.tc : Thread Cert.GmlpFKIdeal.nD Cert.GmlpFKIdeal.τ).loc Cert.GmlpFKIdeal.main_arg4) = m ((c.tc : Thread Cert.GmlpFKIdeal.nD Cert.GmlpFKIdeal.τ).loc Cert.GmlpFKIdeal.main_arg4))
      ∧ θ_run (Cert.GmlpFRIdeal.defs (F := Ideal)) (onTc (τ := Cert.GmlpFRIdeal.τ) (Cert.GmlpFRIdeal.main (F := Ideal))) ⟨m', fun _ => 0, g'⟩ (fun r => ∀ c : Dev Cert.GmlpFRIdeal.nD,
          r.2.mem ((c.tc : Thread Cert.GmlpFRIdeal.nD Cert.GmlpFRIdeal.τ).loc Cert.GmlpFRIdeal.main_v65) = v0 c
          ∧ r.2.mem ((c.tc : Thread Cert.GmlpFRIdeal.nD Cert.GmlpFRIdeal.τ).loc Cert.GmlpFRIdeal.main_arg0) = m' ((c.tc : Thread Cert.GmlpFRIdeal.nD Cert.GmlpFRIdeal.τ).loc Cert.GmlpFRIdeal.main_arg0)
          ∧ r.2.mem ((c.tc : Thread Cert.GmlpFRIdeal.nD Cert.GmlpFRIdeal.τ).loc Cert.GmlpFRIdeal.main_arg1) = m' ((c.tc : Thread Cert.GmlpFRIdeal.nD Cert.GmlpFRIdeal.τ).loc Cert.GmlpFRIdeal.main_arg1)
          ∧ r.2.mem ((c.tc : Thread Cert.GmlpFRIdeal.nD Cert.GmlpFRIdeal.τ).loc Cert.GmlpFRIdeal.main_arg2) = m' ((c.tc : Thread Cert.GmlpFRIdeal.nD Cert.GmlpFRIdeal.τ).loc Cert.GmlpFRIdeal.main_arg2)
          ∧ r.2.mem ((c.tc : Thread Cert.GmlpFRIdeal.nD Cert.GmlpFRIdeal.τ).loc Cert.GmlpFRIdeal.main_arg3) = m' ((c.tc : Thread Cert.GmlpFRIdeal.nD Cert.GmlpFRIdeal.τ).loc Cert.GmlpFRIdeal.main_arg3)
          ∧ r.2.mem ((c.tc : Thread Cert.GmlpFRIdeal.nD Cert.GmlpFRIdeal.τ).loc Cert.GmlpFRIdeal.main_arg4) = m' ((c.tc : Thread Cert.GmlpFRIdeal.nD Cert.GmlpFRIdeal.τ).loc Cert.GmlpFRIdeal.main_arg4))

def preserves_MergeFK_MergeFKIdeal : Prop :=
  True

def algebraic_MergeFKIdeal_MergeFRIdeal [hMergeFKIdeal : Cert.MergeFKIdeal.Facts] [hMergeFRIdeal : Cert.MergeFRIdeal.Facts] : Prop :=
  ∀ (m : (ℓ : Loc Cert.MergeFKIdeal.nD Cert.MergeFKIdeal.τ Cert.MergeFKIdeal.sig) → Buf (Elt Ideal) ℓ) (g : Dev Cert.MergeFKIdeal.nD → PrngReg)
    (m' : (ℓ : Loc Cert.MergeFRIdeal.nD Cert.MergeFRIdeal.τ Cert.MergeFRIdeal.sig) → Buf (Elt Ideal) ℓ) (g' : Dev Cert.MergeFRIdeal.nD → PrngReg), Pre_MergeFKIdeal m →
    (∀ c : Dev Cert.MergeFKIdeal.nD,
      m' ((c.tc : Thread Cert.MergeFRIdeal.nD Cert.MergeFRIdeal.τ).loc Cert.MergeFRIdeal.main_arg0) = m ((c.tc : Thread Cert.MergeFKIdeal.nD Cert.MergeFKIdeal.τ).loc Cert.MergeFKIdeal.main_arg0)
      ∧ m' ((c.tc : Thread Cert.MergeFRIdeal.nD Cert.MergeFRIdeal.τ).loc Cert.MergeFRIdeal.main_arg1) = m ((c.tc : Thread Cert.MergeFKIdeal.nD Cert.MergeFKIdeal.τ).loc Cert.MergeFKIdeal.main_arg1)
      ∧ m' ((c.tc : Thread Cert.MergeFRIdeal.nD Cert.MergeFRIdeal.τ).loc Cert.MergeFRIdeal.main_arg2) = m ((c.tc : Thread Cert.MergeFKIdeal.nD Cert.MergeFKIdeal.τ).loc Cert.MergeFKIdeal.main_arg2)
      ∧ m' ((c.tc : Thread Cert.MergeFRIdeal.nD Cert.MergeFRIdeal.τ).loc Cert.MergeFRIdeal.main_arg3) = m ((c.tc : Thread Cert.MergeFKIdeal.nD Cert.MergeFKIdeal.τ).loc Cert.MergeFKIdeal.main_arg3)
      ∧ m' ((c.tc : Thread Cert.MergeFRIdeal.nD Cert.MergeFRIdeal.τ).loc Cert.MergeFRIdeal.main_arg4) = m ((c.tc : Thread Cert.MergeFKIdeal.nD Cert.MergeFKIdeal.τ).loc Cert.MergeFKIdeal.main_arg4)
      ∧ m' ((c.tc : Thread Cert.MergeFRIdeal.nD Cert.MergeFRIdeal.τ).loc Cert.MergeFRIdeal.main_arg5) = m ((c.tc : Thread Cert.MergeFKIdeal.nD Cert.MergeFKIdeal.τ).loc Cert.MergeFKIdeal.main_arg5)
      ∧ m' ((c.tc : Thread Cert.MergeFRIdeal.nD Cert.MergeFRIdeal.τ).loc Cert.MergeFRIdeal.main_arg6) = m ((c.tc : Thread Cert.MergeFKIdeal.nD Cert.MergeFKIdeal.τ).loc Cert.MergeFKIdeal.main_arg6)
      ∧ m' ((c.tc : Thread Cert.MergeFRIdeal.nD Cert.MergeFRIdeal.τ).loc Cert.MergeFRIdeal.main_arg7) = m ((c.tc : Thread Cert.MergeFKIdeal.nD Cert.MergeFKIdeal.τ).loc Cert.MergeFKIdeal.main_arg7)) →
    ∃ (v0 : (c : Dev Cert.MergeFKIdeal.nD) → Buf (Elt Ideal) ((c.tc : Thread Cert.MergeFKIdeal.nD Cert.MergeFKIdeal.τ).loc Cert.MergeFKIdeal.main_v10_0)) (v1 : (c : Dev Cert.MergeFKIdeal.nD) → Buf (Elt Ideal) ((c.tc : Thread Cert.MergeFKIdeal.nD Cert.MergeFKIdeal.τ).loc Cert.MergeFKIdeal.main_v10_1)) (v2 : (c : Dev Cert.MergeFKIdeal.nD) → Buf (Elt Ideal) ((c.tc : Thread Cert.MergeFKIdeal.nD Cert.MergeFKIdeal.τ).loc Cert.MergeFKIdeal.main_v10_2)),
      θ_run (Cert.MergeFKIdeal.defs (F := Ideal)) (onTc (τ := Cert.MergeFKIdeal.τ) (Cert.MergeFKIdeal.main (F := Ideal))) ⟨m, fun _ => 0, g⟩ (fun r => ∀ c : Dev Cert.MergeFKIdeal.nD,
          r.2.mem ((c.tc : Thread Cert.MergeFKIdeal.nD Cert.MergeFKIdeal.τ).loc Cert.MergeFKIdeal.main_v10_0) = v0 c
          ∧ r.2.mem ((c.tc : Thread Cert.MergeFKIdeal.nD Cert.MergeFKIdeal.τ).loc Cert.MergeFKIdeal.main_v10_1) = v1 c
          ∧ r.2.mem ((c.tc : Thread Cert.MergeFKIdeal.nD Cert.MergeFKIdeal.τ).loc Cert.MergeFKIdeal.main_v10_2) = v2 c
          ∧ r.2.mem ((c.tc : Thread Cert.MergeFKIdeal.nD Cert.MergeFKIdeal.τ).loc Cert.MergeFKIdeal.main_arg0) = m ((c.tc : Thread Cert.MergeFKIdeal.nD Cert.MergeFKIdeal.τ).loc Cert.MergeFKIdeal.main_arg0)
          ∧ r.2.mem ((c.tc : Thread Cert.MergeFKIdeal.nD Cert.MergeFKIdeal.τ).loc Cert.MergeFKIdeal.main_arg1) = m ((c.tc : Thread Cert.MergeFKIdeal.nD Cert.MergeFKIdeal.τ).loc Cert.MergeFKIdeal.main_arg1)
          ∧ r.2.mem ((c.tc : Thread Cert.MergeFKIdeal.nD Cert.MergeFKIdeal.τ).loc Cert.MergeFKIdeal.main_arg2) = m ((c.tc : Thread Cert.MergeFKIdeal.nD Cert.MergeFKIdeal.τ).loc Cert.MergeFKIdeal.main_arg2)
          ∧ r.2.mem ((c.tc : Thread Cert.MergeFKIdeal.nD Cert.MergeFKIdeal.τ).loc Cert.MergeFKIdeal.main_arg3) = m ((c.tc : Thread Cert.MergeFKIdeal.nD Cert.MergeFKIdeal.τ).loc Cert.MergeFKIdeal.main_arg3)
          ∧ r.2.mem ((c.tc : Thread Cert.MergeFKIdeal.nD Cert.MergeFKIdeal.τ).loc Cert.MergeFKIdeal.main_arg4) = m ((c.tc : Thread Cert.MergeFKIdeal.nD Cert.MergeFKIdeal.τ).loc Cert.MergeFKIdeal.main_arg4)
          ∧ r.2.mem ((c.tc : Thread Cert.MergeFKIdeal.nD Cert.MergeFKIdeal.τ).loc Cert.MergeFKIdeal.main_arg5) = m ((c.tc : Thread Cert.MergeFKIdeal.nD Cert.MergeFKIdeal.τ).loc Cert.MergeFKIdeal.main_arg5)
          ∧ r.2.mem ((c.tc : Thread Cert.MergeFKIdeal.nD Cert.MergeFKIdeal.τ).loc Cert.MergeFKIdeal.main_arg6) = m ((c.tc : Thread Cert.MergeFKIdeal.nD Cert.MergeFKIdeal.τ).loc Cert.MergeFKIdeal.main_arg6)
          ∧ r.2.mem ((c.tc : Thread Cert.MergeFKIdeal.nD Cert.MergeFKIdeal.τ).loc Cert.MergeFKIdeal.main_arg7) = m ((c.tc : Thread Cert.MergeFKIdeal.nD Cert.MergeFKIdeal.τ).loc Cert.MergeFKIdeal.main_arg7))
      ∧ θ_run (Cert.MergeFRIdeal.defs (F := Ideal)) (onTc (τ := Cert.MergeFRIdeal.τ) (Cert.MergeFRIdeal.main (F := Ideal))) ⟨m', fun _ => 0, g'⟩ (fun r => ∀ c : Dev Cert.MergeFRIdeal.nD,
          r.2.mem ((c.tc : Thread Cert.MergeFRIdeal.nD Cert.MergeFRIdeal.τ).loc Cert.MergeFRIdeal.main_v22) = v0 c
          ∧ r.2.mem ((c.tc : Thread Cert.MergeFRIdeal.nD Cert.MergeFRIdeal.τ).loc Cert.MergeFRIdeal.main_v21) = v1 c
          ∧ r.2.mem ((c.tc : Thread Cert.MergeFRIdeal.nD Cert.MergeFRIdeal.τ).loc Cert.MergeFRIdeal.main_v35) = v2 c
          ∧ r.2.mem ((c.tc : Thread Cert.MergeFRIdeal.nD Cert.MergeFRIdeal.τ).loc Cert.MergeFRIdeal.main_arg0) = m' ((c.tc : Thread Cert.MergeFRIdeal.nD Cert.MergeFRIdeal.τ).loc Cert.MergeFRIdeal.main_arg0)
          ∧ r.2.mem ((c.tc : Thread Cert.MergeFRIdeal.nD Cert.MergeFRIdeal.τ).loc Cert.MergeFRIdeal.main_arg1) = m' ((c.tc : Thread Cert.MergeFRIdeal.nD Cert.MergeFRIdeal.τ).loc Cert.MergeFRIdeal.main_arg1)
          ∧ r.2.mem ((c.tc : Thread Cert.MergeFRIdeal.nD Cert.MergeFRIdeal.τ).loc Cert.MergeFRIdeal.main_arg2) = m' ((c.tc : Thread Cert.MergeFRIdeal.nD Cert.MergeFRIdeal.τ).loc Cert.MergeFRIdeal.main_arg2)
          ∧ r.2.mem ((c.tc : Thread Cert.MergeFRIdeal.nD Cert.MergeFRIdeal.τ).loc Cert.MergeFRIdeal.main_arg3) = m' ((c.tc : Thread Cert.MergeFRIdeal.nD Cert.MergeFRIdeal.τ).loc Cert.MergeFRIdeal.main_arg3)
          ∧ r.2.mem ((c.tc : Thread Cert.MergeFRIdeal.nD Cert.MergeFRIdeal.τ).loc Cert.MergeFRIdeal.main_arg4) = m' ((c.tc : Thread Cert.MergeFRIdeal.nD Cert.MergeFRIdeal.τ).loc Cert.MergeFRIdeal.main_arg4)
          ∧ r.2.mem ((c.tc : Thread Cert.MergeFRIdeal.nD Cert.MergeFRIdeal.τ).loc Cert.MergeFRIdeal.main_arg5) = m' ((c.tc : Thread Cert.MergeFRIdeal.nD Cert.MergeFRIdeal.τ).loc Cert.MergeFRIdeal.main_arg5)
          ∧ r.2.mem ((c.tc : Thread Cert.MergeFRIdeal.nD Cert.MergeFRIdeal.τ).loc Cert.MergeFRIdeal.main_arg6) = m' ((c.tc : Thread Cert.MergeFRIdeal.nD Cert.MergeFRIdeal.τ).loc Cert.MergeFRIdeal.main_arg6)
          ∧ r.2.mem ((c.tc : Thread Cert.MergeFRIdeal.nD Cert.MergeFRIdeal.τ).loc Cert.MergeFRIdeal.main_arg7) = m' ((c.tc : Thread Cert.MergeFRIdeal.nD Cert.MergeFRIdeal.τ).loc Cert.MergeFRIdeal.main_arg7))

def preserves_ConvFK_ConvFKIdeal : Prop :=
  True

def algebraic_ConvFKIdeal_ConvFRIdeal [hConvFKIdeal : Cert.ConvFKIdeal.Facts] [hConvFRIdeal : Cert.ConvFRIdeal.Facts] : Prop :=
  ∀ (m : (ℓ : Loc Cert.ConvFKIdeal.nD Cert.ConvFKIdeal.τ Cert.ConvFKIdeal.sig) → Buf (Elt Ideal) ℓ) (g : Dev Cert.ConvFKIdeal.nD → PrngReg)
    (m' : (ℓ : Loc Cert.ConvFRIdeal.nD Cert.ConvFRIdeal.τ Cert.ConvFRIdeal.sig) → Buf (Elt Ideal) ℓ) (g' : Dev Cert.ConvFRIdeal.nD → PrngReg), Pre_ConvFKIdeal m →
    (∀ c : Dev Cert.ConvFKIdeal.nD,
      m' ((c.tc : Thread Cert.ConvFRIdeal.nD Cert.ConvFRIdeal.τ).loc Cert.ConvFRIdeal.main_arg0) = m ((c.tc : Thread Cert.ConvFKIdeal.nD Cert.ConvFKIdeal.τ).loc Cert.ConvFKIdeal.main_arg0)
      ∧ m' ((c.tc : Thread Cert.ConvFRIdeal.nD Cert.ConvFRIdeal.τ).loc Cert.ConvFRIdeal.main_arg1) = m ((c.tc : Thread Cert.ConvFKIdeal.nD Cert.ConvFKIdeal.τ).loc Cert.ConvFKIdeal.main_arg1)
      ∧ m' ((c.tc : Thread Cert.ConvFRIdeal.nD Cert.ConvFRIdeal.τ).loc Cert.ConvFRIdeal.main_arg2) = m ((c.tc : Thread Cert.ConvFKIdeal.nD Cert.ConvFKIdeal.τ).loc Cert.ConvFKIdeal.main_arg2)
      ∧ m' ((c.tc : Thread Cert.ConvFRIdeal.nD Cert.ConvFRIdeal.τ).loc Cert.ConvFRIdeal.main_arg3) = m ((c.tc : Thread Cert.ConvFKIdeal.nD Cert.ConvFKIdeal.τ).loc Cert.ConvFKIdeal.main_arg3)) →
    ∃ (v0 : (c : Dev Cert.ConvFKIdeal.nD) → Buf (Elt Ideal) ((c.tc : Thread Cert.ConvFKIdeal.nD Cert.ConvFKIdeal.τ).loc Cert.ConvFKIdeal.main_v2_0)) (v1 : (c : Dev Cert.ConvFKIdeal.nD) → Buf (Elt Ideal) ((c.tc : Thread Cert.ConvFKIdeal.nD Cert.ConvFKIdeal.τ).loc Cert.ConvFKIdeal.main_v2_1)) (v2 : (c : Dev Cert.ConvFKIdeal.nD) → Buf (Elt Ideal) ((c.tc : Thread Cert.ConvFKIdeal.nD Cert.ConvFKIdeal.τ).loc Cert.ConvFKIdeal.main_v2_2)),
      θ_run (Cert.ConvFKIdeal.defs (F := Ideal)) (onTc (τ := Cert.ConvFKIdeal.τ) (Cert.ConvFKIdeal.main (F := Ideal))) ⟨m, fun _ => 0, g⟩ (fun r => ∀ c : Dev Cert.ConvFKIdeal.nD,
          r.2.mem ((c.tc : Thread Cert.ConvFKIdeal.nD Cert.ConvFKIdeal.τ).loc Cert.ConvFKIdeal.main_v2_0) = v0 c
          ∧ r.2.mem ((c.tc : Thread Cert.ConvFKIdeal.nD Cert.ConvFKIdeal.τ).loc Cert.ConvFKIdeal.main_v2_1) = v1 c
          ∧ r.2.mem ((c.tc : Thread Cert.ConvFKIdeal.nD Cert.ConvFKIdeal.τ).loc Cert.ConvFKIdeal.main_v2_2) = v2 c
          ∧ r.2.mem ((c.tc : Thread Cert.ConvFKIdeal.nD Cert.ConvFKIdeal.τ).loc Cert.ConvFKIdeal.main_arg0) = m ((c.tc : Thread Cert.ConvFKIdeal.nD Cert.ConvFKIdeal.τ).loc Cert.ConvFKIdeal.main_arg0)
          ∧ r.2.mem ((c.tc : Thread Cert.ConvFKIdeal.nD Cert.ConvFKIdeal.τ).loc Cert.ConvFKIdeal.main_arg1) = m ((c.tc : Thread Cert.ConvFKIdeal.nD Cert.ConvFKIdeal.τ).loc Cert.ConvFKIdeal.main_arg1)
          ∧ r.2.mem ((c.tc : Thread Cert.ConvFKIdeal.nD Cert.ConvFKIdeal.τ).loc Cert.ConvFKIdeal.main_arg2) = m ((c.tc : Thread Cert.ConvFKIdeal.nD Cert.ConvFKIdeal.τ).loc Cert.ConvFKIdeal.main_arg2)
          ∧ r.2.mem ((c.tc : Thread Cert.ConvFKIdeal.nD Cert.ConvFKIdeal.τ).loc Cert.ConvFKIdeal.main_arg3) = m ((c.tc : Thread Cert.ConvFKIdeal.nD Cert.ConvFKIdeal.τ).loc Cert.ConvFKIdeal.main_arg3))
      ∧ θ_run (Cert.ConvFRIdeal.defs (F := Ideal)) (onTc (τ := Cert.ConvFRIdeal.τ) (Cert.ConvFRIdeal.main (F := Ideal))) ⟨m', fun _ => 0, g'⟩ (fun r => ∀ c : Dev Cert.ConvFRIdeal.nD,
          r.2.mem ((c.tc : Thread Cert.ConvFRIdeal.nD Cert.ConvFRIdeal.τ).loc Cert.ConvFRIdeal.main_v4) = v0 c
          ∧ r.2.mem ((c.tc : Thread Cert.ConvFRIdeal.nD Cert.ConvFRIdeal.τ).loc Cert.ConvFRIdeal.main_v5) = v1 c
          ∧ r.2.mem ((c.tc : Thread Cert.ConvFRIdeal.nD Cert.ConvFRIdeal.τ).loc Cert.ConvFRIdeal.main_v37) = v2 c
          ∧ r.2.mem ((c.tc : Thread Cert.ConvFRIdeal.nD Cert.ConvFRIdeal.τ).loc Cert.ConvFRIdeal.main_arg0) = m' ((c.tc : Thread Cert.ConvFRIdeal.nD Cert.ConvFRIdeal.τ).loc Cert.ConvFRIdeal.main_arg0)
          ∧ r.2.mem ((c.tc : Thread Cert.ConvFRIdeal.nD Cert.ConvFRIdeal.τ).loc Cert.ConvFRIdeal.main_arg1) = m' ((c.tc : Thread Cert.ConvFRIdeal.nD Cert.ConvFRIdeal.τ).loc Cert.ConvFRIdeal.main_arg1)
          ∧ r.2.mem ((c.tc : Thread Cert.ConvFRIdeal.nD Cert.ConvFRIdeal.τ).loc Cert.ConvFRIdeal.main_arg2) = m' ((c.tc : Thread Cert.ConvFRIdeal.nD Cert.ConvFRIdeal.τ).loc Cert.ConvFRIdeal.main_arg2)
          ∧ r.2.mem ((c.tc : Thread Cert.ConvFRIdeal.nD Cert.ConvFRIdeal.τ).loc Cert.ConvFRIdeal.main_arg3) = m' ((c.tc : Thread Cert.ConvFRIdeal.nD Cert.ConvFRIdeal.τ).loc Cert.ConvFRIdeal.main_arg3))

def preserves_ProjFK_ProjFKIdeal : Prop :=
  True

def algebraic_ProjFKIdeal_ProjFRIdeal [hProjFKIdeal : Cert.ProjFKIdeal.Facts] [hProjFRIdeal : Cert.ProjFRIdeal.Facts] : Prop :=
  ∀ (m : (ℓ : Loc Cert.ProjFKIdeal.nD Cert.ProjFKIdeal.τ Cert.ProjFKIdeal.sig) → Buf (Elt Ideal) ℓ) (g : Dev Cert.ProjFKIdeal.nD → PrngReg)
    (m' : (ℓ : Loc Cert.ProjFRIdeal.nD Cert.ProjFRIdeal.τ Cert.ProjFRIdeal.sig) → Buf (Elt Ideal) ℓ) (g' : Dev Cert.ProjFRIdeal.nD → PrngReg), Pre_ProjFKIdeal m →
    (∀ c : Dev Cert.ProjFKIdeal.nD,
      m' ((c.tc : Thread Cert.ProjFRIdeal.nD Cert.ProjFRIdeal.τ).loc Cert.ProjFRIdeal.main_arg0) = m ((c.tc : Thread Cert.ProjFKIdeal.nD Cert.ProjFKIdeal.τ).loc Cert.ProjFKIdeal.main_arg0)
      ∧ m' ((c.tc : Thread Cert.ProjFRIdeal.nD Cert.ProjFRIdeal.τ).loc Cert.ProjFRIdeal.main_arg1) = m ((c.tc : Thread Cert.ProjFKIdeal.nD Cert.ProjFKIdeal.τ).loc Cert.ProjFKIdeal.main_arg1)
      ∧ m' ((c.tc : Thread Cert.ProjFRIdeal.nD Cert.ProjFRIdeal.τ).loc Cert.ProjFRIdeal.main_arg2) = m ((c.tc : Thread Cert.ProjFKIdeal.nD Cert.ProjFKIdeal.τ).loc Cert.ProjFKIdeal.main_arg2)) →
    ∃ (v0 : (c : Dev Cert.ProjFKIdeal.nD) → Buf (Elt Ideal) ((c.tc : Thread Cert.ProjFKIdeal.nD Cert.ProjFKIdeal.τ).loc Cert.ProjFKIdeal.main_v2_0)) (v1 : (c : Dev Cert.ProjFKIdeal.nD) → Buf (Elt Ideal) ((c.tc : Thread Cert.ProjFKIdeal.nD Cert.ProjFKIdeal.τ).loc Cert.ProjFKIdeal.main_v2_1)),
      θ_run (Cert.ProjFKIdeal.defs (F := Ideal)) (onTc (τ := Cert.ProjFKIdeal.τ) (Cert.ProjFKIdeal.main (F := Ideal))) ⟨m, fun _ => 0, g⟩ (fun r => ∀ c : Dev Cert.ProjFKIdeal.nD,
          r.2.mem ((c.tc : Thread Cert.ProjFKIdeal.nD Cert.ProjFKIdeal.τ).loc Cert.ProjFKIdeal.main_v2_0) = v0 c
          ∧ r.2.mem ((c.tc : Thread Cert.ProjFKIdeal.nD Cert.ProjFKIdeal.τ).loc Cert.ProjFKIdeal.main_v2_1) = v1 c
          ∧ r.2.mem ((c.tc : Thread Cert.ProjFKIdeal.nD Cert.ProjFKIdeal.τ).loc Cert.ProjFKIdeal.main_arg0) = m ((c.tc : Thread Cert.ProjFKIdeal.nD Cert.ProjFKIdeal.τ).loc Cert.ProjFKIdeal.main_arg0)
          ∧ r.2.mem ((c.tc : Thread Cert.ProjFKIdeal.nD Cert.ProjFKIdeal.τ).loc Cert.ProjFKIdeal.main_arg1) = m ((c.tc : Thread Cert.ProjFKIdeal.nD Cert.ProjFKIdeal.τ).loc Cert.ProjFKIdeal.main_arg1)
          ∧ r.2.mem ((c.tc : Thread Cert.ProjFKIdeal.nD Cert.ProjFKIdeal.τ).loc Cert.ProjFKIdeal.main_arg2) = m ((c.tc : Thread Cert.ProjFKIdeal.nD Cert.ProjFKIdeal.τ).loc Cert.ProjFKIdeal.main_arg2))
      ∧ θ_run (Cert.ProjFRIdeal.defs (F := Ideal)) (onTc (τ := Cert.ProjFRIdeal.τ) (Cert.ProjFRIdeal.main (F := Ideal))) ⟨m', fun _ => 0, g'⟩ (fun r => ∀ c : Dev Cert.ProjFRIdeal.nD,
          r.2.mem ((c.tc : Thread Cert.ProjFRIdeal.nD Cert.ProjFRIdeal.τ).loc Cert.ProjFRIdeal.main_v13) = v0 c
          ∧ r.2.mem ((c.tc : Thread Cert.ProjFRIdeal.nD Cert.ProjFRIdeal.τ).loc Cert.ProjFRIdeal.main_v14) = v1 c
          ∧ r.2.mem ((c.tc : Thread Cert.ProjFRIdeal.nD Cert.ProjFRIdeal.τ).loc Cert.ProjFRIdeal.main_arg0) = m' ((c.tc : Thread Cert.ProjFRIdeal.nD Cert.ProjFRIdeal.τ).loc Cert.ProjFRIdeal.main_arg0)
          ∧ r.2.mem ((c.tc : Thread Cert.ProjFRIdeal.nD Cert.ProjFRIdeal.τ).loc Cert.ProjFRIdeal.main_arg1) = m' ((c.tc : Thread Cert.ProjFRIdeal.nD Cert.ProjFRIdeal.τ).loc Cert.ProjFRIdeal.main_arg1)
          ∧ r.2.mem ((c.tc : Thread Cert.ProjFRIdeal.nD Cert.ProjFRIdeal.τ).loc Cert.ProjFRIdeal.main_arg2) = m' ((c.tc : Thread Cert.ProjFRIdeal.nD Cert.ProjFRIdeal.τ).loc Cert.ProjFRIdeal.main_arg2))

def preserves_HgrnFK_HgrnFKIdeal : Prop :=
  True

def preserves_DwK_DwKIdeal : Prop :=
  True

def algebraic_DwKIdeal_DwRIdeal [hDwKIdeal : Cert.DwKIdeal.Facts] [hDwRIdeal : Cert.DwRIdeal.Facts] : Prop :=
  ∀ (m : (ℓ : Loc Cert.DwKIdeal.nD Cert.DwKIdeal.τ Cert.DwKIdeal.sig) → Buf (Elt Ideal) ℓ) (g : Dev Cert.DwKIdeal.nD → PrngReg)
    (m' : (ℓ : Loc Cert.DwRIdeal.nD Cert.DwRIdeal.τ Cert.DwRIdeal.sig) → Buf (Elt Ideal) ℓ) (g' : Dev Cert.DwRIdeal.nD → PrngReg), Pre_DwKIdeal m →
    (∀ c : Dev Cert.DwKIdeal.nD,
      m' ((c.tc : Thread Cert.DwRIdeal.nD Cert.DwRIdeal.τ).loc Cert.DwRIdeal.main_arg0) = m ((c.tc : Thread Cert.DwKIdeal.nD Cert.DwKIdeal.τ).loc Cert.DwKIdeal.main_arg0)
      ∧ m' ((c.tc : Thread Cert.DwRIdeal.nD Cert.DwRIdeal.τ).loc Cert.DwRIdeal.main_arg1) = m ((c.tc : Thread Cert.DwKIdeal.nD Cert.DwKIdeal.τ).loc Cert.DwKIdeal.main_arg1)) →
    ∃ (v0 : (c : Dev Cert.DwKIdeal.nD) → Buf (Elt Ideal) ((c.tc : Thread Cert.DwKIdeal.nD Cert.DwKIdeal.τ).loc Cert.DwKIdeal.main_v0)),
      θ_run (Cert.DwKIdeal.defs (F := Ideal)) (onTc (τ := Cert.DwKIdeal.τ) (Cert.DwKIdeal.main (F := Ideal))) ⟨m, fun _ => 0, g⟩ (fun r => ∀ c : Dev Cert.DwKIdeal.nD,
          r.2.mem ((c.tc : Thread Cert.DwKIdeal.nD Cert.DwKIdeal.τ).loc Cert.DwKIdeal.main_v0) = v0 c
          ∧ r.2.mem ((c.tc : Thread Cert.DwKIdeal.nD Cert.DwKIdeal.τ).loc Cert.DwKIdeal.main_arg0) = m ((c.tc : Thread Cert.DwKIdeal.nD Cert.DwKIdeal.τ).loc Cert.DwKIdeal.main_arg0)
          ∧ r.2.mem ((c.tc : Thread Cert.DwKIdeal.nD Cert.DwKIdeal.τ).loc Cert.DwKIdeal.main_arg1) = m ((c.tc : Thread Cert.DwKIdeal.nD Cert.DwKIdeal.τ).loc Cert.DwKIdeal.main_arg1))
      ∧ θ_run (Cert.DwRIdeal.defs (F := Ideal)) (onTc (τ := Cert.DwRIdeal.τ) (Cert.DwRIdeal.main (F := Ideal))) ⟨m', fun _ => 0, g'⟩ (fun r => ∀ c : Dev Cert.DwRIdeal.nD,
          r.2.mem ((c.tc : Thread Cert.DwRIdeal.nD Cert.DwRIdeal.τ).loc Cert.DwRIdeal.main_v8) = v0 c
          ∧ r.2.mem ((c.tc : Thread Cert.DwRIdeal.nD Cert.DwRIdeal.τ).loc Cert.DwRIdeal.main_arg0) = m' ((c.tc : Thread Cert.DwRIdeal.nD Cert.DwRIdeal.τ).loc Cert.DwRIdeal.main_arg0)
          ∧ r.2.mem ((c.tc : Thread Cert.DwRIdeal.nD Cert.DwRIdeal.τ).loc Cert.DwRIdeal.main_arg1) = m' ((c.tc : Thread Cert.DwRIdeal.nD Cert.DwRIdeal.τ).loc Cert.DwRIdeal.main_arg1))

def preserves_AdamK_AdamKIdeal : Prop :=
  True

def algebraic_AdamKIdeal_AdamRIdeal [hAdamKIdeal : Cert.AdamKIdeal.Facts] [hAdamRIdeal : Cert.AdamRIdeal.Facts] : Prop :=
  ∀ (m : (ℓ : Loc Cert.AdamKIdeal.nD Cert.AdamKIdeal.τ Cert.AdamKIdeal.sig) → Buf (Elt Ideal) ℓ) (g : Dev Cert.AdamKIdeal.nD → PrngReg)
    (m' : (ℓ : Loc Cert.AdamRIdeal.nD Cert.AdamRIdeal.τ Cert.AdamRIdeal.sig) → Buf (Elt Ideal) ℓ) (g' : Dev Cert.AdamRIdeal.nD → PrngReg), Pre_AdamKIdeal m →
    (∀ c : Dev Cert.AdamKIdeal.nD,
      m' ((c.tc : Thread Cert.AdamRIdeal.nD Cert.AdamRIdeal.τ).loc Cert.AdamRIdeal.main_arg0) = m ((c.tc : Thread Cert.AdamKIdeal.nD Cert.AdamKIdeal.τ).loc Cert.AdamKIdeal.main_arg0)
      ∧ m' ((c.tc : Thread Cert.AdamRIdeal.nD Cert.AdamRIdeal.τ).loc Cert.AdamRIdeal.main_arg1) = m ((c.tc : Thread Cert.AdamKIdeal.nD Cert.AdamKIdeal.τ).loc Cert.AdamKIdeal.main_arg1)
      ∧ m' ((c.tc : Thread Cert.AdamRIdeal.nD Cert.AdamRIdeal.τ).loc Cert.AdamRIdeal.main_arg2) = m ((c.tc : Thread Cert.AdamKIdeal.nD Cert.AdamKIdeal.τ).loc Cert.AdamKIdeal.main_arg2)
      ∧ m' ((c.tc : Thread Cert.AdamRIdeal.nD Cert.AdamRIdeal.τ).loc Cert.AdamRIdeal.main_arg3) = m ((c.tc : Thread Cert.AdamKIdeal.nD Cert.AdamKIdeal.τ).loc Cert.AdamKIdeal.main_arg3)
      ∧ m' ((c.tc : Thread Cert.AdamRIdeal.nD Cert.AdamRIdeal.τ).loc Cert.AdamRIdeal.main_arg4) = m ((c.tc : Thread Cert.AdamKIdeal.nD Cert.AdamKIdeal.τ).loc Cert.AdamKIdeal.main_arg4)) →
    ∃ (v0 : (c : Dev Cert.AdamKIdeal.nD) → Buf (Elt Ideal) ((c.tc : Thread Cert.AdamKIdeal.nD Cert.AdamKIdeal.τ).loc Cert.AdamKIdeal.main_v3_0)) (v1 : (c : Dev Cert.AdamKIdeal.nD) → Buf (Elt Ideal) ((c.tc : Thread Cert.AdamKIdeal.nD Cert.AdamKIdeal.τ).loc Cert.AdamKIdeal.main_v3_1)) (v2 : (c : Dev Cert.AdamKIdeal.nD) → Buf (Elt Ideal) ((c.tc : Thread Cert.AdamKIdeal.nD Cert.AdamKIdeal.τ).loc Cert.AdamKIdeal.main_v3_2)) (v3 : (c : Dev Cert.AdamKIdeal.nD) → Buf (Elt Ideal) ((c.tc : Thread Cert.AdamKIdeal.nD Cert.AdamKIdeal.τ).loc Cert.AdamKIdeal.main_v3_3)),
      θ_run (Cert.AdamKIdeal.defs (F := Ideal)) (onTc (τ := Cert.AdamKIdeal.τ) (Cert.AdamKIdeal.main (F := Ideal))) ⟨m, fun _ => 0, g⟩ (fun r => ∀ c : Dev Cert.AdamKIdeal.nD,
          r.2.mem ((c.tc : Thread Cert.AdamKIdeal.nD Cert.AdamKIdeal.τ).loc Cert.AdamKIdeal.main_v3_0) = v0 c
          ∧ r.2.mem ((c.tc : Thread Cert.AdamKIdeal.nD Cert.AdamKIdeal.τ).loc Cert.AdamKIdeal.main_v3_1) = v1 c
          ∧ r.2.mem ((c.tc : Thread Cert.AdamKIdeal.nD Cert.AdamKIdeal.τ).loc Cert.AdamKIdeal.main_v3_2) = v2 c
          ∧ r.2.mem ((c.tc : Thread Cert.AdamKIdeal.nD Cert.AdamKIdeal.τ).loc Cert.AdamKIdeal.main_v3_3) = v3 c
          ∧ r.2.mem ((c.tc : Thread Cert.AdamKIdeal.nD Cert.AdamKIdeal.τ).loc Cert.AdamKIdeal.main_arg0) = m ((c.tc : Thread Cert.AdamKIdeal.nD Cert.AdamKIdeal.τ).loc Cert.AdamKIdeal.main_arg0)
          ∧ r.2.mem ((c.tc : Thread Cert.AdamKIdeal.nD Cert.AdamKIdeal.τ).loc Cert.AdamKIdeal.main_arg1) = m ((c.tc : Thread Cert.AdamKIdeal.nD Cert.AdamKIdeal.τ).loc Cert.AdamKIdeal.main_arg1)
          ∧ r.2.mem ((c.tc : Thread Cert.AdamKIdeal.nD Cert.AdamKIdeal.τ).loc Cert.AdamKIdeal.main_arg2) = m ((c.tc : Thread Cert.AdamKIdeal.nD Cert.AdamKIdeal.τ).loc Cert.AdamKIdeal.main_arg2)
          ∧ r.2.mem ((c.tc : Thread Cert.AdamKIdeal.nD Cert.AdamKIdeal.τ).loc Cert.AdamKIdeal.main_arg3) = m ((c.tc : Thread Cert.AdamKIdeal.nD Cert.AdamKIdeal.τ).loc Cert.AdamKIdeal.main_arg3)
          ∧ r.2.mem ((c.tc : Thread Cert.AdamKIdeal.nD Cert.AdamKIdeal.τ).loc Cert.AdamKIdeal.main_arg4) = m ((c.tc : Thread Cert.AdamKIdeal.nD Cert.AdamKIdeal.τ).loc Cert.AdamKIdeal.main_arg4))
      ∧ θ_run (Cert.AdamRIdeal.defs (F := Ideal)) (onTc (τ := Cert.AdamRIdeal.τ) (Cert.AdamRIdeal.main (F := Ideal))) ⟨m', fun _ => 0, g'⟩ (fun r => ∀ c : Dev Cert.AdamRIdeal.nD,
          r.2.mem ((c.tc : Thread Cert.AdamRIdeal.nD Cert.AdamRIdeal.τ).loc Cert.AdamRIdeal.main_v2) = v0 c
          ∧ r.2.mem ((c.tc : Thread Cert.AdamRIdeal.nD Cert.AdamRIdeal.τ).loc Cert.AdamRIdeal.main_v28) = v1 c
          ∧ r.2.mem ((c.tc : Thread Cert.AdamRIdeal.nD Cert.AdamRIdeal.τ).loc Cert.AdamRIdeal.main_v29) = v2 c
          ∧ r.2.mem ((c.tc : Thread Cert.AdamRIdeal.nD Cert.AdamRIdeal.τ).loc Cert.AdamRIdeal.main_v30) = v3 c
          ∧ r.2.mem ((c.tc : Thread Cert.AdamRIdeal.nD Cert.AdamRIdeal.τ).loc Cert.AdamRIdeal.main_arg0) = m' ((c.tc : Thread Cert.AdamRIdeal.nD Cert.AdamRIdeal.τ).loc Cert.AdamRIdeal.main_arg0)
          ∧ r.2.mem ((c.tc : Thread Cert.AdamRIdeal.nD Cert.AdamRIdeal.τ).loc Cert.AdamRIdeal.main_arg1) = m' ((c.tc : Thread Cert.AdamRIdeal.nD Cert.AdamRIdeal.τ).loc Cert.AdamRIdeal.main_arg1)
          ∧ r.2.mem ((c.tc : Thread Cert.AdamRIdeal.nD Cert.AdamRIdeal.τ).loc Cert.AdamRIdeal.main_arg2) = m' ((c.tc : Thread Cert.AdamRIdeal.nD Cert.AdamRIdeal.τ).loc Cert.AdamRIdeal.main_arg2)
          ∧ r.2.mem ((c.tc : Thread Cert.AdamRIdeal.nD Cert.AdamRIdeal.τ).loc Cert.AdamRIdeal.main_arg3) = m' ((c.tc : Thread Cert.AdamRIdeal.nD Cert.AdamRIdeal.τ).loc Cert.AdamRIdeal.main_arg3)
          ∧ r.2.mem ((c.tc : Thread Cert.AdamRIdeal.nD Cert.AdamRIdeal.τ).loc Cert.AdamRIdeal.main_arg4) = m' ((c.tc : Thread Cert.AdamRIdeal.nD Cert.AdamRIdeal.τ).loc Cert.AdamRIdeal.main_arg4))

def Claim : Prop :=
  ∃ (hNormK : Cert.NormK.Facts) (hNormKIdeal : Cert.NormKIdeal.Facts) (hNormRIdeal : Cert.NormRIdeal.Facts) (hAttnK : Cert.AttnK.Facts) (hAttnKIdeal : Cert.AttnKIdeal.Facts) (hAttnRIdeal : Cert.AttnRIdeal.Facts) (hConvK : Cert.ConvK.Facts) (hConvKIdeal : Cert.ConvKIdeal.Facts) (hConvRIdeal : Cert.ConvRIdeal.Facts) (hGmlpK : Cert.GmlpK.Facts) (hGmlpKIdeal : Cert.GmlpKIdeal.Facts) (hGmlpRIdeal : Cert.GmlpRIdeal.Facts) (hMergeK : Cert.MergeK.Facts) (hMergeKIdeal : Cert.MergeKIdeal.Facts) (hMergeRIdeal : Cert.MergeRIdeal.Facts) (hLossK : Cert.LossK.Facts) (hLossKIdeal : Cert.LossKIdeal.Facts) (hLossRIdeal : Cert.LossRIdeal.Facts) (hUpK : Cert.UpK.Facts) (hUpKIdeal : Cert.UpKIdeal.Facts) (hUpRIdeal : Cert.UpRIdeal.Facts) (hPrK : Cert.PrK.Facts) (hPrKIdeal : Cert.PrKIdeal.Facts) (hPrRIdeal : Cert.PrRIdeal.Facts) (hHgrnK : Cert.HgrnK.Facts) (hHgrnKIdeal : Cert.HgrnKIdeal.Facts) (hAttnFK : Cert.AttnFK.Facts) (hAttnFKIdeal : Cert.AttnFKIdeal.Facts) (hAttnFRIdeal : Cert.AttnFRIdeal.Facts) (hNormFK : Cert.NormFK.Facts) (hNormFKIdeal : Cert.NormFKIdeal.Facts) (hNormFRIdeal : Cert.NormFRIdeal.Facts) (hGmlpFK : Cert.GmlpFK.Facts) (hGmlpFKIdeal : Cert.GmlpFKIdeal.Facts) (hGmlpFRIdeal : Cert.GmlpFRIdeal.Facts) (hMergeFK : Cert.MergeFK.Facts) (hMergeFKIdeal : Cert.MergeFKIdeal.Facts) (hMergeFRIdeal : Cert.MergeFRIdeal.Facts) (hConvFK : Cert.ConvFK.Facts) (hConvFKIdeal : Cert.ConvFKIdeal.Facts) (hConvFRIdeal : Cert.ConvFRIdeal.Facts) (hProjFK : Cert.ProjFK.Facts) (hProjFKIdeal : Cert.ProjFKIdeal.Facts) (hProjFRIdeal : Cert.ProjFRIdeal.Facts) (hHgrnFK : Cert.HgrnFK.Facts) (hHgrnFKIdeal : Cert.HgrnFKIdeal.Facts) (hDwK : Cert.DwK.Facts) (hDwKIdeal : Cert.DwKIdeal.Facts) (hDwRIdeal : Cert.DwRIdeal.Facts) (hAdamK : Cert.AdamK.Facts) (hAdamKIdeal : Cert.AdamKIdeal.Facts) (hAdamRIdeal : Cert.AdamRIdeal.Facts) (hPre_finite_norm : Cert.Pre_finite_norm.Facts) (hPre_finite_attn : Cert.Pre_finite_attn.Facts) (hPre_finite_conv : Cert.Pre_finite_conv.Facts) (hPre_finite_gmlp : Cert.Pre_finite_gmlp.Facts) (hPre_finite_merge : Cert.Pre_finite_merge.Facts) (hPre_finite_loss : Cert.Pre_finite_loss.Facts) (hPre_finite_up : Cert.Pre_finite_up.Facts) (hPre_finite_pr : Cert.Pre_finite_pr.Facts),
    quiescent_NormK (hNormK := hNormK)
    ∧ quiescent_NormKIdeal (hNormKIdeal := hNormKIdeal)
    ∧ quiescent_NormKIdeal_pre_finite_norm (hNormKIdeal := hNormKIdeal) (hPre_finite_norm := hPre_finite_norm)
    ∧ quiescent_NormRIdeal (hNormRIdeal := hNormRIdeal)
    ∧ quiescent_NormRIdeal_pre_finite_norm (hNormRIdeal := hNormRIdeal) (hPre_finite_norm := hPre_finite_norm)
    ∧ quiescent_AttnK (hAttnK := hAttnK)
    ∧ quiescent_AttnKIdeal (hAttnKIdeal := hAttnKIdeal)
    ∧ quiescent_AttnKIdeal_pre_finite_attn (hAttnKIdeal := hAttnKIdeal) (hPre_finite_attn := hPre_finite_attn)
    ∧ quiescent_AttnRIdeal (hAttnRIdeal := hAttnRIdeal)
    ∧ quiescent_AttnRIdeal_pre_finite_attn (hAttnRIdeal := hAttnRIdeal) (hPre_finite_attn := hPre_finite_attn)
    ∧ quiescent_ConvK (hConvK := hConvK)
    ∧ quiescent_ConvKIdeal (hConvKIdeal := hConvKIdeal)
    ∧ quiescent_ConvKIdeal_pre_finite_conv (hConvKIdeal := hConvKIdeal) (hPre_finite_conv := hPre_finite_conv)
    ∧ quiescent_ConvRIdeal (hConvRIdeal := hConvRIdeal)
    ∧ quiescent_ConvRIdeal_pre_finite_conv (hConvRIdeal := hConvRIdeal) (hPre_finite_conv := hPre_finite_conv)
    ∧ quiescent_GmlpK (hGmlpK := hGmlpK)
    ∧ quiescent_GmlpKIdeal (hGmlpKIdeal := hGmlpKIdeal)
    ∧ quiescent_GmlpKIdeal_pre_finite_gmlp (hGmlpKIdeal := hGmlpKIdeal) (hPre_finite_gmlp := hPre_finite_gmlp)
    ∧ quiescent_GmlpRIdeal (hGmlpRIdeal := hGmlpRIdeal)
    ∧ quiescent_GmlpRIdeal_pre_finite_gmlp (hGmlpRIdeal := hGmlpRIdeal) (hPre_finite_gmlp := hPre_finite_gmlp)
    ∧ quiescent_MergeK (hMergeK := hMergeK)
    ∧ quiescent_MergeKIdeal (hMergeKIdeal := hMergeKIdeal)
    ∧ quiescent_MergeKIdeal_pre_finite_merge (hMergeKIdeal := hMergeKIdeal) (hPre_finite_merge := hPre_finite_merge)
    ∧ quiescent_MergeRIdeal (hMergeRIdeal := hMergeRIdeal)
    ∧ quiescent_MergeRIdeal_pre_finite_merge (hMergeRIdeal := hMergeRIdeal) (hPre_finite_merge := hPre_finite_merge)
    ∧ quiescent_LossK (hLossK := hLossK)
    ∧ quiescent_LossKIdeal (hLossKIdeal := hLossKIdeal)
    ∧ quiescent_LossKIdeal_pre_finite_loss (hLossKIdeal := hLossKIdeal) (hPre_finite_loss := hPre_finite_loss)
    ∧ quiescent_LossRIdeal (hLossRIdeal := hLossRIdeal)
    ∧ quiescent_LossRIdeal_pre_finite_loss (hLossRIdeal := hLossRIdeal) (hPre_finite_loss := hPre_finite_loss)
    ∧ quiescent_UpK (hUpK := hUpK)
    ∧ quiescent_UpKIdeal (hUpKIdeal := hUpKIdeal)
    ∧ quiescent_UpKIdeal_pre_finite_up (hUpKIdeal := hUpKIdeal) (hPre_finite_up := hPre_finite_up)
    ∧ quiescent_UpRIdeal (hUpRIdeal := hUpRIdeal)
    ∧ quiescent_UpRIdeal_pre_finite_up (hUpRIdeal := hUpRIdeal) (hPre_finite_up := hPre_finite_up)
    ∧ quiescent_PrK (hPrK := hPrK)
    ∧ quiescent_PrKIdeal (hPrKIdeal := hPrKIdeal)
    ∧ quiescent_PrKIdeal_pre_finite_pr (hPrKIdeal := hPrKIdeal) (hPre_finite_pr := hPre_finite_pr)
    ∧ quiescent_PrRIdeal (hPrRIdeal := hPrRIdeal)
    ∧ quiescent_PrRIdeal_pre_finite_pr (hPrRIdeal := hPrRIdeal) (hPre_finite_pr := hPre_finite_pr)
    ∧ quiescent_HgrnK (hHgrnK := hHgrnK)
    ∧ quiescent_HgrnKIdeal (hHgrnKIdeal := hHgrnKIdeal)
    ∧ quiescent_AttnFK (hAttnFK := hAttnFK)
    ∧ quiescent_AttnFKIdeal (hAttnFKIdeal := hAttnFKIdeal)
    ∧ quiescent_AttnFRIdeal (hAttnFRIdeal := hAttnFRIdeal)
    ∧ quiescent_NormFK (hNormFK := hNormFK)
    ∧ quiescent_NormFKIdeal (hNormFKIdeal := hNormFKIdeal)
    ∧ quiescent_NormFRIdeal (hNormFRIdeal := hNormFRIdeal)
    ∧ quiescent_GmlpFK (hGmlpFK := hGmlpFK)
    ∧ quiescent_GmlpFKIdeal (hGmlpFKIdeal := hGmlpFKIdeal)
    ∧ quiescent_GmlpFRIdeal (hGmlpFRIdeal := hGmlpFRIdeal)
    ∧ quiescent_MergeFK (hMergeFK := hMergeFK)
    ∧ quiescent_MergeFKIdeal (hMergeFKIdeal := hMergeFKIdeal)
    ∧ quiescent_MergeFRIdeal (hMergeFRIdeal := hMergeFRIdeal)
    ∧ quiescent_ConvFK (hConvFK := hConvFK)
    ∧ quiescent_ConvFKIdeal (hConvFKIdeal := hConvFKIdeal)
    ∧ quiescent_ConvFRIdeal (hConvFRIdeal := hConvFRIdeal)
    ∧ quiescent_ProjFK (hProjFK := hProjFK)
    ∧ quiescent_ProjFKIdeal (hProjFKIdeal := hProjFKIdeal)
    ∧ quiescent_ProjFRIdeal (hProjFRIdeal := hProjFRIdeal)
    ∧ quiescent_HgrnFK (hHgrnFK := hHgrnFK)
    ∧ quiescent_HgrnFKIdeal (hHgrnFKIdeal := hHgrnFKIdeal)
    ∧ quiescent_DwK (hDwK := hDwK)
    ∧ quiescent_DwKIdeal (hDwKIdeal := hDwKIdeal)
    ∧ quiescent_DwRIdeal (hDwRIdeal := hDwRIdeal)
    ∧ quiescent_AdamK (hAdamK := hAdamK)
    ∧ quiescent_AdamKIdeal (hAdamKIdeal := hAdamKIdeal)
    ∧ quiescent_AdamRIdeal (hAdamRIdeal := hAdamRIdeal)
    ∧ preserves_NormK_NormKIdeal
    ∧ algebraic_NormKIdeal_NormRIdeal_pre_finite_norm (hNormKIdeal := hNormKIdeal) (hNormRIdeal := hNormRIdeal) (hPre_finite_norm := hPre_finite_norm)
    ∧ preserves_AttnK_AttnKIdeal
    ∧ algebraic_AttnKIdeal_AttnRIdeal_pre_finite_attn (hAttnKIdeal := hAttnKIdeal) (hAttnRIdeal := hAttnRIdeal) (hPre_finite_attn := hPre_finite_attn)
    ∧ preserves_ConvK_ConvKIdeal
    ∧ algebraic_ConvKIdeal_ConvRIdeal_pre_finite_conv (hConvKIdeal := hConvKIdeal) (hConvRIdeal := hConvRIdeal) (hPre_finite_conv := hPre_finite_conv)
    ∧ preserves_GmlpK_GmlpKIdeal
    ∧ algebraic_GmlpKIdeal_GmlpRIdeal_pre_finite_gmlp (hGmlpKIdeal := hGmlpKIdeal) (hGmlpRIdeal := hGmlpRIdeal) (hPre_finite_gmlp := hPre_finite_gmlp)
    ∧ preserves_MergeK_MergeKIdeal
    ∧ algebraic_MergeKIdeal_MergeRIdeal_pre_finite_merge (hMergeKIdeal := hMergeKIdeal) (hMergeRIdeal := hMergeRIdeal) (hPre_finite_merge := hPre_finite_merge)
    ∧ preserves_LossK_LossKIdeal
    ∧ algebraic_LossKIdeal_LossRIdeal_pre_finite_loss (hLossKIdeal := hLossKIdeal) (hLossRIdeal := hLossRIdeal) (hPre_finite_loss := hPre_finite_loss)
    ∧ preserves_UpK_UpKIdeal
    ∧ algebraic_UpKIdeal_UpRIdeal_pre_finite_up (hUpKIdeal := hUpKIdeal) (hUpRIdeal := hUpRIdeal) (hPre_finite_up := hPre_finite_up)
    ∧ preserves_PrK_PrKIdeal
    ∧ algebraic_PrKIdeal_PrRIdeal_pre_finite_pr (hPrKIdeal := hPrKIdeal) (hPrRIdeal := hPrRIdeal) (hPre_finite_pr := hPre_finite_pr)
    ∧ preserves_HgrnK_HgrnKIdeal
    ∧ preserves_AttnFK_AttnFKIdeal
    ∧ algebraic_AttnFKIdeal_AttnFRIdeal (hAttnFKIdeal := hAttnFKIdeal) (hAttnFRIdeal := hAttnFRIdeal)
    ∧ preserves_NormFK_NormFKIdeal
    ∧ algebraic_NormFKIdeal_NormFRIdeal (hNormFKIdeal := hNormFKIdeal) (hNormFRIdeal := hNormFRIdeal)
    ∧ preserves_GmlpFK_GmlpFKIdeal
    ∧ algebraic_GmlpFKIdeal_GmlpFRIdeal (hGmlpFKIdeal := hGmlpFKIdeal) (hGmlpFRIdeal := hGmlpFRIdeal)
    ∧ preserves_MergeFK_MergeFKIdeal
    ∧ algebraic_MergeFKIdeal_MergeFRIdeal (hMergeFKIdeal := hMergeFKIdeal) (hMergeFRIdeal := hMergeFRIdeal)
    ∧ preserves_ConvFK_ConvFKIdeal
    ∧ algebraic_ConvFKIdeal_ConvFRIdeal (hConvFKIdeal := hConvFKIdeal) (hConvFRIdeal := hConvFRIdeal)
    ∧ preserves_ProjFK_ProjFKIdeal
    ∧ algebraic_ProjFKIdeal_ProjFRIdeal (hProjFKIdeal := hProjFKIdeal) (hProjFRIdeal := hProjFRIdeal)
    ∧ preserves_HgrnFK_HgrnFKIdeal
    ∧ preserves_DwK_DwKIdeal
    ∧ algebraic_DwKIdeal_DwRIdeal (hDwKIdeal := hDwKIdeal) (hDwRIdeal := hDwRIdeal)
    ∧ preserves_AdamK_AdamKIdeal
    ∧ algebraic_AdamKIdeal_AdamRIdeal (hAdamKIdeal := hAdamKIdeal) (hAdamRIdeal := hAdamRIdeal)
-- ==== Pre_finite_attn.lean ====
abbrev S4096x6656 : Shape := ⟨2, ![4096, 6656]⟩
abbrev S2x256x1024 : Shape := ⟨3, ![2, 256, 1024]⟩
abbrev S4096x512 : Shape := ⟨2, ![4096, 512]⟩
abbrev S_ : Shape := ⟨0, ![]⟩

class Facts : Prop where
  bcast_S_S4096x6656 : S_.BroadcastsInDim S4096x6656 (![] : Fin 0 → Fin S4096x6656.rank)
  bcast_S_S2x256x1024 : S_.BroadcastsInDim S2x256x1024 (![] : Fin 0 → Fin S2x256x1024.rank)
  bcast_S_S4096x512 : S_.BroadcastsInDim S4096x512 (![] : Fin 0 → Fin S4096x512.rank)

variable [Facts]

def fn {F : FTy → Type} [FloatOps F] (main_arg0 : FVec F S4096x6656 .bf16) (main_arg1 : FVec F S2x256x1024 .f32) (main_arg2 : FVec F S4096x512 .bf16) : IVec S4096x6656 1 × IVec S2x256x1024 1 × IVec S4096x512 1 :=
  let main_v0 : FVec F S4096x6656 .bf16 := Host.absf main_arg0
  let main_cst : FVec F S_ .bf16 := constant S_ .bf16 0x7F80#16
  let main_v1 : FVec F S4096x6656 .bf16 := broadcastInDim S4096x6656 ![] bcast_S_S4096x6656 main_cst
  let main_v2 : IVec S4096x6656 1 := cmpf .olt main_v0 main_v1
  let main_v3 : FVec F S2x256x1024 .f32 := Host.absf main_arg1
  let main_cst_0 : FVec F S_ .f32 := constant S_ .f32 0x7F800000#32
  let main_v4 : FVec F S2x256x1024 .f32 := broadcastInDim S2x256x1024 ![] bcast_S_S2x256x1024 main_cst_0
  let main_v5 : IVec S2x256x1024 1 := cmpf .olt main_v3 main_v4
  let main_v6 : FVec F S4096x512 .bf16 := Host.absf main_arg2
  let main_cst_1 : FVec F S_ .bf16 := constant S_ .bf16 0x7F80#16
  let main_v7 : FVec F S4096x512 .bf16 := broadcastInDim S4096x512 ![] bcast_S_S4096x512 main_cst_1
  let main_v8 : IVec S4096x512 1 := cmpf .olt main_v6 main_v7
  (main_v2, main_v5, main_v8)
-- ==== Pre_finite_conv.lean ====
abbrev S2x2048x1024 : Shape := ⟨3, ![2, 2048, 1024]⟩
abbrev S2816x1024 : Shape := ⟨2, ![2816, 1024]⟩
abbrev S2x2048x2816 : Shape := ⟨3, ![2, 2048, 2816]⟩
abbrev S3x2816 : Shape := ⟨2, ![3, 2816]⟩
abbrev S1x2816 : Shape := ⟨2, ![1, 2816]⟩
abbrev S_ : Shape := ⟨0, ![]⟩

class Facts : Prop where
  bcast_S_S2x2048x1024 : S_.BroadcastsInDim S2x2048x1024 (![] : Fin 0 → Fin S2x2048x1024.rank)
  bcast_S_S2816x1024 : S_.BroadcastsInDim S2816x1024 (![] : Fin 0 → Fin S2816x1024.rank)
  bcast_S_S2x2048x2816 : S_.BroadcastsInDim S2x2048x2816 (![] : Fin 0 → Fin S2x2048x2816.rank)
  bcast_S_S3x2816 : S_.BroadcastsInDim S3x2816 (![] : Fin 0 → Fin S3x2816.rank)
  bcast_S_S1x2816 : S_.BroadcastsInDim S1x2816 (![] : Fin 0 → Fin S1x2816.rank)

variable [Facts]

def fn {F : FTy → Type} [FloatOps F] (main_arg0 : FVec F S2x2048x1024 .bf16) (main_arg1 : FVec F S2816x1024 .bf16) (main_arg2 : FVec F S2x2048x2816 .bf16) (main_arg3 : FVec F S2x2048x2816 .bf16) (main_arg4 : FVec F S3x2816 .f32) (main_arg5 : FVec F S1x2816 .f32) : IVec S2x2048x1024 1 × IVec S2816x1024 1 × IVec S2x2048x2816 1 × IVec S2x2048x2816 1 × IVec S3x2816 1 × IVec S1x2816 1 :=
  let main_v0 : FVec F S2x2048x1024 .bf16 := Host.absf main_arg0
  let main_cst : FVec F S_ .bf16 := constant S_ .bf16 0x7F80#16
  let main_v1 : FVec F S2x2048x1024 .bf16 := broadcastInDim S2x2048x1024 ![] bcast_S_S2x2048x1024 main_cst
  let main_v2 : IVec S2x2048x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S2x2048x2816 .bf16 := Host.absf main_arg2
  let main_cst_1 : FVec F S_ .bf16 := constant S_ .bf16 0x7F80#16
  let main_v7 : FVec F S2x2048x2816 .bf16 := broadcastInDim S2x2048x2816 ![] bcast_S_S2x2048x2816 main_cst_1
  let main_v8 : IVec S2x2048x2816 1 := cmpf .olt main_v6 main_v7
  let main_v9 : FVec F S2x2048x2816 .bf16 := Host.absf main_arg3
  let main_cst_2 : FVec F S_ .bf16 := constant S_ .bf16 0x7F80#16
  let main_v10 : FVec F S2x2048x2816 .bf16 := broadcastInDim S2x2048x2816 ![] bcast_S_S2x2048x2816 main_cst_2
  let main_v11 : IVec S2x2048x2816 1 := cmpf .olt main_v9 main_v10
  let main_v12 : FVec F S3x2816 .f32 := Host.absf main_arg4
  let main_cst_3 : FVec F S_ .f32 := constant S_ .f32 0x7F800000#32
  let main_v13 : FVec F S3x2816 .f32 := broadcastInDim S3x2816 ![] bcast_S_S3x2816 main_cst_3
  let main_v14 : IVec S3x2816 1 := cmpf .olt main_v12 main_v13
  let main_v15 : FVec F S1x2816 .f32 := Host.absf main_arg5
  let main_cst_4 : FVec F S_ .f32 := constant S_ .f32 0x7F800000#32
  let main_v16 : FVec F S1x2816 .f32 := broadcastInDim S1x2816 ![] bcast_S_S1x2816 main_cst_4
  let main_v17 : IVec S1x2816 1 := cmpf .olt main_v15 main_v16
  (main_v2, main_v5, main_v8, main_v11, main_v14, main_v17)
-- ==== Pre_finite_gmlp.lean ====
abbrev S4096x6656 : Shape := ⟨2, ![4096, 6656]⟩
abbrev S1x512 : Shape := ⟨2, ![1, 512]⟩
abbrev S4x128x128 : Shape := ⟨3, ![4, 128, 128]⟩
abbrev S4x128 : Shape := ⟨2, ![4, 128]⟩
abbrev S4096x512 : Shape := ⟨2, ![4096, 512]⟩
abbrev S_ : Shape := ⟨0, ![]⟩

class Facts : Prop where
  bcast_S_S4096x6656 : S_.BroadcastsInDim S4096x6656 (![] : Fin 0 → Fin S4096x6656.rank)
  bcast_S_S1x512 : S_.BroadcastsInDim S1x512 (![] : Fin 0 → Fin S1x512.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S4096x512 : S_.BroadcastsInDim S4096x512 (![] : Fin 0 → Fin S4096x512.rank)

variable [Facts]

def fn {F : FTy → Type} [FloatOps F] (main_arg0 : FVec F S4096x6656 .bf16) (main_arg1 : FVec F S1x512 .f32) (main_arg2 : FVec F S1x512 .f32) (main_arg3 : FVec F S4x128x128 .f32) (main_arg4 : FVec F S4x128 .f32) (main_arg5 : FVec F S4096x512 .bf16) : IVec S4096x6656 1 × IVec S1x512 1 × IVec S1x512 1 × IVec S4x128x128 1 × IVec S4x128 1 × IVec S4096x512 1 :=
  let main_v0 : FVec F S4096x6656 .bf16 := Host.absf main_arg0
  let main_cst : FVec F S_ .bf16 := constant S_ .bf16 0x7F80#16
  let main_v1 : FVec F S4096x6656 .bf16 := broadcastInDim S4096x6656 ![] bcast_S_S4096x6656 main_cst
  let main_v2 : IVec S4096x6656 1 := cmpf .olt main_v0 main_v1
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S4x128 .f32 := Host.absf main_arg4
  let main_cst_3 : FVec F S_ .f32 := constant S_ .f32 0x7F800000#32
  let main_v13 : FVec F S4x128 .f32 := broadcastInDim S4x128 ![] bcast_S_S4x128 main_cst_3
  let main_v14 : IVec S4x128 1 := cmpf .olt main_v12 main_v13
  let main_v15 : FVec F S4096x512 .bf16 := Host.absf main_arg5
  let main_cst_4 : FVec F S_ .bf16 := constant S_ .bf16 0x7F80#16
  let main_v16 : FVec F S4096x512 .bf16 := broadcastInDim S4096x512 ![] bcast_S_S4096x512 main_cst_4
  let main_v17 : IVec S4096x512 1 := cmpf .olt main_v15 main_v16
  (main_v2, main_v5, main_v8, main_v11, main_v14, main_v17)
-- ==== Pre_finite_loss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .bf16) (main_arg1 : FVec F S2816x1024 .f32) (main_arg2 : FVec F S4096x1024 .f32) (main_arg3 : FVec F S1x1024 .f32) (main_arg4 : FVec F S4096x1024 .f32) : IVec S4096x2816 1 × IVec S2816x1024 1 × IVec S4096x1024 1 × IVec S1x1024 1 × IVec S4096x1024 1 :=
  let main_v0 : FVec F S4096x2816 .bf16 := Host.absf main_arg0
  let main_cst : FVec F S_ .bf16 := constant S_ .bf16 0x7F80#16
  let main_v1 : FVec F S4096x2816 .bf16 := broadcastInDim S4096x2816 ![] bcast_S_S4096x2816 main_cst
  let main_v2 : IVec S4096x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite_merge.lean ====
abbrev S4096x512 : Shape := ⟨2, ![4096, 512]⟩
abbrev S3x512x1024 : Shape := ⟨3, ![3, 512, 1024]⟩
abbrev S4096x6656 : Shape := ⟨2, ![4096, 6656]⟩
abbrev S4096x1024 : Shape := ⟨2, ![4096, 1024]⟩
abbrev S1024x1024 : Shape := ⟨2, ![1024, 1024]⟩
abbrev S_ : Shape := ⟨0, ![]⟩

class Facts : Prop where
  bcast_S_S4096x512 : S_.BroadcastsInDim S4096x512 (![] : Fin 0 → Fin S4096x512.rank)
  bcast_S_S3x512x1024 : S_.BroadcastsInDim S3x512x1024 (![] : Fin 0 → Fin S3x512x1024.rank)
  bcast_S_S4096x6656 : S_.BroadcastsInDim S4096x6656 (![] : Fin 0 → Fin S4096x6656.rank)
  bcast_S_S4096x1024 : S_.BroadcastsInDim S4096x1024 (![] : Fin 0 → Fin S4096x1024.rank)
  bcast_S_S1024x1024 : S_.BroadcastsInDim S1024x1024 (![] : Fin 0 → Fin S1024x1024.rank)

variable [Facts]

def fn_part1 {F : FTy → Type} [FloatOps F] (main_arg6 : FVec F S1024x1024 .f32) (main_v2 : IVec S4096x512 1) (main_v5 : IVec S4096x512 1) (main_v8 : IVec S4096x512 1) (main_v11 : IVec S3x512x1024 1) (main_v14 : IVec S4096x6656 1) (main_v17 : IVec S4096x1024 1) : IVec S4096x512 1 × IVec S4096x512 1 × IVec S4096x512 1 × IVec S3x512x1024 1 × IVec S4096x6656 1 × IVec S4096x1024 1 × IVec S1024x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  (main_v2, main_v5, main_v8, main_v11, main_v14, main_v17, main_v20)

def fn {F : FTy → Type} [FloatOps F] (main_arg0 : FVec F S4096x512 .bf16) (main_arg1 : FVec F S4096x512 .bf16) (main_arg2 : FVec F S4096x512 .bf16) (main_arg3 : FVec F S3x512x1024 .f32) (main_arg4 : FVec F S4096x6656 .bf16) (main_arg5 : FVec F S4096x1024 .f32) (main_arg6 : FVec F S1024x1024 .f32) : IVec S4096x512 1 × IVec S4096x512 1 × IVec S4096x512 1 × IVec S3x512x1024 1 × IVec S4096x6656 1 × IVec S4096x1024 1 × IVec S1024x1024 1 :=
  let main_v0 : FVec F S4096x512 .bf16 := Host.absf main_arg0
  let main_cst : FVec F S_ .bf16 := constant S_ .bf16 0x7F80#16
  let main_v1 : FVec F S4096x512 .bf16 := broadcastInDim S4096x512 ![] bcast_S_S4096x512 main_cst
  let main_v2 : IVec S4096x512 1 := cmpf .olt main_v0 main_v1
  let main_v3 : FVec F S4096x512 .bf16 := Host.absf main_arg1
  let main_cst_0 : FVec F S_ .bf16 := constant S_ .bf16 0x7F80#16
  let main_v4 : FVec F S4096x512 .bf16 := broadcastInDim S4096x512 ![] bcast_S_S4096x512 main_cst_0
  let main_v5 : IVec S4096x512 1 := cmpf .olt main_v3 main_v4
  let main_v6 : FVec F S4096x512 .bf16 := Host.absf main_arg2
  let main_cst_1 : FVec F S_ .bf16 := constant S_ .bf16 0x7F80#16
  let main_v7 : FVec F S4096x512 .bf16 := broadcastInDim S4096x512 ![] bcast_S_S4096x512 main_cst_1
  let main_v8 : IVec S4096x512 1 := cmpf .olt main_v6 main_v7
  let main_v9 : FVec F S3x512x1024 .f32 := Host.absf main_arg3
  let main_cst_2 : FVec F S_ .f32 := constant S_ .f32 0x7F800000#32
  let main_v10 : FVec F S3x512x1024 .f32 := broadcastInDim S3x512x1024 ![] bcast_S_S3x512x1024 main_cst_2
  let main_v11 : IVec S3x512x1024 1 := cmpf .olt main_v9 main_v10
  let main_v12 : FVec F S4096x6656 .bf16 := Host.absf main_arg4
  let main_cst_3 : FVec F S_ .bf16 := constant S_ .bf16 0x7F80#16
  let main_v13 : FVec F S4096x6656 .bf16 := broadcastInDim S4096x6656 ![] bcast_S_S4096x6656 main_cst_3
  let main_v14 : IVec S4096x6656 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_v2 main_v5 main_v8 main_v11 main_v14 main_v17
-- ==== Pre_finite_norm.lean ====
abbrev S512x1024 : Shape := ⟨2, ![512, 1024]⟩
abbrev S1x1024 : Shape := ⟨2, ![1, 1024]⟩
abbrev S_ : Shape := ⟨0, ![]⟩

class Facts : Prop where
  bcast_S_S512x1024 : S_.BroadcastsInDim S512x1024 (![] : Fin 0 → Fin S512x1024.rank)
  bcast_S_S1x1024 : S_.BroadcastsInDim S1x1024 (![] : Fin 0 → Fin S1x1024.rank)

variable [Facts]

def fn {F : FTy → Type} [FloatOps F] (main_arg0 : FVec F S512x1024 .f32) (main_arg1 : FVec F S1x1024 .f32) (main_arg2 : FVec F S512x1024 .f32) : IVec S512x1024 1 × IVec S1x1024 1 × IVec S512x1024 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S512x1024 .f32 := Host.absf main_arg2
  let main_cst_1 : FVec F S_ .f32 := constant S_ .f32 0x7F800000#32
  let main_v7 : FVec F S512x1024 .f32 := broadcastInDim S512x1024 ![] bcast_S_S512x1024 main_cst_1
  let main_v8 : IVec S512x1024 1 := cmpf .olt main_v6 main_v7
  (main_v2, main_v5, main_v8)
-- ==== Pre_finite_pr.lean ====
abbrev S4096x6656 : Shape := ⟨2, ![4096, 6656]⟩
abbrev S1024x6656 : Shape := ⟨2, ![1024, 6656]⟩
abbrev S4096x1024 : Shape := ⟨2, ![4096, 1024]⟩
abbrev S1x1024 : Shape := ⟨2, ![1, 1024]⟩
abbrev S_ : Shape := ⟨0, ![]⟩

class Facts : Prop where
  bcast_S_S4096x6656 : S_.BroadcastsInDim S4096x6656 (![] : Fin 0 → Fin S4096x6656.rank)
  bcast_S_S1024x6656 : S_.BroadcastsInDim S1024x6656 (![] : Fin 0 → Fin S1024x6656.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x6656 .bf16) (main_arg1 : FVec F S1024x6656 .f32) (main_arg2 : FVec F S4096x1024 .f32) (main_arg3 : FVec F S1x1024 .f32) (main_arg4 : FVec F S4096x1024 .f32) : IVec S4096x6656 1 × IVec S1024x6656 1 × IVec S4096x1024 1 × IVec S1x1024 1 × IVec S4096x1024 1 :=
  let main_v0 : FVec F S4096x6656 .bf16 := Host.absf main_arg0
  let main_cst : FVec F S_ .bf16 := constant S_ .bf16 0x7F80#16
  let main_v1 : FVec F S4096x6656 .bf16 := broadcastInDim S4096x6656 ![] bcast_S_S4096x6656 main_cst
  let main_v2 : IVec S4096x6656 1 := cmpf .olt main_v0 main_v1
  let main_v3 : FVec F S1024x6656 .f32 := Host.absf main_arg1
  let main_cst_0 : FVec F S_ .f32 := constant S_ .f32 0x7F800000#32
  let main_v4 : FVec F S1024x6656 .f32 := broadcastInDim S1024x6656 ![] bcast_S_S1024x6656 main_cst_0
  let main_v5 : IVec S1024x6656 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite_up.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .bf16) (main_arg1 : FVec F S4096x2816 .bf16) (main_arg2 : FVec F S1024x5632 .f32) (main_arg3 : FVec F S4096x1024 .f32) (main_arg4 : FVec F S1x1024 .f32) (main_arg5 : FVec F S4096x1024 .f32) : IVec S4096x2816 1 × IVec S4096x2816 1 × IVec S1024x5632 1 × IVec S4096x1024 1 × IVec S1x1024 1 × IVec S4096x1024 1 :=
  let main_v0 : FVec F S4096x2816 .bf16 := Host.absf main_arg0
  let main_cst : FVec F S_ .bf16 := constant S_ .bf16 0x7F80#16
  let main_v1 : FVec F S4096x2816 .bf16 := broadcastInDim S4096x2816 ![] bcast_S_S4096x2816 main_cst
  let main_v2 : IVec S4096x2816 1 := cmpf .olt main_v0 main_v1
  let main_v3 : FVec F S4096x2816 .bf16 := Host.absf main_arg1
  let main_cst_0 : FVec F S_ .bf16 := constant S_ .bf16 0x7F80#16
  let main_v4 : FVec F S4096x2816 .bf16 := broadcastInDim S4096x2816 ![] bcast_S_S4096x2816 main_cst_0
  let main_v5 : IVec S4096x2816 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== NormK.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S512x1024, .f32⟩
  | .hbm, ⟨4, _⟩ => ⟨S1x1024, .f32⟩
  | .local _ .vmem, ⟨0, _⟩ => ⟨S512x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormRIdeal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512, .f32⟩
  | .hbm, ⟨31, _⟩ => ⟨S512x1, .f32⟩
  | .hbm, ⟨32, _⟩ => ⟨S512x1024, .f32⟩
  | .hbm, ⟨33, _⟩ => ⟨S512x1024, .f32⟩
  | .hbm, ⟨34, _⟩ => ⟨S512x1, .f32⟩
  | .hbm, ⟨35, _⟩ => ⟨S_, .f32⟩
  | .hbm, ⟨36, _⟩ => ⟨S512x1, .f32⟩
  | .hbm, ⟨37, _⟩ => ⟨S512x1, .f32⟩
  | .hbm, ⟨38, _⟩ => ⟨S_, .f32⟩
  | .hbm, ⟨39, _⟩ => ⟨S512, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S512x1024, .f32⟩
  | .hbm, ⟨44, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== AttnK.lean ====
abbrev S4096x6656 : Shape := ⟨2, ![4096, 6656]⟩
abbrev S2x256x1024 : Shape := ⟨3, ![2, 256, 1024]⟩
abbrev S4096x512 : Shape := ⟨2, ![4096, 512]⟩
abbrev S512x512 : Shape := ⟨2, ![512, 512]⟩
abbrev S1x256x1024 : Shape := ⟨3, ![1, 256, 1024]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x6656, .bf16⟩
  | .hbm, ⟨1, _⟩ => ⟨S2x256x1024, .f32⟩
  | .hbm, ⟨2, _⟩ => ⟨S4096x512, .bf16⟩
  | .hbm, ⟨3, _⟩ => ⟨S4096x512, .bf16⟩
  | .hbm, ⟨4, _⟩ => ⟨S2x256x1024, .f32⟩
  | .local _ .vmem, ⟨0, _⟩ => ⟨S512x512, .bf16⟩
  | .local _ .vmem, ⟨1, _⟩ => ⟨S512x512, .bf16⟩
  | .local _ .vmem, ⟨2, _⟩ => ⟨S1x256x1024, .f32⟩
  | .local _ .vmem, ⟨3, _⟩ => ⟨S1x256x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x256x1024, .f32⟩
  | .local _ .vmem, ⟨9, _⟩ => ⟨S1x256x1024, .f32⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== AttnRIdeal.lean ====
abbrev S4096x6656 : Shape := ⟨2, ![4096, 6656]⟩
abbrev S2x256x1024 : Shape := ⟨3, ![2, 256, 1024]⟩
abbrev S4096x512 : Shape := ⟨2, ![4096, 512]⟩
abbrev S2x2048x512 : Shape := ⟨3, ![2, 2048, 512]⟩
abbrev S2x256x512 : Shape := ⟨3, ![2, 256, 512]⟩
abbrev S2x256x4x128 : Shape := ⟨4, ![2, 256, 4, 128]⟩
abbrev S2x2048x4x128 : Shape := ⟨4, ![2, 2048, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩

abbrev nBuf : Space → Nat
  | .hbm => 90
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S2x256x1024, .f32⟩
  | .hbm, ⟨2, _⟩ => ⟨S4096x512, .bf16⟩
  | .hbm, ⟨3, _⟩ => ⟨S4096x512, .bf16⟩
  | .hbm, ⟨4, _⟩ => ⟨S4096x512, .f32⟩
  | .hbm, ⟨5, _⟩ => ⟨S2x2048x512, .f32⟩
  | .hbm, ⟨6, _⟩ => ⟨S2x256x512, .f32⟩
  | .hbm, ⟨7, _⟩ => ⟨S2x256x512, .f32⟩
  | .hbm, ⟨8, _⟩ => ⟨S2x256x4x128, .f32⟩
  | .hbm, ⟨9, _⟩ => ⟨S2x256x4x128, .f32⟩
  | .hbm, ⟨10, _⟩ => ⟨S2x2048x4x128, .f32⟩
  | .hbm, ⟨11, _⟩ => ⟨S2x4x2048x256, .f32⟩
  | .hbm, ⟨12, _⟩ => ⟨S_, .f32⟩
  | .hbm, ⟨13, _⟩ => ⟨S2x4x2048x256, .f32⟩
  | .hbm, ⟨14, _⟩ => ⟨S2x4x2048x256, .f32⟩
  | .hbm, ⟨15, _⟩ => ⟨S_, .f32⟩
  | .hbm, ⟨16, _⟩ => ⟨S2x4x2048, .f32⟩
  | .hbm, ⟨17, _⟩ => ⟨S2x4x2048x1, .f32⟩
  | .hbm, ⟨18, _⟩ => ⟨S2x4x2048x256, .f32⟩
  | .hbm, ⟨19, _⟩ => ⟨S2x4x2048x256, .i1⟩
  | .hbm, ⟨20, _⟩ => ⟨S2x4x2048x256, .f32⟩
  | .hbm, ⟨21, _⟩ => ⟨S_, .f32⟩
  | .hbm, ⟨22, _⟩ => ⟨S2x4x2048, .f32⟩
  | .hbm, ⟨23, _⟩ => ⟨S_, .f32⟩
  | .hbm, ⟨24, _⟩ => ⟨S2x4x2048, .f32⟩
  | .hbm, ⟨25, _⟩ => ⟨S2x4x2048, .f32⟩
  | .hbm, ⟨26, _⟩ => ⟨S_, .f32⟩
  | .hbm, ⟨27, _⟩ => ⟨S2x4x2048, .f32⟩
  | .hbm, ⟨28, _⟩ => ⟨S2x4x2048, .i1⟩
  | .hbm, ⟨29, _⟩ => ⟨S_, .f32⟩
  | .hbm, ⟨30, _⟩ => ⟨S2x4x2048, .f32⟩
  | .hbm, ⟨31, _⟩ => ⟨S2x4x2048, .i1⟩
  | .hbm, ⟨32, _⟩ => ⟨S_, .f32⟩
  | .hbm, ⟨33, _⟩ => ⟨S2x4x2048, .f32⟩
  | .hbm, ⟨34, _⟩ => ⟨S_, .f32⟩
  | .hbm, ⟨35, _⟩ => ⟨S2x4x2048, .f32⟩
  | .hbm, ⟨36, _⟩ => ⟨S_, .f32⟩
  | .hbm, ⟨37, _⟩ => ⟨S2x4x2048, .f32⟩
  | .hbm, ⟨38, _⟩ => ⟨S2x4x2048, .f32⟩
  | .hbm, ⟨39, _⟩ => ⟨S2x4x2048, .f32⟩
  | .hbm, ⟨40, _⟩ => ⟨S2x4x2048x1, .f32⟩
  | .hbm, ⟨41, _⟩ => ⟨S2x4x2048x256, .f32⟩
  | .hbm, ⟨42, _⟩ => ⟨S2x4x2048x256, .f32⟩
  | .hbm, ⟨43, _⟩ => ⟨S2x4x2048x256, .f32⟩
  | .hbm, ⟨44, _⟩ => ⟨S_, .f32⟩
  | .hbm, ⟨45, _⟩ => ⟨S2x4x2048, .f32⟩
  | .hbm, ⟨46, _⟩ => ⟨S2x4x2048x1, .f32⟩
  | .hbm, ⟨47, _⟩ => ⟨S2x4x2048x256, .f32⟩
  | .hbm, ⟨48, _⟩ => ⟨S2x4x2048x256, .f32⟩
  | .hbm, ⟨49, _⟩ => ⟨S2x4x2048x1, .f32⟩
  | .hbm, ⟨50, _⟩ => ⟨S_, .f32⟩
  | .hbm, ⟨51, _⟩ => ⟨S2x4x2048x1, .f32⟩
  | .hbm, ⟨52, _⟩ => ⟨S2x4x2048x1, .f32⟩
  | .hbm, ⟨53, _⟩ => ⟨S2x4x128x2048, .f32⟩
  | .hbm, ⟨54, _⟩ => ⟨S2x2048x4x128, .f32⟩
  | .hbm, ⟨55, _⟩ => ⟨S2x2048x512, .f32⟩
  | .hbm, ⟨56, _⟩ => ⟨S4096x512, .f32⟩
  | .hbm, ⟨57, _⟩ => ⟨S2x2048x512, .f32⟩
  | .hbm, ⟨58, _⟩ => ⟨S2x2048x4x128, .f32⟩
  | .hbm, ⟨59, _⟩ => ⟨S2x4x128x2048, .f32⟩
  | .hbm, ⟨60, _⟩ => ⟨S2x4x2048x256, .f32⟩
  | .hbm, ⟨61, _⟩ => ⟨S2x4x128x256, .f32⟩
  | .hbm, ⟨62, _⟩ => ⟨S2x256x4x128, .f32⟩
  | .hbm, ⟨63, _⟩ => ⟨S2x4x2048x256, .f32⟩
  | .hbm, ⟨64, _⟩ => ⟨S2x4x2048x256, .f32⟩
  | .hbm, ⟨65, _⟩ => ⟨S2x4x2048x256, .f32⟩
  | .hbm, ⟨66, _⟩ => ⟨S_, .f32⟩
  | .hbm, ⟨67, _⟩ => ⟨S2x4x2048, .f32⟩
  | .hbm, ⟨68, _⟩ => ⟨S2x4x2048x1, .f32⟩
  | .hbm, ⟨69, _⟩ => ⟨S2x4x2048x1, .f32⟩
  | .hbm, ⟨70, _⟩ => ⟨S2x4x2048x256, .f32⟩
  | .hbm, ⟨71, _⟩ => ⟨S2x4x2048x256, .f32⟩
  | .hbm, ⟨72, _⟩ => ⟨S_, .f32⟩
  | .hbm, ⟨73, _⟩ => ⟨S2x4x2048, .f32⟩
  | .hbm, ⟨74, _⟩ => ⟨S2x4x2048x256, .f32⟩
  | .hbm, ⟨75, _⟩ => ⟨S2x4x2048x256, .f32⟩
  | .hbm, ⟨76, _⟩ => ⟨S2x4x2048x256, .f32⟩
  | .hbm, ⟨77, _⟩ => ⟨S_, .f32⟩
  | .hbm, ⟨78, _⟩ => ⟨S2x4x2048x256, .f32⟩
  | .hbm, ⟨79, _⟩ => ⟨S2x4x2048x256, .f32⟩
  | .hbm, ⟨80, _⟩ => ⟨S2x4x256x128, .f32⟩
  | .hbm, ⟨81, _⟩ => ⟨S2x256x4x128, .f32⟩
  | .hbm, ⟨82, _⟩ => ⟨S2x4x2048x128, .f32⟩
  | .hbm, ⟨83, _⟩ => ⟨S2x2048x4x128, .f32⟩
  | .hbm, ⟨84, _⟩ => ⟨S2x2048x512, .f32⟩
  | .hbm, ⟨85, _⟩ => ⟨S2x256x512, .f32⟩
  | .hbm, ⟨86, _⟩ => ⟨S2x256x512, .f32⟩
  | .hbm, ⟨87, _⟩ => ⟨S2x256x1024, .f32⟩
  | .hbm, ⟨88, _⟩ => ⟨S4096x512, .f32⟩
  | .hbm, ⟨89, _⟩ => ⟨S4096x512, .bf16⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== ConvK.lean ====
abbrev S2x2048x1024 : Shape := ⟨3, ![2, 2048, 1024]⟩
abbrev S2816x1024 : Shape := ⟨2, ![2816, 1024]⟩
abbrev S2x2048x2816 : Shape := ⟨3, ![2, 2048, 2816]⟩
abbrev S3x2816 : Shape := ⟨2, ![3, 2816]⟩
abbrev S1x2816 : Shape := ⟨2, ![1, 2816]⟩
abbrev S2x3x2816 : Shape := ⟨3, ![2, 3, 2816]⟩
abbrev S2x1x2816 : Shape := ⟨3, ![2, 1, 2816]⟩
abbrev S1x2048x1024 : Shape := ⟨3, ![1, 2048, 1024]⟩
abbrev S256x1024 : Shape := ⟨2, ![256, 1024]⟩
abbrev S1x2048x256 : Shape := ⟨3, ![1, 2048, 256]⟩
abbrev S3x256 : Shape := ⟨2, ![3, 256]⟩
abbrev S1x256 : Shape := ⟨2, ![1, 256]⟩
abbrev S1x3x256 : Shape := ⟨3, ![1, 3, 256]⟩
abbrev S1x1x256 : Shape := ⟨3, ![1, 1, 256]⟩
abbrev S2048x1024 : Shape := ⟨2, ![2048, 1024]⟩
abbrev S2048x256 : Shape := ⟨2, ![2048, 256]⟩
abbrev S8x256 : Shape := ⟨2, ![8, 256]⟩
abbrev S2040x256 : Shape := ⟨2, ![2040, 256]⟩
abbrev S256 : Shape := ⟨1, ![256]⟩

abbrev nBuf : Space → Nat
  | .hbm => 10
  | .vmem => 20
  | .smem => 0
  | _ => 0

abbrev bufTy : (tb : Table) → Fin (tcTables nBuf tb) → BufTy
  | .hbm, ⟨0, _⟩ => ⟨S2x2048x1024, .bf16⟩
  | .hbm, ⟨1, _⟩ => ⟨S2816x1024, .bf16⟩
  | .hbm, ⟨2, _⟩ => ⟨S2x2048x2816, .bf16⟩
  | .hbm, ⟨3, _⟩ => ⟨S2x2048x2816, .bf16⟩
  | .hbm, ⟨4, _⟩ => ⟨S3x2816, .f32⟩
  | .hbm, ⟨5, _⟩ => ⟨S1x2816, .f32⟩
  | .hbm, ⟨6, _⟩ => ⟨S2x2048x2816, .bf16⟩
  | .hbm, ⟨7, _⟩ => ⟨S2x2048x2816, .bf16⟩
  | .hbm, ⟨8, _⟩ => ⟨S2x3x2816, .f32⟩
  | .hbm, ⟨9, _⟩ => ⟨S2x1x2816, .f32⟩
  | .local _ .vmem, ⟨0, _⟩ => ⟨S1x2048x1024, .bf16⟩
  | .local _ .vmem, ⟨1, _⟩ => ⟨S1x2048x1024, .bf16⟩
  | .local _ .vmem, ⟨2, _⟩ => ⟨S256x1024, .bf16⟩
  | .local _ .vmem, ⟨3, _⟩ => ⟨S256x1024, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x2048x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x3x256, .f32⟩
  | .local _ .vmem, ⟨17, _⟩ => ⟨S1x3x256, .f32⟩
  | .local _ .vmem, ⟨18, _⟩ => ⟨S1x1x256, .f32⟩
  | .local _ .vmem, ⟨19, _⟩ => ⟨S1x1x256, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ConvRIdeal.lean ====
abbrev S2x2048x1024 : Shape := ⟨3, ![2, 2048, 1024]⟩
abbrev S2816x1024 : Shape := ⟨2, ![2816, 1024]⟩
abbrev S2x2048x2816 : Shape := ⟨3, ![2, 2048, 2816]⟩
abbrev S3x2816 : Shape := ⟨2, ![3, 2816]⟩
abbrev S1x2816 : Shape := ⟨2, ![1, 2816]⟩
abbrev S_ : Shape := ⟨0, ![]⟩
abbrev S2x2816 : Shape := ⟨2, ![2, 2816]⟩
abbrev S2x2x2816 : Shape := ⟨3, ![2, 2, 2816]⟩
abbrev S2x2050x2816 : Shape := ⟨3, ![2, 2050, 2816]⟩
abbrev S2816 : Shape := ⟨1, ![2816]⟩
abbrev S1x1x2816 : Shape := ⟨3, ![1, 1, 2816]⟩
abbrev S2x1x2816 : Shape := ⟨3, ![2, 1, 2816]⟩
abbrev S2x3x2816 : Shape := ⟨3, ![2, 3, 2816]⟩

abbrev nBuf : Space → Nat
  | .hbm => 117
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2816x1024, .bf16⟩
  | .hbm, ⟨2, _⟩ => ⟨S2x2048x2816, .bf16⟩
  | .hbm, ⟨3, _⟩ => ⟨S2x2048x2816, .bf16⟩
  | .hbm, ⟨4, _⟩ => ⟨S3x2816, .f32⟩
  | .hbm, ⟨5, _⟩ => ⟨S1x2816, .f32⟩
  | .hbm, ⟨6, _⟩ => ⟨S2x2048x2816, .f32⟩
  | .hbm, ⟨7, _⟩ => ⟨S2x2048x2816, .f32⟩
  | .hbm, ⟨8, _⟩ => ⟨S2816x1024, .f32⟩
  | .hbm, ⟨9, _⟩ => ⟨S_, .f32⟩
  | .hbm, ⟨10, _⟩ => ⟨S2x2816, .f32⟩
  | .hbm, ⟨11, _⟩ => ⟨S2x2x2816, .f32⟩
  | .hbm, ⟨12, _⟩ => ⟨S2x2050x2816, .f32⟩
  | .hbm, ⟨13, _⟩ => ⟨S_, .f32⟩
  | .hbm, ⟨14, _⟩ => ⟨S2x2816, .f32⟩
  | .hbm, ⟨15, _⟩ => ⟨S1x2816, .f32⟩
  | .hbm, ⟨16, _⟩ => ⟨S2816, .f32⟩
  | .hbm, ⟨17, _⟩ => ⟨S2x2048x2816, .f32⟩
  | .hbm, ⟨18, _⟩ => ⟨S1x2816, .f32⟩
  | .hbm, ⟨19, _⟩ => ⟨S1x1x2816, .f32⟩
  | .hbm, ⟨20, _⟩ => ⟨S2x2048x2816, .f32⟩
  | .hbm, ⟨21, _⟩ => ⟨S2x2048x2816, .f32⟩
  | .hbm, ⟨22, _⟩ => ⟨S1x1x2816, .f32⟩
  | .hbm, ⟨23, _⟩ => ⟨S2x2048x2816, .f32⟩
  | .hbm, ⟨24, _⟩ => ⟨S2x2048x2816, .f32⟩
  | .hbm, ⟨25, _⟩ => ⟨S1x2816, .f32⟩
  | .hbm, ⟨26, _⟩ => ⟨S2816, .f32⟩
  | .hbm, ⟨27, _⟩ => ⟨S2x2048x2816, .f32⟩
  | .hbm, ⟨28, _⟩ => ⟨S1x2816, .f32⟩
  | .hbm, ⟨29, _⟩ => ⟨S1x1x2816, .f32⟩
  | .hbm, ⟨30, _⟩ => ⟨S2x2048x2816, .f32⟩
  | .hbm, ⟨31, _⟩ => ⟨S2x2048x2816, .f32⟩
  | .hbm, ⟨32, _⟩ => ⟨S2x2048x2816, .f32⟩
  | .hbm, ⟨33, _⟩ => ⟨S1x2816, .f32⟩
  | .hbm, ⟨34, _⟩ => ⟨S2816, .f32⟩
  | .hbm, ⟨35, _⟩ => ⟨S2x2048x2816, .f32⟩
  | .hbm, ⟨36, _⟩ => ⟨S1x2816, .f32⟩
  | .hbm, ⟨37, _⟩ => ⟨S1x1x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S_, .f32⟩
  | .hbm, ⟨44, _⟩ => ⟨S2x2048x2816, .f32⟩
  | .hbm, ⟨45, _⟩ => ⟨S2x2048x2816, .f32⟩
  | .hbm, ⟨46, _⟩ => ⟨S_, .f32⟩
  | .hbm, ⟨47, _⟩ => ⟨S2x2048x2816, .f32⟩
  | .hbm, ⟨48, _⟩ => ⟨S2x2048x2816, .f32⟩
  | .hbm, ⟨49, _⟩ => ⟨S_, .f32⟩
  | .hbm, ⟨50, _⟩ => ⟨S2x2048x2816, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S2x2048x1024, .f32⟩
  | .hbm, ⟨56, _⟩ => ⟨S2x2048x1024, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x2816, .f32⟩
  | .hbm, ⟨61, _⟩ => ⟨S2x2048x2816, .f32⟩
  | .hbm, ⟨62, _⟩ => ⟨S2x2048x2816, .f32⟩
  | .hbm, ⟨63, _⟩ => ⟨S2x2048x2816, .f32⟩
  | .hbm, ⟨64, _⟩ => ⟨S1x1x2816, .f32⟩
  | .hbm, ⟨65, _⟩ => ⟨S2x2048x2816, .f32⟩
  | .hbm, ⟨66, _⟩ => ⟨S2x2048x2816, .f32⟩
  | .hbm, ⟨67, _⟩ => ⟨S2x2048x2816, .f32⟩
  | .hbm, ⟨68, _⟩ => ⟨S_, .f32⟩
  | .hbm, ⟨69, _⟩ => ⟨S2x2816, .f32⟩
  | .hbm, ⟨70, _⟩ => ⟨S2x1x2816, .f32⟩
  | .hbm, ⟨71, _⟩ => ⟨S_, .f32⟩
  | .hbm, ⟨72, _⟩ => ⟨S2x2816, .f32⟩
  | .hbm, ⟨73, _⟩ => ⟨S_, .f32⟩
  | .hbm, ⟨74, _⟩ => ⟨S2x2050x2816, .f32⟩
  | .hbm, ⟨75, _⟩ => ⟨S2x1x2816, .f32⟩
  | .hbm, ⟨76, _⟩ => ⟨S_, .f32⟩
  | .hbm, ⟨77, _⟩ => ⟨S2x3x2816, .f32⟩
  | .hbm, ⟨78, _⟩ => ⟨S1x1x2816, .f32⟩
  | .hbm, ⟨79, _⟩ => ⟨S2x2048x2816, .f32⟩
  | .hbm, ⟨80, _⟩ => ⟨S2x2048x2816, .f32⟩
  | .hbm, ⟨81, _⟩ => ⟨S2x2048x2816, .f32⟩
  | .hbm, ⟨82, _⟩ => ⟨S_, .f32⟩
  | .hbm, ⟨83, _⟩ => ⟨S2x2816, .f32⟩
  | .hbm, ⟨84, _⟩ => ⟨S2x1x2816, .f32⟩
  | .hbm, ⟨85, _⟩ => ⟨S_, .f32⟩
  | .hbm, ⟨86, _⟩ => ⟨S2x2816, .f32⟩
  | .hbm, ⟨87, _⟩ => ⟨S_, .f32⟩
  | .hbm, ⟨88, _⟩ => ⟨S2x2050x2816, .f32⟩
  | .hbm, ⟨89, _⟩ => ⟨S2x2050x2816, .f32⟩
  | .hbm, ⟨90, _⟩ => ⟨S2x1x2816, .f32⟩
  | .hbm, ⟨91, _⟩ => ⟨S_, .f32⟩
  | .hbm, ⟨92, _⟩ => ⟨S2x3x2816, .f32⟩
  | .hbm, ⟨93, _⟩ => ⟨S2x3x2816, .f32⟩
  | .hbm, ⟨94, _⟩ => ⟨S_, .f32⟩
  | .hbm, ⟨95, _⟩ => ⟨S2x2816, .f32⟩
  | .hbm, ⟨96, _⟩ => ⟨S2x1x2816, .f32⟩
  | .hbm, ⟨97, _⟩ => ⟨S1x1x2816, .f32⟩
  | .hbm, ⟨98, _⟩ => ⟨S2x2048x2816, .f32⟩
  | .hbm, ⟨99, _⟩ => ⟨S2x2048x2816, .f32⟩
  | .hbm, ⟨100, _⟩ => ⟨S2x2048x2816, .f32⟩
  | .hbm, ⟨101, _⟩ => ⟨S_, .f32⟩
  | .hbm, ⟨102, _⟩ => ⟨S2x2816, .f32⟩
  | .hbm, ⟨103, _⟩ => ⟨S2x1x2816, .f32⟩
  | .hbm, ⟨104, _⟩ => ⟨S_, .f32⟩
  | .hbm, ⟨105, _⟩ => ⟨S2x2816, .f32⟩
  | .hbm, ⟨106, _⟩ => ⟨S_, .f32⟩
  | .hbm, ⟨107, _⟩ => ⟨S2x2050x2816, .f32⟩
  | .hbm, ⟨108, _⟩ => ⟨S2x2050x2816, .f32⟩
  | .hbm, ⟨109, _⟩ => ⟨S2x1x2816, .f32⟩
  | .hbm, ⟨110, _⟩ => ⟨S_, .f32⟩
  | .hbm, ⟨111, _⟩ => ⟨S2x3x2816, .f32⟩
  | .hbm, ⟨112, _⟩ => ⟨S2x3x2816, .f32⟩
  | .hbm, ⟨113, _⟩ => ⟨S2x2x2816, .f32⟩
  | .hbm, ⟨114, _⟩ => ⟨S2x2048x2816, .f32⟩
  | .hbm, ⟨115, _⟩ => ⟨S2x2048x2816, .bf16⟩
  | .hbm, ⟨116, _⟩ => ⟨S2x2048x2816, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v33_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v33_1 : Ref sig .tc := ⟨.hbm, 52, rfl⟩
abbrev main_v33_0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_1 : Ref sig .tc := ⟨.hbm, 68, rfl⟩
abbrev main_v45 : Ref sig .tc := ⟨.hbm, 69, rfl⟩
abbrev main_v46 : Ref sig .tc := ⟨.hbm, 70, rfl⟩
abbrev main_cst_2 : Ref sig .tc := ⟨.hbm, 71, rfl⟩
abbrev main_v47 : Ref sig .tc := ⟨.hbm, 72, rfl⟩
abbrev main_cst_3 : Ref sig .tc := ⟨.hbm, 73, rfl⟩
abbrev main_v48 : Ref sig .tc := ⟨.hbm, 74, rfl⟩
abbrev main_v49 : Ref sig .tc := ⟨.hbm, 75, rfl⟩
abbrev main_cst_4 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_5 : Ref sig .tc := ⟨.hbm, 82, rfl⟩
abbrev main_v55 : Ref sig .tc := ⟨.hbm, 83, rfl⟩
abbrev main_v56 : Ref sig .tc := ⟨.hbm, 84, rfl⟩
abbrev main_cst_6 : Ref sig .tc := ⟨.hbm, 85, rfl⟩
abbrev main_v57 : Ref sig .tc := ⟨.hbm, 86, rfl⟩
abbrev main_cst_7 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_10 : Ref sig .tc := ⟨.hbm, 101, rfl⟩
abbrev main_v69 : Ref sig .tc := ⟨.hbm, 102, rfl⟩
abbrev main_v70 : Ref sig .tc := ⟨.hbm, 103, rfl⟩
abbrev main_cst_11 : Ref sig .tc := ⟨.hbm, 104, rfl⟩
abbrev main_v71 : Ref sig .tc := ⟨.hbm, 105, rfl⟩
abbrev main_cst_12 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_13 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== GmlpK.lean ====
abbrev S4096x6656 : Shape := ⟨2, ![4096, 6656]⟩
abbrev S1x512 : Shape := ⟨2, ![1, 512]⟩
abbrev S4x128x128 : Shape := ⟨3, ![4, 128, 128]⟩
abbrev S4x128 : Shape := ⟨2, ![4, 128]⟩
abbrev S4096x512 : Shape := ⟨2, ![4096, 512]⟩
abbrev S128x4 : Shape := ⟨2, ![128, 4]⟩
abbrev S_ : Shape := ⟨0, ![]⟩
abbrev S128x128 : Shape := ⟨2, ![128, 128]⟩
abbrev S4096x1024 : Shape := ⟨2, ![4096, 1024]⟩
abbrev S8x128 : Shape := ⟨2, ![8, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x128x128 : Shape := ⟨3, ![1, 128, 128]⟩
abbrev S128x1 : Shape := ⟨2, ![128, 1]⟩
abbrev S512x128 : Shape := ⟨2, ![512, 128]⟩

abbrev nBuf : Space → Nat
  | .hbm => 15
  | .vmem => 14
  | .smem => 0
  | _ => 0

abbrev bufTy : (tb : Table) → Fin (tcTables nBuf tb) → BufTy
  | .hbm, ⟨0, _⟩ => ⟨S4096x6656, .bf16⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S4x128, .f32⟩
  | .hbm, ⟨5, _⟩ => ⟨S4096x512, .bf16⟩
  | .hbm, ⟨6, _⟩ => ⟨S128x4, .f32⟩
  | .hbm, ⟨7, _⟩ => ⟨S_, .i32⟩
  | .hbm, ⟨8, _⟩ => ⟨S_, .f32⟩
  | .hbm, ⟨9, _⟩ => ⟨S128x128, .f32⟩
  | .hbm, ⟨10, _⟩ => ⟨S4096x1024, .bf16⟩
  | .hbm, ⟨11, _⟩ => ⟨S1x512, .f32⟩
  | .hbm, ⟨12, _⟩ => ⟨S1x512, .f32⟩
  | .hbm, ⟨13, _⟩ => ⟨S4x128x128, .f32⟩
  | .hbm, ⟨14, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S128x128, .f32⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S1x512, .f32⟩
  | .local _ .vmem, ⟨11, _⟩ => ⟨S1x512, .f32⟩
  | .local _ .vmem, ⟨12, _⟩ => ⟨S4x128x128, .f32⟩
  | .local _ .vmem, ⟨13, _⟩ => ⟨S8x128, .f32⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GmlpRIdeal.lean ====
abbrev S4096x6656 : Shape := ⟨2, ![4096, 6656]⟩
abbrev S1x512 : Shape := ⟨2, ![1, 512]⟩
abbrev S4x128x128 : Shape := ⟨3, ![4, 128, 128]⟩
abbrev S4x128 : Shape := ⟨2, ![4, 128]⟩
abbrev S4096x512 : Shape := ⟨2, ![4096, 512]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S512 : Shape := ⟨1, ![512]⟩
abbrev S8x128 : Shape := ⟨2, ![8, 128]⟩

abbrev nBuf : Space → Nat
  | .hbm => 221
  | .vmem => 0
  | .smem => 0
  | _ => 0

abbrev hbmTy0_0 (i : Nat) : BufTy := match i % 128 with
  | 0 => ⟨S4096x6656, .bf16⟩
  | 1 => ⟨S1x512, .f32⟩
  | 2 => ⟨S1x512, .f32⟩
  | 3 => ⟨S4x128x128, .f32⟩
  | 4 => ⟨S4x128, .f32⟩
  | 5 => ⟨S4096x512, .bf16⟩
  | 6 => ⟨S4096x1024, .bf16⟩
  | 7 => ⟨S4096x1024, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S_, .f32⟩
  | 45 => ⟨S4096x512, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S4096x512, .f32⟩
  | 52 => ⟨S_, .f32⟩
  | 53 => ⟨S4096x512, .f32⟩
  | 54 => ⟨S4096x512, .f32⟩
  | 55 => ⟨S_, .f32⟩
  | 56 => ⟨S4096x512, .f32⟩
  | 57 => ⟨S4096x512, .f32⟩
  | 58 => ⟨S4096x512, .f32⟩
  | 59 => ⟨S_, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S4096x512, .f32⟩
  | 66 => ⟨S_, .f32⟩
  | 67 => ⟨S4096, .f32⟩
  | 68 => ⟨S4096x1, .f32⟩
  | 69 => ⟨S_, .f32⟩
  | 70 => ⟨S4096x1, .f32⟩
  | 71 => ⟨S4096x1, .f32⟩
  | 72 => ⟨S4096x512, .f32⟩
  | 73 => ⟨S4096x512, .f32⟩
  | 74 => ⟨S4096x512, .f32⟩
  | 75 => ⟨S_, .f32⟩
  | 76 => ⟨S4096x512, .f32⟩
  | 77 => ⟨S4096x512, .f32⟩
  | 78 => ⟨S_, .f32⟩
  | 79 => ⟨S4096, .f32⟩
  | 80 => ⟨S4096x1, .f32⟩
  | 81 => ⟨S_, .f32⟩
  | 82 => ⟨S4096x1, .f32⟩
  | 83 => ⟨S4096x1, .f32⟩
  | 84 => ⟨S4096x512, .f32⟩
  | 85 => ⟨S4096x512, .f32⟩
  | 86 => ⟨S_, .f32⟩
  | 87 => ⟨S4096x1, .f32⟩
  | 88 => ⟨S4096x1, .f32⟩
  | 89 => ⟨S4096x1, .f32⟩
  | 90 => ⟨S4096x1, .f32⟩
  | 91 => ⟨S_, .f32⟩
  | 92 => ⟨S4096x1, .f32⟩
  | 93 => ⟨S4096x1, .f32⟩
  | 94 => ⟨S4096x512, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S32x128x4x128, .f32⟩
  | 101 => ⟨S_, .i1⟩
  | 102 => ⟨S128x128, .i1⟩
  | 103 => ⟨S128x128, .i32⟩
  | 104 => ⟨S_, .i32⟩
  | 105 => ⟨S128x128, .i32⟩
  | 106 => ⟨S128x128, .i32⟩
  | 107 => ⟨S128x128, .i32⟩
  | 108 => ⟨S128x128, .i1⟩
  | 109 => ⟨S_, .i1⟩
  | 110 => ⟨S128x128, .i1⟩
  | 111 => ⟨S128x128, .i1⟩
  | 112 => ⟨S1x128x128, .i1⟩
  | 113 => ⟨S_, .i32⟩
  | 114 => ⟨S_, .f32⟩
  | 115 => ⟨S4x128x128, .i1⟩
  | 116 => ⟨S4x128x128, .f32⟩
  | 117 => ⟨S4x128x128, .f32⟩
  | 118 => ⟨S_, .f32⟩
  | 119 => ⟨S4x128x128, .f32⟩
  | 120 => ⟨S4x32x128x128, .f32⟩
  | 121 => ⟨S32x128x4x128, .f32⟩
  | 122 => ⟨S128x4, .f32⟩
  | 123 => ⟨S1x128x4x1, .f32⟩
  | 124 => ⟨S32x128x4x128, .f32⟩
  | 125 => ⟨S32x128x4x128, .f32⟩
  | 126 => ⟨S4096x512, .f32⟩
  | 127 => ⟨S4096x512, .f32⟩
  | _ => ⟨S4096x6656, .bf16⟩

abbrev hbmTy0_1 (i : Nat) : BufTy := match i % 128 with
  | 0 => ⟨S4096x512, .f32⟩
  | 1 => ⟨S4096x512, .f32⟩
  | 2 => ⟨S4096x512, .f32⟩
  | 3 => ⟨S32x128x4x128, .f32⟩
  | 4 => ⟨S_, .f32⟩
  | 5 => ⟨S128x4, .f32⟩
  | 6 => ⟨S1x128x4x1, .f32⟩
  | 7 => ⟨S_, .f32⟩
  | 8 => ⟨S128x4, .f32⟩
  | 9 => ⟨S4x128, .f32⟩
  | 10 => ⟨S4x32x128x128, .f32⟩
  | 11 => ⟨S4x128x128, .f32⟩
  | 12 => ⟨S4x32x128x128, .f32⟩
  | 13 => ⟨S32x128x4x128, .f32⟩
  | 14 => ⟨S_, .f32⟩
  | 15 => ⟨S4x128x128, .f32⟩
  | 16 => ⟨S4x128x128, .f32⟩
  | 17 => ⟨S4096x512, .f32⟩
  | 18 => ⟨S_, .f32⟩
  | 19 => ⟨S512, .f32⟩
  | 20 => ⟨S1x512, .f32⟩
  | 21 => ⟨S4096x512, .f32⟩
  | 22 => ⟨S_, .f32⟩
  | 23 => ⟨S512, .f32⟩
  | 24 => ⟨S1x512, .f32⟩
  | 25 => ⟨S4096x512, .f32⟩
  | 26 => ⟨S4096x512, .f32⟩
  | 27 => ⟨S4096x512, .f32⟩
  | 28 => ⟨S_, .f32⟩
  | 29 => ⟨S4096, .f32⟩
  | 30 => ⟨S4096x1, .f32⟩
  | 31 => ⟨S4096x512, .f32⟩
  | 32 => ⟨S4096x512, .f32⟩
  | 33 => ⟨S4096x1, .f32⟩
  | 34 => ⟨S4096x512, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S_, .f32⟩
  | 42 => ⟨S4096, .f32⟩
  | 43 => ⟨S4096x512, .f32⟩
  | 44 => ⟨S4096x512, .f32⟩
  | 45 => ⟨S4096x512, .f32⟩
  | 46 => ⟨S_, .f32⟩
  | 47 => ⟨S4096, .f32⟩
  | 48 => ⟨S4096x1, .f32⟩
  | 49 => ⟨S4096x512, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096, .f32⟩
  | 56 => ⟨S4096x512, .f32⟩
  | 57 => ⟨S4096x512, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S4096x512, .f32⟩
  | 68 => ⟨S_, .f32⟩
  | 69 => ⟨S4096x512, .f32⟩
  | 70 => ⟨S4096x512, .f32⟩
  | 71 => ⟨S4096x512, .f32⟩
  | 72 => ⟨S4096x512, .f32⟩
  | 73 => ⟨S4096x512, .f32⟩
  | 74 => ⟨S4096x512, .f32⟩
  | 75 => ⟨S_, .f32⟩
  | 76 => ⟨S4096x512, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S4096x512, .f32⟩
  | 83 => ⟨S_, .f32⟩
  | 84 => ⟨S4096x512, .f32⟩
  | 85 => ⟨S4096x512, .f32⟩
  | 86 => ⟨S4096x512, .f32⟩
  | 87 => ⟨S4096x512, .f32⟩
  | 88 => ⟨S4096x1024, .f32⟩
  | 89 => ⟨S4096x1024, .bf16⟩
  | 90 => ⟨S_, .i32⟩
  | 91 => ⟨S_, .f32⟩
  | 92 => ⟨S8x128, .f32⟩
  | _ => ⟨S4096x6656, .bf16⟩

abbrev hbmTy (i : Nat) : BufTy := match i / 128 with
  | 0 => hbmTy0_0 i
  | 1 => hbmTy0_1 i
  | _ => ⟨S4096x6656, .bf16⟩

abbrev bufTy : (tb : Table) → Fin (tcTables nBuf tb) → BufTy
  | .hbm, ⟨i, _⟩ => hbmTy i
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_cst_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_cst_16 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_19 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c : Ref sig .tc := ⟨.hbm, 101, rfl⟩
abbrev main_v74 : Ref sig .tc := ⟨.hbm, 102, rfl⟩
abbrev main_call0_v0 : Ref sig .tc := ⟨.hbm, 103, rfl⟩
abbrev main_call0_c : Ref sig .tc := ⟨.hbm, 104, rfl⟩
abbrev main_call0_v1 : Ref sig .tc := ⟨.hbm, 105, rfl⟩
abbrev main_call0_v2 : Ref sig .tc := ⟨.hbm, 106, rfl⟩
abbrev main_call0_v3 : Ref sig .tc := ⟨.hbm, 107, rfl⟩
abbrev main_call0_v4 : Ref sig .tc := ⟨.hbm, 108, rfl⟩
abbrev main_call0_c_0 : Ref sig .tc := ⟨.hbm, 109, rfl⟩
abbrev main_call0_v5 : Ref sig .tc := ⟨.hbm, 110, rfl⟩
abbrev main_v75 : Ref sig .tc := ⟨.hbm, 111, rfl⟩
abbrev main_v76 : Ref sig .tc := ⟨.hbm, 112, rfl⟩
abbrev main_c_20 : Ref sig .tc := ⟨.hbm, 113, rfl⟩
abbrev main_call1_v0 : Ref sig .tc := ⟨.hbm, 114, rfl⟩
abbrev main_v77_1 : Ref sig .tc := ⟨.hbm, 115, rfl⟩
abbrev main_call1_v2 : Ref sig .tc := ⟨.hbm, 116, rfl⟩
abbrev main_v77_0 : Ref sig .tc := ⟨.hbm, 117, rfl⟩
abbrev main_call1_cst : Ref sig .tc := ⟨.hbm, 118, rfl⟩
abbrev main_v77_2 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_21 : Ref sig .tc := ⟨.hbm, 132, rfl⟩
abbrev main_v90 : Ref sig .tc := ⟨.hbm, 133, rfl⟩
abbrev main_v91 : Ref sig .tc := ⟨.hbm, 134, rfl⟩
abbrev main_cst_22 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_call2_cst : Ref sig .tc := ⟨.hbm, 142, rfl⟩
abbrev main_call2_v0 : Ref sig .tc := ⟨.hbm, 143, rfl⟩
abbrev main_v98 : Ref sig .tc := ⟨.hbm, 144, rfl⟩
abbrev main_v99 : Ref sig .tc := ⟨.hbm, 145, rfl⟩
abbrev main_cst_23 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_24 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_25 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_26 : Ref sig .tc := ⟨.hbm, 163, rfl⟩
abbrev main_v114 : Ref sig .tc := ⟨.hbm, 164, rfl⟩
abbrev main_v115 : Ref sig .tc := ⟨.hbm, 165, rfl⟩
abbrev main_cst_27 : Ref sig .tc := ⟨.hbm, 166, rfl⟩
abbrev main_v116 : Ref sig .tc := ⟨.hbm, 167, rfl⟩
abbrev main_v117 : Ref sig .tc := ⟨.hbm, 168, rfl⟩
abbrev main_cst_28 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_29 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_30 : Ref sig .tc := ⟨.hbm, 179, rfl⟩
abbrev main_v126 : Ref sig .tc := ⟨.hbm, 180, rfl⟩
abbrev main_v127 : Ref sig .tc := ⟨.hbm, 181, rfl⟩
abbrev main_cst_31 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_cst_32 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_33 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_34 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_35 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_36 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_cst_37 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_c_38 : Ref sig .tc := ⟨.hbm, 218, rfl⟩
abbrev main_call3_v0 : Ref sig .tc := ⟨.hbm, 219, rfl⟩
abbrev main_v157 : Ref sig .tc := ⟨.hbm, 220, rfl⟩

abbrev nD : Nat := 1
abbrev τ : Topo := Topo.v7x

variable {F : FTy → Type} [FloatOps F]
-- ==== MergeK.lean ====
abbrev S4096x512 : Shape := ⟨2, ![4096, 512]⟩
abbrev S3x512x1024 : Shape := ⟨3, ![3, 512, 1024]⟩
abbrev S4096x6656 : Shape := ⟨2, ![4096, 6656]⟩
abbrev S4096x1024 : Shape := ⟨2, ![4096, 1024]⟩
abbrev S1024x1024 : Shape := ⟨2, ![1024, 1024]⟩
abbrev S1x512x1024 : Shape := ⟨3, ![1, 512, 1024]⟩
abbrev S512x1024 : Shape := ⟨2, ![512, 1024]⟩
abbrev S_ : Shape := ⟨0, ![]⟩
abbrev S3x4096x1024 : Shape := ⟨3, ![3, 4096, 1024]⟩
abbrev S256x512 : Shape := ⟨2, ![256, 512]⟩
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 65
  | .vmem => 36
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .f32⟩
  | .hbm, ⟨4, _⟩ => ⟨S4096x6656, .bf16⟩
  | .hbm, ⟨5, _⟩ => ⟨S4096x1024, .f32⟩
  | .hbm, ⟨6, _⟩ => ⟨S1024x1024, .f32⟩
  | .hbm, ⟨7, _⟩ => ⟨S1x512x1024, .f32⟩
  | .hbm, ⟨8, _⟩ => ⟨S512x1024, .f32⟩
  | .hbm, ⟨9, _⟩ => ⟨S512x1024, .bf16⟩
  | .hbm, ⟨10, _⟩ => ⟨S1x512x1024, .f32⟩
  | .hbm, ⟨11, _⟩ => ⟨S512x1024, .f32⟩
  | .hbm, ⟨12, _⟩ => ⟨S512x1024, .bf16⟩
  | .hbm, ⟨13, _⟩ => ⟨S1x512x1024, .f32⟩
  | .hbm, ⟨14, _⟩ => ⟨S512x1024, .f32⟩
  | .hbm, ⟨15, _⟩ => ⟨S512x1024, .bf16⟩
  | .hbm, ⟨16, _⟩ => ⟨S_, .f32⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S1024x1024, .bf16⟩
  | .hbm, ⟨59, _⟩ => ⟨S3x4096x1024, .bf16⟩
  | .hbm, ⟨60, _⟩ => ⟨S4096x512, .bf16⟩
  | .hbm, ⟨61, _⟩ => ⟨S4096x512, .bf16⟩
  | .hbm, ⟨62, _⟩ => ⟨S4096x512, .bf16⟩
  | .hbm, ⟨63, _⟩ => ⟨S3x512x1024, .f32⟩
  | .hbm, ⟨64, _⟩ => ⟨S1024x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S1024x1024, .bf16⟩
  | .local _ .vmem, ⟨26, _⟩ => ⟨S3x256x1024, .bf16⟩
  | .local _ .vmem, ⟨27, _⟩ => ⟨S3x256x1024, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S3x512x1024, .f32⟩
  | .local _ .vmem, ⟨35, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45_0 : Ref sig .tc := ⟨.hbm, 59, rfl⟩
abbrev main_v45_1 : Ref sig .tc := ⟨.hbm, 60, rfl⟩
abbrev main_v45_2 : Ref sig .tc := ⟨.hbm, 61, rfl⟩
abbrev main_v45_3 : Ref sig .tc := ⟨.hbm, 62, rfl⟩
abbrev main_v45_4 : Ref sig .tc := ⟨.hbm, 63, rfl⟩
abbrev main_v45_5 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg20_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem20_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_9 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_10 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_11 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S3x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S3x512x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MergeRIdeal.lean ====
abbrev S4096x512 : Shape := ⟨2, ![4096, 512]⟩
abbrev S3x512x1024 : Shape := ⟨3, ![3, 512, 1024]⟩
abbrev S4096x6656 : Shape := ⟨2, ![4096, 6656]⟩
abbrev S4096x1024 : Shape := ⟨2, ![4096, 1024]⟩
abbrev S1024x1024 : Shape := ⟨2, ![1024, 1024]⟩
abbrev S4096x3072 : Shape := ⟨2, ![4096, 3072]⟩
abbrev S1x4096x512 : Shape := ⟨3, ![1, 4096, 512]⟩
abbrev S3x4096x512 : Shape := ⟨3, ![3, 4096, 512]⟩
abbrev S3x4096x1024 : Shape := ⟨3, ![3, 4096, 1024]⟩
abbrev S4096x3x1024 : Shape := ⟨3, ![4096, 3, 1024]⟩
abbrev S_ : Shape := ⟨0, ![]⟩
abbrev S3x1024x512 : Shape := ⟨3, ![3, 1024, 512]⟩

abbrev nBuf : Space → Nat
  | .hbm => 59
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .f32⟩
  | .hbm, ⟨4, _⟩ => ⟨S4096x6656, .bf16⟩
  | .hbm, ⟨5, _⟩ => ⟨S4096x1024, .f32⟩
  | .hbm, ⟨6, _⟩ => ⟨S1024x1024, .f32⟩
  | .hbm, ⟨7, _⟩ => ⟨S4096x3072, .bf16⟩
  | .hbm, ⟨8, _⟩ => ⟨S4096x3072, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S1x4096x512, .f32⟩
  | .hbm, ⟨13, _⟩ => ⟨S1x4096x512, .f32⟩
  | .hbm, ⟨14, _⟩ => ⟨S1x4096x512, .f32⟩
  | .hbm, ⟨15, _⟩ => ⟨S3x4096x512, .f32⟩
  | .hbm, ⟨16, _⟩ => ⟨S3x4096x1024, .f32⟩
  | .hbm, ⟨17, _⟩ => ⟨S4096x3x1024, .f32⟩
  | .hbm, ⟨18, _⟩ => ⟨S4096x3x1024, .f32⟩
  | .hbm, ⟨19, _⟩ => ⟨S4096x3x1024, .f32⟩
  | .hbm, ⟨20, _⟩ => ⟨S_, .f32⟩
  | .hbm, ⟨21, _⟩ => ⟨S4096x3x1024, .f32⟩
  | .hbm, ⟨22, _⟩ => ⟨S4096x3x1024, .f32⟩
  | .hbm, ⟨23, _⟩ => ⟨S_, .f32⟩
  | .hbm, ⟨24, _⟩ => ⟨S4096x3x1024, .f32⟩
  | .hbm, ⟨25, _⟩ => ⟨S4096x3x1024, .f32⟩
  | .hbm, ⟨26, _⟩ => ⟨S_, .f32⟩
  | .hbm, ⟨27, _⟩ => ⟨S4096x3x1024, .f32⟩
  | .hbm, ⟨28, _⟩ => ⟨S4096x3x1024, .f32⟩
  | .hbm, ⟨29, _⟩ => ⟨S4096x3x1024, .f32⟩
  | .hbm, ⟨30, _⟩ => ⟨S4096x3x1024, .f32⟩
  | .hbm, ⟨31, _⟩ => ⟨S4096x3x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S1024x1024, .f32⟩
  | .hbm, ⟨36, _⟩ => ⟨S1024x1024, .f32⟩
  | .hbm, ⟨37, _⟩ => ⟨S4096x1024, .f32⟩
  | .hbm, ⟨38, _⟩ => ⟨S4096x3x1024, .f32⟩
  | .hbm, ⟨39, _⟩ => ⟨S4096x3x1024, .f32⟩
  | .hbm, ⟨40, _⟩ => ⟨S4096x3x1024, .f32⟩
  | .hbm, ⟨41, _⟩ => ⟨S3x4096x1024, .f32⟩
  | .hbm, ⟨42, _⟩ => ⟨S4096x3x1024, .f32⟩
  | .hbm, ⟨43, _⟩ => ⟨S4096x3072, .f32⟩
  | .hbm, ⟨44, _⟩ => ⟨S3x1024x512, .f32⟩
  | .hbm, ⟨45, _⟩ => ⟨S3x512x1024, .f32⟩
  | .hbm, ⟨46, _⟩ => ⟨S3x4096x512, .f32⟩
  | .hbm, ⟨47, _⟩ => ⟨S1x4096x512, .f32⟩
  | .hbm, ⟨48, _⟩ => ⟨S4096x512, .f32⟩
  | .hbm, ⟨49, _⟩ => ⟨S1x4096x512, .f32⟩
  | .hbm, ⟨50, _⟩ => ⟨S4096x512, .f32⟩
  | .hbm, ⟨51, _⟩ => ⟨S1x4096x512, .f32⟩
  | .hbm, ⟨52, _⟩ => ⟨S4096x512, .f32⟩
  | .hbm, ⟨53, _⟩ => ⟨S4096x3x1024, .f32⟩
  | .hbm, ⟨54, _⟩ => ⟨S3x4096x1024, .f32⟩
  | .hbm, ⟨55, _⟩ => ⟨S3x4096x1024, .bf16⟩
  | .hbm, ⟨56, _⟩ => ⟨S4096x512, .bf16⟩
  | .hbm, ⟨57, _⟩ => ⟨S4096x512, .bf16⟩
  | .hbm, ⟨58, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== LossK.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 10
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S2816x1024, .bf16⟩
  | .hbm, ⟨6, _⟩ => ⟨S1x128, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S1x128, .f32⟩
  | .hbm, ⟨74, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== UpK.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S5632x1024 : Shape := ⟨2, ![5632, 1024]⟩
abbrev S512x2816 : Shape := ⟨2, ![512, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S5632x1024, .f32⟩
  | .hbm, ⟨7, _⟩ => ⟨S5632x1024, .bf16⟩
  | .hbm, ⟨8, _⟩ => ⟨S4096x1024, .f32⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== UpRIdeal.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== PrK.lean ====
abbrev S4096x6656 : Shape := ⟨2, ![4096, 6656]⟩
abbrev S1024x6656 : Shape := ⟨2, ![1024, 6656]⟩
abbrev S4096x1024 : Shape := ⟨2, ![4096, 1024]⟩
abbrev S1x1024 : Shape := ⟨2, ![1, 1024]⟩
abbrev S6656x1024 : Shape := ⟨2, ![6656, 1024]⟩
abbrev S512x6656 : Shape := ⟨2, ![512, 6656]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S4096x6656, .bf16⟩
  | .hbm, ⟨1, _⟩ => ⟨S1024x6656, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S6656x1024, .f32⟩
  | .hbm, ⟨6, _⟩ => ⟨S6656x1024, .bf16⟩
  | .hbm, ⟨7, _⟩ => ⟨S4096x1024, .f32⟩
  | .hbm, ⟨8, _⟩ => ⟨S1x1024, .f32⟩
  | .local _ .vmem, ⟨0, _⟩ => ⟨S512x6656, .bf16⟩
  | .local _ .vmem, ⟨1, _⟩ => ⟨S512x6656, .bf16⟩
  | .local _ .vmem, ⟨2, _⟩ => ⟨S6656x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6656x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PrRIdeal.lean ====
abbrev S4096x6656 : Shape := ⟨2, ![4096, 6656]⟩
abbrev S1024x6656 : Shape := ⟨2, ![1024, 6656]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S1024x6656, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x6656, .f32⟩
  | .hbm, ⟨25, _⟩ => ⟨S4096x6656, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== HgrnK.lean ====
abbrev S2x2048x6656 : Shape := ⟨3, ![2, 2048, 6656]⟩
abbrev S2x512 : Shape := ⟨2, ![2, 512]⟩
abbrev S1x128 : Shape := ⟨2, ![1, 128]⟩
abbrev S2x2048x512 : Shape := ⟨3, ![2, 2048, 512]⟩
abbrev S2x2048x1024 : Shape := ⟨3, ![2, 2048, 1024]⟩
abbrev S3x2x2048x1024 : Shape := ⟨4, ![3, 2, 2048, 1024]⟩
abbrev S_ : Shape := ⟨0, ![]⟩
abbrev S512 : Shape := ⟨1, ![512]⟩
abbrev S1x512 : Shape := ⟨2, ![1, 512]⟩
abbrev S4x128 : Shape := ⟨2, ![4, 128]⟩
abbrev S2x2048x4x128 : Shape := ⟨4, ![2, 2048, 4, 128]⟩
abbrev S1x1x4x128 : Shape := ⟨4, ![1, 1, 4, 128]⟩
abbrev S2x32x64x4x128 : Shape := ⟨5, ![2, 32, 64, 4, 128]⟩
abbrev S32x2x4x64x128 : Shape := ⟨5, ![32, 2, 4, 64, 128]⟩
abbrev S32x2x4x1x128 : Shape := ⟨5, ![32, 2, 4, 1, 128]⟩
abbrev S32x2x4x128 : Shape := ⟨4, ![32, 2, 4, 128]⟩
abbrev S32x2x4x128x1 : Shape := ⟨5, ![32, 2, 4, 128, 1]⟩
abbrev S32x2x4x128x128 : Shape := ⟨5, ![32, 2, 4, 128, 128]⟩
abbrev S2x4x128x128 : Shape := ⟨4, ![2, 4, 128, 128]⟩
abbrev S0x2x4x128x1 : Shape := ⟨5, ![0, 2, 4, 128, 1]⟩
abbrev S0x2x4x128x128 : Shape := ⟨5, ![0, 2, 4, 128, 128]⟩
abbrev S1x2x4x128x1 : Shape := ⟨5, ![1, 2, 4, 128, 1]⟩
abbrev S2x4x128x1 : Shape := ⟨4, ![2, 4, 128, 1]⟩
abbrev S1x2x4x128x128 : Shape := ⟨5, ![1, 2, 4, 128, 128]⟩
abbrev S16x2x4x128x128 : Shape := ⟨5, ![16, 2, 4, 128, 128]⟩
abbrev S2x4x32x128x128 : Shape := ⟨5, ![2, 4, 32, 128, 128]⟩
abbrev S2x4x1x128 : Shape := ⟨4, ![2, 4, 1, 128]⟩
abbrev S2x64x512 : Shape := ⟨3, ![2, 64, 512]⟩
abbrev S2x4x1x128x128 : Shape := ⟨5, ![2, 4, 1, 128, 128]⟩
abbrev S2x64x1024 : Shape := ⟨3, ![2, 64, 1024]⟩
abbrev S3x2x64x1024 : Shape := ⟨4, ![3, 2, 64, 1024]⟩
abbrev S2x64x6656 : Shape := ⟨3, ![2, 64, 6656]⟩
abbrev S1x2x64x1024 : Shape := ⟨4, ![1, 2, 64, 1024]⟩
abbrev S1x1x1x128x128 : Shape := ⟨5, ![1, 1, 1, 128, 128]⟩
abbrev S128x128 : Shape := ⟨2, ![128, 128]⟩
abbrev S1x64x128 : Shape := ⟨3, ![1, 64, 128]⟩
abbrev S64x128 : Shape := ⟨2, ![64, 128]⟩
abbrev S128x64 : Shape := ⟨2, ![128, 64]⟩
abbrev S128 : Shape := ⟨1, ![128]⟩
abbrev S64x64 : Shape := ⟨2, ![64, 64]⟩
abbrev S64x8x128 : Shape := ⟨3, ![64, 8, 128]⟩
abbrev S64x1x128 : Shape := ⟨3, ![64, 1, 128]⟩
abbrev S8x1x8x128 : Shape := ⟨4, ![8, 1, 8, 128]⟩
abbrev S8x8x8x128 : Shape := ⟨4, ![8, 8, 8, 128]⟩
abbrev S64x8 : Shape := ⟨2, ![64, 8]⟩
abbrev S8x64 : Shape := ⟨2, ![8, 64]⟩
abbrev S64 : Shape := ⟨1, ![64]⟩
abbrev S64x1 : Shape := ⟨2, ![64, 1]⟩
abbrev S1x1x128x128 : Shape := ⟨4, ![1, 1, 128, 128]⟩
abbrev S64x8x1 : Shape := ⟨3, ![64, 8, 1]⟩
abbrev S8x8x128 : Shape := ⟨3, ![8, 8, 128]⟩
abbrev S1x1x1x128 : Shape := ⟨4, ![1, 1, 1, 128]⟩

abbrev nBuf : Space → Nat
  | .hbm => 356
  | .vmem => 25
  | .smem => 0
  | _ => 0

abbrev hbmTy0_0 (i : Nat) : BufTy := match i % 128 with
  | 0 => ⟨S2x2048x6656, .bf16⟩
  | 1 => ⟨S2x512, .f32⟩
  | 2 => ⟨S1x128, .f32⟩
  | 3 => ⟨S2x2048x512, .bf16⟩
  | 4 => ⟨S2x2048x1024, .bf16⟩
  | 5 => ⟨S2x2048x512, .bf16⟩
  | 6 => ⟨S3x2x2048x1024, .bf16⟩
  | 7 => ⟨S2x2048x512, .bf16⟩
  | 8 => ⟨S2x2048x512, .bf16⟩
  | 9 => ⟨S2x2048x512, .bf16⟩
  | 10 => ⟨S_, .f32⟩
  | 11 => ⟨S512, .f32⟩
  | 12 => ⟨S_, .f32⟩
  | 13 => ⟨S512, .f32⟩
  | 14 => ⟨S512, .f32⟩
  | 15 => ⟨S1x512, .f32⟩
  | 16 => ⟨S2x512, .f32⟩
  | 17 => ⟨S2x512, .f32⟩
  | 18 => ⟨S2x512, .f32⟩
  | 19 => ⟨S_, .f32⟩
  | 20 => ⟨S512, .f32⟩
  | 21 => ⟨S1x512, .f32⟩
  | 22 => ⟨S2x512, .f32⟩
  | 23 => ⟨S2x512, .f32⟩
  | 24 => ⟨S_, .f32⟩
  | 25 => ⟨S_, .f32⟩
  | 26 => ⟨S2x512, .f32⟩
  | 27 => ⟨S1x512, .f32⟩
  | 28 => ⟨S512, .f32⟩
  | 29 => ⟨S4x128, .f32⟩
  | 30 => ⟨S_, .f32⟩
  | 31 => ⟨S4x128, .f32⟩
  | 32 => ⟨S4x128, .f32⟩
  | 33 => ⟨S2x2048x512, .f32⟩
  | 34 => ⟨S2x2048x4x128, .f32⟩
  | 35 => ⟨S2x2048x4x128, .f32⟩
  | 36 => ⟨S2x2048x4x128, .f32⟩
  | 37 => ⟨S_, .f32⟩
  | 38 => ⟨S2x2048x4x128, .f32⟩
  | 39 => ⟨S2x2048x4x128, .f32⟩
  | 40 => ⟨S_, .f32⟩
  | 41 => ⟨S2x2048x4x128, .f32⟩
  | 42 => ⟨S2x2048x4x128, .f32⟩
  | 43 => ⟨S1x1x4x128, .f32⟩
  | 44 => ⟨S2x2048x4x128, .f32⟩
  | 45 => ⟨S2x2048x4x128, .f32⟩
  | 46 => ⟨S1x1x4x128, .f32⟩
  | 47 => ⟨S2x2048x4x128, .f32⟩
  | 48 => ⟨S2x2048x4x128, .f32⟩
  | 49 => ⟨S_, .f32⟩
  | 50 => ⟨S2x2048x4x128, .f32⟩
  | 51 => ⟨S2x2048x4x128, .f32⟩
  | 52 => ⟨S2x2048x4x128, .f32⟩
  | 53 => ⟨S2x2048x512, .f32⟩
  | 54 => ⟨S2x2048x512, .f32⟩
  | 55 => ⟨S2x2048x512, .f32⟩
  | 56 => ⟨S_, .f32⟩
  | 57 => ⟨S2x2048x512, .f32⟩
  | 58 => ⟨S2x2048x512, .f32⟩
  | 59 => ⟨S_, .f32⟩
  | 60 => ⟨S2x2048x512, .f32⟩
  | 61 => ⟨S2x2048x512, .f32⟩
  | 62 => ⟨S2x2048x512, .f32⟩
  | 63 => ⟨S2x2048x4x128, .f32⟩
  | 64 => ⟨S2x2048x512, .f32⟩
  | 65 => ⟨S2x2048x4x128, .f32⟩
  | 66 => ⟨S2x32x64x4x128, .f32⟩
  | 67 => ⟨S32x2x4x64x128, .f32⟩
  | 68 => ⟨S2x32x64x4x128, .f32⟩
  | 69 => ⟨S32x2x4x64x128, .f32⟩
  | 70 => ⟨S2x32x64x4x128, .f32⟩
  | 71 => ⟨S32x2x4x64x128, .f32⟩
  | 72 => ⟨S_, .f32⟩
  | 73 => ⟨S_, .f32⟩
  | 74 => ⟨S32x2x4x64x128, .f32⟩
  | 75 => ⟨S32x2x4x1x128, .f32⟩
  | 76 => ⟨S32x2x4x128, .f32⟩
  | 77 => ⟨S32x2x4x128, .f32⟩
  | 78 => ⟨S32x2x4x128x1, .f32⟩
  | 79 => ⟨S32x2x4x64x128, .f32⟩
  | 80 => ⟨S32x2x4x64x128, .f32⟩
  | 81 => ⟨S32x2x4x64x128, .f32⟩
  | 82 => ⟨S32x2x4x64x128, .f32⟩
  | 83 => ⟨S32x2x4x128x128, .f32⟩
  | 84 => ⟨S_, .f32⟩
  | 85 => ⟨S2x4x128x128, .f32⟩
  | 86 => ⟨S0x2x4x128x1, .f32⟩
  | 87 => ⟨S32x2x4x128x1, .f32⟩
  | 88 => ⟨S0x2x4x128x128, .f32⟩
  | 89 => ⟨S32x2x4x128x128, .f32⟩
  | 90 => ⟨S_, .f32⟩
  | 91 => ⟨S0x2x4x128x128, .f32⟩
  | 92 => ⟨S1x2x4x128x1, .f32⟩
  | 93 => ⟨S2x4x128x1, .f32⟩
  | 94 => ⟨S1x2x4x128x128, .f32⟩
  | 95 => ⟨S2x4x128x128, .f32⟩
  | 96 => ⟨S2x4x128x128, .f32⟩
  | 97 => ⟨S2x4x128x128, .f32⟩
  | 98 => ⟨S2x4x128x128, .f32⟩
  | 99 => ⟨S1x2x4x128x1, .f32⟩
  | 100 => ⟨S2x4x128x1, .f32⟩
  | 101 => ⟨S1x2x4x128x128, .f32⟩
  | 102 => ⟨S2x4x128x128, .f32⟩
  | 103 => ⟨S2x4x128x128, .f32⟩
  | 104 => ⟨S2x4x128x128, .f32⟩
  | 105 => ⟨S2x4x128x128, .f32⟩
  | 106 => ⟨S1x2x4x128x1, .f32⟩
  | 107 => ⟨S2x4x128x1, .f32⟩
  | 108 => ⟨S1x2x4x128x128, .f32⟩
  | 109 => ⟨S2x4x128x128, .f32⟩
  | 110 => ⟨S2x4x128x128, .f32⟩
  | 111 => ⟨S2x4x128x128, .f32⟩
  | 112 => ⟨S2x4x128x128, .f32⟩
  | 113 => ⟨S1x2x4x128x1, .f32⟩
  | 114 => ⟨S2x4x128x1, .f32⟩
  | 115 => ⟨S1x2x4x128x128, .f32⟩
  | 116 => ⟨S2x4x128x128, .f32⟩
  | 117 => ⟨S2x4x128x128, .f32⟩
  | 118 => ⟨S2x4x128x128, .f32⟩
  | 119 => ⟨S2x4x128x128, .f32⟩
  | 120 => ⟨S1x2x4x128x1, .f32⟩
  | 121 => ⟨S2x4x128x1, .f32⟩
  | 122 => ⟨S1x2x4x128x128, .f32⟩
  | 123 => ⟨S2x4x128x128, .f32⟩
  | 124 => ⟨S2x4x128x128, .f32⟩
  | 125 => ⟨S2x4x128x128, .f32⟩
  | 126 => ⟨S2x4x128x128, .f32⟩
  | 127 => ⟨S1x2x4x128x1, .f32⟩
  | _ => ⟨S2x2048x6656, .bf16⟩

abbrev hbmTy0_1 (i : Nat) : BufTy := match i % 128 with
  | 0 => ⟨S2x4x128x1, .f32⟩
  | 1 => ⟨S1x2x4x128x128, .f32⟩
  | 2 => ⟨S2x4x128x128, .f32⟩
  | 3 => ⟨S2x4x128x128, .f32⟩
  | 4 => ⟨S2x4x128x128, .f32⟩
  | 5 => ⟨S2x4x128x128, .f32⟩
  | 6 => ⟨S1x2x4x128x1, .f32⟩
  | 7 => ⟨S2x4x128x1, .f32⟩
  | 8 => ⟨S1x2x4x128x128, .f32⟩
  | 9 => ⟨S2x4x128x128, .f32⟩
  | 10 => ⟨S2x4x128x128, .f32⟩
  | 11 => ⟨S2x4x128x128, .f32⟩
  | 12 => ⟨S2x4x128x128, .f32⟩
  | 13 => ⟨S1x2x4x128x1, .f32⟩
  | 14 => ⟨S2x4x128x1, .f32⟩
  | 15 => ⟨S1x2x4x128x128, .f32⟩
  | 16 => ⟨S2x4x128x128, .f32⟩
  | 17 => ⟨S2x4x128x128, .f32⟩
  | 18 => ⟨S2x4x128x128, .f32⟩
  | 19 => ⟨S2x4x128x128, .f32⟩
  | 20 => ⟨S1x2x4x128x1, .f32⟩
  | 21 => ⟨S2x4x128x1, .f32⟩
  | 22 => ⟨S1x2x4x128x128, .f32⟩
  | 23 => ⟨S2x4x128x128, .f32⟩
  | 24 => ⟨S2x4x128x128, .f32⟩
  | 25 => ⟨S2x4x128x128, .f32⟩
  | 26 => ⟨S2x4x128x128, .f32⟩
  | 27 => ⟨S1x2x4x128x1, .f32⟩
  | 28 => ⟨S2x4x128x1, .f32⟩
  | 29 => ⟨S1x2x4x128x128, .f32⟩
  | 30 => ⟨S2x4x128x128, .f32⟩
  | 31 => ⟨S2x4x128x128, .f32⟩
  | 32 => ⟨S2x4x128x128, .f32⟩
  | 33 => ⟨S2x4x128x128, .f32⟩
  | 34 => ⟨S1x2x4x128x1, .f32⟩
  | 35 => ⟨S2x4x128x1, .f32⟩
  | 36 => ⟨S1x2x4x128x128, .f32⟩
  | 37 => ⟨S2x4x128x128, .f32⟩
  | 38 => ⟨S2x4x128x128, .f32⟩
  | 39 => ⟨S2x4x128x128, .f32⟩
  | 40 => ⟨S2x4x128x128, .f32⟩
  | 41 => ⟨S1x2x4x128x1, .f32⟩
  | 42 => ⟨S2x4x128x1, .f32⟩
  | 43 => ⟨S1x2x4x128x128, .f32⟩
  | 44 => ⟨S2x4x128x128, .f32⟩
  | 45 => ⟨S2x4x128x128, .f32⟩
  | 46 => ⟨S2x4x128x128, .f32⟩
  | 47 => ⟨S2x4x128x128, .f32⟩
  | 48 => ⟨S1x2x4x128x1, .f32⟩
  | 49 => ⟨S2x4x128x1, .f32⟩
  | 50 => ⟨S1x2x4x128x128, .f32⟩
  | 51 => ⟨S2x4x128x128, .f32⟩
  | 52 => ⟨S2x4x128x128, .f32⟩
  | 53 => ⟨S2x4x128x128, .f32⟩
  | 54 => ⟨S2x4x128x128, .f32⟩
  | 55 => ⟨S1x2x4x128x1, .f32⟩
  | 56 => ⟨S2x4x128x1, .f32⟩
  | 57 => ⟨S1x2x4x128x128, .f32⟩
  | 58 => ⟨S2x4x128x128, .f32⟩
  | 59 => ⟨S2x4x128x128, .f32⟩
  | 60 => ⟨S2x4x128x128, .f32⟩
  | 61 => ⟨S2x4x128x128, .f32⟩
  | 62 => ⟨S1x2x4x128x1, .f32⟩
  | 63 => ⟨S2x4x128x1, .f32⟩
  | 64 => ⟨S1x2x4x128x128, .f32⟩
  | 65 => ⟨S2x4x128x128, .f32⟩
  | 66 => ⟨S2x4x128x128, .f32⟩
  | 67 => ⟨S2x4x128x128, .f32⟩
  | 68 => ⟨S2x4x128x128, .f32⟩
  | 69 => ⟨S1x2x4x128x1, .f32⟩
  | 70 => ⟨S2x4x128x1, .f32⟩
  | 71 => ⟨S1x2x4x128x128, .f32⟩
  | 72 => ⟨S2x4x128x128, .f32⟩
  | 73 => ⟨S2x4x128x128, .f32⟩
  | 74 => ⟨S2x4x128x128, .f32⟩
  | 75 => ⟨S2x4x128x128, .f32⟩
  | 76 => ⟨S1x2x4x128x1, .f32⟩
  | 77 => ⟨S2x4x128x1, .f32⟩
  | 78 => ⟨S1x2x4x128x128, .f32⟩
  | 79 => ⟨S2x4x128x128, .f32⟩
  | 80 => ⟨S2x4x128x128, .f32⟩
  | 81 => ⟨S2x4x128x128, .f32⟩
  | 82 => ⟨S2x4x128x128, .f32⟩
  | 83 => ⟨S1x2x4x128x1, .f32⟩
  | 84 => ⟨S2x4x128x1, .f32⟩
  | 85 => ⟨S1x2x4x128x128, .f32⟩
  | 86 => ⟨S2x4x128x128, .f32⟩
  | 87 => ⟨S2x4x128x128, .f32⟩
  | 88 => ⟨S2x4x128x128, .f32⟩
  | 89 => ⟨S2x4x128x128, .f32⟩
  | 90 => ⟨S1x2x4x128x1, .f32⟩
  | 91 => ⟨S2x4x128x1, .f32⟩
  | 92 => ⟨S1x2x4x128x128, .f32⟩
  | 93 => ⟨S2x4x128x128, .f32⟩
  | 94 => ⟨S2x4x128x128, .f32⟩
  | 95 => ⟨S2x4x128x128, .f32⟩
  | 96 => ⟨S2x4x128x128, .f32⟩
  | 97 => ⟨S1x2x4x128x1, .f32⟩
  | 98 => ⟨S2x4x128x1, .f32⟩
  | 99 => ⟨S1x2x4x128x128, .f32⟩
  | 100 => ⟨S2x4x128x128, .f32⟩
  | 101 => ⟨S2x4x128x128, .f32⟩
  | 102 => ⟨S2x4x128x128, .f32⟩
  | 103 => ⟨S2x4x128x128, .f32⟩
  | 104 => ⟨S1x2x4x128x1, .f32⟩
  | 105 => ⟨S2x4x128x1, .f32⟩
  | 106 => ⟨S1x2x4x128x128, .f32⟩
  | 107 => ⟨S2x4x128x128, .f32⟩
  | 108 => ⟨S2x4x128x128, .f32⟩
  | 109 => ⟨S2x4x128x128, .f32⟩
  | 110 => ⟨S2x4x128x128, .f32⟩
  | 111 => ⟨S1x2x4x128x1, .f32⟩
  | 112 => ⟨S2x4x128x1, .f32⟩
  | 113 => ⟨S1x2x4x128x128, .f32⟩
  | 114 => ⟨S2x4x128x128, .f32⟩
  | 115 => ⟨S2x4x128x128, .f32⟩
  | 116 => ⟨S2x4x128x128, .f32⟩
  | 117 => ⟨S2x4x128x128, .f32⟩
  | 118 => ⟨S1x2x4x128x1, .f32⟩
  | 119 => ⟨S2x4x128x1, .f32⟩
  | 120 => ⟨S1x2x4x128x128, .f32⟩
  | 121 => ⟨S2x4x128x128, .f32⟩
  | 122 => ⟨S2x4x128x128, .f32⟩
  | 123 => ⟨S2x4x128x128, .f32⟩
  | 124 => ⟨S2x4x128x128, .f32⟩
  | 125 => ⟨S1x2x4x128x1, .f32⟩
  | 126 => ⟨S2x4x128x1, .f32⟩
  | 127 => ⟨S1x2x4x128x128, .f32⟩
  | _ => ⟨S2x2048x6656, .bf16⟩

abbrev hbmTy0_2 (i : Nat) : BufTy := match i % 128 with
  | 0 => ⟨S2x4x128x128, .f32⟩
  | 1 => ⟨S2x4x128x128, .f32⟩
  | 2 => ⟨S2x4x128x128, .f32⟩
  | 3 => ⟨S2x4x128x128, .f32⟩
  | 4 => ⟨S1x2x4x128x1, .f32⟩
  | 5 => ⟨S2x4x128x1, .f32⟩
  | 6 => ⟨S1x2x4x128x128, .f32⟩
  | 7 => ⟨S2x4x128x128, .f32⟩
  | 8 => ⟨S2x4x128x128, .f32⟩
  | 9 => ⟨S2x4x128x128, .f32⟩
  | 10 => ⟨S2x4x128x128, .f32⟩
  | 11 => ⟨S1x2x4x128x1, .f32⟩
  | 12 => ⟨S2x4x128x1, .f32⟩
  | 13 => ⟨S1x2x4x128x128, .f32⟩
  | 14 => ⟨S2x4x128x128, .f32⟩
  | 15 => ⟨S2x4x128x128, .f32⟩
  | 16 => ⟨S2x4x128x128, .f32⟩
  | 17 => ⟨S2x4x128x128, .f32⟩
  | 18 => ⟨S1x2x4x128x1, .f32⟩
  | 19 => ⟨S2x4x128x1, .f32⟩
  | 20 => ⟨S1x2x4x128x128, .f32⟩
  | 21 => ⟨S2x4x128x128, .f32⟩
  | 22 => ⟨S2x4x128x128, .f32⟩
  | 23 => ⟨S2x4x128x128, .f32⟩
  | 24 => ⟨S2x4x128x128, .f32⟩
  | 25 => ⟨S1x2x4x128x1, .f32⟩
  | 26 => ⟨S2x4x128x1, .f32⟩
  | 27 => ⟨S1x2x4x128x128, .f32⟩
  | 28 => ⟨S2x4x128x128, .f32⟩
  | 29 => ⟨S2x4x128x128, .f32⟩
  | 30 => ⟨S2x4x128x128, .f32⟩
  | 31 => ⟨S2x4x128x128, .f32⟩
  | 32 => ⟨S1x2x4x128x1, .f32⟩
  | 33 => ⟨S2x4x128x1, .f32⟩
  | 34 => ⟨S1x2x4x128x128, .f32⟩
  | 35 => ⟨S2x4x128x128, .f32⟩
  | 36 => ⟨S2x4x128x128, .f32⟩
  | 37 => ⟨S2x4x128x128, .f32⟩
  | 38 => ⟨S2x4x128x128, .f32⟩
  | 39 => ⟨S1x2x4x128x1, .f32⟩
  | 40 => ⟨S2x4x128x1, .f32⟩
  | 41 => ⟨S1x2x4x128x128, .f32⟩
  | 42 => ⟨S2x4x128x128, .f32⟩
  | 43 => ⟨S2x4x128x128, .f32⟩
  | 44 => ⟨S2x4x128x128, .f32⟩
  | 45 => ⟨S2x4x128x128, .f32⟩
  | 46 => ⟨S1x2x4x128x1, .f32⟩
  | 47 => ⟨S2x4x128x1, .f32⟩
  | 48 => ⟨S1x2x4x128x128, .f32⟩
  | 49 => ⟨S2x4x128x128, .f32⟩
  | 50 => ⟨S2x4x128x128, .f32⟩
  | 51 => ⟨S2x4x128x128, .f32⟩
  | 52 => ⟨S2x4x128x128, .f32⟩
  | 53 => ⟨S1x2x4x128x1, .f32⟩
  | 54 => ⟨S2x4x128x1, .f32⟩
  | 55 => ⟨S1x2x4x128x128, .f32⟩
  | 56 => ⟨S2x4x128x128, .f32⟩
  | 57 => ⟨S2x4x128x128, .f32⟩
  | 58 => ⟨S2x4x128x128, .f32⟩
  | 59 => ⟨S2x4x128x128, .f32⟩
  | 60 => ⟨S1x2x4x128x128, .f32⟩
  | 61 => ⟨S1x2x4x128x128, .f32⟩
  | 62 => ⟨S1x2x4x128x128, .f32⟩
  | 63 => ⟨S1x2x4x128x128, .f32⟩
  | 64 => ⟨S1x2x4x128x128, .f32⟩
  | 65 => ⟨S1x2x4x128x128, .f32⟩
  | 66 => ⟨S1x2x4x128x128, .f32⟩
  | 67 => ⟨S1x2x4x128x128, .f32⟩
  | 68 => ⟨S1x2x4x128x128, .f32⟩
  | 69 => ⟨S1x2x4x128x128, .f32⟩
  | 70 => ⟨S1x2x4x128x128, .f32⟩
  | 71 => ⟨S1x2x4x128x128, .f32⟩
  | 72 => ⟨S1x2x4x128x128, .f32⟩
  | 73 => ⟨S1x2x4x128x128, .f32⟩
  | 74 => ⟨S1x2x4x128x128, .f32⟩
  | 75 => ⟨S1x2x4x128x128, .f32⟩
  | 76 => ⟨S1x2x4x128x128, .f32⟩
  | 77 => ⟨S1x2x4x128x128, .f32⟩
  | 78 => ⟨S1x2x4x128x128, .f32⟩
  | 79 => ⟨S1x2x4x128x128, .f32⟩
  | 80 => ⟨S1x2x4x128x128, .f32⟩
  | 81 => ⟨S1x2x4x128x128, .f32⟩
  | 82 => ⟨S1x2x4x128x128, .f32⟩
  | 83 => ⟨S1x2x4x128x128, .f32⟩
  | 84 => ⟨S1x2x4x128x128, .f32⟩
  | 85 => ⟨S1x2x4x128x128, .f32⟩
  | 86 => ⟨S1x2x4x128x128, .f32⟩
  | 87 => ⟨S1x2x4x128x128, .f32⟩
  | 88 => ⟨S1x2x4x128x128, .f32⟩
  | 89 => ⟨S1x2x4x128x128, .f32⟩
  | 90 => ⟨S1x2x4x128x128, .f32⟩
  | 91 => ⟨S1x2x4x128x128, .f32⟩
  | 92 => ⟨S16x2x4x128x128, .f32⟩
  | 93 => ⟨S16x2x4x128x128, .f32⟩
  | 94 => ⟨S32x2x4x128x128, .f32⟩
  | 95 => ⟨S32x2x4x128x128, .f32⟩
  | 96 => ⟨S2x4x32x128x128, .f32⟩
  | 97 => ⟨S2x2048x6656, .bf16⟩
  | 98 => ⟨S2x512, .f32⟩
  | 99 => ⟨S2x4x1x128, .f32⟩
  | _ => ⟨S2x2048x6656, .bf16⟩

abbrev hbmTy (i : Nat) : BufTy := match i / 128 with
  | 0 => hbmTy0_0 i
  | 1 => hbmTy0_1 i
  | 2 => hbmTy0_2 i
  | _ => ⟨S2x2048x6656, .bf16⟩

abbrev bufTy : (tb : Table) → Fin (tcTables nBuf tb) → BufTy
  | .hbm, ⟨i, _⟩ => hbmTy i
  | .local _ .vmem, ⟨0, _⟩ => ⟨S2x64x512, .bf16⟩
  | .local _ .vmem, ⟨1, _⟩ => ⟨S2x64x512, .bf16⟩
  | .local _ .vmem, ⟨2, _⟩ => ⟨S2x64x512, .bf16⟩
  | .local _ .vmem, ⟨3, _⟩ => ⟨S2x64x512, .bf16⟩
  | .local _ .vmem, ⟨4, _⟩ => ⟨S2x64x512, .bf16⟩
  | .local _ .vmem, ⟨5, _⟩ => ⟨S2x64x512, .bf16⟩
  | .local _ .vmem, ⟨6, _⟩ => ⟨S2x64x512, .bf16⟩
  | .local _ .vmem, ⟨7, _⟩ => ⟨S2x64x512, .bf16⟩
  | .local _ .vmem, ⟨8, _⟩ => ⟨S2x512, .f32⟩
  | .local _ .vmem, ⟨9, _⟩ => ⟨S1x128, .f32⟩
  | .local _ .vmem, ⟨10, _⟩ => ⟨S2x4x1x128x128, .f32⟩
  | .local _ .vmem, ⟨11, _⟩ => ⟨S2x4x1x128x128, .f32⟩
  | .local _ .vmem, ⟨12, _⟩ => ⟨S2x64x512, .bf16⟩
  | .local _ .vmem, ⟨13, _⟩ => ⟨S2x64x512, .bf16⟩
  | .local _ .vmem, ⟨14, _⟩ => ⟨S2x64x1024, .bf16⟩
  | .local _ .vmem, ⟨15, _⟩ => ⟨S2x64x1024, .bf16⟩
  | .local _ .vmem, ⟨16, _⟩ => ⟨S2x64x512, .bf16⟩
  | .local _ .vmem, ⟨17, _⟩ => ⟨S2x64x512, .bf16⟩
  | .local _ .vmem, ⟨18, _⟩ => ⟨S3x2x64x1024, .bf16⟩
  | .local _ .vmem, ⟨19, _⟩ => ⟨S3x2x64x1024, .bf16⟩
  | .local _ .vmem, ⟨20, _⟩ => ⟨S2x64x6656, .bf16⟩
  | .local _ .vmem, ⟨21, _⟩ => ⟨S2x64x6656, .bf16⟩
  | .local _ .vmem, ⟨22, _⟩ => ⟨S2x512, .f32⟩
  | .local _ .vmem, ⟨23, _⟩ => ⟨S2x4x1x128, .f32⟩
  | .local _ .vmem, ⟨24, _⟩ => ⟨S2x4x128x128, .f32⟩
  | _, _ => ⟨S2x2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_call0_cst : Ref sig .tc := ⟨.hbm, 24, rfl⟩
abbrev main_call0_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call2_call0_cst : Ref sig .tc := ⟨.hbm, 72, rfl⟩
abbrev main_call2_call0_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_6 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_7 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_v248 : Ref sig .tc := ⟨.hbm, 276, rfl⟩
abbrev main_v249 : Ref sig .tc := ⟨.hbm, 277, rfl⟩
abbrev main_v250 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_v254 : Ref sig .tc := ⟨.hbm, 282, rfl⟩
abbrev main_v255 : Ref sig .tc := ⟨.hbm, 283, rfl⟩
abbrev main_v256 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩
abbrev main_v268 : Ref sig .tc := ⟨.hbm, 296, rfl⟩
abbrev main_v269 : Ref sig .tc := ⟨.hbm, 297, rfl⟩
abbrev main_v270 : Ref sig .tc := ⟨.hbm, 298, rfl⟩
abbrev main_v271 : Ref sig .tc := ⟨.hbm, 299, rfl⟩
abbrev main_v272 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_v289 : Ref sig .tc := ⟨.hbm, 317, rfl⟩
abbrev main_v290 : Ref sig .tc := ⟨.hbm, 318, rfl⟩
abbrev main_v291 : Ref sig .tc := ⟨.hbm, 319, rfl⟩
abbrev main_v292 : Ref sig .tc := ⟨.hbm, 320, rfl⟩
abbrev main_v293 : Ref sig .tc := ⟨.hbm, 321, rfl⟩
abbrev main_v294 : Ref sig .tc := ⟨.hbm, 322, rfl⟩
abbrev main_v295 : Ref sig .tc := ⟨.hbm, 323, rfl⟩
abbrev main_v296 : Ref sig .tc := ⟨.hbm, 324, rfl⟩
abbrev main_v297 : Ref sig .tc := ⟨.hbm, 325, rfl⟩
abbrev main_v298 : Ref sig .tc := ⟨.hbm, 326, rfl⟩
abbrev main_v299 : Ref sig .tc := ⟨.hbm, 327, rfl⟩
abbrev main_v300 : Ref sig .tc := ⟨.hbm, 328, rfl⟩
abbrev main_v301 : Ref sig .tc := ⟨.hbm, 329, rfl⟩
abbrev main_v302 : Ref sig .tc := ⟨.hbm, 330, rfl⟩
abbrev main_v303 : Ref sig .tc := ⟨.hbm, 331, rfl⟩
abbrev main_v304 : Ref sig .tc := ⟨.hbm, 332, rfl⟩
abbrev main_v305 : Ref sig .tc := ⟨.hbm, 333, rfl⟩
abbrev main_v306 : Ref sig .tc := ⟨.hbm, 334, rfl⟩
abbrev main_v307 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_v311 : Ref sig .tc := ⟨.hbm, 339, rfl⟩
abbrev main_v312 : Ref sig .tc := ⟨.hbm, 340, rfl⟩
abbrev main_v313 : Ref sig .tc := ⟨.hbm, 341, rfl⟩
abbrev main_v314 : Ref sig .tc := ⟨.hbm, 342, rfl⟩
abbrev main_v315 : Ref sig .tc := ⟨.hbm, 343, rfl⟩
abbrev main_v316 : Ref sig .tc := ⟨.hbm, 344, rfl⟩
abbrev main_v317 : Ref sig .tc := ⟨.hbm, 345, rfl⟩
abbrev main_v318 : Ref sig .tc := ⟨.hbm, 346, rfl⟩
abbrev main_v319 : Ref sig .tc := ⟨.hbm, 347, rfl⟩
abbrev main_v320 : Ref sig .tc := ⟨.hbm, 348, rfl⟩
abbrev main_v321 : Ref sig .tc := ⟨.hbm, 349, rfl⟩
abbrev main_v322 : Ref sig .tc := ⟨.hbm, 350, rfl⟩
abbrev main_v323 : Ref sig .tc := ⟨.hbm, 351, rfl⟩
abbrev main_v324 : Ref sig .tc := ⟨.hbm, 352, rfl⟩
abbrev main_v325_0 : Ref sig .tc := ⟨.hbm, 353, rfl⟩
abbrev main_v325_1 : Ref sig .tc := ⟨.hbm, 354, rfl⟩
abbrev main_v325_2 : Ref sig .tc := ⟨.hbm, 355, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c2_i32 : BitVec 32 := 2#32
  let c0_i32_0 : BitVec 32 := 0#32
  ![c0_i32.toNat, v0.toNat, c2_i32.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c3_i32 : BitVec 32 := 3#32
  let c0_i32_0 : BitVec 32 := 0#32
  ![c0_i32.toNat, v0.toNat, c3_i32.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c4_i32 : BitVec 32 := 4#32
  let c0_i32_0 : BitVec 32 := 0#32
  ![c0_i32.toNat, v0.toNat, c4_i32.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c5_i32 : BitVec 32 := 5#32
  let c0_i32_0 : BitVec 32 := 0#32
  ![c0_i32.toNat, v0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v0.toNat, c0_i32_1.toNat, c0_i32_2.toNat]

def cc0_transform_7 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_11 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S2x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x4x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x2x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x64x6656 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x4x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== AttnFK.lean ====
abbrev S4096x6656 : Shape := ⟨2, ![4096, 6656]⟩
abbrev S2x256x1024 : Shape := ⟨3, ![2, 256, 1024]⟩
abbrev S4096x512 : Shape := ⟨2, ![4096, 512]⟩
abbrev S512x512 : Shape := ⟨2, ![512, 512]⟩
abbrev S1x256x1024 : Shape := ⟨3, ![1, 256, 1024]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x6656, .bf16⟩
  | .hbm, ⟨1, _⟩ => ⟨S2x256x1024, .f32⟩
  | .hbm, ⟨2, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S1x256x1024, .f32⟩
  | .local _ .vmem, ⟨3, _⟩ => ⟨S1x256x1024, .f32⟩
  | .local _ .vmem, ⟨4, _⟩ => ⟨S512x512, .bf16⟩
  | .local _ .vmem, ⟨5, _⟩ => ⟨S512x512, .bf16⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnFRIdeal.lean ====
abbrev S4096x6656 : Shape := ⟨2, ![4096, 6656]⟩
abbrev S2x256x1024 : Shape := ⟨3, ![2, 256, 1024]⟩
abbrev S4096x512 : Shape := ⟨2, ![4096, 512]⟩
abbrev S2x2048x512 : Shape := ⟨3, ![2, 2048, 512]⟩
abbrev S2x256x512 : Shape := ⟨3, ![2, 256, 512]⟩
abbrev S2x256x4x128 : Shape := ⟨4, ![2, 256, 4, 128]⟩
abbrev S2x2048x4x128 : Shape := ⟨4, ![2, 2048, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S2x256x1024, .f32⟩
  | .hbm, ⟨2, _⟩ => ⟨S4096x512, .bf16⟩
  | .hbm, ⟨3, _⟩ => ⟨S4096x512, .f32⟩
  | .hbm, ⟨4, _⟩ => ⟨S2x2048x512, .f32⟩
  | .hbm, ⟨5, _⟩ => ⟨S2x256x512, .f32⟩
  | .hbm, ⟨6, _⟩ => ⟨S2x256x512, .f32⟩
  | .hbm, ⟨7, _⟩ => ⟨S2x256x4x128, .f32⟩
  | .hbm, ⟨8, _⟩ => ⟨S2x256x4x128, .f32⟩
  | .hbm, ⟨9, _⟩ => ⟨S2x2048x4x128, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S_, .f32⟩
  | .hbm, ⟨17, _⟩ => ⟨S2x4x2048, .f32⟩
  | .hbm, ⟨18, _⟩ => ⟨S2x4x2048, .f32⟩
  | .hbm, ⟨19, _⟩ => ⟨S2x4x2048x1, .f32⟩
  | .hbm, ⟨20, _⟩ => ⟨S2x4x2048x256, .f32⟩
  | .hbm, ⟨21, _⟩ => ⟨S2x4x2048x256, .f32⟩
  | .hbm, ⟨22, _⟩ => ⟨S2x4x2048x256, .f32⟩
  | .hbm, ⟨23, _⟩ => ⟨S_, .f32⟩
  | .hbm, ⟨24, _⟩ => ⟨S2x4x2048, .f32⟩
  | .hbm, ⟨25, _⟩ => ⟨S2x4x2048x1, .f32⟩
  | .hbm, ⟨26, _⟩ => ⟨S2x4x2048x256, .f32⟩
  | .hbm, ⟨27, _⟩ => ⟨S2x4x2048x256, .f32⟩
  | .hbm, ⟨28, _⟩ => ⟨S2x4x128x2048, .f32⟩
  | .hbm, ⟨29, _⟩ => ⟨S2x2048x4x128, .f32⟩
  | .hbm, ⟨30, _⟩ => ⟨S2x2048x512, .f32⟩
  | .hbm, ⟨31, _⟩ => ⟨S4096x512, .f32⟩
  | .hbm, ⟨32, _⟩ => ⟨S4096x512, .bf16⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== NormFK.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormFRIdeal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GmlpFK.lean ====
abbrev S4096x6656 : Shape := ⟨2, ![4096, 6656]⟩
abbrev S1x512 : Shape := ⟨2, ![1, 512]⟩
abbrev S4x128x128 : Shape := ⟨3, ![4, 128, 128]⟩
abbrev S4x128 : Shape := ⟨2, ![4, 128]⟩
abbrev S128x4 : Shape := ⟨2, ![128, 4]⟩
abbrev S_ : Shape := ⟨0, ![]⟩
abbrev S128x128 : Shape := ⟨2, ![128, 128]⟩
abbrev S4096x512 : Shape := ⟨2, ![4096, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x128x128 : Shape := ⟨3, ![1, 128, 128]⟩
abbrev S128x1 : Shape := ⟨2, ![128, 1]⟩

abbrev nBuf : Space → Nat
  | .hbm => 10
  | .vmem => 8
  | .smem => 0
  | _ => 0

abbrev bufTy : (tb : Table) → Fin (tcTables nBuf tb) → BufTy
  | .hbm, ⟨0, _⟩ => ⟨S4096x6656, .bf16⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S_, .i32⟩
  | .hbm, ⟨7, _⟩ => ⟨S_, .f32⟩
  | .hbm, ⟨8, _⟩ => ⟨S128x128, .f32⟩
  | .hbm, ⟨9, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S128x128, .f32⟩
  | .local _ .vmem, ⟨6, _⟩ => ⟨S512x512, .bf16⟩
  | .local _ .vmem, ⟨7, _⟩ => ⟨S512x512, .bf16⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpFRIdeal.lean ====
abbrev S4096x6656 : Shape := ⟨2, ![4096, 6656]⟩
abbrev S1x512 : Shape := ⟨2, ![1, 512]⟩
abbrev S4x128x128 : Shape := ⟨3, ![4, 128, 128]⟩
abbrev S4x128 : Shape := ⟨2, ![4, 128]⟩
abbrev S4096x1024 : Shape := ⟨2, ![4096, 1024]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩

abbrev nBuf : Space → Nat
  | .hbm => 97
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S4x128, .f32⟩
  | .hbm, ⟨5, _⟩ => ⟨S4096x1024, .bf16⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S4096x512, .f32⟩
  | .hbm, ⟨70, _⟩ => ⟨S32x128x4x128, .f32⟩
  | .hbm, ⟨71, _⟩ => ⟨S_, .i1⟩
  | .hbm, ⟨72, _⟩ => ⟨S128x128, .i1⟩
  | .hbm, ⟨73, _⟩ => ⟨S128x128, .i32⟩
  | .hbm, ⟨74, _⟩ => ⟨S_, .i32⟩
  | .hbm, ⟨75, _⟩ => ⟨S128x128, .i32⟩
  | .hbm, ⟨76, _⟩ => ⟨S128x128, .i32⟩
  | .hbm, ⟨77, _⟩ => ⟨S128x128, .i32⟩
  | .hbm, ⟨78, _⟩ => ⟨S128x128, .i1⟩
  | .hbm, ⟨79, _⟩ => ⟨S_, .i1⟩
  | .hbm, ⟨80, _⟩ => ⟨S128x128, .i1⟩
  | .hbm, ⟨81, _⟩ => ⟨S128x128, .i1⟩
  | .hbm, ⟨82, _⟩ => ⟨S1x128x128, .i1⟩
  | .hbm, ⟨83, _⟩ => ⟨S_, .i32⟩
  | .hbm, ⟨84, _⟩ => ⟨S_, .f32⟩
  | .hbm, ⟨85, _⟩ => ⟨S4x128x128, .i1⟩
  | .hbm, ⟨86, _⟩ => ⟨S4x128x128, .f32⟩
  | .hbm, ⟨87, _⟩ => ⟨S4x128x128, .f32⟩
  | .hbm, ⟨88, _⟩ => ⟨S4x32x128x128, .f32⟩
  | .hbm, ⟨89, _⟩ => ⟨S32x128x4x128, .f32⟩
  | .hbm, ⟨90, _⟩ => ⟨S128x4, .f32⟩
  | .hbm, ⟨91, _⟩ => ⟨S1x128x4x1, .f32⟩
  | .hbm, ⟨92, _⟩ => ⟨S32x128x4x128, .f32⟩
  | .hbm, ⟨93, _⟩ => ⟨S32x128x4x128, .f32⟩
  | .hbm, ⟨94, _⟩ => ⟨S4096x512, .f32⟩
  | .hbm, ⟨95, _⟩ => ⟨S4096x512, .f32⟩
  | .hbm, ⟨96, _⟩ => ⟨S4096x512, .bf16⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c : Ref sig .tc := ⟨.hbm, 71, rfl⟩
abbrev main_v53 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_c_0 : Ref sig .tc := ⟨.hbm, 79, rfl⟩
abbrev main_call0_v5 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== MergeFK.lean ====
abbrev S4096x512 : Shape := ⟨2, ![4096, 512]⟩
abbrev S3x512x1024 : Shape := ⟨3, ![3, 512, 1024]⟩
abbrev S4096x6656 : Shape := ⟨2, ![4096, 6656]⟩
abbrev S1024x1024 : Shape := ⟨2, ![1024, 1024]⟩
abbrev S4096x1024 : Shape := ⟨2, ![4096, 1024]⟩
abbrev S1x1024 : Shape := ⟨2, ![1, 1024]⟩
abbrev S1x512x1024 : Shape := ⟨3, ![1, 512, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 21
  | .vmem => 31
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .f32⟩
  | .hbm, ⟨4, _⟩ => ⟨S4096x6656, .bf16⟩
  | .hbm, ⟨5, _⟩ => ⟨S1024x1024, .f32⟩
  | .hbm, ⟨6, _⟩ => ⟨S4096x1024, .f32⟩
  | .hbm, ⟨7, _⟩ => ⟨S1x1024, .f32⟩
  | .hbm, ⟨8, _⟩ => ⟨S1x512x1024, .f32⟩
  | .hbm, ⟨9, _⟩ => ⟨S512x1024, .f32⟩
  | .hbm, ⟨10, _⟩ => ⟨S512x1024, .bf16⟩
  | .hbm, ⟨11, _⟩ => ⟨S1x512x1024, .f32⟩
  | .hbm, ⟨12, _⟩ => ⟨S512x1024, .f32⟩
  | .hbm, ⟨13, _⟩ => ⟨S512x1024, .bf16⟩
  | .hbm, ⟨14, _⟩ => ⟨S1x512x1024, .f32⟩
  | .hbm, ⟨15, _⟩ => ⟨S512x1024, .f32⟩
  | .hbm, ⟨16, _⟩ => ⟨S512x1024, .bf16⟩
  | .hbm, ⟨17, _⟩ => ⟨S1024x1024, .bf16⟩
  | .hbm, ⟨18, _⟩ => ⟨S4096x1024, .bf16⟩
  | .hbm, ⟨19, _⟩ => ⟨S4096x1024, .f32⟩
  | .hbm, ⟨20, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S512x1024, .bf16⟩
  | .local _ .vmem, ⟨26, _⟩ => ⟨S512x1024, .bf16⟩
  | .local _ .vmem, ⟨27, _⟩ => ⟨S512x1024, .f32⟩
  | .local _ .vmem, ⟨28, _⟩ => ⟨S512x1024, .f32⟩
  | .local _ .vmem, ⟨29, _⟩ => ⟨S512x1024, .bf16⟩
  | .local _ .vmem, ⟨30, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_9 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_10 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_11 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeFRIdeal.lean ====
abbrev S4096x512 : Shape := ⟨2, ![4096, 512]⟩
abbrev S3x512x1024 : Shape := ⟨3, ![3, 512, 1024]⟩
abbrev S4096x6656 : Shape := ⟨2, ![4096, 6656]⟩
abbrev S1024x1024 : Shape := ⟨2, ![1024, 1024]⟩
abbrev S4096x1024 : Shape := ⟨2, ![4096, 1024]⟩
abbrev S1x1024 : Shape := ⟨2, ![1, 1024]⟩
abbrev S4096x3072 : Shape := ⟨2, ![4096, 3072]⟩
abbrev S1x4096x512 : Shape := ⟨3, ![1, 4096, 512]⟩
abbrev S3x4096x512 : Shape := ⟨3, ![3, 4096, 512]⟩
abbrev S3x4096x1024 : Shape := ⟨3, ![3, 4096, 1024]⟩
abbrev S4096x3x1024 : Shape := ⟨3, ![4096, 3, 1024]⟩
abbrev S_ : Shape := ⟨0, ![]⟩
abbrev S4096 : Shape := ⟨1, ![4096]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .f32⟩
  | .hbm, ⟨4, _⟩ => ⟨S4096x6656, .bf16⟩
  | .hbm, ⟨5, _⟩ => ⟨S1024x1024, .f32⟩
  | .hbm, ⟨6, _⟩ => ⟨S4096x1024, .f32⟩
  | .hbm, ⟨7, _⟩ => ⟨S1x1024, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x3072, .bf16⟩
  | .hbm, ⟨12, _⟩ => ⟨S4096x3072, .f32⟩
  | .hbm, ⟨13, _⟩ => ⟨S1x4096x512, .f32⟩
  | .hbm, ⟨14, _⟩ => ⟨S1x4096x512, .f32⟩
  | .hbm, ⟨15, _⟩ => ⟨S1x4096x512, .f32⟩
  | .hbm, ⟨16, _⟩ => ⟨S3x4096x512, .f32⟩
  | .hbm, ⟨17, _⟩ => ⟨S3x4096x1024, .f32⟩
  | .hbm, ⟨18, _⟩ => ⟨S4096x3x1024, .f32⟩
  | .hbm, ⟨19, _⟩ => ⟨S4096x3x1024, .f32⟩
  | .hbm, ⟨20, _⟩ => ⟨S4096x3x1024, .f32⟩
  | .hbm, ⟨21, _⟩ => ⟨S_, .f32⟩
  | .hbm, ⟨22, _⟩ => ⟨S4096x3x1024, .f32⟩
  | .hbm, ⟨23, _⟩ => ⟨S4096x3x1024, .f32⟩
  | .hbm, ⟨24, _⟩ => ⟨S_, .f32⟩
  | .hbm, ⟨25, _⟩ => ⟨S4096x3x1024, .f32⟩
  | .hbm, ⟨26, _⟩ => ⟨S4096x3x1024, .f32⟩
  | .hbm, ⟨27, _⟩ => ⟨S4096x3x1024, .f32⟩
  | .hbm, ⟨28, _⟩ => ⟨S4096x3x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== ConvFK.lean ====
abbrev S2x2048x1024 : Shape := ⟨3, ![2, 2048, 1024]⟩
abbrev S1024x5632 : Shape := ⟨2, ![1024, 5632]⟩
abbrev S3x2816 : Shape := ⟨2, ![3, 2816]⟩
abbrev S1x2816 : Shape := ⟨2, ![1, 2816]⟩
abbrev S5632x1024 : Shape := ⟨2, ![5632, 1024]⟩
abbrev S2x2048x2816 : Shape := ⟨3, ![2, 2048, 2816]⟩
abbrev S1x2048x1024 : Shape := ⟨3, ![1, 2048, 1024]⟩
abbrev S256x1024 : Shape := ⟨2, ![256, 1024]⟩
abbrev S3x256 : Shape := ⟨2, ![3, 256]⟩
abbrev S1x256 : Shape := ⟨2, ![1, 256]⟩
abbrev S1x2048x256 : Shape := ⟨3, ![1, 2048, 256]⟩
abbrev S1x512x1024 : Shape := ⟨3, ![1, 512, 1024]⟩
abbrev S512x1024 : Shape := ⟨2, ![512, 1024]⟩
abbrev S512x256 : Shape := ⟨2, ![512, 256]⟩
abbrev S8x256 : Shape := ⟨2, ![8, 256]⟩
abbrev S504x256 : Shape := ⟨2, ![504, 256]⟩
abbrev S1x512x256 : Shape := ⟨3, ![1, 512, 256]⟩
abbrev S1x528x1024 : Shape := ⟨3, ![1, 528, 1024]⟩
abbrev S528x1024 : Shape := ⟨2, ![528, 1024]⟩
abbrev S528x256 : Shape := ⟨2, ![528, 256]⟩
abbrev S520x256 : Shape := ⟨2, ![520, 256]⟩

abbrev nBuf : Space → Nat
  | .hbm => 9
  | .vmem => 16
  | .smem => 0
  | _ => 0

abbrev bufTy : (tb : Table) → Fin (tcTables nBuf tb) → BufTy
  | .hbm, ⟨0, _⟩ => ⟨S2x2048x1024, .bf16⟩
  | .hbm, ⟨1, _⟩ => ⟨S1024x5632, .f32⟩
  | .hbm, ⟨2, _⟩ => ⟨S3x2816, .f32⟩
  | .hbm, ⟨3, _⟩ => ⟨S1x2816, .f32⟩
  | .hbm, ⟨4, _⟩ => ⟨S5632x1024, .f32⟩
  | .hbm, ⟨5, _⟩ => ⟨S5632x1024, .bf16⟩
  | .hbm, ⟨6, _⟩ => ⟨S2x2048x2816, .bf16⟩
  | .hbm, ⟨7, _⟩ => ⟨S2x2048x2816, .bf16⟩
  | .hbm, ⟨8, _⟩ => ⟨S2x2048x2816, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x2048x256, .bf16⟩
  | .local _ .vmem, ⟨11, _⟩ => ⟨S1x2048x256, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S1x2048x256, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvFRIdeal.lean ====
abbrev S2x2048x1024 : Shape := ⟨3, ![2, 2048, 1024]⟩
abbrev S1024x5632 : Shape := ⟨2, ![1024, 5632]⟩
abbrev S3x2816 : Shape := ⟨2, ![3, 2816]⟩
abbrev S1x2816 : Shape := ⟨2, ![1, 2816]⟩
abbrev S2x2048x5632 : Shape := ⟨3, ![2, 2048, 5632]⟩
abbrev S2x2048x2816 : Shape := ⟨3, ![2, 2048, 2816]⟩
abbrev S_ : Shape := ⟨0, ![]⟩
abbrev S2x2816 : Shape := ⟨2, ![2, 2816]⟩
abbrev S2x2x2816 : Shape := ⟨3, ![2, 2, 2816]⟩
abbrev S2x2050x2816 : Shape := ⟨3, ![2, 2050, 2816]⟩
abbrev S2816 : Shape := ⟨1, ![2816]⟩
abbrev S1x1x2816 : Shape := ⟨3, ![1, 1, 2816]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S1024x5632, .f32⟩
  | .hbm, ⟨2, _⟩ => ⟨S3x2816, .f32⟩
  | .hbm, ⟨3, _⟩ => ⟨S1x2816, .f32⟩
  | .hbm, ⟨4, _⟩ => ⟨S2x2048x1024, .f32⟩
  | .hbm, ⟨5, _⟩ => ⟨S2x2048x5632, .f32⟩
  | .hbm, ⟨6, _⟩ => ⟨S2x2048x2816, .f32⟩
  | .hbm, ⟨7, _⟩ => ⟨S2x2048x2816, .f32⟩
  | .hbm, ⟨8, _⟩ => ⟨S2x2048x2816, .bf16⟩
  | .hbm, ⟨9, _⟩ => ⟨S2x2048x2816, .bf16⟩
  | .hbm, ⟨10, _⟩ => ⟨S_, .f32⟩
  | .hbm, ⟨11, _⟩ => ⟨S2x2816, .f32⟩
  | .hbm, ⟨12, _⟩ => ⟨S2x2x2816, .f32⟩
  | .hbm, ⟨13, _⟩ => ⟨S2x2050x2816, .f32⟩
  | .hbm, ⟨14, _⟩ => ⟨S1x2816, .f32⟩
  | .hbm, ⟨15, _⟩ => ⟨S2816, .f32⟩
  | .hbm, ⟨16, _⟩ => ⟨S2x2048x2816, .f32⟩
  | .hbm, ⟨17, _⟩ => ⟨S1x2816, .f32⟩
  | .hbm, ⟨18, _⟩ => ⟨S1x1x2816, .f32⟩
  | .hbm, ⟨19, _⟩ => ⟨S2x2048x2816, .f32⟩
  | .hbm, ⟨20, _⟩ => ⟨S2x2048x2816, .f32⟩
  | .hbm, ⟨21, _⟩ => ⟨S1x1x2816, .f32⟩
  | .hbm, ⟨22, _⟩ => ⟨S2x2048x2816, .f32⟩
  | .hbm, ⟨23, _⟩ => ⟨S2x2048x2816, .f32⟩
  | .hbm, ⟨24, _⟩ => ⟨S1x2816, .f32⟩
  | .hbm, ⟨25, _⟩ => ⟨S2816, .f32⟩
  | .hbm, ⟨26, _⟩ => ⟨S2x2048x2816, .f32⟩
  | .hbm, ⟨27, _⟩ => ⟨S1x2816, .f32⟩
  | .hbm, ⟨28, _⟩ => ⟨S1x1x2816, .f32⟩
  | .hbm, ⟨29, _⟩ => ⟨S2x2048x2816, .f32⟩
  | .hbm, ⟨30, _⟩ => ⟨S2x2048x2816, .f32⟩
  | .hbm, ⟨31, _⟩ => ⟨S2x2048x2816, .f32⟩
  | .hbm, ⟨32, _⟩ => ⟨S1x2816, .f32⟩
  | .hbm, ⟨33, _⟩ => ⟨S2816, .f32⟩
  | .hbm, ⟨34, _⟩ => ⟨S2x2048x2816, .f32⟩
  | .hbm, ⟨35, _⟩ => ⟨S1x2816, .f32⟩
  | .hbm, ⟨36, _⟩ => ⟨S1x1x2816, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S_, .f32⟩
  | .hbm, ⟨43, _⟩ => ⟨S2x2048x2816, .f32⟩
  | .hbm, ⟨44, _⟩ => ⟨S2x2048x2816, .f32⟩
  | .hbm, ⟨45, _⟩ => ⟨S_, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2x2048x2816, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== ProjFK.lean ====
abbrev S4096x1024 : Shape := ⟨2, ![4096, 1024]⟩
abbrev S1x1024 : Shape := ⟨2, ![1, 1024]⟩
abbrev S1024x6656 : Shape := ⟨2, ![1024, 6656]⟩
abbrev S6656x1024 : Shape := ⟨2, ![6656, 1024]⟩
abbrev S4096x6656 : Shape := ⟨2, ![4096, 6656]⟩
abbrev S1024x1024 : Shape := ⟨2, ![1024, 1024]⟩
abbrev S1664x1024 : Shape := ⟨2, ![1664, 1024]⟩
abbrev S1024x1664 : Shape := ⟨2, ![1024, 1664]⟩
abbrev S1024 : Shape := ⟨1, ![1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6656, .f32⟩
  | .hbm, ⟨3, _⟩ => ⟨S6656x1024, .f32⟩
  | .hbm, ⟨4, _⟩ => ⟨S6656x1024, .bf16⟩
  | .hbm, ⟨5, _⟩ => ⟨S4096x6656, .bf16⟩
  | .hbm, ⟨6, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1664x1024, .bf16⟩
  | .local _ .vmem, ⟨4, _⟩ => ⟨S1664x1024, .bf16⟩
  | .local _ .vmem, ⟨5, _⟩ => ⟨S1024x1664, .bf16⟩
  | .local _ .vmem, ⟨6, _⟩ => ⟨S1024x1664, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ProjFRIdeal.lean ====
abbrev S4096x1024 : Shape := ⟨2, ![4096, 1024]⟩
abbrev S1x1024 : Shape := ⟨2, ![1, 1024]⟩
abbrev S1024x6656 : Shape := ⟨2, ![1024, 6656]⟩
abbrev S_ : Shape := ⟨0, ![]⟩
abbrev S4096 : Shape := ⟨1, ![4096]⟩
abbrev S4096x1 : Shape := ⟨2, ![4096, 1]⟩
abbrev S4096x6656 : Shape := ⟨2, ![4096, 6656]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6656, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x6656, .f32⟩
  | .hbm, ⟨19, _⟩ => ⟨S4096x6656, .bf16⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== HgrnFK.lean ====
abbrev S2x2048x6656 : Shape := ⟨3, ![2, 2048, 6656]⟩
abbrev S2x512 : Shape := ⟨2, ![2, 512]⟩
abbrev S1x128 : Shape := ⟨2, ![1, 128]⟩
abbrev S2x2048x512 : Shape := ⟨3, ![2, 2048, 512]⟩
abbrev S2x4x32x128x128 : Shape := ⟨5, ![2, 4, 32, 128, 128]⟩
abbrev S2x64x512 : Shape := ⟨3, ![2, 64, 512]⟩
abbrev S2x4x1x128x128 : Shape := ⟨5, ![2, 4, 1, 128, 128]⟩
abbrev S2x4x128x128 : Shape := ⟨4, ![2, 4, 128, 128]⟩
abbrev S1x1x128x128 : Shape := ⟨4, ![1, 1, 128, 128]⟩
abbrev S128x128 : Shape := ⟨2, ![128, 128]⟩
abbrev S1x1x1x128x128 : Shape := ⟨5, ![1, 1, 1, 128, 128]⟩
abbrev S1x64x128 : Shape := ⟨3, ![1, 64, 128]⟩
abbrev S64x128 : Shape := ⟨2, ![64, 128]⟩
abbrev S128x64 : Shape := ⟨2, ![128, 64]⟩
abbrev S128 : Shape := ⟨1, ![128]⟩
abbrev S64x64 : Shape := ⟨2, ![64, 64]⟩
abbrev S64x8x128 : Shape := ⟨3, ![64, 8, 128]⟩
abbrev S64x1x128 : Shape := ⟨3, ![64, 1, 128]⟩
abbrev S8x1x8x128 : Shape := ⟨4, ![8, 1, 8, 128]⟩
abbrev S8x8x8x128 : Shape := ⟨4, ![8, 8, 8, 128]⟩
abbrev S64x8 : Shape := ⟨2, ![64, 8]⟩
abbrev S8x64 : Shape := ⟨2, ![8, 64]⟩
abbrev S64 : Shape := ⟨1, ![64]⟩
abbrev S64x1 : Shape := ⟨2, ![64, 1]⟩

abbrev nBuf : Space → Nat
  | .hbm => 5
  | .vmem => 15
  | .smem => 0
  | _ => 0

abbrev bufTy : (tb : Table) → Fin (tcTables nBuf tb) → BufTy
  | .hbm, ⟨0, _⟩ => ⟨S2x2048x6656, .bf16⟩
  | .hbm, ⟨1, _⟩ => ⟨S2x512, .f32⟩
  | .hbm, ⟨2, _⟩ => ⟨S1x128, .f32⟩
  | .hbm, ⟨3, _⟩ => ⟨S2x2048x512, .bf16⟩
  | .hbm, ⟨4, _⟩ => ⟨S2x4x32x128x128, .f32⟩
  | .local _ .vmem, ⟨0, _⟩ => ⟨S2x64x512, .bf16⟩
  | .local _ .vmem, ⟨1, _⟩ => ⟨S2x64x512, .bf16⟩
  | .local _ .vmem, ⟨2, _⟩ => ⟨S2x64x512, .bf16⟩
  | .local _ .vmem, ⟨3, _⟩ => ⟨S2x64x512, .bf16⟩
  | .local _ .vmem, ⟨4, _⟩ => ⟨S2x64x512, .bf16⟩
  | .local _ .vmem, ⟨5, _⟩ => ⟨S2x64x512, .bf16⟩
  | .local _ .vmem, ⟨6, _⟩ => ⟨S2x64x512, .bf16⟩
  | .local _ .vmem, ⟨7, _⟩ => ⟨S2x64x512, .bf16⟩
  | .local _ .vmem, ⟨8, _⟩ => ⟨S2x512, .f32⟩
  | .local _ .vmem, ⟨9, _⟩ => ⟨S1x128, .f32⟩
  | .local _ .vmem, ⟨10, _⟩ => ⟨S2x64x512, .bf16⟩
  | .local _ .vmem, ⟨11, _⟩ => ⟨S2x64x512, .bf16⟩
  | .local _ .vmem, ⟨12, _⟩ => ⟨S2x4x1x128x128, .f32⟩
  | .local _ .vmem, ⟨13, _⟩ => ⟨S2x4x1x128x128, .f32⟩
  | .local _ .vmem, ⟨14, _⟩ => ⟨S2x4x128x128, .f32⟩
  | _, _ => ⟨S2x2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![c0_i32.toNat, arg0.toNat, c2_i32.toNat]

def cc0_transform_1 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![c0_i32.toNat, arg0.toNat, c3_i32.toNat]

def cc0_transform_2 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![c0_i32.toNat, arg0.toNat, c4_i32.toNat]

def cc0_transform_3 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![c0_i32.toNat, arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage0_0 : Fin 2 → Memref sig .tc .vmem S2x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x4x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DwK.lean ====
abbrev S4096x6656 : Shape := ⟨2, ![4096, 6656]⟩
abbrev S4096x1024 : Shape := ⟨2, ![4096, 1024]⟩
abbrev S6656x512 : Shape := ⟨2, ![6656, 512]⟩
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x6656, .bf16⟩
  | .hbm, ⟨1, _⟩ => ⟨S4096x1024, .bf16⟩
  | .hbm, ⟨2, _⟩ => ⟨S6656x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRIdeal.lean ====
abbrev S4096x6656 : Shape := ⟨2, ![4096, 6656]⟩
abbrev S4096x1024 : Shape := ⟨2, ![4096, 1024]⟩
abbrev S_ : Shape := ⟨0, ![]⟩
abbrev S1024x6656 : Shape := ⟨2, ![1024, 6656]⟩
abbrev S6656x1024 : Shape := ⟨2, ![6656, 1024]⟩
abbrev S6656x512 : Shape := ⟨2, ![6656, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S4096x1024, .bf16⟩
  | .hbm, ⟨2, _⟩ => ⟨S_, .f32⟩
  | .hbm, ⟨3, _⟩ => ⟨S1024x6656, .f32⟩
  | .hbm, ⟨4, _⟩ => ⟨S4096x1024, .f32⟩
  | .hbm, ⟨5, _⟩ => ⟨S4096x6656, .f32⟩
  | .hbm, ⟨6, _⟩ => ⟨S4096x6656, .f32⟩
  | .hbm, ⟨7, _⟩ => ⟨S6656x1024, .f32⟩
  | .hbm, ⟨8, _⟩ => ⟨S1024x6656, .f32⟩
  | .hbm, ⟨9, _⟩ => ⟨S6656x1024, .f32⟩
  | .hbm, ⟨10, _⟩ => ⟨S6656x512, .f32⟩
  | .hbm, ⟨11, _⟩ => ⟨S6656x512, .bf16⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AdamK.lean ====
abbrev S8x832x512 : Shape := ⟨3, ![8, 832, 512]⟩
abbrev S1024x832 : Shape := ⟨2, ![1024, 832]⟩
abbrev S832x1024 : Shape := ⟨2, ![832, 1024]⟩
abbrev S8x208x512 : Shape := ⟨3, ![8, 208, 512]⟩
abbrev S208x1024 : Shape := ⟨2, ![208, 1024]⟩
abbrev S1x208x512 : Shape := ⟨3, ![1, 208, 512]⟩
abbrev S208x512 : Shape := ⟨2, ![208, 512]⟩

abbrev nBuf : Space → Nat
  | .hbm => 12
  | .vmem => 18
  | .smem => 0
  | _ => 0

abbrev bufTy : (tb : Table) → Fin (tcTables nBuf tb) → BufTy
  | .hbm, ⟨0, _⟩ => ⟨S8x832x512, .bf16⟩
  | .hbm, ⟨1, _⟩ => ⟨S8x832x512, .bf16⟩
  | .hbm, ⟨2, _⟩ => ⟨S1024x832, .f32⟩
  | .hbm, ⟨3, _⟩ => ⟨S1024x832, .f32⟩
  | .hbm, ⟨4, _⟩ => ⟨S1024x832, .f32⟩
  | .hbm, ⟨5, _⟩ => ⟨S832x1024, .f32⟩
  | .hbm, ⟨6, _⟩ => ⟨S832x1024, .f32⟩
  | .hbm, ⟨7, _⟩ => ⟨S832x1024, .f32⟩
  | .hbm, ⟨8, _⟩ => ⟨S832x1024, .f32⟩
  | .hbm, ⟨9, _⟩ => ⟨S832x1024, .f32⟩
  | .hbm, ⟨10, _⟩ => ⟨S832x1024, .f32⟩
  | .hbm, ⟨11, _⟩ => ⟨S832x1024, .f32⟩
  | .local _ .vmem, ⟨0, _⟩ => ⟨S8x208x512, .bf16⟩
  | .local _ .vmem, ⟨1, _⟩ => ⟨S8x208x512, .bf16⟩
  | .local _ .vmem, ⟨2, _⟩ => ⟨S8x208x512, .bf16⟩
  | .local _ .vmem, ⟨3, _⟩ => ⟨S8x208x512, .bf16⟩
  | .local _ .vmem, ⟨4, _⟩ => ⟨S208x1024, .f32⟩
  | .local _ .vmem, ⟨5, _⟩ => ⟨S208x1024, .f32⟩
  | .local _ .vmem, ⟨6, _⟩ => ⟨S208x1024, .f32⟩
  | .local _ .vmem, ⟨7, _⟩ => ⟨S208x1024, .f32⟩
  | .local _ .vmem, ⟨8, _⟩ => ⟨S208x1024, .f32⟩
  | .local _ .vmem, ⟨9, _⟩ => ⟨S208x1024, .f32⟩
  | .local _ .vmem, ⟨10, _⟩ => ⟨S208x1024, .f32⟩
  | .local _ .vmem, ⟨11, _⟩ => ⟨S208x1024, .f32⟩
  | .local _ .vmem, ⟨12, _⟩ => ⟨S208x1024, .f32⟩
  | .local _ .vmem, ⟨13, _⟩ => ⟨S208x1024, .f32⟩
  | .local _ .vmem, ⟨14, _⟩ => ⟨S208x1024, .f32⟩
  | .local _ .vmem, ⟨15, _⟩ => ⟨S208x1024, .f32⟩
  | .local _ .vmem, ⟨16, _⟩ => ⟨S208x1024, .f32⟩
  | .local _ .vmem, ⟨17, _⟩ => ⟨S208x1024, .f32⟩
  | _, _ => ⟨S8x832x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x208x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x208x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S208x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamRIdeal.lean ====
abbrev S8x832x512 : Shape := ⟨3, ![8, 832, 512]⟩
abbrev S1024x832 : Shape := ⟨2, ![1024, 832]⟩
abbrev S8x832x1024 : Shape := ⟨3, ![8, 832, 1024]⟩
abbrev S_ : Shape := ⟨0, ![]⟩
abbrev S832x1024 : Shape := ⟨2, ![832, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x832x512, .bf16⟩
  | .hbm, ⟨1, _⟩ => ⟨S8x832x512, .bf16⟩
  | .hbm, ⟨2, _⟩ => ⟨S1024x832, .f32⟩
  | .hbm, ⟨3, _⟩ => ⟨S1024x832, .f32⟩
  | .hbm, ⟨4, _⟩ => ⟨S1024x832, .f32⟩
  | .hbm, ⟨5, _⟩ => ⟨S8x832x1024, .bf16⟩
  | .hbm, ⟨6, _⟩ => ⟨S8x832x1024, .f32⟩
  | .hbm, ⟨7, _⟩ => ⟨S_, .f32⟩
  | .hbm, ⟨8, _⟩ => ⟨S832x1024, .f32⟩
  | .hbm, ⟨9, _⟩ => ⟨S1024x832, .f32⟩
  | .hbm, ⟨10, _⟩ => ⟨S_, .f32⟩
  | .hbm, ⟨11, _⟩ => ⟨S1024x832, .f32⟩
  | .hbm, ⟨12, _⟩ => ⟨S1024x832, .f32⟩
  | .hbm, ⟨13, _⟩ => ⟨S_, .f32⟩
  | .hbm, ⟨14, _⟩ => ⟨S1024x832, .f32⟩
  | .hbm, ⟨15, _⟩ => ⟨S1024x832, .f32⟩
  | .hbm, ⟨16, _⟩ => ⟨S1024x832, .f32⟩
  | .hbm, ⟨17, _⟩ => ⟨S_, .f32⟩
  | .hbm, ⟨18, _⟩ => ⟨S1024x832, .f32⟩
  | .hbm, ⟨19, _⟩ => ⟨S1024x832, .f32⟩
  | .hbm, ⟨20, _⟩ => ⟨S1024x832, .f32⟩
  | .hbm, ⟨21, _⟩ => ⟨S_, .f32⟩
  | .hbm, ⟨22, _⟩ => ⟨S1024x832, .f32⟩
  | .hbm, ⟨23, _⟩ => ⟨S1024x832, .f32⟩
  | .hbm, ⟨24, _⟩ => ⟨S1024x832, .f32⟩
  | .hbm, ⟨25, _⟩ => ⟨S_, .f32⟩
  | .hbm, ⟨26, _⟩ => ⟨S1024x832, .f32⟩
  | .hbm, ⟨27, _⟩ => ⟨S1024x832, .f32⟩
  | .hbm, ⟨28, _⟩ => ⟨S_, .f32⟩
  | .hbm, ⟨29, _⟩ => ⟨S1024x832, .f32⟩
  | .hbm, ⟨30, _⟩ => ⟨S1024x832, .f32⟩
  | .hbm, ⟨31, _⟩ => ⟨S1024x832, .f32⟩
  | .hbm, ⟨32, _⟩ => ⟨S_, .f32⟩
  | .hbm, ⟨33, _⟩ => ⟨S1024x832, .f32⟩
  | .hbm, ⟨34, _⟩ => ⟨S1024x832, .f32⟩
  | .hbm, ⟨35, _⟩ => ⟨S1024x832, .f32⟩
  | .hbm, ⟨36, _⟩ => ⟨S_, .f32⟩
  | .hbm, ⟨37, _⟩ => ⟨S1024x832, .f32⟩
  | .hbm, ⟨38, _⟩ => ⟨S1024x832, .f32⟩
  | .hbm, ⟨39, _⟩ => ⟨S1024x832, .f32⟩
  | .hbm, ⟨40, _⟩ => ⟨S_, .f32⟩
  | .hbm, ⟨41, _⟩ => ⟨S1024x832, .f32⟩
  | .hbm, ⟨42, _⟩ => ⟨S1024x832, .f32⟩
  | .hbm, ⟨43, _⟩ => ⟨S832x1024, .f32⟩
  | .hbm, ⟨44, _⟩ => ⟨S832x1024, .f32⟩
  | .hbm, ⟨45, _⟩ => ⟨S832x1024, .f32⟩
  | _, _ => ⟨S8x832x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Proof.Shared.Real.lean ====
/- Finite arrays as arrays of reals: what the finiteness preconditions give, and how the exact operations act on reals. -/
module

public import Idealize.ShloMosaic.Lib.Pointwise
public import Idealize.ShloMosaic.PureOps.Ideal
public import Idealize.ShloMosaic.Lib.StableHlo

@[expose] public section

set_option maxRecDepth 16384

noncomputable section

namespace Cert.Hand

open Idealize.ShloMosaic

/-! ## Finite entries are reals -/

/-- The bit pattern of infinity reads as the top element. -/
theorem lit_inf : Ideal.ofBits .f32 0x7F800000#32 = ⊤ := by
  simp [Ideal.ofBits, Ideal.ieee]

/-- An extended real whose absolute value is below infinity is a real. -/
theorem real_of_abs_lt (x : EReal) (h : max x (-x) < ⊤) : ∃ r : ℝ, x = (r : EReal) := by
  induction x using EReal.rec with
  | coe r => exact ⟨r, rfl⟩
  | top => simp at h
  | bot => simp at h

/-- An array whose entries all compare finite is an array of reals. -/
theorem real_of_finite {s : Shape} {φ : FTy} (x : FVec Ideal s φ)
    (h : ∀ i, BitVec.ofBool (decide (FloatOps.absf (x i) < (⊤ : EReal))) = 1#1) :
    ∃ a : s.Idx → ℝ, x = fun i => ((a i : ℝ) : EReal) := by
  have hx : ∀ i, ∃ r : ℝ, x i = (r : EReal) := fun i => real_of_abs_lt (x i) (by
    by_contra hc
    have := h i
    rw [show (FloatOps.absf (x i) : EReal) = max (x i) (-(x i)) from rfl] at this
    simp [hc] at this)
  choose a ha using hx
  exact ⟨a, funext ha⟩

/-- What a finiteness precondition says of one argument: it is an array of reals. -/
theorem real_of_below {s : Shape} {φ : FTy} (x y : FVec Ideal s φ) (hy : ∀ i, y i = (⊤ : EReal))
    (h : cmpf .olt (Host.absf x) y = fun _ => 1#1) : ∃ a : s.Idx → ℝ, x = fun i => ((a i : ℝ) : EReal) :=
  real_of_finite x fun i => by
    have := congrFun h i
    rwa [show cmpf .olt (Host.absf x) y i = BitVec.ofBool (decide (FloatOps.absf (x i) < y i)) from rfl, hy] at this

/-! ## The literals -/

theorem lit_inf16 : Ideal.ofBits .bf16 0x7F80#16 = ⊤ := by
  simp [Ideal.ofBits, Ideal.ieee]

theorem lit_zero : Ideal.ofBits .f32 0x00000000#32 = ((0 : ℝ) : EReal) := by
  simp [Ideal.ofBits, Ideal.ieee]

theorem lit_1024 : Ideal.ofBits .f32 0x44800000#32 = ((1024 : ℝ) : EReal) := by
  simp [Ideal.ofBits, Ideal.ieee]
  norm_cast
  norm_num

/-- The norms' epsilon as a real. -/
def eps : ℝ := 8796093 * (2 ^ 43)⁻¹

theorem eps_pos : 0 < eps := by unfold eps; positivity

theorem lit_eps : Ideal.ofBits .f32 0x358637BD#32 = ((eps : ℝ) : EReal) := by
  simp [Ideal.ofBits, Ideal.ieee, eps]

theorem lit_half : Ideal.ofBits .f32 0x3F000000#32 = ((1 / 2 : ℝ) : EReal) := by
  simp [Ideal.ofBits, Ideal.ieee]
  norm_cast
  norm_num

theorem lit_two : Ideal.ofBits .f32 0x40000000#32 = ((2 : ℝ) : EReal) := by
  simp [Ideal.ofBits, Ideal.ieee]
  norm_cast
  norm_num

theorem lit_inv_1024 : Ideal.ofBits .f32 0x3A800000#32 = ((1 / 1024 : ℝ) : EReal) := by
  simp [Ideal.ofBits, Ideal.ieee]
  norm_cast
  norm_num

theorem lit_one : Ideal.ofBits .f32 0x3F800000#32 = ((1 : ℝ) : EReal) := by
  simp [Ideal.ofBits, Ideal.ieee]
  rw [← EReal.coe_mul]
  norm_num

theorem lit_neg_half : Ideal.ofBits .f32 0xBF000000#32 = ((-(1 / 2) : ℝ) : EReal) := by
  simp [Ideal.ofBits, Ideal.ieee]
  norm_cast
  norm_num

/-! ## The exact operations on reals -/

/-- A finite sum of reals, read in the extended reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of reals, the divisor nonzero. -/
theorem div_real (x y : ℝ) (h : y ≠ 0) : Ideal.div (x : EReal) (y : EReal) = ((x / y : ℝ) : EReal) := by
  rw [Ideal.div_coe h, ← EReal.coe_mul, mul_one_div]

/-- The reciprocal square root of a positive real. -/
theorem rsqrt_real (x : ℝ) (h : 0 < x) : Ideal.rsqrt (x : EReal) = (((√x)⁻¹ : ℝ) : EReal) := by
  rw [Ideal.rsqrt_coe, if_neg (not_lt.mpr h.le), if_neg h.ne']

theorem add_real (x y : ℝ) : (x : EReal) + y = ((x + y : ℝ) : EReal) := (EReal.coe_add x y).symm
theorem sub_real (x y : ℝ) : (x : EReal) - y = ((x - y : ℝ) : EReal) := (EReal.coe_sub x y).symm
theorem mul_real (x y : ℝ) : (x : EReal) * y = ((x * y : ℝ) : EReal) := (EReal.coe_mul x y).symm
theorem neg_real (x : ℝ) : -(x : EReal) = ((-x : ℝ) : EReal) := (EReal.coe_neg x).symm

/-- The logistic function of a real. -/
def sigm (x : ℝ) : ℝ := 1 / (1 + Real.exp (-x))

theorem logistic_real (x : ℝ) : Ideal.logistic (x : EReal) = ((sigm x : ℝ) : EReal) := by
  unfold Ideal.logistic sigm
  have h : (0 : ℝ) < 1 + Real.exp (-x) := by positivity
  rw [neg_real, show Ideal.exp ((-x : ℝ) : EReal) = ((Real.exp (-x) : ℝ) : EReal) from rfl, ← EReal.coe_one, add_real,
    div_real _ _ h.ne']

end Cert.Hand

end
-- ==== Proof.Shared.Rms.lean ====
/- The gradient of a root-mean-square norm along one row of 1024 numbers: the form the kernels write out by hand
   against the form the derivative of the forward lines takes. -/
module

public import proofs.«01_k».proof.Proof.Shared.Real

@[expose] public section

noncomputable section

namespace Cert.Hand

open Idealize.ShloMosaic

/-- The mean square of a row plus epsilon. -/
def meanSq (x : Fin 1024 → ℝ) : ℝ := (∑ k, x k * x k) / 1024 + eps

theorem meanSq_pos (x : Fin 1024 → ℝ) : 0 < meanSq x := by
  have : 0 ≤ ∑ k, x k * x k := Finset.sum_nonneg fun k _ => mul_self_nonneg (x k)
  have := eps_pos
  unfold meanSq
  positivity

/-- The row's normalising factor. -/
def rmsInv (x : Fin 1024 → ℝ) : ℝ := (√(meanSq x))⁻¹

/-- The normalising factor as both programs compute it. -/
theorem rmsInv_read (x : Fin 1024 → ℝ) :
    Ideal.rsqrt (Ideal.div (∑ k, (x k : EReal) * x k) (Ideal.ofBits .f32 0x44800000#32) + Ideal.ofBits .f32 0x358637BD#32)
      = ((rmsInv x : ℝ) : EReal) := by
  simp only [mul_real, coe_sum, lit_1024, lit_eps]
  rw [div_real _ _ (by norm_num), add_real]
  exact rsqrt_real _ (meanSq_pos x)

/-- The divisor as both programs compute it. -/
theorem meanSq_read (x : Fin 1024 → ℝ) :
    Ideal.div (∑ k, (x k : EReal) * x k) (Ideal.ofBits .f32 0x44800000#32) + Ideal.ofBits .f32 0x358637BD#32
      = ((meanSq x : ℝ) : EReal) := by
  simp only [mul_real, coe_sum, lit_1024, lit_eps]
  rw [div_real _ _ (by norm_num), add_real]
  rfl

/-- The cube of the normalising factor is itself over the mean square. -/
theorem rmsInv_cube (x : Fin 1024 → ℝ) : rmsInv x / meanSq x = rmsInv x * rmsInv x * rmsInv x := by
  have h := meanSq_pos x
  have hs : √(meanSq x) * √(meanSq x) = meanSq x := Real.mul_self_sqrt h.le
  have hp : 0 < √(meanSq x) := Real.sqrt_pos.mpr h
  unfold rmsInv
  rw [div_eq_iff h.ne']
  field_simp
  nlinarith [hs]

/-- What the derivative adds twice, from the mean square, in the kernel's words. -/
theorem rms_dx (x u : Fin 1024 → ℝ) (l : Fin 1024) :
    u l * rmsInv x + x l * ((∑ k, x k * u k) * (-(1 / 2) * (rmsInv x / meanSq x)) / 1024)
        + (∑ k, x k * u k) * (-(1 / 2) * (rmsInv x / meanSq x)) / 1024 * x l
      = rmsInv x * (u l - x l * rmsInv x * ((∑ k, u k * (x k * rmsInv x)) / 1024)) := by
  rw [rmsInv_cube]
  have : ∑ k, u k * (x k * rmsInv x) = (∑ k, x k * u k) * rmsInv x := by
    rw [Finset.sum_mul]; exact Finset.sum_congr rfl fun k _ => by ring
  rw [this]; ring

end Cert.Hand

end
-- ==== Proof.Norm.Claim.lean ====
/- The gradient of the memory tokens' norm: the kernel's one block against the derivative of the forward lines. -/
module

public import proofs.«01_k».proof.Defs
public import proofs.«01_k».proof.Proof.Gen.Pre_finite_norm
public import proofs.«01_k».proof.Proof.Gen.NormKIdeal.Value
public import proofs.«01_k».proof.Proof.Gen.NormRIdeal.Run
public import proofs.«01_k».proof.Proof.Gen.NormRIdeal.Read
public import proofs.«01_k».proof.Proof.Shared.Rms
public import Idealize.ShloMosaic.Lib.Pointwise
public import Idealize.ShloMosaic.Lib.Pipeline.ValueKit
public import Idealize.ShloMosaic.Lib.Claim

@[expose] public section

set_option maxRecDepth 16384

noncomputable section

namespace Cert.NormKIdeal.Hand

open Cert.Hand Cert.NormKIdeal Cert.NormKIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The input gradient the run leaves, as the body's own term of the arguments. -/
theorem final_dx (c : Dev nD) : (dats m 0 c).arrAt 3 cfg0.N
    = k0_pay3 (m ((c : Thread nD τ).loc main_arg0)) (m ((c : Thread nD τ).loc main_arg2)) (m ((c : Thread nD τ).loc main_arg1)) := by
  refine (dats m 0 c).arrAt_eq_of_after_last 3 t0_0 (by decide +kernel) _ fun j => ?_
  blk_simp; rw [after0_3]; unfold Gen.outsAt0; frame_out
  blk_point [iblk, V, idx t0_0]

/-- The gain's gradient the run leaves. -/
theorem final_dg (c : Dev nD) : (dats m 0 c).arrAt 4 cfg0.N
    = k0_pay5 (m ((c : Thread nD τ).loc main_arg0)) (m ((c : Thread nD τ).loc main_arg2)) (k0_pay4 (F := Ideal)) := by
  refine (dats m 0 c).arrAt_eq_of_after_last 4 t0_0 (by decide +kernel) _ fun j => ?_
  blk_simp; rw [after0_4]; unfold Gen.outsAt0; frame_out
  blk_point [iblk, V, idx t0_0]

section reference
open Cert.NormRIdeal.Read

variable (x d : S512x1024.Idx → ℝ) (g : S1x1024.Idx → ℝ)

/-- Both programs' input gradient, entry by entry. -/
theorem dx_eq (r : Fin 512) (l : Fin 1024) :
    k0_pay3 (F := Ideal) (fun i => ((x i : ℝ) : EReal)) (fun i => ((d i : ℝ) : EReal)) (fun i => ((g i : ℝ) : EReal)) (ix2 r l)
      = val_main_v33 (F := Ideal) (fun i => ((x i : ℝ) : EReal)) (fun i => ((g i : ℝ) : EReal)) (fun i => ((d i : ℝ) : EReal)) (ix2 r l) := by
  pointwise [k0_pay3, k0_pay2, k0_pay1, val_main_v0, val_main_v1, val_main_v2, val_main_v3, val_main_v4, val_main_v5, val_main_v6,
    val_main_v7, val_main_v8, val_main_v9, val_main_v10, val_main_v18, val_main_v19, val_main_v20, val_main_v21, val_main_v22,
    val_main_v23, val_main_v24, val_main_v25, val_main_v26, val_main_v27, val_main_v28, val_main_v29, val_main_v30, val_main_v31,
    val_main_v32, val_main_v33, val_main_cst, val_main_cst_0, val_main_cst_1, val_main_cst_2, val_main_cst_4, val_main_cst_5,
    val_main_cst_6]
  rw [rmsInv_read (fun k => x (ix2 r k)), meanSq_read (fun k => x (ix2 r k))]
  simp only [lit_1024, lit_neg_half, mul_real, coe_sum, sub_real]
  rw [div_real _ _ (meanSq_pos _).ne', div_real _ _ (by norm_num)]
  simp only [mul_real, sub_real]
  rw [div_real _ _ (by norm_num)]
  simp only [mul_real, coe_sum, add_real, sub_real, Finset.sum_const, Finset.card_univ, Fintype.card_fin, one_smul]
  exact congrArg _ (rms_dx (fun k => x (ix2 r k)) (fun k => d (ix2 r k) * g (ix2 0 k)) l).symm

/-- Both programs' gain gradient, entry by entry. -/
theorem dg_eq (r : Fin 1) (l : Fin 1024) :
    k0_pay5 (F := Ideal) (fun i => ((x i : ℝ) : EReal)) (fun i => ((d i : ℝ) : EReal)) (k0_pay4 (F := Ideal)) (ix2 r l)
      = val_main_v17 (F := Ideal) (fun i => ((x i : ℝ) : EReal)) (fun i => ((d i : ℝ) : EReal)) (ix2 r l) := by
  pointwise [k0_pay5, k0_pay4, k0_pay2, k0_pay1, val_main_v0, val_main_v1, val_main_v2, val_main_v3, val_main_v4, val_main_v5,
    val_main_v6, val_main_v7, val_main_v11, val_main_v12, val_main_v13, val_main_v14, val_main_v15, val_main_v16, val_main_v17,
    val_main_cst, val_main_cst_0, val_main_cst_1, val_main_cst_3]
  exact Finset.sum_congr rfl fun k _ => mul_comm _ _

end reference

/-- The precondition makes every argument an array of reals. -/
theorem args_real (h : Cert.Pre_NormKIdeal_finite_norm (hPre_finite_norm := Cert.Pre_finite_norm.Gen.facts) m) (c : Dev nD) :
    (∃ x : S512x1024.Idx → ℝ, m ((c : Thread nD τ).loc main_arg0) = fun i => ((x i : ℝ) : EReal))
    ∧ (∃ g : S1x1024.Idx → ℝ, m ((c : Thread nD τ).loc main_arg1) = fun i => ((g i : ℝ) : EReal))
    ∧ (∃ d : S512x1024.Idx → ℝ, m ((c : Thread nD τ).loc main_arg2) = fun i => ((d i : ℝ) : EReal)) := by
  obtain ⟨h0, h1, h2⟩ := h c
  simp only [Cert.Pre_finite_norm.fn] at h0 h1 h2
  refine ⟨real_of_finite (φ := .f32) _ fun i => ?_, real_of_finite (φ := .f32) _ fun i => ?_, real_of_finite (φ := .f32) _ fun i => ?_⟩
  · have h := congrFun h0 i
    pointwise at h
    rwa [lit_inf] at h
  · have h := congrFun h1 i
    pointwise at h
    rwa [lit_inf] at h
  · have h := congrFun h2 i
    pointwise at h
    rwa [lit_inf] at h

/-- The pair's claim: both programs run and leave the same gradients. -/
theorem value : Cert.algebraic_NormKIdeal_NormRIdeal_pre_finite_norm (hPre_finite_norm := Cert.Pre_finite_norm.Gen.facts) := by
  intro m g m' g' hpre hagree
  refine ⟨_, _, Value.run_blocks m g, ?_⟩
  refine (θ_run _ _ _).mono (fun r h c => ?_) (Cert.NormRIdeal.Value.run m' g')
  obtain ⟨h0, h1, ha⟩ := h c
  obtain ⟨e0, e1, e2⟩ := hagree c
  obtain ⟨⟨x, hx⟩, ⟨w, hw⟩, ⟨d, hd⟩⟩ := args_real m hpre c
  refine ⟨h0.trans ?_, h1.trans ?_, ha⟩
  · rw [final_dx, hx, hw, hd]
    refine Eq.trans ?_ (funext fun i => ?_ : Cert.NormRIdeal.Read.val_main_v33 (F := Ideal) (fun i => ((x i : ℝ) : EReal)) (fun i => ((w i : ℝ) : EReal)) (fun i => ((d i : ℝ) : EReal)) = _)
    · rw [← hx, ← hw, ← hd, ← e0, ← e1, ← e2]; rfl
    · idx_vars i
      exact (dx_eq x d w _ _).symm
  · rw [final_dg, hx, hd]
    refine Eq.trans ?_ (funext fun i => ?_ : Cert.NormRIdeal.Read.val_main_v17 (F := Ideal) (fun i => ((x i : ℝ) : EReal)) (fun i => ((d i : ℝ) : EReal)) = _)
    · rw [← hx, ← hd, ← e0, ← e2]; rfl
    · idx_vars i
      exact (dg_eq x d _ _).symm

end Cert.NormKIdeal.Hand

end
-- ==== Proof.Shared.Softmax.lean ====
/- The softmax of a row of reals and its gradient, whatever the row was shifted by. -/
module

public import proofs.«01_k».proof.Proof.Shared.Real

@[expose] public section

noncomputable section

namespace Cert.Hand

open Idealize.ShloMosaic

variable {n : ℕ}

/-- The softmax of a row. -/
def soft (f : Fin n → ℝ) (j : Fin n) : ℝ := Real.exp (f j) / ∑ k, Real.exp (f k)

theorem exp_real (x : ℝ) : Ideal.exp (x : EReal) = ((Real.exp x : ℝ) : EReal) := rfl

theorem sum_exp_pos (f : Fin (n + 1) → ℝ) : 0 < ∑ k, Real.exp (f k) :=
  Finset.sum_pos (fun _ _ => Real.exp_pos _) ⟨0, Finset.mem_univ _⟩

/-- A row's shift does not show in its softmax. -/
theorem soft_shift (f : Fin (n + 1) → ℝ) (M : ℝ) (j : Fin (n + 1)) :
    Real.exp (f j - M) / ∑ k, Real.exp (f k - M) = soft f j := by
  have e : ∀ k, Real.exp (f k - M) = Real.exp (f k) * Real.exp (-M) := fun k => by rw [sub_eq_add_neg, Real.exp_add]
  simp only [e, ← Finset.sum_mul]
  exact mul_div_mul_right _ _ (Real.exp_pos _).ne'

/-- Minus infinity, and the maximum of a row of reals: a real. -/
theorem lit_neg_inf : Ideal.ofBits .f32 0xFF800000#32 = ⊥ := by
  simp [Ideal.ofBits, Ideal.ieee]

theorem max_real (f : Fin (n + 1) → ℝ) :
    ∃ M : ℝ, Finset.fold max (Ideal.ofBits .f32 0xFF800000#32) (fun k => (f k : EReal)) Finset.univ = (M : EReal) := by
  obtain ⟨k, -, hk⟩ := Finset.exists_mem_eq_sup (Finset.univ : Finset (Fin (n + 1))) ⟨0, Finset.mem_univ _⟩ (fun k => (f k : EReal))
  exact ⟨f k, (congrArg (fun b => Finset.fold max b (fun k => (f k : EReal)) Finset.univ) lit_neg_inf).trans hk⟩

/-- The softmax as both programs compute it. -/
theorem soft_read (f : Fin (n + 1) → ℝ) (M : EReal)
    (hM : M = Finset.fold max (Ideal.ofBits .f32 0xFF800000#32) (fun k => (f k : EReal)) Finset.univ) (j : Fin (n + 1)) :
    Ideal.div (Ideal.exp ((f j : EReal) - M)) (∑ k, Ideal.exp ((f k : EReal) - M)) = ((soft f j : ℝ) : EReal) := by
  obtain ⟨R, hR⟩ := max_real f
  simp only [hM, hR, sub_real, exp_real, coe_sum]
  rw [div_real _ _ (sum_exp_pos _).ne', soft_shift]

end Cert.Hand

end
-- ==== Proof.Shared.Stores.lean ====
/- What a list of stores leaves at an index. -/
module

public import Idealize.ShloMosaic.Lib.Pipeline.ValueKit
public import Idealize.ShloMosaic.Lib.Pipeline.ReadBack
public import Idealize.ShloMosaic.Lib.Claim

@[expose] public section

noncomputable section

namespace Cert.Hand

open Idealize.ShloMosaic

/-- Stores that cover an index hide what was stored there before. -/
theorem canon_over {S : Shape} {e : EltTy} (L : List (View.Piece (Elt Ideal) S e)) (Z : View.Piece (Elt Ideal) S e) (y : S.Idx)
    (h : ∃ p ∈ L, y ∈ p.1.set) : View.canon (L ++ [Z]) y = View.canon L y := by
  induction L with
  | nil => obtain ⟨p, hp, -⟩ := h; exact absurd hp List.not_mem_nil
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact ih ⟨q, hq, hy⟩

end Cert.Hand

end
-- ==== Proof.Attn.Kernel.lean ====
/- The gradient of the attention over the memory: what the kernel's blocks hold, as sums of reals over the argument arrays. -/
module

public import proofs.«01_k».proof.Proof.Gen.AttnKIdeal.Value
public import proofs.«01_k».proof.Proof.Shared.Softmax
public import proofs.«01_k».proof.Proof.Shared.Stores
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.AttnKIdeal.Hand

open Cert.Hand Cert.AttnKIdeal Cert.AttnKIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 6] ∧ win0_1.index t = ![t.val / 4, 0, 0] ∧ win0_2.index t = ![t.val, 0]
    ∧ win0_3.index t = ![t.val, 0] ∧ win0_4.index t = ![t.val / 4, 0, 0] :=
  (by decide +kernel : ∀ t : Fin grid0.N, _)

/-- Row `r` of block `t`. -/
def row (t : Fin cfg0.N) (r : Fin 512) : Fin 4096 := ⟨t.val * 512 + r.val, by have := t.isLt; have := r.isLt; have : cfg0.N = 8 := rfl; omega⟩

/-- The sequence block `t` belongs to. -/
def seq (t : Fin cfg0.N) : Fin 2 := ⟨t.val / 4, by have := t.isLt; have : cfg0.N = 8 := rfl; omega⟩

/-- The scale of the scores. -/
def κ : ℝ := 11863283 * (2 ^ 27)⁻¹

theorem lit_κ : Ideal.ofBits .f32 0x3DB504F3#32 = ((κ : ℝ) : EReal) := by
  simp [Ideal.ofBits, Ideal.ieee, κ]

/-! ## One head of one row -/

section head
variable (q d : Fin 128 → ℝ) (k v : Fin 256 → Fin 128 → ℝ)

/-- The scores of a row. -/
def score (j : Fin 256) : ℝ := (∑ e, q e * k j e) * κ

/-- Its probabilities. -/
def prob (j : Fin 256) : ℝ := soft (score q k) j

/-- Their cotangent. -/
def dprob (j : Fin 256) : ℝ := ∑ e, d e * v j e

/-- The cotangent of the scores, the scale included. -/
def dscore (j : Fin 256) : ℝ := prob q k j * (dprob d v j - ∑ i, dprob d v i * prob q k i) * κ

/-- The cotangent of the query. -/
def dquery (e : Fin 128) : ℝ := ∑ j, dscore q d k v j * k j e

end head

/-! ## The body over blocks of reals -/

section body
variable (Q D : S512x128.Idx → ℝ) (K W : S1x256x128.Idx → ℝ)

/-- A row of a block, and the rows of a block of keys or values. -/
def line (Q : S512x128.Idx → ℝ) (r : Fin 512) (e : Fin 128) : ℝ := Q (ix2 r e)
def page (K : S1x256x128.Idx → ℝ) (j : Fin 256) (e : Fin 128) : ℝ := K (ix3 0 j e)

theorem pay_prob (r : Fin 512) (j : Fin 256) :
    k0_pay3 (F := Ideal) (fun i => (Q i : EReal)) (fun i => (K i : EReal)) (ix2 r j) = (prob (line Q r) (page K) j : EReal) := by
  pointwise [k0_pay3, k0_pay2]
  simp only [mul_real, coe_sum, lit_κ]
  exact soft_read (score (line Q r) (page K)) _ rfl j

theorem pay_dprob (r : Fin 512) (j : Fin 256) :
    k0_pay5 (F := Ideal) (fun i => (W i : EReal)) (fun i => (D i : EReal)) (ix2 r j) = (dprob (line D r) (page W) j : EReal) := by
  pointwise [k0_pay5]
  simp only [mul_real, coe_sum]
  rfl

theorem pay_dscore (r : Fin 512) (j : Fin 256) :
    k0_pay6 (F := Ideal) (k0_pay3 (F := Ideal) (fun i => (Q i : EReal)) (fun i => (K i : EReal)))
      (k0_pay5 (F := Ideal) (fun i => (W i : EReal)) (fun i => (D i : EReal))) (ix2 r j)
      = (dscore (line Q r) (line D r) (page K) (page W) j : EReal) := by
  pointwise [k0_pay6]
  simp only [pay_prob, pay_dprob, mul_real, coe_sum, lit_κ, sub_real]
  rfl

theorem pay_dquery (r : Fin 512) (e : Fin 128) :
    k0_pay7 (F := Ideal) (k0_pay2 (F := Ideal) (fun i => (K i : EReal))) (k0_pay3 (F := Ideal) (fun i => (Q i : EReal)) (fun i => (K i : EReal)))
      (k0_pay5 (F := Ideal) (fun i => (W i : EReal)) (fun i => (D i : EReal))) (ix2 r e)
      = (dquery (line Q r) (line D r) (page K) (page W) e : EReal) := by
  pointwise [k0_pay7, k0_pay2]
  simp only [pay_dscore, mul_real, coe_sum]
  rfl

theorem pay_dvalue (acc : FVec Ideal S1x256x128 .f32) (o : Fin 1) (j : Fin 256) (e : Fin 128) :
    k0_pay4 (F := Ideal) (fun i => (Q i : EReal)) (fun i => (K i : EReal)) (fun i => (D i : EReal)) acc (ix3 o j e)
      = acc (ix3 o j e) + ((∑ r, prob (line Q r) (page K) j * line D r e : ℝ) : EReal) := by
  pointwise [k0_pay4]
  simp only [pay_prob, mul_real, coe_sum]
  obtain rfl : o = 0 := Subsingleton.elim _ _
  rfl

theorem pay_dkey (acc : FVec Ideal S1x256x128 .f32) (o : Fin 1) (j : Fin 256) (e : Fin 128) :
    k0_pay8 (F := Ideal) (fun i => (Q i : EReal)) (k0_pay3 (F := Ideal) (fun i => (Q i : EReal)) (fun i => (K i : EReal)))
      (k0_pay5 (F := Ideal) (fun i => (W i : EReal)) (fun i => (D i : EReal))) acc (ix3 o j e)
      = acc (ix3 o j e) + ((∑ r, dscore (line Q r) (line D r) (page K) (page W) j * line Q r e : ℝ) : EReal) := by
  pointwise [k0_pay8]
  simp only [pay_dscore, mul_real, coe_sum]
  obtain rfl : o = 0 := Subsingleton.elim _ _
  rfl

theorem pay_zero (j : S1x256x1024.Idx) : k0_pay1 (F := Ideal) j = 0 := by pointwise [k0_pay1]

end body

/-! ## The heads of the arguments -/

variable (p : S4096x6656.Idx → ℝ) (kv : S2x256x1024.Idx → ℝ) (d : S4096x512.Idx → ℝ)

/-- Head `h` of the query and of the cotangent at a row. -/
def hq (h : Fin 4) (r : Fin 4096) (e : Fin 128) : ℝ := p (ix2 r ⟨3072 + (h.val * 128 + e.val), by omega⟩)
def hd (h : Fin 4) (r : Fin 4096) (e : Fin 128) : ℝ := d (ix2 r ⟨h.val * 128 + e.val, by omega⟩)

/-- Head `h` of a sequence's keys and values. -/
def hk (b : Fin 2) (h : Fin 4) (j : Fin 256) (e : Fin 128) : ℝ := kv (ix3 b j ⟨h.val * 128 + e.val, by omega⟩)
def hv (b : Fin 2) (h : Fin 4) (j : Fin 256) (e : Fin 128) : ℝ := kv (ix3 b j ⟨512 + (h.val * 128 + e.val), by omega⟩)

/-- The query's cotangent, head after head. -/
def gq (b : Fin 2) (h : Fin 4) (r : Fin 4096) (e : Fin 128) : ℝ := dquery (hq p h r) (hd d h r) (hk kv b h) (hv kv b h) e
def gqs (b : Fin 2) (r : Fin 4096) (l : Fin 512) : ℝ := gq p kv d b ⟨l.val / 128, by omega⟩ r ⟨l.val % 128, by omega⟩

theorem gqs_head (b : Fin 2) (r : Fin 4096) (l : Fin 512) (h : Fin 4) (e : Fin 128) (hl : l.val = h.val * 128 + e.val) :
    gqs p kv d b r l = gq p kv d b h r e :=
  congrArg₂ (fun h e => gq p kv d b h r e) (Fin.ext (by show l.val / 128 = h.val; omega)) (Fin.ext (by show l.val % 128 = e.val; omega))

/-- One row's share of the cotangents of keys and values. -/
def gk (b : Fin 2) (h : Fin 4) (r : Fin 4096) (j : Fin 256) (e : Fin 128) : ℝ :=
  dscore (hq p h r) (hd d h r) (hk kv b h) (hv kv b h) j * hq p h r e
def gv (b : Fin 2) (h : Fin 4) (r : Fin 4096) (j : Fin 256) (e : Fin 128) : ℝ := prob (hq p h r) (hk kv b h) j * hd d h r e

/-- The two side by side, the heads of the keys first. -/
def gkv (b : Fin 2) (r : Fin 4096) (j : Fin 256) (l : Fin 1024) : ℝ :=
  if l.val < 512 then gk p kv d b ⟨l.val % 512 / 128, by omega⟩ r j ⟨l.val % 128, by omega⟩
  else gv p kv d b ⟨l.val % 512 / 128, by omega⟩ r j ⟨l.val % 128, by omega⟩

theorem gkv_key (b : Fin 2) (r : Fin 4096) (j : Fin 256) (l : Fin 1024) (h : Fin 4) (e : Fin 128) (hl : l.val = h.val * 128 + e.val) :
    gkv p kv d b r j l = gk p kv d b h r j e :=
  (if_pos (by omega)).trans (congrArg₂ (fun h e => gk p kv d b h r j e) (Fin.ext (by show l.val % 512 / 128 = h.val; omega))
    (Fin.ext (by show l.val % 128 = e.val; omega)))

theorem gkv_value (b : Fin 2) (r : Fin 4096) (j : Fin 256) (l : Fin 1024) (h : Fin 4) (e : Fin 128) (hl : l.val = 512 + (h.val * 128 + e.val)) :
    gkv p kv d b r j l = gv p kv d b h r j e :=
  (if_neg (by omega)).trans (congrArg₂ (fun h e => gv p kv d b h r j e) (Fin.ext (by show l.val % 512 / 128 = h.val; omega))
    (Fin.ext (by show l.val % 128 = e.val; omega)))

/-! ## The blocks the body reads -/

section blocks
variable (c : Dev nD) (t : Fin cfg0.N)

/-- A head's part of each block. -/
def lq (h : Fin 4) : S512x128.Idx → ℝ := fun j => hq p h (row t (j 0)) (j 1)
def ld (h : Fin 4) : S512x128.Idx → ℝ := fun j => hd d h (row t (j 0)) (j 1)
def lk (h : Fin 4) : S1x256x128.Idx → ℝ := fun j => hk kv (seq t) h (j 1) (j 2)
def lv (h : Fin 4) : S1x256x128.Idx → ℝ := fun j => hv kv (seq t) h (j 1) (j 2)

theorem read_q (h0 : m ((c : Thread nD τ).loc main_arg0) = fun i => (p i : EReal)) (off : Fin 2 → ℕ) (inb) (h : Fin 4) (ho : off = ![0, h.val * 128]) :
    View.ld (iblk m c 0 t : FVec Ideal S512x512 .bf16) (Rect.unit off ![512, 128] inb) = fun j => (lq p t h j : EReal) := by
  subst ho
  funext j
  refine (View.ld_unit_apply_of _ _ _ inb j (ix2 (j 0) ⟨h.val * 128 + (j 1).val, by have : (j 1).val < 128 := (j 1).isLt; omega⟩) fun a => by fin_cases a <;> simp).trans ?_
  trans m ((c : Thread nD τ).loc main_arg0) (ix2 (row t (j 0)) ⟨3072 + (h.val * 128 + (j 1).val), by have : (j 1).val < 128 := (j 1).isLt; omega⟩)
  · blk_ext [iblk, V, idx t, row]
  · rw [h0]; rfl

theorem read_k (h1 : m ((c : Thread nD τ).loc main_arg1) = fun i => (kv i : EReal)) (off : Fin 3 → ℕ) (inb) (h : Fin 4)
    (ho : off = ![0, 0, h.val * 128]) :
    View.ld (iblk m c 1 t : FVec Ideal S1x256x1024 .f32) (Rect.unit off ![1, 256, 128] inb) = fun j => (lk kv t h j : EReal) := by
  subst ho
  funext j
  refine (View.ld_unit_apply_of _ _ _ inb j (ix3 0 (j 1) ⟨h.val * 128 + (j 2).val, by have : (j 2).val < 128 := (j 2).isLt; omega⟩) fun a => by fin_cases a <;> simp).trans ?_
  trans m ((c : Thread nD τ).loc main_arg1) (ix3 (seq t) (j 1) ⟨h.val * 128 + (j 2).val, by have : (j 2).val < 128 := (j 2).isLt; omega⟩)
  · blk_ext [iblk, V, idx t, seq]
  · rw [h1]; rfl

theorem read_v (h1 : m ((c : Thread nD τ).loc main_arg1) = fun i => (kv i : EReal)) (off : Fin 3 → ℕ) (inb) (h : Fin 4)
    (ho : off = ![0, 0, 512 + h.val * 128]) :
    View.ld (iblk m c 1 t : FVec Ideal S1x256x1024 .f32) (Rect.unit off ![1, 256, 128] inb) = fun j => (lv kv t h j : EReal) := by
  subst ho
  funext j
  refine (View.ld_unit_apply_of _ _ _ inb j (ix3 0 (j 1) ⟨512 + h.val * 128 + (j 2).val, by have : (j 2).val < 128 := (j 2).isLt; omega⟩) fun a => by fin_cases a <;> simp).trans ?_
  trans m ((c : Thread nD τ).loc main_arg1) (ix3 (seq t) (j 1) ⟨512 + (h.val * 128 + (j 2).val), by have : (j 2).val < 128 := (j 2).isLt; omega⟩)
  · blk_ext [iblk, V, idx t, seq]
  · rw [h1]; rfl

theorem read_d (h2 : m ((c : Thread nD τ).loc main_arg2) = fun i => (d i : EReal)) (off : Fin 2 → ℕ) (inb) (h : Fin 4) (ho : off = ![0, h.val * 128]) :
    View.ld (iblk m c 2 t : FVec Ideal S512x512 .bf16) (Rect.unit off ![512, 128] inb) = fun j => (ld d t h j : EReal) := by
  subst ho
  funext j
  refine (View.ld_unit_apply_of _ _ _ inb j (ix2 (j 0) ⟨h.val * 128 + (j 1).val, by have : (j 1).val < 128 := (j 1).isLt; omega⟩) fun a => by fin_cases a <;> simp).trans ?_
  trans m ((c : Thread nD τ).loc main_arg2) (ix2 (row t (j 0)) ⟨h.val * 128 + (j 1).val, by have : (j 1).val < 128 := (j 1).isLt; omega⟩)
  · blk_ext [iblk, V, idx t, row]
  · rw [h2]; rfl

theorem idx_ext3 (i j : S1x256x1024.Idx) (h0 : (i 0 : ℕ) = j 0) (h1 : (i 1 : ℕ) = j 1) (h2 : (i 2 : ℕ) = j 2) : i = j := by
  funext a
  fin_cases a
  · exact Fin.ext h0
  · exact Fin.ext h1
  · exact Fin.ext h2

/-- A load of a head's part, at an index. -/
theorem load_at (X : FVec Ideal S1x256x1024 .f32) (o : ℕ) (inb : ∀ a, ![0, 0, o] a + ![1, 256, 128] a ≤ S1x256x1024.size a) (z : S1x256x128.Idx) (y : S1x256x1024.Idx)
    (q0 : (y 0 : ℕ) = z 0) (q1 : (y 1 : ℕ) = z 1) (q2 : (y 2 : ℕ) = o + z 2) :
    View.ld (Val := Elt Ideal) (e' := .f32) (S := S1x256x1024) X (Rect.unit ![0, 0, o] ![1, 256, 128] inb) z = X y :=
  congrArg X (idx_ext3 _ _ (by rw [Rect.idx_unit_val]; exact (Nat.zero_add _).trans q0.symm)
    (by rw [Rect.idx_unit_val]; exact (Nat.zero_add _).trans q1.symm) (by rw [Rect.idx_unit_val]; exact q2.symm))

/-- The block's share of the cotangents of keys and values. -/
def part (y : S1x256x1024.Idx) : ℝ := ∑ r, gkv p kv d (seq t) (row t r) (y 1) (y 2)

section pieces
variable (h : Fin 4) (Q D : FVec Ideal S512x128 .bf16) (K W : FVec Ideal S1x256x128 .f32)
  (hQ : Q = fun i => (lq p t h i : EReal)) (hD : D = fun i => (ld d t h i : EReal))
  (hK : K = fun i => (lk kv t h i : EReal)) (hW : W = fun i => (lv kv t h i : EReal))
include hQ hD hK

/-- What the body adds for a head's values, … -/
theorem value_piece (X : FVec Ideal S1x256x1024 .f32) (acc : FVec Ideal S1x256x128 .f32) (z : S1x256x128.Idx) (y : S1x256x1024.Idx)
    (hX : acc z = X y) (h1 : (y 1 : ℕ) = z 1) (h2 : (y 2 : ℕ) = 512 + (h.val * 128 + z 2)) :
    k0_pay4 (F := Ideal) Q K D acc z = X y + (part p kv d t y : EReal) := by
  subst hQ hD hK
  idx_vars z
  refine (pay_dvalue (lq p t h) (ld d t h) (lk kv t h) acc z0 z1 z2).trans (congrArg₂ _ hX (congrArg _ ?_))
  refine Finset.sum_congr rfl fun r _ => ?_
  rw [gkv_value p kv d (seq t) (row t r) (y 1) (y 2) h z2 h2, show y 1 = z1 from Fin.ext h1]
  rfl

include hW

/-- … for its keys, … -/
theorem key_piece (X : FVec Ideal S1x256x1024 .f32) (acc : FVec Ideal S1x256x128 .f32) (z : S1x256x128.Idx) (y : S1x256x1024.Idx)
    (hX : acc z = X y) (h1 : (y 1 : ℕ) = z 1) (h2 : (y 2 : ℕ) = h.val * 128 + z 2) :
    k0_pay8 (F := Ideal) Q (k0_pay3 (F := Ideal) Q K) (k0_pay5 (F := Ideal) W D) acc z = X y + (part p kv d t y : EReal) := by
  subst hQ hD hK hW
  idx_vars z
  refine (pay_dkey (lq p t h) (ld d t h) (lk kv t h) (lv kv t h) acc z0 z1 z2).trans (congrArg₂ _ hX (congrArg _ ?_))
  refine Finset.sum_congr rfl fun r _ => ?_
  rw [gkv_key p kv d (seq t) (row t r) (y 1) (y 2) h z2 h2, show y 1 = z1 from Fin.ext h1]
  rfl

/-- … and what it stores for its queries. -/
theorem query_piece (z : S512x128.Idx) (y : S512x512.Idx) (h0 : (y 0 : ℕ) = z 0) (h1 : (y 1 : ℕ) = h.val * 128 + z 1) :
    k0_pay7 (F := Ideal) (k0_pay2 (F := Ideal) K) (k0_pay3 (F := Ideal) Q K) (k0_pay5 (F := Ideal) W D) z
      = (gqs p kv d (seq t) (row t (y 0)) (y 1) : EReal) := by
  subst hQ hD hK hW
  idx_vars z
  refine (pay_dquery (lq p t h) (ld d t h) (lk kv t h) (lv kv t h) z0 z1).trans (congrArg _ ?_)
  rw [gqs_head p kv d (seq t) (row t (y 0)) (y 1) h z1 h1, show y 0 = z0 from Fin.ext h0]
  rfl

end pieces

/-- The heads' bodies differ in nothing but how they are cut into shared values. -/
theorem same_query (Q D : FVec Ideal S512x128 .bf16) (K W : FVec Ideal S1x256x128 .f32) :
    k0_pay16 (F := Ideal) (k0_pay9 (F := Ideal) K) (k0_pay10 (F := Ideal) W) D (k0_pay11 (F := Ideal) Q K) (k0_pay12 (F := Ideal) Q K)
      = k0_pay7 (F := Ideal) (k0_pay2 (F := Ideal) K) (k0_pay3 (F := Ideal) Q K) (k0_pay5 (F := Ideal) W D)
    ∧ k0_pay24 (F := Ideal) (k0_pay19 (F := Ideal) K) (k0_pay20 (F := Ideal) Q K) (k0_pay22 (F := Ideal) Q K W D)
      = k0_pay7 (F := Ideal) (k0_pay2 (F := Ideal) K) (k0_pay3 (F := Ideal) Q K) (k0_pay5 (F := Ideal) W D)
    ∧ k0_pay33 (F := Ideal) (k0_pay26 (F := Ideal) K) (k0_pay27 (F := Ideal) W) D (k0_pay28 (F := Ideal) Q K) (k0_pay29 (F := Ideal) Q K)
      = k0_pay7 (F := Ideal) (k0_pay2 (F := Ideal) K) (k0_pay3 (F := Ideal) Q K) (k0_pay5 (F := Ideal) W D) := ⟨rfl, rfl, rfl⟩

theorem same_key (Q D : FVec Ideal S512x128 .bf16) (K W acc : FVec Ideal S1x256x128 .f32) :
    k0_pay18 (F := Ideal) (k0_pay17 (F := Ideal) Q (k0_pay10 (F := Ideal) W) D (k0_pay11 (F := Ideal) Q K) (k0_pay12 (F := Ideal) Q K) acc)
      = k0_pay8 (F := Ideal) Q (k0_pay3 (F := Ideal) Q K) (k0_pay5 (F := Ideal) W D) acc
    ∧ k0_pay25 (F := Ideal) Q (k0_pay20 (F := Ideal) Q K) (k0_pay22 (F := Ideal) Q K W D) acc
      = k0_pay8 (F := Ideal) Q (k0_pay3 (F := Ideal) Q K) (k0_pay5 (F := Ideal) W D) acc
    ∧ k0_pay34 (F := Ideal) Q (k0_pay27 (F := Ideal) W) D (k0_pay28 (F := Ideal) Q K) (k0_pay29 (F := Ideal) Q K) acc
      = k0_pay8 (F := Ideal) Q (k0_pay3 (F := Ideal) Q K) (k0_pay5 (F := Ideal) W D) acc := ⟨rfl, rfl, rfl⟩

theorem same_value (Q D : FVec Ideal S512x128 .bf16) (K acc : FVec Ideal S1x256x128 .f32) :
    k0_pay14 (F := Ideal) D (k0_pay11 (F := Ideal) Q K) (k0_pay12 (F := Ideal) Q K) acc = k0_pay4 (F := Ideal) Q K D acc
    ∧ k0_pay21 (F := Ideal) Q K D acc = k0_pay4 (F := Ideal) Q K D acc
    ∧ k0_pay31 (F := Ideal) D (k0_pay28 (F := Ideal) Q K) (k0_pay29 (F := Ideal) Q K) acc = k0_pay4 (F := Ideal) Q K D acc := ⟨rfl, rfl, rfl⟩

end blocks

/-! ## The arrays after the run -/

section final
variable (c : Dev nD)
  (h0 : m ((c : Thread nD τ).loc main_arg0) = fun i => (p i : EReal))
  (h1 : m ((c : Thread nD τ).loc main_arg1) = fun i => (kv i : EReal))
  (h2 : m ((c : Thread nD τ).loc main_arg2) = fun i => (d i : EReal))
include h0 h1 h2

theorem step_A (t : Fin cfg0.N) (h : t.val % 4 = 0) (y : S1x256x1024.Idx) :
    (outsAt0 m c t.val t.isLt).2 y = 0 + (part p kv d t y : EReal) := by
  rw [outsAt0_A m c t h]
  frame_open
  simp (disch := decide) only [↓View.readCov_skip, ↓View.readCov_fill]
  frame_out
  rw [← pay_zero y]
  refine (canon_over [_, _, _, _, _, _, _, _] _ y (View.cover_of_tiled_head _ _ _ (by rfl) y)).trans ?_
  canon_tiles z q
  case piece0 =>
    exact (congrFun (same_key _ _ _ _ _).2.2 z).trans (key_piece p kv d t 3 _ _ _ _ (read_q m p c t h0 _ _ 3 rfl) (read_d m d c t h2 _ _ 3 rfl) (read_k m kv c t h1 _ _ 3 rfl)
      (read_v m kv c t h1 _ _ 3 rfl) _ _ z y (load_at _ 384 _ z y q0 q1 (by omega)) q1 (by show (y 2 : ℕ) = 3 * 128 + _; omega))
  case piece1 =>
    exact (congrFun (same_value _ _ _ _).2.2 z).trans (value_piece p kv d t 3 _ _ _ (read_q m p c t h0 _ _ 3 rfl) (read_d m d c t h2 _ _ 3 rfl) (read_k m kv c t h1 _ _ 3 rfl)
      _ _ z y (load_at _ 896 _ z y q0 q1 (by omega)) q1 (by show (y 2 : ℕ) = 512 + (3 * 128 + _); omega))
  case piece2 =>
    exact (congrFun (same_key _ _ _ _ _).2.1 z).trans (key_piece p kv d t 2 _ _ _ _ (read_q m p c t h0 _ _ 2 rfl) (read_d m d c t h2 _ _ 2 rfl) (read_k m kv c t h1 _ _ 2 rfl)
      (read_v m kv c t h1 _ _ 2 rfl) _ _ z y (load_at _ 256 _ z y q0 q1 (by omega)) q1 (by show (y 2 : ℕ) = 2 * 128 + _; omega))
  case piece3 =>
    exact (congrFun (same_value _ _ _ _).2.1 z).trans (value_piece p kv d t 2 _ _ _ (read_q m p c t h0 _ _ 2 rfl) (read_d m d c t h2 _ _ 2 rfl) (read_k m kv c t h1 _ _ 2 rfl)
      _ _ z y (load_at _ 768 _ z y q0 q1 (by omega)) q1 (by show (y 2 : ℕ) = 512 + (2 * 128 + _); omega))
  case piece4 =>
    exact (congrFun (same_key _ _ _ _ _).1 z).trans (key_piece p kv d t 1 _ _ _ _ (read_q m p c t h0 _ _ 1 rfl) (read_d m d c t h2 _ _ 1 rfl) (read_k m kv c t h1 _ _ 1 rfl)
      (read_v m kv c t h1 _ _ 1 rfl) _ _ z y (load_at _ 128 _ z y q0 q1 (by omega)) q1 (by show (y 2 : ℕ) = 1 * 128 + _; omega))
  case piece5 =>
    exact (congrFun (same_value _ _ _ _).1 z).trans (value_piece p kv d t 1 _ _ _ (read_q m p c t h0 _ _ 1 rfl) (read_d m d c t h2 _ _ 1 rfl) (read_k m kv c t h1 _ _ 1 rfl)
      _ _ z y (load_at _ 640 _ z y q0 q1 (by omega)) q1 (by show (y 2 : ℕ) = 512 + (1 * 128 + _); omega))
  case piece6 =>
    exact (key_piece p kv d t 0 _ _ _ _ (read_q m p c t h0 _ _ 0 rfl) (read_d m d c t h2 _ _ 0 rfl) (read_k m kv c t h1 _ _ 0 rfl)
      (read_v m kv c t h1 _ _ 0 rfl) _ _ z y (load_at _ 0 _ z y q0 q1 (by omega)) q1 (by show (y 2 : ℕ) = 0 * 128 + _; omega))
  case piece7 =>
    exact (value_piece p kv d t 0 _ _ _ (read_q m p c t h0 _ _ 0 rfl) (read_d m d c t h2 _ _ 0 rfl) (read_k m kv c t h1 _ _ 0 rfl)
      _ _ z y (load_at _ 512 _ z y q0 q1 (by omega)) q1 (by show (y 2 : ℕ) = 512 + (0 * 128 + _); omega))

theorem step_B (t : Fin cfg0.N) (h : ¬t.val % 4 = 0) (y : S1x256x1024.Idx) :
    (outsAt0 m c t.val t.isLt).2 y
      = (outsAt0 m c (t.val - 1) (Nat.lt_of_le_of_lt (Nat.sub_le _ _) t.isLt)).2 y + (part p kv d t y : EReal) := by
  rw [outsAt0_B m c t h]
  frame_out
  canon_tiles z q
  case piece0 =>
    exact (congrFun (same_key _ _ _ _ _).2.2 z).trans (key_piece p kv d t 3 _ _ _ _ (read_q m p c t h0 _ _ 3 rfl) (read_d m d c t h2 _ _ 3 rfl) (read_k m kv c t h1 _ _ 3 rfl)
      (read_v m kv c t h1 _ _ 3 rfl) _ _ z y (load_at _ 384 _ z y q0 q1 (by omega)) q1 (by show (y 2 : ℕ) = 3 * 128 + _; omega))
  case piece1 =>
    exact (congrFun (same_value _ _ _ _).2.2 z).trans (value_piece p kv d t 3 _ _ _ (read_q m p c t h0 _ _ 3 rfl) (read_d m d c t h2 _ _ 3 rfl) (read_k m kv c t h1 _ _ 3 rfl)
      _ _ z y (load_at _ 896 _ z y q0 q1 (by omega)) q1 (by show (y 2 : ℕ) = 512 + (3 * 128 + _); omega))
  case piece2 =>
    exact (congrFun (same_key _ _ _ _ _).2.1 z).trans (key_piece p kv d t 2 _ _ _ _ (read_q m p c t h0 _ _ 2 rfl) (read_d m d c t h2 _ _ 2 rfl) (read_k m kv c t h1 _ _ 2 rfl)
      (read_v m kv c t h1 _ _ 2 rfl) _ _ z y (load_at _ 256 _ z y q0 q1 (by omega)) q1 (by show (y 2 : ℕ) = 2 * 128 + _; omega))
  case piece3 =>
    exact (congrFun (same_value _ _ _ _).2.1 z).trans (value_piece p kv d t 2 _ _ _ (read_q m p c t h0 _ _ 2 rfl) (read_d m d c t h2 _ _ 2 rfl) (read_k m kv c t h1 _ _ 2 rfl)
      _ _ z y (load_at _ 768 _ z y q0 q1 (by omega)) q1 (by show (y 2 : ℕ) = 512 + (2 * 128 + _); omega))
  case piece4 =>
    exact (congrFun (same_key _ _ _ _ _).1 z).trans (key_piece p kv d t 1 _ _ _ _ (read_q m p c t h0 _ _ 1 rfl) (read_d m d c t h2 _ _ 1 rfl) (read_k m kv c t h1 _ _ 1 rfl)
      (read_v m kv c t h1 _ _ 1 rfl) _ _ z y (load_at _ 128 _ z y q0 q1 (by omega)) q1 (by show (y 2 : ℕ) = 1 * 128 + _; omega))
  case piece5 =>
    exact (congrFun (same_value _ _ _ _).1 z).trans (value_piece p kv d t 1 _ _ _ (read_q m p c t h0 _ _ 1 rfl) (read_d m d c t h2 _ _ 1 rfl) (read_k m kv c t h1 _ _ 1 rfl)
      _ _ z y (load_at _ 640 _ z y q0 q1 (by omega)) q1 (by show (y 2 : ℕ) = 512 + (1 * 128 + _); omega))
  case piece6 =>
    exact (key_piece p kv d t 0 _ _ _ _ (read_q m p c t h0 _ _ 0 rfl) (read_d m d c t h2 _ _ 0 rfl) (read_k m kv c t h1 _ _ 0 rfl)
      (read_v m kv c t h1 _ _ 0 rfl) _ _ z y (load_at _ 0 _ z y q0 q1 (by omega)) q1 (by show (y 2 : ℕ) = 0 * 128 + _; omega))
  case piece7 =>
    exact (value_piece p kv d t 0 _ _ _ (read_q m p c t h0 _ _ 0 rfl) (read_d m d c t h2 _ _ 0 rfl) (read_k m kv c t h1 _ _ 0 rfl)
      _ _ z y (load_at _ 512 _ z y q0 q1 (by omega)) q1 (by show (y 2 : ℕ) = 512 + (0 * 128 + _); omega))

theorem final_dq : (dats m 0 c).arrAt 3 cfg0.N
    = fun i => (gqs p kv d ⟨(i 0).val / 2048, by have : (i 0).val < 4096 := (i 0).isLt; omega⟩ (i 0) (i 1) : EReal) := by
  refine (dats m 0 c).arrAt_eq_of_covers 3 _ (by decide +kernel) fun t _ y => ?_
  have e : (((cfg0.win 3).blk t).view.emb y : S4096x512.Idx) = ix2 (row t (y 0)) (y 1) := by blk_ext [idx t, row]
  have es : (⟨(row t (y 0)).val / 2048, by have := (row t (y 0)).isLt; omega⟩ : Fin 2) = seq t := by
    have : (y 0).val < 512 := (y 0).isLt
    exact Fin.ext (by show (t.val * 512 + (y 0).val) / 2048 = t.val / 4; omega)
  trans (gqs p kv d (seq t) (row t (y 0)) (y 1) : EReal)
  · blk_simp
    rw [after0_3]
    by_cases h : t.val % 4 = 0
    · rw [outsAt0_A m c t h]
      frame_out
      canon_tiles z q
      case piece0 =>
        exact (congrFun (same_query _ _ _ _).2.2 z).trans (query_piece p kv d t 3 _ _ _ _ (read_q m p c t h0 _ _ 3 rfl) (read_d m d c t h2 _ _ 3 rfl) (read_k m kv c t h1 _ _ 3 rfl)
          (read_v m kv c t h1 _ _ 3 rfl) z y (by omega) (by show (y 1 : ℕ) = 3 * 128 + _; omega))
      case piece1 =>
        exact (congrFun (same_query _ _ _ _).2.1 z).trans (query_piece p kv d t 2 _ _ _ _ (read_q m p c t h0 _ _ 2 rfl) (read_d m d c t h2 _ _ 2 rfl) (read_k m kv c t h1 _ _ 2 rfl)
          (read_v m kv c t h1 _ _ 2 rfl) z y (by omega) (by show (y 1 : ℕ) = 2 * 128 + _; omega))
      case piece2 =>
        exact (congrFun (same_query _ _ _ _).1 z).trans (query_piece p kv d t 1 _ _ _ _ (read_q m p c t h0 _ _ 1 rfl) (read_d m d c t h2 _ _ 1 rfl) (read_k m kv c t h1 _ _ 1 rfl)
          (read_v m kv c t h1 _ _ 1 rfl) z y (by omega) (by show (y 1 : ℕ) = 1 * 128 + _; omega))
      case piece3 =>
        exact (query_piece p kv d t 0 _ _ _ _ (read_q m p c t h0 _ _ 0 rfl) (read_d m d c t h2 _ _ 0 rfl) (read_k m kv c t h1 _ _ 0 rfl)
          (read_v m kv c t h1 _ _ 0 rfl) z y (by omega) (by show (y 1 : ℕ) = 0 * 128 + _; omega))
    · rw [outsAt0_B m c t h]
      frame_out
      canon_tiles z q
      case piece0 =>
        exact (congrFun (same_query _ _ _ _).2.2 z).trans (query_piece p kv d t 3 _ _ _ _ (read_q m p c t h0 _ _ 3 rfl) (read_d m d c t h2 _ _ 3 rfl) (read_k m kv c t h1 _ _ 3 rfl)
          (read_v m kv c t h1 _ _ 3 rfl) z y (by omega) (by show (y 1 : ℕ) = 3 * 128 + _; omega))
      case piece1 =>
        exact (congrFun (same_query _ _ _ _).2.1 z).trans (query_piece p kv d t 2 _ _ _ _ (read_q m p c t h0 _ _ 2 rfl) (read_d m d c t h2 _ _ 2 rfl) (read_k m kv c t h1 _ _ 2 rfl)
          (read_v m kv c t h1 _ _ 2 rfl) z y (by omega) (by show (y 1 : ℕ) = 2 * 128 + _; omega))
      case piece2 =>
        exact (congrFun (same_query _ _ _ _).1 z).trans (query_piece p kv d t 1 _ _ _ _ (read_q m p c t h0 _ _ 1 rfl) (read_d m d c t h2 _ _ 1 rfl) (read_k m kv c t h1 _ _ 1 rfl)
          (read_v m kv c t h1 _ _ 1 rfl) z y (by omega) (by show (y 1 : ℕ) = 1 * 128 + _; omega))
      case piece3 =>
        exact (query_piece p kv d t 0 _ _ _ _ (read_q m p c t h0 _ _ 0 rfl) (read_d m d c t h2 _ _ 0 rfl) (read_k m kv c t h1 _ _ 0 rfl)
          (read_v m kv c t h1 _ _ 0 rfl) z y (by omega) (by show (y 1 : ℕ) = 0 * 128 + _; omega))
  · rw [e, ← es]; rfl

/-- Row `r` of sequence `b`. -/
def at_ (b : Fin 2) (r : Fin 2048) : Fin 4096 := ⟨b.val * 2048 + r.val, by omega⟩

theorem final_dkv : (dats m 0 c).arrAt 4 cfg0.N = fun i => ((∑ r, gkv p kv d (i 0) (at_ (i 0) r) (i 1) (i 2) : ℝ) : EReal) := by
  refine (dats m 0 c).arrAt_eq_of_covers 4 _ (by decide +kernel) fun t hf y => ?_
  have e : (((cfg0.win 4).blk t).view.emb y : S2x256x1024.Idx) = ix3 (seq t) (y 1) (y 2) := by blk_ext [idx t, seq]
  rw [e]
  blk_simp
  rw [after0_4, Pipeline.eq_sum_fin_of_reset_step_apply_of_flush (fun n h => (outsAt0 m c n h).2) 4 (fun _ => 0) _
    (fun t h j => step_A m p kv d c h0 h1 h2 t h j) (fun t h j => step_B m p kv d c h0 h1 h2 t h j) t ((flush0_4 t).mp hf) _, zero_add]
  refine (coe_sum _ _).trans (congrArg _ ?_)
  refine Fin.sum_mul_add_congr fun s r hl => ?_
  have hs : seq ⟨4 * (t.val / 4) + s.val, Pipeline.run_point_lt_of_flush t ((flush0_4 t).mp hf) s⟩ = seq t :=
    Fin.ext (by show (4 * (t.val / 4) + s.val) / 4 = t.val / 4; omega)
  rw [hs]
  exact congrArg (fun x => gkv p kv d (seq t) x (y 1) (y 2)) (Fin.ext (by
    show (4 * (t.val / 4) + s.val) * 512 + r.val = t.val / 4 * 2048 + (s.val * 512 + r.val); omega))

end final

end Cert.AttnKIdeal.Hand

end
-- ==== Proof.Attn.Reference.lean ====
/- The gradient of the attention over the memory: what the derivative of the forward lines computes, head by head. -/
module

public import proofs.«01_k».proof.Proof.Gen.AttnRIdeal.Run
public import proofs.«01_k».proof.Proof.Gen.AttnRIdeal.Read
public import proofs.«01_k».proof.Proof.Attn.Kernel

@[expose] public section

set_option maxRecDepth 16384

noncomputable section

namespace Cert.AttnKIdeal.Hand

open Cert.Hand Cert.AttnKIdeal Idealize.ShloMosaic Cert.AttnRIdeal.Read

variable (p : S4096x6656.Idx → ℝ) (kv : S2x256x1024.Idx → ℝ) (d : S4096x512.Idx → ℝ)

section stages
variable (b : Fin 2) (h : Fin 4) (r : Fin 2048) (j : Fin 256)

theorem ref_score : val_main_v10 (F := Ideal) (fun i => (p i : EReal)) (fun i => (kv i : EReal)) (ix4 b h r j)
    = (score (hq p h (at_ b r)) (hk kv b h) j : EReal) := by
  pointwise [val_main_v0, val_main_v1, val_main_v2, val_main_v3, val_main_v5, val_main_v7, val_main_v8, val_main_v9,
    val_main_v10, val_main_cst]
  simp only [mul_real, coe_sum, lit_κ]
  rfl

/-- The row's maximum. -/
theorem ref_top : val_main_v11 (F := Ideal) (fun i => (p i : EReal)) (fun i => (kv i : EReal)) (ix3 b h r)
    = Finset.fold max (Ideal.ofBits .f32 0xFF800000#32) (fun j => (score (hq p h (at_ b r)) (hk kv b h) j : EReal)) Finset.univ := by
  pointwise [val_main_v11, val_main_cst_0]
  simp only [ref_score]

/-- The shift of the row is a real, whichever. -/
theorem ref_max : ∃ M : ℝ, val_main_v18 (F := Ideal) (fun i => (p i : EReal)) (fun i => (kv i : EReal)) (ix3 b h r) = (M : EReal) := by
  obtain ⟨M, hM⟩ := max_real (score (hq p h (at_ b r)) (hk kv b h))
  have ht := (ref_top p kv b h r).trans hM
  refine ⟨M, ?_⟩
  rw [val_main_v18_apply, ht, val_main_v17_apply]
  refine (congrArg (fun x : EReal => max x ((M : ℝ) : EReal)) lit_neg_inf).trans (max_eq_right bot_le)

theorem ref_exp (M : ℝ) (hM : val_main_v18 (F := Ideal) (fun i => (p i : EReal)) (fun i => (kv i : EReal)) (ix3 b h r) = (M : EReal)) :
    val_main_v31 (F := Ideal) (fun i => (p i : EReal)) (fun i => (kv i : EReal)) (ix4 b h r j)
      = (Real.exp (score (hq p h (at_ b r)) (hk kv b h) j - M) : EReal) := by
  have hi : idx_main_v28 (idx_main_v29 (ix4 b h r j)) = ix3 b h r := by
    funext a; fin_cases a <;> rfl
  rw [val_main_v31_apply, val_main_v30_apply, val_main_v29_apply, val_main_v28_apply, hi, hM, ref_score]
  rfl

theorem ref_prob : val_main_v35 (F := Ideal) (fun i => (p i : EReal)) (fun i => (kv i : EReal)) (ix4 b h r j)
    = (prob (hq p h (at_ b r)) (hk kv b h) j : EReal) := by
  obtain ⟨M, hM⟩ := ref_max p kv b h r
  have he := fun j => ref_exp p kv b h r j M hM
  unfold val_main_v35 val_main_v34 val_main_v33 val_main_v32
  generalize val_main_v31 (F := Ideal) (fun i => (p i : EReal)) (fun i => (kv i : EReal)) = y at he ⊢
  pointwise [val_main_cst_8]
  simp only [he, coe_sum]
  rw [div_real _ _ (sum_exp_pos _).ne', soft_shift]
  rfl

theorem ref_dprob : val_main_v46 (F := Ideal) (fun i => (kv i : EReal)) (fun i => (d i : EReal)) (ix4 b h r j)
    = (dprob (hd d h (at_ b r)) (hv kv b h) j : EReal) := by
  pointwise [val_main_v4, val_main_v6, val_main_v42, val_main_v43, val_main_v44, val_main_v45, val_main_v46]
  simp only [mul_real, coe_sum]
  rfl

/-- The derivative of the quotient, as the reference leaves it. -/
theorem dscore_quotient (q t : Fin 128 → ℝ) (k v : Fin 256 → Fin 128 → ℝ) (M : ℝ) (j : Fin 256) (Z : ℝ)
    (hZ : Z = ∑ i, Real.exp (score q k i - M)) :
    (dprob t v j / Z + ∑ _x : Fin 1, -∑ i, dprob t v i * (1 / (Z * Z)) * Real.exp (score q k i - M)) * Real.exp (score q k j - M) * κ
      = dscore q t k v j := by
  have hp : Z ≠ 0 := hZ ▸ (sum_exp_pos _).ne'
  have e : ∀ i, prob q k i = Real.exp (score q k i - M) / Z := fun i => by rw [hZ]; exact (soft_shift _ M i).symm
  have es : ∑ i, dprob t v i * (1 / (Z * Z)) * Real.exp (score q k i - M) = (∑ i, dprob t v i * prob q k i) / Z := by
    rw [Finset.sum_div]
    exact Finset.sum_congr rfl fun i _ => by rw [e]; field_simp
  unfold dscore
  rw [Fin.sum_univ_one, es, e]
  field_simp
  ring

/-- The row's sum of exponentials, which its last axis of length one carries. -/
theorem ref_total (M : ℝ) (hM : val_main_v18 (F := Ideal) (fun i => (p i : EReal)) (fun i => (kv i : EReal)) (ix3 b h r) = (M : EReal)) (o : Fin 1) :
    val_main_v33 (F := Ideal) (fun i => (p i : EReal)) (fun i => (kv i : EReal)) (ix4 b h r o)
      = ((∑ i, Real.exp (score (hq p h (at_ b r)) (hk kv b h) i - M) : ℝ) : EReal) := by
  have he := fun j => ref_exp p kv b h r j M hM
  unfold val_main_v33 val_main_v32
  generalize val_main_v31 (F := Ideal) (fun i => (p i : EReal)) (fun i => (kv i : EReal)) = y at he ⊢
  pointwise [val_main_cst_8]
  simp only [he, coe_sum]

theorem ref_square (M : ℝ) (hM : val_main_v18 (F := Ideal) (fun i => (p i : EReal)) (fun i => (kv i : EReal)) (ix3 b h r) = (M : EReal))
    (Z : ℝ) (hZ : Z = ∑ i, Real.exp (score (hq p h (at_ b r)) (hk kv b h) i - M)) :
    val_main_v51 (F := Ideal) (fun i => (p i : EReal)) (fun i => (kv i : EReal)) (fun i => (d i : EReal)) (ix4 b h r j)
      = ((dprob (hd d h (at_ b r)) (hv kv b h) j * (1 / (Z * Z)) * Real.exp (score (hq p h (at_ b r)) (hk kv b h) j - M) : ℝ) : EReal) := by
  have hz : Z ≠ 0 := hZ ▸ (sum_exp_pos _).ne'
  have hi : idx_main_v49 (ix4 b h r j) = ix4 b h r 0 := by funext a; fin_cases a <;> rfl
  rw [val_main_v51_apply, val_main_v50_apply, ref_dprob, ref_exp p kv b h r j M hM, val_main_v49_apply, hi, val_main_v38_apply,
    val_main_v36_apply, ref_total p kv b h r M hM, val_main_v37_apply, ← hZ]
  have hd : Ideal.div (Ideal.ofBits .f32 0x3F800000#32) ((Z : EReal) * (Z : EReal)) = ((1 / (Z * Z) : ℝ) : EReal) := by
    rw [lit_one, mul_real]
    exact div_real _ _ (mul_ne_zero hz hz)
  exact (congrArg (fun x : EReal => (dprob _ _ j : EReal) * x * (Real.exp _ : EReal)) hd).trans
    ((congrArg (fun x : EReal => x * (Real.exp _ : EReal)) (mul_real _ _)).trans (mul_real _ _))

theorem ref_fall (M : ℝ) (hM : val_main_v18 (F := Ideal) (fun i => (p i : EReal)) (fun i => (kv i : EReal)) (ix3 b h r) = (M : EReal))
    (Z : ℝ) (hZ : Z = ∑ i, Real.exp (score (hq p h (at_ b r)) (hk kv b h) i - M)) (o : Fin 1) :
    val_main_v54 (F := Ideal) (fun i => (p i : EReal)) (fun i => (kv i : EReal)) (fun i => (d i : EReal)) (ix4 b h r o)
      = ((-∑ i, dprob (hd d h (at_ b r)) (hv kv b h) i * (1 / (Z * Z)) * Real.exp (score (hq p h (at_ b r)) (hk kv b h) i - M) : ℝ) : EReal) := by
  have hs := fun j => ref_square p kv d b h r j M hM Z hZ
  have ht : val_main_v53 (F := Ideal) (fun i => (p i : EReal)) (fun i => (kv i : EReal)) (fun i => (d i : EReal)) (ix4 b h r o)
      = ((∑ i, dprob (hd d h (at_ b r)) (hv kv b h) i * (1 / (Z * Z)) * Real.exp (score (hq p h (at_ b r)) (hk kv b h) i - M) : ℝ) : EReal) := by
    unfold val_main_v53 val_main_v52
    generalize val_main_v51 (F := Ideal) (fun i => (p i : EReal)) (fun i => (kv i : EReal)) (fun i => (d i : EReal)) = y at hs ⊢
    pointwise [val_main_cst_10]
    simp only [hs, coe_sum]
  rw [val_main_v54_apply, ht]
  exact neg_real _

theorem ref_dscore : val_main_v62 (F := Ideal) (fun i => (p i : EReal)) (fun i => (kv i : EReal)) (fun i => (d i : EReal)) (ix4 b h r j)
    = (dscore (hq p h (at_ b r)) (hd d h (at_ b r)) (hk kv b h) (hv kv b h) j : EReal) := by
  obtain ⟨M, hM⟩ := ref_max p kv b h r
  obtain ⟨Z, hZ⟩ : ∃ Z : ℝ, Z = ∑ i, Real.exp (score (hq p h (at_ b r)) (hk kv b h) i - M) := ⟨_, rfl⟩
  have hz : Z ≠ 0 := hZ ▸ (sum_exp_pos _).ne'
  have hf := fun o => ref_fall p kv d b h r M hM Z hZ o
  have hi : idx_main_v55 (ix4 b h r j) = ix4 b h r 0 := by funext a; fin_cases a <;> rfl
  have hl : val_main_v58 (F := Ideal) (fun i => (p i : EReal)) (fun i => (kv i : EReal)) (fun i => (d i : EReal)) (ix4 b h r j)
      = ((∑ _o : Fin 1, -∑ i, dprob (hd d h (at_ b r)) (hv kv b h) i * (1 / (Z * Z))
          * Real.exp (score (hq p h (at_ b r)) (hk kv b h) i - M) : ℝ) : EReal) := by
    unfold val_main_v58 val_main_v57
    generalize val_main_v54 (F := Ideal) (fun i => (p i : EReal)) (fun i => (kv i : EReal)) (fun i => (d i : EReal)) = y at hf ⊢
    pointwise [val_main_cst_11]
    simp only [hf, coe_sum]
  rw [val_main_v62_apply, val_main_v60_apply, val_main_v59_apply, val_main_v56_apply, ref_dprob, ref_exp p kv b h r j M hM,
    val_main_v55_apply, hi, ref_total p kv b h r M hM, hl, val_main_v61_apply, ← dscore_quotient _ _ _ _ M j Z hZ, ← hZ]
  have e : Ideal.div (dprob (hd d h (at_ b r)) (hv kv b h) j : EReal) (Z : EReal) = _ := div_real _ _ hz
  refine (Ideal.mul_congr (Ideal.mul_congr (Ideal.add_congr e rfl) rfl) lit_κ).trans ?_
  exact ((congrArg (fun x : EReal => x * (Real.exp _ : EReal) * (κ : EReal)) (add_real _ _)).trans
    ((congrArg (fun x : EReal => x * (κ : EReal)) (mul_real _ _)).trans (mul_real _ _)))

end stages

theorem ref_dq (r : Fin 4096) (l : Fin 512) :
    val_main_v72 (F := Ideal) (fun i => (p i : EReal)) (fun i => (kv i : EReal)) (fun i => (d i : EReal)) (ix2 r l)
      = (gqs p kv d ⟨r.val / 2048, by omega⟩ r l : EReal) := by
  have hd := fun b h r j => ref_dscore p kv d b h r j
  unfold val_main_v72 val_main_v71 val_main_v67 val_main_v66 val_main_v65
  generalize val_main_v62 (F := Ideal) (fun i => (p i : EReal)) (fun i => (kv i : EReal)) (fun i => (d i : EReal)) = y at hd ⊢
  pointwise [val_main_v3, val_main_v5]
  simp only [hd, mul_real, coe_sum]
  unfold gqs gq dquery
  refine congrArg (fun x : ℝ => (x : EReal)) (Finset.sum_congr rfl fun j _ => ?_)
  have er : at_ ⟨r.val / 2048, by omega⟩ ⟨r.val % 2048, by omega⟩ = r := Fin.ext (by show r.val / 2048 * 2048 + r.val % 2048 = r.val; omega)
  have el : (⟨l.val / 128 * 128 + l.val % 128, by omega⟩ : Fin 512) = l := Fin.ext (by show l.val / 128 * 128 + l.val % 128 = l.val; omega)
  rw [er]
  refine congrArg _ (congrArg (fun c => kv (ix3 _ j c)) (Fin.ext ?_))
  show l.val = l.val / 128 * 128 + l.val % 128
  omega

theorem ref_dkv (b : Fin 2) (j : Fin 256) (l : Fin 1024) :
    val_main_v70 (F := Ideal) (fun i => (p i : EReal)) (fun i => (kv i : EReal)) (fun i => (d i : EReal)) (ix3 b j l)
      = ((∑ r, gkv p kv d b (at_ b r) j l : ℝ) : EReal) := by
  have hs := fun b h r j => ref_dscore p kv d b h r j
  have hp := fun b h r j => ref_prob p kv b h r j
  unfold val_main_v70 val_main_v69 val_main_v68 val_main_v64 val_main_v63 val_main_v48 val_main_v47
  generalize val_main_v62 (F := Ideal) (fun i => (p i : EReal)) (fun i => (kv i : EReal)) (fun i => (d i : EReal)) = y at hs ⊢
  generalize val_main_v35 (F := Ideal) (fun i => (p i : EReal)) (fun i => (kv i : EReal)) = x at hp ⊢
  pointwise [val_main_v0, val_main_v1, val_main_v2, val_main_v7, val_main_v42, val_main_v43, val_main_v44, val_main_v45]
  simp only [hs, hp, mul_real, coe_sum]
  by_cases hl : l.val < 512
  · refine (dif_pos hl).trans (congrArg (fun x : ℝ => (x : EReal)) (Finset.sum_congr rfl fun r _ => ?_))
    exact (gkv_key p kv d b _ j l ⟨l.val / 128, by omega⟩ ⟨l.val % 128, by omega⟩
      (by show l.val = l.val / 128 * 128 + l.val % 128; omega)).symm
  · refine (dif_neg hl).trans (congrArg (fun x : ℝ => (x : EReal)) (Finset.sum_congr rfl fun r _ => ?_))
    refine (mul_comm _ _).trans ?_
    exact (gkv_value p kv d b _ j l ⟨(l.val - 512) / 128, by omega⟩ ⟨(l.val - 512) % 128, by omega⟩
      (by show l.val = 512 + ((l.val - 512) / 128 * 128 + (l.val - 512) % 128); omega)).symm

end Cert.AttnKIdeal.Hand

end
-- ==== Proof.Attn.Claim.lean ====
/- The gradient of the attention over the memory: the claim. -/
module

public import proofs.«01_k».proof.Defs
public import proofs.«01_k».proof.Proof.Gen.Pre_finite_attn
public import proofs.«01_k».proof.Proof.Attn.Reference

@[expose] public section

set_option maxRecDepth 16384

noncomputable section

namespace Cert.AttnKIdeal.Hand

open Cert.Hand Cert.AttnKIdeal Cert.AttnKIdeal.Gen Idealize.ShloMosaic Idealize.ShloMosaic.TcCoe Idealize.SL.Sem

variable (m : (ℓ : Loc nD τ sig) → Buf (Elt Ideal) ℓ)

/-- The precondition makes every argument an array of reals. -/
theorem args_real (h : Cert.Pre_AttnKIdeal_finite_attn (hPre_finite_attn := Cert.Pre_finite_attn.Gen.facts) m) (c : Dev nD) :
    (∃ x : S4096x6656.Idx → ℝ, m ((c : Thread nD τ).loc main_arg0) = fun i => ((x i : ℝ) : EReal))
    ∧ (∃ x : S2x256x1024.Idx → ℝ, m ((c : Thread nD τ).loc main_arg1) = fun i => ((x i : ℝ) : EReal))
    ∧ (∃ x : S4096x512.Idx → ℝ, m ((c : Thread nD τ).loc main_arg2) = fun i => ((x i : ℝ) : EReal)) := by
  obtain ⟨h0, h1, h2⟩ := h c
  exact ⟨real_of_below (φ := .bf16) _ _ (fun _ => lit_inf16) h0,
    real_of_below (φ := .f32) _ _ (fun _ => lit_inf) h1,
    real_of_below (φ := .bf16) _ _ (fun _ => lit_inf16) h2⟩

/-- The pair's claim: both programs run and leave the same arrays. -/
theorem value : Cert.algebraic_AttnKIdeal_AttnRIdeal_pre_finite_attn (hPre_finite_attn := Cert.Pre_finite_attn.Gen.facts) := by
  intro m g m' g' hpre hagree
  refine ⟨_, _, Value.run_blocks m g, ?_⟩
  refine (θ_run _ _ _).mono (fun r h c => ?_) (Cert.AttnRIdeal.Value.run m' g')
  obtain ⟨r0, r1, ha⟩ := h c
  obtain ⟨e0, e1, e2⟩ := hagree c
  obtain ⟨⟨p, h0⟩, ⟨kv, h1⟩, ⟨d, h2⟩⟩ := args_real m hpre c
  refine ⟨r0.trans ?_, r1.trans ?_, ha⟩
  · rw [final_dq m p kv d c h0 h1 h2]
    refine (Cert.AttnRIdeal.Read.val_main_v72_eq m' c).trans ?_
    rw [e0.trans h0, e1.trans h1, e2.trans h2]
    funext i; idx_vars i
    exact ref_dq p kv d _ _
  · rw [final_dkv m p kv d c h0 h1 h2]
    refine (Cert.AttnRIdeal.Read.val_main_v70_eq m' c).trans ?_
    rw [e0.trans h0, e1.trans h1, e2.trans h2]
    funext i; idx_vars i
    exact ref_dkv p kv d _ _ _

end Cert.AttnKIdeal.Hand

end
-- ==== Proof.Conv.Spec.lean ====
/- The gradients of the causal convolution and its gate, one channel at a time, over the reals; and what the kernel's body
   computes from blocks of reals. -/
module

public import proofs.«01_k».proof.Proof.Gen.ConvKIdeal.Value
public import proofs.«01_k».proof.Proof.Shared.Real
public import Idealize.ShloMosaic.Lib.Pointwise
public import Idealize.ShloMosaic.Lib.Pipeline.ValueKit
public import Idealize.ShloMosaic.Lib.Claim

@[expose] public section

set_option maxRecDepth 16384

noncomputable section

namespace Cert.ConvKIdeal.Hand

open Cert.Hand Cert.ConvKIdeal Cert.ConvKIdeal.Gen Idealize.ShloMosaic Idealize.ShloMosaic.TcCoe

/-! ## One channel -/

/-- A sequence delayed by `d` steps, zeros coming in. -/
def dn (d : ℕ) (f : Fin 2048 → ℝ) (r : Fin 2048) : ℝ := if d ≤ r.val then f ⟨r.val - d, by omega⟩ else 0

/-- A sequence advanced by `d` steps, zeros coming in. -/
def up (d : ℕ) (f : Fin 2048 → ℝ) (r : Fin 2048) : ℝ := if h : r.val + d < 2048 then f ⟨r.val + d, h⟩ else 0

theorem dn_zero (f : Fin 2048 → ℝ) (r : Fin 2048) : dn 0 f r = f r := if_pos (Nat.zero_le _)

variable (α β δ : Fin 2048 → ℝ) (w : Fin 3 → ℝ) (cb : ℝ)

/-- The convolution's output. -/
def pre (r : Fin 2048) : ℝ := cb + w 0 * dn 2 α r + w 1 * dn 1 α r + w 2 * α r

/-- The gradient of the convolution's output; `δ` is the cotangent of the gated product. -/
def dac (r : Fin 2048) : ℝ :=
  δ r * sigm (pre α w cb r) * β r * (1 + pre α w cb r * (1 - sigm (pre α w cb r)))

/-- The gradient of the other factor of the gate. -/
def db (r : Fin 2048) : ℝ := δ r * sigm (pre α w cb r) * pre α w cb r

/-- The gradient of the convolution's input. -/
def da (r : Fin 2048) : ℝ :=
  w 2 * dac α β δ w cb r + w 1 * up 1 (dac α β δ w cb) r + w 0 * up 2 (dac α β δ w cb) r

/-- The gradient of the convolution's tap `k`, and of its bias. -/
def dw (k : Fin 3) : ℝ := ∑ r, dac α β δ w cb r * dn (2 - k.val) α r
def dc : ℝ := ∑ r, dac α β δ w cb r

/-! ## The body over blocks of reals -/

theorem sge_small : ∀ r d : Fin 8, IntOp.cmpi .sge (BitVec.ofNat 32 r.val) (BitVec.ofNat 32 d.val) = if d.val ≤ r.val then 1#1 else 0#1 := by
  decide +kernel

theorem slt_small : ∀ r d : Fin 8, IntOp.cmpi .slt (BitVec.ofNat 32 r.val) (BitVec.ofNat 32 d.val) = if r.val < d.val then 1#1 else 0#1 := by
  decide +kernel

/-- The kernel's delay: a rotation with the first rows masked. -/
theorem dn_read (d : Fin 8) (hd : 0 < d.val) (f : Fin 2048 → ℝ) (r : Fin 2048) :
    (if h : r.val < 8 then
      Scalar.select (α := EReal) (IntOp.cmpi .sge (BitVec.ofNat 32 r.val) (BitVec.ofNat 32 d.val))
        (((f ⟨(r.val + 2048 - d.val) % 2048, Nat.mod_lt _ (by norm_num)⟩ : ℝ) : EReal)) (0 : EReal)
    else ((f ⟨(8 + (r.val - 8) + 2048 - d.val) % 2048, Nat.mod_lt _ (by norm_num)⟩ : ℝ) : EReal)) = ((dn d.val f r : ℝ) : EReal) := by
  have hr := r.isLt
  have hd8 := d.isLt
  unfold dn
  split_ifs with h h' h'
  · rw [sge_small ⟨r.val, h⟩ d, if_pos h']
    refine congrArg (fun k => ((f k : ℝ) : EReal)) (Fin.ext ?_)
    show (r.val + 2048 - d.val) % 2048 = r.val - d.val
    omega
  · rw [sge_small ⟨r.val, h⟩ d, if_neg h']
    rfl
  · refine congrArg (fun k => ((f k : ℝ) : EReal)) (Fin.ext ?_)
    show (8 + (r.val - 8) + 2048 - d.val) % 2048 = r.val - d.val
    omega
  · omega

/-- The kernel's advance: a rotation with the last rows masked. -/
theorem up_read (d : Fin 8) (e : Fin 8) (he : e.val + d.val = 8) (f : Fin 2048 → ℝ) (r : Fin 2048) :
    (if h : r.val < 2040 then ((f ⟨(r.val + 2048 - (2048 - d.val)) % 2048, Nat.mod_lt _ (by norm_num)⟩ : ℝ) : EReal)
    else Scalar.select (α := EReal) (IntOp.cmpi .slt (BitVec.ofNat 32 (r.val - 2040)) (BitVec.ofNat 32 e.val))
        (((f ⟨(2040 + (r.val - 2040) + 2048 - (2048 - d.val)) % 2048, Nat.mod_lt _ (by norm_num)⟩ : ℝ) : EReal)) (0 : EReal))
      = ((up d.val f r : ℝ) : EReal) := by
  have hr := r.isLt
  have hd8 := d.isLt
  unfold up
  split_ifs with h h' h'
  · refine congrArg (fun k => ((f k : ℝ) : EReal)) (Fin.ext ?_)
    show (r.val + 2048 - (2048 - d.val)) % 2048 = r.val + d.val
    omega
  · omega
  · rw [slt_small ⟨r.val - 2040, by omega⟩ e, if_pos (show r.val - 2040 < e.val by omega)]
    refine congrArg (fun k => ((f k : ℝ) : EReal)) (Fin.ext ?_)
    show (2040 + (r.val - 2040) + 2048 - (2048 - d.val)) % 2048 = r.val + d.val
    omega
  · rw [slt_small ⟨r.val - 2040, by omega⟩ e, if_neg (show ¬r.val - 2040 < e.val by omega)]
    rfl

section body
variable (X : S1x2048x1024.Idx → ℝ) (U : S256x1024.Idx → ℝ) (A B : S1x2048x256.Idx → ℝ) (W : S3x256.Idx → ℝ) (C : S1x256.Idx → ℝ)

/-- The cotangent of the gated product, over blocks. -/
def dactB (l : Fin 256) (r : Fin 2048) : ℝ := ∑ k, X (ix3 0 r k) * U (ix2 l k)

/-- Channel `l` of a block, of the block of taps. -/
abbrev col (A : S1x2048x256.Idx → ℝ) (l : Fin 256) : Fin 2048 → ℝ := fun k => A (ix3 0 k l)
abbrev tap (l : Fin 256) : Fin 3 → ℝ := fun k => W (ix2 k l)

theorem pay_dact (r : Fin 2048) (l : Fin 256) : k0_pay6 (F := Ideal) (fun i => (X i : EReal)) (fun i => (U i : EReal)) (ix2 r l) = ((dactB X U l r : ℝ) : EReal) := by
  pointwise [k0_pay6]
  simp only [mul_real, coe_sum]
  rfl

theorem pay_a (r : Fin 2048) (l : Fin 256) : k0_pay7 (F := Ideal) (fun i => (A i : EReal)) (ix2 r l) = ((A (ix3 0 r l) : ℝ) : EReal) := by
  pointwise [k0_pay7]

theorem pay_dn1 (r : Fin 2048) (l : Fin 256) :
    k0_pay8 (F := Ideal) (fun i => (A i : EReal)) (ix2 r l) = ((dn 1 (col A l) r : ℝ) : EReal) := by
  pointwise [k0_pay8, k0_pay7]
  exact dn_read 1 (by norm_num) (col A l) r

theorem pay_dn2 (r : Fin 2048) (l : Fin 256) :
    k0_pay9 (F := Ideal) (fun i => (A i : EReal)) (ix2 r l) = ((dn 2 (col A l) r : ℝ) : EReal) := by
  pointwise [k0_pay9, k0_pay7]
  exact dn_read 2 (by norm_num) (col A l) r

theorem pay_pre (r : Fin 2048) (l : Fin 256) :
    k0_pay12 (F := Ideal) (k0_pay10 (fun i => (A i : EReal)) (fun i => (W i : EReal)) (fun i => (C i : EReal))) (k0_pay11 (fun i => (A i : EReal)) (fun i => (W i : EReal))) (ix2 r l)
      = ((pre (col A l) (tap W l) (C (ix2 0 l)) r : ℝ) : EReal) := by
  pointwise [k0_pay12, k0_pay10, k0_pay11]
  simp only [pay_dn1, pay_dn2, pay_a, mul_real, add_real]
  rfl

/-- The gradient of the convolution's output. -/
theorem pay_dac (r : Fin 2048) (l : Fin 256) :
    k0_pay16 (F := Ideal) (k0_pay6 (fun i => (X i : EReal)) (fun i => (U i : EReal))) (k0_pay10 (fun i => (A i : EReal)) (fun i => (W i : EReal)) (fun i => (C i : EReal))) (k0_pay11 (fun i => (A i : EReal)) (fun i => (W i : EReal))) (fun i => (B i : EReal)) (ix2 r l)
      = ((dac (col A l) (col B l) (dactB X U l) (tap W l) (C (ix2 0 l)) r : ℝ) : EReal) := by
  pointwise [k0_pay16, k0_pay14, k0_pay13]
  simp only [pay_dact, pay_pre, logistic_real, mul_real, ← EReal.coe_one, sub_real, add_real]
  rfl

theorem pay_db (o : Fin 1) (r : Fin 2048) (l : Fin 256) :
    k0_pay15 (F := Ideal) (k0_pay6 (fun i => (X i : EReal)) (fun i => (U i : EReal))) (k0_pay10 (fun i => (A i : EReal)) (fun i => (W i : EReal)) (fun i => (C i : EReal))) (k0_pay11 (fun i => (A i : EReal)) (fun i => (W i : EReal))) (ix3 o r l)
      = ((db (col A l) (dactB X U l) (tap W l) (C (ix2 0 l)) r : ℝ) : EReal) := by
  pointwise [k0_pay15, k0_pay14, k0_pay13]
  simp only [pay_dact, pay_pre, logistic_real, mul_real]
  rfl

theorem pay_up1 (r : Fin 2048) (l : Fin 256) :
    k0_pay17 (F := Ideal) (k0_pay6 (fun i => (X i : EReal)) (fun i => (U i : EReal))) (fun i => (W i : EReal)) (k0_pay10 (fun i => (A i : EReal)) (fun i => (W i : EReal)) (fun i => (C i : EReal))) (k0_pay11 (fun i => (A i : EReal)) (fun i => (W i : EReal))) (fun i => (B i : EReal)) (ix2 r l)
      = ((W (ix2 2 l) * dac (col A l) (col B l) (dactB X U l) (tap W l) (C (ix2 0 l)) r
          + W (ix2 1 l) * up 1 (dac (col A l) (col B l) (dactB X U l) (tap W l) (C (ix2 0 l))) r : ℝ) : EReal) := by
  pointwise [k0_pay17]
  simp only [pay_dac]
  have h := up_read 1 7 rfl (dac (col A l) (col B l) (dactB X U l) (tap W l) (C (ix2 0 l))) r
  refine (congrArg (fun z : EReal => (W (ix2 2 l) : EReal) * (dac (col A l) (col B l) (dactB X U l) (tap W l) (C (ix2 0 l)) r : EReal)
    + (W (ix2 1 l) : EReal) * z) h).trans ?_
  simp only [mul_real, add_real]
  rfl

theorem pay_up2 (r : Fin 2048) (l : Fin 256) :
    k0_pay18 (F := Ideal) (k0_pay6 (fun i => (X i : EReal)) (fun i => (U i : EReal))) (k0_pay10 (fun i => (A i : EReal)) (fun i => (W i : EReal)) (fun i => (C i : EReal))) (k0_pay11 (fun i => (A i : EReal)) (fun i => (W i : EReal))) (fun i => (B i : EReal)) (ix2 r l)
      = ((up 2 (dac (col A l) (col B l) (dactB X U l) (tap W l) (C (ix2 0 l))) r : ℝ) : EReal) := by
  pointwise [k0_pay18]
  simp only [pay_dac]
  exact up_read 2 6 rfl (dac (col A l) (col B l) (dactB X U l) (tap W l) (C (ix2 0 l))) r

theorem pay_da (o : Fin 1) (r : Fin 2048) (l : Fin 256) :
    k0_pay1 (F := Ideal) (k0_pay17 (k0_pay6 (fun i => (X i : EReal)) (fun i => (U i : EReal))) (fun i => (W i : EReal)) (k0_pay10 (fun i => (A i : EReal)) (fun i => (W i : EReal)) (fun i => (C i : EReal))) (k0_pay11 (fun i => (A i : EReal)) (fun i => (W i : EReal))) (fun i => (B i : EReal)))
        (k0_pay18 (k0_pay6 (fun i => (X i : EReal)) (fun i => (U i : EReal))) (k0_pay10 (fun i => (A i : EReal)) (fun i => (W i : EReal)) (fun i => (C i : EReal))) (k0_pay11 (fun i => (A i : EReal)) (fun i => (W i : EReal))) (fun i => (B i : EReal))) (k0_pay19 (fun i => (W i : EReal))) (ix3 o r l)
      = ((da (col A l) (col B l) (dactB X U l) (tap W l) (C (ix2 0 l)) r : ℝ) : EReal) := by
  pointwise [k0_pay1, k0_pay19]
  simp only [pay_up1, pay_up2, mul_real, add_real]
  rfl

/-- The sums over the sequence that the body stores, in terms of what it sums. -/
theorem pay_dw0 (Y D : FVec Ideal S2048x256 .f32) (j : S1x1x256.Idx) :
    k0_pay2 (F := Ideal) Y D j = ∑ r : Fin 2048, D (ix2 r (j 2)) * Y (ix2 r (j 2)) := by
  idx_vars j
  pointwise [k0_pay2]

theorem pay_dw1 (Y D : FVec Ideal S2048x256 .f32) (j : S1x1x256.Idx) :
    k0_pay3 (F := Ideal) Y D j = ∑ r : Fin 2048, D (ix2 r (j 2)) * Y (ix2 r (j 2)) := by
  idx_vars j
  pointwise [k0_pay3]

theorem pay_dw2 (Y D : FVec Ideal S2048x256 .f32) (j : S1x1x256.Idx) :
    k0_pay4 (F := Ideal) Y D j = ∑ r : Fin 2048, D (ix2 r (j 2)) * Y (ix2 r (j 2)) := by
  idx_vars j
  pointwise [k0_pay4]

theorem pay_dc (r : Fin 1) (s : Fin 1) (l : Fin 256) :
    k0_pay5 (F := Ideal) (k0_pay16 (k0_pay6 (fun i => (X i : EReal)) (fun i => (U i : EReal)))
      (k0_pay10 (fun i => (A i : EReal)) (fun i => (W i : EReal)) (fun i => (C i : EReal)))
      (k0_pay11 (fun i => (A i : EReal)) (fun i => (W i : EReal))) (fun i => (B i : EReal))) (ix3 r s l)
      = ((dc (col A l) (col B l) (dactB X U l) (tap W l) (C (ix2 0 l)) : ℝ) : EReal) := by
  pointwise [k0_pay5]
  simp only [pay_dac, coe_sum]
  rfl

/-- A tap's gradient: the sum of the convolution's gradient against the delayed input. -/
theorem sum_dw (Y D : FVec Ideal S2048x256 .f32) (k : Fin 3) (l : Fin 256)
    (hY : ∀ r : Fin 2048, Y (ix2 r l) = ((dn (2 - k.val) (col A l) r : ℝ) : EReal))
    (hD : ∀ r : Fin 2048, D (ix2 r l) = ((dac (col A l) (col B l) (dactB X U l) (tap W l) (C (ix2 0 l)) r : ℝ) : EReal)) :
    ∑ r : Fin 2048, D (ix2 r l) * Y (ix2 r l) = ((dw (col A l) (col B l) (dactB X U l) (tap W l) (C (ix2 0 l)) k : ℝ) : EReal) := by
  simp only [hY, hD, mul_real, coe_sum]
  rfl

end body

end Cert.ConvKIdeal.Hand

end
-- ==== Proof.Conv.Kernel.lean ====
/- The gradients of the causal convolution: what the kernel leaves in its result arrays. -/
module

public import proofs.«01_k».proof.Proof.Conv.Spec

@[expose] public section

set_option maxRecDepth 16384

noncomputable section

namespace Cert.ConvKIdeal.Hand

open Cert.Hand Cert.ConvKIdeal Cert.ConvKIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 11, 0, 0] ∧ win0_1.index t = ![t.val % 11, 0]
    ∧ win0_2.index t = ![t.val / 11, 0, t.val % 11] ∧ win0_3.index t = ![t.val / 11, 0, t.val % 11]
    ∧ win0_4.index t = ![0, t.val % 11] ∧ win0_5.index t = ![0, t.val % 11]
    ∧ win0_6.index t = ![t.val / 11, 0, t.val % 11] ∧ win0_7.index t = ![t.val / 11, 0, t.val % 11]
    ∧ win0_8.index t = ![t.val / 11, 0, t.val % 11] ∧ win0_9.index t = ![t.val / 11, 0, t.val % 11] :=
  (by decide +kernel : ∀ t : Fin grid0.N, _)

/-- The sequence, and the channel of lane `l`, of block `t`. -/
def seq (t : Fin cfg0.N) : Fin 2 := ⟨t.val / 11, by have := t.isLt; have : cfg0.N = 22 := rfl; omega⟩
def chan (t : Fin cfg0.N) (l : Fin 256) : Fin 2816 := ⟨t.val % 11 * 256 + l.val, by have := l.isLt; omega⟩

variable (x : S2x2048x1024.Idx → ℝ) (u : S2816x1024.Idx → ℝ) (a b : S2x2048x2816.Idx → ℝ) (w : S3x2816.Idx → ℝ) (cb : S1x2816.Idx → ℝ)

/-- The cotangent of the gated product. -/
def dact (s : Fin 2) (l : Fin 2816) (r : Fin 2048) : ℝ := ∑ k, x (ix3 s r k) * u (ix2 l k)

/-- One channel of one sequence, and of the taps. -/
abbrev ch (a : S2x2048x2816.Idx → ℝ) (s : Fin 2) (l : Fin 2816) : Fin 2048 → ℝ := fun r => a (ix3 s r l)
abbrev tp (l : Fin 2816) : Fin 3 → ℝ := fun k => w (ix2 k l)

/-- The gradients of every channel. -/
def gda (s : Fin 2) (r : Fin 2048) (l : Fin 2816) : ℝ := da (ch a s l) (ch b s l) (dact x u s l) (tp w l) (cb (ix2 0 l)) r
def gdb (s : Fin 2) (r : Fin 2048) (l : Fin 2816) : ℝ := db (ch a s l) (dact x u s l) (tp w l) (cb (ix2 0 l)) r
def gdw (s : Fin 2) (k : Fin 3) (l : Fin 2816) : ℝ := dw (ch a s l) (ch b s l) (dact x u s l) (tp w l) (cb (ix2 0 l)) k
def gdc (s : Fin 2) (l : Fin 2816) : ℝ := dc (ch a s l) (ch b s l) (dact x u s l) (tp w l) (cb (ix2 0 l))

/-- The blocks of the arguments at a grid point. -/
def bx (t : Fin cfg0.N) : S1x2048x1024.Idx → ℝ := fun j => x (ix3 (seq t) (j 1) (j 2))
def bu (t : Fin cfg0.N) : S256x1024.Idx → ℝ := fun j => u (ix2 (chan t (j 0)) (j 1))
def ba (t : Fin cfg0.N) : S1x2048x256.Idx → ℝ := fun j => a (ix3 (seq t) (j 1) (chan t (j 2)))
def bw (t : Fin cfg0.N) : S3x256.Idx → ℝ := fun j => w (ix2 (j 0) (chan t (j 1)))
def bc (t : Fin cfg0.N) : S1x256.Idx → ℝ := fun j => cb (ix2 0 (chan t (j 1)))

section blocks
variable (c : Dev nD) (t : Fin cfg0.N)

theorem blk_x (h : m ((c : Thread nD τ).loc main_arg0) = fun i => (x i : EReal)) :
    (iblk m c 0 t : FVec Ideal S1x2048x1024 .bf16) = fun j => (bx x t j : EReal) := by
  funext j
  trans m ((c : Thread nD τ).loc main_arg0) (ix3 (seq t) (j 1) (j 2))
  · blk_ext [iblk, V, idx t, seq]
  · rw [h]; rfl

theorem blk_u (h : m ((c : Thread nD τ).loc main_arg1) = fun i => (u i : EReal)) :
    (iblk m c 1 t : FVec Ideal S256x1024 .bf16) = fun j => (bu u t j : EReal) := by
  funext j
  trans m ((c : Thread nD τ).loc main_arg1) (ix2 (chan t (j 0)) (j 1))
  · blk_ext [iblk, V, idx t, chan]
  · rw [h]; rfl

theorem blk_a (h : m ((c : Thread nD τ).loc main_arg2) = fun i => (a i : EReal)) :
    (iblk m c 2 t : FVec Ideal S1x2048x256 .bf16) = fun j => (ba a t j : EReal) := by
  funext j
  trans m ((c : Thread nD τ).loc main_arg2) (ix3 (seq t) (j 1) (chan t (j 2)))
  · blk_ext [iblk, V, idx t, seq, chan]
  · rw [h]; rfl

theorem blk_b (h : m ((c : Thread nD τ).loc main_arg3) = fun i => (b i : EReal)) :
    (iblk m c 3 t : FVec Ideal S1x2048x256 .bf16) = fun j => (ba b t j : EReal) := by
  funext j
  trans m ((c : Thread nD τ).loc main_arg3) (ix3 (seq t) (j 1) (chan t (j 2)))
  · blk_ext [iblk, V, idx t, seq, chan]
  · rw [h]; rfl

theorem blk_w (h : m ((c : Thread nD τ).loc main_arg4) = fun i => (w i : EReal)) :
    (iblk m c 4 t : FVec Ideal S3x256 .f32) = fun j => (bw w t j : EReal) := by
  funext j
  trans m ((c : Thread nD τ).loc main_arg4) (ix2 (j 0) (chan t (j 1)))
  · blk_ext [iblk, V, idx t, chan]
  · rw [h]; rfl

theorem blk_cb (h : m ((c : Thread nD τ).loc main_arg5) = fun i => (cb i : EReal)) :
    (iblk m c 5 t : FVec Ideal S1x256 .f32) = fun j => (bc cb t j : EReal) := by
  funext j
  trans m ((c : Thread nD τ).loc main_arg5) (ix2 0 (chan t (j 1)))
  · blk_ext [iblk, V, idx t, chan]
  · rw [h]; rfl

end blocks

/-- The shared values the body names, in terms of the argument blocks. -/
theorem pay_named (x0 : FVec Ideal S1x2048x1024 .bf16) (x1 : FVec Ideal S256x1024 .bf16) (x2 x3 : FVec Ideal S1x2048x256 .bf16)
    (x4 : FVec Ideal S3x256 .f32) (x5 : FVec Ideal S1x256 .f32) :
    k0_pay20 (F := Ideal) x0 x1 x2 x3 x4 x5 = k0_pay6 (F := Ideal) x0 x1 ∧ k0_pay21 (F := Ideal) x0 x1 x2 x3 x4 x5 = k0_pay10 (F := Ideal) x2 x4 x5 ∧ k0_pay22 (F := Ideal) x0 x1 x2 x3 x4 x5 = k0_pay11 (F := Ideal) x2 x4
      ∧ k0_pay23 (F := Ideal) x0 x1 x2 x3 x4 x5 = k0_pay16 (F := Ideal) (k0_pay6 (F := Ideal) x0 x1) (k0_pay10 (F := Ideal) x2 x4 x5) (k0_pay11 (F := Ideal) x2 x4) x3 := by
  refine ⟨?_, ?_, ?_, ?_⟩
  · unfold k0_pay20; frame_out
  · unfold k0_pay21; frame_out
  · unfold k0_pay22; frame_out
  · unfold k0_pay23 k0_pay20 k0_pay21 k0_pay22; frame_out

section final
variable (c : Dev nD)
  (h0 : m ((c : Thread nD τ).loc main_arg0) = fun i => (x i : EReal))
  (h1 : m ((c : Thread nD τ).loc main_arg1) = fun i => (u i : EReal))
  (h2 : m ((c : Thread nD τ).loc main_arg2) = fun i => (a i : EReal))
  (h3 : m ((c : Thread nD τ).loc main_arg3) = fun i => (b i : EReal))
  (h4 : m ((c : Thread nD τ).loc main_arg4) = fun i => (w i : EReal))
  (h5 : m ((c : Thread nD τ).loc main_arg5) = fun i => (cb i : EReal))
include h0 h1 h2 h3 h4 h5

theorem final_da : (dats m 0 c).arrAt 6 cfg0.N = fun i => (gda x u a b w cb (i 0) (i 1) (i 2) : EReal) := by
  refine (dats m 0 c).arrAt_eq_of_covers 6 _ (by decide +kernel) fun t _ y => ?_
  have e : (((cfg0.win 6).blk t).view.emb y : S2x2048x2816.Idx) = ix3 (seq t) (y 1) (chan t (y 2)) := by blk_ext [idx t, seq, chan]
  rw [e]
  blk_simp
  rw [after0_6]
  frame_out
  rw [(pay_named _ _ _ _ _ _).1, (pay_named _ _ _ _ _ _).2.1, (pay_named _ _ _ _ _ _).2.2.1]
  rw [blk_x m x c t h0, blk_u m u c t h1, blk_a m a c t h2, blk_b m b c t h3, blk_w m w c t h4, blk_cb m cb c t h5]
  idx_vars y
  exact pay_da (bx x t) (bu u t) (ba a t) (ba b t) (bw w t) (bc cb t) y0 y1 y2

theorem final_db : (dats m 0 c).arrAt 7 cfg0.N = fun i => (gdb x u a w cb (i 0) (i 1) (i 2) : EReal) := by
  refine (dats m 0 c).arrAt_eq_of_covers 7 _ (by decide +kernel) fun t _ y => ?_
  have e : (((cfg0.win 7).blk t).view.emb y : S2x2048x2816.Idx) = ix3 (seq t) (y 1) (chan t (y 2)) := by blk_ext [idx t, seq, chan]
  rw [e]
  blk_simp
  rw [after0_7]
  frame_out
  rw [(pay_named _ _ _ _ _ _).1, (pay_named _ _ _ _ _ _).2.1, (pay_named _ _ _ _ _ _).2.2.1]
  rw [blk_x m x c t h0, blk_u m u c t h1, blk_a m a c t h2, blk_w m w c t h4, blk_cb m cb c t h5]
  idx_vars y
  exact pay_db (bx x t) (bu u t) (ba a t) (bw w t) (bc cb t) y0 y1 y2

theorem final_dw : (dats m 0 c).arrAt 8 cfg0.N = fun i => (gdw x u a b w cb (i 0) (i 1) (i 2) : EReal) := by
  refine (dats m 0 c).arrAt_eq_of_covers 8 _ (by decide +kernel) fun t _ y => ?_
  have e : (((cfg0.win 8).blk t).view.emb y : S2x3x2816.Idx) = ix3 (seq t) (y 1) (chan t (y 2)) := by blk_ext [idx t, seq, chan]
  rw [e]
  blk_simp
  rw [after0_8]
  frame_out
  rw [(pay_named _ _ _ _ _ _).2.2.2]
  rw [blk_x m x c t h0, blk_u m u c t h1, blk_a m a c t h2, blk_b m b c t h3, blk_w m w c t h4, blk_cb m cb c t h5]
  have key := sum_dw (bx x t) (bu u t) (ba a t) (ba b t) (bw w t) (bc cb t)
  have hg : ∀ (k : Fin 3) (l : Fin 256), (y 1).val = k.val → (y 2).val = l.val →
      ((dw (col (ba a t) l) (col (ba b t) l) (dactB (bx x t) (bu u t) l) (tap (bw w t) l) (bc cb t (ix2 0 l)) k : ℝ) : EReal)
        = (gdw x u a b w cb (ix3 (seq t) (y 1) (chan t (y 2)) 0) (ix3 (seq t) (y 1) (chan t (y 2)) 1)
            (ix3 (seq t) (y 1) (chan t (y 2)) 2) : EReal) := by
    intro k l hk hl
    obtain rfl : k = (y 1 : Fin 3) := Fin.ext hk.symm
    obtain rfl : l = (y 2 : Fin 256) := Fin.ext hl.symm
    rfl
  have dac_read := pay_dac (bx x t) (bu u t) (ba a t) (ba b t) (bw w t) (bc cb t)
  canon_tiles z q
  case piece0 =>
    exact (pay_dw2 _ _ z).trans ((key _ _ 2 (z 2) (fun r => (pay_a (ba a t) r (z 2)).trans (congrArg _ (dn_zero (col (ba a t) (z 2)) r).symm))
      fun r => dac_read r (z 2)).trans (hg 2 (z 2) (by show _ = 2; omega) q2))
  case piece1 =>
    exact (pay_dw1 _ _ z).trans ((key _ _ 1 (z 2) (fun r => pay_dn1 (ba a t) r (z 2))
      fun r => dac_read r (z 2)).trans (hg 1 (z 2) (by show _ = 1; omega) q2))
  case piece2 =>
    exact (pay_dw0 _ _ z).trans ((key _ _ 0 (z 2) (fun r => pay_dn2 (ba a t) r (z 2))
      fun r => dac_read r (z 2)).trans (hg 0 (z 2) (by show _ = 0; omega) q2))

theorem final_dc : (dats m 0 c).arrAt 9 cfg0.N = fun i => (gdc x u a b w cb (i 0) (i 2) : EReal) := by
  refine (dats m 0 c).arrAt_eq_of_covers 9 _ (by decide +kernel) fun t _ y => ?_
  have e : (((cfg0.win 9).blk t).view.emb y : S2x1x2816.Idx) = ix3 (seq t) 0 (chan t (y 2)) := by blk_ext [idx t, seq, chan]
  rw [e]
  blk_simp
  rw [after0_9]
  frame_out
  rw [(pay_named _ _ _ _ _ _).2.2.2]
  rw [blk_x m x c t h0, blk_u m u c t h1, blk_a m a c t h2, blk_b m b c t h3, blk_w m w c t h4, blk_cb m cb c t h5]
  idx_vars y
  exact pay_dc (bx x t) (bu u t) (ba a t) (ba b t) (bw w t) (bc cb t) y0 y1 y2

end final

end Cert.ConvKIdeal.Hand

end
-- ==== Proof.Conv.Reference.lean ====
/- The gradients of the causal convolution: what the derivative of the forward lines computes, channel by channel. -/
module

public import proofs.«01_k».proof.Proof.Gen.ConvRIdeal.Run
public import proofs.«01_k».proof.Proof.Gen.ConvRIdeal.Read
public import proofs.«01_k».proof.Proof.Conv.Kernel

@[expose] public section

set_option maxRecDepth 16384

noncomputable section

namespace Cert.ConvKIdeal.Hand

open Cert.Hand Cert.ConvKIdeal Idealize.ShloMosaic Cert.ConvRIdeal.Read

variable (x : S2x2048x1024.Idx → ℝ) (u : S2816x1024.Idx → ℝ) (a b : S2x2048x2816.Idx → ℝ) (w : S3x2816.Idx → ℝ) (cb : S1x2816.Idx → ℝ)

theorem dn_late (d : ℕ) (f : Fin 2048 → ℝ) (r : Fin 2048) (h : d ≤ r.val) (q : Fin 2048) (e : q.val = r.val - d) :
    (f q : EReal) = ((dn d f r : ℝ) : EReal) := by
  have e' : q = ⟨r.val - d, by omega⟩ := Fin.ext e
  unfold dn
  rw [if_pos h, e']

theorem dn_early (d : ℕ) (f : Fin 2048 → ℝ) (r : Fin 2048) (h : ¬ d ≤ r.val) : (0 : EReal) = ((dn d f r : ℝ) : EReal) := by
  unfold dn
  rw [if_neg h, EReal.coe_zero]

/-- The padded sequence's slices are the delayed sequences. -/
theorem ref_dn2 (s : Fin 2) (r : Fin 2048) (l : Fin 2816) :
    val_main_v9 (F := Ideal) (fun i => (a i : EReal)) (ix3 s r l) = ((dn 2 (ch a s l) r : ℝ) : EReal) := by
  pointwise [val_main_v0, val_main_v3, val_main_v4, val_main_v5, val_main_v9, val_main_cst]
  by_cases h : r.val < 2
  · exact (dif_pos h).trans (dn_early 2 (ch a s l) r (by omega))
  · exact (dif_neg h).trans (dn_late 2 (ch a s l) r (by omega) _ rfl)

theorem ref_dn1 (s : Fin 2) (r : Fin 2048) (l : Fin 2816) :
    val_main_v19 (F := Ideal) (fun i => (a i : EReal)) (ix3 s r l) = ((dn 1 (ch a s l) r : ℝ) : EReal) := by
  pointwise [val_main_v0, val_main_v3, val_main_v4, val_main_v5, val_main_v19, val_main_cst]
  by_cases h : 1 + r.val < 2
  · exact (dif_pos h).trans (dn_early 1 (ch a s l) r (by omega))
  · exact (dif_neg h).trans (dn_late 1 (ch a s l) r (by omega) ⟨1 + r.val - 2, by omega⟩ (by show 1 + r.val - 2 = r.val - 1; omega))

theorem ref_dn0 (s : Fin 2) (r : Fin 2048) (l : Fin 2816) :
    val_main_v27 (F := Ideal) (fun i => (a i : EReal)) (ix3 s r l) = ((a (ix3 s r l) : ℝ) : EReal) := by
  pointwise [val_main_v0, val_main_v3, val_main_v4, val_main_v5, val_main_v27, val_main_cst]

theorem ref_pre (s : Fin 2) (r : Fin 2048) (l : Fin 2816) :
    val_main_v32 (F := Ideal) (fun i => (a i : EReal)) (fun i => (w i : EReal)) (fun i => (cb i : EReal)) (ix3 s r l)
      = ((pre (ch a s l) (tp w l) (cb (ix2 0 l)) r : ℝ) : EReal) := by
  pointwise [val_main_v7, val_main_v8, val_main_v10, val_main_v11, val_main_v12, val_main_v13, val_main_v14, val_main_v15,
    val_main_v16, val_main_v17, val_main_v18, val_main_v20, val_main_v21, val_main_v22, val_main_v23, val_main_v24,
    val_main_v25, val_main_v26, val_main_v28, val_main_v29, val_main_v30, val_main_v31, val_main_v32]
  simp only [ref_dn2, ref_dn1, ref_dn0, mul_real, add_real]
  rfl

theorem ref_dact (s : Fin 2) (r : Fin 2048) (l : Fin 2816) :
    val_main_v37 (F := Ideal) (fun i => (x i : EReal)) (fun i => (u i : EReal)) (ix3 s r l) = ((dact x u s l r : ℝ) : EReal) := by
  pointwise [val_main_v2, val_main_v36, val_main_v37]
  simp only [mul_real, coe_sum]
  rfl

theorem ref_dac (s : Fin 2) (r : Fin 2048) (l : Fin 2816) :
    val_main_v40 (F := Ideal) (fun i => (x i : EReal)) (fun i => (u i : EReal)) (fun i => (a i : EReal)) (fun i => (b i : EReal))
      (fun i => (w i : EReal)) (fun i => (cb i : EReal)) (ix3 s r l)
      = ((dac (ch a s l) (ch b s l) (dact x u s l) (tp w l) (cb (ix2 0 l)) r : ℝ) : EReal) := by
  pointwise [val_main_v1, val_main_v33_1, val_main_v33_2, val_main_v39, val_main_v40, val_main_call0_cst, val_main_call0_v0,
    val_main_call0_cst_0, val_main_call0_v1, val_main_call0_cst_1, val_main_call0_v2, val_main_call0_v3, val_main_call0_v4,
    val_main_call0_v6, val_main_call0_v7, val_main_call1_v0, val_main_call1_v1, val_main_call1_v2]
  have hs : ∀ x : ℝ, Ideal.div 1 (1 + Ideal.exp (-(x : EReal))) = ((sigm x : ℝ) : EReal) := logistic_real
  simp only [ref_pre, ref_dact, hs]
  simp only [← EReal.coe_one, mul_real, sub_real, add_real]
  refine congrArg _ ?_
  unfold dac
  ring

theorem ref_db (s : Fin 2) (r : Fin 2048) (l : Fin 2816) :
    val_main_v80 (F := Ideal) (fun i => (x i : EReal)) (fun i => (u i : EReal)) (fun i => (a i : EReal))
      (fun i => (w i : EReal)) (fun i => (cb i : EReal)) (ix3 s r l) = ((gdb x u a w cb s r l : ℝ) : EReal) := by
  pointwise [val_main_v33_0, val_main_v33_2, val_main_v38, val_main_v80, val_main_call0_cst, val_main_call0_v0,
    val_main_call0_cst_0, val_main_call0_v1, val_main_call0_v2, val_main_call0_v3, val_main_call0_v4]
  have hs : ∀ x : ℝ, Ideal.div 1 (1 + Ideal.exp (-(x : EReal))) = ((sigm x : ℝ) : EReal) := logistic_real
  simp only [ref_pre, ref_dact, hs, mul_real]
  refine congrArg _ ?_
  unfold gdb db
  ring

theorem ref_da (s : Fin 2) (r : Fin 2048) (l : Fin 2816) :
    val_main_v79 (F := Ideal) (fun i => (x i : EReal)) (fun i => (u i : EReal)) (fun i => (a i : EReal)) (fun i => (b i : EReal))
      (fun i => (w i : EReal)) (fun i => (cb i : EReal)) (ix3 s r l) = ((gda x u a b w cb s r l : ℝ) : EReal) := by
  pointwise [val_main_v7, val_main_v8, val_main_v10, val_main_v17, val_main_v18, val_main_v20, val_main_v25, val_main_v26,
    val_main_v28, val_main_v41, val_main_v42, val_main_v43, val_main_v48, val_main_v51, val_main_v52, val_main_v53,
    val_main_v58, val_main_v59, val_main_v65, val_main_v66, val_main_v67, val_main_v72, val_main_v73, val_main_v78,
    val_main_v79, val_main_cst_3, val_main_cst_7, val_main_cst_12]
  simp only [ref_dac]
  generalize hf : dac (ch a s l) (ch b s l) (dact x u s l) (tp w l) (cb (ix2 0 l)) = f
  have u1 : (if h : 1 ≤ 2 + r.val ∧ 2 + r.val - 1 < 2048 then (w (ix2 1 l) : EReal) * (f ⟨2 + r.val - 1, h.2⟩ : EReal) else 0)
      = ((w (ix2 1 l) * up 1 f r : ℝ) : EReal) := by
    unfold up
    split_ifs with h h' h'
    · rw [mul_real]
      exact congrArg (fun k => ((w (ix2 1 l) * f k : ℝ) : EReal)) (Fin.ext (by show 2 + r.val - 1 = r.val + 1; omega))
    · omega
    · omega
    · simp
  have u2 : (if h : 2 + r.val < 2048 then (w (ix2 0 l) : EReal) * (f ⟨2 + r.val, h⟩ : EReal) else 0)
      = ((w (ix2 0 l) * up 2 f r : ℝ) : EReal) := by
    unfold up
    split_ifs with h h' h'
    · rw [mul_real]
      exact congrArg (fun k => ((w (ix2 0 l) * f k : ℝ) : EReal)) (Fin.ext (by show 2 + r.val = r.val + 2; omega))
    · omega
    · omega
    · simp
  refine (congrArg₂ (fun y z : EReal => (w (ix2 2 l) : EReal) * (f r : EReal) + y + z) u1 u2).trans ?_
  simp only [mul_real, add_real]
  unfold gda da
  rw [hf]

theorem ref_dw (s : Fin 2) (k : Fin 3) (l : Fin 2816) :
    val_main_v76 (F := Ideal) (fun i => (x i : EReal)) (fun i => (u i : EReal)) (fun i => (a i : EReal)) (fun i => (b i : EReal))
      (fun i => (w i : EReal)) (fun i => (cb i : EReal)) (ix3 s k l) = ((gdw x u a b w cb s k l : ℝ) : EReal) := by
  pointwise [val_main_v44, val_main_v45, val_main_v46, val_main_v47, val_main_v49, val_main_v50, val_main_v54, val_main_v55,
    val_main_v56, val_main_v57, val_main_v60, val_main_v61, val_main_v62, val_main_v68, val_main_v69, val_main_v70,
    val_main_v71, val_main_v74, val_main_v75, val_main_v76, val_main_cst_1, val_main_cst_2, val_main_cst_4, val_main_cst_5,
    val_main_cst_6, val_main_cst_8, val_main_cst_10, val_main_cst_11, val_main_cst_13]
  simp only [ref_dac, ref_dn0, ref_dn1, ref_dn2, mul_real, coe_sum, Finset.sum_const, Finset.card_univ, Fintype.card_fin, one_smul]
  fin_cases k <;> simp <;> rfl

theorem ref_dc (s : Fin 2) (o : Fin 1) (l : Fin 2816) :
    val_main_v64 (F := Ideal) (fun i => (x i : EReal)) (fun i => (u i : EReal)) (fun i => (a i : EReal)) (fun i => (b i : EReal))
      (fun i => (w i : EReal)) (fun i => (cb i : EReal)) (ix3 s o l) = ((gdc x u a b w cb s l : ℝ) : EReal) := by
  pointwise [val_main_v63, val_main_v64, val_main_cst_9]
  simp only [ref_dac, coe_sum]
  rfl

end Cert.ConvKIdeal.Hand

end
-- ==== Proof.Conv.Claim.lean ====
/- The value of the convolution-gate gradient: the call leaves what the derivative of the reference leaves. -/
module

public import proofs.«01_k».proof.Defs
public import proofs.«01_k».proof.Proof.Gen.Pre_finite_conv
public import proofs.«01_k».proof.Proof.Conv.Reference

@[expose] public section

set_option maxRecDepth 16384

noncomputable section

namespace Cert.ConvKIdeal.Hand

open Cert.Hand Cert.ConvKIdeal Cert.ConvKIdeal.Gen Idealize.ShloMosaic Idealize.ShloMosaic.TcCoe Idealize.SL.Sem

variable (m : (ℓ : Loc nD τ sig) → Buf (Elt Ideal) ℓ)

/-- The precondition makes every argument an array of reals. -/
theorem args_real (h : Cert.Pre_ConvKIdeal_finite_conv (hPre_finite_conv := Cert.Pre_finite_conv.Gen.facts) m) (c : Dev nD) :
    (∃ x : S2x2048x1024.Idx → ℝ, m ((c : Thread nD τ).loc main_arg0) = fun i => ((x i : ℝ) : EReal))
    ∧ (∃ x : S2816x1024.Idx → ℝ, m ((c : Thread nD τ).loc main_arg1) = fun i => ((x i : ℝ) : EReal))
    ∧ (∃ x : S2x2048x2816.Idx → ℝ, m ((c : Thread nD τ).loc main_arg2) = fun i => ((x i : ℝ) : EReal))
    ∧ (∃ x : S2x2048x2816.Idx → ℝ, m ((c : Thread nD τ).loc main_arg3) = fun i => ((x i : ℝ) : EReal))
    ∧ (∃ x : S3x2816.Idx → ℝ, m ((c : Thread nD τ).loc main_arg4) = fun i => ((x i : ℝ) : EReal))
    ∧ (∃ x : S1x2816.Idx → ℝ, m ((c : Thread nD τ).loc main_arg5) = fun i => ((x i : ℝ) : EReal)) := by
  obtain ⟨h0, h1, h2, h3, h4, h5⟩ := h c
  exact ⟨real_of_below (φ := .bf16) _ _ (fun _ => lit_inf16) h0,
    real_of_below (φ := .bf16) _ _ (fun _ => lit_inf16) h1,
    real_of_below (φ := .bf16) _ _ (fun _ => lit_inf16) h2,
    real_of_below (φ := .bf16) _ _ (fun _ => lit_inf16) h3,
    real_of_below (φ := .f32) _ _ (fun _ => lit_inf) h4,
    real_of_below (φ := .f32) _ _ (fun _ => lit_inf) h5⟩

/-- The pair's claim: both programs run and leave the same arrays. -/
theorem value : Cert.algebraic_ConvKIdeal_ConvRIdeal_pre_finite_conv (hPre_finite_conv := Cert.Pre_finite_conv.Gen.facts) := by
  intro m g m' g' hpre hagree
  refine ⟨_, _, _, _, Value.run_blocks m g, ?_⟩
  refine (θ_run _ _ _).mono (fun r h c => ?_) (Cert.ConvRIdeal.Value.run m' g')
  obtain ⟨r0, r1, r2, r3, ha⟩ := h c
  obtain ⟨e0, e1, e2, e3, e4, e5⟩ := hagree c
  obtain ⟨⟨x, h0⟩, ⟨u, h1⟩, ⟨a, h2⟩, ⟨b, h3⟩, ⟨w, h4⟩, ⟨cb, h5⟩⟩ := args_real m hpre c
  refine ⟨r0.trans ?_, r1.trans ?_, r2.trans ?_, r3.trans ?_, ha⟩
  · rw [final_da m x u a b w cb c h0 h1 h2 h3 h4 h5]
    refine (Cert.ConvRIdeal.Read.val_main_v79_eq m' c).trans ?_
    rw [e0.trans h0, e1.trans h1, e2.trans h2, e3.trans h3, e4.trans h4, e5.trans h5]
    funext i; idx_vars i
    exact ref_da x u a b w cb _ _ _
  · rw [final_db m x u a b w cb c h0 h1 h2 h3 h4 h5]
    refine (Cert.ConvRIdeal.Read.val_main_v80_eq m' c).trans ?_
    rw [e0.trans h0, e1.trans h1, e2.trans h2, e4.trans h4, e5.trans h5]
    funext i; idx_vars i
    exact ref_db x u a w cb _ _ _
  · rw [final_dw m x u a b w cb c h0 h1 h2 h3 h4 h5]
    refine (Cert.ConvRIdeal.Read.val_main_v76_eq m' c).trans ?_
    rw [e0.trans h0, e1.trans h1, e2.trans h2, e3.trans h3, e4.trans h4, e5.trans h5]
    funext i; idx_vars i
    exact ref_dw x u a b w cb _ _ _
  · rw [final_dc m x u a b w cb c h0 h1 h2 h3 h4 h5]
    refine (Cert.ConvRIdeal.Read.val_main_v64_eq m' c).trans ?_
    rw [e0.trans h0, e1.trans h1, e2.trans h2, e3.trans h3, e4.trans h4, e5.trans h5]
    funext i; idx_vars i
    exact ref_dc x u a b w cb _ _ _

end Cert.ConvKIdeal.Hand

end
-- ==== Proof.Shared.Gelu.lean ====
/- The tanh form of the Gaussian error unit, its slope as the derivative leaves it, and the layer norm along one row of
   512 numbers, over the reals. -/
module

public import proofs.«01_k».proof.Proof.Shared.Real

@[expose] public section

noncomputable section

namespace Cert.Hand

open Idealize.ShloMosaic

/-! ## The unit's two constants and the norm's row length -/

def cubic : ℝ := 12003091 * (2 ^ 28)⁻¹
def stretch : ℝ := 13386282 * (2 ^ 24)⁻¹

theorem lit_cubic : Ideal.ofBits .f32 0x3D372713#32 = ((cubic : ℝ) : EReal) := by
  simp [Ideal.ofBits, Ideal.ieee, cubic]

theorem lit_stretch : Ideal.ofBits .f32 0x3F4C422A#32 = ((stretch : ℝ) : EReal) := by
  simp [Ideal.ofBits, Ideal.ieee, stretch]

theorem lit_512 : Ideal.ofBits .f32 0x44000000#32 = ((512 : ℝ) : EReal) := by
  simp [Ideal.ofBits, Ideal.ieee]
  norm_cast
  norm_num

theorem lit_three : Ideal.ofBits .f32 0x40400000#32 = ((3 : ℝ) : EReal) := by
  simp [Ideal.ofBits, Ideal.ieee]
  norm_cast
  norm_num

theorem tanh_real (x : ℝ) : Ideal.tanh (x : EReal) = ((Real.tanh x : ℝ) : EReal) := rfl

/-! ## The unit and its slope -/

/-- The bend inside the unit. -/
def bend (x : ℝ) : ℝ := Real.tanh (stretch * (x + cubic * (x * (x * x))))

/-- The unit. -/
def gel (x : ℝ) : ℝ := x * (1 / 2 * (1 + bend x))

/-- Its slope at `x`, times the cotangent `c`. -/
def gelSlope (x c : ℝ) : ℝ :=
  c * (1 / 2 * (1 + bend x)) + stretch * (1 / 2 * (x * c) * ((1 + bend x) * (1 - bend x)))
    + cubic * (stretch * (1 / 2 * (x * c) * ((1 + bend x) * (1 - bend x)))) * (3 * (x * x))

/-! ## The layer norm of a row -/

def mean (x : Fin 512 → ℝ) : ℝ := (∑ k, x k) / 512

/-- The variance plus epsilon. -/
def spread (x : Fin 512 → ℝ) : ℝ := (∑ k, (x k - mean x) * (x k - mean x)) / 512 + eps

theorem spread_pos (x : Fin 512 → ℝ) : 0 < spread x := by
  have : 0 ≤ ∑ k, (x k - mean x) * (x k - mean x) := Finset.sum_nonneg fun k _ => mul_self_nonneg _
  have := eps_pos
  unfold spread
  positivity

def lnInv (x : Fin 512 → ℝ) : ℝ := (√(spread x))⁻¹

/-- The normalised row. -/
def lnHat (x : Fin 512 → ℝ) (j : Fin 512) : ℝ := (x j - mean x) * lnInv x

theorem mean_read (x : Fin 512 → ℝ) : Ideal.div (∑ k, (x k : EReal)) (Ideal.ofBits .f32 0x44000000#32) = ((mean x : ℝ) : EReal) := by
  rw [coe_sum, lit_512]
  exact div_real _ _ (by norm_num)

theorem spread_read (x : Fin 512 → ℝ) :
    Ideal.div (∑ k, ((x k : EReal) - (mean x : EReal)) * ((x k : EReal) - (mean x : EReal))) (Ideal.ofBits .f32 0x44000000#32)
      + Ideal.ofBits .f32 0x358637BD#32 = ((spread x : ℝ) : EReal) := by
  simp only [sub_real, mul_real, coe_sum, lit_512, lit_eps]
  rw [div_real _ _ (by norm_num), add_real]
  rfl

theorem lnInv_read (x : Fin 512 → ℝ) : Ideal.rsqrt (spread x : EReal) = ((lnInv x : ℝ) : EReal) := rsqrt_real _ (spread_pos x)

/-- The cotangent of the row, from the cotangent `u` of the normalised row, as the kernel writes it. -/
def lnGrad (x u : Fin 512 → ℝ) (j : Fin 512) : ℝ := lnInv x * (u j - mean u - lnHat x j * mean fun k => u k * lnHat x k)

end Cert.Hand

end
-- ==== Proof.Gmlp.Kernel.lean ====
/- The gradient of the gated spatial unit: what the kernel's blocks hold, as sums of reals over the argument arrays. -/
module

public import proofs.«01_k».proof.Proof.Gen.GmlpKIdeal.Value
public import proofs.«01_k».proof.Proof.Shared.Gelu
public import proofs.«01_k».proof.Proof.Shared.Stores
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.GmlpKIdeal.Hand

open Cert.Hand Cert.GmlpKIdeal Cert.GmlpKIdeal.Gen Idealize.ShloMosaic Idealize.ShloMosaic.TcCoe Idealize.SL.Sem
open Idealize.ShloMosaic.Pipeline (Dat)

/-! ## What is computed, over the argument arrays -/

/-- A feature's group, … -/
def hd (j : Fin 512) : Fin 4 := ⟨j.val / 128, by omega⟩

/-- … the feature at a place of a group, … -/
def feat (g : Fin 4) (k : Fin 128) : Fin 512 := ⟨128 * g.val + k.val, by omega⟩

/-- … a row's place in its chunk, … -/
def lo (r : Fin 4096) : Fin 128 := ⟨r.val % 128, by omega⟩

/-- … the row at a place of a chunk, … -/
def rowOf (n : Fin 32) (s : Fin 128) : Fin 4096 := ⟨n.val * 128 + s.val, by omega⟩

/-- … and the row at a place of the same chunk. -/
def sib (r : Fin 4096) (s : Fin 128) : Fin 4096 := ⟨r.val / 128 * 128 + s.val, by omega⟩

section spec
variable (p : S4096x6656.Idx → ℝ) (lg lb : S1x512.Idx → ℝ) (w : S4x128x128.Idx → ℝ) (b : S4x128.Idx → ℝ) (d : S4096x512.Idx → ℝ)
variable (r : Fin 4096) (j : Fin 512)

/-- The gating half and … -/
def zu : ℝ := p (ix2 r ⟨j.val, by omega⟩)

/-- … the mixed half, before the unit. -/
def zv : ℝ := p (ix2 r ⟨512 + j.val, by omega⟩)

/-- The mixed half's row. -/
def vrow : Fin 512 → ℝ := fun k => gel (zv p r k)

/-- The row's layer norm. -/
def vn : ℝ := lnHat (vrow p r) j * lg (ix2 0 j) + lb (ix2 0 j)

/-- The mixing weight, the present and the past only. -/
def wc (g : Fin 4) (t s : Fin 128) : ℝ := if s ≤ t then w (ix3 g t s) else 0

/-- The chunk mixed along its rows. -/
def mixed : ℝ := ∑ s : Fin 128, wc w (hd j) (lo r) s * vn p lg lb (sib r s) j + b (ix2 (hd j) (lo r))

/-- The cotangent of the gate, … -/
def du : ℝ := d (ix2 r j) * mixed p lg lb w b r j

/-- … of the mixed chunk, … -/
def dmx : ℝ := d (ix2 r j) * gel (zu p r j)

/-- … of the normed row, … -/
def dvn : ℝ := ∑ t : Fin 128, wc w (hd j) t (lo r) * dmx p d (sib r t) j

/-- … and of the row before its norm. -/
def dv : ℝ := lnGrad (vrow p r) (fun k => dvn p w d r k * lg (ix2 0 k)) j

/-- The cotangent of the two halves. -/
def dz (k : Fin 1024) : ℝ :=
  if h : k.val < 512 then gelSlope (zu p r ⟨k.val, h⟩) (du p lg lb w b d r ⟨k.val, h⟩)
  else gelSlope (zv p r ⟨k.val - 512, by omega⟩) (dv p lg w d r ⟨k.val - 512, by omega⟩)

/-- A chunk's share of the mixing weight's cotangent, before the mask. -/
def dwChunk (n : Fin 32) (g : Fin 4) (t s : Fin 128) : ℝ :=
  ∑ k : Fin 128, dmx p d (rowOf n t) (feat g k) * vn p lg lb (rowOf n s) (feat g k)

/-- A chunk's share of the bias's cotangent. -/
def dbChunk (n : Fin 32) (g : Fin 4) (t : Fin 128) : ℝ := ∑ k : Fin 128, dmx p d (rowOf n t) (feat g k)

end spec

/-! ## The tiles of a body -/

/-- A place in a body's rows or features: place `k` of tile `n`. -/
def at4 (n : Fin 4) (k : Fin 128) : Fin 512 := ⟨128 * n.val + k.val, by omega⟩

theorem sl (n g : Fin 4) : S512x512.Slices ![128 * n.val, 128 * g.val] S128x128 := by
  revert n g
  decide +kernel

/-- Sixteen tiles laid out as four by four. -/
def quilt (T : Fin 4 → Fin 4 → FVec Ideal S128x128 .f32) : FVec Ideal S512x512 .f32 :=
  concatenate S512x512 1
    [⟨S512x128, concatenate S512x128 0 [⟨S128x128, T 0 0⟩, ⟨S128x128, T 1 0⟩, ⟨S128x128, T 2 0⟩, ⟨S128x128, T 3 0⟩] concatenates_S128x128_S128x128_S128x128_S128x128_S512x128_d0⟩,
     ⟨S512x128, concatenate S512x128 0 [⟨S128x128, T 0 1⟩, ⟨S128x128, T 1 1⟩, ⟨S128x128, T 2 1⟩, ⟨S128x128, T 3 1⟩] concatenates_S128x128_S128x128_S128x128_S128x128_S512x128_d0⟩,
     ⟨S512x128, concatenate S512x128 0 [⟨S128x128, T 0 2⟩, ⟨S128x128, T 1 2⟩, ⟨S128x128, T 2 2⟩, ⟨S128x128, T 3 2⟩] concatenates_S128x128_S128x128_S128x128_S128x128_S512x128_d0⟩,
     ⟨S512x128, concatenate S512x128 0 [⟨S128x128, T 0 3⟩, ⟨S128x128, T 1 3⟩, ⟨S128x128, T 2 3⟩, ⟨S128x128, T 3 3⟩] concatenates_S128x128_S128x128_S128x128_S128x128_S512x128_d0⟩]
    concatenates_S512x128_S512x128_S512x128_S512x128_S512x512_d1

section tiles
variable (VN U D : FVec Ideal S512x512 .f32) (W : Fin 4 → FVec Ideal S128x128 .f32) (B : Fin 4 → FVec Ideal S128x1 .f32)

def tDm (n g : Fin 4) : FVec Ideal S128x128 .f32 :=
  mulf (extractStridedSlice S128x128 _ D (sl n g)) (extractStridedSlice S128x128 _ U (sl n g))

def tDu (n g : Fin 4) : FVec Ideal S128x128 .f32 :=
  mulf (extractStridedSlice S128x128 _ D (sl n g))
    (addf (matmul dot_S128x128_S128x128_S128x128_1_0_0_1_n_n none (truncf .bf16 (W g) bitsLt_bf16_f32)
        (truncf .bf16 (extractStridedSlice S128x128 _ VN (sl n g)) bitsLt_bf16_f32) (constant S128x128 .f32 0x00000000#32))
      (broadcastTo S128x128 (shapeCast S128x1 (B g) shapeCasts_S128x1_S128x1) broadcasts_S128x1_S128x128))

def tDvn (n g : Fin 4) : FVec Ideal S128x128 .f32 :=
  matmul dot_S128x128_S128x128_S128x128_0_0_1_1_n_n none (truncf .bf16 (W g) bitsLt_bf16_f32)
    (truncf .bf16 (tDm U D n g) bitsLt_bf16_f32) (constant S128x128 .f32 0x00000000#32)

def tDw (n g : Fin 4) : FVec Ideal S128x128 .f32 :=
  matmul dot_S128x128_S128x128_S128x128_1_1_0_0_n_n none (truncf .bf16 (tDm U D n g) bitsLt_bf16_f32)
    (truncf .bf16 (extractStridedSlice S128x128 _ VN (sl n g)) bitsLt_bf16_f32) (constant S128x128 .f32 0x00000000#32)

/-- A group's four tiles added up. -/
def gDw (g : Fin 4) : FVec Ideal S128x128 .f32 :=
  addf (addf (addf (addf (k0_pay21 (F := Ideal)) (tDw VN U D 0 g)) (tDw VN U D 1 g)) (tDw VN U D 2 g)) (tDw VN U D 3 g)

/-- A tile's column sums in each of eight rows, the tile read in three pieces, each what the pieces before leave over. -/
def tSum (X : FVec Ideal S128x128 .f32) : FVec Ideal S8x128 .f32 :=
  let y := subf X (extf .f32 (truncf .bf16 X bitsLt_bf16_f32) bitsLt_bf16_f32)
  addf (addf
    (matmul dot_S8x128_S128x128_S8x128_1_1_0_0_n_n none (truncf .bf16 (k0_pay13 (F := Ideal)) bitsLt_bf16_f32) (truncf .bf16 X bitsLt_bf16_f32) (constant S8x128 .f32 0x00000000#32))
    (matmul dot_S8x128_S128x128_S8x128_1_1_0_0_n_n none (truncf .bf16 (k0_pay13 (F := Ideal)) bitsLt_bf16_f32) (truncf .bf16 y bitsLt_bf16_f32) (constant S8x128 .f32 0x00000000#32)))
    (matmul dot_S8x128_S128x128_S8x128_1_1_0_0_n_n none (truncf .bf16 (k0_pay13 (F := Ideal)) bitsLt_bf16_f32)
      (truncf .bf16 (subf y (extf .f32 (truncf .bf16 y bitsLt_bf16_f32) bitsLt_bf16_f32)) bitsLt_bf16_f32) (constant S8x128 .f32 0x00000000#32))

/-- Row `g` of eight is the tile's sums, the others are zero. -/
def tSel (n g : Fin 4) : FVec Ideal S8x128 .f32 :=
  select (cmpi .eq (iota .tc S8x128 32 [0] iota_S8x128_d0_w32) (broadcast S8x128 (BitVec.ofNat 32 g.val))) (tSum (tDm U D n g))
    (broadcast S8x128 (Scalar.ofBits .f32 0x00000000#32))

/-- A group's four tiles added on. -/
def gSel (a : FVec Ideal S8x128 .f32) (g : Fin 4) : FVec Ideal S8x128 .f32 :=
  addf (addf (addf (addf a (tSel U D 0 g)) (tSel U D 1 g)) (tSel U D 2 g)) (tSel U D 3 g)

/-- All sixteen. -/
def bSel : FVec Ideal S8x128 .f32 := gSel U D (gSel U D (gSel U D (gSel U D (k0_pay19 (F := Ideal)) 0) 1) 2) 3

end tiles

/-! ## The tiles over reals -/

set_option maxHeartbeats 1600000 in
theorem quilt_read (T : Fin 4 → Fin 4 → S128x128.Idx → ℝ) (n g : Fin 4) (r c : Fin 128) :
    quilt (fun n g i => (T n g i : EReal)) (ix2 (at4 n r) (at4 g c)) = (T n g (ix2 r c) : EReal) := by
  fin_cases g <;> fin_cases n <;> pointwise [quilt, at4] <;> split_ifs <;> first
    | (exfalso; omega)
    | exact congrArg₂ (fun a b => ((T _ _ (ix2 a b) : ℝ) : EReal)) (Fin.ext (by dsimp only <;> omega)) (Fin.ext (by dsimp only <;> omega))

section tilesR
variable (VN U D : S512x512.Idx → ℝ) (W : Fin 4 → S128x128.Idx → ℝ) (B : Fin 4 → S128x1.Idx → ℝ) (n g : Fin 4) (r c : Fin 128)

theorem tDm_read : tDm (fun i => (U i : EReal)) (fun i => (D i : EReal)) n g
    = fun i => ((D (ix2 (at4 n (i 0)) (at4 g (i 1))) * U (ix2 (at4 n (i 0)) (at4 g (i 1))) : ℝ) : EReal) := by
  funext i
  idx_vars i
  pointwise [tDm]
  simp only [mul_real]
  rfl

theorem tDu_read : tDu (fun i => (VN i : EReal)) (fun i => (D i : EReal)) (fun g i => (W g i : EReal)) (fun g i => (B g i : EReal)) n g
    = fun i => ((D (ix2 (at4 n (i 0)) (at4 g (i 1))) * (∑ s : Fin 128, W g (ix2 (i 0) s) * VN (ix2 (at4 n s) (at4 g (i 1))) + B g (ix2 (i 0) 0)) : ℝ) : EReal) := by
  funext i
  idx_vars i
  pointwise [tDu]
  simp only [mul_real, coe_sum, add_real]
  rfl

theorem tDvn_read : tDvn (fun i => (U i : EReal)) (fun i => (D i : EReal)) (fun g i => (W g i : EReal)) n g
    = fun i => ((∑ t : Fin 128, W g (ix2 t (i 0)) * (D (ix2 (at4 n t) (at4 g (i 1))) * U (ix2 (at4 n t) (at4 g (i 1)))) : ℝ) : EReal) := by
  funext i
  idx_vars i
  unfold tDvn
  rw [tDm_read]
  pointwise []
  simp only [mul_real, coe_sum]

theorem tDw_read : tDw (fun i => (VN i : EReal)) (fun i => (U i : EReal)) (fun i => (D i : EReal)) n g
    = fun i => ((∑ k : Fin 128, D (ix2 (at4 n (i 0)) (at4 g k)) * U (ix2 (at4 n (i 0)) (at4 g k)) * VN (ix2 (at4 n (i 1)) (at4 g k)) : ℝ) : EReal) := by
  funext i
  idx_vars i
  unfold tDw
  rw [tDm_read]
  pointwise []
  simp only [mul_real, coe_sum]
  rfl

theorem gDw_read : gDw (fun i => (VN i : EReal)) (fun i => (U i : EReal)) (fun i => (D i : EReal)) g (ix2 r c)
    = ((∑ n : Fin 4, ∑ k : Fin 128, D (ix2 (at4 n r) (at4 g k)) * U (ix2 (at4 n r) (at4 g k)) * VN (ix2 (at4 n c) (at4 g k)) : ℝ) : EReal) := by
  unfold gDw
  rw [tDw_read, tDw_read, tDw_read, tDw_read]
  pointwise [k0_pay21]
  rw [Fin.sum_univ_four]
  simp only [add_real, zero_add]

theorem tSum_read (X : S128x128.Idx → ℝ) (i : Fin 8) : tSum (fun i => (X i : EReal)) (ix2 i c) = ((∑ k : Fin 128, X (ix2 c k) : ℝ) : EReal) := by
  pointwise [tSum, k0_pay13]
  simp only [sub_real, sub_self, ← EReal.coe_one, mul_real, coe_sum, add_real, mul_zero, one_mul, Finset.sum_const_zero, add_zero]

end tilesR

/-- Row `i` of eight equal to `g`, as a mask. -/
theorem pick_row : ∀ (i : Fin 8) (g : Fin 4), IntOp.cmpi .eq (BitVec.ofNat 32 i.val) (BitVec.ofNat 32 g.val) = if i.val = g.val then 1#1 else 0#1 := by
  decide +kernel

theorem tSel_read (U D : S512x512.Idx → ℝ) (n g : Fin 4) (i : Fin 8) (c : Fin 128) :
    tSel (fun i => (U i : EReal)) (fun i => (D i : EReal)) n g (ix2 i c)
      = ((if i.val = g.val then ∑ k : Fin 128, D (ix2 (at4 n c) (at4 g k)) * U (ix2 (at4 n c) (at4 g k)) else 0 : ℝ) : EReal) := by
  have hs := tSum_read c (fun j => D (ix2 (at4 n (j 0)) (at4 g (j 1))) * U (ix2 (at4 n (j 0)) (at4 g (j 1)))) i
  rw [← tDm_read] at hs
  unfold tSel
  generalize tSum _ = y at hs ⊢
  pointwise [hs]
  rw [pick_row]
  split_ifs <;> rfl

/-! ## The body over a block of reals -/

section body
variable (P : S512x1024.Idx → ℝ) (G B : S1x512.Idx → ℝ)

/-- The block's two halves, … -/
def bzu : S512x512.Idx → ℝ := fun i => P (ix2 (i 0) ⟨(i 1).val, by have : (i 1).val < 512 := (i 1).isLt; omega⟩)
def bzv : S512x512.Idx → ℝ := fun i => P (ix2 (i 0) ⟨512 + (i 1).val, by have : (i 1).val < 512 := (i 1).isLt; omega⟩)

/-- … a row of the mixed half after the unit, … -/
def bv (r : Fin 512) : Fin 512 → ℝ := fun k => gel (bzv P (ix2 r k))

/-- … and the rows' layer norms. -/
def bvn : S512x512.Idx → ℝ := fun i => lnHat (bv P (i 0)) (i 1) * G (ix2 0 (i 1)) + B (ix2 0 (i 1))

theorem pay_zu : k0_pay3 (F := Ideal) (fun i => (P i : EReal)) = fun i => (bzu P i : EReal) := by
  funext i
  idx_vars i
  pointwise [k0_pay3, k0_pay2]
  rfl

theorem pay_zv : k0_pay4 (F := Ideal) (fun i => (P i : EReal)) = fun i => (bzv P i : EReal) := by
  funext i
  idx_vars i
  pointwise [k0_pay4, k0_pay2]
  rfl

theorem pay_u : k0_pay5 (F := Ideal) (fun i => (P i : EReal)) = fun i => (gel (bzu P i) : EReal) := by
  funext i
  unfold k0_pay5
  rw [pay_zu]
  pointwise []
  simp only [lit_cubic, lit_stretch, lit_half, ← EReal.coe_one, mul_real, add_real, tanh_real]
  rfl

theorem pay_v : k0_pay6 (F := Ideal) (fun i => (P i : EReal)) = fun i => (gel (bzv P i) : EReal) := by
  funext i
  unfold k0_pay6
  rw [pay_zv]
  pointwise []
  simp only [lit_cubic, lit_stretch, lit_half, ← EReal.coe_one, mul_real, add_real, tanh_real]
  rfl

theorem pay_mean : k0_pay7 (F := Ideal) (fun i => (P i : EReal)) = fun i => (mean (bv P (i 0)) : EReal) := by
  funext i
  idx_vars i
  unfold k0_pay7
  rw [pay_v]
  pointwise []
  exact mean_read (bv P i0)

theorem pay_rs : k0_pay9 (F := Ideal) (k0_pay8 (F := Ideal) (fun i => (P i : EReal))) (Scalar.ofBits .f32 0x44000000#32)
    = fun i => (lnInv (bv P (i 0)) : EReal) := by
  funext i
  idx_vars i
  unfold k0_pay9 k0_pay8
  rw [pay_v, pay_mean]
  pointwise []
  exact (congrArg Ideal.rsqrt (spread_read (bv P i0))).trans (lnInv_read _)

theorem pay_xh : k0_pay10 (F := Ideal) (k0_pay6 (F := Ideal) (fun i => (P i : EReal))) (k0_pay7 (F := Ideal) (fun i => (P i : EReal)))
      (k0_pay8 (F := Ideal) (fun i => (P i : EReal))) (Scalar.ofBits .f32 0x44000000#32)
    = fun i => (lnHat (bv P (i 0)) (i 1) : EReal) := by
  funext i
  idx_vars i
  unfold k0_pay10
  rw [pay_rs, pay_v, pay_mean]
  pointwise []
  simp only [sub_real, mul_real]
  rfl

theorem pay_vn : k0_pay11 (F := Ideal) (fun i => (G i : EReal)) (fun i => (B i : EReal)) (k0_pay6 (F := Ideal) (fun i => (P i : EReal)))
      (k0_pay7 (F := Ideal) (fun i => (P i : EReal))) (k0_pay8 (F := Ideal) (fun i => (P i : EReal))) (Scalar.ofBits .f32 0x44000000#32)
    = fun i => (bvn P G B i : EReal) := by
  funext i
  idx_vars i
  unfold k0_pay11
  rw [pay_xh]
  pointwise []
  simp only [add_real, mul_real]
  rfl

/-- The mask of the past, … -/
theorem past : ∀ t s : Fin 128, IntOp.cmpi .sle (BitVec.ofNat 32 s.val) (BitVec.ofNat 32 t.val) = if s ≤ t then 1#1 else 0#1 := by
  decide +kernel

theorem pay_mask (t s : Fin 128) : k0_pay12 (F := Ideal) (ix2 t s) = if s ≤ t then 1#1 else 0#1 := by
  pointwise [k0_pay12]
  rw [past]
  have h1 : FloatOps.sitofp (F := Ideal) FTy.f32 (BitVec.setWidth 32 (1#1)) = (1 : EReal) := by
    show (((BitVec.setWidth 32 (1#1)).toInt : ℝ) : EReal) = 1
    have : (BitVec.setWidth 32 (1#1)).toInt = 1 := by decide
    rw [this]; norm_num
  have h0 : FloatOps.sitofp (F := Ideal) FTy.f32 (BitVec.setWidth 32 (0#1)) = (0 : EReal) := by
    show (((BitVec.setWidth 32 (0#1)).toInt : ℝ) : EReal) = 0
    have : (BitVec.setWidth 32 (0#1)).toInt = 0 := by decide
    rw [this]; norm_num
  split_ifs
  · rw [h1]; simp
  · rw [h0]; simp

/-- … a group's weight under it. -/
theorem pay_w (W : S1x128x128.Idx → ℝ) : k0_pay20 (F := Ideal) (fun i => (W i : EReal))
    = fun i => ((if i 1 ≤ i 0 then W (ix3 0 (i 0) (i 1)) else 0 : ℝ) : EReal) := by
  funext i
  idx_vars i
  pointwise [k0_pay20, pay_mask]
  by_cases h : i1 ≤ i0
  · rw [if_pos h]; exact congrArg Real.toEReal (if_pos h).symm
  · rw [if_neg h]; exact congrArg Real.toEReal (if_neg h).symm

end body

/-! ## The slopes and the norm's cotangent -/

section after
variable (Z C H A : S512x512.Idx → ℝ) (R : S512x1.Idx → ℝ) (G : S1x512.Idx → ℝ)

theorem pay_slope1 (y : S512x512.Idx) :
    k0_pay151 (F := Ideal) (fun i => (Z i : EReal)) (fun i => (C i : EReal)) (k0_pay146 (F := Ideal) (fun i => (Z i : EReal)))
      (k0_pay148 (F := Ideal) (fun i => (Z i : EReal))) (k0_pay149 (F := Ideal) (fun i => (Z i : EReal))) (k0_pay150 (F := Ideal)) y
      = (gelSlope (Z y) (C y) : EReal) := by
  pointwise [k0_pay151, k0_pay146, k0_pay147, k0_pay148, k0_pay149, k0_pay150]
  simp only [lit_cubic, lit_stretch, lit_half, lit_three, ← EReal.coe_one, mul_real, add_real, sub_real, tanh_real]
  rfl

theorem pay_slope2 (y : S512x512.Idx) :
    k0_pay1 (F := Ideal) (k0_pay152 (F := Ideal) (fun i => (Z i : EReal))) (k0_pay154 (F := Ideal) (fun i => (Z i : EReal)) (fun i => (C i : EReal)))
      (k0_pay155 (F := Ideal) (fun i => (Z i : EReal)) (fun i => (C i : EReal))) (k0_pay156 (F := Ideal)) y
      = (gelSlope (Z y) (C y) : EReal) := by
  pointwise [k0_pay1, k0_pay152, k0_pay153, k0_pay154, k0_pay155, k0_pay156]
  simp only [lit_cubic, lit_stretch, lit_half, lit_three, ← EReal.coe_one, mul_real, add_real, sub_real, tanh_real]
  rfl

theorem pay_dv (x : Fin 512 → Fin 512 → ℝ) :
    k0_pay145 (F := Ideal) (fun i => (lnInv (x (i 0)) : EReal)) (fun i => (lnHat (x (i 0)) (i 1) : EReal)) (fun i => (A i : EReal)) (fun i => (G i : EReal))
      = fun i => (lnGrad (x (i 0)) (fun k => A (ix2 (i 0) k) * G (ix2 0 k)) (i 1) : EReal) := by
  funext i
  idx_vars i
  pointwise [k0_pay145]
  simp only [mul_real, coe_sum, lit_512]
  rw [div_real _ _ (by norm_num), div_real _ _ (by norm_num)]
  simp only [mul_real, sub_real]
  rfl

/-- The scale's cotangent, as the body adds it on. -/
def addDg (T H : FVec Ideal S512x512 .f32) (acc : FVec Ideal S1x512 .f32) : FVec Ideal S1x512 .f32 :=
  addf (shapeCast S1x512 acc shapeCasts_S1x512_S1x512)
    (shapeCast S1x512 (multiReduction .add [0] S512 (mulf T H) 0x00000000#32 reduces_S512x512_S512_2 (.inl rfl) rfl) shapeCasts_S512_S1x512)

theorem pay_dg (acc : FVec Ideal S1x512 .f32) (o : Fin 1) (j : Fin 512) :
    addDg (fun i => (A i : EReal)) (fun i => (H i : EReal)) acc (ix2 o j) = acc (ix2 o j) + ((∑ r : Fin 512, A (ix2 r j) * H (ix2 r j) : ℝ) : EReal) := by
  pointwise [addDg]
  simp only [mul_real, coe_sum]

theorem pay_db (acc : FVec Ideal S1x512 .f32) (o : Fin 1) (j : Fin 512) :
    k0_pay144 (F := Ideal) (fun i => (A i : EReal)) acc (ix2 o j) = acc (ix2 o j) + ((∑ r : Fin 512, A (ix2 r j) : ℝ) : EReal) := by
  pointwise [k0_pay144]
  simp only [coe_sum]

end after

/-- A group's mixing weight's cotangent, as the body adds it on. -/
def addDw (T : FVec Ideal S128x128 .f32) (acc : FVec Ideal S1x128x128 .f32) : FVec Ideal S1x128x128 .f32 :=
  shapeCast S1x128x128 (addf (shapeCast S128x128 acc shapeCasts_S1x128x128_S128x128)
    (select (k0_pay12 (F := Ideal)) T (broadcast S128x128 (Scalar.ofBits .f32 0x00000000#32)))) shapeCasts_S128x128_S1x128x128

theorem pay_dw (T : FVec Ideal S128x128 .f32) (X : Fin 4 → Fin 128 → Fin 128 → ℝ) (h : ∀ r c, T (ix2 r c) = ((∑ n, X n r c : ℝ) : EReal))
    (acc : FVec Ideal S1x128x128 .f32) (z : S1x128x128.Idx) :
    addDw T acc z = acc z + ((∑ n : Fin 4, if z 2 ≤ z 1 then X n (z 1) (z 2) else 0 : ℝ) : EReal) := by
  idx_vars z
  obtain rfl : z0 = (0 : Fin 1) := Subsingleton.elim (α := Fin 1) _ _
  pointwise [addDw, pay_mask, h]
  refine congrArg (acc (ix3 0 z1 z2) + ·) ?_
  by_cases hz : z2 ≤ z1
  · rw [if_pos hz]
    exact congrArg Real.toEReal (Finset.sum_congr rfl fun n _ => (if_pos hz).symm)
  · rw [if_neg hz]
    exact congrArg Real.toEReal (Eq.symm (Finset.sum_eq_zero fun n _ => if_neg hz))

/-! ## The blocks -/

theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0]
    ∧ win0_6.index t = ![t.val, 0] ∧ win0_7.index t = ![0, 0] ∧ win0_8.index t = ![0, 0] ∧ win0_9.index t = ![0, 0, 0] ∧ win0_10.index t = ![0, 0] :=
  (by decide +kernel : ∀ t : Fin grid0.N, _)

/-- Row `r` of block `t`. -/
def row (t : Fin cfg0.N) (r : Fin 512) : Fin 4096 := ⟨t.val * 512 + r.val, by have := t.isLt; have := r.isLt; have : cfg0.N = 8 := rfl; omega⟩

/-- A row's place in its tile. -/
def lo4 (r : Fin 512) : Fin 128 := ⟨r.val % 128, by omega⟩

theorem at4_hd (r : Fin 512) : at4 (hd r) (lo4 r) = r := Fin.ext (by simp only [at4, hd, lo4]; omega)
theorem hd_at4 (n : Fin 4) (k : Fin 128) : hd (at4 n k) = n := Fin.ext (by simp only [at4, hd]; omega)
theorem sib_row (t : Fin cfg0.N) (r : Fin 512) (s : Fin 128) : sib (row t r) s = row t (at4 (hd r) s) :=
  Fin.ext (by simp only [sib, row, at4, hd]; omega)
theorem lo_row (t : Fin cfg0.N) (r : Fin 512) : lo (row t r) = lo4 r := Fin.ext (by simp only [lo, row, lo4]; omega)

/-- Chunk `n` of block `t`. -/
def chunk (t : Fin cfg0.N) (n : Fin 4) : Fin 32 := ⟨t.val * 4 + n.val, by have := t.isLt; have := n.isLt; have : cfg0.N = 8 := rfl; omega⟩
theorem rowOf_chunk (t : Fin cfg0.N) (n : Fin 4) (s : Fin 128) : rowOf (chunk t n) s = row t (at4 n s) :=
  Fin.ext (by simp only [rowOf, chunk, row, at4]; omega)

theorem quilt_all (T : Fin 4 → Fin 4 → S128x128.Idx → ℝ) (i j : Fin 512) :
    quilt (fun n g i => (T n g i : EReal)) (ix2 i j) = (T (hd i) (hd j) (ix2 (lo4 i) (lo4 j)) : EReal) := by
  have h := quilt_read T (hd i) (hd j) (lo4 i) (lo4 j)
  rwa [at4_hd, at4_hd] at h

section block
variable (p : S4096x6656.Idx → ℝ) (lg lb : S1x512.Idx → ℝ) (w : S4x128x128.Idx → ℝ) (b : S4x128.Idx → ℝ) (d : S4096x512.Idx → ℝ)
variable (t : Fin cfg0.N)

/-- The block of the projection, … -/
def bp : S512x1024.Idx → ℝ := fun i => p (ix2 (row t (i 0)) ⟨(i 1).val, by have : (i 1).val < 1024 := (i 1).isLt; omega⟩)

/-- … of the gate's values, … -/
def bu : S512x512.Idx → ℝ := fun i => gel (zu p (row t (i 0)) (i 1))

/-- … of the normed rows, … -/
def bn : S512x512.Idx → ℝ := fun i => vn p lg lb (row t (i 0)) (i 1)

/-- … of the cotangent, … -/
def bd : S512x512.Idx → ℝ := fun i => d (ix2 (row t (i 0)) (i 1))

/-- … a group's weights and … -/
def bw (g : Fin 4) : S128x128.Idx → ℝ := fun i => wc w g (i 0) (i 1)

/-- … its bias. -/
def bb (g : Fin 4) : S128x1.Idx → ℝ := fun i => b (ix2 g (i 0))

theorem all_du : quilt (tDu (fun i => (bn p lg lb t i : EReal)) (fun i => (bd d t i : EReal)) (fun g i => (bw w g i : EReal)) (fun g i => (bb b g i : EReal)))
    = fun i => (du p lg lb w b d (row t (i 0)) (i 1) : EReal) := by
  have e : tDu (fun i => (bn p lg lb t i : EReal)) (fun i => (bd d t i : EReal)) (fun g i => (bw w g i : EReal)) (fun g i => (bb b g i : EReal)) = _ :=
    funext fun n => funext fun g => tDu_read _ _ _ _ n g
  rw [e]
  funext i
  idx_vars i
  refine (quilt_all (fun n g i => _) i0 i1).trans (congrArg Real.toEReal ?_)
  simp only [du, mixed, bn, bd, bw, bb, ix2_0, ix2_1, at4_hd, sib_row, lo_row]

theorem all_dvn : quilt (tDvn (fun i => (bu p t i : EReal)) (fun i => (bd d t i : EReal)) (fun g i => (bw w g i : EReal)))
    = fun i => (dvn p w d (row t (i 0)) (i 1) : EReal) := by
  have e : tDvn (fun i => (bu p t i : EReal)) (fun i => (bd d t i : EReal)) (fun g i => (bw w g i : EReal)) = _ :=
    funext fun n => funext fun g => tDvn_read _ _ _ n g
  rw [e]
  funext i
  idx_vars i
  refine (quilt_all (fun n g i => _) i0 i1).trans (congrArg Real.toEReal ?_)
  simp only [dvn, dmx, bu, bd, bw, ix2_0, ix2_1, at4_hd, sib_row, lo_row]

theorem all_dw (g : Fin 4) (r c : Fin 128) : gDw (fun i => (bn p lg lb t i : EReal)) (fun i => (bu p t i : EReal)) (fun i => (bd d t i : EReal)) g (ix2 r c)
    = ((∑ n : Fin 4, dwChunk p lg lb d (chunk t n) g r c : ℝ) : EReal) := by
  rw [gDw_read]
  simp only [dwChunk, rowOf_chunk]
  rfl

theorem all_db (i : Fin 8) (c : Fin 128) : bSel (fun i => (bu p t i : EReal)) (fun i => (bd d t i : EReal)) (ix2 i c)
    = ((∑ n : Fin 4, if h : i.val < 4 then dbChunk p d (chunk t n) ⟨i.val, h⟩ c else 0 : ℝ) : EReal) := by
  have e : ∀ n g : Fin 4, tSel (fun i => (bu p t i : EReal)) (fun i => (bd d t i : EReal)) n g (ix2 i c)
      = ((if i.val = g.val then dbChunk p d (chunk t n) g c else 0 : ℝ) : EReal) := by
    intro n g
    rw [tSel_read]
    simp only [dbChunk, rowOf_chunk]
    rfl
  unfold bSel gSel
  pointwise [k0_pay19, e]
  simp only [add_real, zero_add, Fin.sum_univ_four]
  fin_cases i <;> simp

end block

section reads
variable (m : (ℓ : Loc nD τ sig) → Buf (Elt Ideal) ℓ)
variable (p : S4096x6656.Idx → ℝ) (lg lb : S1x512.Idx → ℝ) (w : S4x128x128.Idx → ℝ) (b : S4x128.Idx → ℝ) (d : S4096x512.Idx → ℝ)
variable (c : Dev nD) (t : Fin cfg0.N)

theorem read_p (h : m ((c : Thread nD τ).loc main_arg0) = fun i => (p i : EReal)) :
    (X0_0 m c t : FVec Ideal S512x1024 .bf16) = fun j => (bp p t j : EReal) := by
  funext j
  trans m ((c : Thread nD τ).loc main_arg0) (ix2 (row t (j 0)) ⟨(j 1).val, by have : (j 1).val < 1024 := (j 1).isLt; omega⟩)
  · refine (dif_pos (moved0_0 t j)).trans ?_
    blk_ext [iblk, V, idx t, row]
  · rw [h]; rfl

theorem read_lg (h : m ((c : Thread nD τ).loc main_arg1) = fun i => (lg i : EReal)) :
    (iblk m c 1 t : FVec Ideal S1x512 .f32) = fun j => (lg j : EReal) := by
  funext j
  trans m ((c : Thread nD τ).loc main_arg1) j
  · blk_ext [iblk, V, idx t]
  · rw [h]

theorem read_lb (h : m ((c : Thread nD τ).loc main_arg2) = fun i => (lb i : EReal)) :
    (iblk m c 2 t : FVec Ideal S1x512 .f32) = fun j => (lb j : EReal) := by
  funext j
  trans m ((c : Thread nD τ).loc main_arg2) j
  · blk_ext [iblk, V, idx t]
  · rw [h]

theorem read_w (h : m ((c : Thread nD τ).loc main_arg3) = fun i => (w i : EReal)) :
    (iblk m c 3 t : FVec Ideal S4x128x128 .f32) = fun j => (w j : EReal) := by
  funext j
  trans m ((c : Thread nD τ).loc main_arg3) j
  · blk_ext [iblk, V, idx t]
  · rw [h]

theorem read_b (h : m ((c : Thread nD τ).loc main_arg4) = fun i => (b i : EReal)) (s : Fin 128) (g : Fin 4) :
    (iblk m c 4 t : FVec Ideal S128x128 .f32) (ix2 s ⟨g.val, by omega⟩) = (b (ix2 g s) : EReal) := by
  have e : V m c main_v1 = pad S128x128 ![0, 0] ![0, 124] ![0, 0] (transpose S128x4 [1, 0] (m ((c : Thread nD τ).loc main_arg4)) transposes_S4x128_S128x4_1_0)
      (sitofp (F := Ideal) .f32 (constantI S_ 32 0#32)) pads_S128x4_S128x128_000_01240 h_S_ := by
    unfold V
    simp only [hostOps0, hostOps0_1, List.flatten_cons, List.flatten_nil, List.append_nil, List.cons_append, List.nil_append]
    entry_read
    rfl
  trans (V m c main_v1 : FVec Ideal S128x128 .f32) (ix2 s ⟨g.val, by omega⟩)
  · blk_ext [iblk, idx t]
  · rw [e, h]
    fin_cases g <;> pointwise [] <;> rfl

theorem read_d (h : m ((c : Thread nD τ).loc main_arg5) = fun i => (d i : EReal)) :
    (iblk m c 5 t : FVec Ideal S512x512 .bf16) = fun j => (bd d t j : EReal) := by
  funext j
  trans m ((c : Thread nD τ).loc main_arg5) (ix2 (row t (j 0)) (j 1))
  · blk_ext [iblk, V, idx t, row]
  · rw [h]; rfl

end reads

end Cert.GmlpKIdeal.Hand

end
-- ==== Proof.Gmlp.Reference.lean ====
/- The gradient of the gated spatial unit: what the derivative of the forward lines computes. -/
module

public import proofs.«01_k».proof.Proof.Gen.GmlpRIdeal.Run
public import proofs.«01_k».proof.Proof.Gen.GmlpRIdeal.Read
public import proofs.«01_k».proof.Proof.Gmlp.Kernel
public import Idealize.ShloMosaic.Lib.TwoAxisContraction

@[expose] public section

set_option maxRecDepth 16384

noncomputable section

namespace Cert.GmlpKIdeal.Hand

open Cert.Hand Cert.GmlpKIdeal Idealize.ShloMosaic Cert.GmlpRIdeal.Read

/-- An array of reals, read as extended reals. -/
abbrev asE {s : Shape} (a : s.Idx → ℝ) : s.Idx → EReal := fun i => (a i : EReal)

/-- A row's chunk. -/
def chunkOf (r : Fin 4096) : Fin 32 := ⟨r.val / 128, by omega⟩

/-- A feature's place in its group. -/
def place (j : Fin 512) : Fin 128 := ⟨j.val % 128, by omega⟩

theorem feat_place (j : Fin 512) : feat (hd j) (place j) = j := Fin.ext (by simp only [feat, hd, place]; omega)

theorem split_row (n : Fin 32) (s : Fin 128) (g : Fin 4) (k : Fin 128) : idx_main_v73 (ix4 n s g k) = ix2 (rowOf n s) (feat g k) := by
  funext a
  match a with
  | ⟨0, _⟩ => exact Fin.ext (show (((n.val * 128 + s.val) * 4 + g.val) * 128 + k.val) / 512 = n.val * 128 + s.val by omega)
  | ⟨1, _⟩ => exact Fin.ext (show (((n.val * 128 + s.val) * 4 + g.val) * 128 + k.val) % 512 = 128 * g.val + k.val by omega)

theorem join_row (r : Fin 4096) (j : Fin 512) : idx_main_v84 (ix2 r j) = ix4 (chunkOf r) (lo r) (hd j) (place j) := by
  funext a
  match a with
  | ⟨0, _⟩ => exact Fin.ext (show (r.val * 512 + j.val) / 65536 = r.val / 128 by omega)
  | ⟨1, _⟩ => exact Fin.ext (show (r.val * 512 + j.val) / 512 % 128 = r.val % 128 by omega)
  | ⟨2, _⟩ => exact Fin.ext (show (r.val * 512 + j.val) / 128 % 4 = j.val / 128 by omega)
  | ⟨3, _⟩ => exact Fin.ext (show (r.val * 512 + j.val) % 128 = j.val % 128 by omega)

variable (p : S4096x6656.Idx → ℝ) (lg lb : S1x512.Idx → ℝ) (w : S4x128x128.Idx → ℝ) (b : S4x128.Idx → ℝ) (d : S4096x512.Idx → ℝ)

section unit
variable (r : Fin 4096) (j : Fin 512)

theorem ref_zu : val_main_v2 (F := Ideal) (asE p) (ix2 r j) = (zu p r j : EReal) := by
  pointwise [val_main_v2, val_main_v1, val_main_v0]
  rfl

theorem ref_zv : val_main_v3 (F := Ideal) (asE p) (ix2 r j) = (zv p r j : EReal) := by
  pointwise [val_main_v3, val_main_v1, val_main_v0]
  rfl

theorem bend_read (x : ℝ) : Ideal.tanh (Ideal.ofBits .f32 0x3F4C422A#32 * ((x : EReal) + Ideal.ofBits .f32 0x3D372713#32 * ((x : EReal) * (x : EReal) * (x : EReal))))
    = ((bend x : ℝ) : EReal) := by
  rw [lit_cubic, lit_stretch]
  simp only [mul_real, add_real, tanh_real]
  unfold bend
  rw [mul_comm (x * x) x]

theorem ref_bendu : val_main_v14 (F := Ideal) (asE p) (ix2 r j) = (bend (zu p r j) : EReal) := by
  rw [← bend_read, ← ref_zu]
  rfl

theorem ref_bendv : val_main_v35 (F := Ideal) (asE p) (ix2 r j) = (bend (zv p r j) : EReal) := by
  rw [← bend_read, ← ref_zv]
  rfl

theorem half_read (x : ℝ) : Ideal.ofBits .f32 0x3F000000#32 * (Ideal.ofBits .f32 0x3F800000#32 + (x : EReal)) = ((1 / 2 * (1 + x) : ℝ) : EReal) := by
  rw [lit_half, lit_one, add_real, mul_real]

theorem slope_read (x : ℝ) : (Ideal.ofBits .f32 0x3F800000#32 + (x : EReal)) * (Ideal.ofBits .f32 0x3F800000#32 - (x : EReal))
    = (((1 + x) * (1 - x) : ℝ) : EReal) := by
  rw [lit_one, add_real, sub_real, mul_real]

theorem ref_halfu : val_main_v23 (F := Ideal) (asE p) (ix2 r j) = ((1 / 2 * (1 + bend (zu p r j)) : ℝ) : EReal) := by
  rw [← half_read, ← ref_bendu]
  rfl

theorem ref_halfv : val_main_v44 (F := Ideal) (asE p) (ix2 r j) = ((1 / 2 * (1 + bend (zv p r j)) : ℝ) : EReal) := by
  rw [← half_read, ← ref_bendv]
  rfl

theorem ref_slopeu : val_main_v19 (F := Ideal) (asE p) (ix2 r j) = (((1 + bend (zu p r j)) * (1 - bend (zu p r j)) : ℝ) : EReal) := by
  rw [← slope_read, ← ref_bendu]
  rfl

theorem ref_slopev : val_main_v40 (F := Ideal) (asE p) (ix2 r j) = (((1 + bend (zv p r j)) * (1 - bend (zv p r j)) : ℝ) : EReal) := by
  rw [← slope_read, ← ref_bendv]
  rfl

theorem three_read (x : ℝ) : Ideal.ofBits .f32 0x40400000#32 * ((x : EReal) * (x : EReal)) = ((3 * (x * x) : ℝ) : EReal) := by
  rw [lit_three, mul_real, mul_real]

theorem ref_gelu : val_main_v24 (F := Ideal) (asE p) (ix2 r j) = (gel (zu p r j) : EReal) := by
  rw [val_main_v24_apply, ref_zu, ref_halfu]
  exact mul_real _ _

theorem ref_gelv : val_main_v45 (F := Ideal) (asE p) (ix2 r j) = (vrow p r j : EReal) := by
  rw [val_main_v45_apply, ref_zv, ref_halfv]
  exact mul_real _ _

/-- The unit's slope as the derivative leaves it. -/
theorem unit_read (z c : ℝ) : (c : EReal) * ((1 / 2 * (1 + bend z) : ℝ) : EReal)
      + Ideal.ofBits .f32 0x3F4C422A#32 * (Ideal.ofBits .f32 0x3F000000#32 * ((z : EReal) * (c : EReal)) * (((1 + bend z) * (1 - bend z) : ℝ) : EReal))
      + Ideal.ofBits .f32 0x3D372713#32 * (Ideal.ofBits .f32 0x3F4C422A#32 * (Ideal.ofBits .f32 0x3F000000#32 * ((z : EReal) * (c : EReal)) * (((1 + bend z) * (1 - bend z) : ℝ) : EReal)))
        * (Ideal.ofBits .f32 0x40400000#32 * ((z : EReal) * (z : EReal)))
    = (gelSlope z c : EReal) := by
  rw [three_read, lit_cubic, lit_stretch, lit_half]
  simp only [mul_real, add_real]
  rfl

end unit

/-! ## The row's norm -/

section norm
variable (r : Fin 4096) (j : Fin 512)

theorem ref_mean (o : Fin 1) : val_main_v49 (F := Ideal) (asE p) (ix2 r o) = (mean (vrow p r) : EReal) := by
  have h := ref_gelv p r
  unfold val_main_v49 val_main_v47 val_main_v46
  generalize val_main_v45 (F := Ideal) (asE p) = y at h ⊢
  pointwise [val_main_v48, val_main_cst_13, val_main_cst_14]
  simp only [h]
  exact mean_read _

theorem ref_xc : val_main_v60 (F := Ideal) (asE p) (ix2 r j) = ((vrow p r j - mean (vrow p r) : ℝ) : EReal) := by
  have hi : idx_main_v59 (ix2 r j) = ix2 r 0 := by funext a; fin_cases a <;> rfl
  rw [val_main_v60_apply, val_main_v59_apply, hi, ref_mean, ref_gelv]
  exact sub_real _ _

theorem ref_xc' : val_main_v51 (F := Ideal) (asE p) (ix2 r j) = ((vrow p r j - mean (vrow p r) : ℝ) : EReal) := ref_xc p r j

theorem ref_spread (o : Fin 1) : val_main_v62 (F := Ideal) (asE p) (ix2 r o) = (spread (vrow p r) : EReal) := by
  have h := ref_xc' p r
  rw [← spread_read]
  simp only [sub_real]
  unfold val_main_v62 val_main_v58 val_main_v56 val_main_v55 val_main_v52
  generalize val_main_v51 (F := Ideal) (asE p) = y at h ⊢
  pointwise [val_main_v57, val_main_v61, val_main_cst_16, val_main_cst_17, val_main_cst_18]
  simp only [h]

theorem ref_inv (o : Fin 1) : val_main_v63 (F := Ideal) (asE p) (ix2 r o) = (lnInv (vrow p r) : EReal) := by
  rw [val_main_v63_apply, ref_spread]
  exact lnInv_read _

theorem ref_cube (o : Fin 1) : val_main_v66 (F := Ideal) (asE p) (ix2 r o) = ((-(1 / 2) * (lnInv (vrow p r) / spread (vrow p r)) : ℝ) : EReal) := by
  rw [val_main_v66_apply, val_main_v64_apply, ref_inv, ref_spread]
  have h : Ideal.div (lnInv (vrow p r) : EReal) (spread (vrow p r) : EReal) = ((lnInv (vrow p r) / spread (vrow p r) : ℝ) : EReal) :=
    div_real _ _ (spread_pos _).ne'
  exact (congrArg₂ (fun x y : EReal => x * y) lit_neg_half h).trans (mul_real _ _)

theorem ref_hat : val_main_v68 (F := Ideal) (asE p) (ix2 r j) = (lnHat (vrow p r) j : EReal) := by
  have hi : idx_main_v67 (ix2 r j) = ix2 r 0 := by funext a; fin_cases a <;> rfl
  rw [val_main_v68_apply, val_main_v67_apply, hi, ref_inv, ref_xc]
  exact mul_real _ _

theorem ref_vn : val_main_v72 (F := Ideal) (asE p) (asE lg) (asE lb) (ix2 r j) = (vn p lg lb r j : EReal) := by
  have hi : idx_main_v69 (ix2 r j) = ix2 0 j := by funext a; fin_cases a <;> rfl
  have hi' : idx_main_v71 (ix2 r j) = ix2 0 j := by funext a; fin_cases a <;> rfl
  rw [val_main_v72_apply, val_main_v71_apply, val_main_v70_apply, val_main_v69_apply, hi, hi', ref_hat]
  exact (congrArg (fun x : EReal => x + _) (mul_real _ _)).trans (add_real _ _)

end norm

/-! ## The chunk mixed along its rows -/

section mix
variable (n : Fin 32) (s t : Fin 128) (g : Fin 4) (k : Fin 128) (r : Fin 4096) (j : Fin 512)

theorem past' : ∀ t s : Fin 128, IntOp.cmpi .sge (IntOp.addi (BitVec.ofNat 32 t.val) 0#32) (BitVec.ofNat 32 s.val) = if s ≤ t then 1#1 else 0#1 := by
  decide +kernel

theorem ref_mask : val_main_v77_1 (F := Ideal) (ix3 g t s) = if s ≤ t then 1#1 else 0#1 := by
  have hi : idx_main_v76 (idx_main_v77_1 (ix3 g t s)) = ix2 t s := by funext a; fin_cases a <;> rfl
  rw [val_main_v77_1_apply, val_main_v76_apply, hi, val_main_v75_apply]
  have e : val_main_call0_v4 (F := Ideal) (ix2 t s) = if s ≤ t then 1#1 else 0#1 := past' t s
  rw [e]
  by_cases h : s ≤ t
  · rw [if_pos h]; rfl
  · rw [if_neg h]; rfl

theorem ref_w : val_main_v77_0 (F := Ideal) (asE w) (ix3 g t s) = (wc w g t s : EReal) := by
  rw [val_main_v77_0_apply, ref_mask]
  have h0 : val_main_call1_v2 (F := Ideal) (ix3 g t s) = (0 : EReal) := by
    rw [val_main_call1_v2_apply]
    show (((0#32 : BitVec 32).toInt : ℝ) : EReal) = 0
    have : (0#32 : BitVec 32).toInt = 0 := by decide
    rw [this]; norm_num
  rw [h0]
  unfold wc
  by_cases h : s ≤ t
  · rw [if_pos h, if_pos h]; rfl
  · rw [if_neg h, if_neg h]; rfl

theorem ref_vn4 : val_main_v73 (F := Ideal) (asE p) (asE lg) (asE lb) (ix4 n s g k) = (vn p lg lb (rowOf n s) (feat g k) : EReal) := by
  rw [val_main_v73_apply, split_row, ref_vn]

theorem ref_mixed : val_main_v84 (F := Ideal) (asE p) (asE lg) (asE lb) (asE w) (asE b) (ix2 r j) = (mixed p lg lb w b r j : EReal) := by
  have hl : ∀ k : Fin 128, lidx_main_v78 (idx_main_v79 (ix4 (chunkOf r) (lo r) (hd j) (place j))) k = ix4 (chunkOf r) k (hd j) (place j) := fun k => by
    funext a; fin_cases a <;> rfl
  have hr : ∀ k : Fin 128, ridx_main_v78 (idx_main_v79 (ix4 (chunkOf r) (lo r) (hd j) (place j))) k = ix3 (hd j) (lo r) k := fun k => by
    funext a; fin_cases a <;> rfl
  have hb : idx_main_v80 (idx_main_v81 (idx_main_v82 (ix4 (chunkOf r) (lo r) (hd j) (place j)))) = ix2 (hd j) (lo r) := by
    funext a; fin_cases a <;> rfl
  rw [val_main_v84_apply, join_row, val_main_v83_apply, val_main_v79_apply, val_main_v78_apply, val_main_v82_apply, val_main_v81_apply, val_main_v80_apply, hb]
  simp only [hl, hr, ref_vn4, ref_w, feat_place, mul_real, coe_sum]
  refine (add_real _ _).trans (congrArg Real.toEReal ?_)
  unfold mixed
  exact congrArg (· + _) (Finset.sum_congr rfl fun s _ => mul_comm _ _)

theorem ref_du : val_main_v88 (F := Ideal) (asE p) (asE lg) (asE lb) (asE w) (asE b) (asE d) (ix2 r j) = (du p lg lb w b d r j : EReal) := by
  rw [val_main_v88_apply, ref_mixed]
  exact mul_real _ _

theorem ref_dmx : val_main_v87 (F := Ideal) (asE p) (asE d) (ix2 r j) = (dmx p d r j : EReal) := by
  rw [val_main_v87_apply, ref_gelu]
  exact (mul_real _ _).trans (congrArg Real.toEReal (mul_comm _ _))

theorem ref_dmx4 : val_main_v89 (F := Ideal) (asE p) (asE d) (ix4 n s g k) = (dmx p d (rowOf n s) (feat g k) : EReal) := by
  rw [val_main_v89_apply]
  exact (congrArg _ (split_row n s g k)).trans (ref_dmx p d _ _)

theorem ref_dmxT : val_main_v94 (F := Ideal) (asE p) (asE d) (ix4 g n k t) = (dmx p d (rowOf n t) (feat g k) : EReal) := by
  have hi : idx_main_v94 (ix4 g n k t) = ix4 n t g k := by funext a; fin_cases a <;> rfl
  rw [val_main_v94_apply, hi, ref_dmx4]

theorem ref_dvn : val_main_v99 (F := Ideal) (asE p) (asE w) (asE d) (ix2 r j) = (dvn p w d r j : EReal) := by
  have hl : ∀ k : Fin 128, lidx_main_v96 (idx_main_v97 (ix4 (chunkOf r) (lo r) (hd j) (place j))) k = ix4 (hd j) (chunkOf r) (place j) k := fun k => by
    funext a; fin_cases a <;> rfl
  have hr : ∀ k : Fin 128, ridx_main_v96 (idx_main_v97 (ix4 (chunkOf r) (lo r) (hd j) (place j))) k = ix3 (hd j) k (lo r) := fun k => by
    funext a; fin_cases a <;> rfl
  have hj : idx_main_v99 (ix2 r j) = ix4 (chunkOf r) (lo r) (hd j) (place j) := join_row r j
  rw [val_main_v99_apply, hj, val_main_v97_apply, val_main_v96_apply]
  simp only [hl, hr, ref_dmxT, ref_w, feat_place, mul_real, coe_sum]
  refine congrArg Real.toEReal ?_
  unfold dvn
  exact Finset.sum_congr rfl fun s _ => mul_comm _ _

end mix

/-! ## The sums over rows -/

section sums

theorem ref_db (o : Fin 1) (j : Fin 512) : val_main_v101 (F := Ideal) (asE p) (asE w) (asE d) (ix2 o j)
    = ((∑ r : Fin 4096, dvn p w d r j : ℝ) : EReal) := by
  have h := ref_dvn p w d
  have hi : idx_main_v101 (ix2 o j) = ix1 j := by
    funext a
    match a with
    | ⟨0, _⟩ => exact Fin.ext (show o.val * 512 + j.val = j.val by omega)
  rw [val_main_v101_apply, hi]
  unfold val_main_v100
  generalize val_main_v99 (F := Ideal) (asE p) (asE w) (asE d) = y at h ⊢
  pointwise [val_main_cst_23]
  simp only [h, coe_sum]

theorem ref_dg (o : Fin 1) (j : Fin 512) : val_main_v104 (F := Ideal) (asE p) (asE w) (asE d) (ix2 o j)
    = ((∑ r : Fin 4096, dvn p w d r j * lnHat (vrow p r) j : ℝ) : EReal) := by
  have h : ∀ r j, val_main_v102 (F := Ideal) (asE p) (asE w) (asE d) (ix2 r j) = ((dvn p w d r j * lnHat (vrow p r) j : ℝ) : EReal) := fun r j => by
    rw [val_main_v102_apply, ref_hat, ref_dvn]
    exact (mul_real _ _).trans (congrArg Real.toEReal (mul_comm _ _))
  have hi : idx_main_v104 (ix2 o j) = ix1 j := by
    funext a
    match a with
    | ⟨0, _⟩ => exact Fin.ext (show o.val * 512 + j.val = j.val by omega)
  rw [val_main_v104_apply, hi]
  unfold val_main_v103
  generalize val_main_v102 (F := Ideal) (asE p) (asE w) (asE d) = y at h ⊢
  pointwise [val_main_cst_24]
  simp only [h, coe_sum]

/-- The product over chunks and places. -/
theorem ref_dwAll (g : Fin 4) (t s : Fin 128) : val_main_v95 (F := Ideal) (asE p) (asE lg) (asE lb) (asE d) (ix3 g t s)
    = ((∑ n : Fin 32, dwChunk p lg lb d n g t s : ℝ) : EReal) := by
  have hx := ref_dmxT p d
  have hy := ref_vn4 p lg lb
  unfold val_main_v95
  generalize val_main_v94 (F := Ideal) (asE p) (asE d) = x at hx ⊢
  generalize val_main_v73 (F := Ideal) (asE p) (asE lg) (asE lb) = y at hy ⊢
  unfold Host.dotGeneral
  rw [Ideal.dotGeneral_apply, ValueIdx.sum_contr2 Cert.GmlpRIdeal.dot_S4x32x128x128_S32x128x4x128_S4x128x128_12_03_3_1_0_2 32 128 rfl rfl rfl]
  unfold dwChunk
  rw [← coe_sum]
  refine Finset.sum_congr rfl fun n _ => ?_
  rw [← coe_sum]
  refine Finset.sum_congr rfl fun k _ => ?_
  have h0 := ValueIdx.contrEquiv2_symm_val0 Cert.GmlpRIdeal.dot_S4x32x128x128_S32x128x4x128_S4x128x128_12_03_3_1_0_2 32 128 rfl rfl rfl (n, k)
  have h1 := ValueIdx.contrEquiv2_symm_val1 Cert.GmlpRIdeal.dot_S4x32x128x128_S32x128x4x128_S4x128x128_12_03_3_1_0_2 32 128 rfl rfl rfl (n, k)
  rw [← mul_real, ← hx, ← hy]
  refine congrArg₂ (fun a b : EReal => a * b) (congrArg x ?_) (congrArg y ?_)
  · funext a; apply Fin.ext
    match a with
    | ⟨0, _⟩ => rfl
    | ⟨1, _⟩ => exact h0
    | ⟨2, _⟩ => exact h1
    | ⟨3, _⟩ => rfl
  · funext a; apply Fin.ext
    match a with
    | ⟨0, _⟩ => exact h0
    | ⟨1, _⟩ => rfl
    | ⟨2, _⟩ => rfl
    | ⟨3, _⟩ => exact h1

theorem ref_dw (g : Fin 4) (t s : Fin 128) : val_main_v98 (F := Ideal) (asE p) (asE lg) (asE lb) (asE d) (ix3 g t s)
    = ((∑ n : Fin 32, if s ≤ t then dwChunk p lg lb d n g t s else 0 : ℝ) : EReal) := by
  rw [val_main_v98_apply, ref_mask, ref_dwAll, val_main_call2_v0_apply]
  by_cases h : s ≤ t
  · rw [if_pos h]
    exact congrArg Real.toEReal (Finset.sum_congr rfl fun n _ => (if_pos h).symm)
  · rw [if_neg h]
    exact lit_zero.trans (congrArg Real.toEReal (Eq.symm (Finset.sum_eq_zero fun n _ => if_neg h)))

/-- The host's sum over the first and the last of four axes. -/
theorem sum_ends {n0 n1 n2 n3 : ℕ} (h : (⟨4, ![n0, n1, n2, n3]⟩ : Shape).ReducesTo [0, 3] ⟨2, ![n1, n2]⟩) (x : (⟨4, ![n0, n1, n2, n3]⟩ : Shape).Idx → EReal)
    (z : EReal) (i : Fin n1) (j : Fin n2) : Ideal.hostReduceAdd h x z (ix2 i j) = z + ∑ a : Fin n0, ∑ c : Fin n3, x (ix4 a i j c) := by
  unfold Ideal.hostReduceAdd
  refine congrArg (z + ·) ?_
  rw [← Fintype.sum_prod_type' (f := fun a c => x (ix4 a i j c))]
  refine Finset.sum_filter_eq_sum_of_fiber _ (fun q : Fin n0 × Fin n3 => ix4 q.1 i j q.2) (fun q q' e => ?_) (fun k => ⟨fun e => ⟨(k 0, k 3), ?_⟩, ?_⟩) x
  · exact Prod.ext (congrFun e 0) (congrFun e 3)
  · funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨q, rfl⟩
    funext a; apply Fin.ext
    match a with
    | ⟨0, _⟩ => rfl
    | ⟨1, _⟩ => rfl

theorem ref_dbs4 (t : Fin 128) (g : Fin 4) : val_main_v90 (F := Ideal) (asE p) (asE d) (ix2 t g)
    = ((∑ n : Fin 32, dbChunk p d n g t : ℝ) : EReal) := by
  have h := ref_dmx4 p d
  unfold val_main_v90
  generalize val_main_v89 (F := Ideal) (asE p) (asE d) = y at h ⊢
  refine (sum_ends _ y _ t g).trans ?_
  simp only [h, coe_sum]
  exact (congrArg (· + _) (lit_zero.trans EReal.coe_zero)).trans (zero_add _)

theorem ref_dbs (g : Fin 4) (t : Fin 128) : val_main_v93 (F := Ideal) (asE p) (asE d) (ix2 g t)
    = ((∑ n : Fin 32, dbChunk p d n g t : ℝ) : EReal) := by
  have hi : idx_main_v93 (ix2 g t) = ix2 t g := by funext a; fin_cases a <;> rfl
  have h : ∀ o o' : Fin 1, val_main_v91 (F := Ideal) (asE p) (asE d) (ix4 o t g o') = ((∑ n : Fin 32, dbChunk p d n g t : ℝ) : EReal) := fun o o' => by
    have hj : idx_main_v91 (ix4 o t g o') = ix2 t g := by
      funext a
      match a with
      | ⟨0, _⟩ => exact Fin.ext (show (((o.val * 128 + t.val) * 4 + g.val) * 1 + o'.val) / 4 = t.val by omega)
      | ⟨1, _⟩ => exact Fin.ext (show (((o.val * 128 + t.val) * 4 + g.val) * 1 + o'.val) % 4 = g.val by omega)
    rw [val_main_v91_apply, hj, ref_dbs4]
  rw [val_main_v93_apply, hi]
  unfold val_main_v92
  generalize val_main_v91 (F := Ideal) (asE p) (asE d) = y at h ⊢
  refine (sum_ends _ y _ t g).trans ?_
  simp only [h, Finset.univ_unique, Finset.sum_singleton]
  exact (congrArg (· + _) (lit_zero.trans EReal.coe_zero)).trans (zero_add _)

/-- The sums in the first four of eight rows. -/
theorem ref_pad (q : Fin 8) (t : Fin 128) : val_main_v157 (F := Ideal) (asE p) (asE d) (ix2 q t)
    = ((∑ n : Fin 32, if h : q.val < 4 then dbChunk p d n ⟨q.val, h⟩ t else 0 : ℝ) : EReal) := by
  have h := ref_dbs p d
  unfold val_main_v157
  generalize val_main_v93 (F := Ideal) (asE p) (asE d) = y at h ⊢
  pointwise [val_main_call3_v0, val_main_c_38]
  by_cases hq : q.val < 4
  · rw [dif_pos hq, h]
    refine congrArg Real.toEReal (Finset.sum_congr rfl fun n _ => ?_)
    rw [dif_pos hq]
  · rw [dif_neg hq]
    have h0 : FloatOps.sitofp (F := Ideal) FTy.f32 (0#32 : BitVec 32) = ((0 : ℝ) : EReal) := by
      show (((0#32 : BitVec 32).toInt : ℝ) : EReal) = _
      have : (0#32 : BitVec 32).toInt = 0 := by decide
      rw [this, Int.cast_zero]
    exact h0.trans (congrArg Real.toEReal (Eq.symm (Finset.sum_eq_zero fun n _ => dif_neg hq)))

end sums

/-! ## The row's cotangent -/

section row

/-- A row less its mean adds up to nothing. -/
theorem sum_xc (x : Fin 512 → ℝ) : ∑ k, (x k - mean x) = 0 := by
  rw [Finset.sum_sub_distrib, Finset.sum_const, Finset.card_univ, Fintype.card_fin]
  unfold mean
  simp only [nsmul_eq_mul]
  push_cast
  ring

/-- The derivative of the norm as the reference leaves it. -/
theorem lnGrad_ref (x u : Fin 512 → ℝ) (a : ℝ) (j : Fin 512)
    (ha : a = (∑ k, (x k - mean x) * u k) * (-(1 / 2) * (lnInv x / spread x)) / 512) :
    u j * lnInv x + a * (2 * (x j - mean x)) + ((∑ k, -(u k * lnInv x)) + ∑ k, -(a * (2 * (x k - mean x)))) / 512 = lnGrad x u j := by
  have hz : ∑ k, -(a * (2 * (x k - mean x))) = 0 := by
    have : ∀ k, -(a * (2 * (x k - mean x))) = -(a * 2) * (x k - mean x) := fun k => by ring
    rw [Finset.sum_congr rfl fun k _ => this k, ← Finset.mul_sum, sum_xc, mul_zero]
  have hi : lnInv x / spread x = lnInv x * (lnInv x * lnInv x) := by
    have : lnInv x * lnInv x = (spread x)⁻¹ := by
      unfold lnInv
      rw [← mul_inv, Real.mul_self_sqrt (spread_pos x).le]
    rw [this, div_eq_mul_inv]
  have hu : ∑ k, -(u k * lnInv x) = -((∑ k, u k) * lnInv x) := by
    rw [Finset.sum_neg_distrib, Finset.sum_mul]
  have hm : (∑ k, u k * lnHat x k) = (∑ k, (x k - mean x) * u k) * lnInv x := by
    rw [Finset.sum_mul]
    exact Finset.sum_congr rfl fun k _ => by unfold lnHat; ring
  have hmu : mean u = (∑ k, u k) / 512 := rfl
  unfold lnGrad
  rw [hz, hu, ha, hi, hmu, show mean (fun k => u k * lnHat x k) = (∑ k, u k * lnHat x k) / 512 from rfl, hm]
  unfold lnHat
  ring

variable (r : Fin 4096) (j : Fin 512)

theorem ref_dh : val_main_v106 (F := Ideal) (asE p) (asE lg) (asE w) (asE d) (ix2 r j) = ((dvn p w d r j * lg (ix2 0 j) : ℝ) : EReal) := by
  have hi : idx_main_v105 (ix2 r j) = ix2 0 j := by funext a; fin_cases a <;> rfl
  rw [val_main_v106_apply, val_main_v105_apply, hi, ref_dvn]
  exact mul_real _ _

theorem ref_dhi : val_main_v111 (F := Ideal) (asE p) (asE lg) (asE w) (asE d) (ix2 r j)
    = ((dvn p w d r j * lg (ix2 0 j) * lnInv (vrow p r) : ℝ) : EReal) := by
  have hi : idx_main_v110 (ix2 r j) = ix2 r 0 := by funext a; fin_cases a <;> rfl
  rw [val_main_v111_apply, val_main_v110_apply, hi, ref_dh, ref_inv]
  exact mul_real _ _

/-- The variance's cotangent. -/
def dvar : ℝ := (∑ k, (vrow p r k - mean (vrow p r)) * (dvn p w d r k * lg (ix2 0 k))) * (-(1 / 2) * (lnInv (vrow p r) / spread (vrow p r))) / 512

theorem ref_dvar : val_main_v118 (F := Ideal) (asE p) (asE lg) (asE w) (asE d) (ix1 r) = (dvar p lg w d r : EReal) := by
  have h : ∀ j, val_main_v107 (F := Ideal) (asE p) (asE lg) (asE w) (asE d) (ix2 r j)
      = (((vrow p r j - mean (vrow p r)) * (dvn p w d r j * lg (ix2 0 j)) : ℝ) : EReal) := fun j => by
    rw [val_main_v107_apply, ref_xc, ref_dh]
    exact mul_real _ _
  have hc := ref_cube p r
  unfold val_main_v118 val_main_v117 val_main_v112 val_main_v109 val_main_v108
  generalize val_main_v107 (F := Ideal) (asE p) (asE lg) (asE w) (asE d) = y at h ⊢
  generalize val_main_v66 (F := Ideal) (asE p) = z at hc ⊢
  pointwise [val_main_v116, val_main_cst_25, val_main_cst_27, val_main_cst_28]
  simp only [h, hc, coe_sum, mul_real, lit_512]
  rw [Fin.sum_univ_one]
  refine (div_real _ (512 : ℝ) (by norm_num)).trans ?_
  rfl

theorem ref_lift : val_main_v120 (F := Ideal) (asE p) (asE lg) (asE w) (asE d) (ix2 r j)
    = ((dvar p lg w d r * (2 * (vrow p r j - mean (vrow p r))) : ℝ) : EReal) := by
  have hi : idx_main_v119 (ix2 r j) = ix1 r := by funext a; fin_cases a; rfl
  rw [val_main_v120_apply, val_main_v119_apply, hi, ref_dvar, val_main_v54_apply, ref_xc']
  exact (congrArg (fun x : EReal => _ * (x * _)) lit_two).trans ((congrArg (fun x : EReal => _ * x) (mul_real _ _)).trans (mul_real _ _))

/-- The mean's cotangent. -/
theorem ref_shift : val_main_v128 (F := Ideal) (asE p) (asE lg) (asE w) (asE d) (ix1 r)
    = ((((∑ k, -(dvn p w d r k * lg (ix2 0 k) * lnInv (vrow p r))) + ∑ k, -(dvar p lg w d r * (2 * (vrow p r k - mean (vrow p r))))) / 512 : ℝ) : EReal) := by
  have h1 := ref_dhi p lg w d r
  have h2 := ref_lift p lg w d r
  unfold val_main_v128 val_main_v127 val_main_v125 val_main_v123 val_main_v122 val_main_v121 val_main_v115 val_main_v114 val_main_v113
  generalize val_main_v111 (F := Ideal) (asE p) (asE lg) (asE w) (asE d) = y at h1 ⊢
  generalize val_main_v120 (F := Ideal) (asE p) (asE lg) (asE w) (asE d) = z at h2 ⊢
  pointwise [val_main_v126, val_main_cst_26, val_main_cst_29, val_main_cst_30, val_main_cst_31]
  simp only [h1, h2, neg_real, coe_sum, add_real, lit_512]
  rw [Fin.sum_univ_one]
  exact div_real _ (512 : ℝ) (by norm_num)

theorem ref_dv : val_main_v130 (F := Ideal) (asE p) (asE lg) (asE w) (asE d) (ix2 r j) = (dv p lg w d r j : EReal) := by
  have hi : idx_main_v129 (ix2 r j) = ix1 r := by funext a; fin_cases a; rfl
  rw [val_main_v130_apply, val_main_v129_apply, hi, val_main_v124_apply, ref_shift, ref_dhi, ref_lift]
  refine (congrArg (fun x : EReal => x + _) (add_real _ _)).trans ((add_real _ _).trans (congrArg Real.toEReal ?_))
  exact lnGrad_ref (vrow p r) (fun k => dvn p w d r k * lg (ix2 0 k)) _ j rfl

theorem ref_dzv : val_main_v142 (F := Ideal) (asE p) (asE lg) (asE w) (asE d) (ix2 r j) = (gelSlope (zv p r j) (dv p lg w d r j) : EReal) := by
  rw [← unit_read, ← ref_dv, ← ref_halfv, ← ref_slopev, ← ref_zv]
  rfl

theorem ref_dzu : val_main_v154 (F := Ideal) (asE p) (asE lg) (asE lb) (asE w) (asE b) (asE d) (ix2 r j)
    = (gelSlope (zu p r j) (du p lg lb w b d r j) : EReal) := by
  rw [← unit_read, ← ref_du, ← ref_halfu, ← ref_slopeu, ← ref_zu]
  rfl

theorem ref_dp (k : Fin 1024) : val_main_v156 (F := Ideal) (asE p) (asE lg) (asE lb) (asE w) (asE b) (asE d) (ix2 r k)
    = (dz p lg lb w b d r k : EReal) := by
  have hu := ref_dzu p lg lb w b d r
  have hv := ref_dzv p lg w d r
  unfold val_main_v156 val_main_v155
  generalize val_main_v154 (F := Ideal) (asE p) (asE lg) (asE lb) (asE w) (asE b) (asE d) = y at hu ⊢
  generalize val_main_v142 (F := Ideal) (asE p) (asE lg) (asE w) (asE d) = z at hv ⊢
  pointwise
  unfold dz
  by_cases h : k.val < 512
  · rw [dif_pos h, dif_pos h, hu]
  · rw [dif_neg h, dif_neg h, hv]

end row

end Cert.GmlpKIdeal.Hand

end
-- ==== Proof.Gmlp.Final.lean ====
/- The gradient of the gated spatial unit: the arrays the kernel leaves. -/
module

public import proofs.«01_k».proof.Proof.Gmlp.Kernel

@[expose] public section

set_option maxRecDepth 16384

noncomputable section

namespace Cert.GmlpKIdeal.Hand

open Cert.Hand Cert.GmlpKIdeal Cert.GmlpKIdeal.Gen Idealize.ShloMosaic Idealize.ShloMosaic.TcCoe Idealize.SL.Sem
open Idealize.ShloMosaic.Pipeline (Dat)

variable (m : (ℓ : Loc nD τ sig) → Buf (Elt Ideal) ℓ)
variable (p : S4096x6656.Idx → ℝ) (lg lb : S1x512.Idx → ℝ) (w : S4x128x128.Idx → ℝ) (b : S4x128.Idx → ℝ) (d : S4096x512.Idx → ℝ)

/-! ## What a body's payloads are over -/

section load
variable (c : Dev nD) (t : Fin cfg0.N)

/-- The normed rows, … -/
def kN : FVec Ideal S512x512 .f32 :=
  k0_pay11 (F := Ideal) (iblk m c 1 t) (iblk m c 2 t) (k0_pay6 (X0_0 m c t)) (k0_pay7 (X0_0 m c t)) (k0_pay8 (X0_0 m c t)) (FloatOps.ofBits FTy.f32 1140850688#32)

/-- … the gate, … -/
def kU : FVec Ideal S512x512 .f32 := k0_pay5 (F := Ideal) (X0_0 m c t)

/-- … the cotangent, … -/
def kD : FVec Ideal S512x512 .f32 := k0_pay14 (F := Ideal) (iblk m c 5 t)

theorem inbW : ∀ (g : Fin 4) (a), ![g.val, 0, 0] a + ![1, 128, 128] a ≤ S4x128x128.size a := by decide +kernel
theorem inbB : ∀ (g : Fin 4) (a), ![0, g.val] a + ![128, 1] a ≤ S128x128.size a := by decide +kernel

/-- … a group's weights under the mask and … -/
def kW (g : Fin 4) : FVec Ideal S128x128 .f32 :=
  k0_pay20 (F := Ideal) (View.ld (Val := Elt Ideal) (e' := .f32) (S := S4x128x128) (iblk m c 3 t) (Rect.unit ![g.val, 0, 0] ![1, 128, 128] (inbW g)))

/-- … its bias. -/
def kB (g : Fin 4) : FVec Ideal S128x1 .f32 :=
  View.ld (Val := Elt Ideal) (e' := .f32) (S := S128x128) (iblk m c 4 t) (Rect.unit ![0, g.val] ![128, 1] (inbB g))

theorem load_at (X : FVec Ideal S4x128x128 .f32) (o : ℕ) (inb : ∀ a, ![o, 0, 0] a + ![1, 128, 128] a ≤ S4x128x128.size a)
    (z : S1x128x128.Idx) (y : S4x128x128.Idx) (q0 : (y 0 : ℕ) = o + z 0) (q1 : (y 1 : ℕ) = z 1) (q2 : (y 2 : ℕ) = z 2) :
    View.ld (Val := Elt Ideal) (e' := .f32) (S := S4x128x128) X (Rect.unit ![o, 0, 0] ![1, 128, 128] inb) z = X y := by
  refine congrArg X (funext fun a => Fin.ext ?_)
  rw [Rect.idx_unit_val]
  fin_cases a
  · exact q0.symm
  · exact (Nat.zero_add _).trans q1.symm
  · exact (Nat.zero_add _).trans q2.symm

end load

section final
variable (c : Dev nD)
  (h0 : m ((c : Thread nD τ).loc main_arg0) = fun i => (p i : EReal)) (h1 : m ((c : Thread nD τ).loc main_arg1) = fun i => (lg i : EReal))
  (h2 : m ((c : Thread nD τ).loc main_arg2) = fun i => (lb i : EReal)) (h3 : m ((c : Thread nD τ).loc main_arg3) = fun i => (w i : EReal))
  (h4 : m ((c : Thread nD τ).loc main_arg4) = fun i => (b i : EReal)) (h5 : m ((c : Thread nD τ).loc main_arg5) = fun i => (d i : EReal))
include h0 h1 h2 h3 h4 h5

section one
variable (t : Fin cfg0.N)

theorem kN_eq : kN m c t = fun i => (bn p lg lb t i : EReal) := by
  unfold kN
  rw [read_p m p c t h0, read_lg m lg c t h1, read_lb m lb c t h2]
  exact pay_vn (bp p t) lg lb

theorem kU_eq : kU m c t = fun i => (bu p t i : EReal) := by
  unfold kU
  rw [read_p m p c t h0]
  exact pay_u (bp p t)

theorem kD_eq : kD m c t = fun i => (bd d t i : EReal) := by
  unfold kD
  rw [read_d m d c t h5]
  rfl

theorem kW_eq : kW m c t = fun g i => (bw w g i : EReal) := by
  funext g
  have e : View.ld (Val := Elt Ideal) (e' := .f32) (S := S4x128x128) (iblk m c 3 t) (Rect.unit ![g.val, 0, 0] ![1, 128, 128] (inbW g))
      = fun i : S1x128x128.Idx => (w (ix3 g (i 1) (i 2)) : EReal) := by
    funext z
    rw [read_w m w c t h3]
    exact load_at (fun i => (w i : EReal)) g.val _ z (ix3 g (z 1) (z 2)) (by have : (z 0).val < 1 := (z 0).isLt; show g.val = g.val + (z 0).val; omega) rfl rfl
  unfold kW
  rw [e]
  exact pay_w (fun i => w (ix3 g (i 1) (i 2)))

theorem kB_eq : kB m c t = fun g i => (bb b g i : EReal) := by
  funext g z
  refine Eq.trans ?_ (read_b m b c t h4 (z 0) g)
  refine congrArg (iblk m c 4 t : FVec Ideal S128x128 .f32) (funext fun a => Fin.ext ?_)
  rw [Rect.idx_unit_val]
  fin_cases a
  · exact Nat.zero_add _
  · have : (z 1).val < 1 := (z 1).isLt
    show g.val + (z 1).val = g.val
    omega

/-- The gating half's store. -/
theorem piece_u (z : S512x512.Idx) (y : S512x1024.Idx) (q0 : (y 0 : ℕ) = 0 + z 0) (q1 : (y 1 : ℕ) = 0 + z 1) :
    k0_pay151 (F := Ideal) (k0_pay3 (X0_0 m c t)) (quilt (tDu (kN m c t) (kD m c t) (kW m c t) (kB m c t))) (k0_pay146 (k0_pay3 (X0_0 m c t)))
        (k0_pay148 (k0_pay3 (X0_0 m c t))) (k0_pay149 (k0_pay3 (X0_0 m c t))) k0_pay150 z
      = (dz p lg lb w b d (row t (y 0)) (y 1) : EReal) := by
  have l : (z 1).val < 512 := (z 1).isLt
  rw [kN_eq m p lg lb w b d c h0 h1 h2 h3 h4 h5 t, kD_eq m p lg lb w b d c h0 h1 h2 h3 h4 h5 t, kW_eq m p lg lb w b d c h0 h1 h2 h3 h4 h5 t,
    kB_eq m p lg lb w b d c h0 h1 h2 h3 h4 h5 t, all_du, read_p m p c t h0, pay_zu, pay_slope1]
  rw [show y 0 = z 0 from Fin.ext (q0.trans (Nat.zero_add _)), show y 1 = ⟨(z 1).val, by omega⟩ from Fin.ext (q1.trans (Nat.zero_add _))]
  refine congrArg Real.toEReal (Eq.symm ((dif_pos l).trans ?_))
  rfl

/-- The cotangent of the normed rows, … -/
theorem kDvn_eq : quilt (tDvn (kU m c t) (kD m c t) (kW m c t)) = fun i => (dvn p w d (row t (i 0)) (i 1) : EReal) := by
  rw [kU_eq m p lg lb w b d c h0 h1 h2 h3 h4 h5 t, kD_eq m p lg lb w b d c h0 h1 h2 h3 h4 h5 t, kW_eq m p lg lb w b d c h0 h1 h2 h3 h4 h5 t, all_dvn]

/-- … the rows normed before their scale, … -/
theorem kX_eq : k0_pay10 (F := Ideal) (k0_pay6 (X0_0 m c t)) (k0_pay7 (X0_0 m c t)) (k0_pay8 (X0_0 m c t)) (FloatOps.ofBits FTy.f32 1140850688#32)
    = fun i => (lnHat (vrow p (row t (i 0))) (i 1) : EReal) := by
  rw [read_p m p c t h0]
  exact pay_xh (bp p t)

/-- … and of the rows. -/
theorem kDv_eq : k0_pay145 (F := Ideal) (k0_pay9 (k0_pay8 (X0_0 m c t)) (FloatOps.ofBits FTy.f32 1140850688#32))
      (k0_pay10 (k0_pay6 (X0_0 m c t)) (k0_pay7 (X0_0 m c t)) (k0_pay8 (X0_0 m c t)) (FloatOps.ofBits FTy.f32 1140850688#32))
      (quilt (tDvn (kU m c t) (kD m c t) (kW m c t))) (iblk m c 1 t)
    = fun i => (dv p lg w d (row t (i 0)) (i 1) : EReal) := by
  have hr : k0_pay9 (F := Ideal) (k0_pay8 (X0_0 m c t)) (FloatOps.ofBits FTy.f32 1140850688#32) = fun i => (lnInv (vrow p (row t (i 0))) : EReal) := by
    rw [read_p m p c t h0]
    exact pay_rs (bp p t)
  rw [hr, kX_eq m p lg lb w b d c h0 h1 h2 h3 h4 h5 t, kDvn_eq m p lg lb w b d c h0 h1 h2 h3 h4 h5 t, read_lg m lg c t h1]
  exact pay_dv (fun i => dvn p w d (row t (i 0)) (i 1)) lg (fun r => vrow p (row t r))

/-- The mixed half's store. -/
theorem piece_v (V : FVec Ideal S512x512 .f32) (hV : V = fun i => (dv p lg w d (row t (i 0)) (i 1) : EReal))
    (z : S512x512.Idx) (y : S512x1024.Idx) (q0 : (y 0 : ℕ) = 0 + z 0) (q1 : (y 1 : ℕ) = 512 + z 1) :
    k0_pay1 (F := Ideal) (k0_pay152 (k0_pay4 (X0_0 m c t))) (k0_pay154 (k0_pay4 (X0_0 m c t)) V) (k0_pay155 (k0_pay4 (X0_0 m c t)) V) k0_pay156 z
      = (dz p lg lb w b d (row t (y 0)) (y 1) : EReal) := by
  have l : (z 1).val < 512 := (z 1).isLt
  rw [hV, read_p m p c t h0, pay_zv, pay_slope2]
  rw [show y 0 = z 0 from Fin.ext (q0.trans (Nat.zero_add _)), show y 1 = ⟨512 + (z 1).val, by omega⟩ from Fin.ext q1]
  refine congrArg Real.toEReal (Eq.symm ((dif_neg (by show ¬512 + (z 1).val < 512; omega)).trans ?_))
  have : (⟨512 + (z 1).val - 512, by omega⟩ : Fin 512) = z 1 := Fin.ext (by show 512 + (z 1).val - 512 = (z 1).val; omega)
  show gelSlope (zv p (row t (z 0)) ⟨512 + (z 1).val - 512, by omega⟩) (dv p lg w d (row t (z 0)) ⟨512 + (z 1).val - 512, by omega⟩) = _
  rw [this]
  rfl

end one

theorem final_dp : (dats m 0 c).arrAt 6 cfg0.N = fun i => (dz p lg lb w b d (i 0) (i 1) : EReal) := by
  refine (dats m 0 c).arrAt_eq_of_covers 6 _ (by decide +kernel) fun t _ y => ?_
  have e : (((cfg0.win 6).blk t).view.emb y : S4096x1024.Idx) = ix2 (row t (y 0)) (y 1) := by blk_ext [idx t, row]
  trans (dz p lg lb w b d (row t (y 0)) (y 1) : EReal)
  · have hu := piece_u m p lg lb w b d c h0 h1 h2 h3 h4 h5 t
    have hv := piece_v m p lg lb w b d c h0 h1 h2 h3 h4 h5 t _ (kDv_eq m p lg lb w b d c h0 h1 h2 h3 h4 h5 t)
    blk_simp
    rw [after0_6]
    by_cases h : t.val % 8 = 0
    · rw [outsAt0_A m c t h]
      frame_out
      canon_tiles z q
      case piece0 => exact hv z y (by omega) (by omega)
      case piece1 => exact hu z y (by omega) (by omega)
    · rw [outsAt0_B m c t h]
      frame_out
      canon_tiles z q
      case piece0 => exact hv z y (by omega) (by omega)
      case piece1 => exact hu z y (by omega) (by omega)
  · rw [e]; rfl

/-- The bias's cotangent as a body adds it on, … -/
theorem piece_db (t : Fin cfg0.N) (acc : FVec Ideal S8x128 .f32) (y : S8x128.Idx) :
    addf (shapeCast S8x128 acc shapeCasts_S8x128_S8x128) (bSel (kU m c t) (kD m c t)) y
      = acc y + ((∑ n : Fin 4, if h : (y 0).val < 4 then dbChunk p d (chunk t n) ⟨(y 0).val, h⟩ (y 1) else 0 : ℝ) : EReal) := by
  have e := all_db p d t (y 0) (y 1)
  rw [← kU_eq m p lg lb w b d c h0 h1 h2 h3 h4 h5 t, ← kD_eq m p lg lb w b d c h0 h1 h2 h3 h4 h5 t] at e
  generalize bSel _ _ = B at e ⊢
  idx_vars y
  pointwise []
  exact congrArg _ e

theorem dbs_A (t : Fin cfg0.N) (h : t.val % 8 = 0) (y : S8x128.Idx) :
    (outsAt0 m c t.val t.isLt).2.2.2.2 y
      = 0 + ((∑ n : Fin 4, if h : (y 0).val < 4 then dbChunk p d (chunk t n) ⟨(y 0).val, h⟩ (y 1) else 0 : ℝ) : EReal) := by
  have hp := piece_db m p lg lb w b d c h0 h1 h2 h3 h4 h5 t (k0_pay18 (F := Ideal)) y
  rw [show k0_pay18 (F := Ideal) y = 0 by pointwise [k0_pay18]] at hp
  rw [outsAt0_A m c t h]
  frame_out
  exact hp

theorem dbs_B (t : Fin cfg0.N) (h : ¬t.val % 8 = 0) (y : S8x128.Idx) :
    (outsAt0 m c t.val t.isLt).2.2.2.2 y = (outsAt0 m c (t.val - 1) (Nat.lt_of_le_of_lt (Nat.sub_le _ _) t.isLt)).2.2.2.2 y
      + ((∑ n : Fin 4, if h : (y 0).val < 4 then dbChunk p d (chunk t n) ⟨(y 0).val, h⟩ (y 1) else 0 : ℝ) : EReal) := by
  have hp := piece_db m p lg lb w b d c h0 h1 h2 h3 h4 h5 t (outsAt0 m c (t.val - 1) (Nat.lt_of_le_of_lt (Nat.sub_le _ _) t.isLt)).2.2.2.2 y
  rw [outsAt0_B m c t h]
  frame_out
  exact hp

theorem final_dbs : (dats m 0 c).arrAt 10 cfg0.N
    = fun i => ((∑ n : Fin 32, if h : (i 0).val < 4 then dbChunk p d n ⟨(i 0).val, h⟩ (i 1) else 0 : ℝ) : EReal) := by
  refine (dats m 0 c).arrAt_eq_of_after_last 10 t0_7 (by decide +kernel) _ fun j => ?_
  blk_simp
  rw [after0_10, Pipeline.eq_sum_fin_of_reset_step_apply_last (fun n h => (outsAt0 m c n h).2.2.2.2) 8 (fun _ => 0) _
    (fun t h j => dbs_A m p lg lb w b d c h0 h1 h2 h3 h4 h5 t h j) (fun t h j => dbs_B m p lg lb w b d c h0 h1 h2 h3 h4 h5 t h j)
    (le_of_eq N_0) t0_7 rfl j, zero_add]
  refine (coe_sum _ _).trans (congrArg _ ?_)
  exact Fin.sum_mul_add_congr fun t r hl => rfl

/-- … the shift's, … -/
theorem piece_lb (t : Fin cfg0.N) (acc : FVec Ideal S1x512 .f32) (y : S1x512.Idx) :
    k0_pay144 (F := Ideal) (quilt (tDvn (kU m c t) (kD m c t) (kW m c t))) acc y = acc y + ((∑ r : Fin 512, dvn p w d (row t r) (y 1) : ℝ) : EReal) := by
  rw [kDvn_eq m p lg lb w b d c h0 h1 h2 h3 h4 h5 t]
  idx_vars y
  exact pay_db (fun i => dvn p w d (row t (i 0)) (i 1)) acc y0 y1

theorem db_A (t : Fin cfg0.N) (h : t.val % 8 = 0) (y : S1x512.Idx) :
    (outsAt0 m c t.val t.isLt).2.2.1 y = 0 + ((∑ r : Fin 512, dvn p w d (row t r) (y 1) : ℝ) : EReal) := by
  have hp := piece_lb m p lg lb w b d c h0 h1 h2 h3 h4 h5 t (k0_pay16 (F := Ideal)) y
  rw [show k0_pay16 (F := Ideal) y = 0 by pointwise [k0_pay16]] at hp
  rw [outsAt0_A m c t h]
  frame_out
  exact hp

theorem db_B (t : Fin cfg0.N) (h : ¬t.val % 8 = 0) (y : S1x512.Idx) :
    (outsAt0 m c t.val t.isLt).2.2.1 y = (outsAt0 m c (t.val - 1) (Nat.lt_of_le_of_lt (Nat.sub_le _ _) t.isLt)).2.2.1 y
      + ((∑ r : Fin 512, dvn p w d (row t r) (y 1) : ℝ) : EReal) := by
  have hp := piece_lb m p lg lb w b d c h0 h1 h2 h3 h4 h5 t (outsAt0 m c (t.val - 1) (Nat.lt_of_le_of_lt (Nat.sub_le _ _) t.isLt)).2.2.1 y
  rw [outsAt0_B m c t h]
  frame_out
  exact hp

theorem final_db : (dats m 0 c).arrAt 8 cfg0.N = fun i => ((∑ r : Fin 4096, dvn p w d r (i 1) : ℝ) : EReal) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0) _
    (fun t h j => db_A m p lg lb w b d c h0 h1 h2 h3 h4 h5 t h j) (fun t h j => db_B m p lg lb w b d c h0 h1 h2 h3 h4 h5 t h j)
    (le_of_eq N_0) t0_7 rfl j, zero_add]
  refine (coe_sum _ _).trans (congrArg _ ?_)
  exact Fin.sum_mul_add_congr fun t r hl => rfl

/-- … the scale's, … -/
theorem piece_lg (t : Fin cfg0.N) (acc : FVec Ideal S1x512 .f32) (y : S1x512.Idx) :
    addDg (quilt (tDvn (kU m c t) (kD m c t) (kW m c t)))
        (k0_pay10 (F := Ideal) (k0_pay6 (X0_0 m c t)) (k0_pay7 (X0_0 m c t)) (k0_pay8 (X0_0 m c t)) (FloatOps.ofBits FTy.f32 1140850688#32)) acc y
      = acc y + ((∑ r : Fin 512, dvn p w d (row t r) (y 1) * lnHat (vrow p (row t r)) (y 1) : ℝ) : EReal) := by
  rw [kDvn_eq m p lg lb w b d c h0 h1 h2 h3 h4 h5 t, kX_eq m p lg lb w b d c h0 h1 h2 h3 h4 h5 t]
  idx_vars y
  exact pay_dg (fun i => lnHat (vrow p (row t (i 0))) (i 1)) (fun i => dvn p w d (row t (i 0)) (i 1)) acc y0 y1

theorem dg_A (t : Fin cfg0.N) (h : t.val % 8 = 0) (y : S1x512.Idx) :
    (outsAt0 m c t.val t.isLt).2.1 y = 0 + ((∑ r : Fin 512, dvn p w d (row t r) (y 1) * lnHat (vrow p (row t r)) (y 1) : ℝ) : EReal) := by
  have hp := piece_lg m p lg lb w b d c h0 h1 h2 h3 h4 h5 t (k0_pay15 (F := Ideal)) y
  rw [show k0_pay15 (F := Ideal) y = 0 by pointwise [k0_pay15]] at hp
  rw [outsAt0_A m c t h]
  frame_out
  exact hp

theorem dg_B (t : Fin cfg0.N) (h : ¬t.val % 8 = 0) (y : S1x512.Idx) :
    (outsAt0 m c t.val t.isLt).2.1 y = (outsAt0 m c (t.val - 1) (Nat.lt_of_le_of_lt (Nat.sub_le _ _) t.isLt)).2.1 y
      + ((∑ r : Fin 512, dvn p w d (row t r) (y 1) * lnHat (vrow p (row t r)) (y 1) : ℝ) : EReal) := by
  have hp := piece_lg m p lg lb w b d c h0 h1 h2 h3 h4 h5 t (outsAt0 m c (t.val - 1) (Nat.lt_of_le_of_lt (Nat.sub_le _ _) t.isLt)).2.1 y
  rw [outsAt0_B m c t h]
  frame_out
  exact hp

theorem final_dg : (dats m 0 c).arrAt 7 cfg0.N = fun i => ((∑ r : Fin 4096, dvn p w d r (i 1) * lnHat (vrow p r) (i 1) : ℝ) : EReal) := by
  refine (dats m 0 c).arrAt_eq_of_after_last 7 t0_7 (by decide +kernel) _ fun j => ?_
  blk_simp
  rw [after0_7, Pipeline.eq_sum_fin_of_reset_step_apply_last (fun n h => (outsAt0 m c n h).2.1) 8 (fun _ => 0) _
    (fun t h j => dg_A m p lg lb w b d c h0 h1 h2 h3 h4 h5 t h j) (fun t h j => dg_B m p lg lb w b d c h0 h1 h2 h3 h4 h5 t h j)
    (le_of_eq N_0) t0_7 rfl j, zero_add]
  refine (coe_sum _ _).trans (congrArg _ ?_)
  exact Fin.sum_mul_add_congr fun t r hl => rfl

/-- … and a group's mixing weight's. -/
theorem piece_w (t : Fin cfg0.N) (g : Fin 4) (acc : FVec Ideal S1x128x128 .f32) (a : EReal) (z : S1x128x128.Idx) (y : S4x128x128.Idx)
    (ha : acc z = a) (q0 : y 0 = g) (q1 : (y 1 : ℕ) = z 1) (q2 : (y 2 : ℕ) = z 2) :
    addDw (gDw (kN m c t) (kU m c t) (kD m c t) g) acc z
      = a + ((∑ n : Fin 4, if y 2 ≤ y 1 then dwChunk p lg lb d (chunk t n) (y 0) (y 1) (y 2) else 0 : ℝ) : EReal) := by
  rw [q0, show y 1 = z 1 from Fin.ext q1, show y 2 = z 2 from Fin.ext q2, ← ha]
  have e := all_dw p lg lb d t g
  rw [← kU_eq m p lg lb w b d c h0 h1 h2 h3 h4 h5 t, ← kD_eq m p lg lb w b d c h0 h1 h2 h3 h4 h5 t, ← kN_eq m p lg lb w b d c h0 h1 h2 h3 h4 h5 t] at e
  exact pay_dw _ _ e acc z

theorem dw_A (t : Fin cfg0.N) (h : t.val % 8 = 0) (y : S4x128x128.Idx) :
    (outsAt0 m c t.val t.isLt).2.2.2.1 y
      = 0 + ((∑ n : Fin 4, if y 2 ≤ y 1 then dwChunk p lg lb d (chunk t n) (y 0) (y 1) (y 2) else 0 : ℝ) : EReal) := by
  have hp := piece_w m p lg lb w b d c h0 h1 h2 h3 h4 h5 t
  rw [outsAt0_A m c t h]
  frame_open
  simp (disch := decide) only [↓View.readCov_skip, ↓View.readCov_fill]
  frame_out
  rw [← show k0_pay17 (F := Ideal) y = 0 by pointwise [k0_pay17]]
  refine (canon_over [_, _, _, _] _ y (View.cover_of_tiled_head _ _ _ (by rfl) y)).trans ?_
  canon_tiles z q
  case piece0 =>
    exact hp 3 _ _ z y (load_at _ 3 _ z y (by omega) q1 q2) (Fin.ext (by have : (z 0).val < 1 := (z 0).isLt; show (y 0 : ℕ) = 3; omega)) (by omega) (by omega)
  case piece1 =>
    exact hp 2 _ _ z y (load_at _ 2 _ z y (by omega) q1 q2) (Fin.ext (by have : (z 0).val < 1 := (z 0).isLt; show (y 0 : ℕ) = 2; omega)) (by omega) (by omega)
  case piece2 =>
    exact hp 1 _ _ z y (load_at _ 1 _ z y (by omega) q1 q2) (Fin.ext (by have : (z 0).val < 1 := (z 0).isLt; show (y 0 : ℕ) = 1; omega)) (by omega) (by omega)
  case piece3 =>
    exact hp 0 _ _ z y (load_at _ 0 _ z y (by omega) q1 q2) (Fin.ext (by have : (z 0).val < 1 := (z 0).isLt; show (y 0 : ℕ) = 0; omega)) (by omega) (by omega)

theorem dw_B (t : Fin cfg0.N) (h : ¬t.val % 8 = 0) (y : S4x128x128.Idx) :
    (outsAt0 m c t.val t.isLt).2.2.2.1 y = (outsAt0 m c (t.val - 1) (Nat.lt_of_le_of_lt (Nat.sub_le _ _) t.isLt)).2.2.2.1 y
      + ((∑ n : Fin 4, if y 2 ≤ y 1 then dwChunk p lg lb d (chunk t n) (y 0) (y 1) (y 2) else 0 : ℝ) : EReal) := by
  have hp := piece_w m p lg lb w b d c h0 h1 h2 h3 h4 h5 t
  rw [outsAt0_B m c t h]
  frame_out
  canon_tiles z q
  case piece0 =>
    exact hp 3 _ _ z y (load_at _ 3 _ z y (by omega) q1 q2) (Fin.ext (by have : (z 0).val < 1 := (z 0).isLt; show (y 0 : ℕ) = 3; omega)) (by omega) (by omega)
  case piece1 =>
    exact hp 2 _ _ z y (load_at _ 2 _ z y (by omega) q1 q2) (Fin.ext (by have : (z 0).val < 1 := (z 0).isLt; show (y 0 : ℕ) = 2; omega)) (by omega) (by omega)
  case piece2 =>
    exact hp 1 _ _ z y (load_at _ 1 _ z y (by omega) q1 q2) (Fin.ext (by have : (z 0).val < 1 := (z 0).isLt; show (y 0 : ℕ) = 1; omega)) (by omega) (by omega)
  case piece3 =>
    exact hp 0 _ _ z y (load_at _ 0 _ z y (by omega) q1 q2) (Fin.ext (by have : (z 0).val < 1 := (z 0).isLt; show (y 0 : ℕ) = 0; omega)) (by omega) (by omega)

theorem final_dw : (dats m 0 c).arrAt 9 cfg0.N
    = fun i => ((∑ n : Fin 32, if i 2 ≤ i 1 then dwChunk p lg lb d n (i 0) (i 1) (i 2) else 0 : ℝ) : EReal) := by
  refine (dats m 0 c).arrAt_eq_of_after_last 9 t0_7 (by decide +kernel) _ fun j => ?_
  blk_simp
  rw [after0_9, Pipeline.eq_sum_fin_of_reset_step_apply_last (fun n h => (outsAt0 m c n h).2.2.2.1) 8 (fun _ => 0) _
    (fun t h j => dw_A m p lg lb w b d c h0 h1 h2 h3 h4 h5 t h j) (fun t h j => dw_B m p lg lb w b d c h0 h1 h2 h3 h4 h5 t h j)
    (le_of_eq N_0) t0_7 rfl j, zero_add]
  refine (coe_sum _ _).trans (congrArg _ ?_)
  exact Fin.sum_mul_add_congr fun t r hl => rfl

end final

end Cert.GmlpKIdeal.Hand

end
-- ==== Proof.Gmlp.Claim.lean ====
/- The gradient of the gated spatial unit: both programs, one statement. -/
module

public import proofs.«01_k».proof.Defs
public import proofs.«01_k».proof.Proof.Gen.Pre_finite_gmlp
public import proofs.«01_k».proof.Proof.Gmlp.Reference
public import proofs.«01_k».proof.Proof.Gmlp.Final

@[expose] public section

set_option maxRecDepth 16384

noncomputable section

namespace Cert.GmlpKIdeal.Hand

open Cert.Hand Cert.GmlpKIdeal Cert.GmlpKIdeal.Gen Idealize.ShloMosaic Idealize.ShloMosaic.TcCoe Idealize.SL.Sem

variable (m : (ℓ : Loc nD τ sig) → Buf (Elt Ideal) ℓ)

/-- The precondition makes every argument an array of reals. -/
theorem args_real (h : Cert.Pre_GmlpKIdeal_finite_gmlp (hPre_finite_gmlp := Cert.Pre_finite_gmlp.Gen.facts) m) (c : Dev nD) :
    (∃ x : S4096x6656.Idx → ℝ, m ((c : Thread nD τ).loc main_arg0) = fun i => ((x i : ℝ) : EReal))
    ∧ (∃ x : S1x512.Idx → ℝ, m ((c : Thread nD τ).loc main_arg1) = fun i => ((x i : ℝ) : EReal))
    ∧ (∃ x : S1x512.Idx → ℝ, m ((c : Thread nD τ).loc main_arg2) = fun i => ((x i : ℝ) : EReal))
    ∧ (∃ x : S4x128x128.Idx → ℝ, m ((c : Thread nD τ).loc main_arg3) = fun i => ((x i : ℝ) : EReal))
    ∧ (∃ x : S4x128.Idx → ℝ, m ((c : Thread nD τ).loc main_arg4) = fun i => ((x i : ℝ) : EReal))
    ∧ (∃ x : S4096x512.Idx → ℝ, m ((c : Thread nD τ).loc main_arg5) = fun i => ((x i : ℝ) : EReal)) := by
  obtain ⟨h0, h1, h2, h3, h4, h5⟩ := h c
  exact ⟨real_of_below (φ := .bf16) _ _ (fun _ => lit_inf16) h0,
    real_of_below (φ := .f32) _ _ (fun _ => lit_inf) h1,
    real_of_below (φ := .f32) _ _ (fun _ => lit_inf) h2,
    real_of_below (φ := .f32) _ _ (fun _ => lit_inf) h3,
    real_of_below (φ := .f32) _ _ (fun _ => lit_inf) h4,
    real_of_below (φ := .bf16) _ _ (fun _ => lit_inf16) h5⟩

set_option maxHeartbeats 1600000 in
/-- The pair's claim: both programs run and leave the same arrays. -/
theorem value : Cert.algebraic_GmlpKIdeal_GmlpRIdeal_pre_finite_gmlp (hPre_finite_gmlp := Cert.Pre_finite_gmlp.Gen.facts) := by
  intro m g m' g' hpre hagree
  refine ⟨_, _, _, _, _, Value.run_blocks m g, ?_⟩
  refine (θ_run _ _ _).mono (fun r h c => ?_) (Cert.GmlpRIdeal.Value.run m' g')
  obtain ⟨r0, r1, r2, r3, r4, ha⟩ := h c
  obtain ⟨e0, e1, e2, e3, e4, e5⟩ := hagree c
  obtain ⟨⟨p, h0⟩, ⟨lg, h1⟩, ⟨lb, h2⟩, ⟨w, h3⟩, ⟨b, h4⟩, ⟨d, h5⟩⟩ := args_real m hpre c
  have k0 : StableHlo.launchContents m' c (Proc.tc.devRef Cert.GmlpRIdeal.main_arg0) = fun i => (p i : EReal) := e0.trans h0
  have k1 : StableHlo.launchContents m' c (Proc.tc.devRef Cert.GmlpRIdeal.main_arg1) = fun i => (lg i : EReal) := e1.trans h1
  have k2 : StableHlo.launchContents m' c (Proc.tc.devRef Cert.GmlpRIdeal.main_arg2) = fun i => (lb i : EReal) := e2.trans h2
  have k3 : StableHlo.launchContents m' c (Proc.tc.devRef Cert.GmlpRIdeal.main_arg3) = fun i => (w i : EReal) := e3.trans h3
  have k4 : StableHlo.launchContents m' c (Proc.tc.devRef Cert.GmlpRIdeal.main_arg4) = fun i => (b i : EReal) := e4.trans h4
  have k5 : StableHlo.launchContents m' c (Proc.tc.devRef Cert.GmlpRIdeal.main_arg5) = fun i => (d i : EReal) := e5.trans h5
  refine ⟨r0.trans ?_, r1.trans ?_, r2.trans ?_, r3.trans ?_, r4.trans ?_, ha⟩
  · rw [final_dp m p lg lb w b d c h0 h1 h2 h3 h4 h5]
    refine (Cert.GmlpRIdeal.Read.val_main_v156_eq _).trans ?_
    rw [k0, k1, k2, k3, k4, k5]
    funext i; idx_vars i
    exact ref_dp p lg lb w b d _ _
  · rw [final_dg m p lg lb w b d c h0 h1 h2 h3 h4 h5]
    refine (Cert.GmlpRIdeal.Read.val_main_v104_eq _).trans ?_
    rw [k0, k3, k5]
    funext i; idx_vars i
    exact ref_dg p w d _ _
  · rw [final_db m p lg lb w b d c h0 h1 h2 h3 h4 h5]
    refine (Cert.GmlpRIdeal.Read.val_main_v101_eq _).trans ?_
    rw [k0, k3, k5]
    funext i; idx_vars i
    exact ref_db p w d _ _
  · rw [final_dw m p lg lb w b d c h0 h1 h2 h3 h4 h5]
    refine (Cert.GmlpRIdeal.Read.val_main_v98_eq _).trans ?_
    rw [k0, k1, k2, k5]
    funext i; idx_vars i
    exact ref_dw p lg lb d _ _ _
  · rw [final_dbs m p lg lb w b d c h0 h1 h2 h3 h4 h5]
    refine (Cert.GmlpRIdeal.Read.val_main_v157_eq _).trans ?_
    rw [k0, k5]
    funext i; idx_vars i
    exact ref_pad p d _ _

end Cert.GmlpKIdeal.Hand

end
-- ==== Proof.Merge.Kernel.lean ====
/- The gradient of the gated merge: what the kernel's blocks hold, as sums of reals over the argument arrays. -/
module

public import proofs.«01_k».proof.Proof.Gen.MergeKIdeal.Value
public import proofs.«01_k».proof.Proof.Shared.Real
public import proofs.«01_k».proof.Proof.Shared.Stores
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.MergeKIdeal.Hand

open Cert.Hand Cert.MergeKIdeal Cert.MergeKIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 7] ∧ win0_7.index t = ![t.val, 8] ∧ win0_8.index t = ![t.val, 9] ∧ win0_9.index t = ![t.val, 10]
    ∧ win0_10.index t = ![t.val, 11] ∧ win0_11.index t = ![t.val, 12] ∧ win0_12.index t = ![t.val, 0] ∧ win0_13.index t = ![t.val, 0]
    ∧ win0_14.index t = ![0, 0] ∧ win0_15.index t = ![0, t.val, 0] ∧ win0_16.index t = ![t.val, 0] ∧ win0_17.index t = ![t.val, 0]
    ∧ win0_18.index t = ![t.val, 0] ∧ win0_19.index t = ![0, 0, 0] ∧ win0_20.index t = ![0, 0] :=
  (by decide +kernel : ∀ t : Fin grid0.N, _)

/-- Row `r` of block `t`. -/
def row (t : Fin cfg0.N) (r : Fin 256) : Fin 4096 := ⟨t.val * 256 + r.val, by have := t.isLt; have := r.isLt; have : cfg0.N = 16 := rfl; omega⟩

/-! ## What is computed, over the argument arrays -/

section spec
variable (x : Fin 3 → S4096x512.Idx → ℝ) (w : S3x512x1024.Idx → ℝ) (p : S4096x6656.Idx → ℝ) (d : S4096x1024.Idx → ℝ) (wo : S1024x1024.Idx → ℝ)
variable (n : Fin 3) (r : Fin 4096) (j : Fin 1024)

/-- A branch's gate. -/
def gate : ℝ := sigm (p (ix2 r ⟨3584 + (n.val * 1024 + j.val), by omega⟩))

/-- The branch in the model's width. -/
def up : ℝ := ∑ k : Fin 512, x n (ix2 r k) * w (ix3 n k j)

/-- The merged branches. -/
def merged : ℝ := gate p 0 r j * up x w 0 r j + gate p 1 r j * up x w 1 r j + gate p 2 r j * up x w 2 r j

/-- The cotangent of the merged branches. -/
def dm : ℝ := ∑ k : Fin 1024, d (ix2 r k) * wo (ix2 j k)

/-- The cotangent of a gate's logit, … -/
def dgl : ℝ := dm d wo r j * up x w n r j * gate p n r j * (1 - gate p n r j)

/-- … of the branch in the model's width, … -/
def dup : ℝ := dm d wo r j * gate p n r j

/-- … of the branch, … -/
def dbr (k : Fin 512) : ℝ := ∑ j : Fin 1024, dup p d wo n r j * w (ix3 n k j)

/-- … of its weight, a row's share, … -/
def dwbRow (k : Fin 512) : ℝ := x n (ix2 r k) * dup p d wo n r j

/-- … and of the output weight, a row's share. -/
def dwoRow (k : Fin 1024) : ℝ := merged x w p r k * d (ix2 r j)

end spec

/-! ## The body over blocks of reals -/

section body
variable (D S : S256x1024.Idx → ℝ) (Wo : S1024x1024.Idx → ℝ) (X : S256x512.Idx → ℝ) (W : S512x1024.Idx → ℝ)

theorem pay_dm (r : Fin 256) (j : Fin 1024) : k0_pay7 (F := Ideal) (fun i => (D i : EReal)) (fun i => (Wo i : EReal)) (ix2 r j)
    = ((∑ k : Fin 1024, D (ix2 r k) * Wo (ix2 j k) : ℝ) : EReal) := by
  pointwise [k0_pay7, k0_pay5]
  simp only [mul_real, coe_sum]

theorem pay_gate (GA GB : FVec Ideal S256x512 .bf16) (G : S256x1024.Idx → ℝ)
    (hA : ∀ (r : Fin 256) (j : Fin 512), GA (ix2 r j) = (G (ix2 r ⟨j.val, by omega⟩) : EReal))
    (hB : ∀ (r : Fin 256) (j : Fin 512), GB (ix2 r j) = (G (ix2 r ⟨512 + j.val, by omega⟩) : EReal)) :
    k0_pay9 (F := Ideal) GA GB = fun i => (sigm (G i) : EReal) := by
  funext i
  idx_vars i
  by_cases h : i1.val < 512
  · pointwise [k0_pay9, hA, hB]
    exact (congrArg Ideal.logistic (dif_pos h)).trans (logistic_real _)
  · pointwise [k0_pay9, hA, hB]
    refine (congrArg Ideal.logistic (dif_neg h)).trans ((logistic_real _).trans ?_)
    exact congrArg (fun k => ((sigm (G (ix2 i0 k)) : ℝ) : EReal)) (Fin.ext (by show 512 + (i1.val - 512) = i1.val; omega))

theorem pay_dup : k0_pay12 (F := Ideal) (fun i => (D i : EReal)) (fun i => (S i : EReal)) = fun i => ((D i * S i : ℝ) : EReal) := by
  funext i
  exact mul_real _ _

theorem pay_dbr (r : Fin 256) (k : Fin 512) :
    k0_pay13 (F := Ideal) (fun i => (D i : EReal)) (k0_pay8 (F := Ideal) (fun i => (W i : EReal))) (fun i => (S i : EReal)) (ix2 r k)
      = ((∑ j : Fin 1024, D (ix2 r j) * S (ix2 r j) * W (ix2 k j) : ℝ) : EReal) := by
  unfold k0_pay13
  rw [pay_dup]
  pointwise [k0_pay8]
  simp only [mul_real, coe_sum]

theorem pay_dwb (acc : FVec Ideal S1x512x1024 .f32) (o : Fin 1) (k : Fin 512) (j : Fin 1024) :
    k0_pay14 (F := Ideal) (fun i => (D i : EReal)) (fun i => (X i : EReal)) (fun i => (S i : EReal)) acc (ix3 o k j)
      = acc (ix3 o k j) + ((∑ r : Fin 256, X (ix2 r k) * (D (ix2 r j) * S (ix2 r j)) : ℝ) : EReal) := by
  obtain rfl : o = 0 := Subsingleton.elim _ _
  unfold k0_pay14
  rw [pay_dup]
  pointwise []
  simp only [mul_real, coe_sum]

theorem pay_dgl (GA GB : FVec Ideal S256x512 .bf16) (hS : k0_pay16 (F := Ideal) GA GB = fun i => (S i : EReal)) (o : Fin 1) (r : Fin 256) (j : Fin 1024) :
    k0_pay17 (F := Ideal) (fun i => (D i : EReal)) (fun i => (X i : EReal)) (fun i => (W i : EReal)) GA GB (ix3 o r j)
      = ((D (ix2 r j) * (∑ k : Fin 512, X (ix2 r k) * W (ix2 k j)) * S (ix2 r j) * (1 - S (ix2 r j)) : ℝ) : EReal) := by
  unfold k0_pay17
  rw [hS]
  pointwise [k0_pay15]
  rw [← EReal.coe_one]
  simp only [mul_real, coe_sum, sub_real]

theorem pay_dwo (M : S256x1024.Idx → ℝ) (acc : FVec Ideal S1024x1024 .f32) (k j : Fin 1024) :
    k0_pay6 (F := Ideal) (fun i => (D i : EReal)) acc (fun i => (M i : EReal)) (ix2 k j)
      = acc (ix2 k j) + ((∑ r : Fin 256, M (ix2 r k) * D (ix2 r j) : ℝ) : EReal) := by
  pointwise [k0_pay6, k0_pay5]
  simp only [mul_real, coe_sum]

theorem pay_zero3 (y : S3x512x1024.Idx) : k0_pay3 (F := Ideal) y = 0 := lit_zero
theorem pay_zero2 (y : S1024x1024.Idx) : k0_pay4 (F := Ideal) y = 0 := lit_zero

/-- The branches' bodies differ in nothing but how they are cut into shared values. -/
theorem same_gate : k0_pay16 (F := Ideal) = k0_pay9 ∧ k0_pay22 (F := Ideal) = k0_pay9 := ⟨rfl, rfl⟩

theorem same_dgl (D Dx : FVec Ideal S256x1024 .f32) (Wo : FVec Ideal S1024x1024 .bf16) (X GA GB : FVec Ideal S256x512 .bf16) (W : FVec Ideal S512x1024 .bf16) :
    k0_pay11 (F := Ideal) (k0_pay10 (F := Ideal) Dx Wo X W GA GB) = k0_pay17 (k0_pay7 Dx Wo) X W GA GB
    ∧ k0_pay23 (F := Ideal) D X W GA GB = k0_pay17 D X W GA GB := ⟨rfl, rfl⟩

theorem same_dbr (D : FVec Ideal S256x1024 .f32) (S : FVec Ideal S256x1024 .f32) (GA GB : FVec Ideal S256x512 .bf16) (W : FVec Ideal S512x1024 .bf16) :
    k0_pay19 (F := Ideal) D (k0_pay15 W) S = k0_pay13 D (k0_pay8 W) S
    ∧ k0_pay1 (F := Ideal) (k0_pay25 D W GA GB) = k0_pay13 D (k0_pay8 W) (k0_pay22 GA GB) := ⟨rfl, rfl⟩

theorem same_dwb (D : FVec Ideal S256x1024 .f32) (S : FVec Ideal S256x1024 .f32) (X GA GB : FVec Ideal S256x512 .bf16) (acc : FVec Ideal S1x512x1024 .f32) :
    k0_pay20 (F := Ideal) D X S acc = k0_pay14 D X S acc
    ∧ k0_pay2 (F := Ideal) X (k0_pay24 D GA GB) acc = k0_pay14 D X (k0_pay22 GA GB) acc := ⟨rfl, rfl⟩

end body

/-- Branch 0's share of the merged branches, as the host lines before the call compute it. -/
def share0 (x : FVec Ideal S4096x512 .bf16) (w : FVec Ideal S3x512x1024 .f32) (p : FVec Ideal S4096x6656 .bf16) : FVec Ideal S4096x1024 .f32 :=
  mulf (Host.divf (broadcastInDim S4096x1024 ![] bcast_S_S4096x1024 (constant (F := Ideal) S_ .f32 0x3F800000#32))
    (addf (broadcastInDim S4096x1024 ![] bcast_S_S4096x1024 (constant (F := Ideal) S_ .f32 0x3F800000#32))
      (Host.exp (Host.negf (extf .f32 (extractStridedSlice S4096x1024 ![0, 3584] p slices_S4096x6656_S4096x1024_0_3584) bitsLt_bf16_f32)))))
    (Host.dotGeneral dot_S4096x512_S512x1024_S4096x1024_1_0_0_1_n_n none x
      (truncf .bf16 (shapeCast S512x1024 (extractStridedSlice S1x512x1024 ![0, 0, 0] w slices_S3x512x1024_S1x512x1024_0_0_0) shapeCasts_S1x512x1024_S512x1024) bitsLt_bf16_f32))

theorem share0_read (x : S4096x512.Idx → ℝ) (X : Fin 3 → S4096x512.Idx → ℝ) (hx : X 0 = x) (w : S3x512x1024.Idx → ℝ) (p : S4096x6656.Idx → ℝ) (r : Fin 4096) (j : Fin 1024) :
    share0 (fun i => (x i : EReal)) (fun i => (w i : EReal)) (fun i => (p i : EReal)) (ix2 r j) = ((gate p 0 r j * up X w 0 r j : ℝ) : EReal) := by
  subst hx
  have hs : ∀ x : ℝ, Ideal.div 1 (1 + Ideal.exp (-(x : EReal))) = ((sigm x : ℝ) : EReal) := logistic_real
  pointwise [share0]
  simp only [hs, mul_real, coe_sum]
  exact congrArg (fun k => ((sigm (p (ix2 r k)) * up X w 0 r j : ℝ) : EReal)) (Fin.ext (by show 3584 + j.val = 3584 + (0 * 1024 + j.val); omega))

/-- Branch 1's share of the merged branches, as the host lines before the call compute it. -/
def share1 (x : FVec Ideal S4096x512 .bf16) (w : FVec Ideal S3x512x1024 .f32) (p : FVec Ideal S4096x6656 .bf16) : FVec Ideal S4096x1024 .f32 :=
  mulf (Host.divf (broadcastInDim S4096x1024 ![] bcast_S_S4096x1024 (constant (F := Ideal) S_ .f32 0x3F800000#32))
    (addf (broadcastInDim S4096x1024 ![] bcast_S_S4096x1024 (constant (F := Ideal) S_ .f32 0x3F800000#32))
      (Host.exp (Host.negf (extf .f32 (extractStridedSlice S4096x1024 ![0, 4608] p slices_S4096x6656_S4096x1024_0_4608) bitsLt_bf16_f32)))))
    (Host.dotGeneral dot_S4096x512_S512x1024_S4096x1024_1_0_0_1_n_n none x
      (truncf .bf16 (shapeCast S512x1024 (extractStridedSlice S1x512x1024 ![1, 0, 0] w slices_S3x512x1024_S1x512x1024_1_0_0) shapeCasts_S1x512x1024_S512x1024) bitsLt_bf16_f32))

theorem share1_read (x : S4096x512.Idx → ℝ) (X : Fin 3 → S4096x512.Idx → ℝ) (hx : X 1 = x) (w : S3x512x1024.Idx → ℝ) (p : S4096x6656.Idx → ℝ) (r : Fin 4096) (j : Fin 1024) :
    share1 (fun i => (x i : EReal)) (fun i => (w i : EReal)) (fun i => (p i : EReal)) (ix2 r j) = ((gate p 1 r j * up X w 1 r j : ℝ) : EReal) := by
  subst hx
  have hs : ∀ x : ℝ, Ideal.div 1 (1 + Ideal.exp (-(x : EReal))) = ((sigm x : ℝ) : EReal) := logistic_real
  pointwise [share1]
  simp only [hs, mul_real, coe_sum]
  exact congrArg (fun k => ((sigm (p (ix2 r k)) * up X w 1 r j : ℝ) : EReal)) (Fin.ext (by show 4608 + j.val = 3584 + (1 * 1024 + j.val); omega))

/-- Branch 2's share of the merged branches, as the host lines before the call compute it. -/
def share2 (x : FVec Ideal S4096x512 .bf16) (w : FVec Ideal S3x512x1024 .f32) (p : FVec Ideal S4096x6656 .bf16) : FVec Ideal S4096x1024 .f32 :=
  mulf (Host.divf (broadcastInDim S4096x1024 ![] bcast_S_S4096x1024 (constant (F := Ideal) S_ .f32 0x3F800000#32))
    (addf (broadcastInDim S4096x1024 ![] bcast_S_S4096x1024 (constant (F := Ideal) S_ .f32 0x3F800000#32))
      (Host.exp (Host.negf (extf .f32 (extractStridedSlice S4096x1024 ![0, 5632] p slices_S4096x6656_S4096x1024_0_5632) bitsLt_bf16_f32)))))
    (Host.dotGeneral dot_S4096x512_S512x1024_S4096x1024_1_0_0_1_n_n none x
      (truncf .bf16 (shapeCast S512x1024 (extractStridedSlice S1x512x1024 ![2, 0, 0] w slices_S3x512x1024_S1x512x1024_2_0_0) shapeCasts_S1x512x1024_S512x1024) bitsLt_bf16_f32))

theorem share2_read (x : S4096x512.Idx → ℝ) (X : Fin 3 → S4096x512.Idx → ℝ) (hx : X 2 = x) (w : S3x512x1024.Idx → ℝ) (p : S4096x6656.Idx → ℝ) (r : Fin 4096) (j : Fin 1024) :
    share2 (fun i => (x i : EReal)) (fun i => (w i : EReal)) (fun i => (p i : EReal)) (ix2 r j) = ((gate p 2 r j * up X w 2 r j : ℝ) : EReal) := by
  subst hx
  have hs : ∀ x : ℝ, Ideal.div 1 (1 + Ideal.exp (-(x : EReal))) = ((sigm x : ℝ) : EReal) := logistic_real
  pointwise [share2]
  simp only [hs, mul_real, coe_sum]
  exact congrArg (fun k => ((sigm (p (ix2 r k)) * up X w 2 r j : ℝ) : EReal)) (Fin.ext (by show 5632 + j.val = 3584 + (2 * 1024 + j.val); omega))

/-! ## The blocks the body reads -/

section blocks
variable (x : Fin 3 → S4096x512.Idx → ℝ) (w : S3x512x1024.Idx → ℝ) (p : S4096x6656.Idx → ℝ) (d : S4096x1024.Idx → ℝ) (wo : S1024x1024.Idx → ℝ)
variable (c : Dev nD) (t : Fin cfg0.N)

def lx (n : Fin 3) : S256x512.Idx → ℝ := fun j => x n (ix2 (row t (j 0)) (j 1))
def lw (n : Fin 3) : S512x1024.Idx → ℝ := fun j => w (ix3 n (j 0) (j 1))
def ldx : S256x1024.Idx → ℝ := fun j => d (ix2 (row t (j 0)) (j 1))
def lm : S256x1024.Idx → ℝ := fun j => merged x w p (row t (j 0)) (j 1)
def ldm : S256x1024.Idx → ℝ := fun j => dm d wo (row t (j 0)) (j 1)
def lg (n : Fin 3) : S256x1024.Idx → ℝ := fun j => gate p n (row t (j 0)) (j 1)

theorem read_x0 (h : m ((c : Thread nD τ).loc main_arg0) = fun i => (x 0 i : EReal)) :
    (iblk m c 0 t : FVec Ideal S256x512 .bf16) = fun j => (lx x t 0 j : EReal) := by
  funext j
  trans m ((c : Thread nD τ).loc main_arg0) (ix2 (row t (j 0)) (j 1))
  · blk_ext [iblk, V, idx t, row]
  · rw [h]; rfl

theorem read_w0 (h : m ((c : Thread nD τ).loc main_arg3) = fun i => (w i : EReal)) :
    (iblk m c 3 t : FVec Ideal S512x1024 .bf16) = fun j => (lw w 0 j : EReal) := by
  funext j
  trans m ((c : Thread nD τ).loc main_arg3) (ix3 0 (j 0) (j 1))
  · idx_vars j; blk_simp [iblk]; entry_read; pointwise; blk_ext [idx t]
  · rw [h]; rfl

theorem read_g0 (h : m ((c : Thread nD τ).loc main_arg4) = fun i => (p i : EReal)) :
    k0_pay9 (F := Ideal) (iblk m c 6 t : FVec Ideal S256x512 .bf16) (iblk m c 7 t : FVec Ideal S256x512 .bf16) = fun j => (lg p t 0 j : EReal) := by
  refine pay_gate _ _ (fun j => p (ix2 (row t (j 0)) ⟨3584 + (0 * 1024 + (j 1).val), by have : (j 1).val < 1024 := (j 1).isLt; omega⟩)) (fun r j => ?_) (fun r j => ?_)
  · trans m ((c : Thread nD τ).loc main_arg4) (ix2 (row t r) ⟨3584 + (0 * 1024 + j.val), by omega⟩)
    · blk_ext [iblk, V, idx t, row]
    · rw [h]; rfl
  · trans m ((c : Thread nD τ).loc main_arg4) (ix2 (row t r) ⟨3584 + (0 * 1024 + (512 + j.val)), by omega⟩)
    · blk_ext [iblk, V, idx t, row]
    · rw [h]; rfl

theorem read_x1 (h : m ((c : Thread nD τ).loc main_arg1) = fun i => (x 1 i : EReal)) :
    (iblk m c 1 t : FVec Ideal S256x512 .bf16) = fun j => (lx x t 1 j : EReal) := by
  funext j
  trans m ((c : Thread nD τ).loc main_arg1) (ix2 (row t (j 0)) (j 1))
  · blk_ext [iblk, V, idx t, row]
  · rw [h]; rfl

theorem read_w1 (h : m ((c : Thread nD τ).loc main_arg3) = fun i => (w i : EReal)) :
    (iblk m c 4 t : FVec Ideal S512x1024 .bf16) = fun j => (lw w 1 j : EReal) := by
  funext j
  trans m ((c : Thread nD τ).loc main_arg3) (ix3 1 (j 0) (j 1))
  · idx_vars j; blk_simp [iblk]; entry_read; pointwise; blk_ext [idx t]
  · rw [h]; rfl

theorem read_g1 (h : m ((c : Thread nD τ).loc main_arg4) = fun i => (p i : EReal)) :
    k0_pay9 (F := Ideal) (iblk m c 8 t : FVec Ideal S256x512 .bf16) (iblk m c 9 t : FVec Ideal S256x512 .bf16) = fun j => (lg p t 1 j : EReal) := by
  refine pay_gate _ _ (fun j => p (ix2 (row t (j 0)) ⟨3584 + (1 * 1024 + (j 1).val), by have : (j 1).val < 1024 := (j 1).isLt; omega⟩)) (fun r j => ?_) (fun r j => ?_)
  · trans m ((c : Thread nD τ).loc main_arg4) (ix2 (row t r) ⟨3584 + (1 * 1024 + j.val), by omega⟩)
    · blk_ext [iblk, V, idx t, row]
    · rw [h]; rfl
  · trans m ((c : Thread nD τ).loc main_arg4) (ix2 (row t r) ⟨3584 + (1 * 1024 + (512 + j.val)), by omega⟩)
    · blk_ext [iblk, V, idx t, row]
    · rw [h]; rfl

theorem read_x2 (h : m ((c : Thread nD τ).loc main_arg2) = fun i => (x 2 i : EReal)) :
    (iblk m c 2 t : FVec Ideal S256x512 .bf16) = fun j => (lx x t 2 j : EReal) := by
  funext j
  trans m ((c : Thread nD τ).loc main_arg2) (ix2 (row t (j 0)) (j 1))
  · blk_ext [iblk, V, idx t, row]
  · rw [h]; rfl

theorem read_w2 (h : m ((c : Thread nD τ).loc main_arg3) = fun i => (w i : EReal)) :
    (iblk m c 5 t : FVec Ideal S512x1024 .bf16) = fun j => (lw w 2 j : EReal) := by
  funext j
  trans m ((c : Thread nD τ).loc main_arg3) (ix3 2 (j 0) (j 1))
  · idx_vars j; blk_simp [iblk]; entry_read; pointwise; blk_ext [idx t]
  · rw [h]; rfl

theorem read_g2 (h : m ((c : Thread nD τ).loc main_arg4) = fun i => (p i : EReal)) :
    k0_pay9 (F := Ideal) (iblk m c 10 t : FVec Ideal S256x512 .bf16) (iblk m c 11 t : FVec Ideal S256x512 .bf16) = fun j => (lg p t 2 j : EReal) := by
  refine pay_gate _ _ (fun j => p (ix2 (row t (j 0)) ⟨3584 + (2 * 1024 + (j 1).val), by have : (j 1).val < 1024 := (j 1).isLt; omega⟩)) (fun r j => ?_) (fun r j => ?_)
  · trans m ((c : Thread nD τ).loc main_arg4) (ix2 (row t r) ⟨3584 + (2 * 1024 + j.val), by omega⟩)
    · blk_ext [iblk, V, idx t, row]
    · rw [h]; rfl
  · trans m ((c : Thread nD τ).loc main_arg4) (ix2 (row t r) ⟨3584 + (2 * 1024 + (512 + j.val)), by omega⟩)
    · blk_ext [iblk, V, idx t, row]
    · rw [h]; rfl

theorem read_dx (h : m ((c : Thread nD τ).loc main_arg5) = fun i => (d i : EReal)) :
    (iblk m c 13 t : FVec Ideal S256x1024 .f32) = fun j => (ldx d t j : EReal) := by
  funext j
  trans m ((c : Thread nD τ).loc main_arg5) (ix2 (row t (j 0)) (j 1))
  · blk_ext [iblk, V, idx t, row]
  · rw [h]; rfl

theorem read_wo (h : m ((c : Thread nD τ).loc main_arg6) = fun i => (wo i : EReal)) :
    (iblk m c 14 t : FVec Ideal S1024x1024 .bf16) = fun j => (wo j : EReal) := by
  funext j
  trans m ((c : Thread nD τ).loc main_arg6) j
  · idx_vars j; blk_simp [iblk]; entry_read; pointwise; blk_ext [idx t]
  · rw [h]

theorem read_m (h0 : m ((c : Thread nD τ).loc main_arg0) = fun i => (x 0 i : EReal)) (h1 : m ((c : Thread nD τ).loc main_arg1) = fun i => (x 1 i : EReal))
    (h2 : m ((c : Thread nD τ).loc main_arg2) = fun i => (x 2 i : EReal)) (h3 : m ((c : Thread nD τ).loc main_arg3) = fun i => (w i : EReal))
    (h4 : m ((c : Thread nD τ).loc main_arg4) = fun i => (p i : EReal)) :
    (iblk m c 12 t : FVec Ideal S256x1024 .bf16) = fun j => (lm x w p t j : EReal) := by
  have e : V m c main_v43 = truncf .bf16 (addf (addf (addf (broadcastInDim S4096x1024 ![] bcast_S_S4096x1024 (constant (F := Ideal) S_ .f32 0x00000000#32))
      (share0 (m ((c : Thread nD τ).loc main_arg0)) (m ((c : Thread nD τ).loc main_arg3)) (m ((c : Thread nD τ).loc main_arg4))))
      (share1 (m ((c : Thread nD τ).loc main_arg1)) (m ((c : Thread nD τ).loc main_arg3)) (m ((c : Thread nD τ).loc main_arg4))))
      (share2 (m ((c : Thread nD τ).loc main_arg2)) (m ((c : Thread nD τ).loc main_arg3)) (m ((c : Thread nD τ).loc main_arg4)))) bitsLt_bf16_f32 := by
    entry_read
    rfl
  funext j
  trans (V m c main_v43 : FVec Ideal S4096x1024 .bf16) (ix2 (row t (j 0)) (j 1))
  · blk_ext [iblk, idx t, row]
  · rw [e, h0, h1, h2, h3, h4]
    pointwise [share0_read (x 0) x rfl, share1_read (x 1) x rfl, share2_read (x 2) x rfl]
    simp only [add_real]
    rfl

theorem read_dm (h5 : m ((c : Thread nD τ).loc main_arg5) = fun i => (d i : EReal)) (h6 : m ((c : Thread nD τ).loc main_arg6) = fun i => (wo i : EReal)) :
    k0_pay7 (F := Ideal) (iblk m c 13 t : FVec Ideal S256x1024 .f32) (iblk m c 14 t : FVec Ideal S1024x1024 .bf16) = fun j => (ldm d wo t j : EReal) := by
  rw [read_dx m d c t h5, read_wo m wo c t h6]
  funext j
  idx_vars j
  exact pay_dm _ _ j0 j1

end blocks

end Cert.MergeKIdeal.Hand

end
-- ==== Proof.Merge.Final.lean ====
/- The gradient of the gated merge: the arrays the kernel leaves. -/
module

public import proofs.«01_k».proof.Proof.Merge.Kernel

@[expose] public section

set_option maxRecDepth 16384

noncomputable section

namespace Cert.MergeKIdeal.Hand

open Cert.Hand Cert.MergeKIdeal Cert.MergeKIdeal.Gen Idealize.ShloMosaic Idealize.ShloMosaic.TcCoe Idealize.SL.Sem
open Idealize.ShloMosaic.Pipeline (Dat)

variable (m : (ℓ : Loc nD τ sig) → Buf (Elt Ideal) ℓ)

variable (x : Fin 3 → S4096x512.Idx → ℝ) (w : S3x512x1024.Idx → ℝ) (p : S4096x6656.Idx → ℝ) (d : S4096x1024.Idx → ℝ) (wo : S1024x1024.Idx → ℝ)

/-! ## What the body stores for a branch -/

section pieces
variable (t : Fin cfg0.N) (n : Fin 3) (DM : FVec Ideal S256x1024 .f32) (X GA GB : FVec Ideal S256x512 .bf16) (W : FVec Ideal S512x1024 .bf16)
  (hD : DM = fun j => (ldm d wo t j : EReal)) (hX : X = fun j => (lx x t n j : EReal)) (hW : W = fun j => (lw w n j : EReal))
  (hG : k0_pay9 (F := Ideal) GA GB = fun j => (lg p t n j : EReal))
include hD hG

theorem dbr_piece (y : S256x512.Idx) (hW : W = fun j => (lw w n j : EReal)) :
    k0_pay13 (F := Ideal) DM (k0_pay8 (F := Ideal) W) (k0_pay9 (F := Ideal) GA GB) y = (dbr w p d wo n (row t (y 0)) (y 1) : EReal) := by
  rw [hD, hG, hW]
  idx_vars y
  exact pay_dbr _ _ _ y0 y1

include hX

theorem dwb_piece (acc : FVec Ideal S1x512x1024 .f32) (a : EReal) (z : S1x512x1024.Idx) (y : S3x512x1024.Idx)
    (ha : acc z = a) (h0 : y 0 = n) (h1 : (y 1 : ℕ) = z 1) (h2 : (y 2 : ℕ) = z 2) :
    k0_pay14 (F := Ideal) DM X (k0_pay9 (F := Ideal) GA GB) acc z
      = a + ((∑ r : Fin 256, dwbRow x p d wo (y 0) (row t r) (y 2) (y 1) : ℝ) : EReal) := by
  rw [hD, hG, hX, h0, show y 1 = z 1 from Fin.ext h1, show y 2 = z 2 from Fin.ext h2, ← ha]
  idx_vars z
  exact pay_dwb _ _ _ _ z0 z1 z2

include hW

theorem dgl_piece (z : S1x256x1024.Idx) (y : S3x256x1024.Idx) (h0 : y 0 = n) (h1 : (y 1 : ℕ) = z 1) (h2 : (y 2 : ℕ) = z 2) :
    k0_pay17 (F := Ideal) DM X W GA GB z = (dgl x w p d wo (y 0) (row t (y 1)) (y 2) : EReal) := by
  rw [hD, hX, hW, h0, show y 1 = z 1 from Fin.ext h1, show y 2 = z 2 from Fin.ext h2]
  idx_vars z
  exact pay_dgl _ _ _ _ GA GB hG z0 z1 z2

end pieces

/-! ## The arrays after the run -/

/-- A load of a branch's part, at an index. -/
theorem load_at (X : FVec Ideal S3x512x1024 .f32) (o : ℕ) (inb : ∀ a, ![o, 0, 0] a + ![1, 512, 1024] a ≤ S3x512x1024.size a)
    (z : S1x512x1024.Idx) (y : S3x512x1024.Idx) (q0 : (y 0 : ℕ) = o + z 0) (q1 : (y 1 : ℕ) = z 1) (q2 : (y 2 : ℕ) = z 2) :
    View.ld (Val := Elt Ideal) (e' := .f32) (S := S3x512x1024) X (Rect.unit ![o, 0, 0] ![1, 512, 1024] inb) z = X y := by
  refine congrArg X (funext fun a => Fin.ext ?_)
  rw [Rect.idx_unit_val]
  fin_cases a
  · exact q0.symm
  · exact (Nat.zero_add _).trans q1.symm
  · exact (Nat.zero_add _).trans q2.symm

section final
variable (c : Dev nD)
  (h0 : m ((c : Thread nD τ).loc main_arg0) = fun i => (x 0 i : EReal)) (h1 : m ((c : Thread nD τ).loc main_arg1) = fun i => (x 1 i : EReal))
  (h2 : m ((c : Thread nD τ).loc main_arg2) = fun i => (x 2 i : EReal)) (h3 : m ((c : Thread nD τ).loc main_arg3) = fun i => (w i : EReal))
  (h4 : m ((c : Thread nD τ).loc main_arg4) = fun i => (p i : EReal)) (h5 : m ((c : Thread nD τ).loc main_arg5) = fun i => (d i : EReal))
  (h6 : m ((c : Thread nD τ).loc main_arg6) = fun i => (wo i : EReal))
include h0 h1 h2 h3 h4 h5 h6

theorem final_dgl : (dats m 0 c).arrAt 15 cfg0.N = fun i => (dgl x w p d wo (i 0) (i 1) (i 2) : EReal) := by
  refine (dats m 0 c).arrAt_eq_of_covers 15 _ (by decide +kernel) fun t _ y => ?_
  have e : (((cfg0.win 15).blk t).view.emb y : S3x4096x1024.Idx) = ix3 (y 0) (row t (y 1)) (y 2) := by blk_ext [idx t, row]
  trans (dgl x w p d wo (y 0) (row t (y 1)) (y 2) : EReal)
  · blk_simp
    rw [after0_15]
    by_cases h : t.val % 16 = 0
    · rw [outsAt0_A m c t h]
      frame_out
      canon_tiles z q
      case piece0 =>
        exact (congrFun (same_dgl _ (iblk m c 13 t) (iblk m c 14 t) _ _ _ _).2 z).trans (dgl_piece x w p d wo t 2 _ _ _ _ _ (read_dm m d wo c t h5 h6) (read_x2 m x c t h2)
          (read_w2 m w c t h3) (read_g2 m p c t h4) z y (Fin.ext (by have : (z 0).val < 1 := (z 0).isLt; show (y 0 : ℕ) = 2; omega)) (by omega) (by omega))
      case piece1 =>
        exact (dgl_piece x w p d wo t 1 _ _ _ _ _ (read_dm m d wo c t h5 h6) (read_x1 m x c t h1)
          (read_w1 m w c t h3) (read_g1 m p c t h4) z y (Fin.ext (by have : (z 0).val < 1 := (z 0).isLt; show (y 0 : ℕ) = 1; omega)) (by omega) (by omega))
      case piece2 =>
        exact (congrFun (same_dgl (k0_pay7 (iblk m c 13 t) (iblk m c 14 t)) _ _ _ _ _ _).1 z).trans (dgl_piece x w p d wo t 0 _ _ _ _ _ (read_dm m d wo c t h5 h6) (read_x0 m x c t h0)
          (read_w0 m w c t h3) (read_g0 m p c t h4) z y (Fin.ext (by have : (z 0).val < 1 := (z 0).isLt; show (y 0 : ℕ) = 0; omega)) (by omega) (by omega))
    · rw [outsAt0_B m c t h]
      frame_out
      canon_tiles z q
      case piece0 =>
        exact (congrFun (same_dgl _ (iblk m c 13 t) (iblk m c 14 t) _ _ _ _).2 z).trans (dgl_piece x w p d wo t 2 _ _ _ _ _ (read_dm m d wo c t h5 h6) (read_x2 m x c t h2)
          (read_w2 m w c t h3) (read_g2 m p c t h4) z y (Fin.ext (by have : (z 0).val < 1 := (z 0).isLt; show (y 0 : ℕ) = 2; omega)) (by omega) (by omega))
      case piece1 =>
        exact (dgl_piece x w p d wo t 1 _ _ _ _ _ (read_dm m d wo c t h5 h6) (read_x1 m x c t h1)
          (read_w1 m w c t h3) (read_g1 m p c t h4) z y (Fin.ext (by have : (z 0).val < 1 := (z 0).isLt; show (y 0 : ℕ) = 1; omega)) (by omega) (by omega))
      case piece2 =>
        exact (congrFun (same_dgl (k0_pay7 (iblk m c 13 t) (iblk m c 14 t)) _ _ _ _ _ _).1 z).trans (dgl_piece x w p d wo t 0 _ _ _ _ _ (read_dm m d wo c t h5 h6) (read_x0 m x c t h0)
          (read_w0 m w c t h3) (read_g0 m p c t h4) z y (Fin.ext (by have : (z 0).val < 1 := (z 0).isLt; show (y 0 : ℕ) = 0; omega)) (by omega) (by omega))
  · rw [e]; rfl

theorem final_d0 : (dats m 0 c).arrAt 16 cfg0.N = fun i => (dbr w p d wo 0 (i 0) (i 1) : EReal) := by
  refine (dats m 0 c).arrAt_eq_of_covers 16 _ (by decide +kernel) fun t _ y => ?_
  have e : (((cfg0.win 16).blk t).view.emb y : S4096x512.Idx) = ix2 (row t (y 0)) (y 1) := by blk_ext [idx t, row]
  trans (dbr w p d wo 0 (row t (y 0)) (y 1) : EReal)
  · have hp := dbr_piece w p d wo t 0 _ _ _ _ (read_dm m d wo c t h5 h6) (read_g0 m p c t h4) y (read_w0 m w c t h3)
    blk_simp
    rw [after0_16]
    by_cases h : t.val % 16 = 0
    · rw [outsAt0_A m c t h]; frame_out; exact hp
    · rw [outsAt0_B m c t h]; frame_out; exact hp
  · rw [e]; rfl

theorem final_d1 : (dats m 0 c).arrAt 17 cfg0.N = fun i => (dbr w p d wo 1 (i 0) (i 1) : EReal) := by
  refine (dats m 0 c).arrAt_eq_of_covers 17 _ (by decide +kernel) fun t _ y => ?_
  have e : (((cfg0.win 17).blk t).view.emb y : S4096x512.Idx) = ix2 (row t (y 0)) (y 1) := by blk_ext [idx t, row]
  trans (dbr w p d wo 1 (row t (y 0)) (y 1) : EReal)
  · have hp := dbr_piece w p d wo t 1 _ _ _ _ (read_dm m d wo c t h5 h6) (read_g1 m p c t h4) y (read_w1 m w c t h3)
    blk_simp
    rw [after0_17]
    by_cases h : t.val % 16 = 0
    · rw [outsAt0_A m c t h]; frame_out; exact (congrFun (same_dbr _ (k0_pay16 _ _) (iblk m c 8 t) (iblk m c 9 t) _).1 y).trans hp
    · rw [outsAt0_B m c t h]; frame_out; exact (congrFun (same_dbr _ (k0_pay16 _ _) (iblk m c 8 t) (iblk m c 9 t) _).1 y).trans hp
  · rw [e]; rfl

theorem final_d2 : (dats m 0 c).arrAt 18 cfg0.N = fun i => (dbr w p d wo 2 (i 0) (i 1) : EReal) := by
  refine (dats m 0 c).arrAt_eq_of_covers 18 _ (by decide +kernel) fun t _ y => ?_
  have e : (((cfg0.win 18).blk t).view.emb y : S4096x512.Idx) = ix2 (row t (y 0)) (y 1) := by blk_ext [idx t, row]
  trans (dbr w p d wo 2 (row t (y 0)) (y 1) : EReal)
  · have hp := dbr_piece w p d wo t 2 _ _ _ _ (read_dm m d wo c t h5 h6) (read_g2 m p c t h4) y (read_w2 m w c t h3)
    blk_simp
    rw [after0_18]
    by_cases h : t.val % 16 = 0
    · rw [outsAt0_A m c t h]; frame_out; exact (congrFun (same_dbr _ (k0_pay9 (iblk m c 10 t) (iblk m c 11 t)) _ _ _).2 y).trans hp
    · rw [outsAt0_B m c t h]; frame_out; exact (congrFun (same_dbr _ (k0_pay9 (iblk m c 10 t) (iblk m c 11 t)) _ _ _).2 y).trans hp
  · rw [e]; rfl

theorem dwb_A (t : Fin cfg0.N) (h : t.val % 16 = 0) (y : S3x512x1024.Idx) :
    (outsAt0 m c t.val t.isLt).2.2.2.2.1 y = 0 + ((∑ r : Fin 256, dwbRow x p d wo (y 0) (row t r) (y 2) (y 1) : ℝ) : EReal) := by
  rw [outsAt0_A m c t h]
  frame_open
  simp (disch := decide) only [↓View.readCov_skip, ↓View.readCov_fill]
  frame_out
  rw [← pay_zero3 y]
  refine (canon_over [_, _, _] _ y (View.cover_of_tiled_head _ _ _ (by rfl) y)).trans ?_
  canon_tiles z q
  case piece0 =>
    exact (congrFun (same_dwb _ (k0_pay9 (iblk m c 10 t) (iblk m c 11 t)) _ _ _ _).2 z).trans (dwb_piece x p d wo t 2 _ _ _ _ (read_dm m d wo c t h5 h6) (read_x2 m x c t h2) (read_g2 m p c t h4) _ _ z y
      (load_at _ 2 _ z y (by omega) q1 q2) (Fin.ext (by have : (z 0).val < 1 := (z 0).isLt; show (y 0 : ℕ) = 2; omega)) (by omega) (by omega))
  case piece1 =>
    exact (congrFun (same_dwb _ (k0_pay16 _ _) _ (iblk m c 8 t) (iblk m c 9 t) _).1 z).trans (dwb_piece x p d wo t 1 _ _ _ _ (read_dm m d wo c t h5 h6) (read_x1 m x c t h1) (read_g1 m p c t h4) _ _ z y
      (load_at _ 1 _ z y (by omega) q1 q2) (Fin.ext (by have : (z 0).val < 1 := (z 0).isLt; show (y 0 : ℕ) = 1; omega)) (by omega) (by omega))
  case piece2 =>
    exact (dwb_piece x p d wo t 0 _ _ _ _ (read_dm m d wo c t h5 h6) (read_x0 m x c t h0) (read_g0 m p c t h4) _ _ z y
      (load_at _ 0 _ z y (by omega) q1 q2) (Fin.ext (by have : (z 0).val < 1 := (z 0).isLt; show (y 0 : ℕ) = 0; omega)) (by omega) (by omega))

theorem dwb_B (t : Fin cfg0.N) (h : ¬t.val % 16 = 0) (y : S3x512x1024.Idx) :
    (outsAt0 m c t.val t.isLt).2.2.2.2.1 y = (outsAt0 m c (t.val - 1) (Nat.lt_of_le_of_lt (Nat.sub_le _ _) t.isLt)).2.2.2.2.1 y
      + ((∑ r : Fin 256, dwbRow x p d wo (y 0) (row t r) (y 2) (y 1) : ℝ) : EReal) := by
  rw [outsAt0_B m c t h]
  frame_out
  canon_tiles z q
  case piece0 =>
    exact (congrFun (same_dwb _ (k0_pay9 (iblk m c 10 t) (iblk m c 11 t)) _ _ _ _).2 z).trans (dwb_piece x p d wo t 2 _ _ _ _ (read_dm m d wo c t h5 h6) (read_x2 m x c t h2) (read_g2 m p c t h4) _ _ z y
      (load_at _ 2 _ z y (by omega) q1 q2) (Fin.ext (by have : (z 0).val < 1 := (z 0).isLt; show (y 0 : ℕ) = 2; omega)) (by omega) (by omega))
  case piece1 =>
    exact (congrFun (same_dwb _ (k0_pay16 _ _) _ (iblk m c 8 t) (iblk m c 9 t) _).1 z).trans (dwb_piece x p d wo t 1 _ _ _ _ (read_dm m d wo c t h5 h6) (read_x1 m x c t h1) (read_g1 m p c t h4) _ _ z y
      (load_at _ 1 _ z y (by omega) q1 q2) (Fin.ext (by have : (z 0).val < 1 := (z 0).isLt; show (y 0 : ℕ) = 1; omega)) (by omega) (by omega))
  case piece2 =>
    exact (dwb_piece x p d wo t 0 _ _ _ _ (read_dm m d wo c t h5 h6) (read_x0 m x c t h0) (read_g0 m p c t h4) _ _ z y
      (load_at _ 0 _ z y (by omega) q1 q2) (Fin.ext (by have : (z 0).val < 1 := (z 0).isLt; show (y 0 : ℕ) = 0; omega)) (by omega) (by omega))

theorem final_dwb : (dats m 0 c).arrAt 19 cfg0.N = fun i => ((∑ r : Fin 4096, dwbRow x p d wo (i 0) r (i 2) (i 1) : ℝ) : EReal) := by
  refine (dats m 0 c).arrAt_eq_of_after_last 19 t0_15 (by decide +kernel) _ fun j => ?_
  blk_simp
  rw [after0_19, Pipeline.eq_sum_fin_of_reset_step_apply_last (fun n h => (outsAt0 m c n h).2.2.2.2.1) 16 (fun _ => 0) _
    (fun t h j => dwb_A m x w p d wo c h0 h1 h2 h3 h4 h5 h6 t h j) (fun t h j => dwb_B m x w p d wo c h0 h1 h2 h3 h4 h5 h6 t h j)
    (le_of_eq N_0) t0_15 rfl j, zero_add]
  refine (coe_sum _ _).trans (congrArg _ ?_)
  exact Fin.sum_mul_add_congr fun t r hl => rfl

theorem final_dwo : (dats m 0 c).arrAt 20 cfg0.N = fun i => ((∑ r : Fin 4096, dwoRow x w p d r (i 1) (i 0) : ℝ) : EReal) := by
  have hp : ∀ (t : Fin cfg0.N) (acc : FVec Ideal S1024x1024 .f32) (y : S1024x1024.Idx),
      k0_pay6 (F := Ideal) (iblk m c 13 t : FVec Ideal S256x1024 .f32) acc (iblk m c 12 t : FVec Ideal S256x1024 .bf16) y
        = acc y + ((∑ r : Fin 256, dwoRow x w p d (row t r) (y 1) (y 0) : ℝ) : EReal) := fun t acc y => by
    rw [read_dx m d c t h5, read_m m x w p c t h0 h1 h2 h3 h4]
    idx_vars y
    exact pay_dwo _ _ acc y0 y1
  refine (dats m 0 c).arrAt_eq_of_after_last 20 t0_15 (by decide +kernel) _ fun j => ?_
  blk_simp
  rw [after0_20, Pipeline.eq_sum_fin_of_reset_step_apply_last (fun n h => (outsAt0 m c n h).2.2.2.2.2) 16 (fun _ => 0) _
    (fun t h j => by rw [outsAt0_A m c t h]; frame_out; rw [hp, pay_zero2])
    (fun t h j => by rw [outsAt0_B m c t h]; frame_out; rw [hp])
    (le_of_eq N_0) t0_15 rfl j, zero_add]
  refine (coe_sum _ _).trans (congrArg _ ?_)
  exact Fin.sum_mul_add_congr fun t r hl => rfl

end final

end Cert.MergeKIdeal.Hand

end
-- ==== Proof.Merge.Reference.lean ====
/- The gradient of the gated merge: what the derivative of the forward lines computes. -/
module

public import proofs.«01_k».proof.Proof.Gen.MergeRIdeal.Run
public import proofs.«01_k».proof.Proof.Gen.MergeRIdeal.Read
public import proofs.«01_k».proof.Proof.Merge.Final

@[expose] public section

set_option maxRecDepth 16384

noncomputable section

namespace Cert.MergeKIdeal.Hand

open Cert.Hand Cert.MergeKIdeal Idealize.ShloMosaic Cert.MergeRIdeal.Read

variable (xa xb xc : S4096x512.Idx → ℝ) (w : S3x512x1024.Idx → ℝ) (p : S4096x6656.Idx → ℝ) (d : S4096x1024.Idx → ℝ) (wo : S1024x1024.Idx → ℝ)

section stages
variable (n : Fin 3) (r : Fin 4096) (j : Fin 1024)

theorem ref_branch (k : Fin 512) : val_main_v8 (F := Ideal) (fun i => (xa i : EReal)) (fun i => (xb i : EReal)) (fun i => (xc i : EReal)) (ix3 n r k)
    = (![xa, xb, xc] n (ix2 r k) : EReal) := by
  fin_cases n
  · pointwise [val_main_v8, val_main_v5, val_main_v2]
  · pointwise [val_main_v8, val_main_v6, val_main_v3]
  · pointwise [val_main_v8, val_main_v7, val_main_v4]

theorem ref_up : val_main_v9 (F := Ideal) (fun i => (xa i : EReal)) (fun i => (xb i : EReal)) (fun i => (xc i : EReal)) (fun i => (w i : EReal)) (ix3 n r j)
    = (up ![xa, xb, xc] w n r j : EReal) := by
  have h := ref_branch xa xb xc
  unfold val_main_v9
  generalize val_main_v8 (F := Ideal) (fun i => (xa i : EReal)) (fun i => (xb i : EReal)) (fun i => (xc i : EReal)) = y at h ⊢
  pointwise
  simp only [h, mul_real, coe_sum]
  rfl

theorem ref_gate : val_main_v16 (F := Ideal) (fun i => (p i : EReal)) (ix3 r n j) = (gate p n r j : EReal) := by
  have hs : ∀ x : ℝ, Ideal.div 1 (1 + Ideal.exp (-(x : EReal))) = ((sigm x : ℝ) : EReal) := logistic_real
  pointwise [val_main_v0, val_main_v1, val_main_v10, val_main_v11, val_main_v12, val_main_v13, val_main_v14, val_main_v15, val_main_v16, val_main_cst, val_main_cst_0]
  simp only [hs]
  rfl

theorem ref_slope : val_main_v19 (F := Ideal) (fun i => (p i : EReal)) (ix3 r n j) = (gate p n r j * (1 - gate p n r j) : EReal) := by
  rw [val_main_v19_apply, val_main_v18_apply, ref_gate]
  exact congrArg (fun x : EReal => (gate p n r j : EReal) * (x - (gate p n r j : EReal))) (lit_one.trans EReal.coe_one)

theorem ref_dm : val_main_v26 (F := Ideal) (fun i => (d i : EReal)) (fun i => (wo i : EReal)) (ix2 r j) = (dm d wo r j : EReal) := by
  pointwise [val_main_v26]
  simp only [mul_real, coe_sum]
  rfl

end stages

/-! ## The results -/

theorem ref_dgl (n : Fin 3) (r : Fin 4096) (j : Fin 1024) : val_main_v44 (F := Ideal) (fun i => (xa i : EReal)) (fun i => (xb i : EReal)) (fun i => (xc i : EReal)) (fun i => (w i : EReal))
    (fun i => (p i : EReal)) (fun i => (d i : EReal)) (fun i => (wo i : EReal)) (ix3 n r j) = (dgl ![xa, xb, xc] w p d wo n r j : EReal) := by
  have hu := ref_up xa xb xc w
  have hg := ref_slope p
  have hd := ref_dm d wo
  unfold val_main_v44 val_main_v43 val_main_v42 val_main_v32 val_main_v31 val_main_v29 val_main_v27 val_main_v20
  generalize val_main_v9 (F := Ideal) (fun i => (xa i : EReal)) (fun i => (xb i : EReal)) (fun i => (xc i : EReal)) (fun i => (w i : EReal)) = y at hu ⊢
  generalize val_main_v19 (F := Ideal) (fun i => (p i : EReal)) = z at hg ⊢
  generalize val_main_v26 (F := Ideal) (fun i => (d i : EReal)) (fun i => (wo i : EReal)) = u at hd ⊢
  pointwise
  simp only [hu, hg, hd, mul_real]
  refine congrArg (fun x : ℝ => (x : EReal)) ?_
  unfold dgl
  ring

theorem ref_dup (n : Fin 3) (r : Fin 4096) (j : Fin 1024) : val_main_v30 (F := Ideal) (fun i => (p i : EReal)) (fun i => (d i : EReal)) (fun i => (wo i : EReal)) (ix3 n r j)
    = (dup p d wo n r j : EReal) := by
  have hg := ref_gate p
  have hd := ref_dm d wo
  unfold val_main_v30 val_main_v28 val_main_v27
  generalize val_main_v16 (F := Ideal) (fun i => (p i : EReal)) = z at hg ⊢
  generalize val_main_v26 (F := Ideal) (fun i => (d i : EReal)) (fun i => (wo i : EReal)) = u at hd ⊢
  pointwise
  simp only [hg, hd, mul_real]
  exact congrArg (fun x : ℝ => (x : EReal)) (mul_comm _ _)

theorem ref_dbr (n : Fin 3) (r : Fin 4096) (k : Fin 512) : val_main_v35 (F := Ideal) (fun i => (w i : EReal)) (fun i => (p i : EReal)) (fun i => (d i : EReal)) (fun i => (wo i : EReal)) (ix3 n r k)
    = (dbr w p d wo n r k : EReal) := by
  have h := ref_dup p d wo
  unfold val_main_v35
  generalize val_main_v30 (F := Ideal) (fun i => (p i : EReal)) (fun i => (d i : EReal)) (fun i => (wo i : EReal)) = y at h ⊢
  pointwise
  simp only [h, mul_real, coe_sum]
  rfl

theorem ref_d0 (r : Fin 4096) (k : Fin 512) : val_main_v45 (F := Ideal) (fun i => (w i : EReal)) (fun i => (p i : EReal)) (fun i => (d i : EReal)) (fun i => (wo i : EReal)) (ix2 r k)
    = (dbr w p d wo 0 r k : EReal) := by
  have h := ref_dbr w p d wo 0 r k
  unfold val_main_v45 val_main_v37 val_main_v36
  generalize val_main_v35 (F := Ideal) (fun i => (w i : EReal)) (fun i => (p i : EReal)) (fun i => (d i : EReal)) (fun i => (wo i : EReal)) = y at h ⊢
  pointwise
  exact h

theorem ref_d1 (r : Fin 4096) (k : Fin 512) : val_main_v46 (F := Ideal) (fun i => (w i : EReal)) (fun i => (p i : EReal)) (fun i => (d i : EReal)) (fun i => (wo i : EReal)) (ix2 r k)
    = (dbr w p d wo 1 r k : EReal) := by
  have h := ref_dbr w p d wo 1 r k
  unfold val_main_v46 val_main_v39 val_main_v38
  generalize val_main_v35 (F := Ideal) (fun i => (w i : EReal)) (fun i => (p i : EReal)) (fun i => (d i : EReal)) (fun i => (wo i : EReal)) = y at h ⊢
  pointwise
  exact h

theorem ref_d2 (r : Fin 4096) (k : Fin 512) : val_main_v47 (F := Ideal) (fun i => (w i : EReal)) (fun i => (p i : EReal)) (fun i => (d i : EReal)) (fun i => (wo i : EReal)) (ix2 r k)
    = (dbr w p d wo 2 r k : EReal) := by
  have h := ref_dbr w p d wo 2 r k
  unfold val_main_v47 val_main_v41 val_main_v40
  generalize val_main_v35 (F := Ideal) (fun i => (w i : EReal)) (fun i => (p i : EReal)) (fun i => (d i : EReal)) (fun i => (wo i : EReal)) = y at h ⊢
  pointwise
  exact h

theorem ref_dwb (n : Fin 3) (k : Fin 512) (j : Fin 1024) : val_main_v34 (F := Ideal) (fun i => (xa i : EReal)) (fun i => (xb i : EReal)) (fun i => (xc i : EReal))
    (fun i => (p i : EReal)) (fun i => (d i : EReal)) (fun i => (wo i : EReal)) (ix3 n k j) = ((∑ r : Fin 4096, dwbRow ![xa, xb, xc] p d wo n r j k : ℝ) : EReal) := by
  have h := ref_dup p d wo
  have hb := ref_branch xa xb xc
  unfold val_main_v34 val_main_v33
  generalize val_main_v30 (F := Ideal) (fun i => (p i : EReal)) (fun i => (d i : EReal)) (fun i => (wo i : EReal)) = y at h ⊢
  generalize val_main_v8 (F := Ideal) (fun i => (xa i : EReal)) (fun i => (xb i : EReal)) (fun i => (xc i : EReal)) = z at hb ⊢
  pointwise
  simp only [h, hb, mul_real, coe_sum]
  refine congrArg (fun x : ℝ => (x : EReal)) (Finset.sum_congr rfl fun r _ => ?_)
  exact mul_comm _ _

theorem ref_merged (r : Fin 4096) (j : Fin 1024) : val_main_v22 (F := Ideal) (fun i => (xa i : EReal)) (fun i => (xb i : EReal)) (fun i => (xc i : EReal)) (fun i => (w i : EReal))
    (fun i => (p i : EReal)) (ix2 r j) = (merged ![xa, xb, xc] w p r j : EReal) := by
  have hu := ref_up xa xb xc w
  have hg := ref_gate p
  unfold val_main_v22 val_main_v21 val_main_v20
  generalize val_main_v9 (F := Ideal) (fun i => (xa i : EReal)) (fun i => (xb i : EReal)) (fun i => (xc i : EReal)) (fun i => (w i : EReal)) = y at hu ⊢
  generalize val_main_v16 (F := Ideal) (fun i => (p i : EReal)) = z at hg ⊢
  pointwise [val_main_cst_2]
  simp only [hu, hg, mul_real, coe_sum]
  refine congrArg (fun x : ℝ => (x : EReal)) ?_
  rw [Fin.sum_univ_three]
  rfl

theorem ref_dwo (k j : Fin 1024) : val_main_v25 (F := Ideal) (fun i => (xa i : EReal)) (fun i => (xb i : EReal)) (fun i => (xc i : EReal)) (fun i => (w i : EReal))
    (fun i => (p i : EReal)) (fun i => (d i : EReal)) (ix2 k j) = ((∑ r : Fin 4096, dwoRow ![xa, xb, xc] w p d r j k : ℝ) : EReal) := by
  have h := ref_merged xa xb xc w p
  unfold val_main_v25 val_main_v24
  generalize val_main_v22 (F := Ideal) (fun i => (xa i : EReal)) (fun i => (xb i : EReal)) (fun i => (xc i : EReal)) (fun i => (w i : EReal)) (fun i => (p i : EReal)) = y at h ⊢
  pointwise
  simp only [h, mul_real, coe_sum]
  refine congrArg (fun x : ℝ => (x : EReal)) (Finset.sum_congr rfl fun r _ => ?_)
  exact mul_comm _ _

end Cert.MergeKIdeal.Hand

end
-- ==== Proof.Merge.Claim.lean ====
/- The gradient of the gated merge: both programs, one statement. -/
module

public import proofs.«01_k».proof.Defs
public import proofs.«01_k».proof.Proof.Gen.Pre_finite_merge
public import proofs.«01_k».proof.Proof.Merge.Reference

@[expose] public section

set_option maxRecDepth 16384

noncomputable section

namespace Cert.MergeKIdeal.Hand

open Cert.Hand Cert.MergeKIdeal Cert.MergeKIdeal.Gen Idealize.ShloMosaic Idealize.ShloMosaic.TcCoe Idealize.SL.Sem

variable (m : (ℓ : Loc nD τ sig) → Buf (Elt Ideal) ℓ)

/-- The precondition makes every argument an array of reals. -/
theorem args_real (h : Cert.Pre_MergeKIdeal_finite_merge (hPre_finite_merge := Cert.Pre_finite_merge.Gen.facts) m) (c : Dev nD) :
    (∃ x : S4096x512.Idx → ℝ, m ((c : Thread nD τ).loc main_arg0) = fun i => ((x i : ℝ) : EReal))
    ∧ (∃ x : S4096x512.Idx → ℝ, m ((c : Thread nD τ).loc main_arg1) = fun i => ((x i : ℝ) : EReal))
    ∧ (∃ x : S4096x512.Idx → ℝ, m ((c : Thread nD τ).loc main_arg2) = fun i => ((x i : ℝ) : EReal))
    ∧ (∃ x : S3x512x1024.Idx → ℝ, m ((c : Thread nD τ).loc main_arg3) = fun i => ((x i : ℝ) : EReal))
    ∧ (∃ x : S4096x6656.Idx → ℝ, m ((c : Thread nD τ).loc main_arg4) = fun i => ((x i : ℝ) : EReal))
    ∧ (∃ x : S4096x1024.Idx → ℝ, m ((c : Thread nD τ).loc main_arg5) = fun i => ((x i : ℝ) : EReal))
    ∧ (∃ x : S1024x1024.Idx → ℝ, m ((c : Thread nD τ).loc main_arg6) = fun i => ((x i : ℝ) : EReal)) := by
  obtain ⟨h0, h1, h2, h3, h4, h5, h6⟩ := h c
  exact ⟨real_of_below (φ := .bf16) _ _ (fun _ => lit_inf16) h0,
    real_of_below (φ := .bf16) _ _ (fun _ => lit_inf16) h1,
    real_of_below (φ := .bf16) _ _ (fun _ => lit_inf16) h2,
    real_of_below (φ := .f32) _ _ (fun _ => lit_inf) h3,
    real_of_below (φ := .bf16) _ _ (fun _ => lit_inf16) h4,
    real_of_below (φ := .f32) _ _ (fun _ => lit_inf) h5,
    real_of_below (φ := .f32) _ _ (fun _ => lit_inf) h6⟩

set_option maxHeartbeats 1600000 in
/-- The pair's claim: both programs run and leave the same arrays. -/
theorem value : Cert.algebraic_MergeKIdeal_MergeRIdeal_pre_finite_merge (hPre_finite_merge := Cert.Pre_finite_merge.Gen.facts) := by
  intro m g m' g' hpre hagree
  refine ⟨_, _, _, _, _, _, Value.run_blocks m g, ?_⟩
  refine (θ_run _ _ _).mono (fun r h c => ?_) (Cert.MergeRIdeal.Value.run m' g')
  obtain ⟨r0, r1, r2, r3, r4, r5, ha⟩ := h c
  obtain ⟨e0, e1, e2, e3, e4, e5, e6⟩ := hagree c
  obtain ⟨⟨xa, h0⟩, ⟨xb, h1⟩, ⟨xc, h2⟩, ⟨w, h3⟩, ⟨p, h4⟩, ⟨d, h5⟩, ⟨wo, h6⟩⟩ := args_real m hpre c
  refine ⟨r0.trans ?_, r1.trans ?_, r2.trans ?_, r3.trans ?_, r4.trans ?_, r5.trans ?_, ha⟩
  · rw [final_dgl m ![xa, xb, xc] w p d wo c h0 h1 h2 h3 h4 h5 h6]
    refine (Cert.MergeRIdeal.Read.val_main_v44_eq _ _ _ _ _ _ _).trans ?_
    rw [e0.trans h0, e1.trans h1, e2.trans h2, e3.trans h3, e4.trans h4, e5.trans h5, e6.trans h6]
    funext i; idx_vars i
    exact ref_dgl xa xb xc w p d wo _ _ _
  · rw [final_d0 m ![xa, xb, xc] w p d wo c h0 h1 h2 h3 h4 h5 h6]
    refine (Cert.MergeRIdeal.Read.val_main_v45_eq _ _ _ _).trans ?_
    rw [e3.trans h3, e4.trans h4, e5.trans h5, e6.trans h6]
    funext i; idx_vars i
    exact ref_d0 w p d wo _ _
  · rw [final_d1 m ![xa, xb, xc] w p d wo c h0 h1 h2 h3 h4 h5 h6]
    refine (Cert.MergeRIdeal.Read.val_main_v46_eq _ _ _ _).trans ?_
    rw [e3.trans h3, e4.trans h4, e5.trans h5, e6.trans h6]
    funext i; idx_vars i
    exact ref_d1 w p d wo _ _
  · rw [final_d2 m ![xa, xb, xc] w p d wo c h0 h1 h2 h3 h4 h5 h6]
    refine (Cert.MergeRIdeal.Read.val_main_v47_eq _ _ _ _).trans ?_
    rw [e3.trans h3, e4.trans h4, e5.trans h5, e6.trans h6]
    funext i; idx_vars i
    exact ref_d2 w p d wo _ _
  · rw [final_dwb m ![xa, xb, xc] w p d wo c h0 h1 h2 h3 h4 h5 h6]
    refine (Cert.MergeRIdeal.Read.val_main_v34_eq _ _ _ _ _ _).trans ?_
    rw [e0.trans h0, e1.trans h1, e2.trans h2, e4.trans h4, e5.trans h5, e6.trans h6]
    funext i; idx_vars i
    exact ref_dwb xa xb xc p d wo _ _ _
  · rw [final_dwo m ![xa, xb, xc] w p d wo c h0 h1 h2 h3 h4 h5 h6]
    refine (Cert.MergeRIdeal.Read.val_main_v25_eq _ _ _ _ _ _).trans ?_
    rw [e0.trans h0, e1.trans h1, e2.trans h2, e3.trans h3, e4.trans h4, e5.trans h5]
    funext i; idx_vars i
    exact ref_dwo xa xb xc w p d _ _

end Cert.MergeKIdeal.Hand

end
-- ==== Proof.Loss.Kernel.lean ====
/- The loss and the gradient of the final norm: what the kernel's blocks hold, as sums of reals over the argument arrays. -/
module

public import proofs.«01_k».proof.Proof.Gen.LossKIdeal.Value
public import proofs.«01_k».proof.Proof.Shared.Rms
public import Idealize.ShloMosaic.Lib.Pointwise
public import Idealize.ShloMosaic.Lib.Pipeline.ValueKit
public import Idealize.ShloMosaic.Lib.Claim

@[expose] public section

set_option maxRecDepth 16384

noncomputable section

namespace Cert.LossKIdeal.Hand

open Cert.Hand Cert.LossKIdeal Cert.LossKIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

/-- Row `r` of block `t`. -/
def row (t : Fin cfg0.N) (r : Fin 512) : Fin 4096 := ⟨t.val * 512 + r.val, by have := t.isLt; have := r.isLt; have : cfg0.N = 8 := rfl; omega⟩

/-! ## The specification, at `n` rows (a block's or the whole array's) -/

section spec
variable {n : ℕ} (a : (⟨2, ![n, 2816]⟩ : Shape).Idx → ℝ) (w : S2816x1024.Idx → ℝ) (x t : (⟨2, ![n, 1024]⟩ : Shape).Idx → ℝ) (g : S1x1024.Idx → ℝ)

/-- The residual stream after the down projection. -/
def x2 (r : Fin n) (l : Fin 1024) : ℝ := ∑ k, a (ix2 r k) * w (ix2 k l) + x (ix2 r l)

/-- Its norm before the gain. -/
def xn (r : Fin n) (l : Fin 1024) : ℝ := x2 a w x r l * rmsInv (x2 a w x r)

/-- Prediction minus target. -/
def diff (r : Fin n) (l : Fin 1024) : ℝ := xn a w x r l * g (ix2 0 l) - t (ix2 r l)

/-- The cotangent of the prediction. -/
def dd (r : Fin n) (l : Fin 1024) : ℝ := diff a w x t g r l * (1 / 1024)

/-- The gradient of the residual stream. -/
def dx (r : Fin n) (l : Fin 1024) : ℝ :=
  rmsInv (x2 a w x r) * (dd a w x t g r l * g (ix2 0 l)
    - xn a w x r l * ((∑ k, dd a w x t g r k * g (ix2 0 k) * xn a w x r k) / 1024))

/-- One row's share of twice the loss. -/
def sq (r : Fin n) : ℝ := (∑ k, diff a w x t g r k * diff a w x t g r k) / 1024

/-- The gain's gradient. -/
def dg (l : Fin 1024) : ℝ := ∑ r, dd a w x t g r l * xn a w x r l

end spec

/-! ## The body over blocks of reals -/

section body
variable (A : S512x2816.Idx → ℝ) (W : S2816x1024.Idx → ℝ) (X T : S512x1024.Idx → ℝ) (G : S1x1024.Idx → ℝ)

theorem pay_x2 (r : Fin 512) (l : Fin 1024) :
    k0_pay6 (F := Ideal) (fun i => ((A i : ℝ) : EReal)) (fun i => ((W i : ℝ) : EReal)) (fun i => ((X i : ℝ) : EReal)) (ix2 r l)
      = ((x2 A W X r l : ℝ) : EReal) := by
  pointwise [k0_pay6]
  simp only [mul_real, coe_sum, add_real]
  rfl

theorem pay_inv (r : Fin 512) (l : Fin 1) :
    k0_pay7 (F := Ideal) (fun i => ((A i : ℝ) : EReal)) (fun i => ((W i : ℝ) : EReal)) (fun i => ((X i : ℝ) : EReal)) (ix2 r l)
      = ((rmsInv (x2 A W X r) : ℝ) : EReal) := by
  pointwise [k0_pay7]
  simp only [pay_x2]
  exact rmsInv_read (x2 A W X r)

theorem pay_xn (r : Fin 512) (l : Fin 1024) :
    k0_pay8 (F := Ideal) (fun i => ((A i : ℝ) : EReal)) (fun i => ((W i : ℝ) : EReal)) (fun i => ((X i : ℝ) : EReal)) (ix2 r l)
      = ((xn A W X r l : ℝ) : EReal) := by
  pointwise [k0_pay8]
  simp only [pay_x2, pay_inv, mul_real]
  rfl

theorem pay_diff (r : Fin 512) (l : Fin 1024) :
    k0_pay9 (F := Ideal) (fun i => ((A i : ℝ) : EReal)) (fun i => ((W i : ℝ) : EReal)) (fun i => ((X i : ℝ) : EReal))
      (fun i => ((G i : ℝ) : EReal)) (fun i => ((T i : ℝ) : EReal)) (ix2 r l) = ((diff A W X T G r l : ℝ) : EReal) := by
  pointwise [k0_pay9]
  simp only [pay_xn, mul_real, sub_real]
  rfl

theorem pay_dd (r : Fin 512) (l : Fin 1024) :
    k0_pay10 (F := Ideal) (fun i => ((A i : ℝ) : EReal)) (fun i => ((W i : ℝ) : EReal)) (fun i => ((X i : ℝ) : EReal))
      (fun i => ((G i : ℝ) : EReal)) (fun i => ((T i : ℝ) : EReal)) (ix2 r l) = ((dd A W X T G r l : ℝ) : EReal) := by
  pointwise [k0_pay10]
  simp only [pay_diff, lit_inv_1024, mul_real]
  rfl

theorem pay_dx (r : Fin 512) (l : Fin 1024) :
    k0_pay11 (F := Ideal) (fun i => ((A i : ℝ) : EReal)) (fun i => ((W i : ℝ) : EReal)) (fun i => ((X i : ℝ) : EReal))
      (fun i => ((G i : ℝ) : EReal)) (fun i => ((T i : ℝ) : EReal)) (fun i => ((G i : ℝ) : EReal)) (ix2 r l)
      = ((dx A W X T G r l : ℝ) : EReal) := by
  pointwise [k0_pay11]
  simp only [pay_dd, pay_xn, pay_inv, lit_1024, mul_real, coe_sum]
  rw [div_real _ _ (by norm_num)]
  simp only [mul_real, sub_real]
  rfl

theorem pay_dg (Y D : FVec Ideal S512x1024 .f32) (acc : FVec Ideal S1x1024 .f32) (j : S1x1024.Idx) :
    k0_pay4 (F := Ideal) Y D acc j = acc j + ∑ r : Fin 512, D (ix2 r (j 1)) * Y (ix2 r (j 1)) := by
  idx_vars j
  pointwise [k0_pay4]

/-- The loss's share of a block. -/
theorem pay_loss (D : FVec Ideal S512x1024 .f32) (acc : FVec Ideal S1x128 .f32) (j : S1x128.Idx) :
    k0_pay5 (F := Ideal) D acc j = acc j + Ideal.ofBits .f32 0x3F000000#32
      * ∑ r : Fin 512, Ideal.div (∑ k : Fin 1024, D (ix2 r k) * D (ix2 r k)) (Ideal.ofBits .f32 0x44800000#32) := by
  idx_vars j
  pointwise [k0_pay5]

/-- A row's share of twice the loss. -/
theorem pay_sq (r : Fin 512) :
    Ideal.div (∑ k : Fin 1024, k0_pay9 (F := Ideal) (fun i => ((A i : ℝ) : EReal)) (fun i => ((W i : ℝ) : EReal)) (fun i => ((X i : ℝ) : EReal))
        (fun i => ((G i : ℝ) : EReal)) (fun i => ((T i : ℝ) : EReal)) (ix2 r k)
      * k0_pay9 (F := Ideal) (fun i => ((A i : ℝ) : EReal)) (fun i => ((W i : ℝ) : EReal)) (fun i => ((X i : ℝ) : EReal))
        (fun i => ((G i : ℝ) : EReal)) (fun i => ((T i : ℝ) : EReal)) (ix2 r k)) (Ideal.ofBits .f32 0x44800000#32)
      = ((sq A W X T G r : ℝ) : EReal) := by
  simp only [pay_diff, mul_real, coe_sum, lit_1024]
  exact div_real _ _ (by norm_num)

theorem pay_zero (j : S1x1024.Idx) : k0_pay2 (F := Ideal) j = 0 := by pointwise [k0_pay2]
theorem pay_zero_loss (j : S1x128.Idx) : k0_pay3 (F := Ideal) j = 0 := by pointwise [k0_pay3]

end body

/-! ## The blocks the body reads -/

variable (a : S4096x2816.Idx → ℝ) (w : S2816x1024.Idx → ℝ) (x t : S4096x1024.Idx → ℝ) (g : S1x1024.Idx → ℝ)

section blocks
variable (c : Dev nD) (p : Fin cfg0.N)

theorem blk_a (h : m ((c : Thread nD τ).loc main_arg0) = fun i => ((a i : ℝ) : EReal)) :
    (iblk m c 0 p : FVec Ideal S512x2816 .bf16) = fun j => ((a (ix2 (row p (j 0)) (j 1)) : ℝ) : EReal) := by
  funext j
  trans m ((c : Thread nD τ).loc main_arg0) (ix2 (row p (j 0)) (j 1))
  · blk_ext [iblk, V, idx p, row]
  · rw [h]

theorem blk_w (h : m ((c : Thread nD τ).loc main_arg1) = fun i => ((w i : ℝ) : EReal)) :
    (iblk m c 1 p : FVec Ideal S2816x1024 .bf16) = fun j => ((w j : ℝ) : EReal) := by
  funext j
  trans m ((c : Thread nD τ).loc main_arg1) j
  · idx_vars j; blk_simp [iblk]; entry_read; pointwise; blk_ext [idx p]
  · rw [h]

theorem blk_x (h : m ((c : Thread nD τ).loc main_arg2) = fun i => ((x i : ℝ) : EReal)) :
    (iblk m c 2 p : FVec Ideal S512x1024 .f32) = fun j => ((x (ix2 (row p (j 0)) (j 1)) : ℝ) : EReal) := by
  funext j
  trans m ((c : Thread nD τ).loc main_arg2) (ix2 (row p (j 0)) (j 1))
  · blk_ext [iblk, V, idx p, row]
  · rw [h]

theorem blk_g (h : m ((c : Thread nD τ).loc main_arg3) = fun i => ((g i : ℝ) : EReal)) :
    (iblk m c 3 p : FVec Ideal S1x1024 .f32) = fun j => ((g j : ℝ) : EReal) := by
  funext j
  trans m ((c : Thread nD τ).loc main_arg3) j
  · blk_ext [iblk, V, idx p]
  · rw [h]

theorem blk_t (h : m ((c : Thread nD τ).loc main_arg4) = fun i => ((t i : ℝ) : EReal)) :
    (iblk m c 4 p : FVec Ideal S512x1024 .f32) = fun j => ((t (ix2 (row p (j 0)) (j 1)) : ℝ) : EReal) := by
  funext j
  trans m ((c : Thread nD τ).loc main_arg4) (ix2 (row p (j 0)) (j 1))
  · blk_ext [iblk, V, idx p, row]
  · rw [h]

end blocks

/-! ## The arrays after the run -/

section final
variable (c : Dev nD)
  (h0 : m ((c : Thread nD τ).loc main_arg0) = fun i => ((a i : ℝ) : EReal))
  (h1 : m ((c : Thread nD τ).loc main_arg1) = fun i => ((w i : ℝ) : EReal))
  (h2 : m ((c : Thread nD τ).loc main_arg2) = fun i => ((x i : ℝ) : EReal))
  (h3 : m ((c : Thread nD τ).loc main_arg3) = fun i => ((g i : ℝ) : EReal))
  (h4 : m ((c : Thread nD τ).loc main_arg4) = fun i => ((t i : ℝ) : EReal))
include h0 h1 h2 h3 h4

/-- What the body leaves in a block of the gradient. -/
theorem point (p : Fin cfg0.N) (y : S512x1024.Idx) :
    k0_pay11 (F := Ideal) (iblk m c 0 p) (iblk m c 1 p) (iblk m c 2 p) (iblk m c 3 p) (iblk m c 4 p) (iblk m c 3 p) y
      = ((dx a w x t g (row p (y 0)) (y 1) : ℝ) : EReal) := by
  rw [blk_a m a c p h0, blk_w m w c p h1, blk_x m x c p h2, blk_g m g c p h3, blk_t m t c p h4]
  idx_vars y
  exact pay_dx _ _ _ _ _ _ _

theorem final_dx : (dats m 0 c).arrAt 6 cfg0.N = fun i => ((dx a w x t g (i 0) (i 1) : ℝ) : EReal) := by
  refine (dats m 0 c).arrAt_eq_of_covers 6 _ (by decide +kernel) fun p _ y => ?_
  have e : (((cfg0.win 6).blk p).view.emb y : S4096x1024.Idx) = ix2 (row p (y 0)) (y 1) := by blk_ext [idx p, row]
  refine Eq.trans ?_ ((point m a w x t g c h0 h1 h2 h3 h4 p y).trans ?_)
  · blk_simp
    rw [after0_6]
    by_cases h : p.val % 8 = 0
    · rw [outsAt0_A m c p h]; frame_out
    · rw [outsAt0_B m c p h]; frame_out
  · rw [e]; rfl

theorem final_dxb : (dats m 0 c).arrAt 7 cfg0.N = fun i => ((dx a w x t g (i 0) (i 1) : ℝ) : EReal) := by
  refine (dats m 0 c).arrAt_eq_of_covers 7 _ (by decide +kernel) fun p _ y => ?_
  have e : (((cfg0.win 7).blk p).view.emb y : S4096x1024.Idx) = ix2 (row p (y 0)) (y 1) := by blk_ext [idx p, row]
  refine Eq.trans ?_ ((point m a w x t g c h0 h1 h2 h3 h4 p y).trans ?_)
  · blk_simp
    rw [after0_7]
    by_cases h : p.val % 8 = 0
    · rw [outsAt0_A m c p h]; frame_out; rfl
    · rw [outsAt0_B m c p h]; frame_out; rfl
  · rw [e]; rfl

theorem final_dg : (dats m 0 c).arrAt 8 cfg0.N = fun i => ((dg a w x t g (i 1) : ℝ) : EReal) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0) _
    (fun t h j => by rw [outsAt0_A m c t h]; frame_out; rw [pay_dg, pay_zero])
    (fun t h j => by rw [outsAt0_B m c t h]; frame_out; rw [pay_dg])
    (le_of_eq N_0) t0_7 rfl j, zero_add]
  unfold dg
  rw [← coe_sum]
  refine Fin.sum_mul_add_congr fun p r hl => ?_
  rw [blk_a m a c p h0, blk_w m w c p h1, blk_x m x c p h2, blk_g m g c p h3, blk_t m t c p h4]
  exact (congrArg₂ _ (pay_dd _ _ _ _ _ r _) (pay_xn _ _ _ r _)).trans (mul_real _ _)

/-- The loss: half the sum over rows. -/
theorem final_loss : (dats m 0 c).arrAt 5 cfg0.N = fun _ => ((1 / 2 * ∑ r, sq a w x t g r : ℝ) : EReal) := by
  refine (dats m 0 c).arrAt_eq_of_after_last 5 t0_7 (by decide +kernel) _ fun j => ?_
  blk_simp
  rw [after0_5, Pipeline.eq_sum_fin_of_reset_step_apply_last (fun n h => (outsAt0 m c n h).1) 8 (fun _ => 0) _
    (fun t h j => by rw [outsAt0_A m c t h]; frame_out; rw [pay_loss, pay_zero_loss])
    (fun t h j => by rw [outsAt0_B m c t h]; frame_out; rw [pay_loss])
    (le_of_eq N_0) t0_7 rfl j, zero_add]
  have e : ∀ p : Fin cfg0.N, (∑ r : Fin 512, Ideal.div (∑ k : Fin 1024,
      k0_pay9 (F := Ideal) (iblk m c 0 p) (iblk m c 1 p) (iblk m c 2 p) (iblk m c 3 p) (iblk m c 4 p) (ix2 r k)
        * k0_pay9 (F := Ideal) (iblk m c 0 p) (iblk m c 1 p) (iblk m c 2 p) (iblk m c 3 p) (iblk m c 4 p) (ix2 r k)) (Ideal.ofBits .f32 0x44800000#32))
      = ((∑ r : Fin 512, sq a w x t g (row p r) : ℝ) : EReal) := by
    intro p
    rw [blk_a m a c p h0, blk_w m w c p h1, blk_x m x c p h2, blk_g m g c p h3, blk_t m t c p h4]
    rw [← coe_sum]
    exact Finset.sum_congr rfl fun r _ => pay_sq _ _ _ _ _ r
  rw [lit_half]
  refine (Finset.sum_congr rfl fun p _ => (congrArg _ (e p)).trans (mul_real _ _)).trans ?_
  rw [coe_sum, ← Finset.mul_sum]
  refine congrArg (fun z : ℝ => ((1 / 2 * z : ℝ) : EReal)) ?_
  exact Fin.sum_mul_add_congr fun p r hl => rfl

end final

end Cert.LossKIdeal.Hand

end
-- ==== Proof.Loss.Reference.lean ====
/- The loss and the gradient of the final norm: what the forward lines and their derivative compute, as the same sums of reals. -/
module

public import proofs.«01_k».proof.Proof.Gen.LossRIdeal.Run
public import proofs.«01_k».proof.Proof.Gen.LossRIdeal.Read
public import proofs.«01_k».proof.Proof.Loss.Kernel

@[expose] public section

set_option maxRecDepth 16384

noncomputable section

namespace Cert.LossKIdeal.Hand

open Cert.Hand Cert.LossKIdeal Idealize.ShloMosaic Cert.LossRIdeal.Read

variable (a : S4096x2816.Idx → ℝ) (w : S2816x1024.Idx → ℝ) (x t : S4096x1024.Idx → ℝ) (g : S1x1024.Idx → ℝ)

theorem ref_x2 (r : Fin 4096) (l : Fin 1024) :
    val_main_v2 (F := Ideal) (fun i => ((a i : ℝ) : EReal)) (fun i => ((w i : ℝ) : EReal)) (fun i => ((x i : ℝ) : EReal)) (ix2 r l)
      = ((x2 a w x r l : ℝ) : EReal) := by
  pointwise [val_main_v0, val_main_v1, val_main_v2]
  simp only [mul_real, coe_sum, add_real]
  exact congrArg _ (add_comm _ _)

theorem ref_xn (r : Fin 4096) (l : Fin 1024) :
    val_main_v15 (F := Ideal) (fun i => ((a i : ℝ) : EReal)) (fun i => ((w i : ℝ) : EReal)) (fun i => ((x i : ℝ) : EReal)) (ix2 r l)
      = ((xn a w x r l : ℝ) : EReal) := by
  pointwise [val_main_v3, val_main_v4, val_main_v5, val_main_v6, val_main_v7, val_main_v8, val_main_v9, val_main_v10,
    val_main_v14, val_main_v15, val_main_cst, val_main_cst_0, val_main_cst_1]
  simp only [ref_x2]
  rw [rmsInv_read (x2 a w x r), mul_real, xn]

theorem ref_diff (r : Fin 4096) (l : Fin 1024) :
    val_main_v18 (F := Ideal) (fun i => ((a i : ℝ) : EReal)) (fun i => ((w i : ℝ) : EReal)) (fun i => ((x i : ℝ) : EReal))
      (fun i => ((g i : ℝ) : EReal)) (fun i => ((t i : ℝ) : EReal)) (ix2 r l) = ((diff a w x t g r l : ℝ) : EReal) := by
  pointwise [val_main_v16, val_main_v17, val_main_v18]
  simp only [ref_xn, mul_real, sub_real]
  rfl

theorem ref_dd (r : Fin 4096) (l : Fin 1024) :
    val_main_v32 (F := Ideal) (fun i => ((a i : ℝ) : EReal)) (fun i => ((w i : ℝ) : EReal)) (fun i => ((x i : ℝ) : EReal))
      (fun i => ((g i : ℝ) : EReal)) (fun i => ((t i : ℝ) : EReal)) (ix2 r l) = ((dd a w x t g r l : ℝ) : EReal) := by
  pointwise [val_main_v20, val_main_v21, val_main_v27, val_main_v28, val_main_v29, val_main_v30, val_main_v31, val_main_v32,
    val_main_cst_3, val_main_cst_8, val_main_cst_9, val_main_cst_10]
  simp only [ref_diff, lit_half, lit_one, lit_two, lit_1024, mul_real]
  rw [div_real _ _ (by norm_num), mul_real]
  refine congrArg _ ?_
  unfold dd
  ring

theorem ref_dg (r : Fin 1) (l : Fin 1024) :
    val_main_v35 (F := Ideal) (fun i => ((a i : ℝ) : EReal)) (fun i => ((w i : ℝ) : EReal)) (fun i => ((x i : ℝ) : EReal))
      (fun i => ((g i : ℝ) : EReal)) (fun i => ((t i : ℝ) : EReal)) (ix2 r l) = ((dg a w x t g l : ℝ) : EReal) := by
  pointwise [val_main_v33, val_main_v34, val_main_v35, val_main_cst_11]
  simp only [ref_xn, ref_dd, mul_real, coe_sum, dg]
  exact congrArg _ (Finset.sum_congr rfl fun k _ => mul_comm _ _)

theorem ref_loss (r : Fin 1) (l : Fin 128) :
    val_main_v52 (F := Ideal) (fun i => ((a i : ℝ) : EReal)) (fun i => ((w i : ℝ) : EReal)) (fun i => ((x i : ℝ) : EReal))
      (fun i => ((g i : ℝ) : EReal)) (fun i => ((t i : ℝ) : EReal)) (ix2 r l) = ((1 / 2 * ∑ r, sq a w x t g r : ℝ) : EReal) := by
  pointwise [val_main_v19, val_main_v22, val_main_v23, val_main_v24, val_main_v25, val_main_v26, val_main_v52, val_main_cst_4,
    val_main_cst_5, val_main_cst_6, val_main_cst_7]
  simp only [ref_diff, lit_half, lit_1024, mul_real, coe_sum]
  simp only [div_real _ _ (show (1024 : ℝ) ≠ 0 by norm_num), coe_sum, mul_real]
  rfl

theorem ref_dx (r : Fin 4096) (l : Fin 1024) :
    val_main_v51 (F := Ideal) (fun i => ((a i : ℝ) : EReal)) (fun i => ((w i : ℝ) : EReal)) (fun i => ((x i : ℝ) : EReal))
      (fun i => ((g i : ℝ) : EReal)) (fun i => ((t i : ℝ) : EReal)) (ix2 r l) = ((dx a w x t g r l : ℝ) : EReal) := by
  pointwise [val_main_v3, val_main_v4, val_main_v5, val_main_v6, val_main_v7, val_main_v8, val_main_v9, val_main_v10,
    val_main_v11, val_main_v12, val_main_v13, val_main_v36, val_main_v37, val_main_v38, val_main_v39, val_main_v40,
    val_main_v41, val_main_v42, val_main_v43, val_main_v44, val_main_v45, val_main_v46, val_main_v47, val_main_v48,
    val_main_v49, val_main_v50, val_main_v51, val_main_cst, val_main_cst_0, val_main_cst_1, val_main_cst_2, val_main_cst_12,
    val_main_cst_13, val_main_cst_14]
  simp only [ref_dd, ref_x2]
  rw [rmsInv_read (x2 a w x r), meanSq_read (x2 a w x r)]
  simp only [lit_1024, lit_neg_half, mul_real, coe_sum]
  rw [div_real _ _ (meanSq_pos _).ne']
  simp only [mul_real]
  rw [div_real _ _ (by norm_num)]
  simp only [mul_real, coe_sum, add_real, Finset.sum_const, Finset.card_univ, Fintype.card_fin, one_smul]
  refine congrArg _ ?_
  have h := rms_dx (x2 a w x r) (fun k => dd a w x t g r k * g (ix2 0 k)) l
  unfold dx xn
  linarith

theorem ref_dxb (r : Fin 4096) (l : Fin 1024) :
    val_main_v53 (F := Ideal) (fun i => ((a i : ℝ) : EReal)) (fun i => ((w i : ℝ) : EReal)) (fun i => ((x i : ℝ) : EReal))
      (fun i => ((g i : ℝ) : EReal)) (fun i => ((t i : ℝ) : EReal)) (ix2 r l) = ((dx a w x t g r l : ℝ) : EReal) :=
  ref_dx a w x t g r l

end Cert.LossKIdeal.Hand

end
-- ==== Proof.Loss.Claim.lean ====
/- The loss and the gradient of the final norm: the pair's claim. -/
module

public import proofs.«01_k».proof.Defs
public import proofs.«01_k».proof.Proof.Gen.Pre_finite_loss
public import proofs.«01_k».proof.Proof.Loss.Reference

@[expose] public section

set_option maxRecDepth 16384

noncomputable section

namespace Cert.LossKIdeal.Hand

open Cert.Hand Cert.LossKIdeal Cert.LossKIdeal.Gen Idealize.ShloMosaic Idealize.ShloMosaic.TcCoe Idealize.SL.Sem

variable (m : (ℓ : Loc nD τ sig) → Buf (Elt Ideal) ℓ)

/-- The precondition makes every argument an array of reals. -/
theorem args_real (h : Cert.Pre_LossKIdeal_finite_loss (hPre_finite_loss := Cert.Pre_finite_loss.Gen.facts) m) (c : Dev nD) :
    (∃ x : S4096x2816.Idx → ℝ, m ((c : Thread nD τ).loc main_arg0) = fun i => ((x i : ℝ) : EReal))
    ∧ (∃ x : S2816x1024.Idx → ℝ, m ((c : Thread nD τ).loc main_arg1) = fun i => ((x i : ℝ) : EReal))
    ∧ (∃ x : S4096x1024.Idx → ℝ, m ((c : Thread nD τ).loc main_arg2) = fun i => ((x i : ℝ) : EReal))
    ∧ (∃ x : S1x1024.Idx → ℝ, m ((c : Thread nD τ).loc main_arg3) = fun i => ((x i : ℝ) : EReal))
    ∧ (∃ x : S4096x1024.Idx → ℝ, m ((c : Thread nD τ).loc main_arg4) = fun i => ((x i : ℝ) : EReal)) := by
  obtain ⟨h0, h1, h2, h3, h4⟩ := h c
  exact ⟨real_of_below (φ := .bf16) _ _ (fun _ => lit_inf16) h0,
    real_of_below (φ := .f32) _ _ (fun _ => lit_inf) h1,
    real_of_below (φ := .f32) _ _ (fun _ => lit_inf) h2,
    real_of_below (φ := .f32) _ _ (fun _ => lit_inf) h3,
    real_of_below (φ := .f32) _ _ (fun _ => lit_inf) h4⟩

/-- The pair's claim: both programs run and leave the same arrays. -/
theorem value : Cert.algebraic_LossKIdeal_LossRIdeal_pre_finite_loss (hPre_finite_loss := Cert.Pre_finite_loss.Gen.facts) := by
  intro m g m' g' hpre hagree
  refine ⟨_, _, _, _, Value.run_blocks m g, ?_⟩
  refine (θ_run _ _ _).mono (fun r h c => ?_) (Cert.LossRIdeal.Value.run m' g')
  obtain ⟨r0, r1, r2, r3, ha⟩ := h c
  obtain ⟨e0, e1, e2, e3, e4⟩ := hagree c
  obtain ⟨⟨a, h0⟩, ⟨w, h1⟩, ⟨x, h2⟩, ⟨γ, h3⟩, ⟨t, h4⟩⟩ := args_real m hpre c
  refine ⟨r0.trans ?_, r1.trans ?_, r2.trans ?_, r3.trans ?_, ha⟩
  · rw [final_loss m a w x t γ c h0 h1 h2 h3 h4]
    refine (Cert.LossRIdeal.Read.val_main_v52_eq _ _ _ _ _).trans ?_
    rw [e0.trans h0, e1.trans h1, e2.trans h2, e3.trans h3, e4.trans h4]
    funext i; idx_vars i
    exact ref_loss a w x t γ _ _
  · rw [final_dx m a w x t γ c h0 h1 h2 h3 h4]
    refine (Cert.LossRIdeal.Read.val_main_v51_eq m' c).trans ?_
    rw [e0.trans h0, e1.trans h1, e2.trans h2, e3.trans h3, e4.trans h4]
    funext i; idx_vars i
    exact ref_dx a w x t γ _ _
  · rw [final_dxb m a w x t γ c h0 h1 h2 h3 h4]
    refine (Cert.LossRIdeal.Read.val_main_v53_eq m' c).trans ?_
    rw [e0.trans h0, e1.trans h1, e2.trans h2, e3.trans h3, e4.trans h4]
    funext i; idx_vars i
    exact ref_dxb a w x t γ _ _
  · rw [final_dg m a w x t γ c h0 h1 h2 h3 h4]
    refine (Cert.LossRIdeal.Read.val_main_v35_eq _ _ _ _ _).trans ?_
    rw [e0.trans h0, e1.trans h1, e2.trans h2, e3.trans h3, e4.trans h4]
    funext i; idx_vars i
    exact ref_dg a w x t γ _ _

end Cert.LossKIdeal.Hand

end
-- ==== Proof.Up.Kernel.lean ====
/- The gradient of the second norm: what the kernel's blocks hold, as sums of reals over the argument arrays. -/
module

public import proofs.«01_k».proof.Proof.Gen.UpKIdeal.Value
public import proofs.«01_k».proof.Proof.Shared.Rms
public import Idealize.ShloMosaic.Lib.Pointwise
public import Idealize.ShloMosaic.Lib.Pipeline.ValueKit
public import Idealize.ShloMosaic.Lib.Claim

@[expose] public section

set_option maxRecDepth 16384

noncomputable section

namespace Cert.UpKIdeal.Hand

open Cert.Hand Cert.UpKIdeal Cert.UpKIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![1, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

/-- Row `r` of block `t`. -/
def row (t : Fin cfg0.N) (r : Fin 512) : Fin 4096 := ⟨t.val * 512 + r.val, by have := t.isLt; have := r.isLt; have : cfg0.N = 8 := rfl; omega⟩

variable (a b : S4096x2816.Idx → ℝ) (w : S1024x5632.Idx → ℝ) (x res : S4096x1024.Idx → ℝ) (g : S1x1024.Idx → ℝ)

/-- The column of the second half of the weight's rows. -/
def lo (k : Fin 2816) : Fin 5632 := ⟨k.val, by omega⟩
def hi (k : Fin 2816) : Fin 5632 := ⟨2816 + k.val, by omega⟩

/-- The cotangent of the norm's output: the two products with the halves of the weight, added. -/
def du (r : Fin 4096) (l : Fin 1024) : ℝ := ∑ k, a (ix2 r k) * w (ix2 l (lo k)) + ∑ k, b (ix2 r k) * w (ix2 l (hi k))

/-- The norm's own output before its gain. -/
def xn (r : Fin 4096) (l : Fin 1024) : ℝ := x (ix2 r l) * rmsInv fun k => x (ix2 r k)

/-- The input's gradient. -/
def dx (r : Fin 4096) (l : Fin 1024) : ℝ :=
  (rmsInv fun k => x (ix2 r k)) * (du a b w r l * g (ix2 0 l) - xn x r l * ((∑ k, du a b w r k * g (ix2 0 k) * xn x r k) / 1024))
    + res (ix2 r l)

/-- The gain's gradient. -/
def dg (l : Fin 1024) : ℝ := ∑ r, du a b w r l * xn x r l

section blocks
variable (c : Dev nD) (t : Fin cfg0.N)

theorem blk_a (h : m ((c : Thread nD τ).loc main_arg0) = fun i => ((a i : ℝ) : EReal)) :
    (iblk m c 0 t : FVec Ideal S512x2816 .bf16) = fun j => ((a (ix2 (row t (j 0)) (j 1)) : ℝ) : EReal) := by
  funext j
  trans m ((c : Thread nD τ).loc main_arg0) (ix2 (row t (j 0)) (j 1))
  · blk_ext [iblk, V, idx t, row]
  · rw [h]

theorem blk_w0 (h : m ((c : Thread nD τ).loc main_arg2) = fun i => ((w i : ℝ) : EReal)) :
    (iblk m c 1 t : FVec Ideal S2816x1024 .bf16) = fun j => ((w (ix2 (j 1) (lo (j 0))) : ℝ) : EReal) := by
  funext j
  trans m ((c : Thread nD τ).loc main_arg2) (ix2 (j 1) (lo (j 0)))
  · idx_vars j; blk_simp [iblk]; entry_read; pointwise; blk_ext [idx t, lo]
  · rw [h]

theorem blk_b (h : m ((c : Thread nD τ).loc main_arg1) = fun i => ((b i : ℝ) : EReal)) :
    (iblk m c 2 t : FVec Ideal S512x2816 .bf16) = fun j => ((b (ix2 (row t (j 0)) (j 1)) : ℝ) : EReal) := by
  funext j
  trans m ((c : Thread nD τ).loc main_arg1) (ix2 (row t (j 0)) (j 1))
  · blk_ext [iblk, V, idx t, row]
  · rw [h]

theorem blk_w1 (h : m ((c : Thread nD τ).loc main_arg2) = fun i => ((w i : ℝ) : EReal)) :
    (iblk m c 3 t : FVec Ideal S2816x1024 .bf16) = fun j => ((w (ix2 (j 1) (hi (j 0))) : ℝ) : EReal) := by
  funext j
  trans m ((c : Thread nD τ).loc main_arg2) (ix2 (j 1) (hi (j 0)))
  · idx_vars j; blk_simp [iblk]; entry_read; pointwise; blk_ext [idx t, hi]
  · rw [h]

theorem blk_x (h : m ((c : Thread nD τ).loc main_arg3) = fun i => ((x i : ℝ) : EReal)) :
    (iblk m c 4 t : FVec Ideal S512x1024 .f32) = fun j => ((x (ix2 (row t (j 0)) (j 1)) : ℝ) : EReal) := by
  funext j
  trans m ((c : Thread nD τ).loc main_arg3) (ix2 (row t (j 0)) (j 1))
  · blk_ext [iblk, V, idx t, row]
  · rw [h]

theorem blk_g (h : m ((c : Thread nD τ).loc main_arg4) = fun i => ((g i : ℝ) : EReal)) :
    (iblk m c 5 t : FVec Ideal S1x1024 .f32) = fun j => ((g j : ℝ) : EReal) := by
  funext j
  trans m ((c : Thread nD τ).loc main_arg4) j
  · blk_ext [iblk, V, idx t]
  · rw [h]

theorem blk_res (h : m ((c : Thread nD τ).loc main_arg5) = fun i => ((res i : ℝ) : EReal)) :
    (iblk m c 6 t : FVec Ideal S512x1024 .f32) = fun j => ((res (ix2 (row t (j 0)) (j 1)) : ℝ) : EReal) := by
  funext j
  trans m ((c : Thread nD τ).loc main_arg5) (ix2 (row t (j 0)) (j 1))
  · blk_ext [iblk, V, idx t, row]
  · rw [h]

end blocks

/-! ## The body over blocks of reals -/

section body
variable (A B : S512x2816.Idx → ℝ) (U W : S2816x1024.Idx → ℝ) (X R : S512x1024.Idx → ℝ) (G : S1x1024.Idx → ℝ)

theorem pay_du (r : Fin 512) (l : Fin 1024) :
    k0_pay3 (F := Ideal) (fun i => ((A i : ℝ) : EReal)) (fun i => ((U i : ℝ) : EReal)) (fun i => ((B i : ℝ) : EReal)) (fun i => ((W i : ℝ) : EReal)) (ix2 r l)
      = ((∑ k, A (ix2 r k) * U (ix2 k l) + ∑ k, B (ix2 r k) * W (ix2 k l) : ℝ) : EReal) := by
  pointwise [k0_pay3]
  simp only [mul_real, coe_sum, add_real]

theorem pay_xn (r : Fin 512) (l : Fin 1024) :
    k0_pay5 (F := Ideal) (fun i => ((X i : ℝ) : EReal)) (ix2 r l) = ((X (ix2 r l) * rmsInv fun k => X (ix2 r k) : ℝ) : EReal) := by
  pointwise [k0_pay5, k0_pay4]
  rw [rmsInv_read fun k => X (ix2 r k), mul_real]

/-- The row's cotangent over blocks. -/
def duB (r : Fin 512) (l : Fin 1024) : ℝ := ∑ k, A (ix2 r k) * U (ix2 k l) + ∑ k, B (ix2 r k) * W (ix2 k l)

theorem pay_dx (r : Fin 512) (l : Fin 1024) :
    k0_pay6 (F := Ideal) (fun i => ((A i : ℝ) : EReal)) (fun i => ((U i : ℝ) : EReal)) (fun i => ((B i : ℝ) : EReal)) (fun i => ((W i : ℝ) : EReal))
      (fun i => ((X i : ℝ) : EReal)) (fun i => ((G i : ℝ) : EReal)) (fun i => ((R i : ℝ) : EReal)) (ix2 r l)
      = (((rmsInv fun k => X (ix2 r k)) * (duB A B U W r l * G (ix2 0 l) - X (ix2 r l) * (rmsInv fun k => X (ix2 r k))
            * ((∑ k, duB A B U W r k * G (ix2 0 k) * (X (ix2 r k) * rmsInv fun k => X (ix2 r k))) / 1024)) + R (ix2 r l) : ℝ) : EReal) := by
  pointwise [k0_pay6, k0_pay4, k0_pay5]
  simp only [pay_du]
  rw [rmsInv_read fun k => X (ix2 r k)]
  simp only [lit_1024, mul_real, coe_sum]
  rw [div_real _ _ (by norm_num)]
  simp only [mul_real, sub_real, add_real, duB]

theorem pay_dg (D Y : FVec Ideal S512x1024 .f32) (acc : FVec Ideal S1x1024 .f32) (j : S1x1024.Idx) :
    k0_pay2 (F := Ideal) D Y acc j = acc j + ∑ r : Fin 512, D (ix2 r (j 1)) * Y (ix2 r (j 1)) := by
  idx_vars j
  pointwise [k0_pay2]

theorem pay_zero (j : S1x1024.Idx) : k0_pay1 (F := Ideal) j = 0 := by pointwise [k0_pay1]

end body

/-! ## The arrays after the run -/

section final
variable (c : Dev nD)
  (h0 : m ((c : Thread nD τ).loc main_arg0) = fun i => ((a i : ℝ) : EReal))
  (h1 : m ((c : Thread nD τ).loc main_arg1) = fun i => ((b i : ℝ) : EReal))
  (h2 : m ((c : Thread nD τ).loc main_arg2) = fun i => ((w i : ℝ) : EReal))
  (h3 : m ((c : Thread nD τ).loc main_arg3) = fun i => ((x i : ℝ) : EReal))
  (h4 : m ((c : Thread nD τ).loc main_arg4) = fun i => ((g i : ℝ) : EReal))
  (h5 : m ((c : Thread nD τ).loc main_arg5) = fun i => ((res i : ℝ) : EReal))
include h0 h1 h2 h3 h4 h5

/-- What the body leaves in a block of the input gradient. -/
theorem point (t : Fin cfg0.N) (y : S512x1024.Idx) :
    k0_pay6 (F := Ideal) (iblk m c 0 t) (iblk m c 1 t) (iblk m c 2 t) (iblk m c 3 t) (iblk m c 4 t) (iblk m c 5 t) (iblk m c 6 t) y
      = ((dx a b w x res g (row t (y 0)) (y 1) : ℝ) : EReal) := by
  rw [blk_a m a c t h0, blk_w0 m w c t h2, blk_b m b c t h1, blk_w1 m w c t h2, blk_x m x c t h3, blk_g m g c t h4, blk_res m res c t h5]
  idx_vars y
  exact pay_dx _ _ _ _ _ _ _ _ _

theorem final_dx : (dats m 0 c).arrAt 7 cfg0.N = fun i => ((dx a b w x res g (i 0) (i 1) : ℝ) : EReal) := by
  refine (dats m 0 c).arrAt_eq_of_covers 7 _ (by decide +kernel) fun t _ y => ?_
  have e : (((cfg0.win 7).blk t).view.emb y : S4096x1024.Idx) = ix2 (row t (y 0)) (y 1) := by blk_ext [idx t, row]
  refine Eq.trans ?_ ((point m a b w x res g c h0 h1 h2 h3 h4 h5 t y).trans ?_)
  · blk_simp
    rw [after0_7]
    by_cases h : t.val % 8 = 0
    · rw [outsAt0_A m c t h]; frame_out
    · rw [outsAt0_B m c t h]; frame_out
  · rw [e]; rfl

theorem final_dg : (dats m 0 c).arrAt 8 cfg0.N = fun i => ((dg a b w x (i 1) : ℝ) : EReal) := by
  refine (dats m 0 c).arrAt_eq_of_after_last 8 t0_7 (by decide +kernel) _ fun j => ?_
  blk_simp
  rw [after0_8, Pipeline.eq_sum_fin_of_reset_step_apply_last (fun n h => (outsAt0 m c n h).2) 8 (fun _ => 0) _
    (fun t h j => by rw [outsAt0_A m c t h]; frame_out; rw [pay_dg, pay_zero])
    (fun t h j => by rw [outsAt0_B m c t h]; frame_out; rw [pay_dg])
    (le_of_eq N_0) t0_7 rfl j, zero_add]
  unfold dg
  rw [← coe_sum]
  refine Fin.sum_mul_add_congr fun t r hl => ?_
  rw [blk_a m a c t h0, blk_w0 m w c t h2, blk_b m b c t h1, blk_w1 m w c t h2, blk_x m x c t h3]
  exact (congrArg₂ _ (pay_du _ _ _ _ r _) (pay_xn _ r _)).trans (mul_real _ _)

end final

end Cert.UpKIdeal.Hand

end
-- ==== Proof.Up.Reference.lean ====
/- The gradient of the second norm: what the derivative of the forward lines computes, as the same sums of reals. -/
module

public import proofs.«01_k».proof.Proof.Gen.UpRIdeal.Run
public import proofs.«01_k».proof.Proof.Gen.UpRIdeal.Read
public import proofs.«01_k».proof.Proof.Up.Kernel

@[expose] public section

set_option maxRecDepth 16384

noncomputable section

namespace Cert.UpKIdeal.Hand

open Cert.Hand Cert.UpKIdeal Idealize.ShloMosaic Cert.UpRIdeal.Read

variable (a b : S4096x2816.Idx → ℝ) (w : S1024x5632.Idx → ℝ) (x res : S4096x1024.Idx → ℝ) (g : S1x1024.Idx → ℝ)

theorem ref_du (r : Fin 4096) (l : Fin 1024) :
    val_main_v21 (F := Ideal) (fun i => ((a i : ℝ) : EReal)) (fun i => ((b i : ℝ) : EReal)) (fun i => ((w i : ℝ) : EReal)) (ix2 r l)
      = ((du a b w r l : ℝ) : EReal) := by
  pointwise [val_main_v18, val_main_v19, val_main_v20, val_main_v21]
  simp only [mul_real, coe_sum, add_real]
  rfl

theorem ref_xn (r : Fin 4096) (l : Fin 1024) :
    val_main_v12 (F := Ideal) (fun i => ((x i : ℝ) : EReal)) (ix2 r l) = ((xn x r l : ℝ) : EReal) := by
  pointwise [val_main_v0, val_main_v1, val_main_v2, val_main_v3, val_main_v4, val_main_v5, val_main_v6, val_main_v7,
    val_main_v11, val_main_v12, val_main_cst, val_main_cst_0, val_main_cst_1]
  rw [rmsInv_read fun k => x (ix2 r k), mul_real, xn]

theorem ref_dg (r : Fin 1) (l : Fin 1024) :
    val_main_v24 (F := Ideal) (fun i => ((a i : ℝ) : EReal)) (fun i => ((b i : ℝ) : EReal)) (fun i => ((w i : ℝ) : EReal))
      (fun i => ((x i : ℝ) : EReal)) (ix2 r l) = ((dg a b w x l : ℝ) : EReal) := by
  pointwise [val_main_v22, val_main_v23, val_main_v24, val_main_cst_3]
  simp only [ref_xn, ref_du, mul_real, coe_sum, dg]
  exact congrArg _ (Finset.sum_congr rfl fun k _ => mul_comm _ _)

theorem ref_dx (r : Fin 4096) (l : Fin 1024) :
    val_main_v41 (F := Ideal) (fun i => ((a i : ℝ) : EReal)) (fun i => ((b i : ℝ) : EReal)) (fun i => ((w i : ℝ) : EReal))
      (fun i => ((x i : ℝ) : EReal)) (fun i => ((g i : ℝ) : EReal)) (fun i => ((res i : ℝ) : EReal)) (ix2 r l)
      = ((dx a b w x res g r l : ℝ) : EReal) := by
  pointwise [val_main_v0, val_main_v1, val_main_v2, val_main_v3, val_main_v4, val_main_v5, val_main_v6, val_main_v7,
    val_main_v8, val_main_v9, val_main_v10, val_main_v25, val_main_v26, val_main_v27, val_main_v28, val_main_v29, val_main_v30,
    val_main_v31, val_main_v32, val_main_v33, val_main_v34, val_main_v35, val_main_v36, val_main_v37, val_main_v38,
    val_main_v39, val_main_v40, val_main_v41, val_main_cst, val_main_cst_0, val_main_cst_1, val_main_cst_2, val_main_cst_4,
    val_main_cst_5, val_main_cst_6]
  simp only [ref_du]
  rw [rmsInv_read (fun k => x (ix2 r k)), meanSq_read (fun k => x (ix2 r k))]
  simp only [lit_1024, lit_neg_half, mul_real, coe_sum]
  rw [div_real _ _ (meanSq_pos _).ne']
  simp only [mul_real]
  rw [div_real _ _ (by norm_num)]
  simp only [mul_real, coe_sum, add_real, Finset.sum_const, Finset.card_univ, Fintype.card_fin, one_smul]
  refine congrArg _ ?_
  have h := rms_dx (fun k => x (ix2 r k)) (fun k => du a b w r k * g (ix2 0 k)) l
  unfold dx xn
  linarith

end Cert.UpKIdeal.Hand

end
-- ==== Proof.Up.Claim.lean ====
/- The gradient of the second norm, fused with the two products that feed it: the pair's claim. -/
module

public import proofs.«01_k».proof.Defs
public import proofs.«01_k».proof.Proof.Gen.Pre_finite_up
public import proofs.«01_k».proof.Proof.Up.Reference

@[expose] public section

set_option maxRecDepth 16384

noncomputable section

namespace Cert.UpKIdeal.Hand

open Cert.Hand Cert.UpKIdeal Cert.UpKIdeal.Gen Idealize.ShloMosaic Idealize.ShloMosaic.TcCoe Idealize.SL.Sem

variable (m : (ℓ : Loc nD τ sig) → Buf (Elt Ideal) ℓ)

/-- The precondition makes every argument an array of reals. -/
theorem args_real (h : Cert.Pre_UpKIdeal_finite_up (hPre_finite_up := Cert.Pre_finite_up.Gen.facts) m) (c : Dev nD) :
    (∃ x : S4096x2816.Idx → ℝ, m ((c : Thread nD τ).loc main_arg0) = fun i => ((x i : ℝ) : EReal))
    ∧ (∃ x : S4096x2816.Idx → ℝ, m ((c : Thread nD τ).loc main_arg1) = fun i => ((x i : ℝ) : EReal))
    ∧ (∃ x : S1024x5632.Idx → ℝ, m ((c : Thread nD τ).loc main_arg2) = fun i => ((x i : ℝ) : EReal))
    ∧ (∃ x : S4096x1024.Idx → ℝ, m ((c : Thread nD τ).loc main_arg3) = fun i => ((x i : ℝ) : EReal))
    ∧ (∃ x : S1x1024.Idx → ℝ, m ((c : Thread nD τ).loc main_arg4) = fun i => ((x i : ℝ) : EReal))
    ∧ (∃ x : S4096x1024.Idx → ℝ, m ((c : Thread nD τ).loc main_arg5) = fun i => ((x i : ℝ) : EReal)) := by
  obtain ⟨h0, h1, h2, h3, h4, h5⟩ := h c
  exact ⟨real_of_below (φ := .bf16) _ _ (fun _ => lit_inf16) h0, real_of_below (φ := .bf16) _ _ (fun _ => lit_inf16) h1,
    real_of_below (φ := .f32) _ _ (fun _ => lit_inf) h2, real_of_below (φ := .f32) _ _ (fun _ => lit_inf) h3,
    real_of_below (φ := .f32) _ _ (fun _ => lit_inf) h4, real_of_below (φ := .f32) _ _ (fun _ => lit_inf) h5⟩

/-- The pair's claim: both programs run and leave the same gradients. -/
theorem value : Cert.algebraic_UpKIdeal_UpRIdeal_pre_finite_up (hPre_finite_up := Cert.Pre_finite_up.Gen.facts) := by
  intro m g m' g' hpre hagree
  refine ⟨_, _, Value.run_blocks m g, ?_⟩
  refine (θ_run _ _ _).mono (fun r h c => ?_) (Cert.UpRIdeal.Value.run m' g')
  obtain ⟨r0, r1, ha⟩ := h c
  obtain ⟨e0, e1, e2, e3, e4, e5⟩ := hagree c
  obtain ⟨⟨a, h0⟩, ⟨b, h1⟩, ⟨w, h2⟩, ⟨x, h3⟩, ⟨γ, h4⟩, ⟨res, h5⟩⟩ := args_real m hpre c
  refine ⟨r0.trans ?_, r1.trans ?_, ha⟩
  · rw [final_dx m a b w x res γ c h0 h1 h2 h3 h4 h5]
    refine (Cert.UpRIdeal.Read.val_main_v41_eq m' c).trans ?_
    rw [e0.trans h0, e1.trans h1, e2.trans h2, e3.trans h3, e4.trans h4, e5.trans h5]
    funext i; idx_vars i
    exact ref_dx a b w x res γ _ _
  · rw [final_dg m a b w x res γ c h0 h1 h2 h3 h4 h5]
    refine (Cert.UpRIdeal.Read.val_main_v24_eq _ _ _ _).trans ?_
    rw [e0.trans h0, e1.trans h1, e2.trans h2, e3.trans h3]
    funext i; idx_vars i
    exact ref_dg a b w x _ _

end Cert.UpKIdeal.Hand

end
-- ==== Proof.Pr.Kernel.lean ====
/- The gradient of the first norm: what the kernel's blocks hold, as sums of reals over the argument arrays. -/
module

public import proofs.«01_k».proof.Proof.Gen.PrKIdeal.Value
public import proofs.«01_k».proof.Proof.Shared.Rms
public import Idealize.ShloMosaic.Lib.Pointwise
public import Idealize.ShloMosaic.Lib.Pipeline.ValueKit
public import Idealize.ShloMosaic.Lib.Claim

@[expose] public section

set_option maxRecDepth 16384

noncomputable section

namespace Cert.PrKIdeal.Hand

open Cert.Hand Cert.PrKIdeal Cert.PrKIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- Row `r` of block `t`. -/
def row (t : Fin cfg0.N) (r : Fin 512) : Fin 4096 := ⟨t.val * 512 + r.val, by have := t.isLt; have := r.isLt; have : cfg0.N = 8 := rfl; omega⟩

variable (a : S4096x6656.Idx → ℝ) (w : S1024x6656.Idx → ℝ) (x res : S4096x1024.Idx → ℝ) (g : S1x1024.Idx → ℝ)

/-- The cotangent of the norm's output: the product with the weight's rows. -/
def du (r : Fin 4096) (l : Fin 1024) : ℝ := ∑ k, a (ix2 r k) * w (ix2 l k)

/-- The norm's own output before its gain. -/
def xn (r : Fin 4096) (l : Fin 1024) : ℝ := x (ix2 r l) * rmsInv fun k => x (ix2 r k)

/-- The input's gradient. -/
def dx (r : Fin 4096) (l : Fin 1024) : ℝ :=
  (rmsInv fun k => x (ix2 r k)) * (du a w r l * g (ix2 0 l) - xn x r l * ((∑ k, du a w r k * g (ix2 0 k) * xn x r k) / 1024))
    + res (ix2 r l)

/-- The gain's gradient. -/
def dg (l : Fin 1024) : ℝ := ∑ r, du a w r l * xn x r l

section blocks
variable (c : Dev nD) (t : Fin cfg0.N)

theorem blk_a (h : m ((c : Thread nD τ).loc main_arg0) = fun i => ((a i : ℝ) : EReal)) :
    (iblk m c 0 t : FVec Ideal S512x6656 .bf16) = fun j => ((a (ix2 (row t (j 0)) (j 1)) : ℝ) : EReal) := by
  funext j
  trans m ((c : Thread nD τ).loc main_arg0) (ix2 (row t (j 0)) (j 1))
  · blk_ext [iblk, V, idx t, row]
  · rw [h]

theorem blk_w (h : m ((c : Thread nD τ).loc main_arg1) = fun i => ((w i : ℝ) : EReal)) :
    (iblk m c 1 t : FVec Ideal S6656x1024 .bf16) = fun j => ((w (ix2 (j 1) (j 0)) : ℝ) : EReal) := by
  funext j
  trans m ((c : Thread nD τ).loc main_arg1) (ix2 (j 1) (j 0))
  · idx_vars j; blk_simp [iblk]; entry_read; pointwise; blk_ext [idx t]
  · rw [h]

theorem blk_x (h : m ((c : Thread nD τ).loc main_arg2) = fun i => ((x i : ℝ) : EReal)) :
    (iblk m c 2 t : FVec Ideal S512x1024 .f32) = fun j => ((x (ix2 (row t (j 0)) (j 1)) : ℝ) : EReal) := by
  funext j
  trans m ((c : Thread nD τ).loc main_arg2) (ix2 (row t (j 0)) (j 1))
  · blk_ext [iblk, V, idx t, row]
  · rw [h]

theorem blk_g (h : m ((c : Thread nD τ).loc main_arg3) = fun i => ((g i : ℝ) : EReal)) :
    (iblk m c 3 t : FVec Ideal S1x1024 .f32) = fun j => ((g j : ℝ) : EReal) := by
  funext j
  trans m ((c : Thread nD τ).loc main_arg3) j
  · blk_ext [iblk, V, idx t]
  · rw [h]

theorem blk_res (h : m ((c : Thread nD τ).loc main_arg4) = fun i => ((res i : ℝ) : EReal)) :
    (iblk m c 4 t : FVec Ideal S512x1024 .f32) = fun j => ((res (ix2 (row t (j 0)) (j 1)) : ℝ) : EReal) := by
  funext j
  trans m ((c : Thread nD τ).loc main_arg4) (ix2 (row t (j 0)) (j 1))
  · blk_ext [iblk, V, idx t, row]
  · rw [h]

end blocks

/-! ## The body over blocks of reals -/

section body
variable (A : S512x6656.Idx → ℝ) (U : S6656x1024.Idx → ℝ) (X R : S512x1024.Idx → ℝ) (G : S1x1024.Idx → ℝ)

theorem pay_du (r : Fin 512) (l : Fin 1024) :
    k0_pay2 (F := Ideal) (fun i => ((A i : ℝ) : EReal)) (fun i => ((U i : ℝ) : EReal)) (ix2 r l)
      = ((∑ k, A (ix2 r k) * U (ix2 k l) : ℝ) : EReal) := by
  pointwise [k0_pay2]
  simp only [mul_real, coe_sum]

theorem pay_xn (r : Fin 512) (l : Fin 1024) :
    k0_pay4 (F := Ideal) (fun i => ((X i : ℝ) : EReal)) (ix2 r l) = ((X (ix2 r l) * rmsInv fun k => X (ix2 r k) : ℝ) : EReal) := by
  pointwise [k0_pay4, k0_pay3]
  rw [rmsInv_read fun k => X (ix2 r k), mul_real]

/-- The row's cotangent over blocks. -/
def duB (r : Fin 512) (l : Fin 1024) : ℝ := ∑ k, A (ix2 r k) * U (ix2 k l)

theorem pay_dx (r : Fin 512) (l : Fin 1024) :
    k0_pay5 (F := Ideal) (fun i => ((A i : ℝ) : EReal)) (fun i => ((U i : ℝ) : EReal))
      (fun i => ((X i : ℝ) : EReal)) (fun i => ((G i : ℝ) : EReal)) (fun i => ((R i : ℝ) : EReal)) (ix2 r l)
      = (((rmsInv fun k => X (ix2 r k)) * (duB A U r l * G (ix2 0 l) - X (ix2 r l) * (rmsInv fun k => X (ix2 r k))
            * ((∑ k, duB A U r k * G (ix2 0 k) * (X (ix2 r k) * rmsInv fun k => X (ix2 r k))) / 1024)) + R (ix2 r l) : ℝ) : EReal) := by
  pointwise [k0_pay5, k0_pay3, k0_pay4]
  simp only [pay_du]
  rw [rmsInv_read fun k => X (ix2 r k)]
  simp only [lit_1024, mul_real, coe_sum]
  rw [div_real _ _ (by norm_num)]
  simp only [mul_real, sub_real, add_real, duB]

theorem pay_dg (D Y : FVec Ideal S512x1024 .f32) (acc : FVec Ideal S1x1024 .f32) (j : S1x1024.Idx) :
    k0_pay1 (F := Ideal) D Y acc j = acc j + ∑ r : Fin 512, D (ix2 r (j 1)) * Y (ix2 r (j 1)) := by
  idx_vars j
  pointwise [k0_pay1]

theorem pay_zero (j : S1x1024.Idx) : k0_pay6 (F := Ideal) j = 0 := by pointwise [k0_pay6]

end body

/-! ## The arrays after the run -/

section final
variable (c : Dev nD)
  (h0 : m ((c : Thread nD τ).loc main_arg0) = fun i => ((a i : ℝ) : EReal))
  (h1 : m ((c : Thread nD τ).loc main_arg1) = fun i => ((w i : ℝ) : EReal))
  (h2 : m ((c : Thread nD τ).loc main_arg2) = fun i => ((x i : ℝ) : EReal))
  (h3 : m ((c : Thread nD τ).loc main_arg3) = fun i => ((g i : ℝ) : EReal))
  (h4 : m ((c : Thread nD τ).loc main_arg4) = fun i => ((res i : ℝ) : EReal))
include h0 h1 h2 h3 h4

/-- What the body leaves in a block of the input gradient. -/
theorem point (t : Fin cfg0.N) (y : S512x1024.Idx) :
    k0_pay5 (F := Ideal) (iblk m c 0 t) (iblk m c 1 t) (iblk m c 2 t) (iblk m c 3 t) (iblk m c 4 t) y
      = ((dx a w x res g (row t (y 0)) (y 1) : ℝ) : EReal) := by
  rw [blk_a m a c t h0, blk_w m w c t h1, blk_x m x c t h2, blk_g m g c t h3, blk_res m res c t h4]
  idx_vars y
  exact pay_dx _ _ _ _ _ _ _

theorem final_dx : (dats m 0 c).arrAt 5 cfg0.N = fun i => ((dx a w x res g (i 0) (i 1) : ℝ) : EReal) := by
  refine (dats m 0 c).arrAt_eq_of_covers 5 _ (by decide +kernel) fun t _ y => ?_
  have e : (((cfg0.win 5).blk t).view.emb y : S4096x1024.Idx) = ix2 (row t (y 0)) (y 1) := by blk_ext [idx t, row]
  refine Eq.trans ?_ ((point m a w x res g c h0 h1 h2 h3 h4 t y).trans ?_)
  · blk_simp
    rw [after0_5]
    by_cases h : t.val % 8 = 0
    · rw [outsAt0_A m c t h]; frame_out
    · rw [outsAt0_B m c t h]; frame_out
  · rw [e]; rfl

theorem final_dg : (dats m 0 c).arrAt 6 cfg0.N = fun i => ((dg a w x (i 1) : ℝ) : EReal) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0) _
    (fun t h j => by rw [outsAt0_A m c t h]; frame_out; rw [pay_dg, pay_zero])
    (fun t h j => by rw [outsAt0_B m c t h]; frame_out; rw [pay_dg])
    (le_of_eq N_0) t0_7 rfl j, zero_add]
  unfold dg
  rw [← coe_sum]
  refine Fin.sum_mul_add_congr fun t r hl => ?_
  rw [blk_a m a c t h0, blk_w m w c t h1, blk_x m x c t h2]
  exact (congrArg₂ _ (pay_du _ _ r _) (pay_xn _ r _)).trans (mul_real _ _)

end final

end Cert.PrKIdeal.Hand

end
-- ==== Proof.Pr.Reference.lean ====
/- The gradient of the first norm: what the derivative of the forward lines computes, as the same sums of reals. -/
module

public import proofs.«01_k».proof.Proof.Gen.PrRIdeal.Run
public import proofs.«01_k».proof.Proof.Gen.PrRIdeal.Read
public import proofs.«01_k».proof.Proof.Pr.Kernel

@[expose] public section

set_option maxRecDepth 16384

noncomputable section

namespace Cert.PrKIdeal.Hand

open Cert.Hand Cert.PrKIdeal Idealize.ShloMosaic Cert.PrRIdeal.Read

variable (a : S4096x6656.Idx → ℝ) (w : S1024x6656.Idx → ℝ) (x res : S4096x1024.Idx → ℝ) (g : S1x1024.Idx → ℝ)

theorem ref_du (r : Fin 4096) (l : Fin 1024) :
    val_main_v17 (F := Ideal) (fun i => ((a i : ℝ) : EReal)) (fun i => ((w i : ℝ) : EReal)) (ix2 r l)
      = ((du a w r l : ℝ) : EReal) := by
  pointwise [val_main_v16, val_main_v17]
  simp only [mul_real, coe_sum]
  rfl

theorem ref_xn (r : Fin 4096) (l : Fin 1024) :
    val_main_v12 (F := Ideal) (fun i => ((x i : ℝ) : EReal)) (ix2 r l) = ((xn x r l : ℝ) : EReal) := by
  pointwise [val_main_v0, val_main_v1, val_main_v2, val_main_v3, val_main_v4, val_main_v5, val_main_v6, val_main_v7,
    val_main_v11, val_main_v12, val_main_cst, val_main_cst_0, val_main_cst_1]
  rw [rmsInv_read fun k => x (ix2 r k), mul_real, xn]

theorem ref_dg (r : Fin 1) (l : Fin 1024) :
    val_main_v20 (F := Ideal) (fun i => ((a i : ℝ) : EReal)) (fun i => ((w i : ℝ) : EReal))
      (fun i => ((x i : ℝ) : EReal)) (ix2 r l) = ((dg a w x l : ℝ) : EReal) := by
  pointwise [val_main_v18, val_main_v19, val_main_v20, val_main_cst_3]
  simp only [ref_xn, ref_du, mul_real, coe_sum, dg]
  exact congrArg _ (Finset.sum_congr rfl fun k _ => mul_comm _ _)

theorem ref_dx (r : Fin 4096) (l : Fin 1024) :
    val_main_v37 (F := Ideal) (fun i => ((a i : ℝ) : EReal)) (fun i => ((w i : ℝ) : EReal))
      (fun i => ((x i : ℝ) : EReal)) (fun i => ((g i : ℝ) : EReal)) (fun i => ((res i : ℝ) : EReal)) (ix2 r l)
      = ((dx a w x res g r l : ℝ) : EReal) := by
  pointwise [val_main_v0, val_main_v1, val_main_v2, val_main_v3, val_main_v4, val_main_v5, val_main_v6, val_main_v7,
    val_main_v8, val_main_v9, val_main_v10, val_main_v21, val_main_v22, val_main_v23, val_main_v24, val_main_v25, val_main_v26,
    val_main_v27, val_main_v28, val_main_v29, val_main_v30, val_main_v31, val_main_v32, val_main_v33, val_main_v34,
    val_main_v35, val_main_v36, val_main_v37, val_main_cst, val_main_cst_0, val_main_cst_1, val_main_cst_2, val_main_cst_4,
    val_main_cst_5, val_main_cst_6]
  simp only [ref_du]
  rw [rmsInv_read (fun k => x (ix2 r k)), meanSq_read (fun k => x (ix2 r k))]
  simp only [lit_1024, lit_neg_half, mul_real, coe_sum]
  rw [div_real _ _ (meanSq_pos _).ne']
  simp only [mul_real]
  rw [div_real _ _ (by norm_num)]
  simp only [mul_real, coe_sum, add_real, Finset.sum_const, Finset.card_univ, Fintype.card_fin, one_smul]
  refine congrArg _ ?_
  have h := rms_dx (fun k => x (ix2 r k)) (fun k => du a w r k * g (ix2 0 k)) l
  unfold dx xn
  linarith

end Cert.PrKIdeal.Hand

end
-- ==== Proof.Pr.Claim.lean ====
/- The gradient of the first norm, fused with the product that feeds it: the pair's claim. -/
module

public import proofs.«01_k».proof.Defs
public import proofs.«01_k».proof.Proof.Gen.Pre_finite_pr
public import proofs.«01_k».proof.Proof.Pr.Reference

@[expose] public section

set_option maxRecDepth 16384

noncomputable section

namespace Cert.PrKIdeal.Hand

open Cert.Hand Cert.PrKIdeal Cert.PrKIdeal.Gen Idealize.ShloMosaic Idealize.ShloMosaic.TcCoe Idealize.SL.Sem

variable (m : (ℓ : Loc nD τ sig) → Buf (Elt Ideal) ℓ)

/-- The precondition makes every argument an array of reals. -/
theorem args_real (h : Cert.Pre_PrKIdeal_finite_pr (hPre_finite_pr := Cert.Pre_finite_pr.Gen.facts) m) (c : Dev nD) :
    (∃ x : S4096x6656.Idx → ℝ, m ((c : Thread nD τ).loc main_arg0) = fun i => ((x i : ℝ) : EReal))
    ∧ (∃ x : S1024x6656.Idx → ℝ, m ((c : Thread nD τ).loc main_arg1) = fun i => ((x i : ℝ) : EReal))
    ∧ (∃ x : S4096x1024.Idx → ℝ, m ((c : Thread nD τ).loc main_arg2) = fun i => ((x i : ℝ) : EReal))
    ∧ (∃ x : S1x1024.Idx → ℝ, m ((c : Thread nD τ).loc main_arg3) = fun i => ((x i : ℝ) : EReal))
    ∧ (∃ x : S4096x1024.Idx → ℝ, m ((c : Thread nD τ).loc main_arg4) = fun i => ((x i : ℝ) : EReal)) := by
  obtain ⟨h0, h1, h2, h3, h4⟩ := h c
  exact ⟨real_of_below (φ := .bf16) _ _ (fun _ => lit_inf16) h0,
    real_of_below (φ := .f32) _ _ (fun _ => lit_inf) h1,
    real_of_below (φ := .f32) _ _ (fun _ => lit_inf) h2,
    real_of_below (φ := .f32) _ _ (fun _ => lit_inf) h3,
    real_of_below (φ := .f32) _ _ (fun _ => lit_inf) h4⟩

/-- The pair's claim: both programs run and leave the same arrays. -/
theorem value : Cert.algebraic_PrKIdeal_PrRIdeal_pre_finite_pr (hPre_finite_pr := Cert.Pre_finite_pr.Gen.facts) := by
  intro m g m' g' hpre hagree
  refine ⟨_, _, Value.run_blocks m g, ?_⟩
  refine (θ_run _ _ _).mono (fun r h c => ?_) (Cert.PrRIdeal.Value.run m' g')
  obtain ⟨r0, r1, ha⟩ := h c
  obtain ⟨e0, e1, e2, e3, e4⟩ := hagree c
  obtain ⟨⟨a, h0⟩, ⟨w, h1⟩, ⟨x, h2⟩, ⟨γ, h3⟩, ⟨res, h4⟩⟩ := args_real m hpre c
  refine ⟨r0.trans ?_, r1.trans ?_, ha⟩
  · rw [final_dx m a w x res γ c h0 h1 h2 h3 h4]
    refine (Cert.PrRIdeal.Read.val_main_v37_eq m' c).trans ?_
    rw [e0.trans h0, e1.trans h1, e2.trans h2, e3.trans h3, e4.trans h4]
    funext i; idx_vars i
    exact ref_dx a w x res γ _ _
  · rw [final_dg m a w x res γ c h0 h1 h2 h3 h4]
    refine (Cert.PrRIdeal.Read.val_main_v20_eq _ _ _).trans ?_
    rw [e0.trans h0, e1.trans h1, e2.trans h2]
    funext i; idx_vars i
    exact ref_dg a w x _ _

end Cert.PrKIdeal.Hand

end
-- ==== Proof.AttnF.Kernel.lean ====
/- The attention over the memory, forward: what the kernel's blocks hold, on extended reals as they come. -/
module

public import proofs.«01_k».proof.Proof.Gen.AttnFKIdeal.Value
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.AttnFKIdeal.Hand

open Cert.AttnFKIdeal Cert.AttnFKIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 6] ∧ win0_1.index t = ![t.val / 4, 0, 0] ∧ win0_2.index t = ![t.val, 0] :=
  (by decide +kernel : ∀ t : Fin grid0.N, _)

/-- Row `r` of block `t`. -/
def row (t : Fin cfg0.N) (r : Fin 512) : Fin 4096 := ⟨t.val * 512 + r.val, by have := t.isLt; have := r.isLt; have : cfg0.N = 8 := rfl; omega⟩

/-- The sequence block `t` belongs to. -/
def seq (t : Fin cfg0.N) : Fin 2 := ⟨t.val / 4, by have := t.isLt; have : cfg0.N = 8 := rfl; omega⟩

/-! ## One head of one row -/

/-- The scores of a row, … -/
def score (q : Fin 128 → EReal) (k : Fin 256 → Fin 128 → EReal) (j : Fin 256) : EReal :=
  (∑ e, q e * k j e) * Ideal.ofBits .f32 0x3DB504F3#32

/-- … the softmax of a row, its maximum taken off first, … -/
def top (s : Fin 256 → EReal) : EReal := Finset.fold max (Ideal.ofBits .f32 0xFF800000#32) s Finset.univ
def soft (s : Fin 256 → EReal) (j : Fin 256) : EReal := Ideal.div (Ideal.exp (s j - top s)) (∑ i, Ideal.exp (s i - top s))

/-- … and what the row attends to. -/
def head (q : Fin 128 → EReal) (k v : Fin 256 → Fin 128 → EReal) (e : Fin 128) : EReal := ∑ j, soft (score q k) j * v j e

/-- One head of the body, over the blocks it loads. -/
theorem pay (Q : FVec Ideal S512x128 .bf16) (K W : FVec Ideal S1x256x128 .f32) (r : Fin 512) (e : Fin 128) :
    k0_pay2 (F := Ideal) Q K W (ix2 r e)
      = head (fun e => Q (ix2 r e)) (fun j e => K (ix3 0 j e)) (fun j e => W (ix3 0 j e)) e := by
  pointwise [k0_pay2]
  rfl

/-- The four heads are one text. -/
theorem same (Q : FVec Ideal S512x128 .bf16) (K W : FVec Ideal S1x256x128 .f32) :
    k0_pay1 (F := Ideal) Q K W = k0_pay2 (F := Ideal) Q K W ∧ k0_pay5 (F := Ideal) Q K W = k0_pay2 (F := Ideal) Q K W
    ∧ k0_pay4 (F := Ideal) (k0_pay3 (F := Ideal) Q K) W = k0_pay2 (F := Ideal) Q K W := ⟨rfl, rfl, rfl⟩

/-! ## The heads of the arguments -/

variable (p : FVec Ideal S4096x6656 .bf16) (kv : FVec Ideal S2x256x1024 .f32)

/-- Head `h` of the queries, the keys and the values. -/
def hq (h : Fin 4) (r : Fin 4096) (e : Fin 128) : EReal := p (ix2 r ⟨3072 + (h.val * 128 + e.val), by omega⟩)
def hk (b : Fin 2) (h : Fin 4) (j : Fin 256) (e : Fin 128) : EReal := kv (ix3 b j ⟨h.val * 128 + e.val, by omega⟩)
def hv (b : Fin 2) (h : Fin 4) (j : Fin 256) (e : Fin 128) : EReal := kv (ix3 b j ⟨512 + (h.val * 128 + e.val), by omega⟩)

/-- The heads side by side. -/
def out (b : Fin 2) (h : Fin 4) (r : Fin 4096) (e : Fin 128) : EReal := head (hq p h r) (hk kv b h) (hv kv b h) e
def outs (b : Fin 2) (r : Fin 4096) (l : Fin 512) : EReal := out p kv b ⟨l.val / 128, by omega⟩ r ⟨l.val % 128, by omega⟩

theorem outs_head (b : Fin 2) (r : Fin 4096) (l : Fin 512) (h : Fin 4) (e : Fin 128) (hl : l.val = h.val * 128 + e.val) :
    outs p kv b r l = out p kv b h r e :=
  congrArg₂ (fun h e => out p kv b h r e) (Fin.ext (by show l.val / 128 = h.val; omega)) (Fin.ext (by show l.val % 128 = e.val; omega))

section blocks
variable (c : Dev nD) (t : Fin cfg0.N)

theorem read_q (h0 : m ((c : Thread nD τ).loc main_arg0) = p) (off : Fin 2 → ℕ) (inb) (h : Fin 4) (ho : off = ![0, h.val * 128]) :
    View.ld (iblk m c 0 t : FVec Ideal S512x512 .bf16) (Rect.unit off ![512, 128] inb) = fun j => hq p h (row t (j 0)) (j 1) := by
  subst ho
  funext j
  refine (View.ld_unit_apply_of _ _ _ inb j (ix2 (j 0) ⟨h.val * 128 + (j 1).val, by have : (j 1).val < 128 := (j 1).isLt; omega⟩) fun a => by fin_cases a <;> simp).trans ?_
  trans m ((c : Thread nD τ).loc main_arg0) (ix2 (row t (j 0)) ⟨3072 + (h.val * 128 + (j 1).val), by have : (j 1).val < 128 := (j 1).isLt; omega⟩)
  · blk_ext [iblk, V, idx t, row]
  · rw [h0]; rfl

theorem read_k (h1 : m ((c : Thread nD τ).loc main_arg1) = kv) (off : Fin 3 → ℕ) (inb) (h : Fin 4) (ho : off = ![0, 0, h.val * 128]) :
    View.ld (iblk m c 1 t : FVec Ideal S1x256x1024 .f32) (Rect.unit off ![1, 256, 128] inb) = fun j => hk kv (seq t) h (j 1) (j 2) := by
  subst ho
  funext j
  refine (View.ld_unit_apply_of _ _ _ inb j (ix3 0 (j 1) ⟨h.val * 128 + (j 2).val, by have : (j 2).val < 128 := (j 2).isLt; omega⟩) fun a => by fin_cases a <;> simp).trans ?_
  trans m ((c : Thread nD τ).loc main_arg1) (ix3 (seq t) (j 1) ⟨h.val * 128 + (j 2).val, by have : (j 2).val < 128 := (j 2).isLt; omega⟩)
  · blk_ext [iblk, V, idx t, seq]
  · rw [h1]; rfl

theorem read_v (h1 : m ((c : Thread nD τ).loc main_arg1) = kv) (off : Fin 3 → ℕ) (inb) (h : Fin 4) (ho : off = ![0, 0, 512 + h.val * 128]) :
    View.ld (iblk m c 1 t : FVec Ideal S1x256x1024 .f32) (Rect.unit off ![1, 256, 128] inb) = fun j => hv kv (seq t) h (j 1) (j 2) := by
  subst ho
  funext j
  refine (View.ld_unit_apply_of _ _ _ inb j (ix3 0 (j 1) ⟨512 + h.val * 128 + (j 2).val, by have : (j 2).val < 128 := (j 2).isLt; omega⟩) fun a => by fin_cases a <;> simp).trans ?_
  trans m ((c : Thread nD τ).loc main_arg1) (ix3 (seq t) (j 1) ⟨512 + (h.val * 128 + (j 2).val), by have : (j 2).val < 128 := (j 2).isLt; omega⟩)
  · blk_ext [iblk, V, idx t, seq]
  · rw [h1]; rfl

/-- What the body stores for a head. -/
theorem piece (h : Fin 4) (Q : FVec Ideal S512x128 .bf16) (K W : FVec Ideal S1x256x128 .f32)
    (hQ : Q = fun j => hq p h (row t (j 0)) (j 1)) (hK : K = fun j => hk kv (seq t) h (j 1) (j 2)) (hW : W = fun j => hv kv (seq t) h (j 1) (j 2))
    (z : S512x128.Idx) (y : S512x512.Idx) (h0 : (y 0 : ℕ) = z 0) (h1 : (y 1 : ℕ) = h.val * 128 + z 1) :
    k0_pay2 (F := Ideal) Q K W z = outs p kv (seq t) (row t (y 0)) (y 1) := by
  subst hQ hK hW
  idx_vars z
  refine (pay _ _ _ z0 z1).trans ?_
  rw [outs_head p kv (seq t) (row t (y 0)) (y 1) h z1 h1, show y 0 = z0 from Fin.ext h0]
  rfl

end blocks

/-- The array after the run. -/
theorem final (c : Dev nD) (h0 : m ((c : Thread nD τ).loc main_arg0) = p) (h1 : m ((c : Thread nD τ).loc main_arg1) = kv) :
    (dats m 0 c).arrAt 2 cfg0.N
      = fun i => outs p kv ⟨(i 0).val / 2048, by have : (i 0).val < 4096 := (i 0).isLt; omega⟩ (i 0) (i 1) := by
  refine (dats m 0 c).arrAt_eq_of_covers 2 _ (by decide +kernel) fun t _ y => ?_
  have e : (((cfg0.win 2).blk t).view.emb y : S4096x512.Idx) = ix2 (row t (y 0)) (y 1) := by blk_ext [idx t, row]
  have es : (⟨(row t (y 0)).val / 2048, by have := (row t (y 0)).isLt; omega⟩ : Fin 2) = seq t := by
    have : (y 0).val < 512 := (y 0).isLt
    exact Fin.ext (by show (t.val * 512 + (y 0).val) / 2048 = t.val / 4; omega)
  trans outs p kv (seq t) (row t (y 0)) (y 1)
  · blk_simp
    rw [after0_2]
    frame_out
    canon_tiles z q
    case piece0 =>
      exact (congrFun (same _ _ _).1 z).trans (piece p kv t 3 _ _ _ (read_q m p c t h0 _ _ 3 rfl) (read_k m kv c t h1 _ _ 3 rfl)
        (read_v m kv c t h1 _ _ 3 rfl) z y (by omega) (by show (y 1 : ℕ) = 3 * 128 + _; omega))
    case piece1 =>
      exact (congrFun (same _ _ _).2.1 z).trans (piece p kv t 2 _ _ _ (read_q m p c t h0 _ _ 2 rfl) (read_k m kv c t h1 _ _ 2 rfl)
        (read_v m kv c t h1 _ _ 2 rfl) z y (by omega) (by show (y 1 : ℕ) = 2 * 128 + _; omega))
    case piece2 =>
      exact (congrFun (same _ _ _).2.2 z).trans (piece p kv t 1 _ _ _ (read_q m p c t h0 _ _ 1 rfl) (read_k m kv c t h1 _ _ 1 rfl)
        (read_v m kv c t h1 _ _ 1 rfl) z y (by omega) (by show (y 1 : ℕ) = 1 * 128 + _; omega))
    case piece3 =>
      exact piece p kv t 0 _ _ _ (read_q m p c t h0 _ _ 0 rfl) (read_k m kv c t h1 _ _ 0 rfl)
        (read_v m kv c t h1 _ _ 0 rfl) z y (by omega) (by show (y 1 : ℕ) = 0 * 128 + _; omega)
  · rw [e, ← es]; rfl

end Cert.AttnFKIdeal.Hand

end
-- ==== Proof.AttnF.Claim.lean ====
/- The attention over the memory, forward: the claim. -/
module

public import proofs.«01_k».proof.Defs
public import proofs.«01_k».proof.Proof.Gen.AttnFRIdeal.Run
public import proofs.«01_k».proof.Proof.Gen.AttnFRIdeal.Read
public import proofs.«01_k».proof.Proof.AttnF.Kernel

@[expose] public section

set_option maxRecDepth 16384

noncomputable section

namespace Cert.AttnFKIdeal.Hand

open Cert.AttnFKIdeal Cert.AttnFKIdeal.Gen Idealize.ShloMosaic Idealize.ShloMosaic.TcCoe Idealize.SL.Sem Cert.AttnFRIdeal.Read

section stages
variable (p : FVec Ideal S4096x6656 .bf16) (kv : FVec Ideal S2x256x1024 .f32)

/-- Row `r` of sequence `b`. -/
def at_ (b : Fin 2) (r : Fin 2048) : Fin 4096 := ⟨b.val * 2048 + r.val, by omega⟩

variable (b : Fin 2) (h : Fin 4) (r : Fin 2048) (j : Fin 256)

theorem ref_score : val_main_v10 (F := Ideal) p kv (ix4 b h r j) = score (hq p h (at_ b r)) (hk kv b h) j := by
  pointwise [val_main_v0, val_main_v1, val_main_v2, val_main_v3, val_main_v5, val_main_v7, val_main_v8, val_main_v9,
    val_main_v10, val_main_cst]
  rfl

theorem lit_bot : Ideal.ofBits .f32 0xFF800000#32 = ⊥ := by
  simp [Ideal.ofBits, Ideal.ieee]

/-- The row's maximum, once more against minus infinity. -/
theorem ref_top : val_main_v13 (F := Ideal) p kv (ix3 b h r) = top (score (hq p h (at_ b r)) (hk kv b h)) := by
  have ht : val_main_v11 (F := Ideal) p kv (ix3 b h r) = top (score (hq p h (at_ b r)) (hk kv b h)) := by
    pointwise [val_main_v11, val_main_cst_0]
    simp only [ref_score]
    rfl
  rw [val_main_v13_apply, ht, val_main_v12_apply]
  exact (congrArg (fun x : EReal => max x _) lit_bot).trans (max_eq_right bot_le)

theorem ref_exp : val_main_v17 (F := Ideal) p kv (ix4 b h r j)
    = Ideal.exp (score (hq p h (at_ b r)) (hk kv b h) j - top (score (hq p h (at_ b r)) (hk kv b h))) := by
  have hi : idx_main_v14 (idx_main_v15 (ix4 b h r j)) = ix3 b h r := by
    funext a; fin_cases a <;> rfl
  rw [val_main_v17_apply, val_main_v16_apply, val_main_v15_apply, val_main_v14_apply, hi, ref_top, ref_score]
  rfl

theorem ref_soft : val_main_v21 (F := Ideal) p kv (ix4 b h r j) = soft (score (hq p h (at_ b r)) (hk kv b h)) j := by
  have he := fun j => ref_exp p kv b h r j
  unfold val_main_v21 val_main_v20 val_main_v19 val_main_v18
  generalize val_main_v17 (F := Ideal) p kv = y at he ⊢
  pointwise [val_main_cst_2]
  simp only [he]
  rfl

end stages

/-- What the forward lines compute. -/
theorem ref_out (p : FVec Ideal S4096x6656 .bf16) (kv : FVec Ideal S2x256x1024 .f32) (r : Fin 4096) (l : Fin 512) :
    val_main_v26 (F := Ideal) p kv (ix2 r l) = outs p kv ⟨r.val / 2048, by omega⟩ r l := by
  have hs := fun b h r j => ref_soft p kv b h r j
  unfold val_main_v26 val_main_v25 val_main_v24 val_main_v23 val_main_v22
  generalize val_main_v21 (F := Ideal) p kv = y at hs ⊢
  pointwise [val_main_v4, val_main_v6]
  simp only [hs]
  have er : at_ ⟨r.val / 2048, by omega⟩ ⟨r.val % 2048, by omega⟩ = r := Fin.ext (by show r.val / 2048 * 2048 + r.val % 2048 = r.val; omega)
  unfold outs out head
  refine Finset.sum_congr rfl fun j _ => ?_
  rw [er]
  refine (mul_comm _ _).trans (congrArg _ (congrArg (fun c => kv (ix3 _ j c)) (Fin.ext ?_)))
  show 512 + l.val = 512 + (l.val / 128 * 128 + l.val % 128)
  omega

variable (m : (ℓ : Loc nD τ sig) → Buf (Elt Ideal) ℓ)

/-- The pair's claim: both programs run and leave the same array. -/
theorem value : Cert.algebraic_AttnFKIdeal_AttnFRIdeal := by
  intro m g m' g' _ hagree
  refine ⟨_, Value.run_blocks m g, ?_⟩
  refine (θ_run _ _ _).mono (fun r h c => ?_) (Cert.AttnFRIdeal.Value.run m' g')
  obtain ⟨r0, ha⟩ := h c
  obtain ⟨e0, e1⟩ := hagree c
  refine ⟨r0.trans ?_, ha⟩
  rw [final m _ _ c rfl rfl]
  refine (Cert.AttnFRIdeal.Read.val_main_v26_eq _ _).trans ?_
  rw [e0, e1]
  funext i; idx_vars i
  exact ref_out _ _ _ _

end Cert.AttnFKIdeal.Hand

end
-- ==== Proof.Shared.Normed.lean ====
/- A row divided by its root mean square, on extended reals as they come. -/
module

public import Idealize.ShloMosaic.Lib.Pointwise

@[expose] public section

noncomputable section

namespace Cert.Hand

open Idealize.ShloMosaic

/-- The row `x`, normalised and scaled by `g`, in the order in which both programs multiply. -/
def normed (x g : Fin 1024 → EReal) (j : Fin 1024) : EReal :=
  x j * Ideal.rsqrt (Ideal.div (∑ k, x k * x k) (Ideal.ofBits .f32 0x44800000#32) + Ideal.ofBits .f32 0x358637BD#32) * g j

end Cert.Hand

end
-- ==== Proof.NormF.Claim.lean ====
/- The norm of the memory, forward: the claim. -/
module

public import proofs.«01_k».proof.Defs
public import proofs.«01_k».proof.Proof.Gen.NormFKIdeal.Value
public import proofs.«01_k».proof.Proof.Gen.NormFRIdeal.Run
public import proofs.«01_k».proof.Proof.Gen.NormFRIdeal.Read
public import proofs.«01_k».proof.Proof.Shared.Normed
public import Idealize.ShloMosaic.Lib.Pointwise
public import Idealize.ShloMosaic.Lib.Pipeline.ValueKit
public import Idealize.ShloMosaic.Lib.Claim

@[expose] public section

set_option maxRecDepth 16384

noncomputable section

namespace Cert.NormFKIdeal.Hand

open Cert.Hand Cert.NormFKIdeal Cert.NormFKIdeal.Gen Idealize.ShloMosaic Idealize.ShloMosaic.TcCoe Idealize.SL.Sem

theorem idx : ∀ t : Fin cfg0.N, win0_0.index t = ![0, 0] ∧ win0_1.index t = ![0, 0] ∧ win0_2.index t = ![0, 0] :=
  (by decide +kernel : ∀ t : Fin grid0.N, _)

/-- The normalised memory. -/
def memn (x : FVec Ideal S512x1024 .f32) (g : FVec Ideal S1x1024 .f32) (r : Fin 512) (j : Fin 1024) : EReal :=
  normed (fun k => x (ix2 r k)) (fun k => g (ix2 0 k)) j

theorem pay (x : FVec Ideal S512x1024 .f32) (g : FVec Ideal S1x1024 .f32) (r : Fin 512) (j : Fin 1024) :
    k0_pay1 (F := Ideal) x g (ix2 r j) = memn x g r j := by
  pointwise [k0_pay1]
  rfl

theorem ref (x : FVec Ideal S512x1024 .f32) (g : FVec Ideal S1x1024 .f32) (r : Fin 512) (j : Fin 1024) :
    Cert.NormFRIdeal.Read.val_main_v12 (F := Ideal) x g (ix2 r j) = memn x g r j := by
  open Cert.NormFRIdeal.Read in
  pointwise [val_main_v0, val_main_v1, val_main_v2, val_main_v3, val_main_v4, val_main_v5, val_main_v6, val_main_v7, val_main_v8,
    val_main_v9, val_main_v10, val_main_v11, val_main_v12, val_main_cst, val_main_cst_0, val_main_cst_1]
  rfl

variable (m : (ℓ : Loc nD τ sig) → Buf (Elt Ideal) ℓ)

/-- The array after the run. -/
theorem final (c : Dev nD) : (dats m 0 c).arrAt 2 cfg0.N
    = fun i => memn (m ((c : Thread nD τ).loc main_arg0)) (m ((c : Thread nD τ).loc main_arg1)) (i 0) (i 1) := by
  refine (dats m 0 c).arrAt_eq_of_covers 2 _ (by decide +kernel) fun t _ y => ?_
  have e : (((cfg0.win 2).blk t).view.emb y : S512x1024.Idx) = ix2 (y 0) (y 1) := by blk_ext [idx t]
  have e0 : (iblk m c 0 t : FVec Ideal S512x1024 .f32) = m ((c : Thread nD τ).loc main_arg0) := by
    funext z; blk_ext [iblk, V, idx t]
  have e1 : (iblk m c 1 t : FVec Ideal S1x1024 .f32) = m ((c : Thread nD τ).loc main_arg1) := by
    funext z; blk_ext [iblk, V, idx t]
  rw [e]
  blk_simp
  rw [after0_2]
  frame_out
  rw [e0, e1]
  idx_vars y
  exact pay _ _ _ _

/-- The pair's claim: both programs run and leave the same array. -/
theorem value : Cert.algebraic_NormFKIdeal_NormFRIdeal := by
  intro m g m' g' _ hagree
  refine ⟨_, Value.run_blocks m g, ?_⟩
  refine (θ_run _ _ _).mono (fun r h c => ?_) (Cert.NormFRIdeal.Value.run m' g')
  obtain ⟨r0, ha⟩ := h c
  obtain ⟨e0, e1⟩ := hagree c
  refine ⟨r0.trans ?_, ha⟩
  rw [final m c]
  refine (Cert.NormFRIdeal.Read.val_main_v12_eq _ _).trans ?_
  rw [e0, e1]
  funext i; idx_vars i
  exact ref _ _ _ _

end Cert.NormFKIdeal.Hand

end
-- ==== Proof.GmlpF.Kernel.lean ====
/- The gated spatial unit, forward: what the kernel's blocks hold, on extended reals as they come. -/
module

public import proofs.«01_k».proof.Proof.Gen.GmlpFKIdeal.Value
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.GmlpFKIdeal.Hand

open Cert.GmlpFKIdeal Cert.GmlpFKIdeal.Gen Idealize.ShloMosaic Idealize.ShloMosaic.TcCoe Idealize.SL.Sem
open Idealize.ShloMosaic.Pipeline (Dat)

/-! ## What is computed -/

/-- The tanh form of the Gaussian error unit, … -/
def gelu (x : EReal) : EReal :=
  x * (Ideal.ofBits .f32 0x3F000000#32 * (1
    + Ideal.tanh (Ideal.ofBits .f32 0x3F4C422A#32 * (x + Ideal.ofBits .f32 0x3D372713#32 * (x * (x * x))))))

/-- … the mean of a row and … -/
def mean (x : Fin 512 → EReal) : EReal := Ideal.div (∑ k, x k) (Ideal.ofBits .f32 0x44000000#32)

/-- … its layer norm. -/
def layered (x g b : Fin 512 → EReal) (j : Fin 512) : EReal :=
  (x j - mean x) * Ideal.rsqrt (mean (fun k => (x k - mean x) * (x k - mean x)) + Ideal.ofBits .f32 0x358637BD#32) * g j + b j

/-- A feature's group, … -/
def hd (j : Fin 512) : Fin 4 := ⟨j.val / 128, by omega⟩

/-- … a row's place in its chunk, … -/
def lo (r : Fin 4096) : Fin 128 := ⟨r.val % 128, by omega⟩

/-- … and the row at a place of the same chunk. -/
def sib (r : Fin 4096) (s : Fin 128) : Fin 4096 := ⟨r.val / 128 * 128 + s.val, by omega⟩

section spec
variable (p : FVec Ideal S4096x6656 .bf16) (lg lb : FVec Ideal S1x512 .f32) (w : FVec Ideal S4x128x128 .f32) (b : FVec Ideal S4x128 .f32)
variable (r : Fin 4096) (j : Fin 512)

/-- The gating half, … -/
def gate : EReal := gelu (p (ix2 r ⟨j.val, by omega⟩))

/-- … the mixed half's row, normed, … -/
def vn : EReal := layered (fun k => gelu (p (ix2 r ⟨512 + k.val, by omega⟩))) (fun k => lg (ix2 0 k)) (fun k => lb (ix2 0 k)) j

/-- … the mixing weight, the present and the past only, … -/
def wc (g : Fin 4) (t s : Fin 128) : EReal := if s ≤ t then w (ix3 g t s) else 0

/-- … and the chunk mixed along its rows, gated. -/
def out : EReal := gate p r j * (∑ s : Fin 128, wc w (hd j) (lo r) s * vn p lg lb (sib r s) j + b (ix2 (hd j) (lo r)))

end spec

/-! ## A tile of a body -/

/-- A place in a body's rows or features: place `k` of tile `n`. -/
def at4 (n : Fin 4) (k : Fin 128) : Fin 512 := ⟨128 * n.val + k.val, by omega⟩

theorem sl (n g : Fin 4) : S512x512.Slices ![128 * n.val, 128 * g.val] S128x128 := by
  revert n g
  decide +kernel

/-- What the body stores in tile `(n, g)`. -/
def tile (U N : FVec Ideal S512x512 .f32) (W : FVec Ideal S128x128 .f32) (B : FVec Ideal S128x1 .f32) (n g : Fin 4) : FVec Ideal S128x128 .bf16 :=
  truncf .bf16 (mulf (extractStridedSlice S128x128 _ U (sl n g))
    (addf (matmul dot_S128x128_S128x128_S128x128_1_0_0_1_n_n none (truncf .bf16 W bitsLt_bf16_f32)
        (truncf .bf16 (extractStridedSlice S128x128 _ N (sl n g)) bitsLt_bf16_f32) (constant S128x128 .f32 0x00000000#32))
      (broadcastTo S128x128 (shapeCast S128x1 B shapeCasts_S128x1_S128x1) broadcasts_S128x1_S128x128))) bitsLt_bf16_f32

theorem tile_read (U N : FVec Ideal S512x512 .f32) (W : FVec Ideal S128x128 .f32) (B : FVec Ideal S128x1 .f32) (n g : Fin 4) (r c : Fin 128) :
    tile U N W B n g (ix2 r c)
      = U (ix2 (at4 n r) (at4 g c)) * (∑ s : Fin 128, W (ix2 r s) * N (ix2 (at4 n s) (at4 g c)) + B (ix2 r 0)) := by
  pointwise [tile]
  rfl

section body
variable (P : FVec Ideal S512x1024 .bf16) (G B : FVec Ideal S1x512 .f32) (W : FVec Ideal S1x128x128 .f32) (C : FVec Ideal S128x1 .f32)

/-- The rows the body norms. -/
abbrev normed : FVec Ideal S512x512 .f32 :=
  k0_pay9 (F := Ideal) G B (k0_pay6 (F := Ideal) P) (k0_pay7 (F := Ideal) P) (k0_pay8 (F := Ideal) P) (Scalar.ofBits .f32 0x44000000#32)

/-- A group's weight under the mask. -/
abbrev masked : FVec Ideal S128x128 .f32 := k0_pay11 (F := Ideal) W

/-- A tile over the blocks the body loads. -/
abbrev put (n g : Fin 4) : FVec Ideal S128x128 .bf16 := tile (k0_pay5 (F := Ideal) P) (normed P G B) (masked W) C n g

/-- The sixteen stores are one text. -/
theorem same0 : k0_pay12 (F := Ideal) G B (k0_pay5 (F := Ideal) P) (k0_pay6 (F := Ideal) P) (k0_pay7 (F := Ideal) P) (k0_pay8 (F := Ideal) P)
        (Scalar.ofBits .f32 0x44000000#32) W C = put P G B W C 0 0
    ∧ k0_pay15 (F := Ideal) (k0_pay13 (F := Ideal) G B (k0_pay6 (F := Ideal) P) (k0_pay7 (F := Ideal) P) (k0_pay8 (F := Ideal) P)
        (Scalar.ofBits .f32 0x44000000#32) W C) (k0_pay14 (F := Ideal) (k0_pay5 (F := Ideal) P)) = put P G B W C 1 0
    ∧ k0_pay16 (F := Ideal) (k0_pay5 (F := Ideal) P) (normed P G B) (masked W) C = put P G B W C 2 0
    ∧ k0_pay17 (F := Ideal) (k0_pay5 (F := Ideal) P) (normed P G B) (masked W) C = put P G B W C 3 0 := ⟨rfl, rfl, rfl, rfl⟩

theorem same1 : k0_pay21 (F := Ideal) (k0_pay5 (F := Ideal) P) (k0_pay19 (F := Ideal) (normed P G B) (k0_pay10 (F := Ideal)) W) (k0_pay20 (F := Ideal) C)
        = put P G B W C 0 1
    ∧ k0_pay22 (F := Ideal) (k0_pay5 (F := Ideal) P) (normed P G B) (k0_pay18 (F := Ideal) (k0_pay10 (F := Ideal)) W) C = put P G B W C 1 1
    ∧ k0_pay23 (F := Ideal) (k0_pay5 (F := Ideal) P) (normed P G B) (k0_pay18 (F := Ideal) (k0_pay10 (F := Ideal)) W) C = put P G B W C 2 1
    ∧ k0_pay24 (F := Ideal) (k0_pay5 (F := Ideal) P) (normed P G B) (k0_pay18 (F := Ideal) (k0_pay10 (F := Ideal)) W) C = put P G B W C 3 1 :=
  ⟨rfl, rfl, rfl, rfl⟩

theorem same2 : k0_pay26 (F := Ideal) (k0_pay5 (F := Ideal) P) (normed P G B) (k0_pay10 (F := Ideal)) W C = put P G B W C 0 2
    ∧ k0_pay27 (F := Ideal) (k0_pay5 (F := Ideal) P) (normed P G B) (k0_pay10 (F := Ideal)) W C = put P G B W C 1 2
    ∧ k0_pay28 (F := Ideal) (k0_pay5 (F := Ideal) P) (normed P G B) (k0_pay10 (F := Ideal)) W C = put P G B W C 2 2
    ∧ k0_pay29 (F := Ideal) (k0_pay5 (F := Ideal) P) (normed P G B) (k0_pay25 (F := Ideal) (k0_pay10 (F := Ideal)) W) C = put P G B W C 3 2 :=
  ⟨rfl, rfl, rfl, rfl⟩

theorem same3 : k0_pay31 (F := Ideal) (k0_pay5 (F := Ideal) P) (normed P G B) (k0_pay10 (F := Ideal)) W C = put P G B W C 0 3
    ∧ k0_pay1 (F := Ideal) (k0_pay32 (F := Ideal) (normed P G B) (k0_pay10 (F := Ideal)) W C) (k0_pay33 (F := Ideal) (k0_pay5 (F := Ideal) P))
        = put P G B W C 1 3
    ∧ k0_pay2 (F := Ideal) (k0_pay5 (F := Ideal) P) (normed P G B) (k0_pay30 (F := Ideal) (k0_pay10 (F := Ideal)) W) C = put P G B W C 2 3
    ∧ k0_pay3 (F := Ideal) (k0_pay5 (F := Ideal) P) (normed P G B) (k0_pay30 (F := Ideal) (k0_pay10 (F := Ideal)) W) C = put P G B W C 3 3 :=
  ⟨rfl, rfl, rfl, rfl⟩

theorem pay_u (r j : Fin 512) : k0_pay5 (F := Ideal) P (ix2 r j) = gelu (P (ix2 r ⟨j.val, by omega⟩)) := by
  pointwise [k0_pay5, k0_pay4]
  rfl

theorem pay_v (r j : Fin 512) : k0_pay6 (F := Ideal) P (ix2 r j) = gelu (P (ix2 r ⟨512 + j.val, by omega⟩)) := by
  pointwise [k0_pay6, k0_pay4]
  rfl

theorem pay_n (r j : Fin 512) :
    normed P G B (ix2 r j) = layered (fun k => gelu (P (ix2 r ⟨512 + k.val, by omega⟩))) (fun k => G (ix2 0 k)) (fun k => B (ix2 0 k)) j := by
  have hv := pay_v P
  unfold normed k0_pay9 k0_pay8 k0_pay7
  generalize k0_pay6 (F := Ideal) P = y at hv ⊢
  pointwise []
  simp only [hv]
  rfl

/-- The mask of the past. -/
theorem past : ∀ t s : Fin 128, IntOp.cmpi .sle (BitVec.ofNat 32 s.val) (BitVec.ofNat 32 t.val) = if s ≤ t then 1#1 else 0#1 := by
  decide +kernel

theorem pay_mask (t s : Fin 128) : k0_pay10 (F := Ideal) (ix2 t s) = if s ≤ t then 1#1 else 0#1 := by
  pointwise [k0_pay10]
  rw [past]
  have h1 : FloatOps.sitofp (F := Ideal) FTy.f32 (BitVec.setWidth 32 (1#1)) = (1 : EReal) := by
    show (((BitVec.setWidth 32 (1#1)).toInt : ℝ) : EReal) = 1
    rw [show (BitVec.setWidth 32 (1#1)).toInt = 1 by decide]; norm_num
  have h0 : FloatOps.sitofp (F := Ideal) FTy.f32 (BitVec.setWidth 32 (0#1)) = (0 : EReal) := by
    show (((BitVec.setWidth 32 (0#1)).toInt : ℝ) : EReal) = 0
    rw [show (BitVec.setWidth 32 (0#1)).toInt = 0 by decide]; norm_num
  split_ifs
  · rw [h1]; simp
  · rw [h0]; simp

theorem pay_w (t s : Fin 128) : masked W (ix2 t s) = if s ≤ t then W (ix3 0 t s) else 0 := by
  pointwise [masked, k0_pay11, pay_mask]
  by_cases h : s ≤ t
  · simp only [if_pos h]; rfl
  · simp only [if_neg h]; rfl

end body

/-! ## The blocks -/

theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] :=
  (by decide +kernel : ∀ t : Fin grid0.N, _)

/-- Row `r` of block `t`. -/
def row (t : Fin cfg0.N) (r : Fin 512) : Fin 4096 := ⟨t.val * 512 + r.val, by have := t.isLt; have := r.isLt; have : cfg0.N = 8 := rfl; omega⟩

section reads
variable (m : (ℓ : Loc nD τ sig) → Buf (Elt Ideal) ℓ)
variable (p : FVec Ideal S4096x6656 .bf16) (lg lb : FVec Ideal S1x512 .f32) (w : FVec Ideal S4x128x128 .f32) (b : FVec Ideal S4x128 .f32)
variable (c : Dev nD) (t : Fin cfg0.N)

/-- The block of the projection. -/
def bp : FVec Ideal S512x1024 .bf16 := fun i => p (ix2 (row t (i 0)) ⟨(i 1).val, by have : (i 1).val < 1024 := (i 1).isLt; omega⟩)

theorem read_p (h : m ((c : Thread nD τ).loc main_arg0) = p) : (X0_0 m c t : FVec Ideal S512x1024 .bf16) = bp p t := by
  funext j
  trans m ((c : Thread nD τ).loc main_arg0) (ix2 (row t (j 0)) ⟨(j 1).val, by have : (j 1).val < 1024 := (j 1).isLt; omega⟩)
  · refine (dif_pos (moved0_0 t j)).trans ?_
    blk_ext [iblk, V, idx t, row]
  · rw [h]; rfl

theorem read_lg (h : m ((c : Thread nD τ).loc main_arg1) = lg) : (iblk m c 1 t : FVec Ideal S1x512 .f32) = lg := by
  subst h
  funext j
  blk_ext [iblk, V, idx t]

theorem read_lb (h : m ((c : Thread nD τ).loc main_arg2) = lb) : (iblk m c 2 t : FVec Ideal S1x512 .f32) = lb := by
  subst h
  funext j
  blk_ext [iblk, V, idx t]

theorem read_w (h : m ((c : Thread nD τ).loc main_arg3) = w) (off : Fin 3 → ℕ) (inb) (g : Fin 4) (ho : off = ![g.val, 0, 0]) :
    View.ld (iblk m c 3 t : FVec Ideal S4x128x128 .f32) (Rect.unit off ![1, 128, 128] inb) = fun j => w (ix3 g (j 1) (j 2)) := by
  subst ho h
  funext j
  refine (View.ld_unit_apply_of _ _ _ inb j (ix3 g (j 1) (j 2)) fun a => by fin_cases a <;> simp).trans ?_
  blk_ext [iblk, V, idx t]

theorem read_b (h : m ((c : Thread nD τ).loc main_arg4) = b) (off : Fin 2 → ℕ) (inb) (g : Fin 4) (ho : off = ![0, g.val]) :
    View.ld (iblk m c 4 t : FVec Ideal S128x128 .f32) (Rect.unit off ![128, 1] inb) = fun j => b (ix2 g (j 0)) := by
  subst ho
  funext j
  refine (View.ld_unit_apply_of _ _ _ inb j (ix2 (j 0) ⟨g.val, by omega⟩) fun a => by fin_cases a <;> simp).trans ?_
  have e : V m c main_v1 = pad S128x128 ![0, 0] ![0, 124] ![0, 0] (transpose S128x4 [1, 0] (m ((c : Thread nD τ).loc main_arg4)) transposes_S4x128_S128x4_1_0)
      (sitofp (F := Ideal) .f32 (constantI S_ 32 0#32)) pads_S128x4_S128x128_000_01240 h_S_ := by
    unfold V
    simp only [hostOps0, hostOps0_1, List.flatten_cons, List.flatten_nil, List.append_nil, List.cons_append, List.nil_append]
    entry_read
    rfl
  trans (V m c main_v1 : FVec Ideal S128x128 .f32) (ix2 (j 0) ⟨g.val, by omega⟩)
  · blk_ext [iblk, idx t]
  · rw [e, h]
    generalize j 0 = s
    fin_cases g <;> pointwise [] <;> rfl

/-- What the body stores in a tile, over the arguments. -/
theorem piece (n g : Fin 4) (P : FVec Ideal S512x1024 .bf16) (G B : FVec Ideal S1x512 .f32) (W : FVec Ideal S1x128x128 .f32) (C : FVec Ideal S128x1 .f32)
    (hP : P = bp p t) (hG : G = lg) (hB : B = lb) (hW : W = fun j => w (ix3 g (j 1) (j 2))) (hC : C = fun j => b (ix2 g (j 0)))
    (z : S128x128.Idx) (y : S512x512.Idx) (h0 : (y 0 : ℕ) = 128 * n.val + z 0) (h1 : (y 1 : ℕ) = 128 * g.val + z 1) :
    put P G B W C n g z = out p lg lb w b (row t (y 0)) (y 1) := by
  subst hP hG hB hW hC
  have hz0 : (z 0).val < 128 := (z 0).isLt
  have hz1 : (z 1).val < 128 := (z 1).isLt
  have e0 : y 0 = at4 n (z 0) := Fin.ext h0
  have e1 : y 1 = at4 g (z 1) := Fin.ext h1
  have eg : hd (at4 g (z 1)) = g := Fin.ext (by simp only [hd, at4]; omega)
  have el : lo (row t (at4 n (z 0))) = z 0 := Fin.ext (by simp only [lo, row, at4]; omega)
  have es : ∀ s, sib (row t (at4 n (z 0))) s = row t (at4 n s) := fun s => Fin.ext (by simp only [sib, row, at4]; omega)
  rw [e0, e1]
  idx_vars z
  refine (tile_read _ _ _ _ n g z0 z1).trans ?_
  rw [pay_u]
  simp only [pay_w, pay_n]
  unfold out
  rw [eg, el]
  simp only [es]
  rfl

end reads

end Cert.GmlpFKIdeal.Hand

end
-- ==== Proof.GmlpF.Claim.lean ====
/- The gated spatial unit, forward: the forward lines compute what the blocks hold. -/
module

public import proofs.«01_k».proof.Defs
public import proofs.«01_k».proof.Proof.Gen.GmlpFRIdeal.Run
public import proofs.«01_k».proof.Proof.Gen.GmlpFRIdeal.Read
public import proofs.«01_k».proof.Proof.GmlpF.Kernel
public import proofs.«01_k».proof.Proof.Shared.Real

@[expose] public section

set_option maxRecDepth 16384

noncomputable section

namespace Cert.GmlpFKIdeal.Hand

open Cert.Hand Cert.GmlpFKIdeal Cert.GmlpFKIdeal.Gen Idealize.ShloMosaic Idealize.ShloMosaic.TcCoe Idealize.SL.Sem Cert.GmlpFRIdeal.Read
open Idealize.ShloMosaic.Pipeline (Dat)

/-! ## The array after the run -/

section run
variable (m : (ℓ : Loc nD τ sig) → Buf (Elt Ideal) ℓ)
variable (p : FVec Ideal S4096x6656 .bf16) (lg lb : FVec Ideal S1x512 .f32) (w : FVec Ideal S4x128x128 .f32) (b : FVec Ideal S4x128 .f32)

set_option maxHeartbeats 1600000 in
theorem final (c : Dev nD) (hp : m ((c : Thread nD τ).loc main_arg0) = p) (hg : m ((c : Thread nD τ).loc main_arg1) = lg)
    (hb : m ((c : Thread nD τ).loc main_arg2) = lb) (hw : m ((c : Thread nD τ).loc main_arg3) = w) (hc : m ((c : Thread nD τ).loc main_arg4) = b) :
    (dats m 0 c).arrAt 5 cfg0.N = fun i => out p lg lb w b (i 0) (i 1) := by
  refine (dats m 0 c).arrAt_eq_of_covers 5 _ (by decide +kernel) fun t _ y => ?_
  have e : (((cfg0.win 5).blk t).view.emb y : S4096x512.Idx) = ix2 (row t (y 0)) (y 1) := by blk_ext [idx t, row]
  trans out p lg lb w b (row t (y 0)) (y 1)
  · have P := read_p m p c t hp
    have G := read_lg m lg c t hg
    have B := read_lb m lb c t hb
    have W := read_w m w c t hw
    have C := read_b m b c t hc
    blk_simp
    rw [after0_5]
    unfold outsAt0
    frame_out
    canon_tiles z q
    case piece0 => exact (congrFun (same3 _ _ _ _ _).2.2.2 z).trans (piece p lg lb w b t 3 3 _ _ _ _ _ P G B (W _ _ 3 rfl) (C _ _ 3 rfl) z y (by omega) (by omega))
    case piece1 => exact (congrFun (same3 _ _ _ _ _).2.2.1 z).trans (piece p lg lb w b t 2 3 _ _ _ _ _ P G B (W _ _ 3 rfl) (C _ _ 3 rfl) z y (by omega) (by omega))
    case piece2 => exact (congrFun (same3 _ _ _ _ _).2.1 z).trans (piece p lg lb w b t 1 3 _ _ _ _ _ P G B (W _ _ 3 rfl) (C _ _ 3 rfl) z y (by omega) (by omega))
    case piece3 => exact (congrFun (same3 _ _ _ _ _).1 z).trans (piece p lg lb w b t 0 3 _ _ _ _ _ P G B (W _ _ 3 rfl) (C _ _ 3 rfl) z y (by omega) (by omega))
    case piece4 => exact (congrFun (same2 _ _ _ _ _).2.2.2 z).trans (piece p lg lb w b t 3 2 _ _ _ _ _ P G B (W _ _ 2 rfl) (C _ _ 2 rfl) z y (by omega) (by omega))
    case piece5 => exact (congrFun (same2 _ _ _ _ _).2.2.1 z).trans (piece p lg lb w b t 2 2 _ _ _ _ _ P G B (W _ _ 2 rfl) (C _ _ 2 rfl) z y (by omega) (by omega))
    case piece6 => exact (congrFun (same2 _ _ _ _ _).2.1 z).trans (piece p lg lb w b t 1 2 _ _ _ _ _ P G B (W _ _ 2 rfl) (C _ _ 2 rfl) z y (by omega) (by omega))
    case piece7 => exact (congrFun (same2 _ _ _ _ _).1 z).trans (piece p lg lb w b t 0 2 _ _ _ _ _ P G B (W _ _ 2 rfl) (C _ _ 2 rfl) z y (by omega) (by omega))
    case piece8 => exact (congrFun (same1 _ _ _ _ _).2.2.2 z).trans (piece p lg lb w b t 3 1 _ _ _ _ _ P G B (W _ _ 1 rfl) (C _ _ 1 rfl) z y (by omega) (by omega))
    case piece9 => exact (congrFun (same1 _ _ _ _ _).2.2.1 z).trans (piece p lg lb w b t 2 1 _ _ _ _ _ P G B (W _ _ 1 rfl) (C _ _ 1 rfl) z y (by omega) (by omega))
    case piece10 => exact (congrFun (same1 _ _ _ _ _).2.1 z).trans (piece p lg lb w b t 1 1 _ _ _ _ _ P G B (W _ _ 1 rfl) (C _ _ 1 rfl) z y (by omega) (by omega))
    case piece11 => exact (congrFun (same1 _ _ _ _ _).1 z).trans (piece p lg lb w b t 0 1 _ _ _ _ _ P G B (W _ _ 1 rfl) (C _ _ 1 rfl) z y (by omega) (by omega))
    case piece12 => exact (congrFun (same0 _ _ _ _ _).2.2.2 z).trans (piece p lg lb w b t 3 0 _ _ _ _ _ P G B (W _ _ 0 rfl) (C _ _ 0 rfl) z y (by omega) (by omega))
    case piece13 => exact (congrFun (same0 _ _ _ _ _).2.2.1 z).trans (piece p lg lb w b t 2 0 _ _ _ _ _ P G B (W _ _ 0 rfl) (C _ _ 0 rfl) z y (by omega) (by omega))
    case piece14 => exact (congrFun (same0 _ _ _ _ _).2.1 z).trans (piece p lg lb w b t 1 0 _ _ _ _ _ P G B (W _ _ 0 rfl) (C _ _ 0 rfl) z y (by omega) (by omega))
    case piece15 => exact (congrFun (same0 _ _ _ _ _).1 z).trans (piece p lg lb w b t 0 0 _ _ _ _ _ P G B (W _ _ 0 rfl) (C _ _ 0 rfl) z y (by omega) (by omega))
  · rw [e]; rfl

end run

/-! ## The forward lines -/

/-- A row's chunk, … -/
def chunkOf (r : Fin 4096) : Fin 32 := ⟨r.val / 128, by omega⟩

/-- … and a feature's place in its group. -/
def place (j : Fin 512) : Fin 128 := ⟨j.val % 128, by omega⟩

theorem split_row (r : Fin 4096) (s : Fin 128) (j : Fin 512) : idx_main_v52 (ix4 (chunkOf r) s (hd j) (place j)) = ix2 (sib r s) j := by
  funext a
  match a with
  | ⟨0, _⟩ => exact Fin.ext (show (((r.val / 128 * 128 + s.val) * 4 + j.val / 128) * 128 + j.val % 128) / 512 = r.val / 128 * 128 + s.val by omega)
  | ⟨1, _⟩ => exact Fin.ext (show (((r.val / 128 * 128 + s.val) * 4 + j.val / 128) * 128 + j.val % 128) % 512 = j.val by omega)

theorem join_row (r : Fin 4096) (j : Fin 512) : idx_main_v63 (ix2 r j) = ix4 (chunkOf r) (lo r) (hd j) (place j) := by
  funext a
  match a with
  | ⟨0, _⟩ => exact Fin.ext (show (r.val * 512 + j.val) / 65536 = r.val / 128 by omega)
  | ⟨1, _⟩ => exact Fin.ext (show (r.val * 512 + j.val) / 512 % 128 = r.val % 128 by omega)
  | ⟨2, _⟩ => exact Fin.ext (show (r.val * 512 + j.val) / 128 % 4 = j.val / 128 by omega)
  | ⟨3, _⟩ => exact Fin.ext (show (r.val * 512 + j.val) % 128 = j.val % 128 by omega)

section lines
variable (p : FVec Ideal S4096x6656 .bf16) (lg lb : FVec Ideal S1x512 .f32) (w : FVec Ideal S4x128x128 .f32) (b : FVec Ideal S4x128 .f32)
variable (r : Fin 4096) (j : Fin 512)

/-- The unit with the cube the other way round. -/
theorem gelu_read (x : EReal) : x * (Ideal.ofBits .f32 0x3F000000#32 * (Ideal.ofBits .f32 0x3F800000#32
      + Ideal.tanh (Ideal.ofBits .f32 0x3F4C422A#32 * (x + Ideal.ofBits .f32 0x3D372713#32 * (x * x * x))))) = gelu x := by
  have h1 : Ideal.ofBits .f32 0x3F800000#32 = 1 := lit_one.trans EReal.coe_one
  unfold gelu
  rw [mul_comm (x * x) x, h1]

theorem ref_gate : val_main_v16 (F := Ideal) p (ix2 r j) = gate p r j := by
  have h : val_main_v2 (F := Ideal) p (ix2 r j) = p (ix2 r ⟨j.val, by omega⟩) := by
    pointwise [val_main_v2, val_main_v1, val_main_v0]
  unfold gate
  rw [← gelu_read, ← h]
  rfl

theorem ref_row : val_main_v29 (F := Ideal) p (ix2 r j) = gelu (p (ix2 r ⟨512 + j.val, by omega⟩)) := by
  have h : val_main_v3 (F := Ideal) p (ix2 r j) = p (ix2 r ⟨512 + j.val, by omega⟩) := by
    pointwise [val_main_v3, val_main_v1, val_main_v0]
  rw [← gelu_read, ← h]
  rfl

/-- The rows the lines norm. -/
abbrev grow : Fin 512 → EReal := fun k => gelu (p (ix2 r ⟨512 + k.val, by omega⟩))

theorem ref_mean (o : Fin 1) : val_main_v33 (F := Ideal) p (ix2 r o) = mean (grow p r) := by
  have h := ref_row p r
  unfold val_main_v33 val_main_v31 val_main_v30
  generalize val_main_v29 (F := Ideal) p = y at h ⊢
  pointwise [val_main_v32, val_main_cst_7, val_main_cst_8]
  simp only [h]
  rfl

theorem ref_off : val_main_v42 (F := Ideal) p (ix2 r j) = grow p r j - mean (grow p r) := by
  have hi : idx_main_v41 (ix2 r j) = ix2 r 0 := by funext a; fin_cases a <;> rfl
  rw [val_main_v42_apply, val_main_v41_apply, hi, ref_mean, ref_row]
  rfl

theorem ref_var (o : Fin 1) : val_main_v40 (F := Ideal) p (ix2 r o) = mean (fun k => (grow p r k - mean (grow p r)) * (grow p r k - mean (grow p r))) := by
  have h : ∀ j, val_main_v35 (F := Ideal) p (ix2 r j) = grow p r j - mean (grow p r) := ref_off p r
  unfold val_main_v40 val_main_v38 val_main_v37 val_main_v36
  generalize val_main_v35 (F := Ideal) p = y at h ⊢
  pointwise [val_main_v39, val_main_cst_9, val_main_cst_10]
  simp only [h]
  rfl

theorem ref_vn : val_main_v51 (F := Ideal) p lg lb (ix2 r j) = vn p lg lb r j := by
  have hi : idx_main_v48 (ix2 r j) = ix2 0 j := by funext a; fin_cases a <;> rfl
  have hi' : idx_main_v50 (ix2 r j) = ix2 0 j := by funext a; fin_cases a <;> rfl
  have hv : idx_main_v46 (ix2 r j) = ix2 r 0 := by funext a; fin_cases a <;> rfl
  rw [val_main_v51_apply, val_main_v50_apply, val_main_v49_apply, val_main_v48_apply, val_main_v47_apply, val_main_v46_apply, hi, hi', hv,
    val_main_v45_apply, val_main_v44_apply, ref_var, ref_off]
  rfl

theorem past' : ∀ t s : Fin 128, IntOp.cmpi .sge (IntOp.addi (BitVec.ofNat 32 t.val) 0#32) (BitVec.ofNat 32 s.val) = if s ≤ t then 1#1 else 0#1 := by
  decide +kernel

theorem ref_mask (g : Fin 4) (t s : Fin 128) : val_main_call1_v1 (F := Ideal) (ix3 g t s) = if s ≤ t then 1#1 else 0#1 := by
  have hi : idx_main_v55 (idx_main_call1_v1 (ix3 g t s)) = ix2 t s := by funext a; fin_cases a <;> rfl
  rw [val_main_call1_v1_apply, val_main_v55_apply, hi, val_main_v54_apply]
  have e : val_main_call0_v4 (F := Ideal) (ix2 t s) = if s ≤ t then 1#1 else 0#1 := past' t s
  rw [e]
  by_cases h : s ≤ t
  · rw [if_pos h]; rfl
  · rw [if_neg h]; rfl

theorem ref_w (g : Fin 4) (t s : Fin 128) : val_main_v56 (F := Ideal) w (ix3 g t s) = wc w g t s := by
  rw [val_main_v56_apply, ref_mask]
  have h0 : val_main_call1_v2 (F := Ideal) (ix3 g t s) = (0 : EReal) := by
    rw [val_main_call1_v2_apply]
    show (((0#32 : BitVec 32).toInt : ℝ) : EReal) = 0
    rw [show (0#32 : BitVec 32).toInt = 0 by decide]; norm_num
  rw [h0]
  unfold wc
  by_cases h : s ≤ t
  · rw [if_pos h, if_pos h]; rfl
  · rw [if_neg h, if_neg h]; rfl

theorem ref_mixed : val_main_v63 (F := Ideal) p lg lb w b (ix2 r j)
    = ∑ s : Fin 128, wc w (hd j) (lo r) s * vn p lg lb (sib r s) j + b (ix2 (hd j) (lo r)) := by
  have hl : ∀ k : Fin 128, lidx_main_v57 (idx_main_v58 (ix4 (chunkOf r) (lo r) (hd j) (place j))) k = ix4 (chunkOf r) k (hd j) (place j) := fun k => by
    funext a; fin_cases a <;> rfl
  have hr : ∀ k : Fin 128, ridx_main_v57 (idx_main_v58 (ix4 (chunkOf r) (lo r) (hd j) (place j))) k = ix3 (hd j) (lo r) k := fun k => by
    funext a; fin_cases a <;> rfl
  have hb : idx_main_v59 (idx_main_v60 (idx_main_v61 (ix4 (chunkOf r) (lo r) (hd j) (place j)))) = ix2 (hd j) (lo r) := by
    funext a; fin_cases a <;> rfl
  rw [val_main_v63_apply, join_row, val_main_v62_apply, val_main_v58_apply, val_main_v57_apply, val_main_v61_apply, val_main_v60_apply, val_main_v59_apply, hb]
  simp only [hl, hr, val_main_v52_apply, split_row, ref_vn, ref_w]
  exact congrArg (· + _) (Finset.sum_congr rfl fun s _ => mul_comm _ _)

/-- What the forward lines compute. -/
theorem ref_out : val_main_v65 (F := Ideal) p lg lb w b (ix2 r j) = out p lg lb w b r j := by
  rw [val_main_v65_apply, val_main_v64_apply, ref_gate, ref_mixed]
  rfl

end lines

variable (m : (ℓ : Loc nD τ sig) → Buf (Elt Ideal) ℓ)

/-- The pair's claim: both programs run and leave the same array. -/
theorem value : Cert.algebraic_GmlpFKIdeal_GmlpFRIdeal := by
  intro m g m' g' _ hagree
  refine ⟨_, Value.run_blocks m g, ?_⟩
  refine (θ_run _ _ _).mono (fun r h c => ?_) (Cert.GmlpFRIdeal.Value.run m' g')
  obtain ⟨r0, ha⟩ := h c
  obtain ⟨e0, e1, e2, e3, e4⟩ := hagree c
  refine ⟨r0.trans ?_, ha⟩
  rw [final m _ _ _ _ _ c rfl rfl rfl rfl rfl]
  refine (Cert.GmlpFRIdeal.Read.val_main_v65_eq _ _).trans ?_
  rw [e0, e1, e2, e3, e4]
  funext i; idx_vars i
  exact ref_out _ _ _ _ _ _ _

end Cert.GmlpFKIdeal.Hand

end
-- ==== Proof.MergeF.Kernel.lean ====
/- The gated merge with its residual and norm, forward: what the kernel's blocks hold, on extended reals as they come. -/
module

public import proofs.«01_k».proof.Proof.Gen.MergeFKIdeal.Value
public import proofs.«01_k».proof.Proof.Shared.Real
public import proofs.«01_k».proof.Proof.Shared.Normed
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.MergeFKIdeal.Hand

open Cert.Hand Cert.MergeFKIdeal Cert.MergeFKIdeal.Gen Idealize.ShloMosaic Idealize.ShloMosaic.TcCoe Idealize.SL.Sem
open Idealize.ShloMosaic.Pipeline (Dat)

/-! ## What is computed -/

section spec
variable (xa xb xc : FVec Ideal S4096x512 .bf16) (w : FVec Ideal S3x512x1024 .f32) (p : FVec Ideal S4096x6656 .bf16)
variable (wo : FVec Ideal S1024x1024 .f32) (x : FVec Ideal S4096x1024 .f32) (g : FVec Ideal S1x1024 .f32)
variable (n : Fin 3) (r : Fin 4096) (j : Fin 1024)

/-- A branch's gate, … -/
def gate : EReal := Ideal.logistic (p (ix2 r ⟨3584 + (n.val * 1024 + j.val), by omega⟩))

/-- … a branch in the model's width, … -/
def up (y : FVec Ideal S4096x512 .bf16) : EReal := ∑ k : Fin 512, y (ix2 r k) * w (ix3 n k j)

/-- … the merged branches, … -/
def merged : EReal := gate p 0 r j * up w 0 r j xa + gate p 1 r j * up w 1 r j xb + gate p 2 r j * up w 2 r j xc

/-- … the stream after them, … -/
def x1 : EReal := x (ix2 r j) + ∑ k : Fin 1024, merged xa xb xc w p r k * wo (ix2 k j)

/-- … and the stream normed. -/
def h2 : EReal := normed (fun k => x1 xa xb xc w p wo x r k) (fun k => g (ix2 0 k)) j

end spec

/-! ## The body over the blocks it loads -/

section body
variable (A B A' B' X X' X'' : FVec Ideal S512x512 .bf16) (W W' W'' : FVec Ideal S512x1024 .bf16) (U V S : FVec Ideal S512x1024 .f32)
variable (O : FVec Ideal S1024x1024 .bf16) (G : FVec Ideal S1x1024 .f32) (r : Fin 512) (j : Fin 1024)

theorem pay_gate : k0_pay5 (F := Ideal) A B (ix2 r j)
    = Ideal.logistic (if h : j.val < 512 then A (ix2 r ⟨j.val, h⟩) else B (ix2 r ⟨j.val - 512, by omega⟩)) := by
  pointwise [k0_pay5]

theorem pay_two : k0_pay4 (F := Ideal) A B X W A' B' X' W' (ix2 r j)
    = k0_pay5 (F := Ideal) A B (ix2 r j) * (∑ k : Fin 512, X (ix2 r k) * W (ix2 k j))
      + k0_pay5 (F := Ideal) A' B' (ix2 r j) * (∑ k : Fin 512, X' (ix2 r k) * W' (ix2 k j)) := by
  rw [pay_gate, pay_gate]
  pointwise [k0_pay4]

theorem pay_all : k0_pay1 (F := Ideal) U V X'' (k0_pay6 (F := Ideal) W'') (constant S512x1024 .f32 0x00000000#32) (ix2 r j)
    = U (ix2 r j) + V (ix2 r j) * (∑ k : Fin 512, X'' (ix2 r k) * W'' (ix2 k j)) := by
  pointwise [k0_pay1, k0_pay6]

/-- The residual added on. -/
theorem pay_res : k0_pay2 (F := Ideal) U V X'' W'' (constant S512x1024 .f32 0x00000000#32) S O (ix2 r j)
    = S (ix2 r j) + ∑ k : Fin 1024, k0_pay1 (F := Ideal) U V X'' W'' (constant S512x1024 .f32 0x00000000#32) (ix2 r k) * O (ix2 k j) := by
  unfold k0_pay2
  generalize k0_pay1 (F := Ideal) U V X'' W'' (constant S512x1024 .f32 0x00000000#32) = y
  pointwise []

/-- The stream normed. -/
theorem pay_norm : k0_pay3 (F := Ideal) U V X'' W'' (constant S512x1024 .f32 0x00000000#32) S O G (ix2 r j)
    = normed (fun k => k0_pay2 (F := Ideal) U V X'' W'' (constant S512x1024 .f32 0x00000000#32) S O (ix2 r k)) (fun k => G (ix2 0 k)) j := by
  unfold k0_pay3
  generalize k0_pay2 (F := Ideal) U V X'' W'' (constant S512x1024 .f32 0x00000000#32) S O = y
  pointwise []
  rfl

end body

/-! ## The blocks -/

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 7] ∧ win0_7.index t = ![t.val, 8] ∧ win0_8.index t = ![t.val, 9] ∧ win0_9.index t = ![t.val, 10]
    ∧ win0_10.index t = ![t.val, 11] ∧ win0_11.index t = ![t.val, 12] ∧ win0_12.index t = ![0, 0] ∧ win0_13.index t = ![t.val, 0]
    ∧ win0_14.index t = ![0, 0] ∧ win0_15.index t = ![t.val, 0] ∧ win0_16.index t = ![t.val, 0] ∧ win0_17.index t = ![t.val, 0] :=
  (by decide +kernel : ∀ t : Fin grid0.N, _)

/-- Row `r` of block `t`. -/
def row (t : Fin cfg0.N) (r : Fin 512) : Fin 4096 := ⟨t.val * 512 + r.val, by have := t.isLt; have := r.isLt; have : cfg0.N = 8 := rfl; omega⟩

section reads
variable (m : (ℓ : Loc nD τ sig) → Buf (Elt Ideal) ℓ)
variable (xa xb xc : FVec Ideal S4096x512 .bf16) (w : FVec Ideal S3x512x1024 .f32) (p : FVec Ideal S4096x6656 .bf16)
variable (wo : FVec Ideal S1024x1024 .f32) (x : FVec Ideal S4096x1024 .f32) (g : FVec Ideal S1x1024 .f32)
variable (c : Dev nD) (t : Fin cfg0.N)

/-- The memory holds the arguments. -/
structure Holds : Prop where
  a : m ((c : Thread nD τ).loc main_arg0) = xa
  b : m ((c : Thread nD τ).loc main_arg1) = xb
  c' : m ((c : Thread nD τ).loc main_arg2) = xc
  w : m ((c : Thread nD τ).loc main_arg3) = w
  p : m ((c : Thread nD τ).loc main_arg4) = p
  o : m ((c : Thread nD τ).loc main_arg5) = wo
  x : m ((c : Thread nD τ).loc main_arg6) = x
  g : m ((c : Thread nD τ).loc main_arg7) = g

/-- A block of a branch and … -/
def bx (y : FVec Ideal S4096x512 .bf16) : FVec Ideal S512x512 .bf16 := fun j => y (ix2 (row t (j 0)) (j 1))

/-- … a branch's weight. -/
def bw (n : Fin 3) : FVec Ideal S512x1024 .bf16 := fun j => w (ix3 n (j 0) (j 1))

variable {m xa xb xc w p wo x g c} (H : Holds m xa xb xc w p wo x g c)
include H

theorem read_a : (iblk m c 0 t : FVec Ideal S512x512 .bf16) = bx t xa := by
  have h := H.a
  subst h
  funext j
  trans m ((c : Thread nD τ).loc main_arg0) (ix2 (row t (j 0)) (j 1))
  · blk_ext [iblk, V, idx t, row]
  · rfl

theorem read_b : (iblk m c 1 t : FVec Ideal S512x512 .bf16) = bx t xb := by
  have h := H.b
  subst h
  funext j
  trans m ((c : Thread nD τ).loc main_arg1) (ix2 (row t (j 0)) (j 1))
  · blk_ext [iblk, V, idx t, row]
  · rfl

theorem read_c : (iblk m c 2 t : FVec Ideal S512x512 .bf16) = bx t xc := by
  have h := H.c'
  subst h
  funext j
  trans m ((c : Thread nD τ).loc main_arg2) (ix2 (row t (j 0)) (j 1))
  · blk_ext [iblk, V, idx t, row]
  · rfl

theorem read_w0 : (iblk m c 3 t : FVec Ideal S512x1024 .bf16) = bw w 0 := by
  have h := H.w
  subst h
  funext j
  trans m ((c : Thread nD τ).loc main_arg3) (ix3 0 (j 0) (j 1))
  · idx_vars j; blk_simp [iblk]; entry_read; pointwise; blk_ext [idx t]
  · rfl

theorem read_w1 : (iblk m c 4 t : FVec Ideal S512x1024 .bf16) = bw w 1 := by
  have h := H.w
  subst h
  funext j
  trans m ((c : Thread nD τ).loc main_arg3) (ix3 1 (j 0) (j 1))
  · idx_vars j; blk_simp [iblk]; entry_read; pointwise; blk_ext [idx t]
  · rfl

theorem read_w2 : (iblk m c 5 t : FVec Ideal S512x1024 .bf16) = bw w 2 := by
  have h := H.w
  subst h
  funext j
  trans m ((c : Thread nD τ).loc main_arg3) (ix3 2 (j 0) (j 1))
  · idx_vars j; blk_simp [iblk]; entry_read; pointwise; blk_ext [idx t]
  · rfl

theorem read_o : (iblk m c 12 t : FVec Ideal S1024x1024 .bf16) = wo := by
  have h := H.o
  subst h
  funext j
  idx_vars j; blk_simp [iblk]; entry_read; pointwise; blk_ext [idx t]

theorem read_x : (iblk m c 13 t : FVec Ideal S512x1024 .f32) = fun j => x (ix2 (row t (j 0)) (j 1)) := by
  have h := H.x
  subst h
  funext j
  trans m ((c : Thread nD τ).loc main_arg6) (ix2 (row t (j 0)) (j 1))
  · blk_ext [iblk, V, idx t, row]
  · rfl

theorem read_g : (iblk m c 14 t : FVec Ideal S1x1024 .f32) = g := by
  have h := H.g
  subst h
  funext j
  blk_ext [iblk, V, idx t]

omit H in
/-- Two half blocks of logits give a block of gates. -/
theorem gate_of (n : Fin 3) (A B : FVec Ideal S512x512 .bf16)
    (hA : ∀ r j, A (ix2 r j) = p (ix2 (row t r) ⟨3584 + (n.val * 1024 + j.val), by omega⟩))
    (hB : ∀ r j, B (ix2 r j) = p (ix2 (row t r) ⟨3584 + (n.val * 1024 + (512 + j.val)), by omega⟩)) (r : Fin 512) (j : Fin 1024) :
    k0_pay5 (F := Ideal) A B (ix2 r j) = gate p n (row t r) j := by
  rw [pay_gate]
  unfold gate
  refine congrArg Ideal.logistic ?_
  by_cases h : j.val < 512
  · rw [dif_pos h, hA]
  · rw [dif_neg h, hB]
    exact congrArg (fun k => p (ix2 (row t r) k)) (Fin.ext (by show 3584 + (n.val * 1024 + (512 + (j.val - 512))) = 3584 + (n.val * 1024 + j.val); omega))

theorem read_g0 (r : Fin 512) (j : Fin 1024) :
    k0_pay5 (F := Ideal) (iblk m c 6 t : FVec Ideal S512x512 .bf16) (iblk m c 7 t : FVec Ideal S512x512 .bf16) (ix2 r j) = gate p 0 (row t r) j := by
  have h := H.p
  subst h
  refine gate_of t 0 _ _ (fun r j => ?_) (fun r j => ?_) r j
  · blk_ext [iblk, V, idx t, row]
  · blk_ext [iblk, V, idx t, row]

theorem read_g1 (r : Fin 512) (j : Fin 1024) :
    k0_pay5 (F := Ideal) (iblk m c 8 t : FVec Ideal S512x512 .bf16) (iblk m c 9 t : FVec Ideal S512x512 .bf16) (ix2 r j) = gate p 1 (row t r) j := by
  have h := H.p
  subst h
  refine gate_of t 1 _ _ (fun r j => ?_) (fun r j => ?_) r j
  · blk_ext [iblk, V, idx t, row]
  · blk_ext [iblk, V, idx t, row]

theorem read_g2 (r : Fin 512) (j : Fin 1024) :
    k0_pay5 (F := Ideal) (iblk m c 10 t : FVec Ideal S512x512 .bf16) (iblk m c 11 t : FVec Ideal S512x512 .bf16) (ix2 r j) = gate p 2 (row t r) j := by
  have h := H.p
  subst h
  refine gate_of t 2 _ _ (fun r j => ?_) (fun r j => ?_) r j
  · blk_ext [iblk, V, idx t, row]
  · blk_ext [iblk, V, idx t, row]

/-- The first two branches of a block, as the body adds them. -/
abbrev two (m : (ℓ : Loc nD τ sig) → Buf (Elt Ideal) ℓ) (c : Dev nD) (t : Fin cfg0.N) : FVec Ideal S512x1024 .f32 :=
  k0_pay4 (F := Ideal) (iblk m c 6 t : FVec Ideal S512x512 .bf16) (iblk m c 7 t : FVec Ideal S512x512 .bf16) (iblk m c 0 t : FVec Ideal S512x512 .bf16)
    (iblk m c 3 t : FVec Ideal S512x1024 .bf16) (iblk m c 8 t : FVec Ideal S512x512 .bf16) (iblk m c 9 t : FVec Ideal S512x512 .bf16)
    (iblk m c 1 t : FVec Ideal S512x512 .bf16) (iblk m c 4 t : FVec Ideal S512x1024 .bf16)

/-- The third branch's gates. -/
abbrev third (m : (ℓ : Loc nD τ sig) → Buf (Elt Ideal) ℓ) (c : Dev nD) (t : Fin cfg0.N) : FVec Ideal S512x1024 .f32 :=
  k0_pay5 (F := Ideal) (iblk m c 10 t : FVec Ideal S512x512 .bf16) (iblk m c 11 t : FVec Ideal S512x512 .bf16)

theorem body_merged (r : Fin 512) (j : Fin 1024) :
    k0_pay1 (F := Ideal) (two m c t) (third m c t) (iblk m c 2 t : FVec Ideal S512x512 .bf16)
        (k0_pay6 (F := Ideal) (iblk m c 5 t : FVec Ideal S512x1024 .bf16)) (constant S512x1024 .f32 0x00000000#32) (ix2 r j)
      = merged xa xb xc w p (row t r) j := by
  rw [pay_all]
  unfold two third
  rw [pay_two, read_g0 t H, read_g1 t H, read_g2 t H, read_a t H, read_b t H, read_c t H, read_w0 t H, read_w1 t H, read_w2 t H]
  rfl

theorem body_x1 (r : Fin 512) (j : Fin 1024) :
    k0_pay2 (F := Ideal) (two m c t) (third m c t) (iblk m c 2 t : FVec Ideal S512x512 .bf16)
        (k0_pay6 (F := Ideal) (iblk m c 5 t : FVec Ideal S512x1024 .bf16)) (constant S512x1024 .f32 0x00000000#32)
        (iblk m c 13 t : FVec Ideal S512x1024 .f32) (iblk m c 12 t : FVec Ideal S1024x1024 .bf16) (ix2 r j)
      = x1 xa xb xc w p wo x (row t r) j := by
  rw [pay_res]
  simp only [body_merged t H]
  rw [read_x t H, read_o t H]
  rfl

theorem body_h2 (r : Fin 512) (j : Fin 1024) :
    k0_pay3 (F := Ideal) (two m c t) (third m c t) (iblk m c 2 t : FVec Ideal S512x512 .bf16)
        (k0_pay6 (F := Ideal) (iblk m c 5 t : FVec Ideal S512x1024 .bf16)) (constant S512x1024 .f32 0x00000000#32)
        (iblk m c 13 t : FVec Ideal S512x1024 .f32) (iblk m c 12 t : FVec Ideal S1024x1024 .bf16) (iblk m c 14 t : FVec Ideal S1x1024 .f32) (ix2 r j)
      = h2 xa xb xc w p wo x g (row t r) j := by
  rw [pay_norm]
  simp only [body_x1 t H]
  rw [read_g t H]
  rfl

/-! ## The arrays after the run -/

theorem final_merged : (dats m 0 c).arrAt 15 cfg0.N = fun i => merged xa xb xc w p (i 0) (i 1) := by
  refine (dats m 0 c).arrAt_eq_of_covers 15 _ (by decide +kernel) fun t _ y => ?_
  have e : (((cfg0.win 15).blk t).view.emb y : S4096x1024.Idx) = ix2 (row t (y 0)) (y 1) := by blk_ext [idx t, row]
  rw [e]
  blk_simp
  rw [after0_15]
  frame_out
  unfold k0_pay7 k0_pay8 k0_pay9 k0_pay10
  frame_out
  idx_vars y
  exact body_merged t H _ _

theorem final_x1 : (dats m 0 c).arrAt 16 cfg0.N = fun i => x1 xa xb xc w p wo x (i 0) (i 1) := by
  refine (dats m 0 c).arrAt_eq_of_covers 16 _ (by decide +kernel) fun t _ y => ?_
  have e : (((cfg0.win 16).blk t).view.emb y : S4096x1024.Idx) = ix2 (row t (y 0)) (y 1) := by blk_ext [idx t, row]
  rw [e]
  blk_simp
  rw [after0_16]
  frame_out
  unfold k0_pay7 k0_pay8 k0_pay9 k0_pay10
  frame_out
  idx_vars y
  exact body_x1 t H _ _

theorem final_h2 : (dats m 0 c).arrAt 17 cfg0.N = fun i => h2 xa xb xc w p wo x g (i 0) (i 1) := by
  refine (dats m 0 c).arrAt_eq_of_covers 17 _ (by decide +kernel) fun t _ y => ?_
  have e : (((cfg0.win 17).blk t).view.emb y : S4096x1024.Idx) = ix2 (row t (y 0)) (y 1) := by blk_ext [idx t, row]
  rw [e]
  blk_simp
  rw [after0_17]
  frame_out
  unfold k0_pay7 k0_pay8 k0_pay9 k0_pay10
  frame_out
  idx_vars y
  exact body_h2 t H _ _

end reads

end Cert.MergeFKIdeal.Hand

end
-- ==== Proof.MergeF.Claim.lean ====
/- The gated merge with its residual and norm, forward: the forward lines compute what the blocks hold. -/
module

public import proofs.«01_k».proof.Defs
public import proofs.«01_k».proof.Proof.Gen.MergeFRIdeal.Run
public import proofs.«01_k».proof.Proof.Gen.MergeFRIdeal.Read
public import proofs.«01_k».proof.Proof.MergeF.Kernel

@[expose] public section

set_option maxRecDepth 16384

noncomputable section

namespace Cert.MergeFKIdeal.Hand

open Cert.Hand Cert.MergeFKIdeal Cert.MergeFKIdeal.Gen Idealize.ShloMosaic Idealize.ShloMosaic.TcCoe Idealize.SL.Sem Cert.MergeFRIdeal.Read

section lines
variable (xa xb xc : FVec Ideal S4096x512 .bf16) (w : FVec Ideal S3x512x1024 .f32) (p : FVec Ideal S4096x6656 .bf16)
variable (wo : FVec Ideal S1024x1024 .f32) (x : FVec Ideal S4096x1024 .f32) (g : FVec Ideal S1x1024 .f32)
variable (n : Fin 3) (r : Fin 4096) (j : Fin 1024)

theorem ref_branch (k : Fin 512) : val_main_v8 (F := Ideal) xa xb xc (ix3 n r k) = (![xa, xb, xc] n) (ix2 r k) := by
  fin_cases n
  · pointwise [val_main_v8, val_main_v5, val_main_v0]
  · pointwise [val_main_v8, val_main_v6, val_main_v1]
  · pointwise [val_main_v8, val_main_v7, val_main_v2]

theorem ref_up : val_main_v9 (F := Ideal) xa xb xc w (ix3 n r j) = up w n r j (![xa, xb, xc] n) := by
  have h := ref_branch xa xb xc
  unfold val_main_v9
  generalize val_main_v8 (F := Ideal) xa xb xc = y at h ⊢
  pointwise
  simp only [h]
  rfl

theorem ref_gate : val_main_v16 (F := Ideal) p (ix3 r n j) = gate p n r j := by
  have hs : ∀ x : EReal, Ideal.div 1 (1 + Ideal.exp (-x)) = Ideal.logistic x := fun _ => rfl
  pointwise [val_main_v3, val_main_v4, val_main_v10, val_main_v11, val_main_v12, val_main_v13, val_main_v14, val_main_v15, val_main_v16, val_main_cst, val_main_cst_0]
  simp only [hs]
  rfl

theorem ref_merged : val_main_v19 (F := Ideal) xa xb xc w p (ix2 r j) = merged xa xb xc w p r j := by
  have hu := ref_up xa xb xc w
  have hg := ref_gate p
  unfold val_main_v19 val_main_v18 val_main_v17
  generalize val_main_v9 (F := Ideal) xa xb xc w = y at hu ⊢
  generalize val_main_v16 (F := Ideal) p = z at hg ⊢
  pointwise [val_main_cst_1]
  simp only [hu, hg, Fin.sum_univ_three]
  rfl

theorem ref_x1 : val_main_v21 (F := Ideal) xa xb xc w p wo x (ix2 r j) = x1 xa xb xc w p wo x r j := by
  have h := ref_merged xa xb xc w p
  unfold val_main_v21 val_main_v20
  generalize val_main_v19 (F := Ideal) xa xb xc w p = y at h ⊢
  pointwise
  simp only [h]
  rfl

theorem ref_h2 : val_main_v35 (F := Ideal) xa xb xc w p wo x g (ix2 r j) = h2 xa xb xc w p wo x g r j := by
  have h := ref_x1 xa xb xc w p wo x
  unfold val_main_v35 val_main_v34 val_main_v32 val_main_v31 val_main_v30 val_main_v29 val_main_v27 val_main_v25 val_main_v24 val_main_v23
  generalize val_main_v21 (F := Ideal) xa xb xc w p wo x = y at h ⊢
  pointwise [val_main_v26, val_main_v28, val_main_v33, val_main_cst_2, val_main_cst_3, val_main_cst_4]
  simp only [h]
  rfl

end lines

/-- The pair's claim: both programs run and leave the same arrays. -/
theorem value : Cert.algebraic_MergeFKIdeal_MergeFRIdeal := by
  intro m g m' g' _ hagree
  refine ⟨_, _, _, Value.run_blocks m g, ?_⟩
  refine (θ_run _ _ _).mono (fun r h c => ?_) (Cert.MergeFRIdeal.Value.run m' g')
  obtain ⟨r0, r1, r2, ha⟩ := h c
  obtain ⟨e0, e1, e2, e3, e4, e5, e6, e7⟩ := hagree c
  have H : Holds m _ _ _ _ _ _ _ _ c := ⟨rfl, rfl, rfl, rfl, rfl, rfl, rfl, rfl⟩
  refine ⟨r0.trans ?_, r1.trans ?_, r2.trans ?_, ha⟩
  · rw [final_merged H]
    refine (Cert.MergeFRIdeal.Read.val_main_v22_eq _ _ _ _ _).trans ?_
    rw [e0, e1, e2, e3, e4]
    funext i; idx_vars i
    exact ref_merged _ _ _ _ _ _ _
  · rw [final_x1 H]
    refine (Cert.MergeFRIdeal.Read.val_main_v21_eq _ _ _ _ _ _ _).trans ?_
    rw [e0, e1, e2, e3, e4, e5, e6]
    funext i; idx_vars i
    exact ref_x1 _ _ _ _ _ _ _ _ _
  · rw [final_h2 H]
    refine (Cert.MergeFRIdeal.Read.val_main_v35_eq _ _).trans ?_
    rw [e0, e1, e2, e3, e4, e5, e6, e7]
    funext i; idx_vars i
    exact ref_h2 _ _ _ _ _ _ _ _ _ _

end Cert.MergeFKIdeal.Hand

end
-- ==== Proof.ConvF.Kernel.lean ====
/- The widening with its gated causal convolution, forward: what the kernel's blocks hold, on extended reals as they come. -/
module

public import proofs.«01_k».proof.Proof.Gen.ConvFKIdeal.Value
public import proofs.«01_k».proof.Proof.Shared.Real
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.ConvFKIdeal.Hand

open Cert.Hand Cert.ConvFKIdeal Cert.ConvFKIdeal.Gen Idealize.ShloMosaic Idealize.ShloMosaic.TcCoe Idealize.SL.Sem
open Idealize.ShloMosaic.Pipeline (Dat)

/-! ## One channel -/

section channel
variable {n : ℕ}

/-- A sequence delayed by `d` steps, zeros coming in. -/
def dn (d : ℕ) (f : Fin n → EReal) (r : Fin n) : EReal := if d ≤ r.val then f ⟨r.val - d, by omega⟩ else 0

/-- The convolution's output, … -/
def pre (f : Fin n → EReal) (w : Fin 3 → EReal) (cb : EReal) (r : Fin n) : EReal := cb + w 0 * dn 2 f r + w 1 * dn 1 f r + w 2 * f r

/-- … and its gate on the other half. -/
def act (p b : EReal) : EReal := p * Ideal.logistic p * b

/-- A piece of a sequence is delayed as the sequence is, away from the piece's first rows. -/
theorem dn_move (d off : ℕ) (f : Fin n → EReal) (g : Fin 2048 → EReal) (ho : off + n ≤ 2048)
    (hf : ∀ k : Fin n, f k = g ⟨off + k.val, by omega⟩) (r : Fin n) (hr : d ≤ r.val ∨ off = 0) (q : Fin 2048) (hq : q.val = off + r.val) :
    dn d f r = dn d g q := by
  unfold dn
  by_cases h : d ≤ r.val
  · rw [if_pos h, if_pos (by omega), hf]
    exact congrArg g (Fin.ext (by show off + (r.val - d) = q.val - d; omega))
  · rw [if_neg h, if_neg (by omega)]

theorem pre_move (off : ℕ) (f : Fin n → EReal) (g : Fin 2048 → EReal) (w : Fin 3 → EReal) (cb : EReal) (ho : off + n ≤ 2048)
    (hf : ∀ k : Fin n, f k = g ⟨off + k.val, by omega⟩) (r : Fin n) (hr : 2 ≤ r.val ∨ off = 0) (q : Fin 2048) (hq : q.val = off + r.val) :
    pre f w cb r = pre g w cb q := by
  unfold pre
  rw [dn_move 2 off f g ho hf r hr q hq, dn_move 1 off f g ho hf r (by omega) q hq, hf]
  exact congrArg (fun k => cb + w 0 * dn 2 g q + w 1 * dn 1 g q + w 2 * g k) (Fin.ext hq.symm)

theorem sge_small : ∀ r d : Fin 8, IntOp.cmpi .sge (BitVec.ofNat 32 r.val) (BitVec.ofNat 32 d.val) = if d.val ≤ r.val then 1#1 else 0#1 := by
  decide +kernel

/-- The kernel's delay: a rotation with the first rows masked. -/
theorem dn_read (d : Fin 8) (hd : 0 < d.val) (hn : 8 ≤ n) (f : Fin n → EReal) (r : Fin n) :
    (if h : r.val < 8 then
      Scalar.select (α := EReal) (IntOp.cmpi .sge (BitVec.ofNat 32 r.val) (BitVec.ofNat 32 d.val))
        (f ⟨(r.val + n - d.val) % n, Nat.mod_lt _ (by omega)⟩) (0 : EReal)
    else f ⟨(8 + (r.val - 8) + n - d.val) % n, Nat.mod_lt _ (by omega)⟩) = dn d.val f r := by
  have hr := r.isLt
  have hd8 := d.isLt
  unfold dn
  have wrap : ∀ s, s = r.val + n - d.val → d.val ≤ r.val → s % n = r.val - d.val := fun s hs h' => by
    rw [hs, show r.val + n - d.val = r.val - d.val + n by omega, Nat.add_mod_right, Nat.mod_eq_of_lt (by omega)]
  split_ifs with h h' h'
  · rw [sge_small ⟨r.val, h⟩ d, if_pos h']
    exact congrArg f (Fin.ext (wrap _ rfl h'))
  · rw [sge_small ⟨r.val, h⟩ d, if_neg h']
    rfl
  · exact congrArg f (Fin.ext (wrap _ (by omega) h'))
  · omega

end channel

/-! ## The body over the blocks it loads -/

section body
variable (H0 : FVec Ideal S1x512x1024 .bf16) (H1 : FVec Ideal S1x528x1024 .bf16) (U V : FVec Ideal S256x1024 .bf16)
variable (A : FVec Ideal S528x256 .bf16) (B : FVec Ideal S512x256 .bf16) (P : FVec Ideal S512x256 .f32)
variable (W : FVec Ideal S3x256 .f32) (C : FVec Ideal S1x256 .f32) (o : Fin 1) (r : Fin 512) (l : Fin 256)

/-- A channel of a piece of rows, and a channel's taps. -/
def col {n : ℕ} (H : FVec Ideal (⟨3, ![1, n, 1024]⟩ : Shape) .bf16) (U : FVec Ideal S256x1024 .bf16) (l : Fin 256) (r : Fin n) : EReal :=
  ∑ k : Fin 1024, H (ix3 0 r k) * U (ix2 l k)
def taps (k : Fin 3) : EReal := W (ix2 k l)

theorem pay_up : k0_pay4 (F := Ideal) H0 U (ix2 r l) = col H0 U l r := by
  pointwise [k0_pay4]
  rfl

theorem pay_halo (q : Fin 528) : k0_pay12 (F := Ideal) H1 U (ix2 q l) = col H1 U l q := by
  pointwise [k0_pay12]
  rfl

theorem pay_a0 : k0_pay9 (F := Ideal) (k0_pay4 (F := Ideal) H0 U) (ix3 o r l) = col H0 U l r := by
  have h := pay_up H0 U
  generalize k0_pay4 (F := Ideal) H0 U = a at h ⊢
  pointwise [k0_pay9]
  exact h _ _

theorem pay_a1 : k0_pay15 (F := Ideal) (k0_pay12 (F := Ideal) H1 U) (ix3 o r l) = col H1 U l ⟨16 + r.val, by omega⟩ := by
  have h := pay_halo H1 U
  generalize k0_pay12 (F := Ideal) H1 U = a at h ⊢
  pointwise [k0_pay15]
  exact h _ _

theorem pay_b : k0_pay16 (F := Ideal) (k0_pay4 (F := Ideal) H0 U) (ix3 o r l) = col H0 U l r := by
  have h := pay_up H0 U
  generalize k0_pay4 (F := Ideal) H0 U = a at h ⊢
  pointwise [k0_pay16]
  exact h _ _

/-- The first piece's delays, … -/
theorem pay_dn1 : k0_pay7 (F := Ideal) H0 U (ix2 r l) = dn 1 (col H0 U l) r := by
  have h := pay_up H0 U
  unfold k0_pay7 k0_pay6
  generalize k0_pay4 (F := Ideal) H0 U = a at h ⊢
  rw [show col H0 U l = fun r => a (ix2 r l) from funext fun r => (h r l).symm]
  pointwise []
  exact dn_read 1 (by norm_num) (by norm_num) (fun r => a (ix2 r l)) r

theorem pay_dn2 : k0_pay8 (F := Ideal) H0 U W (ix2 r l) = W (ix2 0 l) * dn 2 (col H0 U l) r := by
  have h := pay_up H0 U
  unfold k0_pay8 k0_pay6
  generalize k0_pay4 (F := Ideal) H0 U = a at h ⊢
  rw [show col H0 U l = fun r => a (ix2 r l) from funext fun r => (h r l).symm]
  pointwise []
  exact congrArg (fun z => W (ix2 0 l) * z) (dn_read 2 (by norm_num) (by norm_num) (fun r => a (ix2 r l)) r)

/-- … its gate, … -/
theorem pay_act0 : k0_pay11 (F := Ideal) (k0_pay4 (F := Ideal) H0 V) (k0_pay6 (F := Ideal) H0 U) (k0_pay7 (F := Ideal) H0 U) W C (k0_pay8 (F := Ideal) H0 U W) (ix3 o r l)
    = act (pre (col H0 U l) (taps W l) (C (ix2 0 l)) r) (col H0 V l r) := by
  have h1 := pay_dn1 H0 U
  have h2 := pay_dn2 H0 U W
  have h0 := pay_up H0 U
  have hb := pay_up H0 V
  unfold k0_pay6
  generalize k0_pay7 (F := Ideal) H0 U = a1 at h1 ⊢
  generalize k0_pay8 (F := Ideal) H0 U W = a2 at h2 ⊢
  generalize k0_pay4 (F := Ideal) H0 V = b at hb ⊢
  generalize k0_pay4 (F := Ideal) H0 U = a at h0 ⊢
  pointwise [k0_pay11]
  simp only [h0, h1, h2, hb]
  rfl

/-- … and a later piece's. -/
theorem pay_pre : k0_pay14 (F := Ideal) (k0_pay12 (F := Ideal) H1 U) W C (ix2 r l)
    = pre (col H1 U l) (taps W l) (C (ix2 0 l)) ⟨16 + r.val, by omega⟩ := by
  have h := pay_halo H1 U
  generalize k0_pay12 (F := Ideal) H1 U = a at h ⊢
  rw [show col H1 U l = fun r => a (ix2 r l) from funext fun r => (h l r).symm]
  have h1 := dn_read 1 (by norm_num) (by norm_num) (fun r => a (ix2 r l)) (⟨16 + r.val, by omega⟩ : Fin 528)
  have h2 := dn_read 2 (by norm_num) (by norm_num) (fun r => a (ix2 r l)) (⟨16 + r.val, by omega⟩ : Fin 528)
  pointwise [k0_pay14]
  refine congrArg₂ (fun x y : EReal => x + y) (congrArg₂ (fun x y : EReal => x + y) (congrArg (fun x : EReal => C (ix2 0 l) + x)
    (congrArg (fun x : EReal => W (ix2 0 l) * x) ?_)) (congrArg (fun x : EReal => W (ix2 1 l) * x) ?_)) rfl
  · exact h2
  · exact h1

theorem pay_gate : k0_pay17 (F := Ideal) B P (ix3 o r l) = act (P (ix2 r l)) (B (ix2 r l)) := by
  pointwise [k0_pay17]
  rfl

theorem pay_act1 : k0_pay17 (F := Ideal) (k0_pay4 (F := Ideal) H0 V) (k0_pay14 (F := Ideal) (k0_pay12 (F := Ideal) H1 U) W C) (ix3 o r l)
    = act (pre (col H1 U l) (taps W l) (C (ix2 0 l)) ⟨16 + r.val, by omega⟩) (col H0 V l r) := by
  rw [pay_gate, pay_pre, pay_up]

/-- The four pieces' payloads are two programs. -/
theorem same_a : k0_pay25 (F := Ideal) (k0_pay18 (F := Ideal) H1 U) = k0_pay15 (F := Ideal) (k0_pay12 (F := Ideal) H1 U)
    ∧ k0_pay1 (F := Ideal) (k0_pay31 (F := Ideal) (k0_pay28 (F := Ideal) H1 U)) = k0_pay15 (F := Ideal) (k0_pay12 (F := Ideal) H1 U) :=
  ⟨rfl, rfl⟩

theorem same_b : k0_pay10 (F := Ideal) (k0_pay5 (F := Ideal) H0 V) = k0_pay16 (F := Ideal) (k0_pay4 (F := Ideal) H0 V)
    ∧ k0_pay16 (F := Ideal) (k0_pay13 (F := Ideal) H0 V) = k0_pay16 (F := Ideal) (k0_pay4 (F := Ideal) H0 V)
    ∧ k0_pay26 (F := Ideal) (k0_pay19 (F := Ideal) H0 V) = k0_pay16 (F := Ideal) (k0_pay4 (F := Ideal) H0 V)
    ∧ k0_pay2 (F := Ideal) (k0_pay29 (F := Ideal) H0 V) = k0_pay16 (F := Ideal) (k0_pay4 (F := Ideal) H0 V) :=
  ⟨rfl, rfl, rfl, rfl⟩

theorem same_act : k0_pay17 (F := Ideal) (k0_pay13 (F := Ideal) H0 V) (k0_pay14 (F := Ideal) (k0_pay12 (F := Ideal) H1 U) W C)
      = k0_pay17 (F := Ideal) (k0_pay4 (F := Ideal) H0 V) (k0_pay14 (F := Ideal) (k0_pay12 (F := Ideal) H1 U) W C)
    ∧ k0_pay27 (F := Ideal) (k0_pay19 (F := Ideal) H0 V) (k0_pay20 (F := Ideal) H1 U) (k0_pay21 (F := Ideal) H1 U) (k0_pay23 (F := Ideal) H1 U)
        (k0_pay24 (F := Ideal) H1 U) W C
      = k0_pay17 (F := Ideal) (k0_pay4 (F := Ideal) H0 V) (k0_pay14 (F := Ideal) (k0_pay12 (F := Ideal) H1 U) W C)
    ∧ k0_pay3 (F := Ideal) (k0_pay29 (F := Ideal) H0 V) (k0_pay30 (F := Ideal) (k0_pay28 (F := Ideal) H1 U) W C)
      = k0_pay17 (F := Ideal) (k0_pay4 (F := Ideal) H0 V) (k0_pay14 (F := Ideal) (k0_pay12 (F := Ideal) H1 U) W C) :=
  ⟨rfl, rfl, rfl⟩

theorem same_o : k0_pay11 (F := Ideal) (k0_pay5 (F := Ideal) H0 V) (k0_pay6 (F := Ideal) H0 U) (k0_pay7 (F := Ideal) H0 U) W C (k0_pay8 (F := Ideal) H0 U W)
    = k0_pay11 (F := Ideal) (k0_pay4 (F := Ideal) H0 V) (k0_pay6 (F := Ideal) H0 U) (k0_pay7 (F := Ideal) H0 U) W C (k0_pay8 (F := Ideal) H0 U W) := rfl

end body

/-! ## The blocks -/

theorem idx : ∀ t : Fin cfg0.N, win0_0.index t = ![t.val / 11, 0, 0] ∧ win0_1.index t = ![t.val % 11, 0] ∧ win0_2.index t = ![11 + t.val % 11, 0]
    ∧ win0_3.index t = ![0, t.val % 11] ∧ win0_4.index t = ![0, t.val % 11] ∧ win0_5.index t = ![t.val / 11, 0, t.val % 11]
    ∧ win0_6.index t = ![t.val / 11, 0, t.val % 11] ∧ win0_7.index t = ![t.val / 11, 0, t.val % 11] :=
  (by decide +kernel : ∀ t : Fin grid0.N, _)

/-- The sequence, and the channel of lane `l`, of block `t`. -/
def seq (t : Fin cfg0.N) : Fin 2 := ⟨t.val / 11, by have := t.isLt; have : cfg0.N = 22 := rfl; omega⟩
def chan (t : Fin cfg0.N) (l : Fin 256) : Fin 2816 := ⟨t.val % 11 * 256 + l.val, by have := l.isLt; omega⟩

section arrays
variable (h : FVec Ideal S2x2048x1024 .bf16) (w : FVec Ideal S1024x5632 .f32) (cw : FVec Ideal S3x2816 .f32) (cb : FVec Ideal S1x2816 .f32)

/-- A channel of the convolved half and of the other, … -/
def ca (s : Fin 2) (l : Fin 2816) (r : Fin 2048) : EReal := ∑ k : Fin 1024, h (ix3 s r k) * w (ix2 k ⟨l.val, by omega⟩)
def cbh (s : Fin 2) (l : Fin 2816) (r : Fin 2048) : EReal := ∑ k : Fin 1024, h (ix3 s r k) * w (ix2 k ⟨2816 + l.val, by omega⟩)

/-- … and of their gated product. -/
def out (s : Fin 2) (l : Fin 2816) (r : Fin 2048) : EReal :=
  act (pre (ca h w s l) (fun k => cw (ix2 k l)) (cb (ix2 0 l)) r) (cbh h w s l r)

variable (m : (ℓ : Loc nD τ sig) → Buf (Elt Ideal) ℓ) (c : Dev nD) (t : Fin cfg0.N)

theorem read_halo (h0 : m ((c : Thread nD τ).loc main_arg0) = h) (off : Fin 3 → ℕ) (inb) (lo : ℕ) (ho : off = ![0, lo, 0]) (hl : lo + 528 ≤ 2048)
    (k : Fin 528) (e : Fin 1024) :
    (View.ld (iblk m c 0 t : FVec Ideal S1x2048x1024 .bf16) (Rect.unit off ![1, 528, 1024] inb) : FVec Ideal S1x528x1024 .bf16) (ix3 0 k e)
      = h (ix3 (seq t) ⟨lo + k.val, by omega⟩ e) := by
  subst ho
  refine (View.ld_unit_apply_of _ _ _ inb _ (ix3 0 ⟨lo + k.val, by omega⟩ e) fun a => by fin_cases a <;> simp).trans ?_
  rw [← h0]
  blk_ext [iblk, V, idx t, seq]

theorem read_rows (h0 : m ((c : Thread nD τ).loc main_arg0) = h) (off : Fin 3 → ℕ) (inb) (lo : ℕ) (ho : off = ![0, lo, 0]) (hl : lo + 512 ≤ 2048)
    (k : Fin 512) (e : Fin 1024) :
    (View.ld (iblk m c 0 t : FVec Ideal S1x2048x1024 .bf16) (Rect.unit off ![1, 512, 1024] inb) : FVec Ideal S1x512x1024 .bf16) (ix3 0 k e)
      = h (ix3 (seq t) ⟨lo + k.val, by omega⟩ e) := by
  subst ho
  refine (View.ld_unit_apply_of _ _ _ inb _ (ix3 0 ⟨lo + k.val, by omega⟩ e) fun a => by fin_cases a <;> simp).trans ?_
  rw [← h0]
  blk_ext [iblk, V, idx t, seq]

theorem read_u (h1 : m ((c : Thread nD τ).loc main_arg1) = w) :
    (iblk m c 1 t : FVec Ideal S256x1024 .bf16) = fun j => w (ix2 (j 1) ⟨(chan t (j 0)).val, by omega⟩) := by
  subst h1
  funext j
  trans m ((c : Thread nD τ).loc main_arg1) (ix2 (j 1) ⟨(chan t (j 0)).val, by omega⟩)
  · idx_vars j; blk_simp [iblk]; entry_read; pointwise; blk_ext [idx t, chan]
  · rfl

theorem read_v (h1 : m ((c : Thread nD τ).loc main_arg1) = w) :
    (iblk m c 2 t : FVec Ideal S256x1024 .bf16) = fun j => w (ix2 (j 1) ⟨2816 + (chan t (j 0)).val, by omega⟩) := by
  subst h1
  funext j
  trans m ((c : Thread nD τ).loc main_arg1) (ix2 (j 1) ⟨2816 + (chan t (j 0)).val, by omega⟩)
  · idx_vars j; blk_simp [iblk]; entry_read; pointwise; blk_ext [idx t, chan]
  · rfl

theorem read_w (h2 : m ((c : Thread nD τ).loc main_arg2) = cw) :
    (iblk m c 3 t : FVec Ideal S3x256 .f32) = fun j => cw (ix2 (j 0) (chan t (j 1))) := by
  subst h2
  funext j
  trans m ((c : Thread nD τ).loc main_arg2) (ix2 (j 0) (chan t (j 1)))
  · blk_ext [iblk, V, idx t, chan]
  · rfl

theorem read_c (h3 : m ((c : Thread nD τ).loc main_arg3) = cb) :
    (iblk m c 4 t : FVec Ideal S1x256 .f32) = fun j => cb (ix2 0 (chan t (j 1))) := by
  subst h3
  funext j
  trans m ((c : Thread nD τ).loc main_arg3) (ix2 0 (chan t (j 1)))
  · blk_ext [iblk, V, idx t, chan]
  · rfl

/-! ## What the body stores for a piece of rows -/

variable (H0 : FVec Ideal S1x512x1024 .bf16) (H1 : FVec Ideal S1x528x1024 .bf16) (U V : FVec Ideal S256x1024 .bf16)
variable (W : FVec Ideal S3x256 .f32) (C : FVec Ideal S1x256 .f32)
variable (hU : U = fun j => w (ix2 (j 1) ⟨(chan t (j 0)).val, by omega⟩)) (hV : V = fun j => w (ix2 (j 1) ⟨2816 + (chan t (j 0)).val, by omega⟩))
variable (hW : W = fun j => cw (ix2 (j 0) (chan t (j 1)))) (hC : C = fun j => cb (ix2 0 (chan t (j 1))))
variable (z : S1x512x256.Idx) (y : S1x2048x256.Idx)

include hU in
theorem piece_a0 (H : ∀ (k : Fin 512) (e : Fin 1024), H0 (ix3 0 k e) = h (ix3 (seq t) ⟨0 + k.val, by omega⟩ e))
    (y1 : (y 1 : ℕ) = z 1) (y2 : (y 2 : ℕ) = z 2) :
    k0_pay9 (F := Ideal) (k0_pay4 (F := Ideal) H0 U) z = ca h w (seq t) (chan t (y 2)) (y 1) := by
  subst hU
  idx_vars z
  have hz : z1.val < 512 := z1.isLt
  rw [pay_a0, show y 2 = z2 from Fin.ext y2, show y 1 = (⟨0 + z1.val, by omega⟩ : Fin 2048) from Fin.ext (by show (y 1 : ℕ) = 0 + z1.val; have : (y 1 : ℕ) = z1.val := y1; omega)]
  unfold col ca
  simp only [H]
  rfl

include hU in
theorem piece_a1 (lo : ℕ) (hl : lo + 528 ≤ 2048) (H : ∀ (k : Fin 528) (e : Fin 1024), H1 (ix3 0 k e) = h (ix3 (seq t) ⟨lo + k.val, by omega⟩ e))
    (y1 : (y 1 : ℕ) = lo + 16 + z 1) (y2 : (y 2 : ℕ) = z 2) :
    k0_pay15 (F := Ideal) (k0_pay12 (F := Ideal) H1 U) z = ca h w (seq t) (chan t (y 2)) (y 1) := by
  subst hU
  idx_vars z
  have hz : z1.val < 512 := z1.isLt
  rw [pay_a1, show y 2 = z2 from Fin.ext y2,
    show y 1 = (⟨lo + (16 + z1.val), by omega⟩ : Fin 2048) from Fin.ext (by show (y 1 : ℕ) = lo + (16 + z1.val); have : (y 1 : ℕ) = lo + 16 + z1.val := y1; omega)]
  unfold col ca
  simp only [H]
  rfl

include hV in
theorem piece_b (lo : ℕ) (hl : lo + 512 ≤ 2048) (H : ∀ (k : Fin 512) (e : Fin 1024), H0 (ix3 0 k e) = h (ix3 (seq t) ⟨lo + k.val, by omega⟩ e))
    (y1 : (y 1 : ℕ) = lo + z 1) (y2 : (y 2 : ℕ) = z 2) :
    k0_pay16 (F := Ideal) (k0_pay4 (F := Ideal) H0 V) z = cbh h w (seq t) (chan t (y 2)) (y 1) := by
  subst hV
  idx_vars z
  have hz : z1.val < 512 := z1.isLt
  rw [pay_b, show y 2 = z2 from Fin.ext y2, show y 1 = (⟨lo + z1.val, by omega⟩ : Fin 2048) from Fin.ext y1]
  unfold col cbh
  simp only [H]
  rfl

include hU hV hW hC in
theorem piece_o0 (H : ∀ (k : Fin 512) (e : Fin 1024), H0 (ix3 0 k e) = h (ix3 (seq t) ⟨0 + k.val, by omega⟩ e))
    (y1 : (y 1 : ℕ) = z 1) (y2 : (y 2 : ℕ) = z 2) :
    k0_pay11 (F := Ideal) (k0_pay4 (F := Ideal) H0 V) (k0_pay6 (F := Ideal) H0 U) (k0_pay7 (F := Ideal) H0 U) W C (k0_pay8 (F := Ideal) H0 U W) z
      = out h w cw cb (seq t) (chan t (y 2)) (y 1) := by
  subst hU hV hW hC
  idx_vars z
  have hz : z1.val < 512 := z1.isLt
  rw [pay_act0, show y 2 = z2 from Fin.ext y2]
  refine congrArg₂ act (pre_move 0 _ _ _ _ (by norm_num) (fun k => ?_) z1 (Or.inr rfl) _ (by have : (y 1 : ℕ) = z1.val := y1; omega)) ?_
  · unfold col ca
    simp only [H]
    rfl
  · rw [show y 1 = (⟨0 + z1.val, by omega⟩ : Fin 2048) from Fin.ext (by show (y 1 : ℕ) = 0 + z1.val; have : (y 1 : ℕ) = z1.val := y1; omega)]
    unfold col cbh
    simp only [H]
    rfl

include hU hV hW hC in
theorem piece_o1 (lo : ℕ) (hl : lo + 528 ≤ 2048) (G : ∀ (k : Fin 528) (e : Fin 1024), H1 (ix3 0 k e) = h (ix3 (seq t) ⟨lo + k.val, by omega⟩ e))
    (H : ∀ (k : Fin 512) (e : Fin 1024), H0 (ix3 0 k e) = h (ix3 (seq t) ⟨lo + 16 + k.val, by omega⟩ e))
    (y1 : (y 1 : ℕ) = lo + 16 + z 1) (y2 : (y 2 : ℕ) = z 2) :
    k0_pay17 (F := Ideal) (k0_pay4 (F := Ideal) H0 V) (k0_pay14 (F := Ideal) (k0_pay12 (F := Ideal) H1 U) W C) z
      = out h w cw cb (seq t) (chan t (y 2)) (y 1) := by
  subst hU hV hW hC
  idx_vars z
  have hz : z1.val < 512 := z1.isLt
  have y1' : (y 1 : ℕ) = lo + 16 + z1.val := y1
  rw [pay_act1, show y 2 = z2 from Fin.ext y2]
  refine congrArg₂ act (pre_move lo _ _ _ _ hl (fun k => ?_) _ (Or.inl (by show 2 ≤ 16 + z1.val; omega)) _ (by show (y 1 : ℕ) = lo + (16 + z1.val); omega)) ?_
  · unfold col ca
    simp only [G]
    rfl
  · rw [show y 1 = (⟨lo + 16 + z1.val, by omega⟩ : Fin 2048) from Fin.ext y1']
    unfold col cbh
    simp only [H]
    rfl

/-! ## The arrays after the run -/

variable {h w cw cb m c}
variable (h0 : m ((c : Thread nD τ).loc main_arg0) = h) (h1 : m ((c : Thread nD τ).loc main_arg1) = w)
variable (h2 : m ((c : Thread nD τ).loc main_arg2) = cw) (h3 : m ((c : Thread nD τ).loc main_arg3) = cb)

include h0 h1 in
theorem final_a : (dats m 0 c).arrAt 5 cfg0.N = fun i => ca h w (i 0) (i 2) (i 1) := by
  refine (dats m 0 c).arrAt_eq_of_covers 5 _ (by decide +kernel) fun t _ y => ?_
  have e : (((cfg0.win 5).blk t).view.emb y : S2x2048x2816.Idx) = ix3 (seq t) (y 1) (chan t (y 2)) := by blk_ext [idx t, seq, chan]
  rw [e]
  blk_simp
  rw [after0_5]
  frame_out
  unfold k0_pay36 k0_pay33
  frame_out
  canon_tiles z q
  case piece0 =>
    exact (congrFun (same_a _ _).2 z).trans (piece_a1 h w t _ _ (read_u w m c t h1) z y 1520 (by norm_num)
      (read_halo h m c t h0 _ _ 1520 rfl (by norm_num)) (by omega) (by omega))
  case piece1 =>
    exact (congrFun (same_a _ _).1 z).trans (piece_a1 h w t _ _ (read_u w m c t h1) z y 1008 (by norm_num)
      (read_halo h m c t h0 _ _ 1008 rfl (by norm_num)) (by omega) (by omega))
  case piece2 =>
    exact piece_a1 h w t _ _ (read_u w m c t h1) z y 496 (by norm_num)
      (read_halo h m c t h0 _ _ 496 rfl (by norm_num)) (by omega) (by omega)
  case piece3 =>
    exact piece_a0 h w t _ _ (read_u w m c t h1) z y (read_rows h m c t h0 _ _ 0 rfl (by norm_num)) (by omega) (by omega)

include h0 h1 in
theorem final_b : (dats m 0 c).arrAt 6 cfg0.N = fun i => cbh h w (i 0) (i 2) (i 1) := by
  refine (dats m 0 c).arrAt_eq_of_covers 6 _ (by decide +kernel) fun t _ y => ?_
  have e : (((cfg0.win 6).blk t).view.emb y : S2x2048x2816.Idx) = ix3 (seq t) (y 1) (chan t (y 2)) := by blk_ext [idx t, seq, chan]
  rw [e]
  blk_simp
  rw [after0_6]
  frame_out
  unfold k0_pay37 k0_pay35 k0_pay34 k0_pay32
  frame_out
  canon_tiles z q
  case piece0 =>
    exact (congrFun (same_b _ _).2.2.2 z).trans (piece_b h w t _ _ (read_v w m c t h1) z y 1536 (by norm_num)
      (read_rows h m c t h0 _ _ 1536 rfl (by norm_num)) (by omega) (by omega))
  case piece1 =>
    exact (congrFun (same_b _ _).2.2.1 z).trans (piece_b h w t _ _ (read_v w m c t h1) z y 1024 (by norm_num)
      (read_rows h m c t h0 _ _ 1024 rfl (by norm_num)) (by omega) (by omega))
  case piece2 =>
    exact (congrFun (same_b _ _).2.1 z).trans (piece_b h w t _ _ (read_v w m c t h1) z y 512 (by norm_num)
      (read_rows h m c t h0 _ _ 512 rfl (by norm_num)) (by omega) (by omega))
  case piece3 =>
    exact (congrFun (same_b _ _).1 z).trans (piece_b h w t _ _ (read_v w m c t h1) z y 0 (by norm_num)
      (read_rows h m c t h0 _ _ 0 rfl (by norm_num)) (by omega) (by omega))

include h0 h1 h2 h3 in
theorem final_o : (dats m 0 c).arrAt 7 cfg0.N = fun i => out h w cw cb (i 0) (i 2) (i 1) := by
  refine (dats m 0 c).arrAt_eq_of_covers 7 _ (by decide +kernel) fun t _ y => ?_
  have e : (((cfg0.win 7).blk t).view.emb y : S2x2048x2816.Idx) = ix3 (seq t) (y 1) (chan t (y 2)) := by blk_ext [idx t, seq, chan]
  have hu := read_u w m c t h1
  have hv := read_v w m c t h1
  have hw := read_w cw m c t h2
  have hc := read_c cb m c t h3
  rw [e]
  blk_simp
  rw [after0_7]
  frame_out
  unfold k0_pay37 k0_pay36 k0_pay35 k0_pay34 k0_pay33 k0_pay32
  frame_out
  canon_tiles z q
  case piece0 =>
    exact (congrFun (same_act _ _ _ _ _ _).2.2 z).trans (piece_o1 h w cw cb t _ _ _ _ _ _ hu hv hw hc z y 1520 (by norm_num)
      (read_halo h m c t h0 _ _ 1520 rfl (by norm_num)) (read_rows h m c t h0 _ _ 1536 rfl (by norm_num)) (by omega) (by omega))
  case piece1 =>
    exact (congrFun (same_act _ _ _ _ _ _).2.1 z).trans (piece_o1 h w cw cb t _ _ _ _ _ _ hu hv hw hc z y 1008 (by norm_num)
      (read_halo h m c t h0 _ _ 1008 rfl (by norm_num)) (read_rows h m c t h0 _ _ 1024 rfl (by norm_num)) (by omega) (by omega))
  case piece2 =>
    exact (congrFun (same_act _ _ _ _ _ _).1 z).trans (piece_o1 h w cw cb t _ _ _ _ _ _ hu hv hw hc z y 496 (by norm_num)
      (read_halo h m c t h0 _ _ 496 rfl (by norm_num)) (read_rows h m c t h0 _ _ 512 rfl (by norm_num)) (by omega) (by omega))
  case piece3 =>
    exact (congrFun (same_o _ _ _ _ _) z).trans (piece_o0 h w cw cb t _ _ _ _ _ hu hv hw hc z y (read_rows h m c t h0 _ _ 0 rfl (by norm_num)) (by omega) (by omega))

end arrays

end Cert.ConvFKIdeal.Hand

end
-- ==== Proof.ConvF.Claim.lean ====
/- The widening with its gated causal convolution, forward: the forward lines compute what the blocks hold. -/
module

public import proofs.«01_k».proof.Defs
public import proofs.«01_k».proof.Proof.Gen.ConvFRIdeal.Run
public import proofs.«01_k».proof.Proof.Gen.ConvFRIdeal.Read
public import proofs.«01_k».proof.Proof.ConvF.Kernel

@[expose] public section

set_option maxRecDepth 16384

noncomputable section

namespace Cert.ConvFKIdeal.Hand

open Cert.Hand Cert.ConvFKIdeal Cert.ConvFKIdeal.Gen Idealize.ShloMosaic Idealize.ShloMosaic.TcCoe Idealize.SL.Sem Cert.ConvFRIdeal.Read

section lines
variable (h : FVec Ideal S2x2048x1024 .bf16) (w : FVec Ideal S1024x5632 .f32) (cw : FVec Ideal S3x2816 .f32) (cb : FVec Ideal S1x2816 .f32)
variable (s : Fin 2) (r : Fin 2048) (l : Fin 2816)

theorem ref_a : val_main_v2 (F := Ideal) h w (ix3 s r l) = ca h w s l r := by
  pointwise [val_main_v0, val_main_v1, val_main_v2]
  rfl

theorem ref_b : val_main_v3 (F := Ideal) h w (ix3 s r l) = cbh h w s l r := by
  pointwise [val_main_v0, val_main_v1, val_main_v3]
  rfl

/-- An entry of the padded sequence, `d` rows early, is the delayed sequence's. -/
theorem dn_cases (f : Fin 2048 → EReal) (d : ℕ) (hd : d ≤ 2) (r : Fin 2048) (x : EReal) (lo : ℕ) (hlo : lo = 2 - d)
    (h0 : lo + r.val < 2 → x = 0) (h1 : ∀ hk : 2 ≤ lo + r.val, x = f ⟨lo + r.val - 2, by omega⟩) : x = dn d f r := by
  unfold dn
  by_cases hr : d ≤ r.val
  · rw [if_pos hr, h1 (by omega)]
    exact congrArg f (Fin.ext (by show lo + r.val - 2 = r.val - d; omega))
  · rw [if_neg hr, h0 (by omega)]

theorem ref_pad (q : Fin 2050) : val_main_v8 (F := Ideal) h w (ix3 s q l)
    = if hq : q.val < 2 then (0 : EReal) else ca h w s l ⟨q.val - 2, by omega⟩ := by
  have ha := ref_a h w
  unfold val_main_v8
  generalize val_main_v2 (F := Ideal) h w = y at ha ⊢
  pointwise [val_main_v6, val_main_v7, val_main_cst]
  simp only [ha]

theorem ref_dn2 : val_main_v11 (F := Ideal) h w (ix3 s r l) = dn 2 (ca h w s l) r := by
  have hp := ref_pad h w s l
  unfold val_main_v11
  generalize val_main_v8 (F := Ideal) h w = y at hp ⊢
  pointwise
  rw [hp]
  exact dn_cases _ 2 (by norm_num) r _ 0 rfl (fun hk => dif_pos (by show r.val < 2; omega)) fun hk =>
    (dif_neg (by show ¬r.val < 2; omega)).trans (congrArg (ca h w s l) (Fin.ext (by show r.val - 2 = 0 + r.val - 2; omega)))

theorem ref_dn1 : val_main_v21 (F := Ideal) h w (ix3 s r l) = dn 1 (ca h w s l) r := by
  have hp := ref_pad h w s l
  unfold val_main_v21
  generalize val_main_v8 (F := Ideal) h w = y at hp ⊢
  pointwise
  rw [hp]
  exact dn_cases _ 1 (by norm_num) r _ 1 rfl (fun hk => dif_pos hk) fun hk => dif_neg (by show ¬1 + r.val < 2; omega)

theorem ref_dn0 : val_main_v29 (F := Ideal) h w (ix3 s r l) = ca h w s l r := by
  have hp := ref_pad h w s l
  unfold val_main_v29
  generalize val_main_v8 (F := Ideal) h w = y at hp ⊢
  pointwise
  rw [hp]
  exact (dif_neg (by show ¬2 + r.val < 2; omega)).trans (congrArg (ca h w s l) (Fin.ext (by show 2 + r.val - 2 = r.val; omega)))

theorem ref_pre : val_main_v34 (F := Ideal) h w cw cb (ix3 s r l) = pre (ca h w s l) (fun k => cw (ix2 k l)) (cb (ix2 0 l)) r := by
  have h2 := ref_dn2 h w
  have h1 := ref_dn1 h w
  have h0 := ref_dn0 h w
  unfold val_main_v34 val_main_v33 val_main_v26 val_main_v25 val_main_v18 val_main_v15
  generalize val_main_v11 (F := Ideal) h w = y2 at h2 ⊢
  generalize val_main_v21 (F := Ideal) h w = y1 at h1 ⊢
  generalize val_main_v29 (F := Ideal) h w = y0 at h0 ⊢
  pointwise [val_main_v9, val_main_v10, val_main_v12, val_main_v13, val_main_v14, val_main_v16, val_main_v17, val_main_v19, val_main_v20,
    val_main_v22, val_main_v23, val_main_v24, val_main_v27, val_main_v28, val_main_v30, val_main_v31, val_main_v32]
  simp only [h0, h1, h2]
  rfl

theorem ref_out : val_main_v37 (F := Ideal) h w cw cb (ix3 s r l) = out h w cw cb s l r := by
  have hs : ∀ x : EReal, Ideal.div 1 (1 + Ideal.exp (-x)) = Ideal.logistic x := fun _ => rfl
  have hp := ref_pre h w cw cb
  have hb := ref_b h w
  unfold val_main_v37 val_main_v36 val_main_v35 val_main_call0_v5 val_main_call0_v3 val_main_call0_v1 val_main_call0_v0
  generalize val_main_v34 (F := Ideal) h w cw cb = p at hp ⊢
  generalize val_main_v3 (F := Ideal) h w = b at hb ⊢
  pointwise [val_main_call0_v2, val_main_call0_v4, val_main_call0_cst, val_main_call0_cst_0]
  simp only [hp, hb, hs]
  rfl

end lines

/-- The pair's claim: both programs run and leave the same arrays. -/
theorem value : Cert.algebraic_ConvFKIdeal_ConvFRIdeal := by
  intro m g m' g' _ hagree
  refine ⟨_, _, _, Value.run_blocks m g, ?_⟩
  refine (θ_run _ _ _).mono (fun r h c => ?_) (Cert.ConvFRIdeal.Value.run m' g')
  obtain ⟨r0, r1, r2, ha⟩ := h c
  obtain ⟨e0, e1, e2, e3⟩ := hagree c
  refine ⟨r0.trans ?_, r1.trans ?_, r2.trans ?_, ha⟩
  · rw [final_a (m := m) (c := c) rfl rfl]
    refine (Cert.ConvFRIdeal.Read.val_main_v4_eq _ _).trans ?_
    rw [e0, e1]
    funext i; idx_vars i
    exact ref_a _ _ _ _ _
  · rw [final_b (m := m) (c := c) rfl rfl]
    refine (Cert.ConvFRIdeal.Read.val_main_v5_eq _ _).trans ?_
    rw [e0, e1]
    funext i; idx_vars i
    exact ref_b _ _ _ _ _
  · rw [final_o (m := m) (c := c) rfl rfl rfl rfl]
    refine (Cert.ConvFRIdeal.Read.val_main_v37_eq _ _).trans ?_
    rw [e0, e1, e2, e3]
    funext i; idx_vars i
    exact ref_out _ _ _ _ _ _ _

end Cert.ConvFKIdeal.Hand

end
-- ==== Proof.ProjF.FrameIdeal.lean ====
/- The first norm and projection, forward: the frame of the kernel's idealization. The normalised activations are written into their
   block at the first point of a row of blocks only; the three points after it read them back, and the last of them is
   where the block is written out. The proof data say at every point that the block holds the normalised rows; what a
   later point finds is what the point before left, and the rows it is normalised from have not moved. -/
module

public import proofs.«01_k».proof.Proof.Gen.ProjFKIdeal.Frame
public import proofs.«01_k».proof.Proof.Gen.ProjFKIdeal.Skeleton
public import Idealize.ShloMosaic.Lib.Pipeline.Frame
public import Idealize.ShloMosaic.Lib.Pipeline.TableIdle
public import Idealize.ShloMosaic.Lib.Pipeline.ValueKit
public import Idealize.ShloMosaic.Lib.Tactic

@[expose] public section

set_option maxRecDepth 16384

noncomputable section

namespace Cert.ProjFKIdeal.Hand

open Cert.ProjFKIdeal Cert.ProjFKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The norm is computed at the first point of each row of blocks. -/
theorem cond_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The normalised rows' block is stored into at those points only. -/
theorem idle_iff : ∀ t : Fin cfg0.N, cfg0.idle 4 (cfg0.grid.coords t) = true ↔ ¬t.val % 4 = 0 :=
  (by decide +kernel : ∀ t : Fin grid0.N, idle0 4 (grid0.coords t) = true ↔ ¬t.val % 4 = 0)

/-- Nothing has been stored into the block yet exactly when a row of blocks begins. -/
theorem fresh_eq (n : ℕ) (h : n ≤ cfg0.N) : cfg0.fresh 4 n = decide (n % 4 = 0) := by
  exact cfg0.fresh_tab 4 (fun k => decide (k % 4 = 0)) rfl
    (by decide +kernel : ∀ t : Fin grid0.N,
      decide ((t.val + 1) % 4 = 0) = (win0_4.flush t || (idle0 4 (grid0.coords t) && decide (t.val % 4 = 0)))) n h

/-! ## The body, with and without the norm -/

set_option maxHeartbeats 1000000 in
/-- At a point that computes the norm: both results' blocks at anything before, the normalised rows and their product after. -/
theorem run_first (c : Dev nD) (E : Set ℕ) (i : grid0.Coords) (hc : k0_cond1 i = 1#1)
    (arg2 : Memref sig .tc .vmem S1024x1024 .f32) (harg2 : arg2.IsWhole) (arg3 : Memref sig .tc .vmem S1x1024 .f32) (harg3 : arg3.IsWhole)
    (arg4 : Memref sig .tc .vmem S1664x1024 .bf16) (harg4 : arg4.IsWhole) (arg5 : Memref sig .tc .vmem S1024x1664 .bf16) (harg5 : arg5.IsWhole)
    (arg6 : Memref sig .tc .vmem S1024x1024 .bf16) (harg6 : arg6.IsWhole)
    (x0 : Vec F S1024x1024 .f32) (x1 : Vec F S1x1024 .f32) (x2 : Vec F S1664x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (k0_pay1 x0 x1) x2) ∗ owns (c : Thread nD τ) arg6 fullShare (k0_pay1 x0 x1)) -∗ K ⟨⟩))
      ⊢ wp frame (wpE (defs₀ (F := F)) Variants.none c none) E (cc0_norm1_proj_fwd i arg2 harg2 arg3 harg3 arg4 harg4 arg5 harg5 arg6 harg6) K := by
  simp only [cc0_norm1_proj_fwd_eq_skeleton]; unfold cc0_norm1_proj_fwd_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_eq_canon _ _ _ (View.cover_of_tiled _ S1024x1664.size (by rfl))).trans ?_
    frame_out
  iexists _; isplitr
  swap; · iexact H4
  ipureintro
  refine (View.read_writes_eq_canon _ _ _ (View.cover_of_tiled _ S1024x1024.size (by rfl))).trans ?_
  frame_out

set_option maxHeartbeats 1000000 in
/-- At a later point of the row: the normalised rows found, read, and left as they were. -/
theorem run_later (c : Dev nD) (E : Set ℕ) (i : grid0.Coords) (hc : ¬k0_cond1 i = 1#1)
    (arg2 : Memref sig .tc .vmem S1024x1024 .f32) (harg2 : arg2.IsWhole) (arg3 : Memref sig .tc .vmem S1x1024 .f32) (harg3 : arg3.IsWhole)
    (arg4 : Memref sig .tc .vmem S1664x1024 .bf16) (harg4 : arg4.IsWhole) (arg5 : Memref sig .tc .vmem S1024x1664 .bf16) (harg5 : arg5.IsWhole)
    (arg6 : Memref sig .tc .vmem S1024x1024 .bf16) (harg6 : arg6.IsWhole)
    (x0 : Vec F S1024x1024 .f32) (x1 : Vec F S1x1024 .f32) (x2 : Vec F S1664x1024 .bf16) (h : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare h
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 h x2) ∗ owns (c : Thread nD τ) arg6 fullShare h) -∗ K ⟨⟩))
      ⊢ wp frame (wpE (defs₀ (F := F)) Variants.none c none) E (cc0_norm1_proj_fwd i arg2 harg2 arg3 harg3 arg4 harg4 arg5 harg5 arg6 harg6) K := by
  simp only [cc0_norm1_proj_fwd_eq_skeleton]; unfold cc0_norm1_proj_fwd_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_eq_canon _ _ _ (View.cover_of_tiled _ S1024x1664.size (by rfl))).trans ?_
    frame_out
  iexists _; isplitr; · ipureintro; exact harg6.read_unread _
  iexact H4

/-! ## The proof data -/

/-- The normalised rows of the row of blocks point `t` is in. -/
def rows (c : Dev nD) (t : Fin cfg0.N) : Vec F S1024x1024 .bf16 := k0_pay1 (iblk m c 0 t) (iblk m c 1 t)

/-- The proof data: the arrays as the region finds them; after a point each operand's block as it was, the normalised
    rows, and their product with the point's columns; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (rows m c t) (iblk m c 2 t)
    | ⟨4, _⟩ => rows m c t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (rows m c t) (iblk m c 2 t) := by dsimp only [dats]
theorem after_4 (c : Dev nD) (t : Fin cfg0.N) : (dats m 0 c).after 4 t = rows m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Within a row of blocks the rows stay where they are. -/
theorem idx_same : ∀ t : Fin cfg0.N, ¬t.val % 4 = 0 →
    win0_0.index t = win0_0.index ⟨t.val - 1, Nat.lt_of_le_of_lt (Nat.sub_le _ _) t.isLt⟩ ∧ win0_1.index t = win0_1.index ⟨t.val - 1, Nat.lt_of_le_of_lt (Nat.sub_le _ _) t.isLt⟩ :=
  (by decide +kernel : ∀ t : Fin grid0.N, ¬t.val % 4 = 0 →
    win0_0.index t = win0_0.index ⟨t.val - 1, Nat.lt_of_le_of_lt (Nat.sub_le _ _) t.isLt⟩ ∧ win0_1.index t = win0_1.index ⟨t.val - 1, Nat.lt_of_le_of_lt (Nat.sub_le _ _) t.isLt⟩)

theorem rows_carry (c : Dev nD) (t : Fin cfg0.N) (h : ¬t.val % 4 = 0) : rows m c t = rows m c ⟨t.val - 1, by omega⟩ := by
  obtain ⟨h0, h1⟩ := idx_same t h
  have e0 : (iblk m c 0 t : Vec F S1024x1024 .f32) = iblk m c 0 ⟨t.val - 1, by omega⟩ := by
    funext z; blk_ext [iblk, h0]
  have e1 : (iblk m c 1 t : Vec F S1x1024 .f32) = iblk m c 1 ⟨t.val - 1, by omega⟩ := by
    funext z; blk_ext [iblk, h1]
  unfold rows
  rw [e0, e1]

/-- What a later point of a row of blocks finds: the normalised rows. -/
theorem before_4 (c : Dev nD) (t : Fin cfg0.N) (h : ¬t.val % 4 = 0) (d) : (dats m 0 c).before 4 t d = rows m c t := by
  have carry : ∀ (t : Fin cfg0.N) (_ : t.val ≠ 0), cfg0.idle 4 (cfg0.grid.coords t) = true → cfg0.fresh 4 t.val = false →
      (dats m 0 c).after 4 t = (dats m 0 c).after 4 ⟨t.val - 1, by omega⟩ := fun t _ hi _ => by
    rw [after_4, after_4]
    exact rows_carry m c t ((idle_iff t).mp hi)
  rw [(dats m 0 c).before_out_traj 4 rfl (fun _ _ => rfl) carry t.val t rfl d, fresh_eq t.val (Nat.le_of_lt t.isLt), decide_eq_false h,
    if_neg Bool.false_ne_true, after_4]
  exact (rows_carry m c t h).symm

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val % 4 = 0
  · unfold rows
    iintro ⟨HΦ, Ho, ⟨%d0, H0⟩, ⟨%d1, H1⟩, ⟨%d2, H2⟩, ⟨%d3, H3⟩, ⟨%d4, H4⟩⟩
    iapply (run_first c Set.univ (grid0.coords t) ((cond_iff t).mpr h0) _ _ _ _ _ _ _ _ _ _ (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before_4 m c t h0]
    iintro ⟨HΦ, Ho, ⟨%d0, H0⟩, ⟨%d1, H1⟩, ⟨%d2, H2⟩, ⟨%d3, H3⟩, ⟨%d4, H4⟩⟩
    iapply (run_later c Set.univ (grid0.coords t) (fun h => h0 ((cond_iff t).mp h)) _ _ _ _ _ _ _ _ _ _ (iblk m c 0 t) (iblk m c 1 t) (iblk m c 2 t) (rows m c t) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- Handing the normalised rows back suffices whether the point stored them, left them, or left them and writes them out. -/
theorem leave_4 (c : Dev nD) (t : Fin cfg0.N) :
    owns (c : Thread nD τ) (st0_4 t) fullShare ((dats m 0 c).after 4 t) ⊢
      (match cfg0.idle 4 (cfg0.grid.coords t) with
        | true =>
          match (cfg0.win 4).flush t with
          | false => iprop(∃ d, owns (c : Thread nD τ) (st0_4 t) fullShare ((dats m 0 c).before 4 t d))
          | true => owns (c : Thread nD τ) (st0_4 t) fullShare ((dats m 0 c).after 4 t)
        | false => owns (c : Thread nD τ) (st0_4 t) fullShare ((dats m 0 c).after 4 t) : sProp 𝕄) := by
  rcases Bool.eq_false_or_eq_true (cfg0.idle 4 (cfg0.grid.coords t)) with e | e <;> rw [e]
  rcases Bool.eq_false_or_eq_true ((cfg0.win 4).flush t) with e' | e' <;> rw [e']
  simp only [before_4 m c t ((idle_iff t).mp e), after_4]
  iintro H
  iexists (rows m c t)
  iexact H

/-- The body obligation at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (leave_4 m c t)
  iexact H4

/-! ## The run and the frame -/

-- the implicit arguments are found by unifying the conclusion with this one, which takes unfolding plain definitions
-- in a metavariable's type
set_option backward.isDefEq.respectTransparency.types false in
set_option maxHeartbeats 800000 in
/-- Every run ends, with every array at what the proof data say and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.ProjFKIdeal.Hand

end
-- ==== Proof.ProjF.Frame.lean ====
/- The first norm and projection, forward: the kernel's frame. The kernel and its idealization have the same text, and
   the idealization's run is proved over any float values: at bit-exact ones it is the kernel's. -/
module

public import proofs.«01_k».proof.Defs
public import proofs.«01_k».proof.Proof.Gen.ProjFK
public import proofs.«01_k».proof.Proof.ProjF.FrameIdeal

@[expose] public section

set_option maxRecDepth 16384

noncomputable section

namespace Cert.ProjFK.Hand

open Idealize.ShloMosaic Idealize.ShloMosaic.TcCoe Idealize.SL.Sem

/-- The two printed programs are one text, so the two statements are the same. -/
theorem frame_eq (m : (ℓ : Loc Cert.ProjFK.nD Cert.ProjFK.τ Cert.ProjFK.sig) → Buf (Elt Bits) ℓ) (ρ : Dev Cert.ProjFK.nD → PrngReg) :
    (θ_run (Cert.ProjFKIdeal.defs (F := Bits)) (onTc (τ := Cert.ProjFKIdeal.τ) (Cert.ProjFKIdeal.main (F := Bits))) ⟨m, fun _ => 0, ρ⟩
      (fun r => (∀ c : Dev Cert.ProjFKIdeal.nD,
        r.2.mem ((c.tc : Thread Cert.ProjFKIdeal.nD Cert.ProjFKIdeal.τ).loc Cert.ProjFKIdeal.main_arg0) = m ((c.tc : Thread Cert.ProjFKIdeal.nD Cert.ProjFKIdeal.τ).loc Cert.ProjFKIdeal.main_arg0)
        ∧ r.2.mem ((c.tc : Thread Cert.ProjFKIdeal.nD Cert.ProjFKIdeal.τ).loc Cert.ProjFKIdeal.main_arg1) = m ((c.tc : Thread Cert.ProjFKIdeal.nD Cert.ProjFKIdeal.τ).loc Cert.ProjFKIdeal.main_arg1)
        ∧ r.2.mem ((c.tc : Thread Cert.ProjFKIdeal.nD Cert.ProjFKIdeal.τ).loc Cert.ProjFKIdeal.main_arg2) = m ((c.tc : Thread Cert.ProjFKIdeal.nD Cert.ProjFKIdeal.τ).loc Cert.ProjFKIdeal.main_arg2))
        ∧ r.2.sem = fun _ => 0)) =
    (θ_run (Cert.ProjFK.defs (F := Bits)) (onTc (τ := Cert.ProjFK.τ) (Cert.ProjFK.main (F := Bits))) ⟨m, fun _ => 0, ρ⟩
      (fun r => (∀ c : Dev Cert.ProjFK.nD,
        r.2.mem ((c.tc : Thread Cert.ProjFK.nD Cert.ProjFK.τ).loc Cert.ProjFK.main_arg0) = m ((c.tc : Thread Cert.ProjFK.nD Cert.ProjFK.τ).loc Cert.ProjFK.main_arg0)
        ∧ r.2.mem ((c.tc : Thread Cert.ProjFK.nD Cert.ProjFK.τ).loc Cert.ProjFK.main_arg1) = m ((c.tc : Thread Cert.ProjFK.nD Cert.ProjFK.τ).loc Cert.ProjFK.main_arg1)
        ∧ r.2.mem ((c.tc : Thread Cert.ProjFK.nD Cert.ProjFK.τ).loc Cert.ProjFK.main_arg2) = m ((c.tc : Thread Cert.ProjFK.nD Cert.ProjFK.τ).loc Cert.ProjFK.main_arg2))
        ∧ r.2.sem = fun _ => 0)) := by
  sl_kernel_rfl

/-- The kernel's frame, from the run of its idealization at bit-exact values. -/
theorem frame : Cert.quiescent_ProjFK (hProjFK := Cert.ProjFK.Gen.facts) := fun m ρ _ =>
  (frame_eq m ρ).mp (Cert.ProjFKIdeal.Hand.frame (F := Bits) m ρ)

end Cert.ProjFK.Hand

end
-- ==== Proof.ProjF.Claim.lean ====
/- The first norm and projection, forward: the claim. Both programs leave the normalised rows and their product with
   the weight's columns, term for term as extended reals. -/
module

public import proofs.«01_k».proof.Defs
public import proofs.«01_k».proof.Proof.ProjF.FrameIdeal
public import proofs.«01_k».proof.Proof.Gen.ProjFRIdeal.Run
public import proofs.«01_k».proof.Proof.Gen.ProjFRIdeal.Read
public import proofs.«01_k».proof.Proof.Shared.Normed
public import Idealize.ShloMosaic.Lib.Pointwise
public import Idealize.ShloMosaic.Lib.Pipeline.ValueKit
public import Idealize.ShloMosaic.Lib.Claim

@[expose] public section

set_option maxRecDepth 16384

noncomputable section

namespace Cert.ProjFKIdeal.Hand

open Cert.Hand Cert.ProjFKIdeal Cert.ProjFKIdeal.Gen Idealize.ShloMosaic Idealize.ShloMosaic.TcCoe Idealize.SL.Sem

theorem idx : ∀ t : Fin cfg0.N, win0_0.index t = ![t.val / 4, 0] ∧ win0_1.index t = ![0, 0] ∧ win0_2.index t = ![t.val % 4, 0]
    ∧ win0_3.index t = ![t.val / 4, t.val % 4] ∧ win0_4.index t = ![t.val / 4, 0] :=
  (by decide +kernel : ∀ t : Fin grid0.N, _)

/-- Row `r` of point `t`'s rows, … -/
def row (t : Fin cfg0.N) (r : Fin 1024) : Fin 4096 := ⟨t.val / 4 * 1024 + r.val, by have := t.isLt; have := r.isLt; have : cfg0.N = 16 := rfl; omega⟩

/-- … and column `n` of its columns. -/
def col (t : Fin cfg0.N) (n : Fin 1664) : Fin 6656 := ⟨t.val % 4 * 1664 + n.val, by have := n.isLt; omega⟩

section lines
variable (x : FVec Ideal S4096x1024 .f32) (g : FVec Ideal S1x1024 .f32) (w : FVec Ideal S1024x6656 .f32)

/-- The normalised rows. -/
def hid (r : Fin 4096) (k : Fin 1024) : EReal := normed (fun j => x (ix2 r j)) (fun j => g (ix2 0 j)) k

/-- Their product with the weight. -/
def proj (r : Fin 4096) (n : Fin 6656) : EReal := ∑ k, hid x g r k * w (ix2 k n)

theorem pay_hid (X : FVec Ideal S1024x1024 .f32) (G : FVec Ideal S1x1024 .f32) (r k : Fin 1024) :
    k0_pay1 (F := Ideal) X G (ix2 r k) = normed (fun j => X (ix2 r j)) (fun j => G (ix2 0 j)) k := by
  pointwise [k0_pay1]
  rfl

theorem pay_proj (H : FVec Ideal S1024x1024 .bf16) (W : FVec Ideal S1664x1024 .bf16) (r : Fin 1024) (n : Fin 1664) :
    k0_pay2 (F := Ideal) H W (ix2 r n) = ∑ k, H (ix2 r k) * W (ix2 n k) := by
  pointwise [k0_pay2]

theorem ref_norm (r : Fin 4096) (k : Fin 1024) : Cert.ProjFRIdeal.Read.val_main_v11 (F := Ideal) x g (ix2 r k) = hid x g r k := by
  open Cert.ProjFRIdeal.Read in
  pointwise [val_main_v0, val_main_v1, val_main_v2, val_main_v3, val_main_v4, val_main_v5, val_main_v6, val_main_v7, val_main_v8,
    val_main_v9, val_main_v10, val_main_v11, val_main_cst, val_main_cst_0, val_main_cst_1]
  rfl

theorem ref_hid (r : Fin 4096) (k : Fin 1024) : Cert.ProjFRIdeal.Read.val_main_v14 (F := Ideal) x g (ix2 r k) = hid x g r k :=
  ref_norm x g r k

theorem ref_proj (r : Fin 4096) (n : Fin 6656) : Cert.ProjFRIdeal.Read.val_main_v13 (F := Ideal) x g w (ix2 r n) = proj x g w r n := by
  have hl : ∀ k : Fin 1024, Cert.ProjFRIdeal.Read.lidx_main_v12 (ix2 r n) k = ix2 r k := fun k => by funext a; fin_cases a <;> rfl
  have hr : ∀ k : Fin 1024, Cert.ProjFRIdeal.Read.ridx_main_v12 (ix2 r n) k = ix2 k n := fun k => by funext a; fin_cases a <;> rfl
  refine (Cert.ProjFRIdeal.Read.val_main_v12_apply x g w (ix2 r n)).trans ?_
  simp only [hl, hr, ref_norm]
  rfl

end lines

variable (m : (ℓ : Loc nD τ sig) → Buf (Elt Ideal) ℓ)
variable (x : FVec Ideal S4096x1024 .f32) (g : FVec Ideal S1x1024 .f32) (w : FVec Ideal S1024x6656 .f32)

section run
variable (c : Dev nD) (h0 : m ((c : Thread nD τ).loc main_arg0) = x) (h1 : m ((c : Thread nD τ).loc main_arg1) = g)
  (h2 : m ((c : Thread nD τ).loc main_arg2) = w)

include h0 h1 in
theorem rows_read (t : Fin cfg0.N) (r k : Fin 1024) : rows m c t (ix2 r k) = hid x g (row t r) k := by
  have e0 : (iblk m c 0 t : FVec Ideal S1024x1024 .f32) = fun j => x (ix2 (row t (j 0)) (j 1)) := by
    funext j; rw [← h0]; blk_ext [iblk, V, idx t, row]
  have e1 : (iblk m c 1 t : FVec Ideal S1x1024 .f32) = g := by
    funext j; rw [← h1]; blk_ext [iblk, V, idx t]
  unfold rows
  rw [e0, e1, pay_hid]
  rfl

include h2 in
theorem cols_read (t : Fin cfg0.N) : (iblk m c 2 t : FVec Ideal S1664x1024 .bf16) = fun j => w (ix2 (j 1) (col t (j 0))) := by
  funext j
  rw [← h2]
  idx_vars j; blk_simp [iblk]; entry_read; pointwise; blk_ext [idx t, col]

include h0 h1 in
/-- The normalised rows' array after the run, … -/
theorem final_hid : (dats m 0 c).arrAt 4 cfg0.N = fun i => hid x g (i 0) (i 1) := by
  refine (dats m 0 c).arrAt_eq_of_covers 4 _ (by decide +kernel) fun t _ y => ?_
  have e : (((cfg0.win 4).blk t).view.emb y : S4096x1024.Idx) = ix2 (row t (y 0)) (y 1) := by blk_ext [idx t, row]
  rw [e]
  blk_simp
  rw [after_4]
  idx_vars y
  exact rows_read m x g c h0 h1 t _ _

include h0 h1 h2 in
/-- … and the product's. -/
theorem final_proj : (dats m 0 c).arrAt 3 cfg0.N = fun i => proj x g w (i 0) (i 1) := by
  refine (dats m 0 c).arrAt_eq_of_covers 3 _ (by decide +kernel) fun t _ y => ?_
  have e : (((cfg0.win 3).blk t).view.emb y : S4096x6656.Idx) = ix2 (row t (y 0)) (col t (y 1)) := by blk_ext [idx t, row, col]
  rw [e]
  blk_simp
  rw [after_3, cols_read m w c h2]
  idx_vars y
  rw [pay_proj]
  simp only [rows_read m x g c h0 h1]
  rfl

end run

/-- The kernel's run, with its two arrays as found. -/
theorem run_blocks (ρ : Dev nD → PrngReg) : θ_run defs (onTc (τ := τ) (main (F := Ideal))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

/-- The pair's claim: both programs run and leave the same arrays. -/
theorem value : Cert.algebraic_ProjFKIdeal_ProjFRIdeal := by
  intro m g m' g' _ hagree
  refine ⟨_, _, run_blocks m g, ?_⟩
  refine (θ_run _ _ _).mono (fun r h c => ?_) (Cert.ProjFRIdeal.Value.run m' g')
  obtain ⟨r0, r1, ha⟩ := h c
  obtain ⟨e0, e1, e2⟩ := hagree c
  refine ⟨r0.trans ?_, r1.trans ?_, ha⟩
  · rw [final_proj m _ _ _ c rfl rfl rfl]
    refine (Cert.ProjFRIdeal.Read.val_main_v13_eq _ _ _).trans ?_
    rw [e0, e1, e2]
    funext i; idx_vars i
    exact ref_proj _ _ _ _ _
  · rw [final_hid m _ _ c rfl rfl]
    refine (Cert.ProjFRIdeal.Read.val_main_v14_eq _ _).trans ?_
    rw [e0, e1]
    funext i; idx_vars i
    exact ref_hid _ _ _ _

end Cert.ProjFKIdeal.Hand

end
-- ==== Proof.Dw.Claim.lean ====
/- The gradient of the input projection's weight, its second half of columns: the claim. Both programs leave, at every
   entry, one sum over the rows, term for term as extended reals. -/
module

public import proofs.«01_k».proof.Defs
public import proofs.«01_k».proof.Proof.Gen.DwKIdeal.Value
public import proofs.«01_k».proof.Proof.Gen.DwRIdeal.Run
public import proofs.«01_k».proof.Proof.Gen.DwRIdeal.Read
public import Idealize.ShloMosaic.Lib.Pointwise
public import Idealize.ShloMosaic.Lib.Pipeline.ValueKit
public import Idealize.ShloMosaic.Lib.Claim

@[expose] public section

set_option maxRecDepth 16384

noncomputable section

namespace Cert.DwKIdeal.Hand

open Cert.DwKIdeal Cert.DwKIdeal.Gen Idealize.ShloMosaic Idealize.ShloMosaic.TcCoe Idealize.SL.Sem

theorem idx : ∀ t : Fin cfg0.N, win0_0.index t = ![0, t.val] ∧ win0_1.index t = ![0, 1] ∧ win0_2.index t = ![t.val, 0] :=
  (by decide +kernel : ∀ t : Fin grid0.N, _)

/-- Row `r` of point `t`'s rows of the weight's transpose, … -/
def row (t : Fin cfg0.N) (r : Fin 512) : Fin 6656 := ⟨t.val * 512 + r.val, by have := t.isLt; have := r.isLt; have : cfg0.N = 13 := rfl; omega⟩

/-- … and column `n` of the second half. -/
def col (n : Fin 512) : Fin 1024 := ⟨512 + n.val, by have := n.isLt; omega⟩

/-- The weight's gradient. -/
def dw (d : FVec Ideal S4096x6656 .bf16) (h : FVec Ideal S4096x1024 .bf16) (r : Fin 6656) (n : Fin 512) : EReal :=
  ∑ k, d (ix2 k r) * h (ix2 k (col n))

theorem pay (D H : FVec Ideal S4096x512 .bf16) (r n : Fin 512) :
    k0_pay1 (F := Ideal) D H (ix2 r n) = ∑ k, D (ix2 k r) * H (ix2 k n) := by
  pointwise [k0_pay1]

theorem ref (d : FVec Ideal S4096x6656 .bf16) (h : FVec Ideal S4096x1024 .bf16) (r : Fin 6656) (n : Fin 512) :
    Cert.DwRIdeal.Read.val_main_v8 (F := Ideal) d h (ix2 r n) = dw d h r n := by
  open Cert.DwRIdeal.Read in
  rw [val_main_v8_apply, val_main_v7_apply, val_main_v6_apply, val_main_v5_apply]
  refine (val_main_v4_apply d h _).trans (Finset.sum_congr rfl fun k _ => ?_)
  refine congrArg₂ (fun a b : EReal => a * b) (congrArg d ?_) (congrArg h ?_)
  · funext a; fin_cases a <;> rfl
  · funext a; fin_cases a <;> rfl

variable (m : (ℓ : Loc nD τ sig) → Buf (Elt Ideal) ℓ)

/-- The array after the run. -/
theorem final (c : Dev nD) : (dats m 0 c).arrAt 2 cfg0.N
    = fun i => dw (m ((c : Thread nD τ).loc main_arg0)) (m ((c : Thread nD τ).loc main_arg1)) (i 0) (i 1) := by
  refine (dats m 0 c).arrAt_eq_of_covers 2 _ (by decide +kernel) fun t _ y => ?_
  have e : (((cfg0.win 2).blk t).view.emb y : S6656x512.Idx) = ix2 (row t (y 0)) (y 1) := by blk_ext [idx t, row]
  have e0 : (iblk m c 0 t : FVec Ideal S4096x512 .bf16) = fun j => m ((c : Thread nD τ).loc main_arg0) (ix2 (j 0) (row t (j 1))) := by
    funext z; blk_ext [iblk, V, idx t, row]
  have e1 : (iblk m c 1 t : FVec Ideal S4096x512 .bf16) = fun j => m ((c : Thread nD τ).loc main_arg1) (ix2 (j 0) (col (j 1))) := by
    funext z; blk_ext [iblk, V, idx t, col]
  rw [e]
  blk_simp
  rw [after0_2]
  frame_out
  rw [e0, e1]
  idx_vars y
  exact pay _ _ _ _

/-- The pair's claim: both programs run and leave the same array. -/
theorem value : Cert.algebraic_DwKIdeal_DwRIdeal := by
  intro m g m' g' _ hagree
  refine ⟨_, Value.run_blocks m g, ?_⟩
  refine (θ_run _ _ _).mono (fun r h c => ?_) (Cert.DwRIdeal.Value.run m' g')
  obtain ⟨r0, ha⟩ := h c
  obtain ⟨e0, e1⟩ := hagree c
  refine ⟨r0.trans ?_, ha⟩
  rw [final m c]
  refine (Cert.DwRIdeal.Read.val_main_v8_eq _ _).trans ?_
  rw [e0, e1]
  funext i; idx_vars i
  exact ref _ _ _ _

end Cert.DwKIdeal.Hand

end
-- ==== Proof.Adam.Claim.lean ====
/- The optimiser's step of the input projection's weight, with the sum of the devices' parts: the claim. Both programs
   leave the summed gradient, the weight's change and the two moments, term for term as extended reals. -/
module

public import proofs.«01_k».proof.Defs
public import proofs.«01_k».proof.Proof.Gen.AdamKIdeal.Value
public import proofs.«01_k».proof.Proof.Gen.AdamRIdeal.Run
public import proofs.«01_k».proof.Proof.Gen.AdamRIdeal.Read
public import Idealize.ShloMosaic.Lib.Pointwise
public import Idealize.ShloMosaic.Lib.Pipeline.ValueKit
public import Idealize.ShloMosaic.Lib.Claim

@[expose] public section

set_option maxRecDepth 16384

noncomputable section

namespace Cert.AdamKIdeal.Hand

open Cert.AdamKIdeal Cert.AdamKIdeal.Gen Idealize.ShloMosaic Idealize.ShloMosaic.TcCoe Idealize.SL.Sem

/-- The float32 number of these bits. -/
def lit (b : BitVec 32) : EReal := Ideal.ofBits .f32 b

/-- The sum of the eight devices' parts of a row, at column `n`: the first half of the columns is in `a`, the second in `b`. -/
def total (a b : Fin 8 → Fin 512 → EReal) (n : Fin 1024) : EReal :=
  ∑ d, if h : n.val < 512 then a d ⟨n.val, h⟩ else b d ⟨n.val - 512, by have := n.isLt; omega⟩

/-- The first moment, … -/
def mom (g m : EReal) : EReal := lit 0x3F666666#32 * m + lit 0x3DCCCCCD#32 * g

/-- … the second, … -/
def vel (g v : EReal) : EReal := lit 0x3F7FBE77#32 * v + lit 0x3A83126F#32 * (g * g)

/-- … and the weight's change. -/
def step (g w m v : EReal) : EReal :=
  lit 0xBA83126F#32 * (Ideal.div (Ideal.div (mom g m) (lit 0x3F26BD02#32)) (Ideal.sqrt (Ideal.div (vel g v) (lit 0x3C231ACC#32)) + lit 0x322BCC77#32) + lit 0x3C23D70A#32 * w)

section body
variable (p q : FVec Ideal S8x208x512 .bf16) (w M v : FVec Ideal S208x1024 .f32) (r : Fin 208) (n : Fin 1024)

theorem half (r : Fin 208) (k : Fin 512) : k0_pay7 (F := Ideal) p q w M v (ix2 r k) = ∑ d, p (ix3 d r k) := by
  unfold k0_pay7
  rw [Fin.sum_univ_eight]
  pointwise [k0_pay4]

theorem sums : k0_pay8 (F := Ideal) p q w M v (ix2 r n) = total (fun d k => p (ix3 d r k)) (fun d k => q (ix3 d r k)) n := by
  unfold k0_pay8 total
  pointwise [k0_pay5]
  by_cases h : n.val < 512
  · simp only [dif_pos h]
    exact half p q w M v r _
  · simp only [dif_neg h, Fin.sum_univ_eight]

theorem pay_mom (G : FVec Ideal S208x1024 .f32) : k0_pay1 (F := Ideal) G M (ix2 r n) = mom (G (ix2 r n)) (M (ix2 r n)) := by
  pointwise [k0_pay1]
  rfl

theorem pay_vel (G : FVec Ideal S208x1024 .f32) : k0_pay2 (F := Ideal) G v (ix2 r n) = vel (G (ix2 r n)) (v (ix2 r n)) := by
  pointwise [k0_pay2]
  rfl

theorem pay_step (G : FVec Ideal S208x1024 .f32) : k0_pay3 (F := Ideal) G (k0_pay6 w) M v (ix2 r n)
    = step (G (ix2 r n)) (w (ix2 r n)) (M (ix2 r n)) (v (ix2 r n)) := by
  pointwise [k0_pay3, k0_pay6, pay_mom, pay_vel]
  rfl

end body

section lines
variable (p q : FVec Ideal S8x832x512 .bf16) (w M v : FVec Ideal S1024x832 .f32) (r : Fin 832) (n : Fin 1024)

theorem ref_sum : Cert.AdamRIdeal.Read.val_main_v2 (F := Ideal) p q (ix2 r n)
    = total (fun d k => p (ix3 d r k)) (fun d k => q (ix3 d r k)) n := by
  open Cert.AdamRIdeal.Read in
  pointwise [val_main_v0, val_main_v1, val_main_v2, val_main_cst]
  rfl

theorem ref_mom : Cert.AdamRIdeal.Read.val_main_v29 (F := Ideal) p q M (ix2 r n)
    = mom (Cert.AdamRIdeal.Read.val_main_v2 (F := Ideal) p q (ix2 r n)) (M (ix2 n r)) := by
  open Cert.AdamRIdeal.Read in
  pointwise [val_main_v29, val_main_v8, val_main_v7, val_main_v6, val_main_v5, val_main_v4, val_main_v3, val_main_cst_0, val_main_cst_1]
  rfl

theorem ref_vel : Cert.AdamRIdeal.Read.val_main_v30 (F := Ideal) p q v (ix2 r n)
    = vel (Cert.AdamRIdeal.Read.val_main_v2 (F := Ideal) p q (ix2 r n)) (v (ix2 n r)) := by
  open Cert.AdamRIdeal.Read in
  pointwise [val_main_v30, val_main_v14, val_main_v13, val_main_v12, val_main_v11, val_main_v10, val_main_v9, val_main_v3,
    val_main_cst_2, val_main_cst_3]
  rfl

theorem ref_step : Cert.AdamRIdeal.Read.val_main_v28 (F := Ideal) p q w M v (ix2 r n)
    = step (Cert.AdamRIdeal.Read.val_main_v2 (F := Ideal) p q (ix2 r n)) (w (ix2 n r)) (M (ix2 n r)) (v (ix2 n r)) := by
  open Cert.AdamRIdeal.Read in
  pointwise [val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_cst_0, val_main_cst_1, val_main_cst_2, val_main_cst_3, val_main_cst_4, val_main_cst_5, val_main_cst_6, val_main_cst_7,
    val_main_cst_8]
  rfl

/-- The summed gradient, from the parts. -/
def grad (r : Fin 832) (n : Fin 1024) : EReal := total (fun d k => p (ix3 d r k)) (fun d k => q (ix3 d r k)) n

end lines

theorem idx : ∀ t : Fin cfg0.N, (win0_0.index t = ![0, t.val, 0] ∧ win0_1.index t = ![0, t.val, 0]) ∧ (win0_2.index t = ![t.val, 0]
    ∧ win0_3.index t = ![t.val, 0] ∧ win0_4.index t = ![t.val, 0]) ∧ win0_5.index t = ![t.val, 0] ∧ win0_6.index t = ![t.val, 0]
    ∧ win0_7.index t = ![t.val, 0] ∧ win0_8.index t = ![t.val, 0] :=
  (by decide +kernel : ∀ t : Fin grid0.N, _)

/-- Row `r` of point `t`'s rows. -/
def row (t : Fin cfg0.N) (r : Fin 208) : Fin 832 := ⟨t.val * 208 + r.val, by have := t.isLt; have := r.isLt; have : cfg0.N = 4 := rfl; omega⟩

variable (m : (ℓ : Loc nD τ sig) → Buf (Elt Ideal) ℓ)
variable (p q : FVec Ideal S8x832x512 .bf16) (w M v : FVec Ideal S1024x832 .f32)

section run
variable (c : Dev nD) (h0 : m ((c : Thread nD τ).loc main_arg0) = p) (h1 : m ((c : Thread nD τ).loc main_arg1) = q)
  (h2 : m ((c : Thread nD τ).loc main_arg2) = w) (h3 : m ((c : Thread nD τ).loc main_arg3) = M)
  (h4 : m ((c : Thread nD τ).loc main_arg4) = v)

include h0 h1 in
/-- The sum at point `t`. -/
theorem sums_read (t : Fin cfg0.N) (X Y Z : FVec Ideal S208x1024 .f32) (r : Fin 208) (n : Fin 1024) :
    k0_pay8 (F := Ideal) (iblk m c 0 t) (iblk m c 1 t) X Y Z (ix2 r n) = grad p q (row t r) n := by
  have e0 : (iblk m c 0 t : FVec Ideal S8x208x512 .bf16) = fun j => p (ix3 (j 0) (row t (j 1)) (j 2)) := by
    funext j; rw [← h0]; blk_ext [iblk, V, idx t, row]
  have e1 : (iblk m c 1 t : FVec Ideal S8x208x512 .bf16) = fun j => q (ix3 (j 0) (row t (j 1)) (j 2)) := by
    funext j; rw [← h1]; blk_ext [iblk, V, idx t, row]
  rw [e0, e1, sums]
  rfl

include h2 in
theorem w_read (t : Fin cfg0.N) : (iblk m c 2 t : FVec Ideal S208x1024 .f32) = fun j => w (ix2 (j 1) (row t (j 0))) := by
  funext j
  rw [← h2]
  idx_vars j; blk_simp [iblk]; entry_read; pointwise; blk_ext [idx t, row]

include h3 in
theorem m_read (t : Fin cfg0.N) : (iblk m c 3 t : FVec Ideal S208x1024 .f32) = fun j => M (ix2 (j 1) (row t (j 0))) := by
  funext j
  rw [← h3]
  idx_vars j; blk_simp [iblk]; entry_read; pointwise; blk_ext [idx t, row]

include h4 in
theorem v_read (t : Fin cfg0.N) : (iblk m c 4 t : FVec Ideal S208x1024 .f32) = fun j => v (ix2 (j 1) (row t (j 0))) := by
  funext j
  rw [← h4]
  idx_vars j; blk_simp [iblk]; entry_read; pointwise; blk_ext [idx t, row]

include h0 h1 in
/-- The arrays after the run: the summed gradient, … -/
theorem final_grad : (dats m 0 c).arrAt 5 cfg0.N = fun i => grad p q (i 0) (i 1) := by
  refine (dats m 0 c).arrAt_eq_of_covers 5 _ (by decide +kernel) fun t _ y => ?_
  have e : (((cfg0.win 5).blk t).view.emb y : S832x1024.Idx) = ix2 (row t (y 0)) (y 1) := by blk_ext [idx t, row]
  rw [e]
  blk_simp
  rw [after0_5]
  frame_out
  idx_vars y
  exact sums_read m p q c h0 h1 t (iblk m c 2 t) (iblk m c 3 t) (iblk m c 4 t) _ _

include h0 h1 h2 h3 h4 in
/-- … the weight's change, … -/
theorem final_step : (dats m 0 c).arrAt 6 cfg0.N
    = fun i => step (grad p q (i 0) (i 1)) (w (ix2 (i 1) (i 0))) (M (ix2 (i 1) (i 0))) (v (ix2 (i 1) (i 0))) := by
  refine (dats m 0 c).arrAt_eq_of_covers 6 _ (by decide +kernel) fun t _ y => ?_
  have e : (((cfg0.win 6).blk t).view.emb y : S832x1024.Idx) = ix2 (row t (y 0)) (y 1) := by blk_ext [idx t, row]
  rw [e]
  blk_simp
  rw [after0_6]
  frame_out
  idx_vars y
  rw [pay_step, sums_read m p q c h0 h1, w_read m w c h2, m_read m M c h3, v_read m v c h4]
  rfl

include h0 h1 h3 in
/-- … the first moment … -/
theorem final_mom : (dats m 0 c).arrAt 7 cfg0.N = fun i => mom (grad p q (i 0) (i 1)) (M (ix2 (i 1) (i 0))) := by
  refine (dats m 0 c).arrAt_eq_of_covers 7 _ (by decide +kernel) fun t _ y => ?_
  have e : (((cfg0.win 7).blk t).view.emb y : S832x1024.Idx) = ix2 (row t (y 0)) (y 1) := by blk_ext [idx t, row]
  rw [e]
  blk_simp
  rw [after0_7]
  frame_out
  idx_vars y
  rw [pay_mom, sums_read m p q c h0 h1, m_read m M c h3]
  rfl

include h0 h1 h4 in
/-- … and the second. -/
theorem final_vel : (dats m 0 c).arrAt 8 cfg0.N = fun i => vel (grad p q (i 0) (i 1)) (v (ix2 (i 1) (i 0))) := by
  refine (dats m 0 c).arrAt_eq_of_covers 8 _ (by decide +kernel) fun t _ y => ?_
  have e : (((cfg0.win 8).blk t).view.emb y : S832x1024.Idx) = ix2 (row t (y 0)) (y 1) := by blk_ext [idx t, row]
  rw [e]
  blk_simp
  rw [after0_8]
  frame_out
  idx_vars y
  rw [pay_vel, sums_read m p q c h0 h1, v_read m v c h4]
  rfl

end run

/-- The pair's claim: both programs run and leave the same arrays. -/
theorem value : Cert.algebraic_AdamKIdeal_AdamRIdeal := by
  intro m g m' g' _ hagree
  refine ⟨_, _, _, _, Value.run_blocks m g, ?_⟩
  refine (θ_run _ _ _).mono (fun r h c => ?_) (Cert.AdamRIdeal.Value.run m' g')
  obtain ⟨r0, r1, r2, r3, ha⟩ := h c
  obtain ⟨e0, e1, e2, e3, e4⟩ := hagree c
  refine ⟨r0.trans ?_, r1.trans ?_, r2.trans ?_, r3.trans ?_, ha⟩
  · rw [final_grad m _ _ c rfl rfl]
    refine (Cert.AdamRIdeal.Read.val_main_v2_eq _ _).trans ?_
    rw [e0, e1]
    funext i; idx_vars i
    exact ref_sum _ _ _ _
  · rw [final_step m _ _ _ _ _ c rfl rfl rfl rfl rfl]
    refine (Cert.AdamRIdeal.Read.val_main_v28_eq _ _ _ _ _).trans ?_
    rw [e0, e1, e2, e3, e4]
    funext i; idx_vars i
    rw [ref_step, ref_sum]
    rfl
  · rw [final_mom m _ _ _ c rfl rfl rfl]
    refine (Cert.AdamRIdeal.Read.val_main_v29_eq _ _ _).trans ?_
    rw [e0, e1, e3]
    funext i; idx_vars i
    rw [ref_mom, ref_sum]
    rfl
  · rw [final_vel m _ _ _ c rfl rfl rfl]
    refine (Cert.AdamRIdeal.Read.val_main_v30_eq _ _ _).trans ?_
    rw [e0, e1, e4]
    funext i; idx_vars i
    rw [ref_vel, ref_sum]
    rfl

end Cert.AdamKIdeal.Hand

end
-- ==== Proof.lean ====
/- The certificate's claim: the frames as generated (one by hand), the idealisation trivially preserved, and one value theorem per pair. -/
module

public import proofs.«01_k».proof.Defs
public import proofs.«01_k».proof.Proof.Gen.NormK
public import proofs.«01_k».proof.Proof.Gen.NormK.Frame
public import proofs.«01_k».proof.Proof.Gen.NormKIdeal
public import proofs.«01_k».proof.Proof.Gen.NormKIdeal.Frame
public import proofs.«01_k».proof.Proof.Gen.NormKIdeal.Value
public import proofs.«01_k».proof.Proof.Gen.NormRIdeal
public import proofs.«01_k».proof.Proof.Gen.NormRIdeal.Run
public import proofs.«01_k».proof.Proof.Gen.NormRIdeal.Read
public import proofs.«01_k».proof.Proof.Gen.AttnK
public import proofs.«01_k».proof.Proof.Gen.AttnK.Frame
public import proofs.«01_k».proof.Proof.Gen.AttnKIdeal
public import proofs.«01_k».proof.Proof.Gen.AttnKIdeal.Frame
public import proofs.«01_k».proof.Proof.Gen.AttnKIdeal.Value
public import proofs.«01_k».proof.Proof.Gen.AttnRIdeal
public import proofs.«01_k».proof.Proof.Gen.AttnRIdeal.Run
public import proofs.«01_k».proof.Proof.Gen.AttnRIdeal.Read
public import proofs.«01_k».proof.Proof.Gen.ConvK
public import proofs.«01_k».proof.Proof.Gen.ConvK.Frame
public import proofs.«01_k».proof.Proof.Gen.ConvKIdeal
public import proofs.«01_k».proof.Proof.Gen.ConvKIdeal.Frame
public import proofs.«01_k».proof.Proof.Gen.ConvKIdeal.Value
public import proofs.«01_k».proof.Proof.Gen.ConvRIdeal
public import proofs.«01_k».proof.Proof.Gen.ConvRIdeal.Run
public import proofs.«01_k».proof.Proof.Gen.ConvRIdeal.Read
public import proofs.«01_k».proof.Proof.Gen.GmlpK
public import proofs.«01_k».proof.Proof.Gen.GmlpK.Frame
public import proofs.«01_k».proof.Proof.Gen.GmlpKIdeal
public import proofs.«01_k».proof.Proof.Gen.GmlpKIdeal.Frame
public import proofs.«01_k».proof.Proof.Gen.GmlpKIdeal.Value
public import proofs.«01_k».proof.Proof.Gen.GmlpRIdeal
public import proofs.«01_k».proof.Proof.Gen.GmlpRIdeal.Run
public import proofs.«01_k».proof.Proof.Gen.GmlpRIdeal.Read
public import proofs.«01_k».proof.Proof.Gen.MergeK
public import proofs.«01_k».proof.Proof.Gen.MergeK.Frame
public import proofs.«01_k».proof.Proof.Gen.MergeKIdeal
public import proofs.«01_k».proof.Proof.Gen.MergeKIdeal.Frame
public import proofs.«01_k».proof.Proof.Gen.MergeKIdeal.Value
public import proofs.«01_k».proof.Proof.Gen.MergeRIdeal
public import proofs.«01_k».proof.Proof.Gen.MergeRIdeal.Run
public import proofs.«01_k».proof.Proof.Gen.MergeRIdeal.Read
public import proofs.«01_k».proof.Proof.Gen.LossK
public import proofs.«01_k».proof.Proof.Gen.LossK.Frame
public import proofs.«01_k».proof.Proof.Gen.LossKIdeal
public import proofs.«01_k».proof.Proof.Gen.LossKIdeal.Frame
public import proofs.«01_k».proof.Proof.Gen.LossKIdeal.Value
public import proofs.«01_k».proof.Proof.Gen.LossRIdeal
public import proofs.«01_k».proof.Proof.Gen.LossRIdeal.Run
public import proofs.«01_k».proof.Proof.Gen.LossRIdeal.Read
public import proofs.«01_k».proof.Proof.Gen.UpK
public import proofs.«01_k».proof.Proof.Gen.UpK.Frame
public import proofs.«01_k».proof.Proof.Gen.UpKIdeal
public import proofs.«01_k».proof.Proof.Gen.UpKIdeal.Frame
public import proofs.«01_k».proof.Proof.Gen.UpKIdeal.Value
public import proofs.«01_k».proof.Proof.Gen.UpRIdeal
public import proofs.«01_k».proof.Proof.Gen.UpRIdeal.Run
public import proofs.«01_k».proof.Proof.Gen.UpRIdeal.Read
public import proofs.«01_k».proof.Proof.Gen.PrK
public import proofs.«01_k».proof.Proof.Gen.PrK.Frame
public import proofs.«01_k».proof.Proof.Gen.PrKIdeal
public import proofs.«01_k».proof.Proof.Gen.PrKIdeal.Frame
public import proofs.«01_k».proof.Proof.Gen.PrKIdeal.Value
public import proofs.«01_k».proof.Proof.Gen.PrRIdeal
public import proofs.«01_k».proof.Proof.Gen.PrRIdeal.Run
public import proofs.«01_k».proof.Proof.Gen.PrRIdeal.Read
public import proofs.«01_k».proof.Proof.Gen.HgrnK
public import proofs.«01_k».proof.Proof.Gen.HgrnK.Frame
public import proofs.«01_k».proof.Proof.Gen.HgrnKIdeal
public import proofs.«01_k».proof.Proof.Gen.HgrnKIdeal.Frame
public import proofs.«01_k».proof.Proof.Gen.AttnFK
public import proofs.«01_k».proof.Proof.Gen.AttnFK.Frame
public import proofs.«01_k».proof.Proof.Gen.AttnFKIdeal
public import proofs.«01_k».proof.Proof.Gen.AttnFKIdeal.Frame
public import proofs.«01_k».proof.Proof.Gen.AttnFKIdeal.Value
public import proofs.«01_k».proof.Proof.Gen.AttnFRIdeal
public import proofs.«01_k».proof.Proof.Gen.AttnFRIdeal.Run
public import proofs.«01_k».proof.Proof.Gen.AttnFRIdeal.Read
public import proofs.«01_k».proof.Proof.Gen.NormFK
public import proofs.«01_k».proof.Proof.Gen.NormFK.Frame
public import proofs.«01_k».proof.Proof.Gen.NormFKIdeal
public import proofs.«01_k».proof.Proof.Gen.NormFKIdeal.Frame
public import proofs.«01_k».proof.Proof.Gen.NormFKIdeal.Value
public import proofs.«01_k».proof.Proof.Gen.NormFRIdeal
public import proofs.«01_k».proof.Proof.Gen.NormFRIdeal.Run
public import proofs.«01_k».proof.Proof.Gen.NormFRIdeal.Read
public import proofs.«01_k».proof.Proof.Gen.GmlpFK
public import proofs.«01_k».proof.Proof.Gen.GmlpFK.Frame
public import proofs.«01_k».proof.Proof.Gen.GmlpFKIdeal
public import proofs.«01_k».proof.Proof.Gen.GmlpFKIdeal.Frame
public import proofs.«01_k».proof.Proof.Gen.GmlpFKIdeal.Value
public import proofs.«01_k».proof.Proof.Gen.GmlpFRIdeal
public import proofs.«01_k».proof.Proof.Gen.GmlpFRIdeal.Run
public import proofs.«01_k».proof.Proof.Gen.GmlpFRIdeal.Read
public import proofs.«01_k».proof.Proof.Gen.MergeFK
public import proofs.«01_k».proof.Proof.Gen.MergeFK.Frame
public import proofs.«01_k».proof.Proof.Gen.MergeFKIdeal
public import proofs.«01_k».proof.Proof.Gen.MergeFKIdeal.Frame
public import proofs.«01_k».proof.Proof.Gen.MergeFKIdeal.Value
public import proofs.«01_k».proof.Proof.Gen.MergeFRIdeal
public import proofs.«01_k».proof.Proof.Gen.MergeFRIdeal.Run
public import proofs.«01_k».proof.Proof.Gen.MergeFRIdeal.Read
public import proofs.«01_k».proof.Proof.Gen.ConvFK
public import proofs.«01_k».proof.Proof.Gen.ConvFK.Frame
public import proofs.«01_k».proof.Proof.Gen.ConvFKIdeal
public import proofs.«01_k».proof.Proof.Gen.ConvFKIdeal.Frame
public import proofs.«01_k».proof.Proof.Gen.ConvFKIdeal.Value
public import proofs.«01_k».proof.Proof.Gen.ConvFRIdeal
public import proofs.«01_k».proof.Proof.Gen.ConvFRIdeal.Run
public import proofs.«01_k».proof.Proof.Gen.ConvFRIdeal.Read
public import proofs.«01_k».proof.Proof.Gen.ProjFK
public import proofs.«01_k».proof.Proof.Gen.ProjFKIdeal
public import proofs.«01_k».proof.Proof.Gen.ProjFRIdeal
public import proofs.«01_k».proof.Proof.Gen.ProjFRIdeal.Run
public import proofs.«01_k».proof.Proof.Gen.ProjFRIdeal.Read
public import proofs.«01_k».proof.Proof.Gen.HgrnFK
public import proofs.«01_k».proof.Proof.Gen.HgrnFK.Frame
public import proofs.«01_k».proof.Proof.Gen.HgrnFKIdeal
public import proofs.«01_k».proof.Proof.Gen.HgrnFKIdeal.Frame
public import proofs.«01_k».proof.Proof.Gen.DwK
public import proofs.«01_k».proof.Proof.Gen.DwK.Frame
public import proofs.«01_k».proof.Proof.Gen.DwKIdeal
public import proofs.«01_k».proof.Proof.Gen.DwKIdeal.Frame
public import proofs.«01_k».proof.Proof.Gen.DwKIdeal.Value
public import proofs.«01_k».proof.Proof.Gen.DwRIdeal
public import proofs.«01_k».proof.Proof.Gen.DwRIdeal.Run
public import proofs.«01_k».proof.Proof.Gen.DwRIdeal.Read
public import proofs.«01_k».proof.Proof.Gen.AdamK
public import proofs.«01_k».proof.Proof.Gen.AdamK.Frame
public import proofs.«01_k».proof.Proof.Gen.AdamKIdeal
public import proofs.«01_k».proof.Proof.Gen.AdamKIdeal.Frame
public import proofs.«01_k».proof.Proof.Gen.AdamKIdeal.Value
public import proofs.«01_k».proof.Proof.Gen.AdamRIdeal
public import proofs.«01_k».proof.Proof.Gen.AdamRIdeal.Run
public import proofs.«01_k».proof.Proof.Gen.AdamRIdeal.Read
public import proofs.«01_k».proof.Proof.Gen.Pre_finite_norm
public import proofs.«01_k».proof.Proof.Gen.Pre_finite_attn
public import proofs.«01_k».proof.Proof.Gen.Pre_finite_conv
public import proofs.«01_k».proof.Proof.Gen.Pre_finite_gmlp
public import proofs.«01_k».proof.Proof.Gen.Pre_finite_merge
public import proofs.«01_k».proof.Proof.Gen.Pre_finite_loss
public import proofs.«01_k».proof.Proof.Gen.Pre_finite_up
public import proofs.«01_k».proof.Proof.Gen.Pre_finite_pr
public import proofs.«01_k».proof.Proof.Norm.Claim
public import proofs.«01_k».proof.Proof.Attn.Claim
public import proofs.«01_k».proof.Proof.Conv.Claim
public import proofs.«01_k».proof.Proof.Gmlp.Claim
public import proofs.«01_k».proof.Proof.Merge.Claim
public import proofs.«01_k».proof.Proof.Loss.Claim
public import proofs.«01_k».proof.Proof.Up.Claim
public import proofs.«01_k».proof.Proof.Pr.Claim
public import proofs.«01_k».proof.Proof.AttnF.Claim
public import proofs.«01_k».proof.Proof.NormF.Claim
public import proofs.«01_k».proof.Proof.GmlpF.Claim
public import proofs.«01_k».proof.Proof.MergeF.Claim
public import proofs.«01_k».proof.Proof.ConvF.Claim
public import proofs.«01_k».proof.Proof.ProjF.Frame
public import proofs.«01_k».proof.Proof.ProjF.Claim
public import proofs.«01_k».proof.Proof.Dw.Claim
public import proofs.«01_k».proof.Proof.Adam.Claim

@[expose] public section

noncomputable section

namespace Cert.Proof

open Idealize.ShloMosaic Idealize.SL.Sem

/-- Every claim of the certificate. -/
theorem claim : Cert.Claim :=
  ⟨Cert.NormK.Gen.facts,
   Cert.NormKIdeal.Gen.facts,
   Cert.NormRIdeal.Gen.facts,
   Cert.AttnK.Gen.facts,
   Cert.AttnKIdeal.Gen.facts,
   Cert.AttnRIdeal.Gen.facts,
   Cert.ConvK.Gen.facts,
   Cert.ConvKIdeal.Gen.facts,
   Cert.ConvRIdeal.Gen.facts,
   Cert.GmlpK.Gen.facts,
   Cert.GmlpKIdeal.Gen.facts,
   Cert.GmlpRIdeal.Gen.facts,
   Cert.MergeK.Gen.facts,
   Cert.MergeKIdeal.Gen.facts,
   Cert.MergeRIdeal.Gen.facts,
   Cert.LossK.Gen.facts,
   Cert.LossKIdeal.Gen.facts,
   Cert.LossRIdeal.Gen.facts,
   Cert.UpK.Gen.facts,
   Cert.UpKIdeal.Gen.facts,
   Cert.UpRIdeal.Gen.facts,
   Cert.PrK.Gen.facts,
   Cert.PrKIdeal.Gen.facts,
   Cert.PrRIdeal.Gen.facts,
   Cert.HgrnK.Gen.facts,
   Cert.HgrnKIdeal.Gen.facts,
   Cert.AttnFK.Gen.facts,
   Cert.AttnFKIdeal.Gen.facts,
   Cert.AttnFRIdeal.Gen.facts,
   Cert.NormFK.Gen.facts,
   Cert.NormFKIdeal.Gen.facts,
   Cert.NormFRIdeal.Gen.facts,
   Cert.GmlpFK.Gen.facts,
   Cert.GmlpFKIdeal.Gen.facts,
   Cert.GmlpFRIdeal.Gen.facts,
   Cert.MergeFK.Gen.facts,
   Cert.MergeFKIdeal.Gen.facts,
   Cert.MergeFRIdeal.Gen.facts,
   Cert.ConvFK.Gen.facts,
   Cert.ConvFKIdeal.Gen.facts,
   Cert.ConvFRIdeal.Gen.facts,
   Cert.ProjFK.Gen.facts,
   Cert.ProjFKIdeal.Gen.facts,
   Cert.ProjFRIdeal.Gen.facts,
   Cert.HgrnFK.Gen.facts,
   Cert.HgrnFKIdeal.Gen.facts,
   Cert.DwK.Gen.facts,
   Cert.DwKIdeal.Gen.facts,
   Cert.DwRIdeal.Gen.facts,
   Cert.AdamK.Gen.facts,
   Cert.AdamKIdeal.Gen.facts,
   Cert.AdamRIdeal.Gen.facts,
   Cert.Pre_finite_norm.Gen.facts,
   Cert.Pre_finite_attn.Gen.facts,
   Cert.Pre_finite_conv.Gen.facts,
   Cert.Pre_finite_gmlp.Gen.facts,
   Cert.Pre_finite_merge.Gen.facts,
   Cert.Pre_finite_loss.Gen.facts,
   Cert.Pre_finite_up.Gen.facts,
   Cert.Pre_finite_pr.Gen.facts,
   fun m ρ _ => Cert.NormK.Gen.frame m ρ,
   fun m ρ _ => Cert.NormKIdeal.Gen.frame m ρ,
   fun m ρ _ => Cert.NormKIdeal.Gen.frame m ρ,
   fun m ρ _ => (θ_run _ _ _).mono (fun _ h => ⟨fun c => (h c).2.2, sem_eq_zero_of_no_sems rfl _⟩) (Cert.NormRIdeal.Value.run m ρ),
   fun m ρ _ => (θ_run _ _ _).mono (fun _ h => ⟨fun c => (h c).2.2, sem_eq_zero_of_no_sems rfl _⟩) (Cert.NormRIdeal.Value.run m ρ),
   fun m ρ _ => Cert.AttnK.Gen.frame m ρ,
   fun m ρ _ => Cert.AttnKIdeal.Gen.frame m ρ,
   fun m ρ _ => Cert.AttnKIdeal.Gen.frame m ρ,
   fun m ρ _ => (θ_run _ _ _).mono (fun _ h => ⟨fun c => (h c).2.2, sem_eq_zero_of_no_sems rfl _⟩) (Cert.AttnRIdeal.Value.run m ρ),
   fun m ρ _ => (θ_run _ _ _).mono (fun _ h => ⟨fun c => (h c).2.2, sem_eq_zero_of_no_sems rfl _⟩) (Cert.AttnRIdeal.Value.run m ρ),
   fun m ρ _ => Cert.ConvK.Gen.frame m ρ,
   fun m ρ _ => Cert.ConvKIdeal.Gen.frame m ρ,
   fun m ρ _ => Cert.ConvKIdeal.Gen.frame m ρ,
   fun m ρ _ => (θ_run _ _ _).mono (fun _ h => ⟨fun c => (h c).2.2.2.2, sem_eq_zero_of_no_sems rfl _⟩) (Cert.ConvRIdeal.Value.run m ρ),
   fun m ρ _ => (θ_run _ _ _).mono (fun _ h => ⟨fun c => (h c).2.2.2.2, sem_eq_zero_of_no_sems rfl _⟩) (Cert.ConvRIdeal.Value.run m ρ),
   fun m ρ _ => Cert.GmlpK.Gen.frame m ρ,
   fun m ρ _ => Cert.GmlpKIdeal.Gen.frame m ρ,
   fun m ρ _ => Cert.GmlpKIdeal.Gen.frame m ρ,
   fun m ρ _ => (θ_run _ _ _).mono (fun _ h => ⟨fun c => (h c).2.2.2.2.2, sem_eq_zero_of_no_sems rfl _⟩) (Cert.GmlpRIdeal.Value.run m ρ),
   fun m ρ _ => (θ_run _ _ _).mono (fun _ h => ⟨fun c => (h c).2.2.2.2.2, sem_eq_zero_of_no_sems rfl _⟩) (Cert.GmlpRIdeal.Value.run m ρ),
   fun m ρ _ => Cert.MergeK.Gen.frame m ρ,
   fun m ρ _ => Cert.MergeKIdeal.Gen.frame m ρ,
   fun m ρ _ => Cert.MergeKIdeal.Gen.frame m ρ,
   fun m ρ _ => (θ_run _ _ _).mono (fun _ h => ⟨fun c => (h c).2.2.2.2.2.2, sem_eq_zero_of_no_sems rfl _⟩) (Cert.MergeRIdeal.Value.run m ρ),
   fun m ρ _ => (θ_run _ _ _).mono (fun _ h => ⟨fun c => (h c).2.2.2.2.2.2, sem_eq_zero_of_no_sems rfl _⟩) (Cert.MergeRIdeal.Value.run m ρ),
   fun m ρ _ => Cert.LossK.Gen.frame m ρ,
   fun m ρ _ => Cert.LossKIdeal.Gen.frame m ρ,
   fun m ρ _ => Cert.LossKIdeal.Gen.frame m ρ,
   fun m ρ _ => (θ_run _ _ _).mono (fun _ h => ⟨fun c => (h c).2.2.2.2, sem_eq_zero_of_no_sems rfl _⟩) (Cert.LossRIdeal.Value.run m ρ),
   fun m ρ _ => (θ_run _ _ _).mono (fun _ h => ⟨fun c => (h c).2.2.2.2, sem_eq_zero_of_no_sems rfl _⟩) (Cert.LossRIdeal.Value.run m ρ),
   fun m ρ _ => Cert.UpK.Gen.frame m ρ,
   fun m ρ _ => Cert.UpKIdeal.Gen.frame m ρ,
   fun m ρ _ => Cert.UpKIdeal.Gen.frame m ρ,
   fun m ρ _ => (θ_run _ _ _).mono (fun _ h => ⟨fun c => (h c).2.2, sem_eq_zero_of_no_sems rfl _⟩) (Cert.UpRIdeal.Value.run m ρ),
   fun m ρ _ => (θ_run _ _ _).mono (fun _ h => ⟨fun c => (h c).2.2, sem_eq_zero_of_no_sems rfl _⟩) (Cert.UpRIdeal.Value.run m ρ),
   fun m ρ _ => Cert.PrK.Gen.frame m ρ,
   fun m ρ _ => Cert.PrKIdeal.Gen.frame m ρ,
   fun m ρ _ => Cert.PrKIdeal.Gen.frame m ρ,
   fun m ρ _ => (θ_run _ _ _).mono (fun _ h => ⟨fun c => (h c).2.2, sem_eq_zero_of_no_sems rfl _⟩) (Cert.PrRIdeal.Value.run m ρ),
   fun m ρ _ => (θ_run _ _ _).mono (fun _ h => ⟨fun c => (h c).2.2, sem_eq_zero_of_no_sems rfl _⟩) (Cert.PrRIdeal.Value.run m ρ),
   fun m ρ _ => Cert.HgrnK.Gen.frame m ρ,
   fun m ρ _ => Cert.HgrnKIdeal.Gen.frame m ρ,
   fun m ρ _ => Cert.AttnFK.Gen.frame m ρ,
   fun m ρ _ => Cert.AttnFKIdeal.Gen.frame m ρ,
   fun m ρ _ => (θ_run _ _ _).mono (fun _ h => ⟨fun c => (h c).2, sem_eq_zero_of_no_sems rfl _⟩) (Cert.AttnFRIdeal.Value.run m ρ),
   fun m ρ _ => Cert.NormFK.Gen.frame m ρ,
   fun m ρ _ => Cert.NormFKIdeal.Gen.frame m ρ,
   fun m ρ _ => (θ_run _ _ _).mono (fun _ h => ⟨fun c => (h c).2, sem_eq_zero_of_no_sems rfl _⟩) (Cert.NormFRIdeal.Value.run m ρ),
   fun m ρ _ => Cert.GmlpFK.Gen.frame m ρ,
   fun m ρ _ => Cert.GmlpFKIdeal.Gen.frame m ρ,
   fun m ρ _ => (θ_run _ _ _).mono (fun _ h => ⟨fun c => (h c).2, sem_eq_zero_of_no_sems rfl _⟩) (Cert.GmlpFRIdeal.Value.run m ρ),
   fun m ρ _ => Cert.MergeFK.Gen.frame m ρ,
   fun m ρ _ => Cert.MergeFKIdeal.Gen.frame m ρ,
   fun m ρ _ => (θ_run _ _ _).mono (fun _ h => ⟨fun c => (h c).2.2.2, sem_eq_zero_of_no_sems rfl _⟩) (Cert.MergeFRIdeal.Value.run m ρ),
   fun m ρ _ => Cert.ConvFK.Gen.frame m ρ,
   fun m ρ _ => Cert.ConvFKIdeal.Gen.frame m ρ,
   fun m ρ _ => (θ_run _ _ _).mono (fun _ h => ⟨fun c => (h c).2.2.2, sem_eq_zero_of_no_sems rfl _⟩) (Cert.ConvFRIdeal.Value.run m ρ),
   Cert.ProjFK.Hand.frame,
   fun m ρ _ => Cert.ProjFKIdeal.Hand.frame m ρ,
   fun m ρ _ => (θ_run _ _ _).mono (fun _ h => ⟨fun c => (h c).2.2, sem_eq_zero_of_no_sems rfl _⟩) (Cert.ProjFRIdeal.Value.run m ρ),
   fun m ρ _ => Cert.HgrnFK.Gen.frame m ρ,
   fun m ρ _ => Cert.HgrnFKIdeal.Gen.frame m ρ,
   fun m ρ _ => Cert.DwK.Gen.frame m ρ,
   fun m ρ _ => Cert.DwKIdeal.Gen.frame m ρ,
   fun m ρ _ => (θ_run _ _ _).mono (fun _ h => ⟨fun c => (h c).2, sem_eq_zero_of_no_sems rfl _⟩) (Cert.DwRIdeal.Value.run m ρ),
   fun m ρ _ => Cert.AdamK.Gen.frame m ρ,
   fun m ρ _ => Cert.AdamKIdeal.Gen.frame m ρ,
   fun m ρ _ => (θ_run _ _ _).mono (fun _ h => ⟨fun c => (h c).2.2.2.2, sem_eq_zero_of_no_sems rfl _⟩) (Cert.AdamRIdeal.Value.run m ρ),
   trivial,
   Cert.NormKIdeal.Hand.value,
   trivial,
   Cert.AttnKIdeal.Hand.value,
   trivial,
   Cert.ConvKIdeal.Hand.value,
   trivial,
   Cert.GmlpKIdeal.Hand.value,
   trivial,
   Cert.MergeKIdeal.Hand.value,
   trivial,
   Cert.LossKIdeal.Hand.value,
   trivial,
   Cert.UpKIdeal.Hand.value,
   trivial,
   Cert.PrKIdeal.Hand.value,
   trivial,
   trivial,
   Cert.AttnFKIdeal.Hand.value,
   trivial,
   Cert.NormFKIdeal.Hand.value,
   trivial,
   Cert.GmlpFKIdeal.Hand.value,
   trivial,
   Cert.MergeFKIdeal.Hand.value,
   trivial,
   Cert.ConvFKIdeal.Hand.value,
   trivial,
   Cert.ProjFKIdeal.Hand.value,
   trivial,
   trivial,
   Cert.DwKIdeal.Hand.value,
   trivial,
   Cert.AdamKIdeal.Hand.value⟩

end Cert.Proof

end
